-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v100_15) = v1 c
          ∧ r.2.mem ((c.tc : Thread Cert.ReferenceIdeal.nD Cert.ReferenceIdeal.τ).loc Cert.ReferenceIdeal.main_v100_16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v42_0)) (v1 : (c : Dev Cert.Kernel2Ideal.nD) → Buf (Elt Ideal) ((c.tc : Thread Cert.Kernel2Ideal.nD Cert.Kernel2Ideal.τ).loc Cert.Kernel2Ideal.main_v42_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42_0) = v0 c
          ∧ r.2.mem ((c.tc : Thread Cert.Kernel2Ideal.nD Cert.Kernel2Ideal.τ).loc Cert.Kernel2Ideal.main_v42_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v124) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_real_inputs (hKernelIdeal := hKernelIdeal) (hReferenceIdeal := hReferenceIdeal) (hPre_real_inputs := hPre_real_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_real_inputs.lean ====
abbrev S2x16384x6144 : Shape := ⟨3, ![2, 16384, 6144]⟩
abbrev S2x4 : Shape := ⟨2, ![2, 4]⟩
abbrev S2x4x256x512 : Shape := ⟨4, ![2, 4, 256, 512]⟩
abbrev S_ : Shape := ⟨0, ![]⟩

class Facts : Prop where
  bitsLt_bf16_f32 : FTy.bits .bf16 < FTy.bits .f32
  bcast_S_S2x16384x6144 : S_.BroadcastsInDim S2x16384x6144 (![] : Fin 0 → Fin S2x16384x6144.rank)
  reducesTo_S2x16384x6144_S_d0_1_2 : S2x16384x6144.ReducesTo [0, 1, 2] S_
  h_S_ : 0 < S_.numel
  bcast_S_S2x4 : S_.BroadcastsInDim S2x4 (![] : Fin 0 → Fin S2x4.rank)
  reducesTo_S2x4_S_d0_1 : S2x4.ReducesTo [0, 1] S_

variable [Facts]

def fn {F : FTy → Type} [FloatOps F] (main_arg0 : FVec F S2x16384x6144 .bf16) (main_arg1 : FVec F S2x4 .f32) (main_arg2 : FVec F S2x4x256x512 .f32) (main_arg3 : FVec F S2x4x256x512 .f32) : IVec S_ 1 :=
  let main_v0 : FVec F S2x16384x6144 .f32 := (extf .f32 · bitsLt_bf16_f32) main_arg0
  let main_v1 : FVec F S2x16384x6144 .f32 := Host.absf main_v0
  let main_cst : FVec F S_ .f32 := constant S_ .f32 0x7F800000#32
  let main_v2 : FVec F S2x16384x6144 .f32 := broadcastInDim S2x16384x6144 ![] bcast_S_S2x16384x6144 main_cst
  let main_v3 : IVec S2x16384x6144 1 := cmpf .olt main_v1 main_v2
  let main_c : IVec S_ 1 := constantI S_ 1 1#1
  let main_v4 : IVec S_ 1 := (fun x v => Host.reduce IntOp.andi x v reducesTo_S2x16384x6144_S_d0_1_2 h_S_) main_v3 main_c
  let main_v5 : FVec F S2x4 .f32 := Host.absf main_arg1
  let main_cst_0 : FVec F S_ .f32 := constant S_ .f32 0x7F800000#32
  let main_v6 : FVec F S2x4 .f32 := broadcastInDim S2x4 ![] bcast_S_S2x4 main_cst_0
  let main_v7 : IVec S2x4 1 := cmpf .olt main_v5 main_v6
  let main_c_1 : IVec S_ 1 := constantI S_ 1 1#1
  let main_v8 : IVec S_ 1 := (fun x v => Host.reduce IntOp.andi x v reducesTo_S2x4_S_d0_1 h_S_) main_v7 main_c_1
  let main_v9 : IVec S_ 1 := andi main_v4 main_v8
  main_v9
-- ==== Kernel.lean ====
abbrev S2x16384x6144 : Shape := ⟨3, ![2, 16384, 6144]⟩
abbrev S2x4 : Shape := ⟨2, ![2, 4]⟩
abbrev S2x4x256x512 : Shape := ⟨4, ![2, 4, 256, 512]⟩
abbrev S2x64x4x256x512 : Shape := ⟨5, ![2, 64, 4, 256, 512]⟩
abbrev S1x2048x1024 : Shape := ⟨3, ![1, 2048, 1024]⟩
abbrev S1x2048x2048 : Shape := ⟨3, ![1, 2048, 2048]⟩
abbrev S1x4x256x512 : Shape := ⟨4, ![1, 4, 256, 512]⟩
abbrev S1x8x4x256x512 : Shape := ⟨5, ![1, 8, 4, 256, 512]⟩
abbrev S4x256x512 : Shape := ⟨3, ![4, 256, 512]⟩
abbrev S4x256x256 : Shape := ⟨3, ![4, 256, 256]⟩
abbrev S256x256 : Shape := ⟨2, ![256, 256]⟩
abbrev S1x1 : Shape := ⟨2, ![1, 1]⟩
abbrev S1x256x256 : Shape := ⟨3, ![1, 256, 256]⟩
abbrev S1x512 : Shape := ⟨2, ![1, 512]⟩
abbrev S1x256x512 : Shape := ⟨3, ![1, 256, 512]⟩
abbrev S256x512 : Shape := ⟨2, ![256, 512]⟩
abbrev S1x1x1x256x512 : Shape := ⟨5, ![1, 1, 1, 256, 512]⟩
abbrev S2x16384x2048 : Shape := ⟨3, ![2, 16384, 2048]⟩
abbrev S1x1024x1024 : Shape := ⟨3, ![1, 1024, 1024]⟩
abbrev S1x1024x2048 : Shape := ⟨3, ![1, 1024, 2048]⟩
abbrev S1x4x4x256x512 : Shape := ⟨5, ![1, 4, 4, 256, 512]⟩
abbrev S256x768 : Shape := ⟨2, ![256, 768]⟩
abbrev S768x512 : Shape := ⟨2, ![768, 512]⟩
abbrev S256 : Shape := ⟨1, ![256]⟩
abbrev S256x1 : Shape := ⟨2, ![256, 1]⟩

abbrev nBuf : Space → Nat
  | .hbm => 8
  | .vmem => 31
  | .smem => 2
  | _ => 0

abbrev bufTy : (tb : Table) → Fin (tcTables nBuf tb) → BufTy
  | .hbm, ⟨0, _⟩ => ⟨S2x16384x6144, .bf16⟩
  | .hbm, ⟨1, _⟩ => ⟨S2x4, .f32⟩
  | .hbm, ⟨2, _⟩ => ⟨S2x4x256x512, .f32⟩
  | .hbm, ⟨3, _⟩ => ⟨S2x4x256x512, .f32⟩
  | .hbm, ⟨4, _⟩ => ⟨S2x64x4x256x512, .bf16⟩
  | .hbm, ⟨5, _⟩ => ⟨S2x4x256x512, .f32⟩
  | .hbm, ⟨6, _⟩ => ⟨S2x16384x2048, .bf16⟩
  | .hbm, ⟨7, _⟩ => ⟨S2x4x256x512, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x4x256x512, .f32⟩
  | .local _ .vmem, ⟨5, _⟩ => ⟨S1x4x256x512, .f32⟩
  | .local _ .vmem, ⟨6, _⟩ => ⟨S1x8x4x256x512, .bf16⟩
  | .local _ .vmem, ⟨7, _⟩ => ⟨S1x8x4x256x512, .bf16⟩
  | .local _ .vmem, ⟨8, _⟩ => ⟨S1x4x256x512, .f32⟩
  | .local _ .vmem, ⟨9, _⟩ => ⟨S1x4x256x512, .f32⟩
  | .local _ .vmem, ⟨10, _⟩ => ⟨S4x256x512, .f32⟩
  | .local _ .vmem, ⟨11, _⟩ => ⟨S4x256x256, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1x4x4x256x512, .bf16⟩
  | .local _ .vmem, ⟨19, _⟩ => ⟨S1x4x4x256x512, .bf16⟩
  | .local _ .vmem, ⟨20, _⟩ => ⟨S1x4x256x512, .f32⟩
  | .local _ .vmem, ⟨21, _⟩ => ⟨S1x4x256x512, .f32⟩
  | .local _ .vmem, ⟨22, _⟩ => ⟨S1x1024x2048, .bf16⟩
  | .local _ .vmem, ⟨23, _⟩ => ⟨S1x1024x2048, .bf16⟩
  | .local _ .vmem, ⟨24, _⟩ => ⟨S1x4x256x512, .f32⟩
  | .local _ .vmem, ⟨25, _⟩ => ⟨S1x4x256x512, .f32⟩
  | .local _ .vmem, ⟨26, _⟩ => ⟨S4x256x512, .f32⟩
  | .local _ .vmem, ⟨27, _⟩ => ⟨S4x256x256, .f32⟩
  | .local _ .vmem, ⟨28, _⟩ => ⟨S4x256x256, .f32⟩
  | .local _ .vmem, ⟨29, _⟩ => ⟨S4x256x256, .f32⟩
  | .local _ .vmem, ⟨30, _⟩ => ⟨S4x256x256, .f32⟩
  | .local _ .smem, ⟨0, _⟩ => ⟨S2x4, .f32⟩
  | .local _ .smem, ⟨1, _⟩ => ⟨S2x4, .f32⟩
  | _, _ => ⟨S2x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc1_scratch4 : Ref sig .tc := ⟨.vmem, 30, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v835 : BitVec 1 := Scalar.cmpi .eq arg1 c7_i32
  let v836 : BitVec 32 := Scalar.extui v835
  let c0_i32_753 : BitVec 32 := 0#32
  let v837 : BitVec 1 := Scalar.cmpi .ne v836 c0_i32_753
  v837

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![arg0.toNat, v0.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v1027 : BitVec 1 := Scalar.cmpi .eq arg1 c15_i32
  let v1028 : BitVec 32 := Scalar.extui v1027
  let c0_i32_727 : BitVec 32 := 0#32
  let v1029 : BitVec 1 := Scalar.cmpi .ne v1028 c0_i32_727
  v1029

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_4 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S2x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x4x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x4x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2x16384x6144 : Shape := ⟨3, ![2, 16384, 6144]⟩
abbrev S2x4 : Shape := ⟨2, ![2, 4]⟩
abbrev S2x4x256x512 : Shape := ⟨4, ![2, 4, 256, 512]⟩
abbrev S2x16384x1024 : Shape := ⟨3, ![2, 16384, 1024]⟩
abbrev S2x16384x2048 : Shape := ⟨3, ![2, 16384, 2048]⟩
abbrev S2x16384x4x256 : Shape := ⟨4, ![2, 16384, 4, 256]⟩
abbrev S2x16384x4x512 : Shape := ⟨4, ![2, 16384, 4, 512]⟩
abbrev S1x4 : Shape := ⟨2, ![1, 4]⟩
abbrev S4 : Shape := ⟨1, ![4]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S_ : Shape := ⟨0, ![]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S2x128x128x4x256 : Shape := ⟨5, ![2, 128, 128, 4, 256]⟩
abbrev S128x2x4x128x256 : Shape := ⟨5, ![128, 2, 4, 128, 256]⟩
abbrev S2x128x128x4x512 : Shape := ⟨5, ![2, 128, 128, 4, 512]⟩
abbrev S128x2x4x128x512 : Shape := ⟨5, ![128, 2, 4, 128, 512]⟩
abbrev S1x2x4x128x256 : Shape := ⟨5, ![1, 2, 4, 128, 256]⟩
abbrev S2x4x128x256 : Shape := ⟨4, ![2, 4, 128, 256]⟩
abbrev S1x2x4x128x512 : Shape := ⟨5, ![1, 2, 4, 128, 512]⟩
abbrev S2x4x128x512 : Shape := ⟨4, ![2, 4, 128, 512]⟩
abbrev S2x4x128x128 : Shape := ⟨4, ![2, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S2x16384x4 : Shape := ⟨3, ![2, 16384, 4]⟩
abbrev S2x16384x4x1 : Shape := ⟨4, ![2, 16384, 4, 1]⟩

abbrev nBuf : Space → Nat
  | .hbm => 266
  | .vmem => 0
  | .smem => 0
  | _ => 0

abbrev hbmTy0_0 (i : Nat) : BufTy := match i % 128 with
  | 0 => ⟨S2x16384x6144, .bf16⟩
  | 1 => ⟨S2x4, .f32⟩
  | 2 => ⟨S2x4x256x512, .f32⟩
  | 3 => ⟨S2x4x256x512, .f32⟩
  | 4 => ⟨S2x16384x6144, .f32⟩
  | 5 => ⟨S2x16384x1024, .f32⟩
  | 6 => ⟨S2x16384x1024, .f32⟩
  | 7 => ⟨S2x16384x2048, .f32⟩
  | 8 => ⟨S2x16384x2048, .f32⟩
  | 9 => ⟨S2x16384x4x256, .f32⟩
  | 10 => ⟨S2x16384x4x256, .f32⟩
  | 11 => ⟨S2x16384x4x512, .f32⟩
  | 12 => ⟨S1x4, .f32⟩
  | 13 => ⟨S4, .f32⟩
  | 14 => ⟨S128, .i32⟩
  | 15 => ⟨S128, .f32⟩
  | 16 => ⟨S1x128, .f32⟩
  | 17 => ⟨S128x1, .f32⟩
  | 18 => ⟨S128x128, .f32⟩
  | 19 => ⟨S128x128, .f32⟩
  | 20 => ⟨S128x128, .f32⟩
  | 21 => ⟨S_, .f32⟩
  | 22 => ⟨S128x128, .f32⟩
  | 23 => ⟨S128x128, .i1⟩
  | 24 => ⟨S128x128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S4x1x1, .f32⟩
  | 32 => ⟨S_, .f32⟩
  | 33 => ⟨S_, .f32⟩
  | 34 => ⟨S128x128, .f32⟩
  | 35 => ⟨S128x128, .f32⟩
  | 36 => ⟨S1x128x128, .f32⟩
  | 37 => ⟨S4x128x128, .f32⟩
  | 38 => ⟨S4x128x128, .f32⟩
  | 39 => ⟨S4x128x128, .f32⟩
  | 40 => ⟨S4x128x128, .f32⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S4x1, .f32⟩
  | 47 => ⟨S1x128, .f32⟩
  | 48 => ⟨S4x128, .f32⟩
  | 49 => ⟨S4x128, .f32⟩
  | 50 => ⟨S4x128, .f32⟩
  | 51 => ⟨S4x128, .f32⟩
  | 52 => ⟨S4x128x1, .f32⟩
  | 53 => ⟨S4x1, .f32⟩
  | 54 => ⟨S1x128, .f32⟩
  | 55 => ⟨S4x128, .f32⟩
  | 56 => ⟨S4x128, .f32⟩
  | 57 => ⟨S4x128, .f32⟩
  | 58 => ⟨S4x128, .f32⟩
  | 59 => ⟨S4x128x1, .f32⟩
  | 60 => ⟨S_, .f32⟩
  | 61 => ⟨S4, .f32⟩
  | 62 => ⟨S4, .f32⟩
  | 63 => ⟨S4, .f32⟩
  | 64 => ⟨S4x1x1, .f32⟩
  | 65 => ⟨S1x4, .f32⟩
  | 66 => ⟨S4, .f32⟩
  | 67 => ⟨S128, .i32⟩
  | 68 => ⟨S128, .f32⟩
  | 69 => ⟨S1x128, .f32⟩
  | 70 => ⟨S128x1, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .i1⟩
  | 77 => ⟨S_, .f32⟩
  | 78 => ⟨S128, .f32⟩
  | 79 => ⟨S128, .f32⟩
  | 80 => ⟨S4x1x1, .f32⟩
  | 81 => ⟨S_, .f32⟩
  | 82 => ⟨S_, .f32⟩
  | 83 => ⟨S128x128, .f32⟩
  | 84 => ⟨S128x128, .f32⟩
  | 85 => ⟨S1x128x128, .f32⟩
  | 86 => ⟨S4x128x128, .f32⟩
  | 87 => ⟨S4x128x128, .f32⟩
  | 88 => ⟨S4x128x128, .f32⟩
  | 89 => ⟨S4x128x128, .f32⟩
  | 90 => ⟨S_, .f32⟩
  | 91 => ⟨S_, .f32⟩
  | 92 => ⟨S4x128x128, .i1⟩
  | 93 => ⟨S4x128x128, .f32⟩
  | 94 => ⟨S4x128x128, .f32⟩
  | 95 => ⟨S4x1, .f32⟩
  | 96 => ⟨S1x128, .f32⟩
  | 97 => ⟨S4x128, .f32⟩
  | 98 => ⟨S4x128, .f32⟩
  | 99 => ⟨S4x128, .f32⟩
  | 100 => ⟨S4x128, .f32⟩
  | 101 => ⟨S4x128x1, .f32⟩
  | 102 => ⟨S4x1, .f32⟩
  | 103 => ⟨S1x128, .f32⟩
  | 104 => ⟨S4x128, .f32⟩
  | 105 => ⟨S4x128, .f32⟩
  | 106 => ⟨S4x128, .f32⟩
  | 107 => ⟨S4x128, .f32⟩
  | 108 => ⟨S4x128x1, .f32⟩
  | 109 => ⟨S_, .f32⟩
  | 110 => ⟨S4, .f32⟩
  | 111 => ⟨S4, .f32⟩
  | 112 => ⟨S4, .f32⟩
  | 113 => ⟨S4x1x1, .f32⟩
  | 114 => ⟨S2x128x128x4x256, .f32⟩
  | 115 => ⟨S128x2x4x128x256, .f32⟩
  | 116 => ⟨S2x128x128x4x256, .f32⟩
  | 117 => ⟨S128x2x4x128x256, .f32⟩
  | 118 => ⟨S2x128x128x4x512, .f32⟩
  | 119 => ⟨S128x2x4x128x512, .f32⟩
  | 120 => ⟨S128x2x4x128x256, .f32⟩
  | 121 => ⟨S128x2x4x128x256, .f32⟩
  | 122 => ⟨S128x2x4x128x512, .f32⟩
  | 123 => ⟨S_, .f32⟩
  | 124 => ⟨S128x2x4x128x512, .f32⟩
  | 125 => ⟨S_, .f32⟩
  | 126 => ⟨S128x2x4x128x512, .f32⟩
  | 127 => ⟨S_, .i32⟩
  | _ => ⟨S2x16384x6144, .bf16⟩

abbrev hbmTy0_1 (i : Nat) : BufTy := match i % 128 with
  | 0 => ⟨S128x2x4x128x256, .f32⟩
  | 1 => ⟨S128x2x4x128x256, .f32⟩
  | 2 => ⟨S128x2x4x128x512, .f32⟩
  | 3 => ⟨S128x2x4x128x256, .f32⟩
  | 4 => ⟨S128x2x4x128x256, .f32⟩
  | 5 => ⟨S128x2x4x128x512, .f32⟩
  | 6 => ⟨S4x128x128, .f32⟩
  | 7 => ⟨S4x128x1, .f32⟩
  | 8 => ⟨S4x1x1, .f32⟩
  | 9 => ⟨S4x128x1, .f32⟩
  | 10 => ⟨S4x128x128, .f32⟩
  | 11 => ⟨S4x128x1, .f32⟩
  | 12 => ⟨S4x1x1, .f32⟩
  | 13 => ⟨S4x128x1, .f32⟩
  | 14 => ⟨S_, .i32⟩
  | 15 => ⟨S2x4x256x512, .f32⟩
  | 16 => ⟨S2x4x256x512, .f32⟩
  | 17 => ⟨S128x2x4x128x512, .f32⟩
  | 18 => ⟨S128x2x4x128x512, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S1x2x4x128x256, .f32⟩
  | 26 => ⟨S2x4x128x256, .f32⟩
  | 27 => ⟨S_, .i32⟩
  | 28 => ⟨S_, .i32⟩
  | 29 => ⟨S_, .i32⟩
  | 30 => ⟨S_, .i32⟩
  | 31 => ⟨S1x2x4x128x256, .f32⟩
  | 32 => ⟨S2x4x128x256, .f32⟩
  | 33 => ⟨S_, .i32⟩
  | 34 => ⟨S_, .i32⟩
  | 35 => ⟨S_, .i32⟩
  | 36 => ⟨S_, .i32⟩
  | 37 => ⟨S1x2x4x128x512, .f32⟩
  | 38 => ⟨S2x4x128x512, .f32⟩
  | 39 => ⟨S_, .i32⟩
  | 40 => ⟨S_, .i32⟩
  | 41 => ⟨S_, .i32⟩
  | 42 => ⟨S_, .i32⟩
  | 43 => ⟨S1x2x4x128x256, .f32⟩
  | 44 => ⟨S2x4x128x256, .f32⟩
  | 45 => ⟨S_, .i32⟩
  | 46 => ⟨S_, .i32⟩
  | 47 => ⟨S_, .i32⟩
  | 48 => ⟨S_, .i32⟩
  | 49 => ⟨S1x2x4x128x256, .f32⟩
  | 50 => ⟨S2x4x128x256, .f32⟩
  | 51 => ⟨S_, .i32⟩
  | 52 => ⟨S_, .i32⟩
  | 53 => ⟨S_, .i32⟩
  | 54 => ⟨S_, .i32⟩
  | 55 => ⟨S1x2x4x128x512, .f32⟩
  | 56 => ⟨S2x4x128x512, .f32⟩
  | 57 => ⟨S2x4x128x128, .f32⟩
  | 58 => ⟨S1x4x128x128, .f32⟩
  | 59 => ⟨S2x4x128x128, .f32⟩
  | 60 => ⟨S2x4x128x128, .f32⟩
  | 61 => ⟨S2x4x128x512, .f32⟩
  | 62 => ⟨S1x4x128x1, .f32⟩
  | 63 => ⟨S2x4x128x256, .f32⟩
  | 64 => ⟨S2x4x128x256, .f32⟩
  | 65 => ⟨S2x4x128x512, .f32⟩
  | 66 => ⟨S2x4x128x512, .f32⟩
  | 67 => ⟨S1x4x1x1, .f32⟩
  | 68 => ⟨S2x4x256x512, .f32⟩
  | 69 => ⟨S2x4x256x512, .f32⟩
  | 70 => ⟨S1x4x128x1, .f32⟩
  | 71 => ⟨S2x4x128x256, .f32⟩
  | 72 => ⟨S2x4x128x256, .f32⟩
  | 73 => ⟨S2x4x256x512, .f32⟩
  | 74 => ⟨S2x4x256x512, .f32⟩
  | 75 => ⟨S2x4x128x128, .f32⟩
  | 76 => ⟨S1x4x128x128, .f32⟩
  | 77 => ⟨S2x4x128x128, .f32⟩
  | 78 => ⟨S2x4x128x128, .f32⟩
  | 79 => ⟨S2x4x128x512, .f32⟩
  | 80 => ⟨S1x4x128x1, .f32⟩
  | 81 => ⟨S2x4x128x256, .f32⟩
  | 82 => ⟨S2x4x128x256, .f32⟩
  | 83 => ⟨S2x4x128x512, .f32⟩
  | 84 => ⟨S2x4x128x512, .f32⟩
  | 85 => ⟨S1x4x1x1, .f32⟩
  | 86 => ⟨S2x4x256x512, .f32⟩
  | 87 => ⟨S2x4x256x512, .f32⟩
  | 88 => ⟨S1x4x128x1, .f32⟩
  | 89 => ⟨S2x4x128x256, .f32⟩
  | 90 => ⟨S2x4x128x256, .f32⟩
  | 91 => ⟨S2x4x256x512, .f32⟩
  | 92 => ⟨S2x4x256x512, .f32⟩
  | 93 => ⟨S1x2x4x128x512, .f32⟩
  | 94 => ⟨S_, .i32⟩
  | 95 => ⟨S_, .i32⟩
  | 96 => ⟨S_, .i32⟩
  | 97 => ⟨S_, .i32⟩
  | 98 => ⟨S128x2x4x128x512, .f32⟩
  | 99 => ⟨S1x2x4x128x512, .f32⟩
  | 100 => ⟨S_, .i32⟩
  | 101 => ⟨S_, .i32⟩
  | 102 => ⟨S_, .i32⟩
  | 103 => ⟨S_, .i32⟩
  | 104 => ⟨S128x2x4x128x512, .f32⟩
  | 105 => ⟨S_, .i32⟩
  | 106 => ⟨S_, .i32⟩
  | 107 => ⟨S2x128x128x4x512, .f32⟩
  | 108 => ⟨S2x16384x4x512, .f32⟩
  | 109 => ⟨S128x2x4x128x512, .f32⟩
  | 110 => ⟨S2x128x128x4x512, .f32⟩
  | 111 => ⟨S2x16384x4x512, .f32⟩
  | 112 => ⟨S2x16384x4x512, .f32⟩
  | 113 => ⟨S_, .f32⟩
  | 114 => ⟨S2x16384x4, .f32⟩
  | 115 => ⟨S2x16384x4x1, .f32⟩
  | 116 => ⟨S_, .f32⟩
  | 117 => ⟨S2x16384x4x1, .f32⟩
  | 118 => ⟨S2x16384x4x1, .f32⟩
  | 119 => ⟨S2x16384x4x512, .f32⟩
  | 120 => ⟨S2x16384x4x512, .f32⟩
  | 121 => ⟨S2x16384x4x512, .f32⟩
  | 122 => ⟨S_, .f32⟩
  | 123 => ⟨S2x16384x4, .f32⟩
  | 124 => ⟨S2x16384x4x1, .f32⟩
  | 125 => ⟨S_, .f32⟩
  | 126 => ⟨S2x16384x4x1, .f32⟩
  | 127 => ⟨S2x16384x4x1, .f32⟩
  | _ => ⟨S2x16384x6144, .bf16⟩

abbrev hbmTy0_2 (i : Nat) : BufTy := match i % 128 with
  | 0 => ⟨S2x16384x4x512, .f32⟩
  | 1 => ⟨S2x16384x4x512, .f32⟩
  | 2 => ⟨S_, .f32⟩
  | 3 => ⟨S2x16384x4x1, .f32⟩
  | 4 => ⟨S2x16384x4x1, .f32⟩
  | 5 => ⟨S2x16384x4x1, .f32⟩
  | 6 => ⟨S2x16384x4x512, .f32⟩
  | 7 => ⟨S2x16384x4x512, .f32⟩
  | 8 => ⟨S2x16384x2048, .f32⟩
  | 9 => ⟨S2x16384x2048, .bf16⟩
  | _ => ⟨S2x16384x6144, .bf16⟩

abbrev hbmTy (i : Nat) : BufTy := match i / 128 with
  | 0 => hbmTy0_0 i
  | 1 => hbmTy0_1 i
  | 2 => hbmTy0_2 i
  | _ => ⟨S2x16384x6144, .bf16⟩

abbrev bufTy : (tb : Table) → Fin (tcTables nBuf tb) → BufTy
  | .hbm, ⟨i, _⟩ => hbmTy i
  | _, _ => ⟨S2x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_call2_v0 : Ref sig .tc := ⟨.hbm, 82, rfl⟩
abbrev main_call2_v1 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_10 : Ref sig .tc := ⟨.hbm, 123, rfl⟩
abbrev main_v98 : Ref sig .tc := ⟨.hbm, 124, rfl⟩
abbrev main_cst_11 : Ref sig .tc := ⟨.hbm, 125, rfl⟩
abbrev main_v99 : Ref sig .tc := ⟨.hbm, 126, rfl⟩
abbrev main_c : Ref sig .tc := ⟨.hbm, 127, rfl⟩
abbrev main_v100_0 : Ref sig .tc := ⟨.hbm, 128, rfl⟩
abbrev main_v100_1 : Ref sig .tc := ⟨.hbm, 129, rfl⟩
abbrev main_v100_2 : Ref sig .tc := ⟨.hbm, 130, rfl⟩
abbrev main_v100_3 : Ref sig .tc := ⟨.hbm, 131, rfl⟩
abbrev main_v100_4 : Ref sig .tc := ⟨.hbm, 132, rfl⟩
abbrev main_v100_5 : Ref sig .tc := ⟨.hbm, 133, rfl⟩
abbrev main_v100_6 : Ref sig .tc := ⟨.hbm, 134, rfl⟩
abbrev main_v100_7 : Ref sig .tc := ⟨.hbm, 135, rfl⟩
abbrev main_v100_8 : Ref sig .tc := ⟨.hbm, 136, rfl⟩
abbrev main_v100_9 : Ref sig .tc := ⟨.hbm, 137, rfl⟩
abbrev main_v100_10 : Ref sig .tc := ⟨.hbm, 138, rfl⟩
abbrev main_v100_11 : Ref sig .tc := ⟨.hbm, 139, rfl⟩
abbrev main_v100_12 : Ref sig .tc := ⟨.hbm, 140, rfl⟩
abbrev main_v100_13 : Ref sig .tc := ⟨.hbm, 141, rfl⟩
abbrev main_v100_14 : Ref sig .tc := ⟨.hbm, 142, rfl⟩
abbrev main_v100_15 : Ref sig .tc := ⟨.hbm, 143, rfl⟩
abbrev main_v100_16 : Ref sig .tc := ⟨.hbm, 144, rfl⟩
abbrev main_v100_17 : Ref sig .tc := ⟨.hbm, 145, rfl⟩
abbrev main_v100_18 : Ref sig .tc := ⟨.hbm, 146, rfl⟩
abbrev main_while0c_c_35 : Ref sig .tc := ⟨.hbm, 147, rfl⟩
abbrev main_while0c_v127 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_c_2 : Ref sig .tc := ⟨.hbm, 152, rfl⟩
abbrev main_while0b_call7_v0 : Ref sig .tc := ⟨.hbm, 153, rfl⟩
abbrev main_while0b_v127 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_c_2 : Ref sig .tc := ⟨.hbm, 158, rfl⟩
abbrev main_while0b_call8_v0 : Ref sig .tc := ⟨.hbm, 159, rfl⟩
abbrev main_while0b_v128 : Ref sig .tc := ⟨.hbm, 160, rfl⟩
abbrev main_while0b_call9_c : Ref sig .tc := ⟨.hbm, 161, rfl⟩
abbrev main_while0b_call9_c_0 : Ref sig .tc := ⟨.hbm, 162, rfl⟩
abbrev main_while0b_call9_c_1 : Ref sig .tc := ⟨.hbm, 163, rfl⟩
abbrev main_while0b_call9_c_2 : Ref sig .tc := ⟨.hbm, 164, rfl⟩
abbrev main_while0b_call9_v0 : Ref sig .tc := ⟨.hbm, 165, rfl⟩
abbrev main_while0b_v129 : Ref sig .tc := ⟨.hbm, 166, rfl⟩
abbrev main_while0b_call10_c : Ref sig .tc := ⟨.hbm, 167, rfl⟩
abbrev main_while0b_call10_c_0 : Ref sig .tc := ⟨.hbm, 168, rfl⟩
abbrev main_while0b_call10_c_1 : Ref sig .tc := ⟨.hbm, 169, rfl⟩
abbrev main_while0b_call10_c_2 : Ref sig .tc := ⟨.hbm, 170, rfl⟩
abbrev main_while0b_call10_v0 : Ref sig .tc := ⟨.hbm, 171, rfl⟩
abbrev main_while0b_v130 : Ref sig .tc := ⟨.hbm, 172, rfl⟩
abbrev main_while0b_call11_c : Ref sig .tc := ⟨.hbm, 173, rfl⟩
abbrev main_while0b_call11_c_0 : Ref sig .tc := ⟨.hbm, 174, rfl⟩
abbrev main_while0b_call11_c_1 : Ref sig .tc := ⟨.hbm, 175, rfl⟩
abbrev main_while0b_call11_c_2 : Ref sig .tc := ⟨.hbm, 176, rfl⟩
abbrev main_while0b_call11_v0 : Ref sig .tc := ⟨.hbm, 177, rfl⟩
abbrev main_while0b_v131 : Ref sig .tc := ⟨.hbm, 178, rfl⟩
abbrev main_while0b_call12_c : Ref sig .tc := ⟨.hbm, 179, rfl⟩
abbrev main_while0b_call12_c_0 : Ref sig .tc := ⟨.hbm, 180, rfl⟩
abbrev main_while0b_call12_c_1 : Ref sig .tc := ⟨.hbm, 181, rfl⟩
abbrev main_while0b_call12_c_2 : Ref sig .tc := ⟨.hbm, 182, rfl⟩
abbrev main_while0b_call12_v0 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_v155 : Ref sig .tc := ⟨.hbm, 207, rfl⟩
abbrev main_while0b_v156 : Ref sig .tc := ⟨.hbm, 208, rfl⟩
abbrev main_while0b_v157 : Ref sig .tc := ⟨.hbm, 209, rfl⟩
abbrev main_while0b_v158 : Ref sig .tc := ⟨.hbm, 210, rfl⟩
abbrev main_while0b_v159 : Ref sig .tc := ⟨.hbm, 211, rfl⟩
abbrev main_while0b_v160 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_call13_v0 : Ref sig .tc := ⟨.hbm, 221, rfl⟩
abbrev main_while0b_call13_c : Ref sig .tc := ⟨.hbm, 222, rfl⟩
abbrev main_while0b_call13_c_0 : Ref sig .tc := ⟨.hbm, 223, rfl⟩
abbrev main_while0b_call13_c_1 : Ref sig .tc := ⟨.hbm, 224, rfl⟩
abbrev main_while0b_call13_c_2 : Ref sig .tc := ⟨.hbm, 225, rfl⟩
abbrev main_while0b_v169 : Ref sig .tc := ⟨.hbm, 226, rfl⟩
abbrev main_while0b_call14_v0 : Ref sig .tc := ⟨.hbm, 227, rfl⟩
abbrev main_while0b_call14_c : Ref sig .tc := ⟨.hbm, 228, rfl⟩
abbrev main_while0b_call14_c_0 : Ref sig .tc := ⟨.hbm, 229, rfl⟩
abbrev main_while0b_call14_c_1 : Ref sig .tc := ⟨.hbm, 230, rfl⟩
abbrev main_while0b_call14_c_2 : Ref sig .tc := ⟨.hbm, 231, rfl⟩
abbrev main_while0b_v170 : Ref sig .tc := ⟨.hbm, 232, rfl⟩
abbrev main_while0b_c_35 : Ref sig .tc := ⟨.hbm, 233, rfl⟩
abbrev main_while0b_v171 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_cst_12 : Ref sig .tc := ⟨.hbm, 241, rfl⟩
abbrev main_v107 : Ref sig .tc := ⟨.hbm, 242, rfl⟩
abbrev main_v108 : Ref sig .tc := ⟨.hbm, 243, rfl⟩
abbrev main_cst_13 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_cst_14 : Ref sig .tc := ⟨.hbm, 250, rfl⟩
abbrev main_v114 : Ref sig .tc := ⟨.hbm, 251, rfl⟩
abbrev main_v115 : Ref sig .tc := ⟨.hbm, 252, rfl⟩
abbrev main_cst_15 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_cst_16 : Ref sig .tc := ⟨.hbm, 258, rfl⟩
abbrev main_v120 : Ref sig .tc := ⟨.hbm, 259, rfl⟩
abbrev main_v121 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S1024x6144 : Shape := ⟨2, ![1024, 6144]⟩
abbrev S64 : Shape := ⟨1, ![64]⟩
abbrev S_ : Shape := ⟨0, ![]⟩
abbrev S256 : Shape := ⟨1, ![256]⟩
abbrev S256x1 : Shape := ⟨2, ![256, 1]⟩
abbrev S1x64 : Shape := ⟨2, ![1, 64]⟩
abbrev S256x64 : Shape := ⟨2, ![256, 64]⟩
abbrev S64x1 : Shape := ⟨2, ![64, 1]⟩
abbrev S64x64 : Shape := ⟨2, ![64, 64]⟩
abbrev S256x128 : Shape := ⟨2, ![256, 128]⟩
abbrev S64x128 : Shape := ⟨2, ![64, 128]⟩
abbrev S4096 : Shape := ⟨1, ![4096]⟩
abbrev S6144 : Shape := ⟨1, ![6144]⟩
abbrev S1x6144 : Shape := ⟨2, ![1, 6144]⟩
abbrev S1x1024 : Shape := ⟨2, ![1, 1024]⟩
abbrev S2x1x1024 : Shape := ⟨3, ![2, 1, 1024]⟩
abbrev S2x16384x6144 : Shape := ⟨3, ![2, 16384, 6144]⟩
abbrev S1x512x1024 : Shape := ⟨3, ![1, 512, 1024]⟩
abbrev S1x1x1024 : Shape := ⟨3, ![1, 1, 1024]⟩
abbrev S8x128 : Shape := ⟨2, ![8, 128]⟩
abbrev S1x512x6144 : Shape := ⟨3, ![1, 512, 6144]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 59
  | .vmem => 26
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x1024, .f32⟩
  | .hbm, ⟨3, _⟩ => ⟨S2048x1024, .f32⟩
  | .hbm, ⟨4, _⟩ => ⟨S1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S1024x6144, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S256, .f32⟩
  | .hbm, ⟨19, _⟩ => ⟨S256x1, .f32⟩
  | .hbm, ⟨20, _⟩ => ⟨S1x64, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S64, .f32⟩
  | .hbm, ⟨25, _⟩ => ⟨S64x1, .f32⟩
  | .hbm, ⟨26, _⟩ => ⟨S1x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S256x64, .f32⟩
  | .hbm, ⟨31, _⟩ => ⟨S256x128, .f32⟩
  | .hbm, ⟨32, _⟩ => ⟨S256x64, .f32⟩
  | .hbm, ⟨33, _⟩ => ⟨S256x64, .f32⟩
  | .hbm, ⟨34, _⟩ => ⟨S256x128, .f32⟩
  | .hbm, ⟨35, _⟩ => ⟨S64x64, .f32⟩
  | .hbm, ⟨36, _⟩ => ⟨S64x128, .f32⟩
  | .hbm, ⟨37, _⟩ => ⟨S64x64, .f32⟩
  | .hbm, ⟨38, _⟩ => ⟨S64x64, .f32⟩
  | .hbm, ⟨39, _⟩ => ⟨S64x128, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S4096, .f32⟩
  | .hbm, ⟨46, _⟩ => ⟨S6144, .f32⟩
  | .hbm, ⟨47, _⟩ => ⟨S1x6144, .f32⟩
  | .hbm, ⟨48, _⟩ => ⟨S1024x6144, .f32⟩
  | .hbm, ⟨49, _⟩ => ⟨S1024x6144, .f32⟩
  | .hbm, ⟨50, _⟩ => ⟨S1024x6144, .bf16⟩
  | .hbm, ⟨51, _⟩ => ⟨S2048x1024, .bf16⟩
  | .hbm, ⟨52, _⟩ => ⟨S1x1024, .f32⟩
  | .hbm, ⟨53, _⟩ => ⟨S2x1x1024, .f32⟩
  | .hbm, ⟨54, _⟩ => ⟨S1x1024, .f32⟩
  | .hbm, ⟨55, _⟩ => ⟨S2x1x1024, .f32⟩
  | .hbm, ⟨56, _⟩ => ⟨S2x1x1024, .f32⟩
  | .hbm, ⟨57, _⟩ => ⟨S2x16384x1024, .f32⟩
  | .hbm, ⟨58, _⟩ => ⟨S2x16384x6144, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x6144, .bf16⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S64x128, .f32⟩
  | .local _ .vmem, ⟨21, _⟩ => ⟨S64x128, .f32⟩
  | .local _ .vmem, ⟨22, _⟩ => ⟨S1x512x1024, .f32⟩
  | .local _ .vmem, ⟨23, _⟩ => ⟨S1x512x1024, .f32⟩
  | .local _ .vmem, ⟨24, _⟩ => ⟨S1x512x6144, .bf16⟩
  | .local _ .vmem, ⟨25, _⟩ => ⟨S1x512x6144, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x6144 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S1024x6144 : Shape := ⟨2, ![1024, 6144]⟩
abbrev S2x16384x2048 : Shape := ⟨3, ![2, 16384, 2048]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16384x1 : Shape := ⟨2, ![16384, 1]⟩
abbrev S16384x64 : Shape := ⟨2, ![16384, 64]⟩
abbrev S16384x1x64 : Shape := ⟨3, ![16384, 1, 64]⟩
abbrev S16384x2x64 : Shape := ⟨3, ![16384, 2, 64]⟩
abbrev S2x16384x6144 : Shape := ⟨3, ![2, 16384, 6144]⟩
abbrev S2x16384x4x256 : Shape := ⟨4, ![2, 16384, 4, 256]⟩
abbrev S2x16384x4x2x2x64 : Shape := ⟨6, ![2, 16384, 4, 2, 2, 64]⟩
abbrev S2x16384x4x2x1x64 : Shape := ⟨6, ![2, 16384, 4, 2, 1, 64]⟩
abbrev S2x16384x4x2x64 : Shape := ⟨5, ![2, 16384, 4, 2, 64]⟩
abbrev S1x16384x1x2x64 : Shape := ⟨5, ![1, 16384, 1, 2, 64]⟩

abbrev nBuf : Space → Nat
  | .hbm => 145
  | .vmem => 0
  | .smem => 0
  | _ => 0

abbrev hbmTy0_0 (i : Nat) : BufTy := match i % 128 with
  | 0 => ⟨S2x16384x1024, .bf16⟩
  | 1 => ⟨S2x16384x1024, .bf16⟩
  | 2 => ⟨S2x16384x1024, .f32⟩
  | 3 => ⟨S2048x1024, .f32⟩
  | 4 => ⟨S1024, .f32⟩
  | 5 => ⟨S2x1024, .f32⟩
  | 6 => ⟨S1024, .f32⟩
  | 7 => ⟨S2x1024, .f32⟩
  | 8 => ⟨S2x1024, .f32⟩
  | 9 => ⟨S1024x6144, .f32⟩
  | 10 => ⟨S2x16384x1024, .f32⟩
  | 11 => ⟨S2x16384x1024, .f32⟩
  | 12 => ⟨S2x16384x2048, .f32⟩
  | 13 => ⟨S2x16384x1024, .f32⟩
  | 14 => ⟨S2x1x1024, .f32⟩
  | 15 => ⟨S2x16384x1024, .f32⟩
  | 16 => ⟨S_, .f32⟩
  | 17 => ⟨S2x16384, .f32⟩
  | 18 => ⟨S2x16384x1, .f32⟩
  | 19 => ⟨S_, .f32⟩
  | 20 => ⟨S2x16384x1, .f32⟩
  | 21 => ⟨S2x16384x1, .f32⟩
  | 22 => ⟨S_, .f32⟩
  | 23 => ⟨S2x16384x1, .f32⟩
  | 24 => ⟨S2x16384x1, .f32⟩
  | 25 => ⟨S2x16384x1, .f32⟩
  | 26 => ⟨S2x16384x1024, .f32⟩
  | 27 => ⟨S2x16384x1024, .f32⟩
  | 28 => ⟨S1x1x1024, .f32⟩
  | 29 => ⟨S2x16384x1024, .f32⟩
  | 30 => ⟨S2x16384x1024, .f32⟩
  | 31 => ⟨S2x16384x1024, .f32⟩
  | 32 => ⟨S2x16384x1024, .f32⟩
  | 33 => ⟨S2x16384x1024, .f32⟩
  | 34 => ⟨S256, .f32⟩
  | 35 => ⟨S256x64, .f32⟩
  | 36 => ⟨S16384, .f32⟩
  | 37 => ⟨S64, .f32⟩
  | 38 => ⟨S1x64, .f32⟩
  | 39 => ⟨S256x64, .f32⟩
  | 40 => ⟨S16384, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S16384x1, .f32⟩
  | 50 => ⟨S1x64, .f32⟩
  | 51 => ⟨S16384x64, .f32⟩
  | 52 => ⟨S16384x64, .f32⟩
  | 53 => ⟨S16384x64, .f32⟩
  | 54 => ⟨S16384x1, .f32⟩
  | 55 => ⟨S1x64, .f32⟩
  | 56 => ⟨S16384x64, .f32⟩
  | 57 => ⟨S16384x64, .f32⟩
  | 58 => ⟨S16384x64, .f32⟩
  | 59 => ⟨S16384x1x64, .f32⟩
  | 60 => ⟨S16384x1x64, .f32⟩
  | 61 => ⟨S16384x2x64, .f32⟩
  | 62 => ⟨S16384x2x64, .f32⟩
  | 63 => ⟨S16384x2x64, .f32⟩
  | 64 => ⟨S2x16384x1024, .f32⟩
  | 65 => ⟨S_, .f32⟩
  | 66 => ⟨S2x16384, .f32⟩
  | 67 => ⟨S2x16384x1, .f32⟩
  | 68 => ⟨S_, .f32⟩
  | 69 => ⟨S2x16384x1, .f32⟩
  | 70 => ⟨S2x16384x1, .f32⟩
  | 71 => ⟨S_, .f32⟩
  | 72 => ⟨S2x16384x1, .f32⟩
  | 73 => ⟨S2x16384x1, .f32⟩
  | 74 => ⟨S2x16384x1, .f32⟩
  | 75 => ⟨S2x16384x1024, .f32⟩
  | 76 => ⟨S2x16384x1024, .f32⟩
  | 77 => ⟨S1x1x1024, .f32⟩
  | 78 => ⟨S2x16384x1024, .f32⟩
  | 79 => ⟨S2x16384x1024, .f32⟩
  | 80 => ⟨S2x1x1024, .f32⟩
  | 81 => ⟨S_, .f32⟩
  | 82 => ⟨S2x1x1024, .f32⟩
  | 83 => ⟨S2x1x1024, .f32⟩
  | 84 => ⟨S2x16384x1024, .f32⟩
  | 85 => ⟨S2x16384x1024, .f32⟩
  | 86 => ⟨S2x1x1024, .f32⟩
  | 87 => ⟨S2x16384x1024, .f32⟩
  | 88 => ⟨S2x16384x1024, .f32⟩
  | 89 => ⟨S2x16384x6144, .f32⟩
  | 90 => ⟨S2x16384x1024, .f32⟩
  | 91 => ⟨S2x16384x1024, .f32⟩
  | 92 => ⟨S2x16384x2048, .f32⟩
  | 93 => ⟨S2x16384x2048, .f32⟩
  | 94 => ⟨S2x16384x4x256, .f32⟩
  | 95 => ⟨S2x16384x4x256, .f32⟩
  | 96 => ⟨S_, .f32⟩
  | 97 => ⟨S2x16384x4x256, .f32⟩
  | 98 => ⟨S2x16384x4x256, .f32⟩
  | 99 => ⟨S2x16384x4x2x2x64, .f32⟩
  | 100 => ⟨S2x16384x4x2x1x64, .f32⟩
  | 101 => ⟨S2x16384x4x2x64, .f32⟩
  | 102 => ⟨S2x16384x4x2x1x64, .f32⟩
  | 103 => ⟨S2x16384x4x2x64, .f32⟩
  | 104 => ⟨S1x16384x1x2x64, .f32⟩
  | 105 => ⟨S1x16384x1x2x64, .f32⟩
  | 106 => ⟨S2x16384x4x2x64, .f32⟩
  | 107 => ⟨S2x16384x4x2x64, .f32⟩
  | 108 => ⟨S2x16384x4x2x64, .f32⟩
  | 109 => ⟨S2x16384x4x2x64, .f32⟩
  | 110 => ⟨S2x16384x4x2x64, .f32⟩
  | 111 => ⟨S2x16384x4x2x64, .f32⟩
  | 112 => ⟨S2x16384x4x2x64, .f32⟩
  | 113 => ⟨S2x16384x4x2x64, .f32⟩
  | 114 => ⟨S2x16384x4x2x64, .f32⟩
  | 115 => ⟨S2x16384x4x2x64, .f32⟩
  | 116 => ⟨S2x16384x4x2x1x64, .f32⟩
  | 117 => ⟨S2x16384x4x2x1x64, .f32⟩
  | 118 => ⟨S2x16384x4x2x2x64, .f32⟩
  | 119 => ⟨S2x16384x4x256, .f32⟩
  | 120 => ⟨S2x16384x1024, .f32⟩
  | 121 => ⟨S2x16384x4x2x2x64, .f32⟩
  | 122 => ⟨S2x16384x4x2x1x64, .f32⟩
  | 123 => ⟨S2x16384x4x2x64, .f32⟩
  | 124 => ⟨S2x16384x4x2x1x64, .f32⟩
  | 125 => ⟨S2x16384x4x2x64, .f32⟩
  | 126 => ⟨S1x16384x1x2x64, .f32⟩
  | 127 => ⟨S1x16384x1x2x64, .f32⟩
  | _ => ⟨S2x16384x1024, .bf16⟩

abbrev hbmTy0_1 (i : Nat) : BufTy := match i % 128 with
  | 0 => ⟨S2x16384x4x2x64, .f32⟩
  | 1 => ⟨S2x16384x4x2x64, .f32⟩
  | 2 => ⟨S2x16384x4x2x64, .f32⟩
  | 3 => ⟨S2x16384x4x2x64, .f32⟩
  | 4 => ⟨S2x16384x4x2x64, .f32⟩
  | 5 => ⟨S2x16384x4x2x64, .f32⟩
  | 6 => ⟨S2x16384x4x2x64, .f32⟩
  | 7 => ⟨S2x16384x4x2x64, .f32⟩
  | 8 => ⟨S2x16384x4x2x64, .f32⟩
  | 9 => ⟨S2x16384x4x2x64, .f32⟩
  | 10 => ⟨S2x16384x4x2x1x64, .f32⟩
  | 11 => ⟨S2x16384x4x2x1x64, .f32⟩
  | 12 => ⟨S2x16384x4x2x2x64, .f32⟩
  | 13 => ⟨S2x16384x4x256, .f32⟩
  | 14 => ⟨S2x16384x1024, .f32⟩
  | 15 => ⟨S2x16384x6144, .f32⟩
  | 16 => ⟨S2x16384x6144, .bf16⟩
  | _ => ⟨S2x16384x1024, .bf16⟩

abbrev hbmTy (i : Nat) : BufTy := match i / 128 with
  | 0 => hbmTy0_0 i
  | 1 => hbmTy0_1 i
  | _ => ⟨S2x16384x1024, .bf16⟩

abbrev bufTy : (tb : Table) → Fin (tcTables nBuf tb) → BufTy
  | .hbm, ⟨i, _⟩ => hbmTy i
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_8 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x16384x6144 : Shape := ⟨3, ![2, 16384, 6144]⟩
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S1024x4096 : Shape := ⟨2, ![1024, 4096]⟩
abbrev S1x1024 : Shape := ⟨2, ![1, 1024]⟩
abbrev S2x1x1024 : Shape := ⟨3, ![2, 1, 1024]⟩
abbrev S2x16384x4096 : Shape := ⟨3, ![2, 16384, 4096]⟩
abbrev S1x512x2048 : Shape := ⟨3, ![1, 512, 2048]⟩
abbrev S1x512x1024 : Shape := ⟨3, ![1, 512, 1024]⟩
abbrev S1x1x1024 : Shape := ⟨3, ![1, 1, 1024]⟩
abbrev S1x512x4096 : Shape := ⟨3, ![1, 512, 4096]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 19
  | .vmem => 20
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x6144, .bf16⟩
  | .hbm, ⟨2, _⟩ => ⟨S2x16384x1024, .f32⟩
  | .hbm, ⟨3, _⟩ => ⟨S2048x1024, .f32⟩
  | .hbm, ⟨4, _⟩ => ⟨S1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S1024x4096, .f32⟩
  | .hbm, ⟨10, _⟩ => ⟨S2048x1024, .bf16⟩
  | .hbm, ⟨11, _⟩ => ⟨S1x1024, .f32⟩
  | .hbm, ⟨12, _⟩ => ⟨S2x1x1024, .f32⟩
  | .hbm, ⟨13, _⟩ => ⟨S1x1024, .f32⟩
  | .hbm, ⟨14, _⟩ => ⟨S2x1x1024, .f32⟩
  | .hbm, ⟨15, _⟩ => ⟨S2x1x1024, .f32⟩
  | .hbm, ⟨16, _⟩ => ⟨S1024x4096, .bf16⟩
  | .hbm, ⟨17, _⟩ => ⟨S2x16384x1024, .f32⟩
  | .hbm, ⟨18, _⟩ => ⟨S2x16384x4096, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x4096, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x4096, .bf16⟩
  | .local _ .vmem, ⟨19, _⟩ => ⟨S1x512x4096, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x16384x2048 : Shape := ⟨3, ![2, 16384, 2048]⟩
abbrev S2x16384x6144 : Shape := ⟨3, ![2, 16384, 6144]⟩
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S1024x4096 : Shape := ⟨2, ![1024, 4096]⟩
abbrev S_ : Shape := ⟨0, ![]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x6144, .bf16⟩
  | .hbm, ⟨2, _⟩ => ⟨S2x16384x1024, .f32⟩
  | .hbm, ⟨3, _⟩ => ⟨S2048x1024, .f32⟩
  | .hbm, ⟨4, _⟩ => ⟨S1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S1024x4096, .f32⟩
  | .hbm, ⟨10, _⟩ => ⟨S2x16384x6144, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S2x16384x2048, .f32⟩
  | .hbm, ⟨15, _⟩ => ⟨S_, .f32⟩
  | .hbm, ⟨16, _⟩ => ⟨S2x16384x2048, .f32⟩
  | .hbm, ⟨17, _⟩ => ⟨S2x16384x2048, .f32⟩
  | .hbm, ⟨18, _⟩ => ⟨S_, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x1024, .f32⟩
  | .hbm, ⟨24, _⟩ => ⟨S2x1x1024, .f32⟩
  | .hbm, ⟨25, _⟩ => ⟨S2x16384x1024, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S_, .f32⟩
  | .hbm, ⟨33, _⟩ => ⟨S2x16384x1, .f32⟩
  | .hbm, ⟨34, _⟩ => ⟨S2x16384x1, .f32⟩
  | .hbm, ⟨35, _⟩ => ⟨S2x16384x1, .f32⟩
  | .hbm, ⟨36, _⟩ => ⟨S2x16384x1024, .f32⟩
  | .hbm, ⟨37, _⟩ => ⟨S2x16384x1024, .f32⟩
  | .hbm, ⟨38, _⟩ => ⟨S1x1x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S1x1x1024, .f32⟩
  | .hbm, ⟨58, _⟩ => ⟨S2x16384x1024, .f32⟩
  | .hbm, ⟨59, _⟩ => ⟨S2x16384x1024, .f32⟩
  | .hbm, ⟨60, _⟩ => ⟨S2x1x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x16384x1024, .f32⟩
  | .hbm, ⟨65, _⟩ => ⟨S2x16384x1024, .f32⟩
  | .hbm, ⟨66, _⟩ => ⟨S2x1x1024, .f32⟩
  | .hbm, ⟨67, _⟩ => ⟨S2x16384x1024, .f32⟩
  | .hbm, ⟨68, _⟩ => ⟨S2x16384x1024, .f32⟩
  | .hbm, ⟨69, _⟩ => ⟨S2x16384x4096, .f32⟩
  | .hbm, ⟨70, _⟩ => ⟨S2x16384x4096, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S2x1024 : Shape := ⟨2, ![2, 1024]⟩
abbrev S1024x4096 : Shape := ⟨2, ![1024, 4096]⟩
abbrev S1x1024 : Shape := ⟨2, ![1, 1024]⟩
abbrev S2x1x1024 : Shape := ⟨3, ![2, 1, 1024]⟩
abbrev S2x16384x4096 : Shape := ⟨3, ![2, 16384, 4096]⟩
abbrev S1x512x1024 : Shape := ⟨3, ![1, 512, 1024]⟩
abbrev S1x1x1024 : Shape := ⟨3, ![1, 1, 1024]⟩
abbrev S1x512x4096 : Shape := ⟨3, ![1, 512, 4096]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 10
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S1024x4096, .bf16⟩
  | .hbm, ⟨9, _⟩ => ⟨S2x16384x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4096, .bf16⟩
  | .local _ .vmem, ⟨8, _⟩ => ⟨S1x512x4096, .bf16⟩
  | .local _ .vmem, ⟨9, _⟩ => ⟨S1x512x4096, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x16384x1024 : Shape := ⟨3, ![2, 16384, 1024]⟩
abbrev S1024 : Shape := ⟨1, ![1024]⟩
abbrev S2x1024 : Shape := ⟨2, ![2, 1024]⟩
abbrev S1024x4096 : Shape := ⟨2, ![1024, 4096]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x4096 : Shape := ⟨3, ![2, 16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x4096, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x4096, .f32⟩
  | .hbm, ⟨31, _⟩ => ⟨S2x16384x4096, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S2x16384x2048 : Shape := ⟨3, ![2, 16384, 2048]⟩
abbrev S2x16384x6144 : Shape := ⟨3, ![2, 16384, 6144]⟩
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x6144, .bf16⟩
  | .hbm, ⟨2, _⟩ => ⟨S2x16384x1024, .f32⟩
  | .hbm, ⟨3, _⟩ => ⟨S2048x1024, .f32⟩
  | .hbm, ⟨4, _⟩ => ⟨S1024, .f32⟩
  | .hbm, ⟨5, _⟩ => ⟨S2x1024, .f32⟩
  | .hbm, ⟨6, _⟩ => ⟨S2048x1024, .bf16⟩
  | .hbm, ⟨7, _⟩ => ⟨S1x1024, .f32⟩
  | .hbm, ⟨8, _⟩ => ⟨S2x1x1024, .f32⟩
  | .hbm, ⟨9, _⟩ => ⟨S2x16384x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x16384x2048 : Shape := ⟨3, ![2, 16384, 2048]⟩
abbrev S2x16384x6144 : Shape := ⟨3, ![2, 16384, 6144]⟩
abbrev S2x16384x1024 : Shape := ⟨3, ![2, 16384, 1024]⟩
abbrev S2048x1024 : Shape := ⟨2, ![2048, 1024]⟩
abbrev S1024 : Shape := ⟨1, ![1024]⟩
abbrev S2x1024 : Shape := ⟨2, ![2, 1024]⟩
abbrev S_ : Shape := ⟨0, ![]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x6144, .bf16⟩
  | .hbm, ⟨2, _⟩ => ⟨S2x16384x1024, .f32⟩
  | .hbm, ⟨3, _⟩ => ⟨S2048x1024, .f32⟩
  | .hbm, ⟨4, _⟩ => ⟨S1024, .f32⟩
  | .hbm, ⟨5, _⟩ => ⟨S2x1024, .f32⟩
  | .hbm, ⟨6, _⟩ => ⟨S2x16384x6144, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S_, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x1024, .f32⟩
  | .hbm, ⟨20, _⟩ => ⟨S2x1x1024, .f32⟩
  | .hbm, ⟨21, _⟩ => ⟨S2x16384x1024, .f32⟩
  | .hbm, ⟨22, _⟩ => ⟨S_, .f32⟩
  | .hbm, ⟨23, _⟩ => ⟨S2x16384, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S2x16384x1, .f32⟩
  | .hbm, ⟨32, _⟩ => ⟨S2x16384x1024, .f32⟩
  | .hbm, ⟨33, _⟩ => ⟨S2x16384x1024, .f32⟩
  | .hbm, ⟨34, _⟩ => ⟨S1x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.RefVal.lean ====
/-
  The generated run of the reference and its loop's step.
-/
module

public import proofs.«01_k».proof.Proof.Gen.ReferenceIdeal.Run
public import proofs.«01_k».proof.Proof.Gen.ReferenceIdeal.Step
-- ==== Proof.St.Runs.lean ====
/-
  The state call: its windows' blocks at a point, the branch conditions in closed form, idle windows, and the
  region's invariant with the scratch buffers in front, over any contents `V` of the arrays at entry.
-/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Claim
public import Idealize.ShloMosaic.Lib.Pipeline.Frame
public import Idealize.ShloMosaic.Lib.Pipeline.FrameBody
public import Idealize.ShloMosaic.Lib.Pipeline.RegionsLoop
public import Idealize.ShloMosaic.Lib.Ring
public import Idealize.ShloMosaic.Lib.WordCmp
public import Idealize.ShloMosaic.Lib.Tactic

@[expose] public section

set_option maxRecDepth 16384

noncomputable section

namespace Cert.KernelIdeal.St

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

abbrev VO0_4 : View sig .tc .vmem S1x8x4x256x512 .bf16 := (Memref.whole cc0_stg4_0 : Memref sig .tc .vmem S1x8x4x256x512 .bf16).view
abbrev VO0_5 : View sig .tc .vmem S1x4x256x512 .f32 := (Memref.whole cc0_stg5_0 : Memref sig .tc .vmem S1x4x256x512 .f32).view
abbrev ms0_0 (t : Fin cfg0.N) : Memref sig .tc .smem S2x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x4x256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x256x512 .f32 := win0_5.stage (cfg0.slots t 5)
abbrev hs0_5 (t : Fin cfg0.N) : (ms0_5 t).IsWhole := hstage0_5 ((cfg0.slots t 5).cast nbuf0_5)
abbrev scM0_0 : Memref sig .tc .vmem S4x256x512 .f32 := Memref.whole cc0_scratch0
abbrev scM0_1 : Memref sig .tc .vmem S4x256x256 .f32 := Memref.whole cc0_scratch1
abbrev VS0_0 : View sig .tc .vmem S4x256x512 .f32 := scM0_0.view
abbrev VS0_1 : View sig .tc .vmem S4x256x256 .f32 := scM0_1.view

/-- The other call's scoped buffers, at anything. -/
def restS (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_stg0_0), ((c : Thread nD τ).loc cc1_stg0_0) ↦{fullShare} f))

/-- What the body passes through untouched: the other call's scoped buffers and the generator register. -/
def gS (c : Dev nD) : sProp 𝕄 := iprop(restS c ∗ (∃ r, prngReg c r))

/-- The region's invariant before its first point, its scratch buffers in front. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ gS c) := by
  have h : (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ restS c) :=
    Pipeline.scopedRest_eq_of_list spec0 c [cc0_scratch0, cc0_scratch1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0, cc1_scratch1, cc1_scratch2, cc1_scratch3, cc1_scratch4, cc1_stg0_0] (by decide) (by decide)
  have ha : ∀ P Q R : sProp 𝕄, iprop((P ∗ Q) ∗ R) = iprop(P ∗ Q ∗ R) := fun P Q R => equiv_iff.mp ⟨BI.sep_assoc, BI.sep_assoc'⟩
  unfold Pipeline.ΦA gS; rw [h]; simp only [scM0_0, scM0_1, owns_whole, ha]; rfl

end Cert.KernelIdeal.St

end
-- ==== Proof.St.RunA.lean ====
/-
  The state call: the whole body run at the first point of a sequence, the stores it makes found by the run.
-/
module

public import proofs.«01_k».proof.Proof.St.Runs

@[expose] public section

set_option maxRecDepth 16384

noncomputable section

namespace Cert.KernelIdeal.St

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1780000 in
noncomputable def kernelRun0_A (c : Dev nD) (i : grid0.Coords) (arg2 : Memref sig .tc .smem S2x4 .f32) (harg2 : arg2.IsWhole) (arg3 : Memref sig .tc .vmem S1x2048x1024 .bf16) (harg3 : arg3.IsWhole) (arg4 : Memref sig .tc .vmem S1x2048x2048 .bf16) (harg4 : arg4.IsWhole) (arg5 : Memref sig .tc .vmem S1x4x256x512 .f32) (harg5 : arg5.IsWhole) (arg6 : Memref sig .tc .vmem S1x8x4x256x512 .bf16) (harg6 : arg6.IsWhole) (arg7 : Memref sig .tc .vmem S1x4x256x512 .f32) (harg7 : arg7.IsWhole) (arg8 : Memref sig .tc .vmem S4x256x512 .f32) (harg8 : arg8.IsWhole) (arg9 : Memref sig .tc .vmem S4x256x256 .f32) (harg9 : arg9.IsWhole) (hc0 : cond0_0 i) (hc1 : ¬cond0_1 i)
    (x0 : Vec F S2x4 .f32) (x1 : Vec F S1x2048x1024 .bf16) (x2 : Vec F S1x2048x2048 .bf16) (x3 : Vec F S1x4x256x512 .f32) :
    Σ' (L4 : List (View.Piece (Elt F) S1x8x4x256x512 .bf16)), Σ' (L5 : List (View.Piece (Elt F) S1x4x256x512 .f32)), Σ' (LS0 : List (View.Piece (Elt F) S4x256x512 .f32)), { LS1 : List (View.Piece (Elt F) S4x256x256 .f32) //
      ∀ (xi5 : Vec F S1x4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_retention_state i arg2 harg2 arg3 harg3 arg4 harg4 arg5 harg5 arg6 harg6 arg7 harg7 arg8 harg8 arg9 harg9) K } := by
  refine ⟨?_, [], ?_, ?_, fun xi5 E K => ?run⟩
  case run =>
    simp only [cc0_retention_state_eq_skeleton]; unfold cc0_retention_state_skel
    simp only [k0_part29_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    iexists _; iexact HS1

end Cert.KernelIdeal.St

end
-- ==== Proof.St.RunB.lean ====
/-
  The state call: the whole body run at the inner points, the stores it makes found by the run.
-/
module

public import proofs.«01_k».proof.Proof.St.RunA

@[expose] public section

set_option maxRecDepth 16384

noncomputable section

namespace Cert.KernelIdeal.St

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1692000 in
noncomputable def kernelRun0_B (c : Dev nD) (i : grid0.Coords) (arg2 : Memref sig .tc .smem S2x4 .f32) (harg2 : arg2.IsWhole) (arg3 : Memref sig .tc .vmem S1x2048x1024 .bf16) (harg3 : arg3.IsWhole) (arg4 : Memref sig .tc .vmem S1x2048x2048 .bf16) (harg4 : arg4.IsWhole) (arg5 : Memref sig .tc .vmem S1x4x256x512 .f32) (harg5 : arg5.IsWhole) (arg6 : Memref sig .tc .vmem S1x8x4x256x512 .bf16) (harg6 : arg6.IsWhole) (arg7 : Memref sig .tc .vmem S1x4x256x512 .f32) (harg7 : arg7.IsWhole) (arg8 : Memref sig .tc .vmem S4x256x512 .f32) (harg8 : arg8.IsWhole) (arg9 : Memref sig .tc .vmem S4x256x256 .f32) (harg9 : arg9.IsWhole) (hc0 : ¬cond0_0 i) (hc1 : ¬cond0_1 i)
    (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32) :
    Σ' (L4 : List (View.Piece (Elt F) S1x8x4x256x512 .bf16)), Σ' (L5 : List (View.Piece (Elt F) S1x4x256x512 .f32)), Σ' (LS0 : List (View.Piece (Elt F) S4x256x512 .f32)), { LS1 : List (View.Piece (Elt F) S4x256x256 .f32) //
      ∀ (xi5 : Vec F S1x4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc0_retention_state i arg2 harg2 arg3 harg3 arg4 harg4 arg5 harg5 arg6 harg6 arg7 harg7 arg8 harg8 arg9 harg9) K } := by
  refine ⟨?_, [], ?_, [], fun xi5 E K => ?run⟩
  case run =>
    simp only [cc0_retention_state_eq_skeleton]; unfold cc0_retention_state_skel
    simp only [k0_part29_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    iexists _; isplitr; · ipureintro; exact harg9.read_unread _
    iexact HS1

end Cert.KernelIdeal.St

end
-- ==== Proof.St.RunC.lean ====
/-
  The state call: the whole body run at the last point of a sequence, the stores it makes found by the run.
-/
module

public import proofs.«01_k».proof.Proof.St.RunB

@[expose] public section

set_option maxRecDepth 16384

noncomputable section

namespace Cert.KernelIdeal.St

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1708000 in
noncomputable def kernelRun0_C (c : Dev nD) (i : grid0.Coords) (arg2 : Memref sig .tc .smem S2x4 .f32) (harg2 : arg2.IsWhole) (arg3 : Memref sig .tc .vmem S1x2048x1024 .bf16) (harg3 : arg3.IsWhole) (arg4 : Memref sig .tc .vmem S1x2048x2048 .bf16) (harg4 : arg4.IsWhole) (arg5 : Memref sig .tc .vmem S1x4x256x512 .f32) (harg5 : arg5.IsWhole) (arg6 : Memref sig .tc .vmem S1x8x4x256x512 .bf16) (harg6 : arg6.IsWhole) (arg7 : Memref sig .tc .vmem S1x4x256x512 .f32) (harg7 : arg7.IsWhole) (arg8 : Memref sig .tc .vmem S4x256x512 .f32) (harg8 : arg8.IsWhole) (arg9 : Memref sig .tc .vmem S4x256x256 .f32) (harg9 : arg9.IsWhole) (hc0 : ¬cond0_0 i) (hc1 : cond0_1 i)
    (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32) :
    Σ' (L4 : List (View.Piece (Elt F) S1x8x4x256x512 .bf16)), Σ' (L5 : List (View.Piece (Elt F) S1x4x256x512 .f32)), Σ' (LS0 : List (View.Piece (Elt F) S4x256x512 .f32)), { LS1 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ owns (c : Thread nD τ) arg9 fullShare xs1) -∗ K ⟨⟩))
          ⊢ wp frame (wpE (defs₀ (F := F)) Variants.none c none) E (cc0_retention_state i arg2 harg2 arg3 harg3 arg4 harg4 arg5 harg5 arg6 harg6 arg7 harg7 arg8 harg8 arg9 harg9) K } := by
  refine ⟨?_, ?_, ?_, [], fun E K => ?run⟩
  case run =>
    simp only [cc0_retention_state_eq_skeleton]; unfold cc0_retention_state_skel
    simp only [k0_part29_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; isplitr; · ipureintro; exact harg9.read_unread _
    iexact HS1

end Cert.KernelIdeal.St

end
-- ==== Proof.St.Frame.lean ====
/-
  The state call: what its outputs and scratch hold point by point, the proof data of the region over any entry
  contents `V`, and the body's obligation.
-/
module

public import proofs.«01_k».proof.Proof.St.RunC
public import Idealize.ShloMosaic.Lib.Claim

@[expose] public section

set_option maxRecDepth 16384

noncomputable section

namespace Cert.KernelIdeal.St

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The body's run in case A at point `t`'s own staging memrefs. -/
abbrev runA (c : Dev nD) (t : Fin cfg0.N) := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
/-- The body's run in case B at point `t`'s own staging memrefs. -/
abbrev runB (c : Dev nD) (t : Fin cfg0.N) := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
/-- The body's run in case C at point `t`'s own staging memrefs. -/
abbrev runC (c : Dev nD) (t : Fin cfg0.N) := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
section
variable (c : Dev nD) (t : Fin cfg0.N) (hc0 : cond0_0 (grid0.coords t)) (hc1 : ¬cond0_1 (grid0.coords t))
    (x0 : Vec F S2x4 .f32) (x1 : Vec F S1x2048x1024 .bf16) (x2 : Vec F S1x2048x2048 .bf16) (x3 : Vec F S1x4x256x512 .f32)

theorem cover0_A_4 (y : S1x8x4x256x512.Idx) :
    ∃ pc ∈ (runA c t hc0 hc1 x0 x1 x2 x3).1, y ∈ pc.1.set :=
  View.cover_of_tiledL (runA c t hc0 hc1 x0 x1 x2 x3).1 S1x1x1x256x512.size (by sl_kernel_rfl) y

def out0_A_4 : Vec F S1x8x4x256x512 .bf16 :=
  VO0_4.read (Elt F) (VO0_4.writes (Elt F) VO0_4.junk (runA c t hc0 hc1 x0 x1 x2 x3).1)

def out0_A_5 : Vec F S1x4x256x512 .f32 :=
  VO0_5.read (Elt F) (VO0_5.writes (Elt F) VO0_5.junk (runA c t hc0 hc1 x0 x1 x2 x3).2.1)

theorem scover0_A_0 (y : S4x256x512.Idx) :
    ∃ pc ∈ (runA c t hc0 hc1 x0 x1 x2 x3).2.2.1, y ∈ pc.1.set :=
  View.cover_of_wholeMem (runA c t hc0 hc1 x0 x1 x2 x3).2.2.1 (by sl_whole_mem) y

def sout0_A_0 : Vec F S4x256x512 .f32 :=
  VS0_0.read (Elt F) (VS0_0.writes (Elt F) VS0_0.junk (runA c t hc0 hc1 x0 x1 x2 x3).2.2.1)

theorem scover0_A_1 (y : S4x256x256.Idx) :
    ∃ pc ∈ (runA c t hc0 hc1 x0 x1 x2 x3).2.2.2.1, y ∈ pc.1.set :=
  View.cover_of_tiledL (runA c t hc0 hc1 x0 x1 x2 x3).2.2.2.1 S1x256x256.size (by sl_kernel_rfl) y

def sout0_A_1 : Vec F S4x256x256 .f32 :=
  VS0_1.read (Elt F) (VS0_1.writes (Elt F) VS0_1.junk (runA c t hc0 hc1 x0 x1 x2 x3).2.2.2.1)

end

section
variable (c : Dev nD) (t : Fin cfg0.N) (hc0 : ¬cond0_0 (grid0.coords t)) (hc1 : ¬cond0_1 (grid0.coords t))
    (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32)

theorem cover0_B_4 (y : S1x8x4x256x512.Idx) :
    ∃ pc ∈ (runB c t hc0 hc1 x0 x1 x2 x3 xs0 xs1).1, y ∈ pc.1.set :=
  View.cover_of_tiledL (runB c t hc0 hc1 x0 x1 x2 x3 xs0 xs1).1 S1x1x1x256x512.size (by sl_kernel_rfl) y

def out0_B_4 : Vec F S1x8x4x256x512 .bf16 :=
  VO0_4.read (Elt F) (VO0_4.writes (Elt F) VO0_4.junk (runB c t hc0 hc1 x0 x1 x2 x3 xs0 xs1).1)

def out0_B_5 : Vec F S1x4x256x512 .f32 :=
  VO0_5.read (Elt F) (VO0_5.writes (Elt F) VO0_5.junk (runB c t hc0 hc1 x0 x1 x2 x3 xs0 xs1).2.1)

theorem scover0_B_0 (y : S4x256x512.Idx) :
    ∃ pc ∈ (runB c t hc0 hc1 x0 x1 x2 x3 xs0 xs1).2.2.1, y ∈ pc.1.set :=
  View.cover_of_tiledL (runB c t hc0 hc1 x0 x1 x2 x3 xs0 xs1).2.2.1 S1x256x512.size (by sl_kernel_rfl) y

def sout0_B_0 : Vec F S4x256x512 .f32 :=
  VS0_0.read (Elt F) (VS0_0.writes (Elt F) VS0_0.junk (runB c t hc0 hc1 x0 x1 x2 x3 xs0 xs1).2.2.1)

end

section
variable (c : Dev nD) (t : Fin cfg0.N) (hc0 : ¬cond0_0 (grid0.coords t)) (hc1 : cond0_1 (grid0.coords t))
    (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32)

theorem cover0_C_4 (y : S1x8x4x256x512.Idx) :
    ∃ pc ∈ (runC c t hc0 hc1 x0 x1 x2 x3 xs0 xs1).1, y ∈ pc.1.set :=
  View.cover_of_tiledL (runC c t hc0 hc1 x0 x1 x2 x3 xs0 xs1).1 S1x1x1x256x512.size (by sl_kernel_rfl) y

def out0_C_4 : Vec F S1x8x4x256x512 .bf16 :=
  VO0_4.read (Elt F) (VO0_4.writes (Elt F) VO0_4.junk (runC c t hc0 hc1 x0 x1 x2 x3 xs0 xs1).1)

theorem cover0_C_5 (y : S1x4x256x512.Idx) :
    ∃ pc ∈ (runC c t hc0 hc1 x0 x1 x2 x3 xs0 xs1).2.1, y ∈ pc.1.set :=
  View.cover_of_tiledL (runC c t hc0 hc1 x0 x1 x2 x3 xs0 xs1).2.1 S1x4x256x512.size (by sl_kernel_rfl) y

def out0_C_5 : Vec F S1x4x256x512 .f32 :=
  VO0_5.read (Elt F) (VO0_5.writes (Elt F) VO0_5.junk (runC c t hc0 hc1 x0 x1 x2 x3 xs0 xs1).2.1)

theorem scover0_C_0 (y : S4x256x512.Idx) :
    ∃ pc ∈ (runC c t hc0 hc1 x0 x1 x2 x3 xs0 xs1).2.2.1, y ∈ pc.1.set :=
  View.cover_of_tiledL (runC c t hc0 hc1 x0 x1 x2 x3 xs0 xs1).2.2.1 S1x256x512.size (by sl_kernel_rfl) y

def sout0_C_0 : Vec F S4x256x512 .f32 :=
  VS0_0.read (Elt F) (VS0_0.writes (Elt F) VS0_0.junk (runC c t hc0 hc1 x0 x1 x2 x3 xs0 xs1).2.2.1)

end

/-- What a point leaves: its outputs and its scratch. -/
abbrev Pt (F : FTy → Type) := Vec F S1x8x4x256x512 .bf16 × Vec F S1x4x256x512 .f32 × Vec F S4x256x512 .f32 × Vec F S4x256x256 .f32

abbrev ptA (c : Dev nD) (t : Fin cfg0.N) (hc0 : cond0_0 (grid0.coords t)) (hc1 : ¬cond0_1 (grid0.coords t)) : Pt F :=
  (out0_A_4 c t hc0 hc1 (iblk V c 0 t) (iblk V c 1 t) (iblk V c 2 t) (iblk V c 3 t),
    out0_A_5 c t hc0 hc1 (iblk V c 0 t) (iblk V c 1 t) (iblk V c 2 t) (iblk V c 3 t),
    sout0_A_0 c t hc0 hc1 (iblk V c 0 t) (iblk V c 1 t) (iblk V c 2 t) (iblk V c 3 t),
    sout0_A_1 c t hc0 hc1 (iblk V c 0 t) (iblk V c 1 t) (iblk V c 2 t) (iblk V c 3 t))

abbrev ptB (c : Dev nD) (t : Fin cfg0.N) (hc0 : ¬cond0_0 (grid0.coords t)) (hc1 : ¬cond0_1 (grid0.coords t)) (s : Pt F) : Pt F :=
  (out0_B_4 c t hc0 hc1 (iblk V c 0 t) (iblk V c 1 t) (iblk V c 2 t) (iblk V c 3 t) s.2.2.1 s.2.2.2,
    out0_B_5 c t hc0 hc1 (iblk V c 0 t) (iblk V c 1 t) (iblk V c 2 t) (iblk V c 3 t) s.2.2.1 s.2.2.2,
    sout0_B_0 c t hc0 hc1 (iblk V c 0 t) (iblk V c 1 t) (iblk V c 2 t) (iblk V c 3 t) s.2.2.1 s.2.2.2,
    s.2.2.2)

abbrev ptC (c : Dev nD) (t : Fin cfg0.N) (hc0 : ¬cond0_0 (grid0.coords t)) (hc1 : cond0_1 (grid0.coords t)) (s : Pt F) : Pt F :=
  (out0_C_4 c t hc0 hc1 (iblk V c 0 t) (iblk V c 1 t) (iblk V c 2 t) (iblk V c 3 t) s.2.2.1 s.2.2.2,
    out0_C_5 c t hc0 hc1 (iblk V c 0 t) (iblk V c 1 t) (iblk V c 2 t) (iblk V c 3 t) s.2.2.1 s.2.2.2,
    sout0_C_0 c t hc0 hc1 (iblk V c 0 t) (iblk V c 1 t) (iblk V c 2 t) (iblk V c 3 t) s.2.2.1 s.2.2.2,
    s.2.2.2)

def outsAt0 (c : Dev nD) : (n : ℕ) → n < cfg0.N → Pt F
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then
        False.elim (by have hN : n + 1 < 16 := lt_of_lt_of_eq hn (show cfg0.N = 16 from N_0); omega)
      else
        ptA V c ⟨n + 1, hn⟩ ((hcond0_0 ⟨n + 1, hn⟩).mpr h0) (fun h => h1 ((hcond0_1 ⟨n + 1, hn⟩).mp h))
    else
      if h1 : (n + 1) % 8 = 7 then
        ptC V c ⟨n + 1, hn⟩ (fun h => h0 ((hcond0_0 ⟨n + 1, hn⟩).mp h)) ((hcond0_1 ⟨n + 1, hn⟩).mpr h1) (outsAt0 c n (Nat.lt_of_succ_lt hn))
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 8 = 0) (h1 : ¬t.val % 8 = 7) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = ptB V c t (fun h => h0 ((hcond0_0 t).mp h)) (fun h => h1 ((hcond0_1 t).mp h)) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = ptC V c t (fun h => h0 ((hcond0_0 t).mp h)) ((hcond0_1 t).mpr h1) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ gS c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ gS c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ gS c) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q w := Pipeline.shareOf spec0 w
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]
theorem after0_5 (c : Dev nD) (t : Fin cfg0.N) : (dat V c).after 5 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

theorem lv_0 (c : Dev nD) (t : Fin cfg0.N) : (dat V c).leavesExact 0 t = owns (c : Thread nD τ) (ms0_0 t) fullShare ((dat V c).after 0 t) := by
  unfold Dat.leavesExact; rw [liveAt0_0 t]

theorem lv_1 (c : Dev nD) (t : Fin cfg0.N) : (dat V c).leavesExact 1 t = owns (c : Thread nD τ) (ms0_1 t) fullShare ((dat V c).after 1 t) := by
  unfold Dat.leavesExact; rw [liveAt0_1 t]

theorem lv_2 (c : Dev nD) (t : Fin cfg0.N) : (dat V c).leavesExact 2 t = owns (c : Thread nD τ) (ms0_2 t) fullShare ((dat V c).after 2 t) := by
  unfold Dat.leavesExact; rw [liveAt0_2 t]

theorem lv_3 (c : Dev nD) (t : Fin cfg0.N) : (dat V c).leavesExact 3 t = owns (c : Thread nD τ) (ms0_3 t) fullShare ((dat V c).after 3 t) := by
  unfold Dat.leavesExact; rw [liveAt0_3 t]

theorem lv_4 (c : Dev nD) (t : Fin cfg0.N) : (dat V c).leavesExact 4 t = owns (c : Thread nD τ) (ms0_4 t) fullShare ((dat V c).after 4 t) := by
  unfold Dat.leavesExact; rw [liveAt0_4 t]

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · rw [lv_0, after0_0, lv_1, after0_1, lv_2, after0_2, lv_3, after0_3, lv_4, after0_4]
      rw [Dat.leavesExact_idle (dat V c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold ptA out0_A_4 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runA c t ((hcond0_0 t).mpr h0) (fun h => h1 ((hcond0_1 t).mp h)) (iblk V c 0 t) (iblk V c 1 t) (iblk V c 2 t) (iblk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _)
            unfold owns; iexists _; isplitr
            swap; · iexact HS1
            ipureintro; exact View.read_writes_of_cover _ _ _ _ _ (scover0_A_1 c _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _)
        iexists _; iexact H5
      · rw [PhiS_castSucc V c t, PhiS_pos V c _ _ hz]
        rw [outsAt0_A V c t h0 h1]
        unfold ptA out0_A_4 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runA c t ((hcond0_0 t).mpr h0) (fun h => h1 ((hcond0_1 t).mp h)) (iblk V c 0 t) (iblk V c 1 t) (iblk V c 2 t) (iblk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        isplitl [HS1]; · iexists _; iexact HS1
        iintro ⟨H0, H1, H2, H3, ⟨%e4, H4⟩, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _)
            unfold owns; iexists _; isplitr
            swap; · iexact HS1
            ipureintro; exact View.read_writes_of_cover _ _ _ _ _ (scover0_A_1 c _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _)
        iexists _; iexact H5
  · by_cases h1 : t.val % 8 = 7
    · rw [lv_0, after0_0, lv_1, after0_1, lv_2, after0_2, lv_3, after0_3, lv_4, after0_4]
      rw [show (dat V c).leavesExact 5 t = owns (c : Thread nD τ) (ms0_5 t) fullShare ((dat V c).after 5 t) from by
      unfold Dat.leavesExact; rw [liveAt0_5_C t (fun h => h0 ((hcond0_0 t).mp h)) ((hcond0_1 t).mpr h1)], after0_5]
      by_cases hz : t.val = 0
      · exfalso; have hN : t.val < 16 := lt_of_lt_of_eq t.isLt (show cfg0.N = 16 from N_0); omega
      · rw [PhiS_castSucc V c t, PhiS_pos V c _ _ hz]
        rw [outsAt0_C V c t h0 h1]
        unfold ptC out0_C_4 out0_C_5 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runC c t (fun h => h0 ((hcond0_0 t).mp h)) ((hcond0_1 t).mpr h1) (iblk V c 0 t) (iblk V c 1 t) (iblk V c 2 t) (iblk V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _)
        unfold owns; iexists _; isplitr
        swap; · iexact H5
        ipureintro; exact View.read_writes_of_cover _ _ _ _ _ (cover0_C_5 c _ _ _ _ _ _ _ _ _)
    · rw [lv_0, after0_0, lv_1, after0_1, lv_2, after0_2, lv_3, after0_3, lv_4, after0_4]
      rw [Dat.leavesExact_idle (dat V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc V c t, PhiS_pos V c _ _ hz]
        rw [outsAt0_B V c t h0 h1]
        unfold ptB out0_B_4 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runB c t (fun h => h0 ((hcond0_0 t).mp h)) (fun h => h1 ((hcond0_1 t).mp h)) (iblk V c 0 t) (iblk V c 1 t) (iblk V c 2 t) (iblk V c 3 t) _ _).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        iintro ⟨H0, H1, H2, H3, ⟨%e4, H4⟩, H5, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _)
        iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg0.N) ⊢ Pipeline.ΦA spec0 c :=
  Phi_out V c _ (by rw [Fin.val_last]; have : cfg0.N = 16 := N_0; omega)

end Cert.KernelIdeal.St

end
-- ==== Proof.Mn.Runs.lean ====
/-
  The main call: its windows' blocks at a point, the branch conditions in closed form, idle windows, and the
  region's invariant with the scratch buffers in front, over any contents `V` of the arrays at entry.
-/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Claim
public import Idealize.ShloMosaic.Lib.Pipeline.Frame
public import Idealize.ShloMosaic.Lib.Pipeline.FrameBody
public import Idealize.ShloMosaic.Lib.Pipeline.RegionsLoop
public import Idealize.ShloMosaic.Lib.Ring
public import Idealize.ShloMosaic.Lib.WordCmp
public import Idealize.ShloMosaic.Lib.Tactic

@[expose] public section

set_option maxRecDepth 16384

noncomputable section

namespace Cert.KernelIdeal.Mn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 16 = 0 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [cond0_0, e0, e1]
    word_cmp
   : ∀ t : Fin grid1.N, cond0_0 (grid1.coords t) ↔ t.val % 16 = 0)

abbrev cond0_1 (i : grid1.Coords) : Prop := k1_cond2 i = 1#1
theorem hcond0_1 : ∀ t : Fin cfg1.N, cond0_1 (grid1.coords t) ↔ t.val % 16 = 15 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [cond0_1, k1_cond2, e0, e1]
    word_cmp
   : ∀ t : Fin grid1.N, cond0_1 (grid1.coords t) ↔ t.val % 16 = 15)

theorem liveAt0_0 : ∀ t : Fin cfg1.N, cfg1.idle 0 (grid1.coords t) = false := fun _ => rfl
theorem liveAt0_1 : ∀ t : Fin cfg1.N, cfg1.idle 1 (grid1.coords t) = false := fun _ => rfl
theorem liveAt0_2 : ∀ t : Fin cfg1.N, cfg1.idle 2 (grid1.coords t) = false := fun _ => rfl
theorem liveAt0_3 : ∀ t : Fin cfg1.N, cfg1.idle 3 (grid1.coords t) = false := fun _ => rfl
theorem liveAt0_4 : ∀ t : Fin cfg1.N, cfg1.idle 4 (grid1.coords t) = false := fun _ => rfl
theorem liveAt0_5 : ∀ t : Fin cfg1.N, cfg1.idle 5 (grid1.coords t) = false := fun _ => rfl
theorem liveAt0_6 : ∀ t : Fin cfg1.N, cfg1.idle 6 (grid1.coords t) = false := fun _ => rfl
theorem idleAt0_7_A : ∀ t : Fin cfg1.N, cond0_0 (grid1.coords t) → ¬cond0_1 (grid1.coords t) → cfg1.idle 7 (grid1.coords t) = true := by decide +kernel
theorem noFlush0_7_A : ∀ t : Fin cfg1.N, cond0_0 (grid1.coords t) → ¬cond0_1 (grid1.coords t) → (cfg1.win 7).flush t = false := by decide +kernel
theorem idleAt0_7_B : ∀ t : Fin cfg1.N, ¬cond0_0 (grid1.coords t) → ¬cond0_1 (grid1.coords t) → cfg1.idle 7 (grid1.coords t) = true := by decide +kernel
theorem noFlush0_7_B : ∀ t : Fin cfg1.N, ¬cond0_0 (grid1.coords t) → ¬cond0_1 (grid1.coords t) → (cfg1.win 7).flush t = false := by decide +kernel
theorem liveAt0_7_C : ∀ t : Fin cfg1.N, ¬cond0_0 (grid1.coords t) → cond0_1 (grid1.coords t) → cfg1.idle 7 (grid1.coords t) = false := by decide +kernel

abbrev VO0_6 : View sig .tc .vmem S1x1024x2048 .bf16 := (Memref.whole cc1_stg6_0 : Memref sig .tc .vmem S1x1024x2048 .bf16).view
abbrev VO0_7 : View sig .tc .vmem S1x4x256x512 .f32 := (Memref.whole cc1_stg7_0 : Memref sig .tc .vmem S1x4x256x512 .f32).view
abbrev ms0_0 (t : Fin cfg1.N) : Memref sig .tc .smem S2x4 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x1024x1024 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x1024x1024 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x1024x2048 .bf16 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x4x4x256x512 .bf16 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x4x256x512 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1x1024x2048 .bf16 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S1x4x256x512 .f32 := win1_7.stage (cfg1.slots t 7)
abbrev hs0_7 (t : Fin cfg1.N) : (ms0_7 t).IsWhole := hstage1_7 ((cfg1.slots t 7).cast nbuf1_7)
abbrev scM0_0 : Memref sig .tc .vmem S4x256x512 .f32 := Memref.whole cc1_scratch0
abbrev scM0_1 : Memref sig .tc .vmem S4x256x256 .f32 := Memref.whole cc1_scratch1
abbrev scM0_2 : Memref sig .tc .vmem S4x256x256 .f32 := Memref.whole cc1_scratch2
abbrev scM0_3 : Memref sig .tc .vmem S4x256x256 .f32 := Memref.whole cc1_scratch3
abbrev scM0_4 : Memref sig .tc .vmem S4x256x256 .f32 := Memref.whole cc1_scratch4
abbrev VS0_0 : View sig .tc .vmem S4x256x512 .f32 := scM0_0.view
abbrev VS0_1 : View sig .tc .vmem S4x256x256 .f32 := scM0_1.view
abbrev VS0_2 : View sig .tc .vmem S4x256x256 .f32 := scM0_2.view
abbrev VS0_3 : View sig .tc .vmem S4x256x256 .f32 := scM0_3.view
abbrev VS0_4 : View sig .tc .vmem S4x256x256 .f32 := scM0_4.view

/-- The other call's scoped buffers, at anything. -/
def restS (c : Dev nD) : sProp 𝕄 := iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_stg0_0), ((c : Thread nD τ).loc cc0_stg0_0) ↦{fullShare} f))

/-- What the body passes through untouched: the other call's scoped buffers and the generator register. -/
def gS (c : Dev nD) : sProp 𝕄 := iprop(restS c ∗ (∃ r, prngReg c r))

/-- The region's invariant before its first point, its scratch buffers in front. -/
theorem PhiA0_eq (c : Dev nD) :
    (Pipeline.ΦA spec1 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ gS c) := by
  have h : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ restS c) :=
    Pipeline.scopedRest_eq_of_list spec1 c [cc1_scratch0, cc1_scratch1, cc1_scratch2, cc1_scratch3, cc1_scratch4, cc0_stg1_0, cc0_stg1_1, cc0_stg2_0, cc0_stg2_1, cc0_stg3_0, cc0_stg3_1, cc0_stg4_0, cc0_stg4_1, cc0_stg5_0, cc0_stg5_1, cc0_scratch0, cc0_scratch1, cc0_stg0_0] (by decide) (by decide)
  have ha : ∀ P Q R : sProp 𝕄, iprop((P ∗ Q) ∗ R) = iprop(P ∗ Q ∗ R) := fun P Q R => equiv_iff.mp ⟨BI.sep_assoc, BI.sep_assoc'⟩
  unfold Pipeline.ΦA gS; rw [h]; simp only [scM0_0, scM0_1, scM0_2, scM0_3, scM0_4, owns_whole, ha]; rfl

end Cert.KernelIdeal.Mn

end
-- ==== Proof.Mn.RunA.lean ====
/-
  The main call: the whole body run at the first point of a sequence, the stores it makes found by the run.
-/
module

public import proofs.«01_k».proof.Proof.Mn.Runs

@[expose] public section

set_option maxRecDepth 16384

noncomputable section

namespace Cert.KernelIdeal.Mn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1724000 in
noncomputable def kernelRun0_A (c : Dev nD) (i : grid1.Coords) (arg2 : Memref sig .tc .smem S2x4 .f32) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x2048 .bf16) (harg5 : arg5.IsWhole) (arg6 : Memref sig .tc .vmem S1x4x4x256x512 .bf16) (harg6 : arg6.IsWhole) (arg7 : Memref sig .tc .vmem S1x4x256x512 .f32) (harg7 : arg7.IsWhole) (arg8 : Memref sig .tc .vmem S1x1024x2048 .bf16) (harg8 : arg8.IsWhole) (arg9 : Memref sig .tc .vmem S1x4x256x512 .f32) (harg9 : arg9.IsWhole) (arg10 : Memref sig .tc .vmem S4x256x512 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S4x256x256 .f32) (harg13 : arg13.IsWhole) (arg14 : Memref sig .tc .vmem S4x256x256 .f32) (harg14 : arg14.IsWhole) (hc0 : cond0_0 i) (hc1 : ¬cond0_1 i)
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) :
    Σ' (L6 : List (View.Piece (Elt F) S1x1024x2048 .bf16)), Σ' (L7 : List (View.Piece (Elt F) S1x4x256x512 .f32)), Σ' (LS0 : List (View.Piece (Elt F) S4x256x512 .f32)), Σ' (LS1 : List (View.Piece (Elt F) S4x256x256 .f32)), Σ' (LS2 : List (View.Piece (Elt F) S4x256x256 .f32)), Σ' (LS3 : List (View.Piece (Elt F) S4x256x256 .f32)), { LS4 : List (View.Piece (Elt F) S4x256x256 .f32) //
      ∀ (xi7 : Vec F S1x4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc1_retention_main i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, ?_, fun xi7 E K => ?run⟩
  case run =>
    simp only [cc1_retention_main_eq_skeleton]; unfold cc1_retention_main_skel
    simp only [k1_part5_eq_skeleton, k1_part1_eq_skeleton, k1_part2_eq_skeleton, k1_part3_eq_skeleton, k1_part4_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]; · iexists _; iexact HS3
    iexists _; iexact HS4

end Cert.KernelIdeal.Mn

end
-- ==== Proof.Mn.RunB.lean ====
/-
  The main call: the whole body run at the inner points, the stores it makes found by the run.
-/
module

public import proofs.«01_k».proof.Proof.Mn.RunA

@[expose] public section

set_option maxRecDepth 16384

noncomputable section

namespace Cert.KernelIdeal.Mn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1600000 in
noncomputable def kernelRun0_B (c : Dev nD) (i : grid1.Coords) (arg2 : Memref sig .tc .smem S2x4 .f32) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x2048 .bf16) (harg5 : arg5.IsWhole) (arg6 : Memref sig .tc .vmem S1x4x4x256x512 .bf16) (harg6 : arg6.IsWhole) (arg7 : Memref sig .tc .vmem S1x4x256x512 .f32) (harg7 : arg7.IsWhole) (arg8 : Memref sig .tc .vmem S1x1024x2048 .bf16) (harg8 : arg8.IsWhole) (arg9 : Memref sig .tc .vmem S1x4x256x512 .f32) (harg9 : arg9.IsWhole) (arg10 : Memref sig .tc .vmem S4x256x512 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S4x256x256 .f32) (harg13 : arg13.IsWhole) (arg14 : Memref sig .tc .vmem S4x256x256 .f32) (harg14 : arg14.IsWhole) (hc0 : ¬cond0_0 i) (hc1 : ¬cond0_1 i)
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32) :
    Σ' (L6 : List (View.Piece (Elt F) S1x1024x2048 .bf16)), Σ' (L7 : List (View.Piece (Elt F) S1x4x256x512 .f32)), Σ' (LS0 : List (View.Piece (Elt F) S4x256x512 .f32)), Σ' (LS1 : List (View.Piece (Elt F) S4x256x256 .f32)), Σ' (LS2 : List (View.Piece (Elt F) S4x256x256 .f32)), Σ' (LS3 : List (View.Piece (Elt F) S4x256x256 .f32)), { LS4 : List (View.Piece (Elt F) S4x256x256 .f32) //
      ∀ (xi7 : Vec F S1x4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0) ∗ owns (c : Thread nD τ) arg11 fullShare xs1 ∗ owns (c : Thread nD τ) arg12 fullShare xs2 ∗ owns (c : Thread nD τ) arg13 fullShare xs3 ∗ owns (c : Thread nD τ) arg14 fullShare xs4) -∗ K ⟨⟩))
          ⊢ wp frame (wpE (defs₀ (F := F)) Variants.none c none) E (cc1_retention_main i arg2 harg2 arg3 harg3 arg4 harg4 arg5 harg5 arg6 harg6 arg7 harg7 arg8 harg8 arg9 harg9 arg10 harg10 arg11 harg11 arg12 harg12 arg13 harg13 arg14 harg14) K } := by
  refine ⟨?_, [], ?_, [], [], [], [], fun xi7 E K => ?run⟩
  case run =>
    simp only [cc1_retention_main_eq_skeleton]; unfold cc1_retention_main_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]; · iexists _; iexact HS0
    isplitl [HS1]
    · iexists _; isplitr; · ipureintro; exact harg11.read_unread _
      iexact HS1
    isplitl [HS2]
    · iexists _; isplitr; · ipureintro; exact harg12.read_unread _
      iexact HS2
    isplitl [HS3]
    · iexists _; isplitr; · ipureintro; exact harg13.read_unread _
      iexact HS3
    iexists _; isplitr; · ipureintro; exact harg14.read_unread _
    iexact HS4

end Cert.KernelIdeal.Mn

end
-- ==== Proof.Mn.RunC.lean ====
/-
  The main call: the whole body run at the last point of a sequence, the stores it makes found by the run.
-/
module

public import proofs.«01_k».proof.Proof.Mn.RunB

@[expose] public section

set_option maxRecDepth 16384

noncomputable section

namespace Cert.KernelIdeal.Mn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1600000 in
noncomputable def kernelRun0_C (c : Dev nD) (i : grid1.Coords) (arg2 : Memref sig .tc .smem S2x4 .f32) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x1024x2048 .bf16) (harg5 : arg5.IsWhole) (arg6 : Memref sig .tc .vmem S1x4x4x256x512 .bf16) (harg6 : arg6.IsWhole) (arg7 : Memref sig .tc .vmem S1x4x256x512 .f32) (harg7 : arg7.IsWhole) (arg8 : Memref sig .tc .vmem S1x1024x2048 .bf16) (harg8 : arg8.IsWhole) (arg9 : Memref sig .tc .vmem S1x4x256x512 .f32) (harg9 : arg9.IsWhole) (arg10 : Memref sig .tc .vmem S4x256x512 .f32) (harg10 : arg10.IsWhole) (arg11 : Memref sig .tc .vmem S4x256x256 .f32) (harg11 : arg11.IsWhole) (arg12 : Memref sig .tc .vmem S4x256x256 .f32) (harg12 : arg12.IsWhole) (arg13 : Memref sig .tc .vmem S4x256x256 .f32) (harg13 : arg13.IsWhole) (arg14 : Memref sig .tc .vmem S4x256x256 .f32) (harg14 : arg14.IsWhole) (hc0 : ¬cond0_0 i) (hc1 : cond0_1 i)
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32) :
    Σ' (L6 : List (View.Piece (Elt F) S1x1024x2048 .bf16)), Σ' (L7 : List (View.Piece (Elt F) S1x4x256x512 .f32)), Σ' (LS0 : List (View.Piece (Elt F) S4x256x512 .f32)), Σ' (LS1 : List (View.Piece (Elt F) S4x256x256 .f32)), Σ' (LS2 : List (View.Piece (Elt F) S4x256x256 .f32)), Σ' (LS3 : List (View.Piece (Elt F) S4x256x256 .f32)), { LS4 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ owns (c : Thread nD τ) arg11 fullShare xs1 ∗ owns (c : Thread nD τ) arg12 fullShare xs2 ∗ owns (c : Thread nD τ) arg13 fullShare xs3 ∗ owns (c : Thread nD τ) arg14 fullShare xs4) -∗ K ⟨⟩))
          ⊢ wp frame (wpE (defs₀ (F := F)) Variants.none c none) E (cc1_retention_main i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], [], [], [], fun E K => ?run⟩
  case run =>
    simp only [cc1_retention_main_eq_skeleton]; unfold cc1_retention_main_skel
    simp only [k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]
    · iexists _; isplitr; · ipureintro; exact harg11.read_unread _
      iexact HS1
    isplitl [HS2]
    · iexists _; isplitr; · ipureintro; exact harg12.read_unread _
      iexact HS2
    isplitl [HS3]
    · iexists _; isplitr; · ipureintro; exact harg13.read_unread _
      iexact HS3
    iexists _; isplitr; · ipureintro; exact harg14.read_unread _
    iexact HS4

end Cert.KernelIdeal.Mn

end
-- ==== Proof.Mn.Frame.lean ====
/-
  The main call: what its outputs and scratch hold point by point, the proof data of the region over any entry
  contents `V`, and the body's obligation.
-/
module

public import proofs.«01_k».proof.Proof.Mn.RunC
public import Idealize.ShloMosaic.Lib.Claim

@[expose] public section

set_option maxRecDepth 16384

noncomputable section

namespace Cert.KernelIdeal.Mn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The body's run in case A at point `t`'s own staging memrefs. -/
abbrev runA (c : Dev nD) (t : Fin cfg1.N) := kernelRun0_A (F := F) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
/-- The body's run in case B at point `t`'s own staging memrefs. -/
abbrev runB (c : Dev nD) (t : Fin cfg1.N) := kernelRun0_B (F := F) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
/-- The body's run in case C at point `t`'s own staging memrefs. -/
abbrev runC (c : Dev nD) (t : Fin cfg1.N) := kernelRun0_C (F := F) c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
section
variable (c : Dev nD) (t : Fin cfg1.N) (hc0 : cond0_0 (grid1.coords t)) (hc1 : ¬cond0_1 (grid1.coords t))
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32)

theorem cover0_A_6 (y : S1x1024x2048.Idx) :
    ∃ pc ∈ (runA c t hc0 hc1 x0 x1 x2 x3 x4 x5).1, y ∈ pc.1.set :=
  View.cover_of_tiledL (runA c t hc0 hc1 x0 x1 x2 x3 x4 x5).1 S1x256x512.size (by sl_kernel_rfl) y

def out0_A_6 : Vec F S1x1024x2048 .bf16 :=
  VO0_6.read (Elt F) (VO0_6.writes (Elt F) VO0_6.junk (runA c t hc0 hc1 x0 x1 x2 x3 x4 x5).1)

def out0_A_7 : Vec F S1x4x256x512 .f32 :=
  VO0_7.read (Elt F) (VO0_7.writes (Elt F) VO0_7.junk (runA c t hc0 hc1 x0 x1 x2 x3 x4 x5).2.1)

theorem scover0_A_0 (y : S4x256x512.Idx) :
    ∃ pc ∈ (runA c t hc0 hc1 x0 x1 x2 x3 x4 x5).2.2.1, y ∈ pc.1.set :=
  View.cover_of_wholeMem (runA c t hc0 hc1 x0 x1 x2 x3 x4 x5).2.2.1 (by sl_whole_mem) y

def sout0_A_0 : Vec F S4x256x512 .f32 :=
  VS0_0.read (Elt F) (VS0_0.writes (Elt F) VS0_0.junk (runA c t hc0 hc1 x0 x1 x2 x3 x4 x5).2.2.1)

theorem scover0_A_1 (y : S4x256x256.Idx) :
    ∃ pc ∈ (runA c t hc0 hc1 x0 x1 x2 x3 x4 x5).2.2.2.1, y ∈ pc.1.set :=
  View.cover_of_tiledL (runA c t hc0 hc1 x0 x1 x2 x3 x4 x5).2.2.2.1 S1x256x256.size (by sl_kernel_rfl) y

def sout0_A_1 : Vec F S4x256x256 .f32 :=
  VS0_1.read (Elt F) (VS0_1.writes (Elt F) VS0_1.junk (runA c t hc0 hc1 x0 x1 x2 x3 x4 x5).2.2.2.1)

theorem scover0_A_2 (y : S4x256x256.Idx) :
    ∃ pc ∈ (runA c t hc0 hc1 x0 x1 x2 x3 x4 x5).2.2.2.2.1, y ∈ pc.1.set :=
  View.cover_of_tiledL (runA c t hc0 hc1 x0 x1 x2 x3 x4 x5).2.2.2.2.1 S1x256x256.size (by sl_kernel_rfl) y

def sout0_A_2 : Vec F S4x256x256 .f32 :=
  VS0_2.read (Elt F) (VS0_2.writes (Elt F) VS0_2.junk (runA c t hc0 hc1 x0 x1 x2 x3 x4 x5).2.2.2.2.1)

theorem scover0_A_3 (y : S4x256x256.Idx) :
    ∃ pc ∈ (runA c t hc0 hc1 x0 x1 x2 x3 x4 x5).2.2.2.2.2.1, y ∈ pc.1.set :=
  View.cover_of_tiledL (runA c t hc0 hc1 x0 x1 x2 x3 x4 x5).2.2.2.2.2.1 S1x256x256.size (by sl_kernel_rfl) y

def sout0_A_3 : Vec F S4x256x256 .f32 :=
  VS0_3.read (Elt F) (VS0_3.writes (Elt F) VS0_3.junk (runA c t hc0 hc1 x0 x1 x2 x3 x4 x5).2.2.2.2.2.1)

theorem scover0_A_4 (y : S4x256x256.Idx) :
    ∃ pc ∈ (runA c t hc0 hc1 x0 x1 x2 x3 x4 x5).2.2.2.2.2.2.1, y ∈ pc.1.set :=
  View.cover_of_tiledL (runA c t hc0 hc1 x0 x1 x2 x3 x4 x5).2.2.2.2.2.2.1 S1x256x256.size (by sl_kernel_rfl) y

def sout0_A_4 : Vec F S4x256x256 .f32 :=
  VS0_4.read (Elt F) (VS0_4.writes (Elt F) VS0_4.junk (runA c t hc0 hc1 x0 x1 x2 x3 x4 x5).2.2.2.2.2.2.1)

end

section
variable (c : Dev nD) (t : Fin cfg1.N) (hc0 : ¬cond0_0 (grid1.coords t)) (hc1 : ¬cond0_1 (grid1.coords t))
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32)

theorem cover0_B_6 (y : S1x1024x2048.Idx) :
    ∃ pc ∈ (runB c t hc0 hc1 x0 x1 x2 x3 x4 x5 xs0 xs1 xs2 xs3 xs4).1, y ∈ pc.1.set :=
  View.cover_of_tiledL (runB c t hc0 hc1 x0 x1 x2 x3 x4 x5 xs0 xs1 xs2 xs3 xs4).1 S1x256x512.size (by sl_kernel_rfl) y

def out0_B_6 : Vec F S1x1024x2048 .bf16 :=
  VO0_6.read (Elt F) (VO0_6.writes (Elt F) VO0_6.junk (runB c t hc0 hc1 x0 x1 x2 x3 x4 x5 xs0 xs1 xs2 xs3 xs4).1)

def out0_B_7 : Vec F S1x4x256x512 .f32 :=
  VO0_7.read (Elt F) (VO0_7.writes (Elt F) VO0_7.junk (runB c t hc0 hc1 x0 x1 x2 x3 x4 x5 xs0 xs1 xs2 xs3 xs4).2.1)

theorem scover0_B_0 (y : S4x256x512.Idx) :
    ∃ pc ∈ (runB c t hc0 hc1 x0 x1 x2 x3 x4 x5 xs0 xs1 xs2 xs3 xs4).2.2.1, y ∈ pc.1.set :=
  View.cover_of_tiledL (runB c t hc0 hc1 x0 x1 x2 x3 x4 x5 xs0 xs1 xs2 xs3 xs4).2.2.1 S1x256x512.size (by sl_kernel_rfl) y

def sout0_B_0 : Vec F S4x256x512 .f32 :=
  VS0_0.read (Elt F) (VS0_0.writes (Elt F) VS0_0.junk (runB c t hc0 hc1 x0 x1 x2 x3 x4 x5 xs0 xs1 xs2 xs3 xs4).2.2.1)

end

section
variable (c : Dev nD) (t : Fin cfg1.N) (hc0 : ¬cond0_0 (grid1.coords t)) (hc1 : cond0_1 (grid1.coords t))
    (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32)

theorem cover0_C_6 (y : S1x1024x2048.Idx) :
    ∃ pc ∈ (runC c t hc0 hc1 x0 x1 x2 x3 x4 x5 xs0 xs1 xs2 xs3 xs4).1, y ∈ pc.1.set :=
  View.cover_of_tiledL (runC c t hc0 hc1 x0 x1 x2 x3 x4 x5 xs0 xs1 xs2 xs3 xs4).1 S1x256x512.size (by sl_kernel_rfl) y

def out0_C_6 : Vec F S1x1024x2048 .bf16 :=
  VO0_6.read (Elt F) (VO0_6.writes (Elt F) VO0_6.junk (runC c t hc0 hc1 x0 x1 x2 x3 x4 x5 xs0 xs1 xs2 xs3 xs4).1)

theorem cover0_C_7 (y : S1x4x256x512.Idx) :
    ∃ pc ∈ (runC c t hc0 hc1 x0 x1 x2 x3 x4 x5 xs0 xs1 xs2 xs3 xs4).2.1, y ∈ pc.1.set :=
  View.cover_of_tiledL (runC c t hc0 hc1 x0 x1 x2 x3 x4 x5 xs0 xs1 xs2 xs3 xs4).2.1 S1x4x256x512.size (by sl_kernel_rfl) y

def out0_C_7 : Vec F S1x4x256x512 .f32 :=
  VO0_7.read (Elt F) (VO0_7.writes (Elt F) VO0_7.junk (runC c t hc0 hc1 x0 x1 x2 x3 x4 x5 xs0 xs1 xs2 xs3 xs4).2.1)

theorem scover0_C_0 (y : S4x256x512.Idx) :
    ∃ pc ∈ (runC c t hc0 hc1 x0 x1 x2 x3 x4 x5 xs0 xs1 xs2 xs3 xs4).2.2.1, y ∈ pc.1.set :=
  View.cover_of_tiledL (runC c t hc0 hc1 x0 x1 x2 x3 x4 x5 xs0 xs1 xs2 xs3 xs4).2.2.1 S1x256x512.size (by sl_kernel_rfl) y

def sout0_C_0 : Vec F S4x256x512 .f32 :=
  VS0_0.read (Elt F) (VS0_0.writes (Elt F) VS0_0.junk (runC c t hc0 hc1 x0 x1 x2 x3 x4 x5 xs0 xs1 xs2 xs3 xs4).2.2.1)

end

/-- What a point leaves: its outputs and its scratch. -/
abbrev Pt (F : FTy → Type) := Vec F S1x1024x2048 .bf16 × Vec F S1x4x256x512 .f32 × Vec F S4x256x512 .f32 × Vec F S4x256x256 .f32 × Vec F S4x256x256 .f32 × Vec F S4x256x256 .f32 × Vec F S4x256x256 .f32

abbrev ptA (c : Dev nD) (t : Fin cfg1.N) (hc0 : cond0_0 (grid1.coords t)) (hc1 : ¬cond0_1 (grid1.coords t)) : Pt F :=
  (out0_A_6 c t hc0 hc1 (iblk V c 0 t) (iblk V c 1 t) (iblk V c 2 t) (iblk V c 3 t) (iblk V c 4 t) (iblk V c 5 t),
    out0_A_7 c t hc0 hc1 (iblk V c 0 t) (iblk V c 1 t) (iblk V c 2 t) (iblk V c 3 t) (iblk V c 4 t) (iblk V c 5 t),
    sout0_A_0 c t hc0 hc1 (iblk V c 0 t) (iblk V c 1 t) (iblk V c 2 t) (iblk V c 3 t) (iblk V c 4 t) (iblk V c 5 t),
    sout0_A_1 c t hc0 hc1 (iblk V c 0 t) (iblk V c 1 t) (iblk V c 2 t) (iblk V c 3 t) (iblk V c 4 t) (iblk V c 5 t),
    sout0_A_2 c t hc0 hc1 (iblk V c 0 t) (iblk V c 1 t) (iblk V c 2 t) (iblk V c 3 t) (iblk V c 4 t) (iblk V c 5 t),
    sout0_A_3 c t hc0 hc1 (iblk V c 0 t) (iblk V c 1 t) (iblk V c 2 t) (iblk V c 3 t) (iblk V c 4 t) (iblk V c 5 t),
    sout0_A_4 c t hc0 hc1 (iblk V c 0 t) (iblk V c 1 t) (iblk V c 2 t) (iblk V c 3 t) (iblk V c 4 t) (iblk V c 5 t))

abbrev ptB (c : Dev nD) (t : Fin cfg1.N) (hc0 : ¬cond0_0 (grid1.coords t)) (hc1 : ¬cond0_1 (grid1.coords t)) (s : Pt F) : Pt F :=
  (out0_B_6 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    out0_B_7 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    sout0_B_0 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    s.2.2.2.1,
    s.2.2.2.2.1,
    s.2.2.2.2.2.1,
    s.2.2.2.2.2.2)

abbrev ptC (c : Dev nD) (t : Fin cfg1.N) (hc0 : ¬cond0_0 (grid1.coords t)) (hc1 : cond0_1 (grid1.coords t)) (s : Pt F) : Pt F :=
  (out0_C_6 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    out0_C_7 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    sout0_C_0 c t hc0 hc1 (iblk V c 0 t) (iblk V c 1 t) (iblk V c 2 t) (iblk V c 3 t) (iblk V c 4 t) (iblk V c 5 t) s.2.2.1 s.2.2.2.1 s.2.2.2.2.1 s.2.2.2.2.2.1 s.2.2.2.2.2.2,
    s.2.2.2.1,
    s.2.2.2.2.1,
    s.2.2.2.2.2.1,
    s.2.2.2.2.2.2)

def outsAt0 (c : Dev nD) : (n : ℕ) → n < cfg1.N → Pt F
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by have hN : n + 1 < 32 := lt_of_lt_of_eq hn (show cfg1.N = 32 from N_1); omega)
      else
        ptA V c ⟨n + 1, hn⟩ ((hcond0_0 ⟨n + 1, hn⟩).mpr h0) (fun h => h1 ((hcond0_1 ⟨n + 1, hn⟩).mp h))
    else
      if h1 : (n + 1) % 16 = 15 then
        ptC V c ⟨n + 1, hn⟩ (fun h => h0 ((hcond0_0 ⟨n + 1, hn⟩).mp h)) ((hcond0_1 ⟨n + 1, hn⟩).mpr h1) (outsAt0 c n (Nat.lt_of_succ_lt hn))
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg1.N) (h0 : t.val % 16 = 0) (h1 : ¬t.val % 16 = 15) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg1.N) (h0 : ¬t.val % 16 = 0) (h1 : ¬t.val % 16 = 15) :
    outsAt0 V c t.val t.isLt = ptB V c t (fun h => h0 ((hcond0_0 t).mp h)) (fun h => h1 ((hcond0_1 t).mp h)) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg1.N) (h0 : ¬t.val % 16 = 0) (h1 : t.val % 16 = 15) :
    outsAt0 V c t.val t.isLt = ptC V c t (fun h => h0 ((hcond0_0 t).mp h)) ((hcond0_1 t).mpr h1) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2.1) ∗ owns (c : Thread nD τ) scM0_4 fullShare ((outsAt0 V c n hn).2.2.2.2.2.2)) ∗ gS c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2.1) ∗ owns (c : Thread nD τ) scM0_4 fullShare ((outsAt0 V c n hn).2.2.2.2.2.2)) ∗ gS c) := rfl

theorem PhiS_pos (c : Dev nD) (n : ℕ) (h : n ≤ cfg1.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2.1) ∗ owns (c : Thread nD τ) scM0_4 fullShare ((outsAt0 V c (n - 1) (by omega)).2.2.2.2.2.2)) ∗ gS c) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q w := Pipeline.shareOf spec1 w
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = (outsAt0 V c t.val t.isLt).1 := by dsimp only [dat]
theorem after0_7 (c : Dev nD) (t : Fin cfg1.N) : (dat V c).after 7 t = (outsAt0 V c t.val t.isLt).2.1 := by dsimp only [dat]

theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d

theorem lv_0 (c : Dev nD) (t : Fin cfg1.N) : (dat V c).leavesExact 0 t = owns (c : Thread nD τ) (ms0_0 t) fullShare ((dat V c).after 0 t) := by
  unfold Dat.leavesExact; rw [liveAt0_0 t]

theorem lv_1 (c : Dev nD) (t : Fin cfg1.N) : (dat V c).leavesExact 1 t = owns (c : Thread nD τ) (ms0_1 t) fullShare ((dat V c).after 1 t) := by
  unfold Dat.leavesExact; rw [liveAt0_1 t]

theorem lv_2 (c : Dev nD) (t : Fin cfg1.N) : (dat V c).leavesExact 2 t = owns (c : Thread nD τ) (ms0_2 t) fullShare ((dat V c).after 2 t) := by
  unfold Dat.leavesExact; rw [liveAt0_2 t]

theorem lv_3 (c : Dev nD) (t : Fin cfg1.N) : (dat V c).leavesExact 3 t = owns (c : Thread nD τ) (ms0_3 t) fullShare ((dat V c).after 3 t) := by
  unfold Dat.leavesExact; rw [liveAt0_3 t]

theorem lv_4 (c : Dev nD) (t : Fin cfg1.N) : (dat V c).leavesExact 4 t = owns (c : Thread nD τ) (ms0_4 t) fullShare ((dat V c).after 4 t) := by
  unfold Dat.leavesExact; rw [liveAt0_4 t]

theorem lv_5 (c : Dev nD) (t : Fin cfg1.N) : (dat V c).leavesExact 5 t = owns (c : Thread nD τ) (ms0_5 t) fullShare ((dat V c).after 5 t) := by
  unfold Dat.leavesExact; rw [liveAt0_5 t]

theorem lv_6 (c : Dev nD) (t : Fin cfg1.N) : (dat V c).leavesExact 6 t = owns (c : Thread nD τ) (ms0_6 t) fullShare ((dat V c).after 6 t) := by
  unfold Dat.leavesExact; rw [liveAt0_6 t]

def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 14400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 16 = 0
  · by_cases h1 : t.val % 16 = 15
    · exfalso; omega
    · rw [lv_0, after0_0, lv_1, after0_1, lv_2, after0_2, lv_3, after0_3, lv_4, after0_4, lv_5, after0_5, lv_6, after0_6]
      rw [Dat.leavesExact_idle (dat V c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold ptA out0_A_6 sout0_A_0 sout0_A_1 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runA c t ((hcond0_0 t).mpr h0) (fun h => h1 ((hcond0_1 t).mp h)) (iblk V c 0 t) (iblk V c 1 t) (iblk V c 2 t) (iblk V c 3 t) (iblk V c 4 t) (iblk V c 5 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e6, H6⟩, H7, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _)
            isplitl [HS1]
            · unfold owns; iexists _; isplitr
              swap; · iexact HS1
              ipureintro; exact View.read_writes_of_cover _ _ _ _ _ (scover0_A_1 c _ _ _ _ _ _ _ _ _)
            isplitl [HS2]
            · unfold owns; iexists _; isplitr
              swap; · iexact HS2
              ipureintro; exact View.read_writes_of_cover _ _ _ _ _ (scover0_A_2 c _ _ _ _ _ _ _ _ _)
            isplitl [HS3]
            · unfold owns; iexists _; isplitr
              swap; · iexact HS3
              ipureintro; exact View.read_writes_of_cover _ _ _ _ _ (scover0_A_3 c _ _ _ _ _ _ _ _ _)
            unfold owns; iexists _; isplitr
            swap; · iexact HS4
            ipureintro; exact View.read_writes_of_cover _ _ _ _ _ (scover0_A_4 c _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _)
        iexists _; iexact H7
      · rw [PhiS_castSucc V c t, PhiS_pos V c _ _ hz]
        rw [outsAt0_A V c t h0 h1]
        unfold ptA out0_A_6 sout0_A_0 sout0_A_1 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runA c t ((hcond0_0 t).mpr h0) (fun h => h1 ((hcond0_1 t).mp h)) (iblk V c 0 t) (iblk V c 1 t) (iblk V c 2 t) (iblk V c 3 t) (iblk V c 4 t) (iblk V c 5 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        isplitl [HS1]; · iexists _; iexact HS1
        isplitl [HS2]; · iexists _; iexact HS2
        isplitl [HS3]; · iexists _; iexact HS3
        isplitl [HS4]; · iexists _; iexact HS4
        iintro ⟨H0, H1, H2, H3, H4, H5, ⟨%e6, H6⟩, H7, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _)
            isplitl [HS1]
            · unfold owns; iexists _; isplitr
              swap; · iexact HS1
              ipureintro; exact View.read_writes_of_cover _ _ _ _ _ (scover0_A_1 c _ _ _ _ _ _ _ _ _)
            isplitl [HS2]
            · unfold owns; iexists _; isplitr
              swap; · iexact HS2
              ipureintro; exact View.read_writes_of_cover _ _ _ _ _ (scover0_A_2 c _ _ _ _ _ _ _ _ _)
            isplitl [HS3]
            · unfold owns; iexists _; isplitr
              swap; · iexact HS3
              ipureintro; exact View.read_writes_of_cover _ _ _ _ _ (scover0_A_3 c _ _ _ _ _ _ _ _ _)
            unfold owns; iexists _; isplitr
            swap; · iexact HS4
            ipureintro; exact View.read_writes_of_cover _ _ _ _ _ (scover0_A_4 c _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _)
        iexists _; iexact H7
  · by_cases h1 : t.val % 16 = 15
    · rw [lv_0, after0_0, lv_1, after0_1, lv_2, after0_2, lv_3, after0_3, lv_4, after0_4, lv_5, after0_5, lv_6, after0_6]
      rw [show (dat V c).leavesExact 7 t = owns (c : Thread nD τ) (ms0_7 t) fullShare ((dat V c).after 7 t) from by
      unfold Dat.leavesExact; rw [liveAt0_7_C t (fun h => h0 ((hcond0_0 t).mp h)) ((hcond0_1 t).mpr h1)], after0_7]
      by_cases hz : t.val = 0
      · exfalso; have hN : t.val < 32 := lt_of_lt_of_eq t.isLt (show cfg1.N = 32 from N_1); omega
      · rw [PhiS_castSucc V c t, PhiS_pos V c _ _ hz]
        rw [outsAt0_C V c t h0 h1]
        unfold ptC out0_C_6 out0_C_7 sout0_C_0; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runC c t (fun h => h0 ((hcond0_0 t).mp h)) ((hcond0_1 t).mpr h1) (iblk V c 0 t) (iblk V c 1 t) (iblk V c 2 t) (iblk V c 3 t) (iblk V c 4 t) (iblk V c 5 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e6, H6⟩, ⟨%e7, H7⟩, ⟨%es0, HS0⟩, HS1, HS2, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _)
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _)
        unfold owns; iexists _; isplitr
        swap; · iexact H7
        ipureintro; exact View.read_writes_of_cover _ _ _ _ _ (cover0_C_7 c _ _ _ _ _ _ _ _ _ _ _ _ _ _)
    · rw [lv_0, after0_0, lv_1, after0_1, lv_2, after0_2, lv_3, after0_3, lv_4, after0_4, lv_5, after0_5, lv_6, after0_6]
      rw [Dat.leavesExact_idle (dat V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 32 := lt_of_lt_of_eq t.isLt (show cfg1.N = 32 from N_1); omega
      · rw [PhiS_castSucc V c t, PhiS_pos V c _ _ hz]
        rw [outsAt0_B V c t h0 h1]
        unfold ptB out0_B_6 sout0_B_0; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runB c t (fun h => h0 ((hcond0_0 t).mp h)) (fun h => h1 ((hcond0_1 t).mp h)) (iblk V c 0 t) (iblk V c 1 t) (iblk V c 2 t) (iblk V c 3 t) (iblk V c 4 t) (iblk V c 5 t) _ _ _ _ _).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        isplitl [HS3]; · iexact HS3
        isplitl [HS4]; · iexact HS4
        iintro ⟨H0, H1, H2, H3, H4, H5, ⟨%e6, H6⟩, H7, ⟨%es0, HS0⟩, HS1, HS2, HS3, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _)
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _)
        iexists _; iexact H7

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

theorem hout (c : Dev nD) : (dat V c).Φ (Fin.last cfg1.N) ⊢ Pipeline.ΦA spec1 c :=
  Phi_out V c _ (by rw [Fin.val_last]; have : cfg1.N = 32 := N_1; omega)

end Cert.KernelIdeal.Mn

end
-- ==== Proof.Whole.lean ====
/-
  The whole run of the two calls: what every buffer holds between them, each call as a segment of @main, and the run of
  @main with its three results named and its arguments unchanged, for any float values.
-/
module

public import proofs.«01_k».proof.Proof.St.Frame
public import proofs.«01_k».proof.Proof.Mn.Frame
public import proofs.«01_k».proof.Proof.Gen.KernelIdeal.Launch
public import Idealize.ShloMosaic.Lib.Pipeline.Frame
public import Idealize.ShloMosaic.Lib.Pipeline.Regions
public import Idealize.ShloMosaic.Lib.Pipeline.RegionsLoop

@[expose] public section

noncomputable section

namespace Cert.KernelIdeal.Whole

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of each core's buffers read at the core's own references. -/
abbrev ent (W : ((ℓ : Loc nD τ sig) → Buf (Elt F) ℓ) → Dev nD → Valuation τ sig (Elt F)) (c : Dev nD) (b : Ref sig .tc) :
    Buf (Elt F) ((c : Thread nD τ).loc b) := W m c b

/-- The buffers at launch. -/
def W0 (c : Dev nD) : Valuation τ sig (Elt F) := fun b => m (c, b)
/-- What the state call leaves in the chunk states' array. -/
def oSr (c : Dev nD) : Buf (Elt F) ((c : Thread nD τ).loc main_v0_0) := (St.dat (ent m W0) c).arrAt 4 cfg0.N
/-- What the state call leaves in the final reverse state's array. -/
def oSer (c : Dev nD) : Buf (Elt F) ((c : Thread nD τ).loc main_v0_1) := (St.dat (ent m W0) c).arrAt 5 cfg0.N
/-- The buffers after the state call. -/
def W1 (c : Dev nD) : Valuation τ sig (Elt F) := Function.update (Function.update (W0 m c) main_v0_0 (oSr m c)) main_v0_1 (oSer m c)
/-- What the main call leaves in the retention's array. -/
def oO (c : Dev nD) : Buf (Elt F) ((c : Thread nD τ).loc main_v1_0) := (Mn.dat (ent m W1) c).arrAt 6 cfg1.N
/-- What the main call leaves in the final forward state's array. -/
def oSef (c : Dev nD) : Buf (Elt F) ((c : Thread nD τ).loc main_v1_1) := (Mn.dat (ent m W1) c).arrAt 7 cfg1.N
/-- The buffers after the main call. -/
def W2 (c : Dev nD) : Valuation τ sig (Elt F) := Function.update (Function.update (W1 m c) main_v1_0 (oO m c)) main_v1_1 (oSef m c)

theorem W1_of (c : Dev nD) (r : Ref sig .tc) (h : r ∉ ([main_v0_0, main_v0_1] : List (Ref sig .tc))) : W1 m c r = W0 m c r := by
  simp only [List.mem_cons, List.mem_nil_iff, or_false, not_or] at h
  exact (Function.update_of_ne (StableHlo.devRef_ne_of_ne h.2) _ _).trans (Function.update_of_ne (StableHlo.devRef_ne_of_ne h.1) _ _)
theorem W1_main_v0_0 (c : Dev nD) : W1 m c main_v0_0 = oSr m c :=
  (Function.update_of_ne (StableHlo.devRef_ne_of_ne (by decide)) _ _).trans (Function.update_self _ _ _)
theorem W1_main_v0_1 (c : Dev nD) : W1 m c main_v0_1 = oSer m c := Function.update_self _ _ _
theorem W2_of (c : Dev nD) (r : Ref sig .tc) (h : r ∉ ([main_v1_0, main_v1_1] : List (Ref sig .tc))) : W2 m c r = W1 m c r := by
  simp only [List.mem_cons, List.mem_nil_iff, or_false, not_or] at h
  exact (Function.update_of_ne (StableHlo.devRef_ne_of_ne h.2) _ _).trans (Function.update_of_ne (StableHlo.devRef_ne_of_ne h.1) _ _)
theorem W2_main_v1_0 (c : Dev nD) : W2 m c main_v1_0 = oO m c :=
  (Function.update_of_ne (StableHlo.devRef_ne_of_ne (by decide)) _ _).trans (Function.update_self _ _ _)
theorem W2_main_v1_1 (c : Dev nD) : W2 m c main_v1_1 = oSef m c := Function.update_self _ _ _

abbrev 𝒱₀ : Variants := Variants.none
/-- No core owes another anything. -/
abbrev L : GSem nD τ sig → Finset Unit := fun _ => ∅
abbrev lv : GSem nD τ sig → Unit → ℕ := fun _ _ => 0
/-- No table is prefetched. -/
abbrev adm : (p : Fin 2) → (pcfgs (F := F) p).Adm := fun p => (cfgs p).toPCfg_adm

theorem keep_ends (A B C : sProp 𝕄) : iprop(A ∗ B ∗ C) ⊢ iprop(C ∗ A) := by
  iintro ⟨HA, -, HC⟩
  isplitl [HC] <;> iassumption

theorem swap_emp (A C : sProp 𝕄) : iprop(C ∗ A) ⊢ iprop(A ∗ BI.emp ∗ C) := by
  iintro ⟨HC, HA⟩
  isplitl [HA]; · iexact HA
  isplitr; · iempintro
  iexact HC

/-- The two calls' proof data. -/
def pdats : (p : Fin 2) → (c : Dev nD) → Dat τ (Elt F) Unit ℕ (UR sig nD τ) ℕ (Pipeline.pin (pcfgs (F := F)) adm p) c
  | ⟨0, _⟩ => fun c => St.dat (ent m W0) c
  | ⟨1, _⟩ => fun c => Mn.dat (ent m W1) c

/-- What rides beside the buffers: the generator register and nothing owed. -/
abbrev R (c : Dev nD) : sProp 𝕄 := iprop((∃ r, prngReg c r) ∗ ∃ W, owes (c : Thread nD τ) (0 : CellTallies nD τ sig Unit) W)

set_option backward.isDefEq.respectTransparency.types false in
/-- Call 0 as a segment: entered with every unscoped buffer at `W0`, left with them at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (St.body_obligation (ent m W0) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (ent m W0 c)
  hentry c := by
    rw [Pipeline.ownSems0_none, show StableHlo.held (c : Thread nD τ) (Pipeline.ucRefs τ sig) (W0 m c) = unscopedBufs c (ent m W0 c) from
      (Pipeline.unscopedBufs_held (Ix := Unit) (Name := ℕ) (U := UR sig nD τ) (Lvl := ℕ) c (W0 m c)).symm]
    have hsplit := Pipeline.arrays_of_unscopedBufs_shared (p := 0) (pcfgs (F := F)) adm (pdats m) winFacts₀0 sharedIn0 arr_whole0 c
      (fun _ _ => rfl) (ent m W0 c) (St.A_eq (ent m W0) c)
    iintro ⟨⟨Hub, ⟨Hp, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    exact (keep_ends _ _ _).trans (St.hin (ent m W0) c)
  hout c := by
    rw [Pipeline.ownSems0_none]
    exact (St.hout (ent m W0) c).trans (swap_emp _ _)
  hexit c := by
    rw [show StableHlo.held (c : Thread nD τ) (Pipeline.ucRefs τ sig) (W1 m c) = unscopedBufs c (ent m W1 c) from
      (Pipeline.unscopedBufs_held (Ix := Unit) (Name := ℕ) (U := UR sig nD τ) (Lvl := ℕ) c (W1 m c)).symm]
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl) (ent m W0 c) (ent m W1 c) ((pdats m 0 c).arrAt · cfg0.N)
      (fun w => by
        fin_cases w
        · exact ((pdats m 0 c).arrAt_in 0 rfl _).trans (W1_of m c main_arg1 (by decide)).symm
        · exact ((pdats m 0 c).arrAt_in 1 rfl _).trans (W1_of m c main_arg0 (by decide)).symm
        · exact ((pdats m 0 c).arrAt_in 2 rfl _).trans (W1_of m c main_arg0 (by decide)).symm
        · exact ((pdats m 0 c).arrAt_in 3 rfl _).trans (W1_of m c main_arg3 (by decide)).symm
        · exact (W1_main_v0_0 m c).symm
        · exact (W1_main_v0_1 m c).symm)
      (fun b hb => W1_of m c b fun h => hb (by
        simp only [List.mem_cons, List.mem_nil_iff, _root_.or_false] at h
        rcases h with rfl | rfl
        · exact Finset.mem_image.mpr ⟨4, Finset.mem_univ _, rfl⟩
        · exact Finset.mem_image.mpr ⟨5, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Call 1 as a segment: entered with every unscoped buffer at `W1`, left with them at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Mn.body_obligation (ent m W1) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (ent m W1 c)
  hentry c := by
    rw [Pipeline.ownSems0_none, show StableHlo.held (c : Thread nD τ) (Pipeline.ucRefs τ sig) (W1 m c) = unscopedBufs c (ent m W1 c) from
      (Pipeline.unscopedBufs_held (Ix := Unit) (Name := ℕ) (U := UR sig nD τ) (Lvl := ℕ) c (W1 m c)).symm]
    have hsplit := Pipeline.arrays_of_unscopedBufs_shared (p := 1) (pcfgs (F := F)) adm (pdats m) winFacts₀1 sharedIn1 arr_whole1 c
      (fun _ _ => rfl) (ent m W1 c) (Mn.A_eq (ent m W1) c)
    iintro ⟨⟨Hub, ⟨Hp, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp] <;> iassumption
  hin c := by
    exact (keep_ends _ _ _).trans (Mn.hin (ent m W1) c)
  hout c := by
    rw [Pipeline.ownSems0_none]
    exact (Mn.hout (ent m W1) c).trans (swap_emp _ _)
  hexit c := by
    rw [show StableHlo.held (c : Thread nD τ) (Pipeline.ucRefs τ sig) (W2 m c) = unscopedBufs c (ent m W2 c) from
      (Pipeline.unscopedBufs_held (Ix := Unit) (Name := ℕ) (U := UR sig nD τ) (Lvl := ℕ) c (W2 m c)).symm]
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl) (ent m W1 c) (ent m W2 c) ((pdats m 1 c).arrAt · cfg1.N)
      (fun w => by
        fin_cases w
        · exact ((pdats m 1 c).arrAt_in 0 rfl _).trans (W2_of m c main_arg1 (by decide)).symm
        · exact ((pdats m 1 c).arrAt_in 1 rfl _).trans (W2_of m c main_arg0 (by decide)).symm
        · exact ((pdats m 1 c).arrAt_in 2 rfl _).trans (W2_of m c main_arg0 (by decide)).symm
        · exact ((pdats m 1 c).arrAt_in 3 rfl _).trans (W2_of m c main_arg0 (by decide)).symm
        · exact ((pdats m 1 c).arrAt_in 4 rfl _).trans (W2_of m c main_v0_0 (by decide)).symm
        · exact ((pdats m 1 c).arrAt_in 5 rfl _).trans (W2_of m c main_arg2 (by decide)).symm
        · exact (W2_main_v1_0 m c).symm
        · exact (W2_main_v1_1 m c).symm)
      (fun b hb => W2_of m c b fun h => hb (by
        simp only [List.mem_cons, List.mem_nil_iff, _root_.or_false] at h
        rcases h with rfl | rfl
        · exact Finset.mem_image.mpr ⟨6, Finset.mem_univ _, rfl⟩
        · exact Finset.mem_image.mpr ⟨7, Finset.mem_univ _, rfl⟩))
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The two calls in order. -/
abbrev segs : List (Seg (pcfgs (F := F)) adm (pdats m) () defs₀ 𝒱₀ L lv) := [.region (reg0 m), .region (reg1 m)]

set_option backward.isDefEq.respectTransparency.types false in
/-- Every execution of @main from memory `m` with zero counters ends; the three results are named, the arguments are
    unchanged and every semaphore counter reads zero. -/
theorem run_main : θ_run defs (onTc (τ := τ) (main (F := F))) ⟨m, fun _ => 0, ρ⟩ (fun r => (∀ c : Dev nD,
      r.2.mem ((c.tc : Thread nD τ).loc main_v1_0) = oO m c
      ∧ r.2.mem ((c.tc : Thread nD τ).loc main_v1_1) = oSef m c
      ∧ r.2.mem ((c.tc : Thread nD τ).loc main_v0_1) = oSer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m) () cellOf_inj emb₁ defs₀ 𝒱₀ L lv m ρ main (segs m)
    (fun c Q => by rw [main_segs adm (pdats m) () 𝒱₀ L lv (reg0 m) (reg1 m) c])
    (by simp only [Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W2 m c))
    (hch := ⟨fun _ => .rfl, fun _ => .rfl, fun c =>
      (show iprop(StableHlo.held (c : Thread nD τ) (Pipeline.ucRefs τ sig) (W2 m c) ∗ R c) ⊢ (_ : sProp 𝕄) from by
        iintro ⟨Hh, -, HO⟩
        isplitl [Hh] <;> iassumption)⟩)
    (hinit := by
      refine Pipeline.initEach L lv fun c => ?_
      rw [show unscopedBufs c (fun b => m ((c : Thread nD τ).loc b)) = StableHlo.held (c : Thread nD τ) (Pipeline.ucRefs τ sig) (W0 m c) from
        Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v1_0) = oO m c
      ∧ s.mem ((c.tc : Thread nD τ).loc main_v1_1) = oSef m c
      ∧ s.mem ((c.tc : Thread nD τ).loc main_v0_1) = oSer m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      unfold StableHlo.held
      iintro ⟨Hh, HSI⟩
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        have g (b : Ref sig .tc) (hb : (Proc.devRef .tc b : DevRef τ sig).isScoped = false) : s'.mem.mem ((c.tc : Thread nD τ).loc b) = W2 m c b :=
          h (Proc.devRef .tc b) (Finset.mem_filter.mpr ⟨StableHlo.devRef_mem_tcRefs b, by rw [hb]; decide⟩)
        have ga (b : Ref sig .tc) (hb : (Proc.devRef .tc b : DevRef τ sig).isScoped = false)
            (h1 : b ∉ ([main_v0_0, main_v0_1] : List (Ref sig .tc))) (h2 : b ∉ ([main_v1_0, main_v1_1] : List (Ref sig .tc))) :
            s'.mem.mem ((c.tc : Thread nD τ).loc b) = m ((c.tc : Thread nD τ).loc b) :=
          (g b hb).trans ((W2_of m c b h2).trans (W1_of m c b h1))
        exact ⟨(g main_v1_0 rfl).trans (W2_main_v1_0 m c), (g main_v1_1 rfl).trans (W2_main_v1_1 m c),
          (g main_v0_1 rfl).trans ((W2_of m c main_v0_1 (by decide)).trans (W1_main_v0_1 m c)),
          ga main_arg0 rfl (by decide) (by decide), ga main_arg1 rfl (by decide) (by decide),
          ga main_arg2 rfl (by decide) (by decide), ga main_arg3 rfl (by decide) (by decide)⟩
      · iexact HSI)
    (hQ := fun _ h hz => ⟨h, funext fun g => hz g (.inr (by revert g; decide))⟩)

end Cert.KernelIdeal.Whole

end
-- ==== Proof.Frames.lean ====
/-
  The frames of the two programs: every execution ends, with the arguments as they were and every counter at zero.
-/
module

public import proofs.«01_k».proof.Defs
public import proofs.«01_k».proof.Proof.Whole
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

set_option maxRecDepth 100000 in
theorem body0_eq (t s) : @Cert.Kernel.defs₀ Bits _ _ .tc 0 (t, s) = @Cert.KernelIdeal.defs₀ Bits _ _ .tc 0 (t, s) := rfl
set_option maxRecDepth 100000 in
set_option maxHeartbeats 1000000 in
theorem body1_eq (t s) : @Cert.Kernel.defs₀ Bits _ _ .tc 1 (t, s) = @Cert.KernelIdeal.defs₀ Bits _ _ .tc 1 (t, s) := rfl

set_option maxRecDepth 100000 in
set_option maxHeartbeats 2000000 in
/-- The two programs' body tables are one, label by label. -/
theorem bodies_eq : @Cert.KernelIdeal.defs₀ Bits _ _ = @Cert.Kernel.defs₀ Bits _ _ := by
  funext p
  match p with
  | .tc => exact funext fun l => match l with
    | 0 => funext fun a => (body0_eq a.1 a.2).symm
    | 1 => funext fun a => (body1_eq a.1 a.2).symm
  | .scScalar _ => rfl
  | .scVector _ _ => rfl

theorem tables_eq : @Cert.KernelIdeal.defs Bits _ _ = @Cert.Kernel.defs Bits _ _ :=
  congrArg (Pipeline.defs (Cert.KernelIdeal.pcfgs (F := Bits))) bodies_eq

section
open Cert.KernelIdeal

/-- A run under one table is a run under an equal one. -/
theorem run_of_eq {D D' : Defs nD τ sig (Elt Bits) (Pipeline.Sig Λ₀ (Fin 2) fun p => (pcfgs (F := Bits) p).Adm)} (h : D = D')
    {main : Dev nD → Prog (TpuEff nD τ sig (Elt Bits) (Pipeline.Sig Λ₀ (Fin 2) fun p => (pcfgs (F := Bits) p).Adm) .tc) PUnit}
    {s : MemSt nD τ sig (Elt Bits)} {Q : PUnit × MemSt nD τ sig (Elt Bits) → Prop}
    (hr : θ_run D (onTc (τ := τ) main) s Q) : θ_run D' (onTc (τ := τ) main) s Q := h ▸ hr

theorem args_run (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (Whole.run_main (F := Bits) m ρ)
end

theorem frame_kernel : Cert.quiescent_Kernel (hKernel := Cert.Kernel.Gen.facts) := fun m ρ _ =>
  run_of_eq tables_eq (args_run m ρ)

theorem frame_kernelIdeal : Cert.quiescent_KernelIdeal (hKernelIdeal := Cert.KernelIdeal.Gen.facts) := fun m ρ _ =>
  (θ_run Cert.KernelIdeal.defs _ _).mono
    (fun _ h => ⟨fun c => (h.1 c).2.2.2, h.2⟩) (Cert.KernelIdeal.Whole.run_main (F := Ideal) m ρ)

theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

end Cert.Proof

end
-- ==== Proof.Tools.lean ====
/-
  Reading back one rectangle of a buffer that a run filled piece by piece.
-/
module

public import Idealize.ShloMosaic.Lib.Pipeline.ReadBack
public import Idealize.ShloMosaic.Lib.Tactic
public import Idealize.ShloMosaic.Lib.Pipeline.Value

@[expose] public section

noncomputable section

namespace Cert.Tools

open Idealize.ShloMosaic

variable {Val : EltTy → Type} {s : Shape} {e : EltTy}

/-- The newest store that meets the rectangle `r` is the store of `w` at `r` itself. -/
inductive At (r : Rect s) (w : r.shape.Idx → Val e) : List (View.Piece Val s e) → Prop
  | here {L : List (View.Piece Val s e)} : At r w (⟨r, w⟩ :: L)
  | skip {p : View.Piece Val s e} {L : List (View.Piece Val s e)} (h : LoadRect.disj p.1 r.toLoadRect = true) (H : At r w L) : At r w (p :: L)

/-- The newest store that meets the rectangle `r` is a store of `Z` over the whole buffer. -/
inductive AtFill (r : Rect s) (Z : s.Idx → Val e) : List (View.Piece Val s e) → Prop
  | here {off : Fin s.rank → ℕ} {inb : ∀ a, off a + s.size a ≤ s.size a} {L : List (View.Piece Val s e)} (h : ∀ a, off a = 0) :
      AtFill r Z (⟨Rect.unit off s.size inb, Z⟩ :: L)
  | skip {p : View.Piece Val s e} {L : List (View.Piece Val s e)} (h : LoadRect.disj p.1 r.toLoadRect = true) (H : AtFill r Z L) : AtFill r Z (p :: L)

theorem At.of_get {r : Rect s} {w : r.shape.Idx → Val e} : ∀ {L : List (View.Piece Val s e)} (n : ℕ) (_ : L[n]? = some ⟨r, w⟩)
    (_ : (L.take n).all (fun p => LoadRect.disj p.1 r.toLoadRect) = true), At r w L
  | [], n, h, _ => by simp at h
  | p :: L, 0, h, _ => by
    simp only [List.length_cons, Nat.zero_lt_succ, getElem?_pos, List.getElem_cons_zero, Option.some.injEq] at h
    subst h; exact .here
  | p :: L, n + 1, h, ha => by
    simp only [List.take_succ_cons, List.all_cons, Bool.and_eq_true] at ha
    exact .skip ha.1 (At.of_get n (by simpa using h) ha.2)

variable {sig : RefSig} {κ : Kind} {sp : Space} [∀ e, Nonempty (Val e)]

theorem readCov_at (v : View sig κ sp s e) {r : Rect s} {w : r.shape.Idx → Val e} {L : List (View.Piece Val s e)} (h : At r w L) :
    v.readCov L r.toLoadRect = w := by
  induction h with
  | here => exact View.readCov_cons_toLoadRect v r w _
  | skip h H ih => exact (View.readCov_skip v _ _ _ _ h).trans ih

theorem readCov_at3 (v : View sig κ sp s e) {r : Rect s} {w : r.shape.Idx → Val e} {p q u : View.Piece Val s e} {L : List (View.Piece Val s e)}
    (hp : LoadRect.disj p.1 r.toLoadRect = true) (hq : LoadRect.disj q.1 r.toLoadRect = true) (hu : LoadRect.disj u.1 r.toLoadRect = true) :
    v.readCov (p :: q :: u :: ⟨r, w⟩ :: L) r.toLoadRect = w := readCov_at v (.skip hp (.skip hq (.skip hu .here)))

theorem readCov_atFill (v : View sig κ sp s e) {r : Rect s} {Z : s.Idx → Val e} {L : List (View.Piece Val s e)} (h : AtFill r Z L) :
    v.readCov L r.toLoadRect = View.ld Z r := by
  induction h with
  | here h => exact View.readCov_fill v _ Z _ r h
  | skip h H ih => exact (View.readCov_skip v _ _ _ _ h).trans ih

/-- What a buffer filled piece by piece holds in the rectangle of one piece. -/
theorem ld_written (v : View sig κ sp s e) {r : Rect s} {w : r.shape.Idx → Val e} {L : List (View.Piece Val s e)} (h : At r w L) :
    View.ld (v.read Val (v.writes Val v.junk L)) r = w :=
  readCov_at v h

/-- The same, one store over the whole buffer being the newest that meets the rectangle. -/
theorem ld_filled (v : View sig κ sp s e) {r : Rect s} {Z : s.Idx → Val e} {L : List (View.Piece Val s e)} (h : AtFill r Z L) :
    View.ld (v.read Val (v.writes Val v.junk L)) r = View.ld Z r :=
  readCov_atFill v h

/-- A product and a remainder, the factor known. -/
theorem ax {n k s x r : ℕ} (h : n = k) (e : k * s + x = r) : n * s + x = r := by rw [h]; exact e

/-- The coordinate of a block's element in the array, the block's index known. -/
theorem emb_at {sig : RefSig} {G : Pipeline.Grid} (w : Pipeline.Window sig G) {t : Fin G.N} {y : (w.xblock (G.coords t)).Idx} {a : Fin w.shape.rank} {k r : ℕ}
    (h : w.index t a = k) (e : k * w.size a + (y a : ℕ) = r) (hk : w.kind = .blocked := by first | rfl | decide) : ((w.rect t).emb y a : ℕ) = r :=
  (Pipeline.Window.rect_emb_val w t y a hk).trans (ax h e)

end Cert.Tools
-- ==== Proof.St.Spec.lean ====
/-
  The state call: what one grid point computes, written over the blocks it reads.
-/
module

public import proofs.«01_k».proof.Proof.Tools
public import proofs.«01_k».proof.Proof.St.Frame
public import Mathlib.Tactic.IntervalCases

@[expose] public section

noncomputable section

namespace Cert.KernelIdeal.St

open Cert.KernelIdeal.Gen
open Idealize.ShloMosaic Idealize.ShloMosaic.TcCoe

variable {F : FTy → Type} [FloatOps F]

theorem inbLw (h : Fin 4) : ∀ a, (![1, h.1] : Fin 2 → ℕ) a + S1x1.size a ≤ S2x4.size a := by
  intro a; have := h.2; fin_cases a <;> simp <;> omega
theorem inbKb (j : Fin 8) (h : Fin 4) : ∀ a, (![0, (7 - j.1) * 256, h.1 * 256] : Fin 3 → ℕ) a + S1x256x256.size a ≤ S1x2048x1024.size a := by
  intro a; have := h.2; have := j.2; fin_cases a <;> simp <;> omega
theorem inbVb (j : Fin 8) (h : Fin 4) : ∀ a, (![0, (7 - j.1) * 256, h.1 * 512] : Fin 3 → ℕ) a + S1x256x512.size a ≤ S1x2048x2048.size a := by
  intro a; have := h.2; have := j.2; fin_cases a <;> simp <;> omega
theorem inbS (h : Fin 4) : ∀ a, (![h.1, 0, 0] : Fin 3 → ℕ) a + S1x256x512.size a ≤ S4x256x512.size a := by
  intro a; have := h.2; fin_cases a <;> simp <;> omega
theorem inbKd (h : Fin 4) : ∀ a, (![h.1, 0, 0] : Fin 3 → ℕ) a + S1x256x256.size a ≤ S4x256x256.size a := by
  intro a; have := h.2; fin_cases a <;> simp <;> omega
theorem inbOut (j : Fin 8) (h : Fin 4) : ∀ a, (![0, 7 - j.1, h.1, 0, 0] : Fin 5 → ℕ) a + S1x1x1x256x512.size a ≤ S1x8x4x256x512.size a := by
  intro a; have := h.2; have := j.2; fin_cases a <;> simp <;> omega

/-- The reverse decay's logarithm of head `h`. -/
def Lw (x0 : Vec F S2x4 .f32) (h : Fin 4) : Elt F .f32 := View.ld x0 (Rect.unit ![1, h.1] S1x1.size (inbLw h)) (Shape.Idx.first (show 0 < S1x1.numel by decide))
/-- The keys of head `h` in the `j`-th subchunk from the last. -/
def Kb (x1 : Vec F S1x2048x1024 .bf16) (j : Fin 8) (h : Fin 4) : Vec F S1x256x256 .bf16 := View.ld x1 (Rect.unit ![0, (7 - j.1) * 256, h.1 * 256] S1x256x256.size (inbKb j h))
/-- The values of head `h` in the `j`-th subchunk from the last. -/
def Vb (x2 : Vec F S1x2048x2048 .bf16) (j : Fin 8) (h : Fin 4) : Vec F S1x256x512 .bf16 := View.ld x2 (Rect.unit ![0, (7 - j.1) * 256, h.1 * 512] S1x256x512.size (inbVb j h))
/-- Head `h` of a state held for all heads. -/
def S0 (xs0 : Vec F S4x256x512 .f32) (h : Fin 4) : Vec F S1x256x512 .f32 := View.ld xs0 (Rect.unit ![h.1, 0, 0] S1x256x512.size (inbS h))
/-- Head `h` of the key decays held for all heads. -/
def Kd (xs1 : Vec F S4x256x256 .f32) (h : Fin 4) : Vec F S1x256x256 .f32 := View.ld xs1 (Rect.unit ![h.1, 0, 0] S1x256x256.size (inbKd h))
/-- Subchunk and head of the states written out. -/
def Ob (o : Vec F S1x8x4x256x512 .bf16) (j : Fin 8) (h : Fin 4) : Vec F S1x1x1x256x512 .bf16 := View.ld o (Rect.unit ![0, 7 - j.1, h.1, 0, 0] S1x1x1x256x512.size (inbOut j h))

theorem S0_written (v : View sig .tc .vmem S4x256x512 .f32) {L : List (View.Piece (Elt F) S4x256x512 .f32)} {h : Fin 4} {w : Vec F S1x256x512 .f32}
    (H : Tools.At (s := S4x256x512) (Rect.unit (s := S4x256x512) ![h.1, 0, 0] S1x256x512.size (inbS h)) w L) : S0 (v.read (Elt F) (v.writes (Elt F) v.junk L)) h = w := Tools.ld_written v H
theorem Kd_written (v : View sig .tc .vmem S4x256x256 .f32) {L : List (View.Piece (Elt F) S4x256x256 .f32)} {h : Fin 4} {w : Vec F S1x256x256 .f32}
    (H : Tools.At (s := S4x256x256) (Rect.unit (s := S4x256x256) ![h.1, 0, 0] S1x256x256.size (inbKd h)) w L) : Kd (v.read (Elt F) (v.writes (Elt F) v.junk L)) h = w := Tools.ld_written v H
theorem Ob_written (v : View sig .tc .vmem S1x8x4x256x512 .bf16) {L : List (View.Piece (Elt F) S1x8x4x256x512 .bf16)} {j : Fin 8} {h : Fin 4} {w : Vec F S1x1x1x256x512 .bf16}
    (H : Tools.At (s := S1x8x4x256x512) (Rect.unit (s := S1x8x4x256x512) ![0, 7 - j.1, h.1, 0, 0] S1x1x1x256x512.size (inbOut j h)) w L) : Ob (v.read (Elt F) (v.writes (Elt F) v.junk L)) j h = w := Tools.ld_written v H

/-- The whole block of an entry state, as one load reads it. -/
def L4 (x : Vec F S1x4x256x512 .f32) : Vec F S1x4x256x512 .f32 :=
  View.ld x (Rect.unit (s := S1x4x256x512) ![0, 0, 0, 0] S1x4x256x512.size inb_S1x4x256x512_S1x4x256x512_0_0_0_0)

theorem L4_eq (x : Vec F S1x4x256x512 .f32) : L4 x = x := by
  funext y; unfold L4 View.ld; congr 1
  funext a; apply Fin.ext
  fin_cases a
  · show 0 + 1 * (y 0).val = (y 0).val; omega
  · show 0 + 1 * (y 1).val = (y 1).val; omega
  · show 0 + 1 * (y 2).val = (y 2).val; omega
  · show 0 + 1 * (y 3).val = (y 3).val; omega

/-- The states of all heads, as one load reads them. -/
def L3 (x : Vec F S4x256x512 .f32) : Vec F S4x256x512 .f32 :=
  View.ld x (Rect.unit (s := S4x256x512) ![0, 0, 0] S4x256x512.size inb_S4x256x512_S4x256x512_0_0_0)

theorem L3_eq (x : Vec F S4x256x512 .f32) : L3 x = x := by
  funext y; unfold L3 View.ld; congr 1
  funext a; apply Fin.ext
  fin_cases a
  · show 0 + 1 * (y 0).val = (y 0).val; omega
  · show 0 + 1 * (y 1).val = (y 1).val; omega
  · show 0 + 1 * (y 2).val = (y 2).val; omega

/-- A block of a state that one store fills. -/
theorem L4_written (v : View sig .tc .vmem S1x4x256x512 .f32) {L : List (View.Piece (Elt F) S1x4x256x512 .f32)} {w : Vec F S1x4x256x512 .f32}
    (H : Tools.At (s := S1x4x256x512) (Rect.unit (s := S1x4x256x512) ![0, 0, 0, 0] S1x4x256x512.size inb_S1x4x256x512_S1x4x256x512_0_0_0_0) w L) :
    v.read (Elt F) (v.writes (Elt F) v.junk L) = w := by
  rw [← L4_eq (v.read (Elt F) (v.writes (Elt F) v.junk L))]; exact Tools.ld_written v H

theorem zero3 : ∀ a, (![0, 0, 0] : Fin 3 → ℕ) a = 0 := by decide

theorem S0_filled (v : View sig .tc .vmem S4x256x512 .f32) {L : List (View.Piece (Elt F) S4x256x512 .f32)} {h : Fin 4} {Z : Vec F S4x256x512 .f32}
    (H : Tools.AtFill (s := S4x256x512) (Rect.unit (s := S4x256x512) ![h.1, 0, 0] S1x256x512.size (inbS h)) Z L) :
    v.readCov L (Rect.unit (s := S4x256x512) ![h.1, 0, 0] S1x256x512.size (inbS h)).toLoadRect = S0 Z h := Tools.readCov_atFill v H

/-- The state of head `h` after the last `j` subchunks of a point. -/
def stS (lw : Fin 4 → Elt F .f32) (s0 : Fin 4 → Vec F S1x256x512 .f32) (kd : Fin 4 → Vec F S1x256x256 .f32)
    (kb : Fin 8 → Fin 4 → Vec F S1x256x256 .bf16) (vb : Fin 8 → Fin 4 → Vec F S1x256x512 .bf16) (h : Fin 4) : (j : ℕ) → j ≤ 8 → Vec F S1x256x512 .f32
  | 0, _ => s0 h
  | j + 1, hj => k0_pay12 (lw h) (stS lw s0 kd kb vb h j (by omega)) (kb ⟨j, hj⟩ h) (kd h) (vb ⟨j, hj⟩ h)

theorem stS_step {lw : Fin 4 → Elt F .f32} {s0 : Fin 4 → Vec F S1x256x512 .f32} {kd : Fin 4 → Vec F S1x256x256 .f32}
    {kb : Fin 8 → Fin 4 → Vec F S1x256x256 .bf16} {vb : Fin 8 → Fin 4 → Vec F S1x256x512 .bf16} (h : Fin 4) (j : ℕ) (hj : j + 1 ≤ 8)
    {v p : Vec F S1x256x512 .f32} {d : Vec F S1x256x256 .f32} (hp : p = stS lw s0 kd kb vb h j (by omega)) (hd : d = kd h)
    (hv : v = k0_pay12 (lw h) p (kb ⟨j, hj⟩ h) d (vb ⟨j, hj⟩ h)) : v = stS lw s0 kd kb vb h (j + 1) hj := by
  subst hp hd; exact hv

theorem Ob_out (v : View sig .tc .vmem S1x8x4x256x512 .bf16) {L : List (View.Piece (Elt F) S1x8x4x256x512 .bf16)} {j : Fin 8} {h : Fin 4} {w st : Vec F S1x256x512 .f32}
    (hw : w = st) (H : Tools.At (s := S1x8x4x256x512) (Rect.unit (s := S1x8x4x256x512) ![0, 7 - j.1, h.1, 0, 0] S1x1x1x256x512.size (inbOut j h)) (k0_pay11 w) L) :
    Ob (v.read (Elt F) (v.writes (Elt F) v.junk L)) j h = k0_pay11 st := by
  subst hw; exact Ob_written v H

end Cert.KernelIdeal.St
-- ==== Proof.Values.lean ====
/-
  Facts of the extended-real reading that both calls and the reference use: literals, counters, reshapes.
-/
module

public import Idealize.ShloMosaic.Lib.ValueIdx
public import Idealize.ShloMosaic.Lib.ValueLayout
public import Idealize.ShloMosaic.Lib.Pointwise.Tactic
public import Idealize.ShloMosaic.Lib.Pipeline.Value

@[expose] public section

noncomputable section

namespace Cert.Values

open Idealize.ShloMosaic hiding ix0 ix1 ix2 ix3 ix4 ix5 eq_ix2 eq_ix3 eq_ix4
open Idealize.ShloMosaic.ValueIdx

theorem word_0 : Ideal.ofBits .f32 0x00000000#32 = ((0 : ℝ) : EReal) := by
  simp [Ideal.ofBits, Ideal.ieee, -EReal.coe_mul]

theorem word_1 : Ideal.ofBits .f32 0x3F800000#32 = ((1 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_255 : Ideal.ofBits .f32 0x437F0000#32 = ((255 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

theorem word_127 : Ideal.ofBits .f32 0x42FE0000#32 = ((127 : ℝ) : EReal) := by
  simp [Ideal.ofBits, Ideal.ieee, -EReal.coe_mul]; norm_num

/-- A small counter converted to a float is the counter. -/
theorem counter (n : ℕ) (h : n < 1024) : (FloatOps.sitofp .f32 (BitVec.ofNat 32 n) : Ideal .f32) = ((n : ℝ) : EReal) := by
  show ((((BitVec.ofNat 32 n).toInt : ℤ) : ℝ) : EReal) = _
  rw [BitVec.toInt_eq_toNat_of_lt (by simp only [BitVec.toNat_ofNat]; omega), BitVec.toNat_ofNat, Nat.mod_eq_of_lt (by omega)]
  simp

theorem cast_ab_111ab {α : Type} {a b : ℕ} (x : (⟨2, ![a, b]⟩ : Shape).Idx → α)
    (h : (⟨2, ![a, b]⟩ : Shape).ShapeCasts ⟨5, ![1, 1, 1, a, b]⟩) (i : Fin a) (j : Fin b) :
    shapeCast ⟨5, ![1, 1, 1, a, b]⟩ x h (ix5 0 0 0 i j) = x (ix2 i j) :=
  shapeCast_apply x h _ _ (by
    rw [Shape.rowMajor_val_five, Shape.rowMajor_val_two]
    show i.val * b + j.val = (((0 * 1 + 0) * 1 + 0) * a + i.val) * b + j.val
    simp only [Nat.zero_mul, Nat.zero_add])

theorem cast_111ab_ab {α : Type} {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 0 0 0 i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add])

theorem exp_mul (a b : ℝ) : Ideal.exp ((a : EReal) * (b : EReal)) = ((Real.exp (a * b) : ℝ) : EReal) := by
  rw [← EReal.coe_mul, Ideal.exp_coe]

/-- The mean of one head's components. -/
def mean (x : Fin 512 → EReal) : EReal := Ideal.div (∑ i, x i) (Ideal.ofBits .f32 0x44000000#32)

/-- One head's normalisation: the components less their mean, over the root of their variance and the literal. -/
def HN (x : Fin 512 → EReal) (e : Fin 512) : EReal :=
  (x e - mean x) * Ideal.rsqrt (mean (fun i => (x i - mean x) * (x i - mean x)) + Ideal.ofBits .f32 0x358637BD#32)

/-- A sum over three spans of 256. -/
theorem sum_768 (f : Fin 768 → EReal) : ∑ k, f k
    = (∑ j : Fin 256, f ⟨j.val, by omega⟩) + (∑ j : Fin 256, f ⟨256 + j.val, by omega⟩) + ∑ j : Fin 256, f ⟨512 + j.val, by omega⟩ := by
  have h1 := Fin.sum_univ_add (a := 512) (b := 256) f
  have h2 := Fin.sum_univ_add (a := 256) (b := 256) (fun i => f (Fin.castAdd 256 i))
  exact h1.trans (congrArg (· + _) h2)

end Cert.Values
-- ==== Proof.St.Ideal.lean ====
/-
  The state call over the extended reals: its payloads read at an index.
-/
module

public import proofs.«01_k».proof.Proof.St.Spec
public import proofs.«01_k».proof.Proof.Values

@[expose] public section

noncomputable section

namespace Cert.KernelIdeal.St

open Cert.KernelIdeal.Gen
open Idealize.ShloMosaic hiding ix0 ix1 ix2 ix3 ix4 ix5 eq_ix2 eq_ix3 eq_ix4
open Idealize.ShloMosaic.ValueIdx

open Cert.Values

/-- The product contracting the first axes, at an index. -/
theorem mm_apply (l : FVec Ideal S256x256 .bf16) (r : FVec Ideal S256x512 .bf16) (d : Fin 256) (e : Fin 512) :
    FloatOps.matmul dot_S256x256_S256x512_S256x512_0_0_1_1_n_n none l r (constant S256x512 .f32 0x00000000#32) (ix2 d e)
      = ∑ k : Fin 256, l (ix2 k d) * r (ix2 k e) := by
  rw [Ideal.matmul_constant_zero_apply]
  rw [← Equiv.sum_comp (contrEquiv1 dot_S256x256_S256x512_S256x512_0_0_1_1_n_n 256 rfl rfl).symm]
  refine Finset.sum_congr rfl fun k _ => ?_
  congr 2
  · funext a; fin_cases a <;> rfl
  · funext a; fin_cases a <;> rfl

theorem pay12_apply (lw : Elt Ideal .f32) (st : Vec Ideal S1x256x512 .f32) (k : Vec Ideal S1x256x256 .bf16) (kd : Vec Ideal S1x256x256 .f32)
    (v : Vec Ideal S1x256x512 .bf16) (d : Fin 256) (e : Fin 512) :
    k0_pay12 (F := Ideal) lw st k kd v (ix3 0 d e)
      = Ideal.exp (lw * ((256 : ℝ) : EReal)) * st (ix3 0 d e) + ∑ j : Fin 256, (k (ix3 0 j d) * kd (ix3 0 j d)) * v (ix3 0 j e) := by
  unfold k0_pay12 k0_pay10
  refine (shapeCast_ab_1ab_apply _ _ 0 d e).trans ?_
  refine congrArg₂ (· + ·) (congrArg₂ (· * ·) ?_ ?_) ?_
  · rw [← word_256]; rfl
  · exact shapeCast_1ab_ab_apply _ _ d e
  · refine (mm_apply _ _ d e).trans (Finset.sum_congr rfl fun j _ => ?_)
    refine congrArg₂ (· * ·) ?_ (shapeCast_1ab_ab_apply _ _ j e)
    exact congrArg₂ (fun x y : EReal => x * y) (shapeCast_1ab_ab_apply k shapeCasts_S1x256x256_S256x256 j d)
      (shapeCast_1ab_ab_apply kd shapeCasts_S1x256x256_S256x256 j d)

theorem pay11_apply (v : Vec Ideal S1x256x512 .f32) (d : Fin 256) (e : Fin 512) : k0_pay11 (F := Ideal) v (ix5 0 0 0 d e) = v (ix3 0 d e) := by
  unfold k0_pay11 k0_pay10
  refine (cast_ab_111ab _ _ d e).trans ?_
  exact shapeCast_1ab_ab_apply _ _ d e

theorem pay5_apply (lw : Elt Ideal .f32) (j d : Fin 256) : k0_pay5 (F := Ideal) lw (ix3 0 j d) = Ideal.exp (lw * (((j : ℕ) : ℝ) : EReal)) := by
  unfold k0_pay5 k0_pay4
  refine (shapeCast_ab_1ab_apply _ _ 0 j d).trans ?_
  refine congrArg (fun x => Ideal.exp (lw * x)) ?_
  refine Eq.trans ?_ (counter j.1 (by omega))
  exact congrArg (FloatOps.sitofp (F := Ideal) .f32) (iota_single_apply ..)

theorem S0_apply {F : FTy → Type} (x : Vec F S4x256x512 .f32) (h : Fin 4) (d : Fin 256) (e : Fin 512) : S0 x h (ix3 0 d e) = x (ix3 h d e) := by
  rw [S0, View.ld]
  congr 1
  funext a; apply Fin.ext
  match a with
  | ⟨0, _⟩ => show h.1 + 1 * 0 = h.1; omega
  | ⟨1, _⟩ => show 0 + 1 * d.1 = d.1; omega
  | ⟨2, _⟩ => show 0 + 1 * e.1 = e.1; omega

theorem pay3_apply (x : Vec Ideal S1x4x256x512 .f32) (h : Fin 4) (d : Fin 256) (e : Fin 512) : k0_pay3 (F := Ideal) x (ix3 h d e) = x (ix4 0 h d e) := by
  unfold k0_pay3
  exact (shapeCast_apply _ _ (ix3 h d e) (ix3 h d e) rfl).trans (shapeCast_1abc_abc_apply _ _ h d e)

theorem pay2_apply (x : Vec Ideal S4x256x512 .f32) (h : Fin 4) (d : Fin 256) (e : Fin 512) : k0_pay2 (F := Ideal) x (ix4 0 h d e) = x (ix3 h d e) := by
  unfold k0_pay2
  exact shapeCast_abc_1abc_apply _ _ 0 h d e

end Cert.KernelIdeal.St
-- ==== Proof.Decay.lean ====
/-
  Sums with decaying weights over the extended reals: a state carried chunk by chunk is a closed sum, whatever
  the length of the chunks, and so is what a position reads of it.
-/
module

public import Mathlib.Data.EReal.Operations
public import Mathlib.Analysis.SpecialFunctions.Exp
public import Mathlib.Algebra.BigOperators.Intervals
public import Mathlib.Algebra.BigOperators.Fin

@[expose] public section

noncomputable section

namespace Cert.Decay

open Finset Real

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A real factor distributes over a sum whose second term is real. -/
theorem mul_add_coe (x y : ℝ) (s : EReal) : (x : EReal) * (s + y) = x * s + ((x * y : ℝ) : EReal) := by
  induction s with
  | bot =>
    rcases lt_trichotomy x 0 with h | h | h
    · rw [EReal.bot_add, EReal.coe_mul_bot_of_neg h, EReal.top_add_coe]
    · subst h; simp
    · rw [EReal.bot_add, EReal.coe_mul_bot_of_pos h, EReal.bot_add]
  | coe s => rw [← EReal.coe_add, ← EReal.coe_mul, ← EReal.coe_mul, ← EReal.coe_add, mul_add]
  | top =>
    rcases lt_trichotomy x 0 with h | h | h
    · rw [EReal.top_add_coe, EReal.coe_mul_top_of_neg h, EReal.bot_add]
    · subst h; simp
    · rw [EReal.top_add_coe, EReal.coe_mul_top_of_pos h, EReal.top_add_coe]

theorem scale (x p y : ℝ) (s : EReal) : (x : EReal) * (p * s + y) = ((x * p : ℝ) : EReal) * s + ((x * y : ℝ) : EReal) := by
  rw [mul_add_coe, ← mul_assoc, ← EReal.coe_mul]

/-- The forward state before position `N`: the entry state and all earlier positions, decayed. -/
def FS (a : ℝ) (s0 : EReal) (K V : ℕ → ℝ) (N : ℕ) : EReal :=
  (exp (a * N) : EReal) * s0 + ((∑ m ∈ range N, exp (a * ((N : ℝ) - 1 - m)) * K m * V m : ℝ) : EReal)

/-- The reverse state at position `N`: the entry state and all positions from `N` on, decayed. -/
def RS (r : ℝ) (s0 : EReal) (K V : ℕ → ℝ) (T N : ℕ) : EReal :=
  (exp (r * ((T : ℝ) - N)) : EReal) * s0 + ((∑ m ∈ Ico N T, exp (r * ((m : ℝ) - N)) * K m * V m : ℝ) : EReal)

variable (a r : ℝ) (s0 : EReal) (K V : ℕ → ℝ) (T N C : ℕ)

theorem FS_zero : FS a s0 K V 0 = s0 := by simp [FS]

theorem RS_top : RS r s0 K V T T = s0 := by simp [RS]

theorem FS_step : FS a s0 K V (N + C) = (exp (a * C) : EReal) * FS a s0 K V N
    + ∑ j : Fin C, ((K (N + j) : EReal) * (exp (a * ((C : ℝ) - 1 - (j : ℕ))) : EReal)) * (V (N + j) : EReal) := by
  simp only [← EReal.coe_mul, ← coe_sum]
  unfold FS
  rw [scale, add_assoc, ← EReal.coe_add, ← exp_add, ← mul_add]
  congr 2
  · congr 3; push_cast; ring
  · rw [← Fin.sum_univ_eq_sum_range, ← Fin.sum_univ_eq_sum_range, Fin.sum_univ_add, mul_sum]
    congr 1
    · refine sum_congr rfl fun m _ => ?_
      rw [← mul_assoc, ← mul_assoc, ← exp_add, ← mul_add]
      simp only [Fin.val_castAdd]
      congr 4; push_cast; ring
    · refine sum_congr rfl fun m _ => ?_
      simp only [Fin.val_natAdd]
      rw [mul_comm (K _)]
      congr 4; push_cast; ring

theorem RS_step (h : N + C ≤ T) : RS r s0 K V T N = (exp (r * C) : EReal) * RS r s0 K V T (N + C)
    + ∑ j : Fin C, ((K (N + j) : EReal) * (exp (r * ((j : ℕ) : ℝ)) : EReal)) * (V (N + j) : EReal) := by
  simp only [← EReal.coe_mul, ← coe_sum]
  unfold RS
  rw [scale, add_assoc, ← EReal.coe_add, ← exp_add, ← mul_add]
  congr 2
  · congr 3; push_cast; ring
  · rw [← sum_Ico_consecutive _ (Nat.le_add_right N C) h, add_comm, mul_sum]
    congr 1
    · refine sum_congr rfl fun m _ => ?_
      rw [← mul_assoc, ← mul_assoc, ← exp_add, ← mul_add]
      congr 4; push_cast; ring
    · rw [sum_Ico_eq_sum_range, Nat.add_sub_cancel_left, ← Fin.sum_univ_eq_sum_range (fun k => exp (r * (((N + k : ℕ) : ℝ) - N)) * K (N + k) * V (N + k))]
      refine sum_congr rfl fun m _ => ?_
      rw [mul_comm (K _)]
      congr 4; push_cast; ring

/-- The same with the chunk's positions counted from its end. -/
theorem RS_step_rev (h : N + C ≤ T) : RS r s0 K V T N = (exp (r * C) : EReal) * RS r s0 K V T (N + C)
    + ∑ j : Fin C, ((K (N + (C - 1 - j)) : EReal) * (exp (r * ((C : ℝ) - 1 - (j : ℕ))) : EReal)) * (V (N + (C - 1 - j)) : EReal) := by
  rw [RS_step r s0 K V T N C h, ← Equiv.sum_comp Fin.revPerm]
  congr 1
  refine sum_congr rfl fun j _ => ?_
  have hj : ((Fin.revPerm j : Fin C) : ℕ) = C - 1 - j := by rw [Fin.revPerm_apply, Fin.val_rev]; omega
  rw [hj]
  congr 4
  have := j.2
  rw [Nat.cast_sub (by omega), Nat.cast_sub (by omega)]; norm_num

section Out

variable {D : ℕ} (q : Fin D → ℝ) (k : ℕ → Fin D → ℝ) (v : ℕ → ℝ) (sf sr : Fin D → EReal)

/-- What a query reads of a state that is an entry state and a sum, both scaled. -/
theorem cross (w p : ℝ) (c : ℕ → ℝ) (M : Finset ℕ) :
    ∑ d, ((q d : EReal) * (w : EReal)) * ((p : EReal) * sf d + ((∑ m ∈ M, c m * k m d * v m : ℝ) : EReal))
      = (∑ d, ((q d * (w * p) : ℝ) : EReal) * sf d) + ((∑ m ∈ M, (w * c m) * (∑ d, q d * k m d) * v m : ℝ) : EReal) := by
  have h : ∀ d, ((q d : EReal) * (w : EReal)) * ((p : EReal) * sf d + ((∑ m ∈ M, c m * k m d * v m : ℝ) : EReal))
      = ((q d * (w * p) : ℝ) : EReal) * sf d + ((∑ m ∈ M, (q d * w) * (c m * k m d * v m) : ℝ) : EReal) := by
    intro d
    rw [← EReal.coe_mul, scale, mul_sum, mul_assoc]
  rw [sum_congr rfl fun d _ => h d, sum_add_distrib, ← coe_sum, sum_comm]
  congr 2
  refine sum_congr rfl fun m _ => ?_
  rw [mul_sum, sum_mul]
  exact sum_congr rfl fun d _ => by ring

/-- The weight of position `m` in the output at `n`. -/
def wt (n m : ℕ) : ℝ := if m ≤ n then exp (a * ((n : ℝ) - m)) else exp (r * ((m : ℝ) - n))

/-- The output at position `n`: both entry states, and all positions with their weights. -/
def O (n : ℕ) : EReal :=
  ((∑ d, ((q d * exp (a * ((n : ℝ) + 1)) : ℝ) : EReal) * sf d) + (∑ d, ((q d * exp (r * ((T : ℝ) - n)) : ℝ) : EReal) * sr d))
    + ((∑ m ∈ range T, wt a r n m * (∑ d, q d * k m d) * v m : ℝ) : EReal)

theorem crossF (i : ℕ) : ∑ d, ((q d : EReal) * (exp (a * ((i : ℝ) + 1)) : EReal)) * FS a (sf d) (fun m => k m d) v N
    = (∑ d, ((q d * exp (a * (((N + i : ℕ) : ℝ) + 1)) : ℝ) : EReal) * sf d)
      + ((∑ m ∈ range N, wt a r (N + i) m * (∑ d, q d * k m d) * v m : ℝ) : EReal) := by
  unfold FS
  rw [cross q k v sf (exp (a * ((i : ℝ) + 1))) (exp (a * N)) (fun m => exp (a * ((N : ℝ) - 1 - m))) (range N)]
  simp only [← exp_add, ← mul_add]
  refine congrArg₂ (· + ·) (sum_congr rfl fun d _ => ?_) (congrArg _ (sum_congr rfl fun m hm => ?_))
  · congr 4; push_cast; ring
  · rw [mem_range] at hm
    rw [wt, if_pos (by omega)]
    congr 4; push_cast; ring

theorem crossR (i : ℕ) (hi : i < C) : ∑ d, ((q d : EReal) * (exp (r * ((C : ℝ) - i)) : EReal)) * RS r (sr d) (fun m => k m d) v T (N + C)
    = (∑ d, ((q d * exp (r * ((T : ℝ) - (N + i : ℕ))) : ℝ) : EReal) * sr d)
      + ((∑ m ∈ Ico (N + C) T, wt a r (N + i) m * (∑ d, q d * k m d) * v m : ℝ) : EReal) := by
  unfold RS
  rw [cross q k v sr (exp (r * ((C : ℝ) - i))) (exp (r * ((T : ℝ) - (N + C : ℕ)))) (fun m => exp (r * ((m : ℝ) - (N + C : ℕ)))) (Ico (N + C) T)]
  simp only [← exp_add, ← mul_add]
  refine congrArg₂ (· + ·) (sum_congr rfl fun d _ => ?_) (congrArg _ (sum_congr rfl fun m hm => ?_))
  · congr 4; push_cast; ring
  · rw [mem_Ico] at hm
    rw [wt, if_neg (by omega)]
    congr 4; push_cast; ring

/-- What a query reads of its own chunk, whatever the weights. -/
theorem intra (u : ℕ → ℝ) : ∑ j : Fin C, ((∑ d, (q d : EReal) * (k (N + j) d : EReal)) * (u j : EReal)) * (v (N + j) : EReal)
    = ((∑ j ∈ range C, u j * (∑ d, q d * k (N + j) d) * v (N + j) : ℝ) : EReal) := by
  simp only [← EReal.coe_mul, ← coe_sum]
  rw [← Fin.sum_univ_eq_sum_range (fun j => u j * (∑ d, q d * k (N + j) d) * v (N + j))]
  congr 1
  exact sum_congr rfl fun j _ => by ring

theorem sum_chunk (f : ℕ → ℝ) : ∑ j ∈ range C, f (N + j) = ∑ m ∈ Ico N (N + C), f m := by
  rw [sum_Ico_eq_sum_range, Nat.add_sub_cancel_left]

theorem sum_three (h : N + C ≤ T) (f : ℕ → ℝ) : ∑ m ∈ range T, f m = ∑ m ∈ range N, f m + ∑ m ∈ Ico N (N + C), f m + ∑ m ∈ Ico (N + C) T, f m := by
  rw [← sum_range_add_sum_Ico f (show N ≤ T by omega), ← sum_Ico_consecutive f (Nat.le_add_right N C) h, add_assoc]

/-- The output as one chunk computes it. -/
theorem O_chunk (h : N + C ≤ T) (i : ℕ) (hi : i < C) (u : ℕ → ℝ) (hu : ∀ j, j < C → u j = wt a r (N + i) (N + j)) :
    (∑ j : Fin C, ((∑ d, (q d : EReal) * (k (N + j) d : EReal)) * (u j : EReal)) * (v (N + j) : EReal))
      + (∑ d, ((q d : EReal) * (exp (a * ((i : ℝ) + 1)) : EReal)) * FS a (sf d) (fun m => k m d) v N)
      + (∑ d, ((q d : EReal) * (exp (r * ((C : ℝ) - i)) : EReal)) * RS r (sr d) (fun m => k m d) v T (N + C))
      = O a r T q k v sf sr (N + i) := by
  rw [intra, crossF a r, crossR a r _ _ _ _ _ _ _ i hi, O, sum_three T N C h, EReal.coe_add, EReal.coe_add, ← sum_chunk N C fun m => wt a r (N + i) m * (∑ d, q d * k m d) * v m,
    sum_congr rfl fun j hj => by rw [hu j (mem_range.mp hj)]]
  abel

/-- The output as two passes compute it, the second over the reversed positions. -/
theorem O_passes (h : N + C ≤ T) (i : ℕ) (hi : i < C) (u w : ℕ → ℝ) (hu : ∀ j, j < C → u j + w (C - 1 - j) = wt a r (N + i) (N + j)) :
    ((∑ j : Fin C, ((∑ d, (q d : EReal) * (k (N + j) d : EReal)) * (u j : EReal)) * (v (N + j) : EReal))
      + (∑ d, ((q d : EReal) * (exp (a * ((i : ℝ) + 1)) : EReal)) * FS a (sf d) (fun m => k m d) v N))
    + ((∑ j : Fin C, ((∑ d, (q d : EReal) * (k (N + (C - 1 - j)) d : EReal)) * (w j : EReal)) * (v (N + (C - 1 - j)) : EReal))
      + (∑ d, ((q d : EReal) * (exp (r * (((C - 1 - i : ℕ) : ℝ) + 1)) : EReal)) * RS r (sr d) (fun m => k m d) v T (N + C)))
      = O a r T q k v sf sr (N + i) := by
  have e : (((C - 1 - i : ℕ) : ℝ) + 1) = (C : ℝ) - i := by
    rw [Nat.cast_sub (by omega), Nat.cast_sub (by omega)]; push_cast; ring
  have e2 : (∑ j : Fin C, ((∑ d, (q d : EReal) * (k (N + (C - 1 - j)) d : EReal)) * (w j : EReal)) * (v (N + (C - 1 - j)) : EReal))
      = ∑ j : Fin C, ((∑ d, (q d : EReal) * (k (N + j) d : EReal)) * (w (C - 1 - j) : EReal)) * (v (N + j) : EReal) := by
    rw [← Equiv.sum_comp Fin.revPerm]
    refine sum_congr rfl fun j _ => ?_
    have hj : ((Fin.revPerm j : Fin C) : ℕ) = C - 1 - j := by rw [Fin.revPerm_apply, Fin.val_rev]; omega
    have := j.2
    rw [hj, show C - 1 - (C - 1 - (j : ℕ)) = j by omega]
  rw [e, e2, intra N C q k v (fun j => w (C - 1 - j)), ← O_chunk a r T N C q k v sf sr h i hi (fun j => u j + w (C - 1 - j)) hu, intra N C q k v u, intra N C q k v (fun j => u j + w (C - 1 - j))]
  simp only [add_mul, sum_add_distrib, EReal.coe_add]
  abel

/-- The output as two passes compute it, both reading a chunk's positions in order. -/
theorem O_both (h : N + C ≤ T) (i : ℕ) (hi : i < C) (u w : ℕ → ℝ) (hu : ∀ j, j < C → u j + w j = wt a r (N + i) (N + j)) :
    ((∑ j : Fin C, ((∑ d, (q d : EReal) * (k (N + j) d : EReal)) * (u j : EReal)) * (v (N + j) : EReal))
      + (∑ d, ((q d : EReal) * (exp (a * ((i : ℝ) + 1)) : EReal)) * FS a (sf d) (fun m => k m d) v N))
    + ((∑ j : Fin C, ((∑ d, (q d : EReal) * (k (N + j) d : EReal)) * (w j : EReal)) * (v (N + j) : EReal))
      + (∑ d, ((q d : EReal) * (exp (r * ((C : ℝ) - i)) : EReal)) * RS r (sr d) (fun m => k m d) v T (N + C)))
      = O a r T q k v sf sr (N + i) := by
  rw [← O_chunk a r T N C q k v sf sr h i hi (fun j => u j + w j) hu, intra N C q k v u, intra N C q k v w, intra N C q k v (fun j => u j + w j)]
  simp only [add_mul, sum_add_distrib, EReal.coe_add]
  abel

end Out

end Cert.Decay
-- ==== Proof.Ret.lean ====
/-
  The retention's closed forms: states and outputs of one batch row and head as sums over the positions of the sequence,
  over real queries, keys, values and decay logarithms and any entry states.
-/
module

public import proofs.«01_k».proof.Proof.Decay

@[expose] public section

noncomputable section

namespace Cert.Ret

open Cert.Decay

variable (u : ℕ → ℕ → ℕ → ℝ) (lg : ℕ → ℕ → ℝ) (sf sr : ℕ → ℕ → ℕ → ℕ → EReal)

/-- A query's component. -/
def qq (b h n d : ℕ) : ℝ := u b n (h * 256 + d)
/-- A key's component. -/
def kk (b h n d : ℕ) : ℝ := u b n (1024 + (h * 256 + d))
/-- A value's component. -/
def vv (b h n e : ℕ) : ℝ := u b n (2048 + (h * 512 + e))

/-- The forward state before position `N`. -/
def SF (b h d e N : ℕ) : EReal := FS (lg 0 h) (sf b h d e) (fun m => kk u b h m d) (fun m => vv u b h m e) N

/-- The reverse state at position `N`. -/
def SR (b h d e N : ℕ) : EReal := RS (lg 1 h) (sr b h d e) (fun m => kk u b h m d) (fun m => vv u b h m e) 16384 N

/-- The output of position `n`, before its head's normalisation. -/
def OO (b h n e : ℕ) : EReal :=
  O (D := 256) (lg 0 h) (lg 1 h) 16384 (fun d => qq u b h n d) (fun m d => kk u b h m d) (fun m => vv u b h m e)
    (fun d => sf b h d e) (fun d => sr b h d e) n

variable {u lg sf sr}

theorem at2 {a b a' b' : ℕ} (h0 : a = a') (h1 : b = b') : ((lg a b : ℝ) : EReal) = ((lg a' b' : ℝ) : EReal) := by subst h0 h1; rfl

theorem at3 {a b c a' b' c' : ℕ} (h0 : a = a') (h1 : b = b') (h2 : c = c') : ((u a b c : ℝ) : EReal) = ((u a' b' c' : ℝ) : EReal) := by
  subst h0 h1 h2; rfl

theorem at4 {a b c d a' b' c' d' : ℕ} (h0 : a = a') (h1 : b = b') (h2 : c = c') (h3 : d = d') : sr a b c d = sr a' b' c' d' := by
  subst h0 h1 h2 h3; rfl

end Cert.Ret
-- ==== Proof.St.Reads.lean ====
/-
  The state call: its windows' blocks as parts of the arrays.
-/
module

public import proofs.«01_k».proof.Proof.St.Frame
public import proofs.«01_k».proof.Proof.St.Ideal
public import proofs.«01_k».proof.Proof.Ret
public import Idealize.ShloMosaic.Lib.Pipeline.ValueKit

@[expose] public section

set_option maxRecDepth 16384

noncomputable section

namespace Cert.KernelIdeal.St

open Cert.KernelIdeal.Gen Cert.Ret
open Idealize.ShloMosaic hiding ix0 ix1 ix2 ix3 ix4 ix5 eq_ix2 eq_ix3 eq_ix4
open Idealize.ShloMosaic.ValueIdx
open Idealize.ShloMosaic.TcCoe

variable (V : (c : Dev nD) → (b : Ref sig .tc) → Buf (Elt Ideal) ((c : Thread nD τ).loc b)) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 7 - t.val % 8 ∧ win0_1.index t (2 : Fin 3) = 1 :=
  (by decide +kernel : ∀ t : Fin grid0.N, _)
theorem idx2 : ∀ t : Fin cfg0.N, win0_2.index t (0 : Fin 3) = t.val / 8 ∧ win0_2.index t (1 : Fin 3) = 7 - t.val % 8 ∧ win0_2.index t (2 : Fin 3) = 1 :=
  (by decide +kernel : ∀ t : Fin grid0.N, _)
theorem idx3 : ∀ t : Fin cfg0.N, win0_3.index t (0 : Fin 4) = t.val / 8 ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 5) = t.val / 8 ∧ win0_4.index t (1 : Fin 5) = 7 - t.val % 8 ∧ win0_4.index t (2 : Fin 5) = 0 ∧ win0_4.index t (3 : Fin 5) = 0 ∧ win0_4.index t (4 : Fin 5) = 0 :=
  (by decide +kernel : ∀ t : Fin grid0.N, _)
theorem idx5 : ∀ t : Fin cfg0.N, win0_5.index t (0 : Fin 4) = t.val / 8 ∧ win0_5.index t (1 : Fin 4) = 0 ∧ win0_5.index t (2 : Fin 4) = 0 ∧ win0_5.index t (3 : Fin 4) = 0 :=
  (by decide +kernel : ∀ t : Fin grid0.N, _)

variable {u : ℕ → ℕ → ℕ → ℝ} {lg : ℕ → ℕ → ℝ} {sr : ℕ → ℕ → ℕ → ℕ → EReal}

theorem rd0 (hl : ∀ y : S2x4.Idx, V c main_arg1 y = ((lg (y 0).val (y 1).val : ℝ) : EReal)) (t : Fin cfg0.N) (h : Fin 4) :
    Lw (F := Ideal) (iblk V c 0 t) h = ((lg 1 h.val : ℝ) : EReal) := by
  unfold Lw View.ld
  show V c main_arg1 (((cfg0.win 0).blk t).view.emb _) = _
  refine (hl _).trans (at2 ?_ ?_)
  · exact Tools.emb_at win0_0 (idx0 t).1 (show 0 * 2 + (1 + 1 * 0) = 1 by omega)
  · exact Tools.emb_at win0_0 (idx0 t).2 (show 0 * 4 + (h.val + 1 * 0) = h.val by omega)

theorem rd1 (hu : ∀ y : S2x16384x6144.Idx, V c main_arg0 y = ((u (y 0).val (y 1).val (y 2).val : ℝ) : EReal)) (t : Fin cfg0.N)
    (j : Fin 8) (h : Fin 4) (p d : Fin 256) :
    Kb (F := Ideal) (iblk V c 1 t) j h (ix3 0 p d) = ((kk u (t.val / 8) h.val ((7 - t.val % 8) * 2048 + (7 - j.val) * 256 + p.val) d.val : ℝ) : EReal) := by
  unfold Kb View.ld kk
  show V c main_arg0 (((cfg0.win 1).blk t).view.emb _) = _
  refine (hu _).trans (at3 ?_ ?_ ?_)
  · exact Tools.emb_at win0_1 (idx1 t).1 (show t.val / 8 * 1 + (0 + 1 * 0) = _ by omega)
  · exact Tools.emb_at win0_1 (idx1 t).2.1 (show (7 - t.val % 8) * 2048 + ((7 - j.val) * 256 + 1 * p.val) = _ by omega)
  · exact Tools.emb_at win0_1 (idx1 t).2.2 (show 1 * 1024 + (h.val * 256 + 1 * d.val) = _ by omega)

theorem rd2 (hu : ∀ y : S2x16384x6144.Idx, V c main_arg0 y = ((u (y 0).val (y 1).val (y 2).val : ℝ) : EReal)) (t : Fin cfg0.N)
    (j : Fin 8) (h : Fin 4) (p : Fin 256) (e : Fin 512) :
    Vb (F := Ideal) (iblk V c 2 t) j h (ix3 0 p e) = ((vv u (t.val / 8) h.val ((7 - t.val % 8) * 2048 + (7 - j.val) * 256 + p.val) e.val : ℝ) : EReal) := by
  unfold Vb View.ld vv
  show V c main_arg0 (((cfg0.win 2).blk t).view.emb _) = _
  refine (hu _).trans (at3 ?_ ?_ ?_)
  · exact Tools.emb_at win0_2 (idx2 t).1 (show t.val / 8 * 1 + (0 + 1 * 0) = _ by omega)
  · exact Tools.emb_at win0_2 (idx2 t).2.1 (show (7 - t.val % 8) * 2048 + ((7 - j.val) * 256 + 1 * p.val) = _ by omega)
  · exact Tools.emb_at win0_2 (idx2 t).2.2 (show 1 * 2048 + (h.val * 512 + 1 * e.val) = _ by omega)

theorem rd3 (hs : ∀ y : S2x4x256x512.Idx, (V c main_arg3 y : EReal) = sr (y 0).val (y 1).val (y 2).val (y 3).val) (t : Fin cfg0.N)
    (h : Fin 4) (d : Fin 256) (e : Fin 512) :
    S0 (F := Ideal) (k0_pay3 (F := Ideal) (L4 (iblk V c 3 t))) h (ix3 0 d e) = sr (t.val / 8) h.val d.val e.val := by
  rw [S0_apply, pay3_apply, L4_eq]
  show V c main_arg3 (((cfg0.win 3).blk t).view.emb _) = _
  refine (hs _).trans (at4 ?_ ?_ ?_ ?_)
  · exact Tools.emb_at win0_3 (idx3 t).1 (show t.val / 8 * 1 + 0 = _ by omega)
  · exact Tools.emb_at win0_3 (idx3 t).2.1 (show 0 * 4 + h.val = _ by omega)
  · exact Tools.emb_at win0_3 (idx3 t).2.2.1 (show 0 * 256 + d.val = _ by omega)
  · exact Tools.emb_at win0_3 (idx3 t).2.2.2 (show 0 * 512 + e.val = _ by omega)

end Cert.KernelIdeal.St
-- ==== Proof.St.BodyA.lean ====
/-
  The state call: what the stores of one grid point leave, case A.
-/
module

public import proofs.«01_k».proof.Proof.St.Spec

@[expose] public section

set_option maxRecDepth 16384

noncomputable section

namespace Cert.KernelIdeal.St

open Cert.KernelIdeal.Gen Cert.Tools
open Idealize.ShloMosaic Idealize.ShloMosaic.TcCoe Idealize.ShloMosaic.Tactic

open kernelRun0_A

variable {F : FTy → Type} [FloatOps F]

variable (c : Dev nD) (i : grid0.Coords) (a2 : Memref sig .tc .smem S2x4 .f32) (h2 : a2.IsWhole) (a3 : Memref sig .tc .vmem S1x2048x1024 .bf16) (h3 : a3.IsWhole) (a4 : Memref sig .tc .vmem S1x2048x2048 .bf16) (h4 : a4.IsWhole) (a5 : Memref sig .tc .vmem S1x4x256x512 .f32) (h5 : a5.IsWhole) (a6 : Memref sig .tc .vmem S1x8x4x256x512 .bf16) (h6 : a6.IsWhole) (a7 : Memref sig .tc .vmem S1x4x256x512 .f32) (h7 : a7.IsWhole) (a8 : Memref sig .tc .vmem S4x256x512 .f32) (h8 : a8.IsWhole) (a9 : Memref sig .tc .vmem S4x256x256 .f32) (h9 : a9.IsWhole) (hc0 : cond0_0 i) (hc1 : ¬cond0_1 i) (x0 : Vec F S2x4 .f32) (x1 : Vec F S1x2048x1024 .bf16) (x2 : Vec F S1x2048x2048 .bf16) (x3 : Vec F S1x4x256x512 .f32)

/-- The state of one head after `j` subchunks, over the blocks this point reads. -/
abbrev A_st (h : Fin 4) (j : ℕ) (hj : j ≤ 8 := by omega) : Vec F S1x256x512 .f32 := stS (Lw (a2.view.read (Elt F) (h2.unread x0))) (S0 (k0_pay3 (L4 (a5.view.read (Elt F) (h5.unread x3))))) (fun h => k0_pay5 (Lw (a2.view.read (Elt F) (h2.unread x0)) h)) (Kb (a3.view.read (Elt F) (h3.unread x1))) (Vb (a4.view.read (Elt F) (h4.unread x2))) h j hj

theorem A_kd_0 : sl.v16 c a2 h2 a9 x0 = (fun h => k0_pay5 (Lw (a2.view.read (Elt F) (h2.unread x0)) h)) 0 :=
  readCov_at a9.view ((.skip rfl (.skip rfl (.skip rfl .here))))

theorem A_kd_1 : sl.v42 c a2 h2 a9 x0 = (fun h => k0_pay5 (Lw (a2.view.read (Elt F) (h2.unread x0)) h)) 1 :=
  readCov_at a9.view ((.skip rfl (.skip rfl .here)))

theorem A_kd_2 : sl.v68 c a2 h2 a9 x0 = (fun h => k0_pay5 (Lw (a2.view.read (Elt F) (h2.unread x0)) h)) 2 :=
  readCov_at a9.view ((.skip rfl .here))

theorem A_kd_3 : sl.v94 c a2 h2 a9 x0 = (fun h => k0_pay5 (Lw (a2.view.read (Elt F) (h2.unread x0)) h)) 3 :=
  readCov_at a9.view (.here)

theorem A_0_0 : sl.v7 c a5 h5 a8 x3 = A_st a2 h2 a3 h3 a4 h4 a5 h5 x0 x1 x2 x3 0 0 :=
  S0_filled (h := 0) a8.view (.here zero3)

theorem A_0_1 : sl.v33 c a2 h2 a3 h3 a4 h4 a5 h5 a8 a9 x0 x1 x2 x3 = A_st a2 h2 a3 h3 a4 h4 a5 h5 x0 x1 x2 x3 1 0 :=
  S0_filled (h := 1) a8.view (.skip rfl (.here zero3))

theorem A_0_2 : sl.v59 c a2 h2 a3 h3 a4 h4 a5 h5 a8 a9 x0 x1 x2 x3 = A_st a2 h2 a3 h3 a4 h4 a5 h5 x0 x1 x2 x3 2 0 :=
  S0_filled (h := 2) a8.view (.skip rfl (.skip rfl (.here zero3)))

theorem A_0_3 : sl.v85 c a2 h2 a3 h3 a4 h4 a5 h5 a8 a9 x0 x1 x2 x3 = A_st a2 h2 a3 h3 a4 h4 a5 h5 x0 x1 x2 x3 3 0 :=
  S0_filled (h := 3) a8.view (.skip rfl (.skip rfl (.skip rfl (.here zero3))))

theorem A_1_0 : sl.v111 c a2 h2 a3 h3 a4 h4 a5 h5 a8 a9 x0 x1 x2 x3 = A_st a2 h2 a3 h3 a4 h4 a5 h5 x0 x1 x2 x3 0 1 :=
  stS_step 0 0 (by omega) (A_0_0 (c := c) (a8 := a8) ..) (A_kd_0 (c := c) (a9 := a9) ..) (readCov_at3 a8.view rfl rfl rfl)

theorem A_1_1 : sl.v137 c a2 h2 a3 h3 a4 h4 a5 h5 a8 a9 x0 x1 x2 x3 = A_st a2 h2 a3 h3 a4 h4 a5 h5 x0 x1 x2 x3 1 1 :=
  stS_step 1 0 (by omega) (A_0_1 (c := c) (a8 := a8) (a9 := a9) ..) (A_kd_1 (c := c) (a9 := a9) ..) (readCov_at3 a8.view rfl rfl rfl)

theorem A_1_2 : sl.v163 c a2 h2 a3 h3 a4 h4 a5 h5 a8 a9 x0 x1 x2 x3 = A_st a2 h2 a3 h3 a4 h4 a5 h5 x0 x1 x2 x3 2 1 :=
  stS_step 2 0 (by omega) (A_0_2 (c := c) (a8 := a8) (a9 := a9) ..) (A_kd_2 (c := c) (a9 := a9) ..) (readCov_at3 a8.view rfl rfl rfl)

theorem A_1_3 : sl.v189 c a2 h2 a3 h3 a4 h4 a5 h5 a8 a9 x0 x1 x2 x3 = A_st a2 h2 a3 h3 a4 h4 a5 h5 x0 x1 x2 x3 3 1 :=
  stS_step 3 0 (by omega) (A_0_3 (c := c) (a8 := a8) (a9 := a9) ..) (A_kd_3 (c := c) (a9 := a9) ..) (readCov_at3 a8.view rfl rfl rfl)

theorem A_2_0 : sl.v215 c a2 h2 a3 h3 a4 h4 a5 h5 a8 a9 x0 x1 x2 x3 = A_st a2 h2 a3 h3 a4 h4 a5 h5 x0 x1 x2 x3 0 2 :=
  stS_step 0 1 (by omega) (A_1_0 (c := c) (a8 := a8) (a9 := a9) ..) (A_kd_0 (c := c) (a9 := a9) ..) (readCov_at3 a8.view rfl rfl rfl)

theorem A_2_1 : sl.v241 c a2 h2 a3 h3 a4 h4 a5 h5 a8 a9 x0 x1 x2 x3 = A_st a2 h2 a3 h3 a4 h4 a5 h5 x0 x1 x2 x3 1 2 :=
  stS_step 1 1 (by omega) (A_1_1 (c := c) (a8 := a8) (a9 := a9) ..) (A_kd_1 (c := c) (a9 := a9) ..) (readCov_at3 a8.view rfl rfl rfl)

theorem A_2_2 : sl.v267 c a2 h2 a3 h3 a4 h4 a5 h5 a8 a9 x0 x1 x2 x3 = A_st a2 h2 a3 h3 a4 h4 a5 h5 x0 x1 x2 x3 2 2 :=
  stS_step 2 1 (by omega) (A_1_2 (c := c) (a8 := a8) (a9 := a9) ..) (A_kd_2 (c := c) (a9 := a9) ..) (readCov_at3 a8.view rfl rfl rfl)

theorem A_2_3 : sl.v293 c a2 h2 a3 h3 a4 h4 a5 h5 a8 a9 x0 x1 x2 x3 = A_st a2 h2 a3 h3 a4 h4 a5 h5 x0 x1 x2 x3 3 2 :=
  stS_step 3 1 (by omega) (A_1_3 (c := c) (a8 := a8) (a9 := a9) ..) (A_kd_3 (c := c) (a9 := a9) ..) (readCov_at3 a8.view rfl rfl rfl)

theorem A_3_0 : sl.v319 c a2 h2 a3 h3 a4 h4 a5 h5 a8 a9 x0 x1 x2 x3 = A_st a2 h2 a3 h3 a4 h4 a5 h5 x0 x1 x2 x3 0 3 :=
  stS_step 0 2 (by omega) (A_2_0 (c := c) (a8 := a8) (a9 := a9) ..) (A_kd_0 (c := c) (a9 := a9) ..) (readCov_at3 a8.view rfl rfl rfl)

theorem A_3_1 : sl.v345 c a2 h2 a3 h3 a4 h4 a5 h5 a8 a9 x0 x1 x2 x3 = A_st a2 h2 a3 h3 a4 h4 a5 h5 x0 x1 x2 x3 1 3 :=
  stS_step 1 2 (by omega) (A_2_1 (c := c) (a8 := a8) (a9 := a9) ..) (A_kd_1 (c := c) (a9 := a9) ..) (readCov_at3 a8.view rfl rfl rfl)

theorem A_3_2 : sl.v371 c a2 h2 a3 h3 a4 h4 a5 h5 a8 a9 x0 x1 x2 x3 = A_st a2 h2 a3 h3 a4 h4 a5 h5 x0 x1 x2 x3 2 3 :=
  stS_step 2 2 (by omega) (A_2_2 (c := c) (a8 := a8) (a9 := a9) ..) (A_kd_2 (c := c) (a9 := a9) ..) (readCov_at3 a8.view rfl rfl rfl)

theorem A_3_3 : sl.v397 c a2 h2 a3 h3 a4 h4 a5 h5 a8 a9 x0 x1 x2 x3 = A_st a2 h2 a3 h3 a4 h4 a5 h5 x0 x1 x2 x3 3 3 :=
  stS_step 3 2 (by omega) (A_2_3 (c := c) (a8 := a8) (a9 := a9) ..) (A_kd_3 (c := c) (a9 := a9) ..) (readCov_at3 a8.view rfl rfl rfl)

theorem A_4_0 : sl.v423 c a2 h2 a3 h3 a4 h4 a5 h5 a8 a9 x0 x1 x2 x3 = A_st a2 h2 a3 h3 a4 h4 a5 h5 x0 x1 x2 x3 0 4 :=
  stS_step 0 3 (by omega) (A_3_0 (c := c) (a8 := a8) (a9 := a9) ..) (A_kd_0 (c := c) (a9 := a9) ..) (readCov_at3 a8.view rfl rfl rfl)

theorem A_4_1 : sl.v449 c a2 h2 a3 h3 a4 h4 a5 h5 a8 a9 x0 x1 x2 x3 = A_st a2 h2 a3 h3 a4 h4 a5 h5 x0 x1 x2 x3 1 4 :=
  stS_step 1 3 (by omega) (A_3_1 (c := c) (a8 := a8) (a9 := a9) ..) (A_kd_1 (c := c) (a9 := a9) ..) (readCov_at3 a8.view rfl rfl rfl)

theorem A_4_2 : sl.v475 c a2 h2 a3 h3 a4 h4 a5 h5 a8 a9 x0 x1 x2 x3 = A_st a2 h2 a3 h3 a4 h4 a5 h5 x0 x1 x2 x3 2 4 :=
  stS_step 2 3 (by omega) (A_3_2 (c := c) (a8 := a8) (a9 := a9) ..) (A_kd_2 (c := c) (a9 := a9) ..) (readCov_at3 a8.view rfl rfl rfl)

theorem A_4_3 : sl.v501 c a2 h2 a3 h3 a4 h4 a5 h5 a8 a9 x0 x1 x2 x3 = A_st a2 h2 a3 h3 a4 h4 a5 h5 x0 x1 x2 x3 3 4 :=
  stS_step 3 3 (by omega) (A_3_3 (c := c) (a8 := a8) (a9 := a9) ..) (A_kd_3 (c := c) (a9 := a9) ..) (readCov_at3 a8.view rfl rfl rfl)

theorem A_5_0 : sl.v527 c a2 h2 a3 h3 a4 h4 a5 h5 a8 a9 x0 x1 x2 x3 = A_st a2 h2 a3 h3 a4 h4 a5 h5 x0 x1 x2 x3 0 5 :=
  stS_step 0 4 (by omega) (A_4_0 (c := c) (a8 := a8) (a9 := a9) ..) (A_kd_0 (c := c) (a9 := a9) ..) (readCov_at3 a8.view rfl rfl rfl)

theorem A_5_1 : sl.v553 c a2 h2 a3 h3 a4 h4 a5 h5 a8 a9 x0 x1 x2 x3 = A_st a2 h2 a3 h3 a4 h4 a5 h5 x0 x1 x2 x3 1 5 :=
  stS_step 1 4 (by omega) (A_4_1 (c := c) (a8 := a8) (a9 := a9) ..) (A_kd_1 (c := c) (a9 := a9) ..) (readCov_at3 a8.view rfl rfl rfl)

theorem A_5_2 : sl.v579 c a2 h2 a3 h3 a4 h4 a5 h5 a8 a9 x0 x1 x2 x3 = A_st a2 h2 a3 h3 a4 h4 a5 h5 x0 x1 x2 x3 2 5 :=
  stS_step 2 4 (by omega) (A_4_2 (c := c) (a8 := a8) (a9 := a9) ..) (A_kd_2 (c := c) (a9 := a9) ..) (readCov_at3 a8.view rfl rfl rfl)

theorem A_5_3 : sl.v605 c a2 h2 a3 h3 a4 h4 a5 h5 a8 a9 x0 x1 x2 x3 = A_st a2 h2 a3 h3 a4 h4 a5 h5 x0 x1 x2 x3 3 5 :=
  stS_step 3 4 (by omega) (A_4_3 (c := c) (a8 := a8) (a9 := a9) ..) (A_kd_3 (c := c) (a9 := a9) ..) (readCov_at3 a8.view rfl rfl rfl)

theorem A_6_0 : sl.v631 c a2 h2 a3 h3 a4 h4 a5 h5 a8 a9 x0 x1 x2 x3 = A_st a2 h2 a3 h3 a4 h4 a5 h5 x0 x1 x2 x3 0 6 :=
  stS_step 0 5 (by omega) (A_5_0 (c := c) (a8 := a8) (a9 := a9) ..) (A_kd_0 (c := c) (a9 := a9) ..) (readCov_at3 a8.view rfl rfl rfl)

theorem A_6_1 : sl.v657 c a2 h2 a3 h3 a4 h4 a5 h5 a8 a9 x0 x1 x2 x3 = A_st a2 h2 a3 h3 a4 h4 a5 h5 x0 x1 x2 x3 1 6 :=
  stS_step 1 5 (by omega) (A_5_1 (c := c) (a8 := a8) (a9 := a9) ..) (A_kd_1 (c := c) (a9 := a9) ..) (readCov_at3 a8.view rfl rfl rfl)

theorem A_6_2 : sl.v683 c a2 h2 a3 h3 a4 h4 a5 h5 a8 a9 x0 x1 x2 x3 = A_st a2 h2 a3 h3 a4 h4 a5 h5 x0 x1 x2 x3 2 6 :=
  stS_step 2 5 (by omega) (A_5_2 (c := c) (a8 := a8) (a9 := a9) ..) (A_kd_2 (c := c) (a9 := a9) ..) (readCov_at3 a8.view rfl rfl rfl)

theorem A_6_3 : sl.v709 c a2 h2 a3 h3 a4 h4 a5 h5 a8 a9 x0 x1 x2 x3 = A_st a2 h2 a3 h3 a4 h4 a5 h5 x0 x1 x2 x3 3 6 :=
  stS_step 3 5 (by omega) (A_5_3 (c := c) (a8 := a8) (a9 := a9) ..) (A_kd_3 (c := c) (a9 := a9) ..) (readCov_at3 a8.view rfl rfl rfl)

theorem A_7_0 : sl.v735 c a2 h2 a3 h3 a4 h4 a5 h5 a8 a9 x0 x1 x2 x3 = A_st a2 h2 a3 h3 a4 h4 a5 h5 x0 x1 x2 x3 0 7 :=
  stS_step 0 6 (by omega) (A_6_0 (c := c) (a8 := a8) (a9 := a9) ..) (A_kd_0 (c := c) (a9 := a9) ..) (readCov_at3 a8.view rfl rfl rfl)

theorem A_7_1 : sl.v761 c a2 h2 a3 h3 a4 h4 a5 h5 a8 a9 x0 x1 x2 x3 = A_st a2 h2 a3 h3 a4 h4 a5 h5 x0 x1 x2 x3 1 7 :=
  stS_step 1 6 (by omega) (A_6_1 (c := c) (a8 := a8) (a9 := a9) ..) (A_kd_1 (c := c) (a9 := a9) ..) (readCov_at3 a8.view rfl rfl rfl)

theorem A_7_2 : sl.v787 c a2 h2 a3 h3 a4 h4 a5 h5 a8 a9 x0 x1 x2 x3 = A_st a2 h2 a3 h3 a4 h4 a5 h5 x0 x1 x2 x3 2 7 :=
  stS_step 2 6 (by omega) (A_6_2 (c := c) (a8 := a8) (a9 := a9) ..) (A_kd_2 (c := c) (a9 := a9) ..) (readCov_at3 a8.view rfl rfl rfl)

theorem A_7_3 : sl.v813 c a2 h2 a3 h3 a4 h4 a5 h5 a8 a9 x0 x1 x2 x3 = A_st a2 h2 a3 h3 a4 h4 a5 h5 x0 x1 x2 x3 3 7 :=
  stS_step 3 6 (by omega) (A_6_3 (c := c) (a8 := a8) (a9 := a9) ..) (A_kd_3 (c := c) (a9 := a9) ..) (readCov_at3 a8.view rfl rfl rfl)

set_option maxHeartbeats 4000000 in
theorem A_out (v : View sig .tc .vmem S1x8x4x256x512 .bf16) (j : Fin 8) (h : Fin 4) : Ob (v.read (Elt F) (v.writes (Elt F) v.junk (kernelRun0_A c i a2 h2 a3 h3 a4 h4 a5 h5 a6 h6 a7 h7 a8 h8 a9 h9 hc0 hc1 x0 x1 x2 x3).1)) j h = k0_pay11 (A_st a2 h2 a3 h3 a4 h4 a5 h5 x0 x1 x2 x3 h j.1 j.2.le) := by
  obtain ⟨j, hj⟩ := j; obtain ⟨h, hh⟩ := h
  interval_cases j <;> interval_cases h
  exacts [Ob_out v (A_0_0 (c := c) (a8 := a8) ..) (.of_get 31 (by sl_kernel_rfl) (by sl_kernel_rfl)), Ob_out v (A_0_1 (c := c) (a8 := a8) (a9 := a9) ..) (.of_get 30 (by sl_kernel_rfl) (by sl_kernel_rfl)), Ob_out v (A_0_2 (c := c) (a8 := a8) (a9 := a9) ..) (.of_get 29 (by sl_kernel_rfl) (by sl_kernel_rfl)), Ob_out v (A_0_3 (c := c) (a8 := a8) (a9 := a9) ..) (.of_get 28 (by sl_kernel_rfl) (by sl_kernel_rfl)), Ob_out v (A_1_0 (c := c) (a8 := a8) (a9 := a9) ..) (.of_get 27 (by sl_kernel_rfl) (by sl_kernel_rfl)), Ob_out v (A_1_1 (c := c) (a8 := a8) (a9 := a9) ..) (.of_get 26 (by sl_kernel_rfl) (by sl_kernel_rfl)), Ob_out v (A_1_2 (c := c) (a8 := a8) (a9 := a9) ..) (.of_get 25 (by sl_kernel_rfl) (by sl_kernel_rfl)), Ob_out v (A_1_3 (c := c) (a8 := a8) (a9 := a9) ..) (.of_get 24 (by sl_kernel_rfl) (by sl_kernel_rfl)), Ob_out v (A_2_0 (c := c) (a8 := a8) (a9 := a9) ..) (.of_get 23 (by sl_kernel_rfl) (by sl_kernel_rfl)), Ob_out v (A_2_1 (c := c) (a8 := a8) (a9 := a9) ..) (.of_get 22 (by sl_kernel_rfl) (by sl_kernel_rfl)), Ob_out v (A_2_2 (c := c) (a8 := a8) (a9 := a9) ..) (.of_get 21 (by sl_kernel_rfl) (by sl_kernel_rfl)), Ob_out v (A_2_3 (c := c) (a8 := a8) (a9 := a9) ..) (.of_get 20 (by sl_kernel_rfl) (by sl_kernel_rfl)), Ob_out v (A_3_0 (c := c) (a8 := a8) (a9 := a9) ..) (.of_get 19 (by sl_kernel_rfl) (by sl_kernel_rfl)), Ob_out v (A_3_1 (c := c) (a8 := a8) (a9 := a9) ..) (.of_get 18 (by sl_kernel_rfl) (by sl_kernel_rfl)), Ob_out v (A_3_2 (c := c) (a8 := a8) (a9 := a9) ..) (.of_get 17 (by sl_kernel_rfl) (by sl_kernel_rfl)), Ob_out v (A_3_3 (c := c) (a8 := a8) (a9 := a9) ..) (.of_get 16 (by sl_kernel_rfl) (by sl_kernel_rfl)), Ob_out v (A_4_0 (c := c) (a8 := a8) (a9 := a9) ..) (.of_get 15 (by sl_kernel_rfl) (by sl_kernel_rfl)), Ob_out v (A_4_1 (c := c) (a8 := a8) (a9 := a9) ..) (.of_get 14 (by sl_kernel_rfl) (by sl_kernel_rfl)), Ob_out v (A_4_2 (c := c) (a8 := a8) (a9 := a9) ..) (.of_get 13 (by sl_kernel_rfl) (by sl_kernel_rfl)), Ob_out v (A_4_3 (c := c) (a8 := a8) (a9 := a9) ..) (.of_get 12 (by sl_kernel_rfl) (by sl_kernel_rfl)), Ob_out v (A_5_0 (c := c) (a8 := a8) (a9 := a9) ..) (.of_get 11 (by sl_kernel_rfl) (by sl_kernel_rfl)), Ob_out v (A_5_1 (c := c) (a8 := a8) (a9 := a9) ..) (.of_get 10 (by sl_kernel_rfl) (by sl_kernel_rfl)), Ob_out v (A_5_2 (c := c) (a8 := a8) (a9 := a9) ..) (.of_get 9 (by sl_kernel_rfl) (by sl_kernel_rfl)), Ob_out v (A_5_3 (c := c) (a8 := a8) (a9 := a9) ..) (.of_get 8 (by sl_kernel_rfl) (by sl_kernel_rfl)), Ob_out v (A_6_0 (c := c) (a8 := a8) (a9 := a9) ..) (.of_get 7 (by sl_kernel_rfl) (by sl_kernel_rfl)), Ob_out v (A_6_1 (c := c) (a8 := a8) (a9 := a9) ..) (.of_get 6 (by sl_kernel_rfl) (by sl_kernel_rfl)), Ob_out v (A_6_2 (c := c) (a8 := a8) (a9 := a9) ..) (.of_get 5 (by sl_kernel_rfl) (by sl_kernel_rfl)), Ob_out v (A_6_3 (c := c) (a8 := a8) (a9 := a9) ..) (.of_get 4 (by sl_kernel_rfl) (by sl_kernel_rfl)), Ob_out v (A_7_0 (c := c) (a8 := a8) (a9 := a9) ..) (.of_get 3 (by sl_kernel_rfl) (by sl_kernel_rfl)), Ob_out v (A_7_1 (c := c) (a8 := a8) (a9 := a9) ..) (.of_get 2 (by sl_kernel_rfl) (by sl_kernel_rfl)), Ob_out v (A_7_2 (c := c) (a8 := a8) (a9 := a9) ..) (.of_get 1 (by sl_kernel_rfl) (by sl_kernel_rfl)), Ob_out v (A_7_3 (c := c) (a8 := a8) (a9 := a9) ..) (.of_get 0 (by sl_kernel_rfl) (by sl_kernel_rfl))]

theorem A_scr (v : View sig .tc .vmem S4x256x512 .f32) (h : Fin 4) : S0 (v.read (Elt F) (v.writes (Elt F) v.junk (kernelRun0_A c i a2 h2 a3 h3 a4 h4 a5 h5 a6 h6 a7 h7 a8 h8 a9 h9 hc0 hc1 x0 x1 x2 x3).2.2.1)) h = A_st a2 h2 a3 h3 a4 h4 a5 h5 x0 x1 x2 x3 h 8 := by
  obtain ⟨h, hh⟩ := h
  interval_cases h
  exacts [stS_step 0 7 (by omega) (A_7_0 (c := c) (a8 := a8) (a9 := a9) ..) (A_kd_0 (c := c) (a9 := a9) ..) (S0_written v (.skip rfl (.skip rfl (.skip rfl (.here))))), stS_step 1 7 (by omega) (A_7_1 (c := c) (a8 := a8) (a9 := a9) ..) (A_kd_1 (c := c) (a9 := a9) ..) (S0_written v (.skip rfl (.skip rfl (.here)))), stS_step 2 7 (by omega) (A_7_2 (c := c) (a8 := a8) (a9 := a9) ..) (A_kd_2 (c := c) (a9 := a9) ..) (S0_written v (.skip rfl (.here))), stS_step 3 7 (by omega) (A_7_3 (c := c) (a8 := a8) (a9 := a9) ..) (A_kd_3 (c := c) (a9 := a9) ..) (S0_written v (.here))]

theorem A_skd (v : View sig .tc .vmem S4x256x256 .f32) (h : Fin 4) : Kd (v.read (Elt F) (v.writes (Elt F) v.junk (kernelRun0_A c i a2 h2 a3 h3 a4 h4 a5 h5 a6 h6 a7 h7 a8 h8 a9 h9 hc0 hc1 x0 x1 x2 x3).2.2.2.1)) h = (fun h => k0_pay5 (Lw (a2.view.read (Elt F) (h2.unread x0)) h)) h := by
  obtain ⟨h, hh⟩ := h
  interval_cases h
  exacts [Kd_written v (.skip rfl (.skip rfl (.skip rfl (.here)))), Kd_written v (.skip rfl (.skip rfl (.here))), Kd_written v (.skip rfl (.here)), Kd_written v (.here)]

end Cert.KernelIdeal.St
-- ==== Proof.St.BodyB.lean ====
/-
  The state call: what the stores of one grid point leave, case B.
-/
module

public import proofs.«01_k».proof.Proof.St.Spec

@[expose] public section

set_option maxRecDepth 16384

noncomputable section

namespace Cert.KernelIdeal.St

open Cert.KernelIdeal.Gen Cert.Tools
open Idealize.ShloMosaic Idealize.ShloMosaic.TcCoe Idealize.ShloMosaic.Tactic

open kernelRun0_B

variable {F : FTy → Type} [FloatOps F]

variable (c : Dev nD) (i : grid0.Coords) (a2 : Memref sig .tc .smem S2x4 .f32) (h2 : a2.IsWhole) (a3 : Memref sig .tc .vmem S1x2048x1024 .bf16) (h3 : a3.IsWhole) (a4 : Memref sig .tc .vmem S1x2048x2048 .bf16) (h4 : a4.IsWhole) (a5 : Memref sig .tc .vmem S1x4x256x512 .f32) (h5 : a5.IsWhole) (a6 : Memref sig .tc .vmem S1x8x4x256x512 .bf16) (h6 : a6.IsWhole) (a7 : Memref sig .tc .vmem S1x4x256x512 .f32) (h7 : a7.IsWhole) (a8 : Memref sig .tc .vmem S4x256x512 .f32) (h8 : a8.IsWhole) (a9 : Memref sig .tc .vmem S4x256x256 .f32) (h9 : a9.IsWhole) (hc0 : ¬cond0_0 i) (hc1 : ¬cond0_1 i) (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32)

/-- The state of one head after `j` subchunks, over the blocks this point reads. -/
abbrev B_st (h : Fin 4) (j : ℕ) (hj : j ≤ 8 := by omega) : Vec F S1x256x512 .f32 := stS (Lw (a2.view.read (Elt F) (h2.unread x0))) (S0 (a8.view.read (Elt F) (h8.unread xs0))) (Kd (a9.view.read (Elt F) (h9.unread xs1))) (Kb (a3.view.read (Elt F) (h3.unread x1))) (Vb (a4.view.read (Elt F) (h4.unread x2))) h j hj

theorem B_0_0 : View.readAt (Elt F) a8.view (Rect.unit (s := S4x256x512) ![0, 0, 0] S1x256x512.size inb_S4x256x512_S1x256x512_0_0_0).toLoadRect (h8.unread xs0) = B_st a2 h2 a3 h3 a4 h4 a8 h8 a9 h9 x0 x1 x2 xs0 xs1 0 0 :=
  rfl

theorem B_0_1 : sl.v33 c a8 h8 xs0 = B_st a2 h2 a3 h3 a4 h4 a8 h8 a9 h9 x0 x1 x2 xs0 xs1 1 0 :=
  rfl

theorem B_0_2 : sl.v59 c a8 h8 xs0 = B_st a2 h2 a3 h3 a4 h4 a8 h8 a9 h9 x0 x1 x2 xs0 xs1 2 0 :=
  rfl

theorem B_0_3 : sl.v85 c a8 h8 xs0 = B_st a2 h2 a3 h3 a4 h4 a8 h8 a9 h9 x0 x1 x2 xs0 xs1 3 0 :=
  rfl

theorem B_1_0 : sl.v111 c a2 h2 a3 h3 a4 h4 a8 h8 a9 h9 x0 x1 x2 xs0 xs1 = B_st a2 h2 a3 h3 a4 h4 a8 h8 a9 h9 x0 x1 x2 xs0 xs1 0 1 :=
  stS_step 0 0 (by omega) (B_0_0 ..) rfl (readCov_at3 a8.view rfl rfl rfl)

theorem B_1_1 : sl.v137 c a2 h2 a3 h3 a4 h4 a8 h8 a9 h9 x0 x1 x2 xs0 xs1 = B_st a2 h2 a3 h3 a4 h4 a8 h8 a9 h9 x0 x1 x2 xs0 xs1 1 1 :=
  stS_step 1 0 (by omega) (B_0_1 (c := c) ..) rfl (readCov_at3 a8.view rfl rfl rfl)

theorem B_1_2 : sl.v163 c a2 h2 a3 h3 a4 h4 a8 h8 a9 h9 x0 x1 x2 xs0 xs1 = B_st a2 h2 a3 h3 a4 h4 a8 h8 a9 h9 x0 x1 x2 xs0 xs1 2 1 :=
  stS_step 2 0 (by omega) (B_0_2 (c := c) ..) rfl (readCov_at3 a8.view rfl rfl rfl)

theorem B_1_3 : sl.v189 c a2 h2 a3 h3 a4 h4 a8 h8 a9 h9 x0 x1 x2 xs0 xs1 = B_st a2 h2 a3 h3 a4 h4 a8 h8 a9 h9 x0 x1 x2 xs0 xs1 3 1 :=
  stS_step 3 0 (by omega) (B_0_3 (c := c) ..) rfl (readCov_at3 a8.view rfl rfl rfl)

theorem B_2_0 : sl.v215 c a2 h2 a3 h3 a4 h4 a8 h8 a9 h9 x0 x1 x2 xs0 xs1 = B_st a2 h2 a3 h3 a4 h4 a8 h8 a9 h9 x0 x1 x2 xs0 xs1 0 2 :=
  stS_step 0 1 (by omega) (B_1_0 (c := c) ..) rfl (readCov_at3 a8.view rfl rfl rfl)

theorem B_2_1 : sl.v241 c a2 h2 a3 h3 a4 h4 a8 h8 a9 h9 x0 x1 x2 xs0 xs1 = B_st a2 h2 a3 h3 a4 h4 a8 h8 a9 h9 x0 x1 x2 xs0 xs1 1 2 :=
  stS_step 1 1 (by omega) (B_1_1 (c := c) ..) rfl (readCov_at3 a8.view rfl rfl rfl)

theorem B_2_2 : sl.v267 c a2 h2 a3 h3 a4 h4 a8 h8 a9 h9 x0 x1 x2 xs0 xs1 = B_st a2 h2 a3 h3 a4 h4 a8 h8 a9 h9 x0 x1 x2 xs0 xs1 2 2 :=
  stS_step 2 1 (by omega) (B_1_2 (c := c) ..) rfl (readCov_at3 a8.view rfl rfl rfl)

theorem B_2_3 : sl.v293 c a2 h2 a3 h3 a4 h4 a8 h8 a9 h9 x0 x1 x2 xs0 xs1 = B_st a2 h2 a3 h3 a4 h4 a8 h8 a9 h9 x0 x1 x2 xs0 xs1 3 2 :=
  stS_step 3 1 (by omega) (B_1_3 (c := c) ..) rfl (readCov_at3 a8.view rfl rfl rfl)

theorem B_3_0 : sl.v319 c a2 h2 a3 h3 a4 h4 a8 h8 a9 h9 x0 x1 x2 xs0 xs1 = B_st a2 h2 a3 h3 a4 h4 a8 h8 a9 h9 x0 x1 x2 xs0 xs1 0 3 :=
  stS_step 0 2 (by omega) (B_2_0 (c := c) ..) rfl (readCov_at3 a8.view rfl rfl rfl)

theorem B_3_1 : sl.v345 c a2 h2 a3 h3 a4 h4 a8 h8 a9 h9 x0 x1 x2 xs0 xs1 = B_st a2 h2 a3 h3 a4 h4 a8 h8 a9 h9 x0 x1 x2 xs0 xs1 1 3 :=
  stS_step 1 2 (by omega) (B_2_1 (c := c) ..) rfl (readCov_at3 a8.view rfl rfl rfl)

theorem B_3_2 : sl.v371 c a2 h2 a3 h3 a4 h4 a8 h8 a9 h9 x0 x1 x2 xs0 xs1 = B_st a2 h2 a3 h3 a4 h4 a8 h8 a9 h9 x0 x1 x2 xs0 xs1 2 3 :=
  stS_step 2 2 (by omega) (B_2_2 (c := c) ..) rfl (readCov_at3 a8.view rfl rfl rfl)

theorem B_3_3 : sl.v397 c a2 h2 a3 h3 a4 h4 a8 h8 a9 h9 x0 x1 x2 xs0 xs1 = B_st a2 h2 a3 h3 a4 h4 a8 h8 a9 h9 x0 x1 x2 xs0 xs1 3 3 :=
  stS_step 3 2 (by omega) (B_2_3 (c := c) ..) rfl (readCov_at3 a8.view rfl rfl rfl)

theorem B_4_0 : sl.v423 c a2 h2 a3 h3 a4 h4 a8 h8 a9 h9 x0 x1 x2 xs0 xs1 = B_st a2 h2 a3 h3 a4 h4 a8 h8 a9 h9 x0 x1 x2 xs0 xs1 0 4 :=
  stS_step 0 3 (by omega) (B_3_0 (c := c) ..) rfl (readCov_at3 a8.view rfl rfl rfl)

theorem B_4_1 : sl.v449 c a2 h2 a3 h3 a4 h4 a8 h8 a9 h9 x0 x1 x2 xs0 xs1 = B_st a2 h2 a3 h3 a4 h4 a8 h8 a9 h9 x0 x1 x2 xs0 xs1 1 4 :=
  stS_step 1 3 (by omega) (B_3_1 (c := c) ..) rfl (readCov_at3 a8.view rfl rfl rfl)

theorem B_4_2 : sl.v475 c a2 h2 a3 h3 a4 h4 a8 h8 a9 h9 x0 x1 x2 xs0 xs1 = B_st a2 h2 a3 h3 a4 h4 a8 h8 a9 h9 x0 x1 x2 xs0 xs1 2 4 :=
  stS_step 2 3 (by omega) (B_3_2 (c := c) ..) rfl (readCov_at3 a8.view rfl rfl rfl)

theorem B_4_3 : sl.v501 c a2 h2 a3 h3 a4 h4 a8 h8 a9 h9 x0 x1 x2 xs0 xs1 = B_st a2 h2 a3 h3 a4 h4 a8 h8 a9 h9 x0 x1 x2 xs0 xs1 3 4 :=
  stS_step 3 3 (by omega) (B_3_3 (c := c) ..) rfl (readCov_at3 a8.view rfl rfl rfl)

theorem B_5_0 : sl.v527 c a2 h2 a3 h3 a4 h4 a8 h8 a9 h9 x0 x1 x2 xs0 xs1 = B_st a2 h2 a3 h3 a4 h4 a8 h8 a9 h9 x0 x1 x2 xs0 xs1 0 5 :=
  stS_step 0 4 (by omega) (B_4_0 (c := c) ..) rfl (readCov_at3 a8.view rfl rfl rfl)

theorem B_5_1 : sl.v553 c a2 h2 a3 h3 a4 h4 a8 h8 a9 h9 x0 x1 x2 xs0 xs1 = B_st a2 h2 a3 h3 a4 h4 a8 h8 a9 h9 x0 x1 x2 xs0 xs1 1 5 :=
  stS_step 1 4 (by omega) (B_4_1 (c := c) ..) rfl (readCov_at3 a8.view rfl rfl rfl)

theorem B_5_2 : sl.v579 c a2 h2 a3 h3 a4 h4 a8 h8 a9 h9 x0 x1 x2 xs0 xs1 = B_st a2 h2 a3 h3 a4 h4 a8 h8 a9 h9 x0 x1 x2 xs0 xs1 2 5 :=
  stS_step 2 4 (by omega) (B_4_2 (c := c) ..) rfl (readCov_at3 a8.view rfl rfl rfl)

theorem B_5_3 : sl.v605 c a2 h2 a3 h3 a4 h4 a8 h8 a9 h9 x0 x1 x2 xs0 xs1 = B_st a2 h2 a3 h3 a4 h4 a8 h8 a9 h9 x0 x1 x2 xs0 xs1 3 5 :=
  stS_step 3 4 (by omega) (B_4_3 (c := c) ..) rfl (readCov_at3 a8.view rfl rfl rfl)

theorem B_6_0 : sl.v631 c a2 h2 a3 h3 a4 h4 a8 h8 a9 h9 x0 x1 x2 xs0 xs1 = B_st a2 h2 a3 h3 a4 h4 a8 h8 a9 h9 x0 x1 x2 xs0 xs1 0 6 :=
  stS_step 0 5 (by omega) (B_5_0 (c := c) ..) rfl (readCov_at3 a8.view rfl rfl rfl)

theorem B_6_1 : sl.v657 c a2 h2 a3 h3 a4 h4 a8 h8 a9 h9 x0 x1 x2 xs0 xs1 = B_st a2 h2 a3 h3 a4 h4 a8 h8 a9 h9 x0 x1 x2 xs0 xs1 1 6 :=
  stS_step 1 5 (by omega) (B_5_1 (c := c) ..) rfl (readCov_at3 a8.view rfl rfl rfl)

theorem B_6_2 : sl.v683 c a2 h2 a3 h3 a4 h4 a8 h8 a9 h9 x0 x1 x2 xs0 xs1 = B_st a2 h2 a3 h3 a4 h4 a8 h8 a9 h9 x0 x1 x2 xs0 xs1 2 6 :=
  stS_step 2 5 (by omega) (B_5_2 (c := c) ..) rfl (readCov_at3 a8.view rfl rfl rfl)

theorem B_6_3 : sl.v709 c a2 h2 a3 h3 a4 h4 a8 h8 a9 h9 x0 x1 x2 xs0 xs1 = B_st a2 h2 a3 h3 a4 h4 a8 h8 a9 h9 x0 x1 x2 xs0 xs1 3 6 :=
  stS_step 3 5 (by omega) (B_5_3 (c := c) ..) rfl (readCov_at3 a8.view rfl rfl rfl)

theorem B_7_0 : sl.v735 c a2 h2 a3 h3 a4 h4 a8 h8 a9 h9 x0 x1 x2 xs0 xs1 = B_st a2 h2 a3 h3 a4 h4 a8 h8 a9 h9 x0 x1 x2 xs0 xs1 0 7 :=
  stS_step 0 6 (by omega) (B_6_0 (c := c) ..) rfl (readCov_at3 a8.view rfl rfl rfl)

theorem B_7_1 : sl.v761 c a2 h2 a3 h3 a4 h4 a8 h8 a9 h9 x0 x1 x2 xs0 xs1 = B_st a2 h2 a3 h3 a4 h4 a8 h8 a9 h9 x0 x1 x2 xs0 xs1 1 7 :=
  stS_step 1 6 (by omega) (B_6_1 (c := c) ..) rfl (readCov_at3 a8.view rfl rfl rfl)

theorem B_7_2 : sl.v787 c a2 h2 a3 h3 a4 h4 a8 h8 a9 h9 x0 x1 x2 xs0 xs1 = B_st a2 h2 a3 h3 a4 h4 a8 h8 a9 h9 x0 x1 x2 xs0 xs1 2 7 :=
  stS_step 2 6 (by omega) (B_6_2 (c := c) ..) rfl (readCov_at3 a8.view rfl rfl rfl)

theorem B_7_3 : sl.v813 c a2 h2 a3 h3 a4 h4 a8 h8 a9 h9 x0 x1 x2 xs0 xs1 = B_st a2 h2 a3 h3 a4 h4 a8 h8 a9 h9 x0 x1 x2 xs0 xs1 3 7 :=
  stS_step 3 6 (by omega) (B_6_3 (c := c) ..) rfl (readCov_at3 a8.view rfl rfl rfl)

set_option maxHeartbeats 4000000 in
theorem B_out (v : View sig .tc .vmem S1x8x4x256x512 .bf16) (j : Fin 8) (h : Fin 4) : Ob (v.read (Elt F) (v.writes (Elt F) v.junk (kernelRun0_B c i a2 h2 a3 h3 a4 h4 a5 h5 a6 h6 a7 h7 a8 h8 a9 h9 hc0 hc1 x0 x1 x2 x3 xs0 xs1).1)) j h = k0_pay11 (B_st a2 h2 a3 h3 a4 h4 a8 h8 a9 h9 x0 x1 x2 xs0 xs1 h j.1 j.2.le) := by
  obtain ⟨j, hj⟩ := j; obtain ⟨h, hh⟩ := h
  interval_cases j <;> interval_cases h
  exacts [Ob_out v (B_0_0 ..) (.of_get 31 (by sl_kernel_rfl) (by sl_kernel_rfl)), Ob_out v (B_0_1 (c := c) ..) (.of_get 30 (by sl_kernel_rfl) (by sl_kernel_rfl)), Ob_out v (B_0_2 (c := c) ..) (.of_get 29 (by sl_kernel_rfl) (by sl_kernel_rfl)), Ob_out v (B_0_3 (c := c) ..) (.of_get 28 (by sl_kernel_rfl) (by sl_kernel_rfl)), Ob_out v (B_1_0 (c := c) ..) (.of_get 27 (by sl_kernel_rfl) (by sl_kernel_rfl)), Ob_out v (B_1_1 (c := c) ..) (.of_get 26 (by sl_kernel_rfl) (by sl_kernel_rfl)), Ob_out v (B_1_2 (c := c) ..) (.of_get 25 (by sl_kernel_rfl) (by sl_kernel_rfl)), Ob_out v (B_1_3 (c := c) ..) (.of_get 24 (by sl_kernel_rfl) (by sl_kernel_rfl)), Ob_out v (B_2_0 (c := c) ..) (.of_get 23 (by sl_kernel_rfl) (by sl_kernel_rfl)), Ob_out v (B_2_1 (c := c) ..) (.of_get 22 (by sl_kernel_rfl) (by sl_kernel_rfl)), Ob_out v (B_2_2 (c := c) ..) (.of_get 21 (by sl_kernel_rfl) (by sl_kernel_rfl)), Ob_out v (B_2_3 (c := c) ..) (.of_get 20 (by sl_kernel_rfl) (by sl_kernel_rfl)), Ob_out v (B_3_0 (c := c) ..) (.of_get 19 (by sl_kernel_rfl) (by sl_kernel_rfl)), Ob_out v (B_3_1 (c := c) ..) (.of_get 18 (by sl_kernel_rfl) (by sl_kernel_rfl)), Ob_out v (B_3_2 (c := c) ..) (.of_get 17 (by sl_kernel_rfl) (by sl_kernel_rfl)), Ob_out v (B_3_3 (c := c) ..) (.of_get 16 (by sl_kernel_rfl) (by sl_kernel_rfl)), Ob_out v (B_4_0 (c := c) ..) (.of_get 15 (by sl_kernel_rfl) (by sl_kernel_rfl)), Ob_out v (B_4_1 (c := c) ..) (.of_get 14 (by sl_kernel_rfl) (by sl_kernel_rfl)), Ob_out v (B_4_2 (c := c) ..) (.of_get 13 (by sl_kernel_rfl) (by sl_kernel_rfl)), Ob_out v (B_4_3 (c := c) ..) (.of_get 12 (by sl_kernel_rfl) (by sl_kernel_rfl)), Ob_out v (B_5_0 (c := c) ..) (.of_get 11 (by sl_kernel_rfl) (by sl_kernel_rfl)), Ob_out v (B_5_1 (c := c) ..) (.of_get 10 (by sl_kernel_rfl) (by sl_kernel_rfl)), Ob_out v (B_5_2 (c := c) ..) (.of_get 9 (by sl_kernel_rfl) (by sl_kernel_rfl)), Ob_out v (B_5_3 (c := c) ..) (.of_get 8 (by sl_kernel_rfl) (by sl_kernel_rfl)), Ob_out v (B_6_0 (c := c) ..) (.of_get 7 (by sl_kernel_rfl) (by sl_kernel_rfl)), Ob_out v (B_6_1 (c := c) ..) (.of_get 6 (by sl_kernel_rfl) (by sl_kernel_rfl)), Ob_out v (B_6_2 (c := c) ..) (.of_get 5 (by sl_kernel_rfl) (by sl_kernel_rfl)), Ob_out v (B_6_3 (c := c) ..) (.of_get 4 (by sl_kernel_rfl) (by sl_kernel_rfl)), Ob_out v (B_7_0 (c := c) ..) (.of_get 3 (by sl_kernel_rfl) (by sl_kernel_rfl)), Ob_out v (B_7_1 (c := c) ..) (.of_get 2 (by sl_kernel_rfl) (by sl_kernel_rfl)), Ob_out v (B_7_2 (c := c) ..) (.of_get 1 (by sl_kernel_rfl) (by sl_kernel_rfl)), Ob_out v (B_7_3 (c := c) ..) (.of_get 0 (by sl_kernel_rfl) (by sl_kernel_rfl))]

theorem B_scr (v : View sig .tc .vmem S4x256x512 .f32) (h : Fin 4) : S0 (v.read (Elt F) (v.writes (Elt F) v.junk (kernelRun0_B c i a2 h2 a3 h3 a4 h4 a5 h5 a6 h6 a7 h7 a8 h8 a9 h9 hc0 hc1 x0 x1 x2 x3 xs0 xs1).2.2.1)) h = B_st a2 h2 a3 h3 a4 h4 a8 h8 a9 h9 x0 x1 x2 xs0 xs1 h 8 := by
  obtain ⟨h, hh⟩ := h
  interval_cases h
  exacts [stS_step 0 7 (by omega) (B_7_0 (c := c) ..) rfl (S0_written v (.skip rfl (.skip rfl (.skip rfl (.here))))), stS_step 1 7 (by omega) (B_7_1 (c := c) ..) rfl (S0_written v (.skip rfl (.skip rfl (.here)))), stS_step 2 7 (by omega) (B_7_2 (c := c) ..) rfl (S0_written v (.skip rfl (.here))), stS_step 3 7 (by omega) (B_7_3 (c := c) ..) rfl (S0_written v (.here))]

end Cert.KernelIdeal.St
-- ==== Proof.St.BodyC.lean ====
/-
  The state call: what the stores of one grid point leave, case C.
-/
module

public import proofs.«01_k».proof.Proof.St.Spec

@[expose] public section

set_option maxRecDepth 16384

noncomputable section

namespace Cert.KernelIdeal.St

open Cert.KernelIdeal.Gen Cert.Tools
open Idealize.ShloMosaic Idealize.ShloMosaic.TcCoe Idealize.ShloMosaic.Tactic

open kernelRun0_C

variable {F : FTy → Type} [FloatOps F]

variable (c : Dev nD) (i : grid0.Coords) (a2 : Memref sig .tc .smem S2x4 .f32) (h2 : a2.IsWhole) (a3 : Memref sig .tc .vmem S1x2048x1024 .bf16) (h3 : a3.IsWhole) (a4 : Memref sig .tc .vmem S1x2048x2048 .bf16) (h4 : a4.IsWhole) (a5 : Memref sig .tc .vmem S1x4x256x512 .f32) (h5 : a5.IsWhole) (a6 : Memref sig .tc .vmem S1x8x4x256x512 .bf16) (h6 : a6.IsWhole) (a7 : Memref sig .tc .vmem S1x4x256x512 .f32) (h7 : a7.IsWhole) (a8 : Memref sig .tc .vmem S4x256x512 .f32) (h8 : a8.IsWhole) (a9 : Memref sig .tc .vmem S4x256x256 .f32) (h9 : a9.IsWhole) (hc0 : ¬cond0_0 i) (hc1 : cond0_1 i) (x0 : Vec F S2x4 .f32) (x1 : Vec F S1x2048x1024 .bf16) (x2 : Vec F S1x2048x2048 .bf16) (x3 : Vec F S1x4x256x512 .f32) (xs0 : Vec F S4x256x512 .f32) (xs1 : Vec F S4x256x256 .f32)

/-- The state of one head after `j` subchunks, over the blocks this point reads. -/
abbrev C_st (h : Fin 4) (j : ℕ) (hj : j ≤ 8 := by omega) : Vec F S1x256x512 .f32 := stS (Lw (a2.view.read (Elt F) (h2.unread x0))) (S0 (a8.view.read (Elt F) (h8.unread xs0))) (Kd (a9.view.read (Elt F) (h9.unread xs1))) (Kb (a3.view.read (Elt F) (h3.unread x1))) (Vb (a4.view.read (Elt F) (h4.unread x2))) h j hj

theorem C_0_0 : View.readAt (Elt F) a8.view (Rect.unit (s := S4x256x512) ![0, 0, 0] S1x256x512.size inb_S4x256x512_S1x256x512_0_0_0).toLoadRect (h8.unread xs0) = C_st a2 h2 a3 h3 a4 h4 a8 h8 a9 h9 x0 x1 x2 xs0 xs1 0 0 :=
  rfl

theorem C_0_1 : sl.v33 c a8 h8 xs0 = C_st a2 h2 a3 h3 a4 h4 a8 h8 a9 h9 x0 x1 x2 xs0 xs1 1 0 :=
  rfl

theorem C_0_2 : sl.v59 c a8 h8 xs0 = C_st a2 h2 a3 h3 a4 h4 a8 h8 a9 h9 x0 x1 x2 xs0 xs1 2 0 :=
  rfl

theorem C_0_3 : sl.v85 c a8 h8 xs0 = C_st a2 h2 a3 h3 a4 h4 a8 h8 a9 h9 x0 x1 x2 xs0 xs1 3 0 :=
  rfl

theorem C_1_0 : sl.v111 c a2 h2 a3 h3 a4 h4 a8 h8 a9 h9 x0 x1 x2 xs0 xs1 = C_st a2 h2 a3 h3 a4 h4 a8 h8 a9 h9 x0 x1 x2 xs0 xs1 0 1 :=
  stS_step 0 0 (by omega) (C_0_0 ..) rfl (readCov_at3 a8.view rfl rfl rfl)

theorem C_1_1 : sl.v137 c a2 h2 a3 h3 a4 h4 a8 h8 a9 h9 x0 x1 x2 xs0 xs1 = C_st a2 h2 a3 h3 a4 h4 a8 h8 a9 h9 x0 x1 x2 xs0 xs1 1 1 :=
  stS_step 1 0 (by omega) (C_0_1 (c := c) ..) rfl (readCov_at3 a8.view rfl rfl rfl)

theorem C_1_2 : sl.v163 c a2 h2 a3 h3 a4 h4 a8 h8 a9 h9 x0 x1 x2 xs0 xs1 = C_st a2 h2 a3 h3 a4 h4 a8 h8 a9 h9 x0 x1 x2 xs0 xs1 2 1 :=
  stS_step 2 0 (by omega) (C_0_2 (c := c) ..) rfl (readCov_at3 a8.view rfl rfl rfl)

theorem C_1_3 : sl.v189 c a2 h2 a3 h3 a4 h4 a8 h8 a9 h9 x0 x1 x2 xs0 xs1 = C_st a2 h2 a3 h3 a4 h4 a8 h8 a9 h9 x0 x1 x2 xs0 xs1 3 1 :=
  stS_step 3 0 (by omega) (C_0_3 (c := c) ..) rfl (readCov_at3 a8.view rfl rfl rfl)

theorem C_2_0 : sl.v215 c a2 h2 a3 h3 a4 h4 a8 h8 a9 h9 x0 x1 x2 xs0 xs1 = C_st a2 h2 a3 h3 a4 h4 a8 h8 a9 h9 x0 x1 x2 xs0 xs1 0 2 :=
  stS_step 0 1 (by omega) (C_1_0 (c := c) ..) rfl (readCov_at3 a8.view rfl rfl rfl)

theorem C_2_1 : sl.v241 c a2 h2 a3 h3 a4 h4 a8 h8 a9 h9 x0 x1 x2 xs0 xs1 = C_st a2 h2 a3 h3 a4 h4 a8 h8 a9 h9 x0 x1 x2 xs0 xs1 1 2 :=
  stS_step 1 1 (by omega) (C_1_1 (c := c) ..) rfl (readCov_at3 a8.view rfl rfl rfl)

theorem C_2_2 : sl.v267 c a2 h2 a3 h3 a4 h4 a8 h8 a9 h9 x0 x1 x2 xs0 xs1 = C_st a2 h2 a3 h3 a4 h4 a8 h8 a9 h9 x0 x1 x2 xs0 xs1 2 2 :=
  stS_step 2 1 (by omega) (C_1_2 (c := c) ..) rfl (readCov_at3 a8.view rfl rfl rfl)

theorem C_2_3 : sl.v293 c a2 h2 a3 h3 a4 h4 a8 h8 a9 h9 x0 x1 x2 xs0 xs1 = C_st a2 h2 a3 h3 a4 h4 a8 h8 a9 h9 x0 x1 x2 xs0 xs1 3 2 :=
  stS_step 3 1 (by omega) (C_1_3 (c := c) ..) rfl (readCov_at3 a8.view rfl rfl rfl)

theorem C_3_0 : sl.v319 c a2 h2 a3 h3 a4 h4 a8 h8 a9 h9 x0 x1 x2 xs0 xs1 = C_st a2 h2 a3 h3 a4 h4 a8 h8 a9 h9 x0 x1 x2 xs0 xs1 0 3 :=
  stS_step 0 2 (by omega) (C_2_0 (c := c) ..) rfl (readCov_at3 a8.view rfl rfl rfl)

theorem C_3_1 : sl.v345 c a2 h2 a3 h3 a4 h4 a8 h8 a9 h9 x0 x1 x2 xs0 xs1 = C_st a2 h2 a3 h3 a4 h4 a8 h8 a9 h9 x0 x1 x2 xs0 xs1 1 3 :=
  stS_step 1 2 (by omega) (C_2_1 (c := c) ..) rfl (readCov_at3 a8.view rfl rfl rfl)

theorem C_3_2 : sl.v371 c a2 h2 a3 h3 a4 h4 a8 h8 a9 h9 x0 x1 x2 xs0 xs1 = C_st a2 h2 a3 h3 a4 h4 a8 h8 a9 h9 x0 x1 x2 xs0 xs1 2 3 :=
  stS_step 2 2 (by omega) (C_2_2 (c := c) ..) rfl (readCov_at3 a8.view rfl rfl rfl)

theorem C_3_3 : sl.v397 c a2 h2 a3 h3 a4 h4 a8 h8 a9 h9 x0 x1 x2 xs0 xs1 = C_st a2 h2 a3 h3 a4 h4 a8 h8 a9 h9 x0 x1 x2 xs0 xs1 3 3 :=
  stS_step 3 2 (by omega) (C_2_3 (c := c) ..) rfl (readCov_at3 a8.view rfl rfl rfl)

theorem C_4_0 : sl.v423 c a2 h2 a3 h3 a4 h4 a8 h8 a9 h9 x0 x1 x2 xs0 xs1 = C_st a2 h2 a3 h3 a4 h4 a8 h8 a9 h9 x0 x1 x2 xs0 xs1 0 4 :=
  stS_step 0 3 (by omega) (C_3_0 (c := c) ..) rfl (readCov_at3 a8.view rfl rfl rfl)

theorem C_4_1 : sl.v449 c a2 h2 a3 h3 a4 h4 a8 h8 a9 h9 x0 x1 x2 xs0 xs1 = C_st a2 h2 a3 h3 a4 h4 a8 h8 a9 h9 x0 x1 x2 xs0 xs1 1 4 :=
  stS_step 1 3 (by omega) (C_3_1 (c := c) ..) rfl (readCov_at3 a8.view rfl rfl rfl)

theorem C_4_2 : sl.v475 c a2 h2 a3 h3 a4 h4 a8 h8 a9 h9 x0 x1 x2 xs0 xs1 = C_st a2 h2 a3 h3 a4 h4 a8 h8 a9 h9 x0 x1 x2 xs0 xs1 2 4 :=
  stS_step 2 3 (by omega) (C_3_2 (c := c) ..) rfl (readCov_at3 a8.view rfl rfl rfl)

theorem C_4_3 : sl.v501 c a2 h2 a3 h3 a4 h4 a8 h8 a9 h9 x0 x1 x2 xs0 xs1 = C_st a2 h2 a3 h3 a4 h4 a8 h8 a9 h9 x0 x1 x2 xs0 xs1 3 4 :=
  stS_step 3 3 (by omega) (C_3_3 (c := c) ..) rfl (readCov_at3 a8.view rfl rfl rfl)

theorem C_5_0 : sl.v527 c a2 h2 a3 h3 a4 h4 a8 h8 a9 h9 x0 x1 x2 xs0 xs1 = C_st a2 h2 a3 h3 a4 h4 a8 h8 a9 h9 x0 x1 x2 xs0 xs1 0 5 :=
  stS_step 0 4 (by omega) (C_4_0 (c := c) ..) rfl (readCov_at3 a8.view rfl rfl rfl)

theorem C_5_1 : sl.v553 c a2 h2 a3 h3 a4 h4 a8 h8 a9 h9 x0 x1 x2 xs0 xs1 = C_st a2 h2 a3 h3 a4 h4 a8 h8 a9 h9 x0 x1 x2 xs0 xs1 1 5 :=
  stS_step 1 4 (by omega) (C_4_1 (c := c) ..) rfl (readCov_at3 a8.view rfl rfl rfl)

theorem C_5_2 : sl.v579 c a2 h2 a3 h3 a4 h4 a8 h8 a9 h9 x0 x1 x2 xs0 xs1 = C_st a2 h2 a3 h3 a4 h4 a8 h8 a9 h9 x0 x1 x2 xs0 xs1 2 5 :=
  stS_step 2 4 (by omega) (C_4_2 (c := c) ..) rfl (readCov_at3 a8.view rfl rfl rfl)

theorem C_5_3 : sl.v605 c a2 h2 a3 h3 a4 h4 a8 h8 a9 h9 x0 x1 x2 xs0 xs1 = C_st a2 h2 a3 h3 a4 h4 a8 h8 a9 h9 x0 x1 x2 xs0 xs1 3 5 :=
  stS_step 3 4 (by omega) (C_4_3 (c := c) ..) rfl (readCov_at3 a8.view rfl rfl rfl)

theorem C_6_0 : sl.v631 c a2 h2 a3 h3 a4 h4 a8 h8 a9 h9 x0 x1 x2 xs0 xs1 = C_st a2 h2 a3 h3 a4 h4 a8 h8 a9 h9 x0 x1 x2 xs0 xs1 0 6 :=
  stS_step 0 5 (by omega) (C_5_0 (c := c) ..) rfl (readCov_at3 a8.view rfl rfl rfl)

theorem C_6_1 : sl.v657 c a2 h2 a3 h3 a4 h4 a8 h8 a9 h9 x0 x1 x2 xs0 xs1 = C_st a2 h2 a3 h3 a4 h4 a8 h8 a9 h9 x0 x1 x2 xs0 xs1 1 6 :=
  stS_step 1 5 (by omega) (C_5_1 (c := c) ..) rfl (readCov_at3 a8.view rfl rfl rfl)

theorem C_6_2 : sl.v683 c a2 h2 a3 h3 a4 h4 a8 h8 a9 h9 x0 x1 x2 xs0 xs1 = C_st a2 h2 a3 h3 a4 h4 a8 h8 a9 h9 x0 x1 x2 xs0 xs1 2 6 :=
  stS_step 2 5 (by omega) (C_5_2 (c := c) ..) rfl (readCov_at3 a8.view rfl rfl rfl)

theorem C_6_3 : sl.v709 c a2 h2 a3 h3 a4 h4 a8 h8 a9 h9 x0 x1 x2 xs0 xs1 = C_st a2 h2 a3 h3 a4 h4 a8 h8 a9 h9 x0 x1 x2 xs0 xs1 3 6 :=
  stS_step 3 5 (by omega) (C_5_3 (c := c) ..) rfl (readCov_at3 a8.view rfl rfl rfl)

theorem C_7_0 : sl.v735 c a2 h2 a3 h3 a4 h4 a8 h8 a9 h9 x0 x1 x2 xs0 xs1 = C_st a2 h2 a3 h3 a4 h4 a8 h8 a9 h9 x0 x1 x2 xs0 xs1 0 7 :=
  stS_step 0 6 (by omega) (C_6_0 (c := c) ..) rfl (readCov_at3 a8.view rfl rfl rfl)

theorem C_7_1 : sl.v761 c a2 h2 a3 h3 a4 h4 a8 h8 a9 h9 x0 x1 x2 xs0 xs1 = C_st a2 h2 a3 h3 a4 h4 a8 h8 a9 h9 x0 x1 x2 xs0 xs1 1 7 :=
  stS_step 1 6 (by omega) (C_6_1 (c := c) ..) rfl (readCov_at3 a8.view rfl rfl rfl)

theorem C_7_2 : sl.v787 c a2 h2 a3 h3 a4 h4 a8 h8 a9 h9 x0 x1 x2 xs0 xs1 = C_st a2 h2 a3 h3 a4 h4 a8 h8 a9 h9 x0 x1 x2 xs0 xs1 2 7 :=
  stS_step 2 6 (by omega) (C_6_2 (c := c) ..) rfl (readCov_at3 a8.view rfl rfl rfl)

theorem C_7_3 : sl.v813 c a2 h2 a3 h3 a4 h4 a8 h8 a9 h9 x0 x1 x2 xs0 xs1 = C_st a2 h2 a3 h3 a4 h4 a8 h8 a9 h9 x0 x1 x2 xs0 xs1 3 7 :=
  stS_step 3 6 (by omega) (C_6_3 (c := c) ..) rfl (readCov_at3 a8.view rfl rfl rfl)

set_option maxHeartbeats 4000000 in
theorem C_out (v : View sig .tc .vmem S1x8x4x256x512 .bf16) (j : Fin 8) (h : Fin 4) : Ob (v.read (Elt F) (v.writes (Elt F) v.junk (kernelRun0_C c i a2 h2 a3 h3 a4 h4 a5 h5 a6 h6 a7 h7 a8 h8 a9 h9 hc0 hc1 x0 x1 x2 x3 xs0 xs1).1)) j h = k0_pay11 (C_st a2 h2 a3 h3 a4 h4 a8 h8 a9 h9 x0 x1 x2 xs0 xs1 h j.1 j.2.le) := by
  obtain ⟨j, hj⟩ := j; obtain ⟨h, hh⟩ := h
  interval_cases j <;> interval_cases h
  exacts [Ob_out v (C_0_0 ..) (.of_get 31 (by sl_kernel_rfl) (by sl_kernel_rfl)), Ob_out v (C_0_1 (c := c) ..) (.of_get 30 (by sl_kernel_rfl) (by sl_kernel_rfl)), Ob_out v (C_0_2 (c := c) ..) (.of_get 29 (by sl_kernel_rfl) (by sl_kernel_rfl)), Ob_out v (C_0_3 (c := c) ..) (.of_get 28 (by sl_kernel_rfl) (by sl_kernel_rfl)), Ob_out v (C_1_0 (c := c) ..) (.of_get 27 (by sl_kernel_rfl) (by sl_kernel_rfl)), Ob_out v (C_1_1 (c := c) ..) (.of_get 26 (by sl_kernel_rfl) (by sl_kernel_rfl)), Ob_out v (C_1_2 (c := c) ..) (.of_get 25 (by sl_kernel_rfl) (by sl_kernel_rfl)), Ob_out v (C_1_3 (c := c) ..) (.of_get 24 (by sl_kernel_rfl) (by sl_kernel_rfl)), Ob_out v (C_2_0 (c := c) ..) (.of_get 23 (by sl_kernel_rfl) (by sl_kernel_rfl)), Ob_out v (C_2_1 (c := c) ..) (.of_get 22 (by sl_kernel_rfl) (by sl_kernel_rfl)), Ob_out v (C_2_2 (c := c) ..) (.of_get 21 (by sl_kernel_rfl) (by sl_kernel_rfl)), Ob_out v (C_2_3 (c := c) ..) (.of_get 20 (by sl_kernel_rfl) (by sl_kernel_rfl)), Ob_out v (C_3_0 (c := c) ..) (.of_get 19 (by sl_kernel_rfl) (by sl_kernel_rfl)), Ob_out v (C_3_1 (c := c) ..) (.of_get 18 (by sl_kernel_rfl) (by sl_kernel_rfl)), Ob_out v (C_3_2 (c := c) ..) (.of_get 17 (by sl_kernel_rfl) (by sl_kernel_rfl)), Ob_out v (C_3_3 (c := c) ..) (.of_get 16 (by sl_kernel_rfl) (by sl_kernel_rfl)), Ob_out v (C_4_0 (c := c) ..) (.of_get 15 (by sl_kernel_rfl) (by sl_kernel_rfl)), Ob_out v (C_4_1 (c := c) ..) (.of_get 14 (by sl_kernel_rfl) (by sl_kernel_rfl)), Ob_out v (C_4_2 (c := c) ..) (.of_get 13 (by sl_kernel_rfl) (by sl_kernel_rfl)), Ob_out v (C_4_3 (c := c) ..) (.of_get 12 (by sl_kernel_rfl) (by sl_kernel_rfl)), Ob_out v (C_5_0 (c := c) ..) (.of_get 11 (by sl_kernel_rfl) (by sl_kernel_rfl)), Ob_out v (C_5_1 (c := c) ..) (.of_get 10 (by sl_kernel_rfl) (by sl_kernel_rfl)), Ob_out v (C_5_2 (c := c) ..) (.of_get 9 (by sl_kernel_rfl) (by sl_kernel_rfl)), Ob_out v (C_5_3 (c := c) ..) (.of_get 8 (by sl_kernel_rfl) (by sl_kernel_rfl)), Ob_out v (C_6_0 (c := c) ..) (.of_get 7 (by sl_kernel_rfl) (by sl_kernel_rfl)), Ob_out v (C_6_1 (c := c) ..) (.of_get 6 (by sl_kernel_rfl) (by sl_kernel_rfl)), Ob_out v (C_6_2 (c := c) ..) (.of_get 5 (by sl_kernel_rfl) (by sl_kernel_rfl)), Ob_out v (C_6_3 (c := c) ..) (.of_get 4 (by sl_kernel_rfl) (by sl_kernel_rfl)), Ob_out v (C_7_0 (c := c) ..) (.of_get 3 (by sl_kernel_rfl) (by sl_kernel_rfl)), Ob_out v (C_7_1 (c := c) ..) (.of_get 2 (by sl_kernel_rfl) (by sl_kernel_rfl)), Ob_out v (C_7_2 (c := c) ..) (.of_get 1 (by sl_kernel_rfl) (by sl_kernel_rfl)), Ob_out v (C_7_3 (c := c) ..) (.of_get 0 (by sl_kernel_rfl) (by sl_kernel_rfl))]

theorem C_scr (v : View sig .tc .vmem S4x256x512 .f32) (h : Fin 4) : S0 (v.read (Elt F) (v.writes (Elt F) v.junk (kernelRun0_C c i a2 h2 a3 h3 a4 h4 a5 h5 a6 h6 a7 h7 a8 h8 a9 h9 hc0 hc1 x0 x1 x2 x3 xs0 xs1).2.2.1)) h = C_st a2 h2 a3 h3 a4 h4 a8 h8 a9 h9 x0 x1 x2 xs0 xs1 h 8 := by
  obtain ⟨h, hh⟩ := h
  interval_cases h
  exacts [stS_step 0 7 (by omega) (C_7_0 (c := c) ..) rfl (S0_written v (.skip rfl (.skip rfl (.skip rfl (.here))))), stS_step 1 7 (by omega) (C_7_1 (c := c) ..) rfl (S0_written v (.skip rfl (.skip rfl (.here)))), stS_step 2 7 (by omega) (C_7_2 (c := c) ..) rfl (S0_written v (.skip rfl (.here))), stS_step 3 7 (by omega) (C_7_3 (c := c) ..) rfl (S0_written v (.here))]

theorem C_se (v : View sig .tc .vmem S1x4x256x512 .f32) : ∃ Y : Vec F S4x256x512 .f32,
    v.read (Elt F) (v.writes (Elt F) v.junk (kernelRun0_C c i a2 h2 a3 h3 a4 h4 a5 h5 a6 h6 a7 h7 a8 h8 a9 h9 hc0 hc1 x0 x1 x2 x3 xs0 xs1).2.1) = k0_pay2 Y ∧ ∀ h, S0 Y h = C_st a2 h2 a3 h3 a4 h4 a8 h8 a9 h9 x0 x1 x2 xs0 xs1 h 8 := by
  refine ⟨a8.view.read (Elt F) (a8.view.writes (Elt F) a8.view.junk (kernelRun0_C c i a2 h2 a3 h3 a4 h4 a5 h5 a6 h6 a7 h7 a8 h8 a9 h9 hc0 hc1 x0 x1 x2 x3 xs0 xs1).2.2.1), ?_, fun h => C_scr .. ⟩
  refine (L4_written v (.here)).trans (congrArg k0_pay2 ?_)
  exact L3_eq _

end Cert.KernelIdeal.St
-- ==== Proof.St.Point.lean ====
/-
  The state call: what one point leaves, over the blocks it reads.
-/
module

public import proofs.«01_k».proof.Proof.St.Frame
public import proofs.«01_k».proof.Proof.St.BodyA
public import proofs.«01_k».proof.Proof.St.BodyB
public import proofs.«01_k».proof.Proof.St.BodyC

@[expose] public section

set_option maxRecDepth 16384

noncomputable section

namespace Cert.KernelIdeal.St

open Cert.KernelIdeal.Gen
open Idealize.ShloMosaic Idealize.ShloMosaic.TcCoe

variable {F : FTy → Type} [FloatOps F] (c : Dev nD) (t : Fin cfg0.N)
  (x0 : Vec F S2x4 .f32) (x1 : Vec F S1x2048x1024 .bf16) (x2 : Vec F S1x2048x2048 .bf16) (x3 : Vec F S1x4x256x512 .f32)
  (xs0 : Vec F S4x256x512 .f32) (xs1 : Vec F S4x256x256 .f32)

theorem out_A (hc0 : cond0_0 (grid0.coords t)) (hc1 : ¬cond0_1 (grid0.coords t)) (j : Fin 8) (h : Fin 4) :
    Ob (out0_A_4 c t hc0 hc1 x0 x1 x2 x3) j h = k0_pay11 (stS (Lw x0) (S0 (k0_pay3 (L4 x3))) (fun h => k0_pay5 (Lw x0 h)) (Kb x1) (Vb x2) h j.1 j.2.le) := by
  have := A_out c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 (v := VO0_4) (j := j) (h := h)
  simp only [A_st, Memref.IsWhole.read_unread, (Memref.isWhole_whole _).read_unread] at this
  exact this

theorem scr_A (hc0 : cond0_0 (grid0.coords t)) (hc1 : ¬cond0_1 (grid0.coords t)) (h : Fin 4) :
    S0 (sout0_A_0 c t hc0 hc1 x0 x1 x2 x3) h = stS (Lw x0) (S0 (k0_pay3 (L4 x3))) (fun h => k0_pay5 (Lw x0 h)) (Kb x1) (Vb x2) h 8 (by omega) := by
  have := A_scr c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 (v := VS0_0) (h := h)
  simp only [A_st, Memref.IsWhole.read_unread, (Memref.isWhole_whole _).read_unread] at this
  exact this

theorem kd_A (hc0 : cond0_0 (grid0.coords t)) (hc1 : ¬cond0_1 (grid0.coords t)) (h : Fin 4) :
    Kd (sout0_A_1 c t hc0 hc1 x0 x1 x2 x3) h = k0_pay5 (Lw x0 h) := by
  have := A_skd c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 (v := VS0_1) (h := h)
  simp only [A_st, Memref.IsWhole.read_unread, (Memref.isWhole_whole _).read_unread] at this
  exact this

theorem out_B (hc0 : ¬cond0_0 (grid0.coords t)) (hc1 : ¬cond0_1 (grid0.coords t)) (j : Fin 8) (h : Fin 4) :
    Ob (out0_B_4 c t hc0 hc1 x0 x1 x2 x3 xs0 xs1) j h = k0_pay11 (stS (Lw x0) (S0 xs0) (Kd xs1) (Kb x1) (Vb x2) h j.1 j.2.le) := by
  have := B_out c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 xs0 xs1 (v := VO0_4) (j := j) (h := h)
  simp only [B_st, Memref.IsWhole.read_unread, (Memref.isWhole_whole _).read_unread] at this
  exact this

theorem scr_B (hc0 : ¬cond0_0 (grid0.coords t)) (hc1 : ¬cond0_1 (grid0.coords t)) (h : Fin 4) :
    S0 (sout0_B_0 c t hc0 hc1 x0 x1 x2 x3 xs0 xs1) h = stS (Lw x0) (S0 xs0) (Kd xs1) (Kb x1) (Vb x2) h 8 (by omega) := by
  have := B_scr c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 xs0 xs1 (v := VS0_0) (h := h)
  simp only [B_st, Memref.IsWhole.read_unread, (Memref.isWhole_whole _).read_unread] at this
  exact this

theorem out_C (hc0 : ¬cond0_0 (grid0.coords t)) (hc1 : cond0_1 (grid0.coords t)) (j : Fin 8) (h : Fin 4) :
    Ob (out0_C_4 c t hc0 hc1 x0 x1 x2 x3 xs0 xs1) j h = k0_pay11 (stS (Lw x0) (S0 xs0) (Kd xs1) (Kb x1) (Vb x2) h j.1 j.2.le) := by
  have := C_out c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 xs0 xs1 (v := VO0_4) (j := j) (h := h)
  simp only [C_st, Memref.IsWhole.read_unread, (Memref.isWhole_whole _).read_unread] at this
  exact this

theorem scr_C (hc0 : ¬cond0_0 (grid0.coords t)) (hc1 : cond0_1 (grid0.coords t)) (h : Fin 4) :
    S0 (sout0_C_0 c t hc0 hc1 x0 x1 x2 x3 xs0 xs1) h = stS (Lw x0) (S0 xs0) (Kd xs1) (Kb x1) (Vb x2) h 8 (by omega) := by
  have := C_scr c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 xs0 xs1 (v := VS0_0) (h := h)
  simp only [C_st, Memref.IsWhole.read_unread, (Memref.isWhole_whole _).read_unread] at this
  exact this

theorem fin_C (hc0 : ¬cond0_0 (grid0.coords t)) (hc1 : cond0_1 (grid0.coords t)) : ∃ Y : Vec F S4x256x512 .f32,
    out0_C_5 c t hc0 hc1 x0 x1 x2 x3 xs0 xs1 = k0_pay2 Y ∧ ∀ h, S0 Y h = stS (Lw x0) (S0 xs0) (Kd xs1) (Kb x1) (Vb x2) h 8 (by omega) := by
  have := C_se c _ _ (hs0_0 t) _ (hs0_1 t) _ (hs0_2 t) _ (hs0_3 t) _ (hs0_4 t) _ (hs0_5 t) scM0_0 (Memref.isWhole_whole _) scM0_1 (Memref.isWhole_whole _) hc0 hc1 x0 x1 x2 x3 xs0 xs1 (v := VO0_5)
  simp only [C_st, Memref.IsWhole.read_unread, (Memref.isWhole_whole _).read_unread] at this
  exact this

end Cert.KernelIdeal.St
-- ==== Proof.St.Sweep.lean ====
/-
  The state call: every point's states in closed form, by induction over the grid, and the two arrays it leaves.
-/
module

public import proofs.«01_k».proof.Proof.St.Reads
public import proofs.«01_k».proof.Proof.St.Point

@[expose] public section

set_option maxRecDepth 16384

noncomputable section

namespace Cert.KernelIdeal.St

open Cert.KernelIdeal.Gen Cert.Ret Cert.Values
open Idealize.ShloMosaic hiding ix0 ix1 ix2 ix3 ix4 ix5 eq_ix2 eq_ix3 eq_ix4
open Idealize.ShloMosaic.ValueIdx
open Idealize.ShloMosaic.TcCoe

variable {u : ℕ → ℕ → ℕ → ℝ} {lg : ℕ → ℕ → ℝ} {sr : ℕ → ℕ → ℕ → ℕ → EReal}

/-- The states of one point, from an entry state in closed form. -/
theorem stS_val {lw : Fin 4 → Elt Ideal .f32} {s0 : Fin 4 → Vec Ideal S1x256x512 .f32} {kd : Fin 4 → Vec Ideal S1x256x256 .f32}
    {kb : Fin 8 → Fin 4 → Vec Ideal S1x256x256 .bf16} {vb : Fin 8 → Fin 4 → Vec Ideal S1x256x512 .bf16} {b M : ℕ} (hM : M + 2048 ≤ 16384)
    (hl : ∀ h, lw h = ((lg 1 h.val : ℝ) : EReal))
    (hkd : ∀ (h : Fin 4) (p d : Fin 256), kd h (ix3 0 p d) = ((Real.exp (lg 1 h.val * (p.val : ℝ)) : ℝ) : EReal))
    (hk : ∀ (j : Fin 8) (h : Fin 4) (p d : Fin 256), kb j h (ix3 0 p d) = ((kk u b h.val (M + (7 - j.val) * 256 + p.val) d.val : ℝ) : EReal))
    (hv : ∀ (j : Fin 8) (h : Fin 4) (p : Fin 256) (e : Fin 512), vb j h (ix3 0 p e) = ((vv u b h.val (M + (7 - j.val) * 256 + p.val) e.val : ℝ) : EReal))
    (hs : ∀ (h : Fin 4) (d : Fin 256) (e : Fin 512), s0 h (ix3 0 d e) = SR u lg sr b h.val d.val e.val (M + 2048))
    (h : Fin 4) (d : Fin 256) (e : Fin 512) : ∀ (j : ℕ) (hj : j ≤ 8),
    stS lw s0 kd kb vb h j hj (ix3 0 d e) = SR u lg sr b h.val d.val e.val (M + (8 - j) * 256)
  | 0, _ => hs h d e
  | j + 1, hj => by
    have ih := stS_val (lw := lw) (kd := kd) (kb := kb) (vb := vb) hM hl hkd hk hv hs h d e j (by omega)
    refine (pay12_apply _ _ _ _ _ d e).trans ?_
    rw [ih, hl, exp_mul]
    have e1 : M + (8 - j) * 256 = M + (8 - (j + 1)) * 256 + 256 := by omega
    unfold SR
    rw [Decay.RS_step (lg 1 h.val) (sr b h.val d.val e.val) _ _ 16384 (M + (8 - (j + 1)) * 256) 256 (by omega), ← e1]
    refine congrArg₂ (· + ·) (by norm_num) (Finset.sum_congr rfl fun p _ => ?_)
    rw [hkd, hk, hv]
    have e2 : 7 - j = 8 - (j + 1) := by omega
    show _ = (((kk u b h.val (M + (8 - (j + 1)) * 256 + p.val) d.val : ℝ) : EReal) * _) * _
    simp only [e2]

variable (V : (c : Dev nD) → (b : Ref sig .tc) → Buf (Elt Ideal) ((c : Thread nD τ).loc b)) (c : Dev nD)

/-- What the point before leaves. -/
abbrev pv (t : Fin cfg0.N) : Pt Ideal := outsAt0 V c (t.val - 1) (Nat.lt_of_le_of_lt (Nat.sub_le _ _) t.isLt)

/-- What holds after point `n`: the carried buffers, and what it wrote out. -/
structure Good (u : ℕ → ℕ → ℕ → ℝ) (lg : ℕ → ℕ → ℝ) (sr : ℕ → ℕ → ℕ → ℕ → EReal) (n : ℕ)
    (o : Vec Ideal S1x8x4x256x512 .bf16 × Vec Ideal S1x4x256x512 .f32 × Vec Ideal S4x256x512 .f32 × Vec Ideal S4x256x256 .f32) : Prop where
  st : ∀ (h : Fin 4) (d : Fin 256) (e : Fin 512), S0 o.2.2.1 h (ix3 0 d e) = SR u lg sr (n / 8) h.val d.val e.val ((7 - n % 8) * 2048)
  kd : ∀ (h : Fin 4) (p d : Fin 256), Kd o.2.2.2 h (ix3 0 p d) = ((Real.exp (lg 1 h.val * (p.val : ℝ)) : ℝ) : EReal)
  out : ∀ (j : Fin 8) (h : Fin 4) (d : Fin 256) (e : Fin 512),
    Ob o.1 j h (ix5 0 0 0 d e) = SR u lg sr (n / 8) h.val d.val e.val ((7 - n % 8) * 2048 + (8 - j.val) * 256)
  fin : n % 8 = 7 → ∀ (h : Fin 4) (d : Fin 256) (e : Fin 512), o.2.1 (ix4 0 h d e) = SR u lg sr (n / 8) h.val d.val e.val 0

variable (hu : ∀ y : S2x16384x6144.Idx, V c main_arg0 y = ((u (y 0).val (y 1).val (y 2).val : ℝ) : EReal))
  (hl : ∀ y : S2x4.Idx, V c main_arg1 y = ((lg (y 0).val (y 1).val : ℝ) : EReal))
  (hs : ∀ y : S2x4x256x512.Idx, (V c main_arg3 y : EReal) = sr (y 0).val (y 1).val (y 2).val (y 3).val)

include hl in
theorem kd_val (t : Fin cfg0.N) (h : Fin 4) (p d : Fin 256) :
    k0_pay5 (F := Ideal) (Lw (F := Ideal) (iblk V c 0 t) h) (ix3 0 p d) = ((Real.exp (lg 1 h.val * (p.val : ℝ)) : ℝ) : EReal) := by
  rw [pay5_apply, rd0 V c hl, exp_mul]

include hu hl in
/-- One point's states over its blocks. -/
theorem point_val (t : Fin cfg0.N) {s0 : Fin 4 → Vec Ideal S1x256x512 .f32} {kd : Fin 4 → Vec Ideal S1x256x256 .f32}
    (hkd : ∀ (h : Fin 4) (p d : Fin 256), kd h (ix3 0 p d) = ((Real.exp (lg 1 h.val * (p.val : ℝ)) : ℝ) : EReal))
    (hs : ∀ (h : Fin 4) (d : Fin 256) (e : Fin 512), s0 h (ix3 0 d e) = SR u lg sr (t.val / 8) h.val d.val e.val ((7 - t.val % 8) * 2048 + 2048))
    (h : Fin 4) (d : Fin 256) (e : Fin 512) (j : ℕ) (hj : j ≤ 8) :
    stS (Lw (F := Ideal) (iblk V c 0 t)) s0 kd (Kb (iblk V c 1 t)) (Vb (iblk V c 2 t)) h j hj (ix3 0 d e)
      = SR u lg sr (t.val / 8) h.val d.val e.val ((7 - t.val % 8) * 2048 + (8 - j) * 256) :=
  stS_val (by omega) (rd0 V c hl t) hkd (rd1 V c hu t) (rd2 V c hu t) hs h d e j hj

include hu hl hs in
theorem good_A (t : Fin cfg0.N) (h0 : t.val % 8 = 0) (h1 : ¬t.val % 8 = 7) : Good u lg sr t.val (outsAt0 V c t.val t.isLt) := by
  have key := point_val (sr := sr) V c hu hl t (s0 := S0 (k0_pay3 (F := Ideal) (L4 (iblk V c 3 t)))) (kd_val V c hl t) (fun h d e => by
    rw [rd3 V c hs t, SR, show (7 - t.val % 8) * 2048 + 2048 = 16384 by omega, Decay.RS_top])
  rw [outsAt0_A V c t h0 h1, ptA]
  refine ⟨fun h d e => ?_, fun h p d => ?_, fun j h d e => ?_, fun h7 => absurd h7 h1⟩
  · have H1 := scr_A (F := Ideal) c t (iblk V c 0 t) (iblk V c 1 t) (iblk V c 2 t) (iblk V c 3 t) ((hcond0_0 t).mpr h0) (fun h => h1 ((hcond0_1 t).mp h)) h
    have H2 := key h d e 8 (by omega)
    dsimp only
    rw [H1]
    exact H2
  · have H1 := kd_A (F := Ideal) c t (iblk V c 0 t) (iblk V c 1 t) (iblk V c 2 t) (iblk V c 3 t) ((hcond0_0 t).mpr h0) (fun h => h1 ((hcond0_1 t).mp h)) h
    have H2 := kd_val V c hl t h p d
    dsimp only
    rw [H1]
    exact H2
  · have H1 := out_A (F := Ideal) c t (iblk V c 0 t) (iblk V c 1 t) (iblk V c 2 t) (iblk V c 3 t) ((hcond0_0 t).mpr h0) (fun h => h1 ((hcond0_1 t).mp h)) j h
    have H2 := key h d e j.val j.2.le
    dsimp only
    rw [H1]
    exact (pay11_apply _ d e).trans H2

theorem prev {t : ℕ} (h0 : ¬t % 8 = 0) : (t - 1) / 8 = t / 8 ∧ (7 - (t - 1) % 8) * 2048 = (7 - t % 8) * 2048 + 2048 := by omega

include hu hl in
theorem good_B (t : Fin cfg0.N) (h0 : ¬t.val % 8 = 0) (h1 : ¬t.val % 8 = 7)
    (ih : Good u lg sr (t.val - 1) (pv V c t)) :
    Good u lg sr t.val (outsAt0 V c t.val t.isLt) := by
  have key := point_val (sr := sr) V c hu hl t (s0 := S0 (pv V c t).2.2.1) ih.kd (fun h d e => by rw [ih.st, (prev h0).1, (prev h0).2])
  rw [outsAt0_B V c t h0 h1, ptB]
  refine ⟨fun h d e => ?_, ih.kd, fun j h d e => ?_, fun h7 => absurd h7 h1⟩
  · have H1 := scr_B (F := Ideal) c t (iblk V c 0 t) (iblk V c 1 t) (iblk V c 2 t) (iblk V c 3 t) (pv V c t).2.2.1 (pv V c t).2.2.2 (fun h => h0 ((hcond0_0 t).mp h)) (fun h => h1 ((hcond0_1 t).mp h)) h
    have H2 := key h d e 8 (by omega)
    dsimp only
    rw [H1]
    exact H2
  · have H1 := out_B (F := Ideal) c t (iblk V c 0 t) (iblk V c 1 t) (iblk V c 2 t) (iblk V c 3 t) (pv V c t).2.2.1 (pv V c t).2.2.2 (fun h => h0 ((hcond0_0 t).mp h)) (fun h => h1 ((hcond0_1 t).mp h)) j h
    have H2 := key h d e j.val j.2.le
    dsimp only
    rw [H1]
    exact (pay11_apply _ d e).trans H2

include hu hl in
theorem good_C (t : Fin cfg0.N) (h0 : ¬t.val % 8 = 0) (h1 : t.val % 8 = 7)
    (ih : Good u lg sr (t.val - 1) (pv V c t)) :
    Good u lg sr t.val (outsAt0 V c t.val t.isLt) := by
  have key := point_val (sr := sr) V c hu hl t (s0 := S0 (pv V c t).2.2.1) ih.kd (fun h d e => by rw [ih.st, (prev h0).1, (prev h0).2])
  rw [outsAt0_C V c t h0 h1, ptC]
  refine ⟨fun h d e => ?_, ih.kd, fun j h d e => ?_, fun h7 h d e => ?_⟩
  · have H1 := scr_C (F := Ideal) c t (iblk V c 0 t) (iblk V c 1 t) (iblk V c 2 t) (iblk V c 3 t) (pv V c t).2.2.1 (pv V c t).2.2.2 (fun h => h0 ((hcond0_0 t).mp h)) ((hcond0_1 t).mpr h1) h
    have H2 := key h d e 8 (by omega)
    dsimp only
    rw [H1]
    exact H2
  · have H1 := out_C (F := Ideal) c t (iblk V c 0 t) (iblk V c 1 t) (iblk V c 2 t) (iblk V c 3 t) (pv V c t).2.2.1 (pv V c t).2.2.2 (fun h => h0 ((hcond0_0 t).mp h)) ((hcond0_1 t).mpr h1) j h
    have H2 := key h d e j.val j.2.le
    dsimp only
    rw [H1]
    exact (pay11_apply _ d e).trans H2
  · obtain ⟨Y, hY, hS⟩ := fin_C (F := Ideal) c t (iblk V c 0 t) (iblk V c 1 t) (iblk V c 2 t) (iblk V c 3 t) (pv V c t).2.2.1 (pv V c t).2.2.2 (fun h => h0 ((hcond0_0 t).mp h)) ((hcond0_1 t).mpr h1)
    have H2 := key h d e 8 (by omega)
    dsimp only
    rw [hY, pay2_apply, ← S0_apply Y h d e, hS, H2]
    rw [show (7 - t.val % 8) * 2048 + (8 - 8) * 256 = 0 by omega]

include hu hl hs in
theorem good : ∀ (n : ℕ) (hn : n < cfg0.N), Good u lg sr n (outsAt0 V c n hn)
  | 0, hn => good_A V c hu hl hs ⟨0, hn⟩ (Nat.zero_mod 8) (by show ¬0 % 8 = 7; decide)
  | n + 1, hn => by
    have ih := good n (Nat.lt_of_succ_lt hn)
    by_cases h0 : (n + 1) % 8 = 0
    · exact good_A V c hu hl hs ⟨n + 1, hn⟩ h0 (by show ¬(n + 1) % 8 = 7; omega)
    by_cases h1 : (n + 1) % 8 = 7
    · exact good_C V c hu hl ⟨n + 1, hn⟩ h0 h1 ih
    · exact good_B V c hu hl ⟨n + 1, hn⟩ h0 h1 ih

/-- An element of the states written out, found in its subchunk and head. -/
theorem Ob_at (o : Vec Ideal S1x8x4x256x512 .bf16) (y : S1x8x4x256x512.Idx) (h1 : (y 1).val < 8) :
    o y = Ob o ⟨7 - (y 1).val, by omega⟩ (y 2) (ix5 0 0 0 (y 3) (y 4)) := by
  unfold Ob View.ld
  congr 1
  funext a; apply Fin.ext
  match a with
  | ⟨0, _⟩ => have h : (y 0).val < 1 := (y 0).isLt; show (y 0).val = 0 + 1 * 0; omega
  | ⟨1, _⟩ => show (y 1).val = 7 - (7 - (y 1).val) + 1 * 0; omega
  | ⟨2, _⟩ => show (y 2).val = (y 2).val + 1 * 0; omega
  | ⟨3, _⟩ => show (y 3).val = 0 + 1 * (y 3).val; omega
  | ⟨4, _⟩ => show (y 4).val = 0 + 1 * (y 4).val; omega

theorem SR_at {b b' h h' d d' e e' n n' : ℕ} (h0 : b = b') (h1 : h = h') (h2 : d = d') (h3 : e = e') (h4 : n = n') :
    SR u lg sr b h d e n = SR u lg sr b' h' d' e' n' := by subst h0 h1 h2 h3 h4; rfl

include hu hl hs in
/-- The states written out, at an index. -/
theorem arr_sr : (dat V c).arrAt 4 cfg0.N = fun y : S2x64x4x256x512.Idx =>
    SR u lg sr (y 0).val (y 2).val (y 3).val (y 4).val ((y 1).val * 256 + 256) := by
  refine (dat V c).arrAt_eq_of_covers 4 _ (by decide +kernel) fun t hf y => ?_
  have g := (good V c hu hl hs t.val t.isLt).out
  rw [after0_4]
  have h1 : (y (1 : Fin 5)).val < 8 := (y (1 : Fin 5)).isLt
  refine (Ob_at _ y h1).trans ((g _ _ _ _).trans ?_)
  refine SR_at ?_ ?_ ?_ ?_ ?_
  · refine Eq.trans ?_ (Pipeline.Window.rect_emb_val win0_4 t y (0 : Fin 5)).symm
    rw [(idx4 t).1]
    have h : (y (0 : Fin 5)).val < 1 := (y (0 : Fin 5)).isLt
    show t.val / 8 = t.val / 8 * 1 + (y (0 : Fin 5)).val
    omega
  · refine Eq.trans ?_ (Pipeline.Window.rect_emb_val win0_4 t y (2 : Fin 5)).symm
    rw [(idx4 t).2.2.1]
    show (y (2 : Fin 5)).val = 0 * 4 + (y (2 : Fin 5)).val
    omega
  · refine Eq.trans ?_ (Pipeline.Window.rect_emb_val win0_4 t y (3 : Fin 5)).symm
    rw [(idx4 t).2.2.2.1]
    show (y (3 : Fin 5)).val = 0 * 256 + (y (3 : Fin 5)).val
    omega
  · refine Eq.trans ?_ (Pipeline.Window.rect_emb_val win0_4 t y (4 : Fin 5)).symm
    rw [(idx4 t).2.2.2.2]
    show (y (4 : Fin 5)).val = 0 * 512 + (y (4 : Fin 5)).val
    omega
  · refine Eq.trans ?_ (congrArg (fun n => n * 256 + 256) (Pipeline.Window.rect_emb_val win0_4 t y (1 : Fin 5)).symm)
    rw [(idx4 t).2.1]
    show (7 - t.val % 8) * 2048 + (8 - (7 - (y (1 : Fin 5)).val)) * 256 = ((7 - t.val % 8) * 8 + (y (1 : Fin 5)).val) * 256 + 256
    omega

theorem ix4_at (o : Vec Ideal S1x4x256x512 .f32) (y : S1x4x256x512.Idx) : o y = o (ix4 0 (y 1) (y 2) (y 3)) := by
  congr 1
  funext a; apply Fin.ext
  match a with
  | ⟨0, _⟩ => have h : (y 0).val < 1 := (y 0).isLt; show (y 0).val = 0; omega
  | ⟨1, _⟩ => rfl
  | ⟨2, _⟩ => rfl
  | ⟨3, _⟩ => rfl

/-- The last state is written back at the last point of a batch row. -/
theorem flush5 : ∀ t : Fin cfg0.N, (cfg0.win 5).flush t = true → t.val % 8 = 7 := by decide +kernel

include hu hl hs in
/-- The last states, at an index. -/
theorem arr_se : (dat V c).arrAt 5 cfg0.N = fun y : S2x4x256x512.Idx =>
    SR u lg sr (y 0).val (y 1).val (y 2).val (y 3).val 0 := by
  refine (dat V c).arrAt_eq_of_covers 5 _ (by decide +kernel) fun t hf y => ?_
  have g := (good V c hu hl hs t.val t.isLt).fin (flush5 t hf)
  rw [after0_5]
  refine (ix4_at _ y).trans ((g _ _ _).trans ?_)
  refine SR_at ?_ ?_ ?_ ?_ rfl
  · refine Eq.trans ?_ (Pipeline.Window.rect_emb_val win0_5 t y (0 : Fin 4)).symm
    rw [(idx5 t).1]
    have h : (y (0 : Fin 4)).val < 1 := (y (0 : Fin 4)).isLt
    show t.val / 8 = t.val / 8 * 1 + (y (0 : Fin 4)).val
    omega
  · refine Eq.trans ?_ (Pipeline.Window.rect_emb_val win0_5 t y (1 : Fin 4)).symm
    rw [(idx5 t).2.1]
    show (y (1 : Fin 4)).val = 0 * 4 + (y (1 : Fin 4)).val
    omega
  · refine Eq.trans ?_ (Pipeline.Window.rect_emb_val win0_5 t y (2 : Fin 4)).symm
    rw [(idx5 t).2.2.1]
    show (y (2 : Fin 4)).val = 0 * 256 + (y (2 : Fin 4)).val
    omega
  · refine Eq.trans ?_ (Pipeline.Window.rect_emb_val win0_5 t y (3 : Fin 4)).symm
    rw [(idx5 t).2.2.2]
    show (y (3 : Fin 4)).val = 0 * 512 + (y (3 : Fin 4)).val
    omega

end Cert.KernelIdeal.St
-- ==== Proof.Mn.Spec.lean ====
/-
  The main call: what one grid point computes, written over the blocks it reads.
-/
module

public import proofs.«01_k».proof.Proof.Tools
public import proofs.«01_k».proof.Proof.Mn.Frame
public import Mathlib.Tactic.IntervalCases

@[expose] public section

noncomputable section

namespace Cert.KernelIdeal.Mn

open Cert.KernelIdeal.Gen
open Idealize.ShloMosaic Idealize.ShloMosaic.TcCoe

variable {F : FTy → Type} [FloatOps F]

theorem inbLw (r : Fin 2) (h : Fin 4) : ∀ a, (![r.1, h.1] : Fin 2 → ℕ) a + S1x1.size a ≤ S2x4.size a := by
  intro a; have := h.2; have := r.2; fin_cases a <;> simp <;> omega
theorem inbQb (j : Fin 4) (h : Fin 4) : ∀ a, (![0, j.1 * 256, h.1 * 256] : Fin 3 → ℕ) a + S1x256x256.size a ≤ S1x1024x1024.size a := by
  intro a; have := h.2; have := j.2; fin_cases a <;> simp <;> omega
theorem inbVb (j : Fin 4) (h : Fin 4) : ∀ a, (![0, j.1 * 256, h.1 * 512] : Fin 3 → ℕ) a + S1x256x512.size a ≤ S1x1024x2048.size a := by
  intro a; have := h.2; have := j.2; fin_cases a <;> simp <;> omega
theorem inbS (h : Fin 4) : ∀ a, (![h.1, 0, 0] : Fin 3 → ℕ) a + S1x256x512.size a ≤ S4x256x512.size a := by
  intro a; have := h.2; fin_cases a <;> simp <;> omega
theorem inbKd (h : Fin 4) : ∀ a, (![h.1, 0, 0] : Fin 3 → ℕ) a + S1x256x256.size a ≤ S4x256x256.size a := by
  intro a; have := h.2; fin_cases a <;> simp <;> omega
theorem inbSr (j : Fin 4) (h : Fin 4) : ∀ a, (![0, j.1, h.1, 0, 0] : Fin 5 → ℕ) a + S1x1x1x256x512.size a ≤ S1x4x4x256x512.size a := by
  intro a; have := h.2; have := j.2; fin_cases a <;> simp <;> omega

/-- A decay's logarithm: row 0 the forward one, row 1 the reverse one, of head `h`. -/
def Lw (x0 : Vec F S2x4 .f32) (r : Fin 2) (h : Fin 4) : Elt F .f32 := View.ld x0 (Rect.unit ![r.1, h.1] S1x1.size (inbLw r h)) (Shape.Idx.first (show 0 < S1x1.numel by decide))
/-- The queries, or the keys, of head `h` in the `j`-th subchunk. -/
def Qb (x1 : Vec F S1x1024x1024 .bf16) (j : Fin 4) (h : Fin 4) : Vec F S1x256x256 .bf16 := View.ld x1 (Rect.unit ![0, j.1 * 256, h.1 * 256] S1x256x256.size (inbQb j h))
/-- The values of head `h` in the `j`-th subchunk. -/
def Vb (x3 : Vec F S1x1024x2048 .bf16) (j : Fin 4) (h : Fin 4) : Vec F S1x256x512 .bf16 := View.ld x3 (Rect.unit ![0, j.1 * 256, h.1 * 512] S1x256x512.size (inbVb j h))
/-- The reverse state of head `h` behind the `j`-th subchunk. -/
def Sr (x4 : Vec F S1x4x4x256x512 .bf16) (j : Fin 4) (h : Fin 4) : Vec F S1x1x1x256x512 .bf16 := View.ld x4 (Rect.unit ![0, j.1, h.1, 0, 0] S1x1x1x256x512.size (inbSr j h))
/-- Head `h` of a state held for all heads. -/
def S0 (xs0 : Vec F S4x256x512 .f32) (h : Fin 4) : Vec F S1x256x512 .f32 := View.ld xs0 (Rect.unit ![h.1, 0, 0] S1x256x512.size (inbS h))
/-- Head `h` of a table of decays held for all heads. -/
def Kd (xs1 : Vec F S4x256x256 .f32) (h : Fin 4) : Vec F S1x256x256 .f32 := View.ld xs1 (Rect.unit ![h.1, 0, 0] S1x256x256.size (inbKd h))

theorem S0_written (v : View sig .tc .vmem S4x256x512 .f32) {L : List (View.Piece (Elt F) S4x256x512 .f32)} {h : Fin 4} {w : Vec F S1x256x512 .f32}
    (H : Tools.At (s := S4x256x512) (Rect.unit (s := S4x256x512) ![h.1, 0, 0] S1x256x512.size (inbS h)) w L) : S0 (v.read (Elt F) (v.writes (Elt F) v.junk L)) h = w := Tools.ld_written v H
theorem Kd_written (v : View sig .tc .vmem S4x256x256 .f32) {L : List (View.Piece (Elt F) S4x256x256 .f32)} {h : Fin 4} {w : Vec F S1x256x256 .f32}
    (H : Tools.At (s := S4x256x256) (Rect.unit (s := S4x256x256) ![h.1, 0, 0] S1x256x256.size (inbKd h)) w L) : Kd (v.read (Elt F) (v.writes (Elt F) v.junk L)) h = w := Tools.ld_written v H
theorem Vb_written (v : View sig .tc .vmem S1x1024x2048 .bf16) {L : List (View.Piece (Elt F) S1x1024x2048 .bf16)} {j : Fin 4} {h : Fin 4} {w : Vec F S1x256x512 .bf16}
    (H : Tools.At (s := S1x1024x2048) (Rect.unit (s := S1x1024x2048) ![0, j.1 * 256, h.1 * 512] S1x256x512.size (inbVb j h)) w L) : Vb (v.read (Elt F) (v.writes (Elt F) v.junk L)) j h = w := Tools.ld_written v H

/-- The whole block of an entry state, as one load reads it. -/
def L4 (x : Vec F S1x4x256x512 .f32) : Vec F S1x4x256x512 .f32 :=
  View.ld x (Rect.unit (s := S1x4x256x512) ![0, 0, 0, 0] S1x4x256x512.size inb_S1x4x256x512_S1x4x256x512_0_0_0_0)

theorem L4_eq (x : Vec F S1x4x256x512 .f32) : L4 x = x := by
  funext y; unfold L4 View.ld; congr 1
  funext a; apply Fin.ext
  fin_cases a
  · show 0 + 1 * (y 0).val = (y 0).val; omega
  · show 0 + 1 * (y 1).val = (y 1).val; omega
  · show 0 + 1 * (y 2).val = (y 2).val; omega
  · show 0 + 1 * (y 3).val = (y 3).val; omega

/-- The states of all heads, as one load reads them. -/
def L3 (x : Vec F S4x256x512 .f32) : Vec F S4x256x512 .f32 :=
  View.ld x (Rect.unit (s := S4x256x512) ![0, 0, 0] S4x256x512.size inb_S4x256x512_S4x256x512_0_0_0)

theorem L3_eq (x : Vec F S4x256x512 .f32) : L3 x = x := by
  funext y; unfold L3 View.ld; congr 1
  funext a; apply Fin.ext
  fin_cases a
  · show 0 + 1 * (y 0).val = (y 0).val; omega
  · show 0 + 1 * (y 1).val = (y 1).val; omega
  · show 0 + 1 * (y 2).val = (y 2).val; omega

/-- A block of a state that one store fills. -/
theorem L4_written (v : View sig .tc .vmem S1x4x256x512 .f32) {L : List (View.Piece (Elt F) S1x4x256x512 .f32)} {w : Vec F S1x4x256x512 .f32}
    (H : Tools.At (s := S1x4x256x512) (Rect.unit (s := S1x4x256x512) ![0, 0, 0, 0] S1x4x256x512.size inb_S1x4x256x512_S1x4x256x512_0_0_0_0) w L) :
    v.read (Elt F) (v.writes (Elt F) v.junk L) = w := by
  rw [← L4_eq (v.read (Elt F) (v.writes (Elt F) v.junk L))]; exact Tools.ld_written v H

theorem zero3 : ∀ a, (![0, 0, 0] : Fin 3 → ℕ) a = 0 := by decide

theorem S0_filled (v : View sig .tc .vmem S4x256x512 .f32) {L : List (View.Piece (Elt F) S4x256x512 .f32)} {h : Fin 4} {Z : Vec F S4x256x512 .f32}
    (H : Tools.AtFill (s := S4x256x512) (Rect.unit (s := S4x256x512) ![h.1, 0, 0] S1x256x512.size (inbS h)) Z L) :
    v.readCov L (Rect.unit (s := S4x256x512) ![h.1, 0, 0] S1x256x512.size (inbS h)).toLoadRect = S0 Z h := Tools.readCov_atFill v H

/-- The decays between the positions of one chunk, forward below the diagonal and reverse above it. -/
def DM (x0 : Vec F S2x4 .f32) (h : Fin 4) : Vec F S1x256x256 .f32 := k1_pay6 (Lw x0 0 h) (Lw x0 1 h)
/-- The forward decays of the queries of one chunk. -/
def QF (x0 : Vec F S2x4 .f32) (h : Fin 4) : Vec F S1x256x256 .f32 := k1_pay8 (k1_pay7 (Lw x0 0 h))
/-- The reverse decays of the queries of one chunk. -/
def QR (x0 : Vec F S2x4 .f32) (h : Fin 4) : Vec F S1x256x256 .f32 := k1_pay9 k1_pay5 (Lw x0 1 h)
/-- The forward decays of the keys of one chunk. -/
def KD (x0 : Vec F S2x4 .f32) (h : Fin 4) : Vec F S1x256x256 .f32 := k1_pay10 k1_pay5 (Lw x0 0 h)

/-- One chunk's step of the forward state. -/
def stepM (lw : Elt F .f32) (st : Vec F S1x256x512 .f32) (k : Vec F S1x256x256 .bf16) (kd : Vec F S1x256x256 .f32) (v : Vec F S1x256x512 .bf16) : Vec F S1x256x512 .f32 :=
  k1_pay32 (k1_pay27 lw) (k1_pay28 k) (k1_pay29 v) (k1_pay30 st) kd
/-- One chunk's output. -/
def outM (st : Vec F S1x256x512 .f32) (q k : Vec F S1x256x256 .bf16) (v : Vec F S1x256x512 .bf16) (dm qf qr : Vec F S1x256x256 .f32) (sr : Vec F S1x1x1x256x512 .bf16) : Vec F S1x256x512 .bf16 :=
  k1_pay33 (k1_pay29 v) (k1_pay30 st) (k1_pay31 q k dm qf qr) sr

/-- The forward state of head `h` after the first `j` subchunks of a point. -/
def stM (lw : Fin 4 → Elt F .f32) (s0 : Fin 4 → Vec F S1x256x512 .f32) (kd : Fin 4 → Vec F S1x256x256 .f32)
    (kb : Fin 4 → Fin 4 → Vec F S1x256x256 .bf16) (vb : Fin 4 → Fin 4 → Vec F S1x256x512 .bf16) (h : Fin 4) : (j : ℕ) → j ≤ 4 → Vec F S1x256x512 .f32
  | 0, _ => s0 h
  | j + 1, hj => stepM (lw h) (stM lw s0 kd kb vb h j (by omega)) (kb ⟨j, hj⟩ h) (kd h) (vb ⟨j, hj⟩ h)

theorem stM_step {lw : Fin 4 → Elt F .f32} {s0 : Fin 4 → Vec F S1x256x512 .f32} {kd : Fin 4 → Vec F S1x256x256 .f32}
    {kb : Fin 4 → Fin 4 → Vec F S1x256x256 .bf16} {vb : Fin 4 → Fin 4 → Vec F S1x256x512 .bf16} (h : Fin 4) (j : ℕ) (hj : j + 1 ≤ 4)
    {v p : Vec F S1x256x512 .f32} {d : Vec F S1x256x256 .f32} (hp : p = stM lw s0 kd kb vb h j (by omega)) (hd : d = kd h)
    (hv : v = stepM (lw h) p (kb ⟨j, hj⟩ h) d (vb ⟨j, hj⟩ h)) : v = stM lw s0 kd kb vb h (j + 1) hj := by
  subst hp hd; exact hv

theorem Vb_out (v : View sig .tc .vmem S1x1024x2048 .bf16) {L : List (View.Piece (Elt F) S1x1024x2048 .bf16)} {j : Fin 4} {h : Fin 4}
    {st st' : Vec F S1x256x512 .f32} {q k : Vec F S1x256x256 .bf16} {vb : Vec F S1x256x512 .bf16} {dm qf qr dm' qf' qr' : Vec F S1x256x256 .f32}
    {sr : Vec F S1x1x1x256x512 .bf16}
    (h0 : st = st') (h1 : dm = dm') (h2 : qf = qf') (h3 : qr = qr')
    (H : Tools.At (s := S1x1024x2048) (Rect.unit (s := S1x1024x2048) ![0, j.1 * 256, h.1 * 512] S1x256x512.size (inbVb j h)) (outM st q k vb dm qf qr sr) L) :
    Vb (v.read (Elt F) (v.writes (Elt F) v.junk L)) j h = outM st' q k vb dm' qf' qr' sr := by
  subst h0 h1 h2 h3; exact Vb_written v H

end Cert.KernelIdeal.Mn
-- ==== Proof.Mn.Ideal.lean ====
/-
  The main call over the extended reals: its payloads read at an index.
-/
module

public import proofs.«01_k».proof.Proof.Mn.Spec
public import proofs.«01_k».proof.Proof.Values
public import Idealize.ShloMosaic.Lib.ValueLayoutCasts
public import Idealize.ShloMosaic.Lib.Pointwise.Reduce

@[expose] public section

noncomputable section

namespace Cert.KernelIdeal.Mn

open Cert.KernelIdeal.Gen
open Idealize.ShloMosaic hiding ix0 ix1 ix2 ix3 ix4 ix5 eq_ix2 eq_ix3 eq_ix4
open Idealize.ShloMosaic.ValueIdx

open Cert.Values

/-- The product contracting the first axes, at an index. -/
theorem mm_apply (l : FVec Ideal S256x256 .bf16) (r : FVec Ideal S256x512 .bf16) (d : Fin 256) (e : Fin 512) :
    FloatOps.matmul dot_S256x256_S256x512_S256x512_0_0_1_1_n_n none l r (constant S256x512 .f32 0x00000000#32) (ix2 d e)
      = ∑ k : Fin 256, l (ix2 k d) * r (ix2 k e) := by
  rw [Ideal.matmul_constant_zero_apply]
  rw [← Equiv.sum_comp (contrEquiv1 dot_S256x256_S256x512_S256x512_0_0_1_1_n_n 256 rfl rfl).symm]
  refine Finset.sum_congr rfl fun k _ => ?_
  congr 2
  · funext a; fin_cases a <;> rfl
  · funext a; fin_cases a <;> rfl

/-- The product of queries and keys, at an index. -/
theorem qk_apply (l r : FVec Ideal S256x256 .bf16) (p j : Fin 256) :
    FloatOps.matmul dot_S256x256_S256x256_S256x256_1_1_0_0_n_n none l r (constant S256x256 .f32 0x00000000#32) (ix2 p j)
      = ∑ d : Fin 256, l (ix2 p d) * r (ix2 j d) := by
  rw [Ideal.matmul_constant_zero_apply]
  rw [← Equiv.sum_comp (contrEquiv1 dot_S256x256_S256x256_S256x256_1_1_0_0_n_n 256 rfl rfl).symm]
  refine Finset.sum_congr rfl fun k _ => ?_
  congr 2
  · funext a; fin_cases a <;> rfl
  · funext a; fin_cases a <;> rfl

/-- The product over the joined axis, at an index. -/
theorem cat_apply (l : FVec Ideal S256x768 .bf16) (r : FVec Ideal S768x512 .bf16) (p : Fin 256) (e : Fin 512) :
    FloatOps.matmul dot_S256x768_S768x512_S256x512_1_0_0_1_n_n none l r (constant S256x512 .f32 0x00000000#32) (ix2 p e)
      = ∑ k : Fin 768, l (ix2 p k) * r (ix2 k e) := by
  rw [Ideal.matmul_constant_zero_apply]
  rw [← Equiv.sum_comp (contrEquiv1 dot_S256x768_S768x512_S256x512_1_0_0_1_n_n 768 rfl rfl).symm]
  refine Finset.sum_congr rfl fun k _ => ?_
  congr 2
  · funext a; fin_cases a <;> rfl
  · funext a; fin_cases a <;> rfl

theorem stepM_apply (lw : Elt Ideal .f32) (st : Vec Ideal S1x256x512 .f32) (k : Vec Ideal S1x256x256 .bf16) (kd : Vec Ideal S1x256x256 .f32)
    (v : Vec Ideal S1x256x512 .bf16) (d : Fin 256) (e : Fin 512) :
    stepM (F := Ideal) lw st k kd v (ix3 0 d e)
      = Ideal.exp (lw * ((256 : ℝ) : EReal)) * st (ix3 0 d e) + ∑ j : Fin 256, (k (ix3 0 j d) * kd (ix3 0 j d)) * v (ix3 0 j e) := by
  unfold stepM k1_pay32 k1_pay30 k1_pay29 k1_pay28 k1_pay27
  refine (shapeCast_ab_1ab_apply _ _ 0 d e).trans ?_
  refine congrArg₂ (· + ·) (congrArg₂ (· * ·) ?_ ?_) ?_
  · rw [← word_256]; rfl
  · exact shapeCast_1ab_ab_apply _ _ d e
  · refine (mm_apply _ _ d e).trans (Finset.sum_congr rfl fun j _ => ?_)
    refine congrArg₂ (· * ·) ?_ (shapeCast_1ab_ab_apply _ _ j e)
    exact congrArg₂ (fun x y : EReal => x * y) (shapeCast_1ab_ab_apply k shapeCasts_S1x256x256_S256x256 j d)
      (shapeCast_1ab_ab_apply kd shapeCasts_S1x256x256_S256x256 j d)

theorem row_apply (p d : Fin 256) : k1_pay5 (F := Ideal) (ix2 p d) = (((p : ℕ) : ℝ) : EReal) := by
  unfold k1_pay5
  refine Eq.trans ?_ (counter p.1 (by omega))
  exact congrArg (FloatOps.sitofp (F := Ideal) .f32) (iota_single_apply ..)

theorem diff_apply (p j : Fin 256) : k1_pay3 (F := Ideal) (ix2 p j) = ((((j : ℕ) : ℝ) - ((p : ℕ) : ℝ) : ℝ) : EReal) := by
  unfold k1_pay3
  rw [EReal.coe_sub]
  refine congrArg₂ (fun x y : EReal => x - y) (Eq.trans ?_ (counter j.1 (by omega))) (Eq.trans ?_ (counter p.1 (by omega)))
  · exact congrArg (FloatOps.sitofp (F := Ideal) .f32) (iota_single_apply ..)
  · exact congrArg (FloatOps.sitofp (F := Ideal) .f32) (iota_single_apply ..)

theorem past_apply (p j : Fin 256) : k1_pay4 (F := Ideal) (ix2 p j) = if j.val ≤ p.val then 1#1 else 0#1 := by
  unfold k1_pay4
  show FloatOps.cmpf .ole (k1_pay3 (F := Ideal) (ix2 p j)) (Ideal.ofBits .f32 0x00000000#32) = _
  rw [diff_apply, word_0]
  show BitVec.ofBool (decide (_ ≤ _)) = _
  by_cases h : j.val ≤ p.val
  · have h' : ((j.val : ℝ)) ≤ (p.val : ℝ) := by exact_mod_cast h
    rw [if_pos h, decide_eq_true (EReal.coe_le_coe_iff.mpr (by linarith))]; rfl
  · have h' : ((p.val : ℝ)) < (j.val : ℝ) := by exact_mod_cast (Nat.lt_of_not_le h)
    rw [if_neg h, decide_eq_false (fun h0 => absurd (EReal.coe_le_coe_iff.mp h0) (by linarith))]; rfl

theorem DM_apply (a r : ℝ) (p j : Fin 256) : k1_pay6 (F := Ideal) (a : EReal) (r : EReal) (ix3 0 p j)
    = ((if j.val ≤ p.val then Real.exp (a * ((p.val : ℝ) - j.val)) else Real.exp (r * ((j.val : ℝ) - p.val)) : ℝ) : EReal) := by
  unfold k1_pay6
  refine (shapeCast_ab_1ab_apply _ _ 0 p j).trans ?_
  have hp := past_apply p j
  have hd := diff_apply p j
  by_cases h : j.val ≤ p.val
  · rw [if_pos h] at hp ⊢
    rw [select_apply, hp, select_one]
    show Ideal.exp ((a : EReal) * select (k1_pay4 (F := Ideal)) _ _ (ix2 p j)) = _
    rw [select_apply, hp, select_one]
    show Ideal.exp ((a : EReal) * (Ideal.ofBits .f32 0x00000000#32 - k1_pay3 (F := Ideal) (ix2 p j))) = _
    rw [hd, word_0, ← EReal.coe_sub, exp_mul, zero_sub, neg_sub]
  · rw [if_neg h] at hp ⊢
    rw [select_apply, hp, select_zero]
    show Ideal.exp ((r : EReal) * select (k1_pay4 (F := Ideal)) _ _ (ix2 p j)) = _
    rw [select_apply, hp, select_zero, hd, exp_mul]

theorem QF_apply (a : ℝ) (p d : Fin 256) : k1_pay8 (F := Ideal) (k1_pay7 (F := Ideal) (a : EReal)) (ix3 0 p d)
    = ((Real.exp (a * ((p.val : ℝ) + 1)) : ℝ) : EReal) := by
  unfold k1_pay8 k1_pay7
  refine (shapeCast_ab_1ab_apply _ _ 0 p d).trans ?_
  show Ideal.exp ((a : EReal) * (k1_pay5 (F := Ideal) (ix2 p d) + Ideal.ofBits .f32 0x3F800000#32)) = _
  rw [row_apply, word_1, ← EReal.coe_add, exp_mul]

theorem QR_apply (r : ℝ) (p d : Fin 256) : k1_pay9 (F := Ideal) (k1_pay5 (F := Ideal)) (r : EReal) (ix3 0 p d)
    = ((Real.exp (r * ((256 : ℝ) - p.val)) : ℝ) : EReal) := by
  unfold k1_pay9
  refine (shapeCast_ab_1ab_apply _ _ 0 p d).trans ?_
  show Ideal.exp ((r : EReal) * (Ideal.ofBits .f32 0x43800000#32 - k1_pay5 (F := Ideal) (ix2 p d))) = _
  rw [row_apply, word_256, ← EReal.coe_sub, exp_mul]

theorem KD_apply (a : ℝ) (p d : Fin 256) : k1_pay10 (F := Ideal) (k1_pay5 (F := Ideal)) (a : EReal) (ix3 0 p d)
    = ((Real.exp (a * ((255 : ℝ) - p.val)) : ℝ) : EReal) := by
  unfold k1_pay10
  refine (shapeCast_ab_1ab_apply _ _ 0 p d).trans ?_
  show Ideal.exp ((a : EReal) * (Ideal.ofBits .f32 0x437F0000#32 - k1_pay5 (F := Ideal) (ix2 p d))) = _
  rw [row_apply, word_255, ← EReal.coe_sub, exp_mul]

/-- The rows' means, as a column. -/
def rowMean (X : FVec Ideal S256x512 .f32) : FVec Ideal S256x1 .f32 :=
  divf (shapeCast S256x1 (multiReduction .add [1] S256 X 0x00000000#32 reduces_S256x512_S256 (.inl rfl) rfl) shapeCasts_S256_S256x1)
    (broadcast S256x1 (Scalar.ofBits .f32 0x44000000#32))

theorem rowMean_apply (X : FVec Ideal S256x512 .f32) (p : Fin 256) : rowMean X (ix2 p 0) = mean (fun i => X (ix2 p i)) := by
  unfold rowMean
  refine congrArg (fun x : EReal => Ideal.div x _) ?_
  refine (shapeCast_a_a1_apply _ _ p 0).trans ?_
  exact Ideal.reduceAdd_r2_a1 reduces_S256x512_S256 X (ix1 p)

/-- A column broadcast along its rows. -/
theorem col_apply (x : FVec Ideal S256x1 .f32) (p : Fin 256) (e : Fin 512) :
    broadcastTo S256x512 x broadcasts_S256x1_S256x512 (ix2 p e) = x (ix2 p 0) := by
  refine broadcastTo_apply x _ (ix2 p e) (ix2 p 0) fun a => ?_
  match a with
  | ⟨0, _⟩ => rfl
  | ⟨1, _⟩ => rfl

/-- The rows less their means. -/
def centred (X : FVec Ideal S256x512 .f32) : FVec Ideal S256x512 .f32 := subf X (broadcastTo S256x512 (rowMean X) broadcasts_S256x1_S256x512)

theorem centred_apply (X : FVec Ideal S256x512 .f32) (p : Fin 256) (e : Fin 512) :
    centred X (ix2 p e) = X (ix2 p e) - mean (fun i => X (ix2 p i)) :=
  congrArg (fun x : EReal => X (ix2 p e) - x) ((col_apply _ p e).trans (rowMean_apply X p))

/-- The rows normalised. -/
def normed (X : FVec Ideal S256x512 .f32) : FVec Ideal S256x512 .f32 :=
  mulf (centred X) (broadcastTo S256x512 (rsqrt (addf (rowMean (mulf (centred X) (centred X)))
    (broadcast S256x1 (Scalar.ofBits .f32 0x358637BD#32)))) broadcasts_S256x1_S256x512)

theorem normed_apply (X : FVec Ideal S256x512 .f32) (p : Fin 256) (e : Fin 512) : normed X (ix2 p e) = HN (fun i => X (ix2 p i)) e := by
  unfold normed HN
  refine congrArg₂ (fun x y : EReal => x * y) (centred_apply X p e) ?_
  refine (col_apply _ p e).trans ?_
  refine congrArg (fun x : EReal => Ideal.rsqrt (x + _)) ?_
  refine (rowMean_apply _ p).trans (congrArg mean (funext fun i => ?_))
  exact congrArg₂ (fun x y : EReal => x * y) (centred_apply X p i) (centred_apply X p i)

/-- Three arrays joined along their columns. -/
def left (x y z : FVec Ideal S256x256 .bf16) : FVec Ideal S256x768 .bf16 :=
  concatenate S256x768 1 [⟨S256x256, x⟩, ⟨S256x256, y⟩, ⟨S256x256, z⟩] concatenates_S256x256_S256x256_S256x256_S256x768_d1

theorem left_at (x y z : FVec Ideal S256x256 .bf16) (p j : Fin 256) :
    left x y z (ix2 p ⟨j.val, by omega⟩) = x (ix2 p j) ∧ left x y z (ix2 p ⟨256 + j.val, by omega⟩) = y (ix2 p j)
      ∧ left x y z (ix2 p ⟨512 + j.val, by omega⟩) = z (ix2 p j) := by
  unfold left
  refine ⟨?_, ?_, ?_⟩
  · exact concatenate_apply_piece 1 [⟨S256x256, x⟩, ⟨S256x256, y⟩, ⟨S256x256, z⟩] _ (ix2 p (⟨j.val, by omega⟩ : Fin 768)) 0 (by simp) S256x256 x rfl rfl 0 rfl (ix2 p j)
      (by intro b hb; fin_cases b; rfl; exact absurd rfl hb) (by show 0 + j.val = j.val; omega)
  · exact concatenate_apply_piece 1 [⟨S256x256, x⟩, ⟨S256x256, y⟩, ⟨S256x256, z⟩] _ (ix2 p (⟨256 + j.val, by omega⟩ : Fin 768)) 1 (by simp) S256x256 y rfl rfl 256 rfl (ix2 p j)
      (by intro b hb; fin_cases b; rfl; exact absurd rfl hb) rfl
  · exact concatenate_apply_piece 1 [⟨S256x256, x⟩, ⟨S256x256, y⟩, ⟨S256x256, z⟩] _ (ix2 p (⟨512 + j.val, by omega⟩ : Fin 768)) 2 (by simp) S256x256 z rfl rfl 512 rfl (ix2 p j)
      (by intro b hb; fin_cases b; rfl; exact absurd rfl hb) rfl

/-- The joined left factor. -/
theorem left_apply (q k : Vec Ideal S1x256x256 .bf16) (dm qf qr : Vec Ideal S1x256x256 .f32) (p j : Fin 256) :
    k1_pay31 (F := Ideal) q k dm qf qr (ix2 p ⟨j.val, by omega⟩)
        = (∑ d : Fin 256, q (ix3 0 p d) * k (ix3 0 j d)) * dm (ix3 0 p j)
    ∧ k1_pay31 (F := Ideal) q k dm qf qr (ix2 p ⟨256 + j.val, by omega⟩) = q (ix3 0 p j) * qf (ix3 0 p j)
    ∧ k1_pay31 (F := Ideal) q k dm qf qr (ix2 p ⟨512 + j.val, by omega⟩) = q (ix3 0 p j) * qr (ix3 0 p j) := by
  unfold k1_pay31 k1_pay28
  refine ⟨?_, ?_, ?_⟩
  · refine ((left_at _ _ _ p j).1).trans ?_
    refine congrArg₂ (fun x y : EReal => x * y) ?_ (shapeCast_1ab_ab_apply dm shapeCasts_S1x256x256_S256x256 p j)
    refine (qk_apply _ _ p j).trans (Finset.sum_congr rfl fun d _ => ?_)
    exact congrArg₂ (fun x y : EReal => x * y) (shapeCast_1ab_ab_apply q shapeCasts_S1x256x256_S256x256 p d) (shapeCast_1ab_ab_apply k shapeCasts_S1x256x256_S256x256 j d)
  · refine ((left_at _ _ _ p j).2.1).trans ?_
    exact congrArg₂ (fun x y : EReal => x * y) (shapeCast_1ab_ab_apply q shapeCasts_S1x256x256_S256x256 p j) (shapeCast_1ab_ab_apply qf shapeCasts_S1x256x256_S256x256 p j)
  · refine ((left_at _ _ _ p j).2.2).trans ?_
    exact congrArg₂ (fun x y : EReal => x * y) (shapeCast_1ab_ab_apply q shapeCasts_S1x256x256_S256x256 p j) (shapeCast_1ab_ab_apply qr shapeCasts_S1x256x256_S256x256 p j)

/-- The joined right factor. -/
def right (v st sr : FVec Ideal S256x512 .bf16) : FVec Ideal S768x512 .bf16 :=
  concatenate S768x512 0 [⟨S256x512, v⟩, ⟨S256x512, st⟩, ⟨S256x512, sr⟩] concatenates_S256x512_S256x512_S256x512_S768x512_d0

theorem right_apply (v st sr : FVec Ideal S256x512 .bf16) (j : Fin 256) (e : Fin 512) :
    right v st sr (ix2 ⟨j.val, by omega⟩ e) = v (ix2 j e) ∧ right v st sr (ix2 ⟨256 + j.val, by omega⟩ e) = st (ix2 j e)
      ∧ right v st sr (ix2 ⟨512 + j.val, by omega⟩ e) = sr (ix2 j e) := by
  unfold right
  refine ⟨?_, ?_, ?_⟩
  · exact concatenate_apply_piece 0 [⟨S256x512, v⟩, ⟨S256x512, st⟩, ⟨S256x512, sr⟩] _ (ix2 (⟨j.val, by omega⟩ : Fin 768) e) 0 (by simp) S256x512 v rfl rfl 0 rfl (ix2 j e) (by intro b hb; fin_cases b; exact absurd rfl hb; rfl) (by show 0 + j.val = j.val; omega)
  · exact concatenate_apply_piece 0 [⟨S256x512, v⟩, ⟨S256x512, st⟩, ⟨S256x512, sr⟩] _ (ix2 (⟨256 + j.val, by omega⟩ : Fin 768) e) 1 (by simp) S256x512 st rfl rfl 256 rfl (ix2 j e) (by intro b hb; fin_cases b; exact absurd rfl hb; rfl) rfl
  · exact concatenate_apply_piece 0 [⟨S256x512, v⟩, ⟨S256x512, st⟩, ⟨S256x512, sr⟩] _ (ix2 (⟨512 + j.val, by omega⟩ : Fin 768) e) 2 (by simp) S256x512 sr rfl rfl 512 rfl (ix2 j e) (by intro b hb; fin_cases b; exact absurd rfl hb; rfl) rfl

theorem outM_apply (st : Vec Ideal S1x256x512 .f32) (q k : Vec Ideal S1x256x256 .bf16) (v : Vec Ideal S1x256x512 .bf16)
    (dm qf qr : Vec Ideal S1x256x256 .f32) (sr : Vec Ideal S1x1x1x256x512 .bf16) (p : Fin 256) (e : Fin 512) :
    outM (F := Ideal) st q k v dm qf qr sr (ix3 0 p e) = HN (fun i =>
      (∑ j : Fin 256, ((∑ d : Fin 256, q (ix3 0 p d) * k (ix3 0 j d)) * dm (ix3 0 p j)) * v (ix3 0 j i))
      + (∑ d : Fin 256, (q (ix3 0 p d) * qf (ix3 0 p d)) * st (ix3 0 d i))
      + (∑ d : Fin 256, (q (ix3 0 p d) * qr (ix3 0 p d)) * sr (ix5 0 0 0 d i))) e := by
  have H : outM (F := Ideal) st q k v dm qf qr sr = shapeCast S1x256x512 (truncf .bf16 (normed
      (FloatOps.matmul dot_S256x768_S768x512_S256x512_1_0_0_1_n_n none (k1_pay31 (F := Ideal) q k dm qf qr)
        (right (k1_pay29 (F := Ideal) v) (truncf .bf16 (k1_pay30 (F := Ideal) st) bitsLt_bf16_f32) (shapeCast S256x512 sr shapeCasts_S1x1x1x256x512_S256x512))
        (constant S256x512 .f32 0x00000000#32))) bitsLt_bf16_f32) shapeCasts_S256x512_S1x256x512 := rfl
  rw [H]
  refine (shapeCast_ab_1ab_apply _ _ 0 p e).trans ((normed_apply _ p e).trans (congrArg (fun x => HN x e) (funext fun i => ?_)))
  rw [cat_apply, sum_768]
  refine congrArg₂ (· + ·) (congrArg₂ (· + ·) (Finset.sum_congr rfl fun j _ => ?_) (Finset.sum_congr rfl fun j _ => ?_)) (Finset.sum_congr rfl fun j _ => ?_)
  · exact congrArg₂ (fun x y : EReal => x * y) (left_apply q k dm qf qr p j).1 ((right_apply _ _ _ j i).1.trans (shapeCast_1ab_ab_apply _ _ j i))
  · exact congrArg₂ (fun x y : EReal => x * y) (left_apply q k dm qf qr p j).2.1 ((right_apply _ _ _ j i).2.1.trans (shapeCast_1ab_ab_apply st shapeCasts_S1x256x512_S256x512 j i))
  · exact congrArg₂ (fun x y : EReal => x * y) (left_apply q k dm qf qr p j).2.2 ((right_apply _ _ _ j i).2.2.trans (cast_111ab_ab _ _ j i))

theorem S0_apply {F : FTy → Type} (x : Vec F S4x256x512 .f32) (h : Fin 4) (d : Fin 256) (e : Fin 512) : S0 x h (ix3 0 d e) = x (ix3 h d e) := by
  rw [S0, View.ld]
  congr 1
  funext a; apply Fin.ext
  match a with
  | ⟨0, _⟩ => show h.1 + 1 * 0 = h.1; omega
  | ⟨1, _⟩ => show 0 + 1 * d.1 = d.1; omega
  | ⟨2, _⟩ => show 0 + 1 * e.1 = e.1; omega

theorem pay2_apply (x : Vec Ideal S1x4x256x512 .f32) (h : Fin 4) (d : Fin 256) (e : Fin 512) : k1_pay2 (F := Ideal) x (ix3 h d e) = x (ix4 0 h d e) := by
  unfold k1_pay2
  exact (shapeCast_apply _ _ (ix3 h d e) (ix3 h d e) rfl).trans (shapeCast_1abc_abc_apply _ _ h d e)

theorem pay1_apply (x : Vec Ideal S4x256x512 .f32) (h : Fin 4) (d : Fin 256) (e : Fin 512) : k1_pay1 (F := Ideal) x (ix4 0 h d e) = x (ix3 h d e) := by
  unfold k1_pay1
  exact shapeCast_abc_1abc_apply _ _ 0 h d e

end Cert.KernelIdeal.Mn
-- ==== Proof.Mn.Reads.lean ====
/-
  The main call: its windows' blocks as parts of the arrays.
-/
module

public import proofs.«01_k».proof.Proof.Mn.Frame
public import proofs.«01_k».proof.Proof.Mn.Ideal
public import proofs.«01_k».proof.Proof.Ret
public import Idealize.ShloMosaic.Lib.Pipeline.ValueKit

@[expose] public section

set_option maxRecDepth 16384

noncomputable section

namespace Cert.KernelIdeal.Mn

open Cert.KernelIdeal.Gen Cert.Ret
open Idealize.ShloMosaic hiding ix0 ix1 ix2 ix3 ix4 ix5 eq_ix2 eq_ix3 eq_ix4
open Idealize.ShloMosaic.ValueIdx
open Idealize.ShloMosaic.TcCoe

variable (V : (c : Dev nD) → (b : Ref sig .tc) → Buf (Elt Ideal) ((c : Thread nD τ).loc b)) (c : Dev nD)

theorem idx0 : ∀ t : Fin cfg1.N, win1_0.index t (0 : Fin 2) = 0 ∧ win1_0.index t (1 : Fin 2) = 0 :=
  (by decide +kernel : ∀ t : Fin grid1.N, _)
theorem idx1 : ∀ t : Fin cfg1.N, win1_1.index t (0 : Fin 3) = t.val / 16 ∧ win1_1.index t (1 : Fin 3) = t.val % 16 ∧ win1_1.index t (2 : Fin 3) = 0 :=
  (by decide +kernel : ∀ t : Fin grid1.N, _)
theorem idx2 : ∀ t : Fin cfg1.N, win1_2.index t (0 : Fin 3) = t.val / 16 ∧ win1_2.index t (1 : Fin 3) = t.val % 16 ∧ win1_2.index t (2 : Fin 3) = 1 :=
  (by decide +kernel : ∀ t : Fin grid1.N, _)
theorem idx3 : ∀ t : Fin cfg1.N, win1_3.index t (0 : Fin 3) = t.val / 16 ∧ win1_3.index t (1 : Fin 3) = t.val % 16 ∧ win1_3.index t (2 : Fin 3) = 1 :=
  (by decide +kernel : ∀ t : Fin grid1.N, _)
theorem idx4 : ∀ t : Fin cfg1.N, win1_4.index t (0 : Fin 5) = t.val / 16 ∧ win1_4.index t (1 : Fin 5) = t.val % 16 ∧ win1_4.index t (2 : Fin 5) = 0 ∧ win1_4.index t (3 : Fin 5) = 0 ∧ win1_4.index t (4 : Fin 5) = 0 :=
  (by decide +kernel : ∀ t : Fin grid1.N, _)
theorem idx5 : ∀ t : Fin cfg1.N, win1_5.index t (0 : Fin 4) = t.val / 16 ∧ win1_5.index t (1 : Fin 4) = 0 ∧ win1_5.index t (2 : Fin 4) = 0 ∧ win1_5.index t (3 : Fin 4) = 0 :=
  (by decide +kernel : ∀ t : Fin grid1.N, _)
theorem idx6 : ∀ t : Fin cfg1.N, win1_6.index t (0 : Fin 3) = t.val / 16 ∧ win1_6.index t (1 : Fin 3) = t.val % 16 ∧ win1_6.index t (2 : Fin 3) = 0 :=
  (by decide +kernel : ∀ t : Fin grid1.N, _)
theorem idx7 : ∀ t : Fin cfg1.N, win1_7.index t (0 : Fin 4) = t.val / 16 ∧ win1_7.index t (1 : Fin 4) = 0 ∧ win1_7.index t (2 : Fin 4) = 0 ∧ win1_7.index t (3 : Fin 4) = 0 :=
  (by decide +kernel : ∀ t : Fin grid1.N, _)

variable {u : ℕ → ℕ → ℕ → ℝ} {lg : ℕ → ℕ → ℝ} {sf sr : ℕ → ℕ → ℕ → ℕ → EReal}

theorem rd0 (hl : ∀ y : S2x4.Idx, V c main_arg1 y = ((lg (y 0).val (y 1).val : ℝ) : EReal)) (t : Fin cfg1.N) (r : Fin 2) (h : Fin 4) :
    Lw (F := Ideal) (iblk V c 0 t) r h = ((lg r.val h.val : ℝ) : EReal) := by
  unfold Lw View.ld
  show V c main_arg1 (((cfg1.win 0).blk t).view.emb _) = _
  refine (hl _).trans (at2 ?_ ?_)
  · exact Tools.emb_at win1_0 (idx0 t).1 (show 0 * 2 + (r.val + 1 * 0) = _ by omega)
  · exact Tools.emb_at win1_0 (idx0 t).2 (show 0 * 4 + (h.val + 1 * 0) = _ by omega)

theorem rd1 (hu : ∀ y : S2x16384x6144.Idx, V c main_arg0 y = ((u (y 0).val (y 1).val (y 2).val : ℝ) : EReal)) (t : Fin cfg1.N)
    (j : Fin 4) (h : Fin 4) (p : Fin 256) (d : Fin 256) :
    Qb (F := Ideal) (iblk V c 1 t) j h (ix3 0 p d) = ((qq u (t.val / 16) h.val (t.val % 16 * 1024 + j.val * 256 + p.val) d.val : ℝ) : EReal) := by
  unfold Qb View.ld qq
  show V c main_arg0 (((cfg1.win 1).blk t).view.emb _) = _
  refine (hu _).trans (at3 ?_ ?_ ?_)
  · exact Tools.emb_at win1_1 (idx1 t).1 (show t.val / 16 * 1 + (0 + 1 * 0) = _ by omega)
  · exact Tools.emb_at win1_1 (idx1 t).2.1 (show t.val % 16 * 1024 + (j.val * 256 + 1 * p.val) = _ by omega)
  · exact Tools.emb_at win1_1 (idx1 t).2.2 (show 0 * 1024 + (h.val * 256 + 1 * d.val) = _ by omega)

theorem rd2 (hu : ∀ y : S2x16384x6144.Idx, V c main_arg0 y = ((u (y 0).val (y 1).val (y 2).val : ℝ) : EReal)) (t : Fin cfg1.N)
    (j : Fin 4) (h : Fin 4) (p : Fin 256) (d : Fin 256) :
    Qb (F := Ideal) (iblk V c 2 t) j h (ix3 0 p d) = ((kk u (t.val / 16) h.val (t.val % 16 * 1024 + j.val * 256 + p.val) d.val : ℝ) : EReal) := by
  unfold Qb View.ld kk
  show V c main_arg0 (((cfg1.win 2).blk t).view.emb _) = _
  refine (hu _).trans (at3 ?_ ?_ ?_)
  · exact Tools.emb_at win1_2 (idx2 t).1 (show t.val / 16 * 1 + (0 + 1 * 0) = _ by omega)
  · exact Tools.emb_at win1_2 (idx2 t).2.1 (show t.val % 16 * 1024 + (j.val * 256 + 1 * p.val) = _ by omega)
  · exact Tools.emb_at win1_2 (idx2 t).2.2 (show 1 * 1024 + (h.val * 256 + 1 * d.val) = _ by omega)

theorem rd3 (hu : ∀ y : S2x16384x6144.Idx, V c main_arg0 y = ((u (y 0).val (y 1).val (y 2).val : ℝ) : EReal)) (t : Fin cfg1.N)
    (j : Fin 4) (h : Fin 4) (p : Fin 256) (d : Fin 512) :
    Vb (F := Ideal) (iblk V c 3 t) j h (ix3 0 p d) = ((vv u (t.val / 16) h.val (t.val % 16 * 1024 + j.val * 256 + p.val) d.val : ℝ) : EReal) := by
  unfold Vb View.ld vv
  show V c main_arg0 (((cfg1.win 3).blk t).view.emb _) = _
  refine (hu _).trans (at3 ?_ ?_ ?_)
  · exact Tools.emb_at win1_3 (idx3 t).1 (show t.val / 16 * 1 + (0 + 1 * 0) = _ by omega)
  · exact Tools.emb_at win1_3 (idx3 t).2.1 (show t.val % 16 * 1024 + (j.val * 256 + 1 * p.val) = _ by omega)
  · exact Tools.emb_at win1_3 (idx3 t).2.2 (show 1 * 2048 + (h.val * 512 + 1 * d.val) = _ by omega)

theorem SR_at {b b' h h' d d' e e' n n' : ℕ} (h0 : b = b') (h1 : h = h') (h2 : d = d') (h3 : e = e') (h4 : n = n') :
    SR u lg sr b h d e n = SR u lg sr b' h' d' e' n' := by subst h0 h1 h2 h3 h4; rfl

theorem rd4 (hr : ∀ y : S2x64x4x256x512.Idx, (V c main_v0_0 y : EReal) = SR u lg sr (y 0).val (y 2).val (y 3).val (y 4).val ((y 1).val * 256 + 256))
    (t : Fin cfg1.N) (j : Fin 4) (h : Fin 4) (d : Fin 256) (e : Fin 512) :
    Sr (F := Ideal) (iblk V c 4 t) j h (ix5 0 0 0 d e) = SR u lg sr (t.val / 16) h.val d.val e.val (t.val % 16 * 1024 + j.val * 256 + 256) := by
  unfold Sr View.ld
  show V c main_v0_0 (((cfg1.win 4).blk t).view.emb _) = _
  refine (hr _).trans (SR_at ?_ ?_ ?_ ?_ ?_)
  · exact Tools.emb_at win1_4 (idx4 t).1 (show t.val / 16 * 1 + (0 + 1 * 0) = _ by omega)
  · exact Tools.emb_at win1_4 (idx4 t).2.2.1 (show 0 * 4 + (h.val + 1 * 0) = _ by omega)
  · exact Tools.emb_at win1_4 (idx4 t).2.2.2.1 (show 0 * 256 + (0 + 1 * d.val) = _ by omega)
  · exact Tools.emb_at win1_4 (idx4 t).2.2.2.2 (show 0 * 512 + (0 + 1 * e.val) = _ by omega)
  · show ((win1_4.rect t).emb _ (1 : Fin 5) : ℕ) * 256 + 256 = _
    rw [Pipeline.Window.rect_emb_val win1_4, (idx4 t).2.1]
    show (t.val % 16 * 4 + (j.val + 1 * 0)) * 256 + 256 = _
    omega

theorem rd5 (hs : ∀ y : S2x4x256x512.Idx, (V c main_arg2 y : EReal) = sf (y 0).val (y 1).val (y 2).val (y 3).val) (t : Fin cfg1.N)
    (h : Fin 4) (d : Fin 256) (e : Fin 512) :
    S0 (F := Ideal) (k1_pay2 (F := Ideal) (L4 (iblk V c 5 t))) h (ix3 0 d e) = sf (t.val / 16) h.val d.val e.val := by
  rw [S0_apply, pay2_apply, L4_eq]
  show V c main_arg2 (((cfg1.win 5).blk t).view.emb _) = _
  refine (hs _).trans (at4 ?_ ?_ ?_ ?_)
  · exact Tools.emb_at win1_5 (idx5 t).1 (show t.val / 16 * 1 + 0 = _ by omega)
  · exact Tools.emb_at win1_5 (idx5 t).2.1 (show 0 * 4 + h.val = _ by omega)
  · exact Tools.emb_at win1_5 (idx5 t).2.2.1 (show 0 * 256 + d.val = _ by omega)
  · exact Tools.emb_at win1_5 (idx5 t).2.2.2 (show 0 * 512 + e.val = _ by omega)

end Cert.KernelIdeal.Mn
-- ==== Proof.Mn.BodyA.lean ====
/-
  The main call: what the stores of one grid point leave, case A.
-/
module

public import proofs.«01_k».proof.Proof.Mn.Spec

@[expose] public section

set_option maxRecDepth 16384

noncomputable section

namespace Cert.KernelIdeal.Mn

open Cert.KernelIdeal.Gen Cert.Tools
open Idealize.ShloMosaic Idealize.ShloMosaic.TcCoe Idealize.ShloMosaic.Tactic

open kernelRun0_A

variable {F : FTy → Type} [FloatOps F]

variable (c : Dev nD) (i : grid1.Coords) (a2 : Memref sig .tc .smem S2x4 .f32) (h2 : a2.IsWhole) (a3 : Memref sig .tc .vmem S1x1024x1024 .bf16) (h3 : a3.IsWhole) (a4 : Memref sig .tc .vmem S1x1024x1024 .bf16) (h4 : a4.IsWhole) (a5 : Memref sig .tc .vmem S1x1024x2048 .bf16) (h5 : a5.IsWhole) (a6 : Memref sig .tc .vmem S1x4x4x256x512 .bf16) (h6 : a6.IsWhole) (a7 : Memref sig .tc .vmem S1x4x256x512 .f32) (h7 : a7.IsWhole) (a8 : Memref sig .tc .vmem S1x1024x2048 .bf16) (h8 : a8.IsWhole) (a9 : Memref sig .tc .vmem S1x4x256x512 .f32) (h9 : a9.IsWhole) (a10 : Memref sig .tc .vmem S4x256x512 .f32) (h10 : a10.IsWhole) (a11 : Memref sig .tc .vmem S4x256x256 .f32) (h11 : a11.IsWhole) (a12 : Memref sig .tc .vmem S4x256x256 .f32) (h12 : a12.IsWhole) (a13 : Memref sig .tc .vmem S4x256x256 .f32) (h13 : a13.IsWhole) (a14 : Memref sig .tc .vmem S4x256x256 .f32) (h14 : a14.IsWhole) (hc0 : cond0_0 i) (hc1 : ¬cond0_1 i) (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32)

/-- The state of one head after `j` subchunks, over the blocks this point reads. -/
abbrev A_st (h : Fin 4) (j : ℕ) (hj : j ≤ 4 := by omega) : Vec F S1x256x512 .f32 := stM (Lw (a2.view.read (Elt F) (h2.unread x0)) 0) (S0 (k1_pay2 (L4 (a7.view.read (Elt F) (h7.unread x5))))) (KD (a2.view.read (Elt F) (h2.unread x0))) (Qb (a4.view.read (Elt F) (h4.unread x2))) (Vb (a5.view.read (Elt F) (h5.unread x3))) h j hj

theorem A_tb0_0 : sl.v17 c a2 h2 a11 x0 = (DM (a2.view.read (Elt F) (h2.unread x0))) 0 :=
  readCov_at a11.view (.skip rfl (.skip rfl (.skip rfl (.here))))

theorem A_tb0_1 : sl.v81 c a2 h2 a11 x0 = (DM (a2.view.read (Elt F) (h2.unread x0))) 1 :=
  readCov_at a11.view (.skip rfl (.skip rfl (.here)))

theorem A_tb0_2 : sl.v145 c a2 h2 a11 x0 = (DM (a2.view.read (Elt F) (h2.unread x0))) 2 :=
  readCov_at a11.view (.skip rfl (.here))

theorem A_tb0_3 : sl.v209 c a2 h2 a11 x0 = (DM (a2.view.read (Elt F) (h2.unread x0))) 3 :=
  readCov_at a11.view (.here)

theorem A_tb1_0 : sl.v21 c a2 h2 a12 x0 = (QF (a2.view.read (Elt F) (h2.unread x0))) 0 :=
  readCov_at a12.view (.skip rfl (.skip rfl (.skip rfl (.here))))

theorem A_tb1_1 : sl.v85 c a2 h2 a12 x0 = (QF (a2.view.read (Elt F) (h2.unread x0))) 1 :=
  readCov_at a12.view (.skip rfl (.skip rfl (.here)))

theorem A_tb1_2 : sl.v149 c a2 h2 a12 x0 = (QF (a2.view.read (Elt F) (h2.unread x0))) 2 :=
  readCov_at a12.view (.skip rfl (.here))

theorem A_tb1_3 : sl.v213 c a2 h2 a12 x0 = (QF (a2.view.read (Elt F) (h2.unread x0))) 3 :=
  readCov_at a12.view (.here)

theorem A_tb2_0 : sl.v25 c a2 h2 a13 x0 = (QR (a2.view.read (Elt F) (h2.unread x0))) 0 :=
  readCov_at a13.view (.skip rfl (.skip rfl (.skip rfl (.here))))

theorem A_tb2_1 : sl.v89 c a2 h2 a13 x0 = (QR (a2.view.read (Elt F) (h2.unread x0))) 1 :=
  readCov_at a13.view (.skip rfl (.skip rfl (.here)))

theorem A_tb2_2 : sl.v153 c a2 h2 a13 x0 = (QR (a2.view.read (Elt F) (h2.unread x0))) 2 :=
  readCov_at a13.view (.skip rfl (.here))

theorem A_tb2_3 : sl.v217 c a2 h2 a13 x0 = (QR (a2.view.read (Elt F) (h2.unread x0))) 3 :=
  readCov_at a13.view (.here)

theorem A_tb3_0 : sl.v36 c a2 h2 a14 x0 = (KD (a2.view.read (Elt F) (h2.unread x0))) 0 :=
  readCov_at a14.view (.skip rfl (.skip rfl (.skip rfl (.here))))

theorem A_tb3_1 : sl.v100 c a2 h2 a14 x0 = (KD (a2.view.read (Elt F) (h2.unread x0))) 1 :=
  readCov_at a14.view (.skip rfl (.skip rfl (.here)))

theorem A_tb3_2 : sl.v164 c a2 h2 a14 x0 = (KD (a2.view.read (Elt F) (h2.unread x0))) 2 :=
  readCov_at a14.view (.skip rfl (.here))

theorem A_tb3_3 : sl.v228 c a2 h2 a14 x0 = (KD (a2.view.read (Elt F) (h2.unread x0))) 3 :=
  readCov_at a14.view (.here)

theorem A_0_0 : sl.v14 c a7 h7 a10 x5 = A_st a2 h2 a4 h4 a5 h5 a7 h7 x0 x2 x3 x5 0 0 :=
  S0_filled (h := 0) a10.view (.here zero3)

theorem A_0_1 : sl.v78 c a2 h2 a4 h4 a5 h5 a7 h7 a10 a14 x0 x2 x3 x5 = A_st a2 h2 a4 h4 a5 h5 a7 h7 x0 x2 x3 x5 1 0 :=
  S0_filled (h := 1) a10.view (.skip rfl (.here zero3))

theorem A_0_2 : sl.v142 c a2 h2 a4 h4 a5 h5 a7 h7 a10 a14 x0 x2 x3 x5 = A_st a2 h2 a4 h4 a5 h5 a7 h7 x0 x2 x3 x5 2 0 :=
  S0_filled (h := 2) a10.view (.skip rfl (.skip rfl (.here zero3)))

theorem A_0_3 : sl.v206 c a2 h2 a4 h4 a5 h5 a7 h7 a10 a14 x0 x2 x3 x5 = A_st a2 h2 a4 h4 a5 h5 a7 h7 x0 x2 x3 x5 3 0 :=
  S0_filled (h := 3) a10.view (.skip rfl (.skip rfl (.skip rfl (.here zero3))))

theorem A_1_0 : sl.v270 c a2 h2 a4 h4 a5 h5 a7 h7 a10 a14 x0 x2 x3 x5 = A_st a2 h2 a4 h4 a5 h5 a7 h7 x0 x2 x3 x5 0 1 :=
  stM_step 0 0 (by omega) (A_0_0 (c := c) (a10 := a10) ..) (A_tb3_0 (c := c) (a14 := a14) ..) (readCov_at3 a10.view rfl rfl rfl)

theorem A_1_1 : sl.v334 c a2 h2 a4 h4 a5 h5 a7 h7 a10 a14 x0 x2 x3 x5 = A_st a2 h2 a4 h4 a5 h5 a7 h7 x0 x2 x3 x5 1 1 :=
  stM_step 1 0 (by omega) (A_0_1 (c := c) (a10 := a10) (a14 := a14) ..) (A_tb3_1 (c := c) (a14 := a14) ..) (readCov_at3 a10.view rfl rfl rfl)

theorem A_1_2 : sl.v398 c a2 h2 a4 h4 a5 h5 a7 h7 a10 a14 x0 x2 x3 x5 = A_st a2 h2 a4 h4 a5 h5 a7 h7 x0 x2 x3 x5 2 1 :=
  stM_step 2 0 (by omega) (A_0_2 (c := c) (a10 := a10) (a14 := a14) ..) (A_tb3_2 (c := c) (a14 := a14) ..) (readCov_at3 a10.view rfl rfl rfl)

theorem A_1_3 : sl.v462 c a2 h2 a4 h4 a5 h5 a7 h7 a10 a14 x0 x2 x3 x5 = A_st a2 h2 a4 h4 a5 h5 a7 h7 x0 x2 x3 x5 3 1 :=
  stM_step 3 0 (by omega) (A_0_3 (c := c) (a10 := a10) (a14 := a14) ..) (A_tb3_3 (c := c) (a14 := a14) ..) (readCov_at3 a10.view rfl rfl rfl)

theorem A_2_0 : sl.v526 c a2 h2 a4 h4 a5 h5 a7 h7 a10 a14 x0 x2 x3 x5 = A_st a2 h2 a4 h4 a5 h5 a7 h7 x0 x2 x3 x5 0 2 :=
  stM_step 0 1 (by omega) (A_1_0 (c := c) (a10 := a10) (a14 := a14) ..) (A_tb3_0 (c := c) (a14 := a14) ..) (readCov_at3 a10.view rfl rfl rfl)

theorem A_2_1 : sl.v590 c a2 h2 a4 h4 a5 h5 a7 h7 a10 a14 x0 x2 x3 x5 = A_st a2 h2 a4 h4 a5 h5 a7 h7 x0 x2 x3 x5 1 2 :=
  stM_step 1 1 (by omega) (A_1_1 (c := c) (a10 := a10) (a14 := a14) ..) (A_tb3_1 (c := c) (a14 := a14) ..) (readCov_at3 a10.view rfl rfl rfl)

theorem A_2_2 : sl.v654 c a2 h2 a4 h4 a5 h5 a7 h7 a10 a14 x0 x2 x3 x5 = A_st a2 h2 a4 h4 a5 h5 a7 h7 x0 x2 x3 x5 2 2 :=
  stM_step 2 1 (by omega) (A_1_2 (c := c) (a10 := a10) (a14 := a14) ..) (A_tb3_2 (c := c) (a14 := a14) ..) (readCov_at3 a10.view rfl rfl rfl)

theorem A_2_3 : sl.v718 c a2 h2 a4 h4 a5 h5 a7 h7 a10 a14 x0 x2 x3 x5 = A_st a2 h2 a4 h4 a5 h5 a7 h7 x0 x2 x3 x5 3 2 :=
  stM_step 3 1 (by omega) (A_1_3 (c := c) (a10 := a10) (a14 := a14) ..) (A_tb3_3 (c := c) (a14 := a14) ..) (readCov_at3 a10.view rfl rfl rfl)

theorem A_3_0 : sl.v782 c a2 h2 a4 h4 a5 h5 a7 h7 a10 a14 x0 x2 x3 x5 = A_st a2 h2 a4 h4 a5 h5 a7 h7 x0 x2 x3 x5 0 3 :=
  stM_step 0 2 (by omega) (A_2_0 (c := c) (a10 := a10) (a14 := a14) ..) (A_tb3_0 (c := c) (a14 := a14) ..) (readCov_at3 a10.view rfl rfl rfl)

theorem A_3_1 : sl.v846 c a2 h2 a4 h4 a5 h5 a7 h7 a10 a14 x0 x2 x3 x5 = A_st a2 h2 a4 h4 a5 h5 a7 h7 x0 x2 x3 x5 1 3 :=
  stM_step 1 2 (by omega) (A_2_1 (c := c) (a10 := a10) (a14 := a14) ..) (A_tb3_1 (c := c) (a14 := a14) ..) (readCov_at3 a10.view rfl rfl rfl)

theorem A_3_2 : sl.v910 c a2 h2 a4 h4 a5 h5 a7 h7 a10 a14 x0 x2 x3 x5 = A_st a2 h2 a4 h4 a5 h5 a7 h7 x0 x2 x3 x5 2 3 :=
  stM_step 2 2 (by omega) (A_2_2 (c := c) (a10 := a10) (a14 := a14) ..) (A_tb3_2 (c := c) (a14 := a14) ..) (readCov_at3 a10.view rfl rfl rfl)

theorem A_3_3 : sl.v974 c a2 h2 a4 h4 a5 h5 a7 h7 a10 a14 x0 x2 x3 x5 = A_st a2 h2 a4 h4 a5 h5 a7 h7 x0 x2 x3 x5 3 3 :=
  stM_step 3 2 (by omega) (A_2_3 (c := c) (a10 := a10) (a14 := a14) ..) (A_tb3_3 (c := c) (a14 := a14) ..) (readCov_at3 a10.view rfl rfl rfl)

set_option maxHeartbeats 4000000 in
theorem A_out (v : View sig .tc .vmem S1x1024x2048 .bf16) (j : Fin 4) (h : Fin 4) : Vb (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).1)) j h = outM (A_st a2 h2 a4 h4 a5 h5 a7 h7 x0 x2 x3 x5 h j.1 j.2.le) ((Qb (a3.view.read (Elt F) (h3.unread x1))) j h) ((Qb (a4.view.read (Elt F) (h4.unread x2))) j h) ((Vb (a5.view.read (Elt F) (h5.unread x3))) j h) ((DM (a2.view.read (Elt F) (h2.unread x0))) h) ((QF (a2.view.read (Elt F) (h2.unread x0))) h) ((QR (a2.view.read (Elt F) (h2.unread x0))) h) ((Sr (a6.view.read (Elt F) (h6.unread x4))) j h) := by
  obtain ⟨j, hj⟩ := j; obtain ⟨h, hh⟩ := h
  interval_cases j <;> interval_cases h
  exacts [Vb_out v (A_0_0 (c := c) (a10 := a10) ..) (A_tb0_0 (c := c) (a11 := a11) ..) (A_tb1_0 (c := c) (a12 := a12) ..) (A_tb2_0 (c := c) (a13 := a13) ..) (.of_get 15 (by sl_kernel_rfl) (by sl_kernel_rfl)), Vb_out v (A_0_1 (c := c) (a10 := a10) (a14 := a14) ..) (A_tb0_1 (c := c) (a11 := a11) ..) (A_tb1_1 (c := c) (a12 := a12) ..) (A_tb2_1 (c := c) (a13 := a13) ..) (.of_get 14 (by sl_kernel_rfl) (by sl_kernel_rfl)), Vb_out v (A_0_2 (c := c) (a10 := a10) (a14 := a14) ..) (A_tb0_2 (c := c) (a11 := a11) ..) (A_tb1_2 (c := c) (a12 := a12) ..) (A_tb2_2 (c := c) (a13 := a13) ..) (.of_get 13 (by sl_kernel_rfl) (by sl_kernel_rfl)), Vb_out v (A_0_3 (c := c) (a10 := a10) (a14 := a14) ..) (A_tb0_3 (c := c) (a11 := a11) ..) (A_tb1_3 (c := c) (a12 := a12) ..) (A_tb2_3 (c := c) (a13 := a13) ..) (.of_get 12 (by sl_kernel_rfl) (by sl_kernel_rfl)), Vb_out v (A_1_0 (c := c) (a10 := a10) (a14 := a14) ..) (A_tb0_0 (c := c) (a11 := a11) ..) (A_tb1_0 (c := c) (a12 := a12) ..) (A_tb2_0 (c := c) (a13 := a13) ..) (.of_get 11 (by sl_kernel_rfl) (by sl_kernel_rfl)), Vb_out v (A_1_1 (c := c) (a10 := a10) (a14 := a14) ..) (A_tb0_1 (c := c) (a11 := a11) ..) (A_tb1_1 (c := c) (a12 := a12) ..) (A_tb2_1 (c := c) (a13 := a13) ..) (.of_get 10 (by sl_kernel_rfl) (by sl_kernel_rfl)), Vb_out v (A_1_2 (c := c) (a10 := a10) (a14 := a14) ..) (A_tb0_2 (c := c) (a11 := a11) ..) (A_tb1_2 (c := c) (a12 := a12) ..) (A_tb2_2 (c := c) (a13 := a13) ..) (.of_get 9 (by sl_kernel_rfl) (by sl_kernel_rfl)), Vb_out v (A_1_3 (c := c) (a10 := a10) (a14 := a14) ..) (A_tb0_3 (c := c) (a11 := a11) ..) (A_tb1_3 (c := c) (a12 := a12) ..) (A_tb2_3 (c := c) (a13 := a13) ..) (.of_get 8 (by sl_kernel_rfl) (by sl_kernel_rfl)), Vb_out v (A_2_0 (c := c) (a10 := a10) (a14 := a14) ..) (A_tb0_0 (c := c) (a11 := a11) ..) (A_tb1_0 (c := c) (a12 := a12) ..) (A_tb2_0 (c := c) (a13 := a13) ..) (.of_get 7 (by sl_kernel_rfl) (by sl_kernel_rfl)), Vb_out v (A_2_1 (c := c) (a10 := a10) (a14 := a14) ..) (A_tb0_1 (c := c) (a11 := a11) ..) (A_tb1_1 (c := c) (a12 := a12) ..) (A_tb2_1 (c := c) (a13 := a13) ..) (.of_get 6 (by sl_kernel_rfl) (by sl_kernel_rfl)), Vb_out v (A_2_2 (c := c) (a10 := a10) (a14 := a14) ..) (A_tb0_2 (c := c) (a11 := a11) ..) (A_tb1_2 (c := c) (a12 := a12) ..) (A_tb2_2 (c := c) (a13 := a13) ..) (.of_get 5 (by sl_kernel_rfl) (by sl_kernel_rfl)), Vb_out v (A_2_3 (c := c) (a10 := a10) (a14 := a14) ..) (A_tb0_3 (c := c) (a11 := a11) ..) (A_tb1_3 (c := c) (a12 := a12) ..) (A_tb2_3 (c := c) (a13 := a13) ..) (.of_get 4 (by sl_kernel_rfl) (by sl_kernel_rfl)), Vb_out v (A_3_0 (c := c) (a10 := a10) (a14 := a14) ..) (A_tb0_0 (c := c) (a11 := a11) ..) (A_tb1_0 (c := c) (a12 := a12) ..) (A_tb2_0 (c := c) (a13 := a13) ..) (.of_get 3 (by sl_kernel_rfl) (by sl_kernel_rfl)), Vb_out v (A_3_1 (c := c) (a10 := a10) (a14 := a14) ..) (A_tb0_1 (c := c) (a11 := a11) ..) (A_tb1_1 (c := c) (a12 := a12) ..) (A_tb2_1 (c := c) (a13 := a13) ..) (.of_get 2 (by sl_kernel_rfl) (by sl_kernel_rfl)), Vb_out v (A_3_2 (c := c) (a10 := a10) (a14 := a14) ..) (A_tb0_2 (c := c) (a11 := a11) ..) (A_tb1_2 (c := c) (a12 := a12) ..) (A_tb2_2 (c := c) (a13 := a13) ..) (.of_get 1 (by sl_kernel_rfl) (by sl_kernel_rfl)), Vb_out v (A_3_3 (c := c) (a10 := a10) (a14 := a14) ..) (A_tb0_3 (c := c) (a11 := a11) ..) (A_tb1_3 (c := c) (a12 := a12) ..) (A_tb2_3 (c := c) (a13 := a13) ..) (.of_get 0 (by sl_kernel_rfl) (by sl_kernel_rfl))]

theorem A_scr (v : View sig .tc .vmem S4x256x512 .f32) (h : Fin 4) : S0 (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).2.2.1)) h = A_st a2 h2 a4 h4 a5 h5 a7 h7 x0 x2 x3 x5 h 4 := by
  obtain ⟨h, hh⟩ := h
  interval_cases h
  exacts [stM_step 0 3 (by omega) (A_3_0 (c := c) (a10 := a10) (a14 := a14) ..) (A_tb3_0 (c := c) (a14 := a14) ..) (S0_written v (.skip rfl (.skip rfl (.skip rfl (.here))))), stM_step 1 3 (by omega) (A_3_1 (c := c) (a10 := a10) (a14 := a14) ..) (A_tb3_1 (c := c) (a14 := a14) ..) (S0_written v (.skip rfl (.skip rfl (.here)))), stM_step 2 3 (by omega) (A_3_2 (c := c) (a10 := a10) (a14 := a14) ..) (A_tb3_2 (c := c) (a14 := a14) ..) (S0_written v (.skip rfl (.here))), stM_step 3 3 (by omega) (A_3_3 (c := c) (a10 := a10) (a14 := a14) ..) (A_tb3_3 (c := c) (a14 := a14) ..) (S0_written v (.here))]

theorem A_stb0 (v : View sig .tc .vmem S4x256x256 .f32) (h : Fin 4) : Kd (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).2.2.2.1)) h = (DM (a2.view.read (Elt F) (h2.unread x0))) h := by
  obtain ⟨h, hh⟩ := h
  interval_cases h
  exacts [Kd_written v (.skip rfl (.skip rfl (.skip rfl (.here)))), Kd_written v (.skip rfl (.skip rfl (.here))), Kd_written v (.skip rfl (.here)), Kd_written v (.here)]

theorem A_stb1 (v : View sig .tc .vmem S4x256x256 .f32) (h : Fin 4) : Kd (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).2.2.2.2.1)) h = (QF (a2.view.read (Elt F) (h2.unread x0))) h := by
  obtain ⟨h, hh⟩ := h
  interval_cases h
  exacts [Kd_written v (.skip rfl (.skip rfl (.skip rfl (.here)))), Kd_written v (.skip rfl (.skip rfl (.here))), Kd_written v (.skip rfl (.here)), Kd_written v (.here)]

theorem A_stb2 (v : View sig .tc .vmem S4x256x256 .f32) (h : Fin 4) : Kd (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).2.2.2.2.2.1)) h = (QR (a2.view.read (Elt F) (h2.unread x0))) h := by
  obtain ⟨h, hh⟩ := h
  interval_cases h
  exacts [Kd_written v (.skip rfl (.skip rfl (.skip rfl (.here)))), Kd_written v (.skip rfl (.skip rfl (.here))), Kd_written v (.skip rfl (.here)), Kd_written v (.here)]

theorem A_stb3 (v : View sig .tc .vmem S4x256x256 .f32) (h : Fin 4) : Kd (v.read (Elt F) (v.writes (Elt F) v.junk (kernelRun0_A c i a2 h2 a3 h3 a4 h4 a5 h5 a6 h6 a7 h7 a8 h8 a9 h9 a10 h10 a11 h11 a12 h12 a13 h13 a14 h14 hc0 hc1 x0 x1 x2 x3 x4 x5).2.2.2.2.2.2.1)) h = (KD (a2.view.read (Elt F) (h2.unread x0))) h := by
  obtain ⟨h, hh⟩ := h
  interval_cases h
  exacts [Kd_written v (.skip rfl (.skip rfl (.skip rfl (.here)))), Kd_written v (.skip rfl (.skip rfl (.here))), Kd_written v (.skip rfl (.here)), Kd_written v (.here)]

end Cert.KernelIdeal.Mn
-- ==== Proof.Mn.BodyB.lean ====
/-
  The main call: what the stores of one grid point leave, case B.
-/
module

public import proofs.«01_k».proof.Proof.Mn.Spec

@[expose] public section

set_option maxRecDepth 16384

noncomputable section

namespace Cert.KernelIdeal.Mn

open Cert.KernelIdeal.Gen Cert.Tools
open Idealize.ShloMosaic Idealize.ShloMosaic.TcCoe Idealize.ShloMosaic.Tactic

open kernelRun0_B

variable {F : FTy → Type} [FloatOps F]

variable (c : Dev nD) (i : grid1.Coords) (a2 : Memref sig .tc .smem S2x4 .f32) (h2 : a2.IsWhole) (a3 : Memref sig .tc .vmem S1x1024x1024 .bf16) (h3 : a3.IsWhole) (a4 : Memref sig .tc .vmem S1x1024x1024 .bf16) (h4 : a4.IsWhole) (a5 : Memref sig .tc .vmem S1x1024x2048 .bf16) (h5 : a5.IsWhole) (a6 : Memref sig .tc .vmem S1x4x4x256x512 .bf16) (h6 : a6.IsWhole) (a7 : Memref sig .tc .vmem S1x4x256x512 .f32) (h7 : a7.IsWhole) (a8 : Memref sig .tc .vmem S1x1024x2048 .bf16) (h8 : a8.IsWhole) (a9 : Memref sig .tc .vmem S1x4x256x512 .f32) (h9 : a9.IsWhole) (a10 : Memref sig .tc .vmem S4x256x512 .f32) (h10 : a10.IsWhole) (a11 : Memref sig .tc .vmem S4x256x256 .f32) (h11 : a11.IsWhole) (a12 : Memref sig .tc .vmem S4x256x256 .f32) (h12 : a12.IsWhole) (a13 : Memref sig .tc .vmem S4x256x256 .f32) (h13 : a13.IsWhole) (a14 : Memref sig .tc .vmem S4x256x256 .f32) (h14 : a14.IsWhole) (hc0 : ¬cond0_0 i) (hc1 : ¬cond0_1 i) (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32)

/-- The state of one head after `j` subchunks, over the blocks this point reads. -/
abbrev B_st (h : Fin 4) (j : ℕ) (hj : j ≤ 4 := by omega) : Vec F S1x256x512 .f32 := stM (Lw (a2.view.read (Elt F) (h2.unread x0)) 0) (S0 (a10.view.read (Elt F) (h10.unread xs0))) (Kd (a14.view.read (Elt F) (h14.unread xs4))) (Qb (a4.view.read (Elt F) (h4.unread x2))) (Vb (a5.view.read (Elt F) (h5.unread x3))) h j hj

theorem B_0_0 : View.readAt (Elt F) a10.view (Rect.unit (s := S4x256x512) ![0, 0, 0] S1x256x512.size inb_S4x256x512_S1x256x512_0_0_0).toLoadRect (h10.unread xs0) = B_st a2 h2 a4 h4 a5 h5 a10 h10 a14 h14 x0 x2 x3 xs0 xs4 0 0 :=
  rfl

theorem B_0_1 : sl.v78 c a10 h10 xs0 = B_st a2 h2 a4 h4 a5 h5 a10 h10 a14 h14 x0 x2 x3 xs0 xs4 1 0 :=
  rfl

theorem B_0_2 : sl.v142 c a10 h10 xs0 = B_st a2 h2 a4 h4 a5 h5 a10 h10 a14 h14 x0 x2 x3 xs0 xs4 2 0 :=
  rfl

theorem B_0_3 : sl.v206 c a10 h10 xs0 = B_st a2 h2 a4 h4 a5 h5 a10 h10 a14 h14 x0 x2 x3 xs0 xs4 3 0 :=
  rfl

theorem B_1_0 : sl.v270 c a2 h2 a4 h4 a5 h5 a10 h10 a14 h14 x0 x2 x3 xs0 xs4 = B_st a2 h2 a4 h4 a5 h5 a10 h10 a14 h14 x0 x2 x3 xs0 xs4 0 1 :=
  stM_step 0 0 (by omega) (B_0_0 ..) rfl (readCov_at3 a10.view rfl rfl rfl)

theorem B_1_1 : sl.v334 c a2 h2 a4 h4 a5 h5 a10 h10 a14 h14 x0 x2 x3 xs0 xs4 = B_st a2 h2 a4 h4 a5 h5 a10 h10 a14 h14 x0 x2 x3 xs0 xs4 1 1 :=
  stM_step 1 0 (by omega) (B_0_1 (c := c) ..) rfl (readCov_at3 a10.view rfl rfl rfl)

theorem B_1_2 : sl.v398 c a2 h2 a4 h4 a5 h5 a10 h10 a14 h14 x0 x2 x3 xs0 xs4 = B_st a2 h2 a4 h4 a5 h5 a10 h10 a14 h14 x0 x2 x3 xs0 xs4 2 1 :=
  stM_step 2 0 (by omega) (B_0_2 (c := c) ..) rfl (readCov_at3 a10.view rfl rfl rfl)

theorem B_1_3 : sl.v462 c a2 h2 a4 h4 a5 h5 a10 h10 a14 h14 x0 x2 x3 xs0 xs4 = B_st a2 h2 a4 h4 a5 h5 a10 h10 a14 h14 x0 x2 x3 xs0 xs4 3 1 :=
  stM_step 3 0 (by omega) (B_0_3 (c := c) ..) rfl (readCov_at3 a10.view rfl rfl rfl)

theorem B_2_0 : sl.v526 c a2 h2 a4 h4 a5 h5 a10 h10 a14 h14 x0 x2 x3 xs0 xs4 = B_st a2 h2 a4 h4 a5 h5 a10 h10 a14 h14 x0 x2 x3 xs0 xs4 0 2 :=
  stM_step 0 1 (by omega) (B_1_0 (c := c) ..) rfl (readCov_at3 a10.view rfl rfl rfl)

theorem B_2_1 : sl.v590 c a2 h2 a4 h4 a5 h5 a10 h10 a14 h14 x0 x2 x3 xs0 xs4 = B_st a2 h2 a4 h4 a5 h5 a10 h10 a14 h14 x0 x2 x3 xs0 xs4 1 2 :=
  stM_step 1 1 (by omega) (B_1_1 (c := c) ..) rfl (readCov_at3 a10.view rfl rfl rfl)

theorem B_2_2 : sl.v654 c a2 h2 a4 h4 a5 h5 a10 h10 a14 h14 x0 x2 x3 xs0 xs4 = B_st a2 h2 a4 h4 a5 h5 a10 h10 a14 h14 x0 x2 x3 xs0 xs4 2 2 :=
  stM_step 2 1 (by omega) (B_1_2 (c := c) ..) rfl (readCov_at3 a10.view rfl rfl rfl)

theorem B_2_3 : sl.v718 c a2 h2 a4 h4 a5 h5 a10 h10 a14 h14 x0 x2 x3 xs0 xs4 = B_st a2 h2 a4 h4 a5 h5 a10 h10 a14 h14 x0 x2 x3 xs0 xs4 3 2 :=
  stM_step 3 1 (by omega) (B_1_3 (c := c) ..) rfl (readCov_at3 a10.view rfl rfl rfl)

theorem B_3_0 : sl.v782 c a2 h2 a4 h4 a5 h5 a10 h10 a14 h14 x0 x2 x3 xs0 xs4 = B_st a2 h2 a4 h4 a5 h5 a10 h10 a14 h14 x0 x2 x3 xs0 xs4 0 3 :=
  stM_step 0 2 (by omega) (B_2_0 (c := c) ..) rfl (readCov_at3 a10.view rfl rfl rfl)

theorem B_3_1 : sl.v846 c a2 h2 a4 h4 a5 h5 a10 h10 a14 h14 x0 x2 x3 xs0 xs4 = B_st a2 h2 a4 h4 a5 h5 a10 h10 a14 h14 x0 x2 x3 xs0 xs4 1 3 :=
  stM_step 1 2 (by omega) (B_2_1 (c := c) ..) rfl (readCov_at3 a10.view rfl rfl rfl)

theorem B_3_2 : sl.v910 c a2 h2 a4 h4 a5 h5 a10 h10 a14 h14 x0 x2 x3 xs0 xs4 = B_st a2 h2 a4 h4 a5 h5 a10 h10 a14 h14 x0 x2 x3 xs0 xs4 2 3 :=
  stM_step 2 2 (by omega) (B_2_2 (c := c) ..) rfl (readCov_at3 a10.view rfl rfl rfl)

theorem B_3_3 : sl.v974 c a2 h2 a4 h4 a5 h5 a10 h10 a14 h14 x0 x2 x3 xs0 xs4 = B_st a2 h2 a4 h4 a5 h5 a10 h10 a14 h14 x0 x2 x3 xs0 xs4 3 3 :=
  stM_step 3 2 (by omega) (B_2_3 (c := c) ..) rfl (readCov_at3 a10.view rfl rfl rfl)

set_option maxHeartbeats 4000000 in
theorem B_out (v : View sig .tc .vmem S1x1024x2048 .bf16) (j : Fin 4) (h : Fin 4) : Vb (v.read (Elt F) (v.writes (Elt F) v.junk (kernelRun0_B c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).1)) j h = outM (B_st a2 h2 a4 h4 a5 h5 a10 h10 a14 h14 x0 x2 x3 xs0 xs4 h j.1 j.2.le) ((Qb (a3.view.read (Elt F) (h3.unread x1))) j h) ((Qb (a4.view.read (Elt F) (h4.unread x2))) j h) ((Vb (a5.view.read (Elt F) (h5.unread x3))) j h) ((Kd (a11.view.read (Elt F) (h11.unread xs1))) h) ((Kd (a12.view.read (Elt F) (h12.unread xs2))) h) ((Kd (a13.view.read (Elt F) (h13.unread xs3))) h) ((Sr (a6.view.read (Elt F) (h6.unread x4))) j h) := by
  obtain ⟨j, hj⟩ := j; obtain ⟨h, hh⟩ := h
  interval_cases j <;> interval_cases h
  exacts [Vb_out v (B_0_0 ..) rfl rfl rfl (.of_get 15 (by sl_kernel_rfl) (by sl_kernel_rfl)), Vb_out v (B_0_1 (c := c) ..) rfl rfl rfl (.of_get 14 (by sl_kernel_rfl) (by sl_kernel_rfl)), Vb_out v (B_0_2 (c := c) ..) rfl rfl rfl (.of_get 13 (by sl_kernel_rfl) (by sl_kernel_rfl)), Vb_out v (B_0_3 (c := c) ..) rfl rfl rfl (.of_get 12 (by sl_kernel_rfl) (by sl_kernel_rfl)), Vb_out v (B_1_0 (c := c) ..) rfl rfl rfl (.of_get 11 (by sl_kernel_rfl) (by sl_kernel_rfl)), Vb_out v (B_1_1 (c := c) ..) rfl rfl rfl (.of_get 10 (by sl_kernel_rfl) (by sl_kernel_rfl)), Vb_out v (B_1_2 (c := c) ..) rfl rfl rfl (.of_get 9 (by sl_kernel_rfl) (by sl_kernel_rfl)), Vb_out v (B_1_3 (c := c) ..) rfl rfl rfl (.of_get 8 (by sl_kernel_rfl) (by sl_kernel_rfl)), Vb_out v (B_2_0 (c := c) ..) rfl rfl rfl (.of_get 7 (by sl_kernel_rfl) (by sl_kernel_rfl)), Vb_out v (B_2_1 (c := c) ..) rfl rfl rfl (.of_get 6 (by sl_kernel_rfl) (by sl_kernel_rfl)), Vb_out v (B_2_2 (c := c) ..) rfl rfl rfl (.of_get 5 (by sl_kernel_rfl) (by sl_kernel_rfl)), Vb_out v (B_2_3 (c := c) ..) rfl rfl rfl (.of_get 4 (by sl_kernel_rfl) (by sl_kernel_rfl)), Vb_out v (B_3_0 (c := c) ..) rfl rfl rfl (.of_get 3 (by sl_kernel_rfl) (by sl_kernel_rfl)), Vb_out v (B_3_1 (c := c) ..) rfl rfl rfl (.of_get 2 (by sl_kernel_rfl) (by sl_kernel_rfl)), Vb_out v (B_3_2 (c := c) ..) rfl rfl rfl (.of_get 1 (by sl_kernel_rfl) (by sl_kernel_rfl)), Vb_out v (B_3_3 (c := c) ..) rfl rfl rfl (.of_get 0 (by sl_kernel_rfl) (by sl_kernel_rfl))]

theorem B_scr (v : View sig .tc .vmem S4x256x512 .f32) (h : Fin 4) : S0 (v.read (Elt F) (v.writes (Elt F) v.junk (kernelRun0_B c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).2.2.1)) h = B_st a2 h2 a4 h4 a5 h5 a10 h10 a14 h14 x0 x2 x3 xs0 xs4 h 4 := by
  obtain ⟨h, hh⟩ := h
  interval_cases h
  exacts [stM_step 0 3 (by omega) (B_3_0 (c := c) ..) rfl (S0_written v (.skip rfl (.skip rfl (.skip rfl (.here))))), stM_step 1 3 (by omega) (B_3_1 (c := c) ..) rfl (S0_written v (.skip rfl (.skip rfl (.here)))), stM_step 2 3 (by omega) (B_3_2 (c := c) ..) rfl (S0_written v (.skip rfl (.here))), stM_step 3 3 (by omega) (B_3_3 (c := c) ..) rfl (S0_written v (.here))]

end Cert.KernelIdeal.Mn
-- ==== Proof.Mn.BodyC.lean ====
/-
  The main call: what the stores of one grid point leave, case C.
-/
module

public import proofs.«01_k».proof.Proof.Mn.Spec

@[expose] public section

set_option maxRecDepth 16384

noncomputable section

namespace Cert.KernelIdeal.Mn

open Cert.KernelIdeal.Gen Cert.Tools
open Idealize.ShloMosaic Idealize.ShloMosaic.TcCoe Idealize.ShloMosaic.Tactic

open kernelRun0_C

variable {F : FTy → Type} [FloatOps F]

variable (c : Dev nD) (i : grid1.Coords) (a2 : Memref sig .tc .smem S2x4 .f32) (h2 : a2.IsWhole) (a3 : Memref sig .tc .vmem S1x1024x1024 .bf16) (h3 : a3.IsWhole) (a4 : Memref sig .tc .vmem S1x1024x1024 .bf16) (h4 : a4.IsWhole) (a5 : Memref sig .tc .vmem S1x1024x2048 .bf16) (h5 : a5.IsWhole) (a6 : Memref sig .tc .vmem S1x4x4x256x512 .bf16) (h6 : a6.IsWhole) (a7 : Memref sig .tc .vmem S1x4x256x512 .f32) (h7 : a7.IsWhole) (a8 : Memref sig .tc .vmem S1x1024x2048 .bf16) (h8 : a8.IsWhole) (a9 : Memref sig .tc .vmem S1x4x256x512 .f32) (h9 : a9.IsWhole) (a10 : Memref sig .tc .vmem S4x256x512 .f32) (h10 : a10.IsWhole) (a11 : Memref sig .tc .vmem S4x256x256 .f32) (h11 : a11.IsWhole) (a12 : Memref sig .tc .vmem S4x256x256 .f32) (h12 : a12.IsWhole) (a13 : Memref sig .tc .vmem S4x256x256 .f32) (h13 : a13.IsWhole) (a14 : Memref sig .tc .vmem S4x256x256 .f32) (h14 : a14.IsWhole) (hc0 : ¬cond0_0 i) (hc1 : cond0_1 i) (x0 : Vec F S2x4 .f32) (x1 : Vec F S1x1024x1024 .bf16) (x2 : Vec F S1x1024x1024 .bf16) (x3 : Vec F S1x1024x2048 .bf16) (x4 : Vec F S1x4x4x256x512 .bf16) (x5 : Vec F S1x4x256x512 .f32) (xs0 : Vec F S4x256x512 .f32) (xs1 : Vec F S4x256x256 .f32) (xs2 : Vec F S4x256x256 .f32) (xs3 : Vec F S4x256x256 .f32) (xs4 : Vec F S4x256x256 .f32)

/-- The state of one head after `j` subchunks, over the blocks this point reads. -/
abbrev C_st (h : Fin 4) (j : ℕ) (hj : j ≤ 4 := by omega) : Vec F S1x256x512 .f32 := stM (Lw (a2.view.read (Elt F) (h2.unread x0)) 0) (S0 (a10.view.read (Elt F) (h10.unread xs0))) (Kd (a14.view.read (Elt F) (h14.unread xs4))) (Qb (a4.view.read (Elt F) (h4.unread x2))) (Vb (a5.view.read (Elt F) (h5.unread x3))) h j hj

theorem C_0_0 : View.readAt (Elt F) a10.view (Rect.unit (s := S4x256x512) ![0, 0, 0] S1x256x512.size inb_S4x256x512_S1x256x512_0_0_0).toLoadRect (h10.unread xs0) = C_st a2 h2 a4 h4 a5 h5 a10 h10 a14 h14 x0 x2 x3 xs0 xs4 0 0 :=
  rfl

theorem C_0_1 : sl.v78 c a10 h10 xs0 = C_st a2 h2 a4 h4 a5 h5 a10 h10 a14 h14 x0 x2 x3 xs0 xs4 1 0 :=
  rfl

theorem C_0_2 : sl.v142 c a10 h10 xs0 = C_st a2 h2 a4 h4 a5 h5 a10 h10 a14 h14 x0 x2 x3 xs0 xs4 2 0 :=
  rfl

theorem C_0_3 : sl.v206 c a10 h10 xs0 = C_st a2 h2 a4 h4 a5 h5 a10 h10 a14 h14 x0 x2 x3 xs0 xs4 3 0 :=
  rfl

theorem C_1_0 : sl.v270 c a2 h2 a4 h4 a5 h5 a10 h10 a14 h14 x0 x2 x3 xs0 xs4 = C_st a2 h2 a4 h4 a5 h5 a10 h10 a14 h14 x0 x2 x3 xs0 xs4 0 1 :=
  stM_step 0 0 (by omega) (C_0_0 ..) rfl (readCov_at3 a10.view rfl rfl rfl)

theorem C_1_1 : sl.v334 c a2 h2 a4 h4 a5 h5 a10 h10 a14 h14 x0 x2 x3 xs0 xs4 = C_st a2 h2 a4 h4 a5 h5 a10 h10 a14 h14 x0 x2 x3 xs0 xs4 1 1 :=
  stM_step 1 0 (by omega) (C_0_1 (c := c) ..) rfl (readCov_at3 a10.view rfl rfl rfl)

theorem C_1_2 : sl.v398 c a2 h2 a4 h4 a5 h5 a10 h10 a14 h14 x0 x2 x3 xs0 xs4 = C_st a2 h2 a4 h4 a5 h5 a10 h10 a14 h14 x0 x2 x3 xs0 xs4 2 1 :=
  stM_step 2 0 (by omega) (C_0_2 (c := c) ..) rfl (readCov_at3 a10.view rfl rfl rfl)

theorem C_1_3 : sl.v462 c a2 h2 a4 h4 a5 h5 a10 h10 a14 h14 x0 x2 x3 xs0 xs4 = C_st a2 h2 a4 h4 a5 h5 a10 h10 a14 h14 x0 x2 x3 xs0 xs4 3 1 :=
  stM_step 3 0 (by omega) (C_0_3 (c := c) ..) rfl (readCov_at3 a10.view rfl rfl rfl)

theorem C_2_0 : sl.v526 c a2 h2 a4 h4 a5 h5 a10 h10 a14 h14 x0 x2 x3 xs0 xs4 = C_st a2 h2 a4 h4 a5 h5 a10 h10 a14 h14 x0 x2 x3 xs0 xs4 0 2 :=
  stM_step 0 1 (by omega) (C_1_0 (c := c) ..) rfl (readCov_at3 a10.view rfl rfl rfl)

theorem C_2_1 : sl.v590 c a2 h2 a4 h4 a5 h5 a10 h10 a14 h14 x0 x2 x3 xs0 xs4 = C_st a2 h2 a4 h4 a5 h5 a10 h10 a14 h14 x0 x2 x3 xs0 xs4 1 2 :=
  stM_step 1 1 (by omega) (C_1_1 (c := c) ..) rfl (readCov_at3 a10.view rfl rfl rfl)

theorem C_2_2 : sl.v654 c a2 h2 a4 h4 a5 h5 a10 h10 a14 h14 x0 x2 x3 xs0 xs4 = C_st a2 h2 a4 h4 a5 h5 a10 h10 a14 h14 x0 x2 x3 xs0 xs4 2 2 :=
  stM_step 2 1 (by omega) (C_1_2 (c := c) ..) rfl (readCov_at3 a10.view rfl rfl rfl)

theorem C_2_3 : sl.v718 c a2 h2 a4 h4 a5 h5 a10 h10 a14 h14 x0 x2 x3 xs0 xs4 = C_st a2 h2 a4 h4 a5 h5 a10 h10 a14 h14 x0 x2 x3 xs0 xs4 3 2 :=
  stM_step 3 1 (by omega) (C_1_3 (c := c) ..) rfl (readCov_at3 a10.view rfl rfl rfl)

theorem C_3_0 : sl.v782 c a2 h2 a4 h4 a5 h5 a10 h10 a14 h14 x0 x2 x3 xs0 xs4 = C_st a2 h2 a4 h4 a5 h5 a10 h10 a14 h14 x0 x2 x3 xs0 xs4 0 3 :=
  stM_step 0 2 (by omega) (C_2_0 (c := c) ..) rfl (readCov_at3 a10.view rfl rfl rfl)

theorem C_3_1 : sl.v846 c a2 h2 a4 h4 a5 h5 a10 h10 a14 h14 x0 x2 x3 xs0 xs4 = C_st a2 h2 a4 h4 a5 h5 a10 h10 a14 h14 x0 x2 x3 xs0 xs4 1 3 :=
  stM_step 1 2 (by omega) (C_2_1 (c := c) ..) rfl (readCov_at3 a10.view rfl rfl rfl)

theorem C_3_2 : sl.v910 c a2 h2 a4 h4 a5 h5 a10 h10 a14 h14 x0 x2 x3 xs0 xs4 = C_st a2 h2 a4 h4 a5 h5 a10 h10 a14 h14 x0 x2 x3 xs0 xs4 2 3 :=
  stM_step 2 2 (by omega) (C_2_2 (c := c) ..) rfl (readCov_at3 a10.view rfl rfl rfl)

theorem C_3_3 : sl.v974 c a2 h2 a4 h4 a5 h5 a10 h10 a14 h14 x0 x2 x3 xs0 xs4 = C_st a2 h2 a4 h4 a5 h5 a10 h10 a14 h14 x0 x2 x3 xs0 xs4 3 3 :=
  stM_step 3 2 (by omega) (C_2_3 (c := c) ..) rfl (readCov_at3 a10.view rfl rfl rfl)

set_option maxHeartbeats 4000000 in
theorem C_out (v : View sig .tc .vmem S1x1024x2048 .bf16) (j : Fin 4) (h : Fin 4) : Vb (v.read (Elt F) (v.writes (Elt F) v.junk (kernelRun0_C c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).1)) j h = outM (C_st a2 h2 a4 h4 a5 h5 a10 h10 a14 h14 x0 x2 x3 xs0 xs4 h j.1 j.2.le) ((Qb (a3.view.read (Elt F) (h3.unread x1))) j h) ((Qb (a4.view.read (Elt F) (h4.unread x2))) j h) ((Vb (a5.view.read (Elt F) (h5.unread x3))) j h) ((Kd (a11.view.read (Elt F) (h11.unread xs1))) h) ((Kd (a12.view.read (Elt F) (h12.unread xs2))) h) ((Kd (a13.view.read (Elt F) (h13.unread xs3))) h) ((Sr (a6.view.read (Elt F) (h6.unread x4))) j h) := by
  obtain ⟨j, hj⟩ := j; obtain ⟨h, hh⟩ := h
  interval_cases j <;> interval_cases h
  exacts [Vb_out v (C_0_0 ..) rfl rfl rfl (.of_get 15 (by sl_kernel_rfl) (by sl_kernel_rfl)), Vb_out v (C_0_1 (c := c) ..) rfl rfl rfl (.of_get 14 (by sl_kernel_rfl) (by sl_kernel_rfl)), Vb_out v (C_0_2 (c := c) ..) rfl rfl rfl (.of_get 13 (by sl_kernel_rfl) (by sl_kernel_rfl)), Vb_out v (C_0_3 (c := c) ..) rfl rfl rfl (.of_get 12 (by sl_kernel_rfl) (by sl_kernel_rfl)), Vb_out v (C_1_0 (c := c) ..) rfl rfl rfl (.of_get 11 (by sl_kernel_rfl) (by sl_kernel_rfl)), Vb_out v (C_1_1 (c := c) ..) rfl rfl rfl (.of_get 10 (by sl_kernel_rfl) (by sl_kernel_rfl)), Vb_out v (C_1_2 (c := c) ..) rfl rfl rfl (.of_get 9 (by sl_kernel_rfl) (by sl_kernel_rfl)), Vb_out v (C_1_3 (c := c) ..) rfl rfl rfl (.of_get 8 (by sl_kernel_rfl) (by sl_kernel_rfl)), Vb_out v (C_2_0 (c := c) ..) rfl rfl rfl (.of_get 7 (by sl_kernel_rfl) (by sl_kernel_rfl)), Vb_out v (C_2_1 (c := c) ..) rfl rfl rfl (.of_get 6 (by sl_kernel_rfl) (by sl_kernel_rfl)), Vb_out v (C_2_2 (c := c) ..) rfl rfl rfl (.of_get 5 (by sl_kernel_rfl) (by sl_kernel_rfl)), Vb_out v (C_2_3 (c := c) ..) rfl rfl rfl (.of_get 4 (by sl_kernel_rfl) (by sl_kernel_rfl)), Vb_out v (C_3_0 (c := c) ..) rfl rfl rfl (.of_get 3 (by sl_kernel_rfl) (by sl_kernel_rfl)), Vb_out v (C_3_1 (c := c) ..) rfl rfl rfl (.of_get 2 (by sl_kernel_rfl) (by sl_kernel_rfl)), Vb_out v (C_3_2 (c := c) ..) rfl rfl rfl (.of_get 1 (by sl_kernel_rfl) (by sl_kernel_rfl)), Vb_out v (C_3_3 (c := c) ..) rfl rfl rfl (.of_get 0 (by sl_kernel_rfl) (by sl_kernel_rfl))]

theorem C_scr (v : View sig .tc .vmem S4x256x512 .f32) (h : Fin 4) : S0 (v.read (Elt F) (v.writes (Elt F) v.junk (kernelRun0_C c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).2.2.1)) h = C_st a2 h2 a4 h4 a5 h5 a10 h10 a14 h14 x0 x2 x3 xs0 xs4 h 4 := by
  obtain ⟨h, hh⟩ := h
  interval_cases h
  exacts [stM_step 0 3 (by omega) (C_3_0 (c := c) ..) rfl (S0_written v (.skip rfl (.skip rfl (.skip rfl (.here))))), stM_step 1 3 (by omega) (C_3_1 (c := c) ..) rfl (S0_written v (.skip rfl (.skip rfl (.here)))), stM_step 2 3 (by omega) (C_3_2 (c := c) ..) rfl (S0_written v (.skip rfl (.here))), stM_step 3 3 (by omega) (C_3_3 (c := c) ..) rfl (S0_written v (.here))]

theorem C_se (v : View sig .tc .vmem S1x4x256x512 .f32) : ∃ Y : Vec F S4x256x512 .f32,
    v.read (Elt F) (v.writes (Elt F) v.junk (kernelRun0_C c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).2.1) = k1_pay1 Y ∧ ∀ h, S0 Y h = C_st a2 h2 a4 h4 a5 h5 a10 h10 a14 h14 x0 x2 x3 xs0 xs4 h 4 := by
  refine ⟨a10.view.read (Elt F) (a10.view.writes (Elt F) a10.view.junk (kernelRun0_C c i a2 h2 a3 h3 a4 h4 a5 h5 a6 h6 a7 h7 a8 h8 a9 h9 a10 h10 a11 h11 a12 h12 a13 h13 a14 h14 hc0 hc1 x0 x1 x2 x3 x4 x5 xs0 xs1 xs2 xs3 xs4).2.2.1), ?_, fun h => C_scr .. ⟩
  refine (L4_written v (.here)).trans (congrArg k1_pay1 ?_)
  exact L3_eq _

end Cert.KernelIdeal.Mn
-- ==== Proof.Mn.Point.lean ====
/-
  The main call: what one point leaves, over the blocks it reads.
-/
module

public import proofs.«01_k».proof.Proof.Mn.Frame
public import proofs.«01_k».proof.Proof.Mn.BodyA
public import proofs.«01_k».proof.Proof.Mn.BodyB
public import proofs.«01_k».proof.Proof.Mn.BodyC

@[expose] public section

set_option maxRecDepth 16384

noncomputable section

namespace Cert.KernelIdeal.Mn

open Cert.KernelIdeal.Gen
open Idealize.ShloMosaic Idealize.ShloMosaic.TcCoe

variable {F : FTy → Type} [FloatOps F] (c : Dev nD) (t : Fin cfg1.N)
  (x0 : Vec F S2x4 .f32) (x1 : Vec F S1x1024x1024 .bf16) (x2 : Vec F S1x1024x1024 .bf16) (x3 : Vec F S1x1024x2048 .bf16)
  (x4 : Vec F S1x4x4x256x512 .bf16) (x5 : Vec F S1x4x256x512 .f32)
  (xs0 : Vec F S4x256x512 .f32) (xs1 xs2 xs3 xs4 : Vec F S4x256x256 .f32)

theorem out_A (hc0 : cond0_0 (grid1.coords t)) (hc1 : ¬cond0_1 (grid1.coords t)) (j : Fin 4) (h : Fin 4) :
    Vb (out0_A_6 c t hc0 hc1 x0 x1 x2 x3 x4 x5) j h = outM (stM (Lw x0 0) (S0 (k1_pay2 (L4 x5))) (KD x0) (Qb x2) (Vb x3) h j.1 j.2.le) (Qb x1 j h) (Qb x2 j h) (Vb x3 j h) (DM x0 h) (QF x0 h) (QR x0 h) (Sr x4 j h) := by
  have := A_out c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VO0_6) (j := j) (h := h)
  simp only [A_st, Memref.IsWhole.read_unread, (Memref.isWhole_whole _).read_unread] at this
  exact this

theorem scr_A (hc0 : cond0_0 (grid1.coords t)) (hc1 : ¬cond0_1 (grid1.coords t)) (h : Fin 4) :
    S0 (sout0_A_0 c t hc0 hc1 x0 x1 x2 x3 x4 x5) h = stM (Lw x0 0) (S0 (k1_pay2 (L4 x5))) (KD x0) (Qb x2) (Vb x3) h 4 (by omega) := by
  have := A_scr c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VS0_0) (h := h)
  simp only [A_st, Memref.IsWhole.read_unread, (Memref.isWhole_whole _).read_unread] at this
  exact this

theorem tb0_A (hc0 : cond0_0 (grid1.coords t)) (hc1 : ¬cond0_1 (grid1.coords t)) (h : Fin 4) :
    Kd (sout0_A_1 c t hc0 hc1 x0 x1 x2 x3 x4 x5) h = DM x0 h := by
  have := A_stb0 c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VS0_1) (h := h)
  simp only [A_st, Memref.IsWhole.read_unread, (Memref.isWhole_whole _).read_unread] at this
  exact this

theorem tb1_A (hc0 : cond0_0 (grid1.coords t)) (hc1 : ¬cond0_1 (grid1.coords t)) (h : Fin 4) :
    Kd (sout0_A_2 c t hc0 hc1 x0 x1 x2 x3 x4 x5) h = QF x0 h := by
  have := A_stb1 c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VS0_2) (h := h)
  simp only [A_st, Memref.IsWhole.read_unread, (Memref.isWhole_whole _).read_unread] at this
  exact this

theorem tb2_A (hc0 : cond0_0 (grid1.coords t)) (hc1 : ¬cond0_1 (grid1.coords t)) (h : Fin 4) :
    Kd (sout0_A_3 c t hc0 hc1 x0 x1 x2 x3 x4 x5) h = QR x0 h := by
  have := A_stb2 c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VS0_3) (h := h)
  simp only [A_st, Memref.IsWhole.read_unread, (Memref.isWhole_whole _).read_unread] at this
  exact this

theorem tb3_A (hc0 : cond0_0 (grid1.coords t)) (hc1 : ¬cond0_1 (grid1.coords t)) (h : Fin 4) :
    Kd (sout0_A_4 c t hc0 hc1 x0 x1 x2 x3 x4 x5) h = KD x0 h := by
  have := A_stb3 c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 (v := VS0_4) (h := h)
  simp only [A_st, Memref.IsWhole.read_unread, (Memref.isWhole_whole _).read_unread] at this
  exact this

theorem out_B (hc0 : ¬cond0_0 (grid1.coords t)) (hc1 : ¬cond0_1 (grid1.coords t)) (j : Fin 4) (h : Fin 4) :
    Vb (out0_B_6 c t hc0 hc1 x0 x1 x2 x3 x4 x5 xs0 xs1 xs2 xs3 xs4) j h = outM (stM (Lw x0 0) (S0 xs0) (Kd xs4) (Qb x2) (Vb x3) h j.1 j.2.le) (Qb x1 j h) (Qb x2 j h) (Vb x3 j h) (Kd xs1 h) (Kd xs2 h) (Kd xs3 h) (Sr x4 j h) := by
  have := B_out c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 xs0 xs1 xs2 xs3 xs4 (v := VO0_6) (j := j) (h := h)
  simp only [B_st, Memref.IsWhole.read_unread, (Memref.isWhole_whole _).read_unread] at this
  exact this

theorem scr_B (hc0 : ¬cond0_0 (grid1.coords t)) (hc1 : ¬cond0_1 (grid1.coords t)) (h : Fin 4) :
    S0 (sout0_B_0 c t hc0 hc1 x0 x1 x2 x3 x4 x5 xs0 xs1 xs2 xs3 xs4) h = stM (Lw x0 0) (S0 xs0) (Kd xs4) (Qb x2) (Vb x3) h 4 (by omega) := by
  have := B_scr c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 xs0 xs1 xs2 xs3 xs4 (v := VS0_0) (h := h)
  simp only [B_st, Memref.IsWhole.read_unread, (Memref.isWhole_whole _).read_unread] at this
  exact this

theorem out_C (hc0 : ¬cond0_0 (grid1.coords t)) (hc1 : cond0_1 (grid1.coords t)) (j : Fin 4) (h : Fin 4) :
    Vb (out0_C_6 c t hc0 hc1 x0 x1 x2 x3 x4 x5 xs0 xs1 xs2 xs3 xs4) j h = outM (stM (Lw x0 0) (S0 xs0) (Kd xs4) (Qb x2) (Vb x3) h j.1 j.2.le) (Qb x1 j h) (Qb x2 j h) (Vb x3 j h) (Kd xs1 h) (Kd xs2 h) (Kd xs3 h) (Sr x4 j h) := by
  have := C_out c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 xs0 xs1 xs2 xs3 xs4 (v := VO0_6) (j := j) (h := h)
  simp only [C_st, Memref.IsWhole.read_unread, (Memref.isWhole_whole _).read_unread] at this
  exact this

theorem scr_C (hc0 : ¬cond0_0 (grid1.coords t)) (hc1 : cond0_1 (grid1.coords t)) (h : Fin 4) :
    S0 (sout0_C_0 c t hc0 hc1 x0 x1 x2 x3 x4 x5 xs0 xs1 xs2 xs3 xs4) h = stM (Lw x0 0) (S0 xs0) (Kd xs4) (Qb x2) (Vb x3) h 4 (by omega) := by
  have := C_scr c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 xs0 xs1 xs2 xs3 xs4 (v := VS0_0) (h := h)
  simp only [C_st, Memref.IsWhole.read_unread, (Memref.isWhole_whole _).read_unread] at this
  exact this

theorem fin_C (hc0 : ¬cond0_0 (grid1.coords t)) (hc1 : cond0_1 (grid1.coords t)) : ∃ Y : Vec F S4x256x512 .f32,
    out0_C_7 c t hc0 hc1 x0 x1 x2 x3 x4 x5 xs0 xs1 xs2 xs3 xs4 = k1_pay1 Y ∧ ∀ h, S0 Y h = stM (Lw x0 0) (S0 xs0) (Kd xs4) (Qb x2) (Vb x3) h 4 (by omega) := by
  have := C_se c _ _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) scM0_4 (Memref.isWhole_whole _) hc0 hc1 x0 x1 x2 x3 x4 x5 xs0 xs1 xs2 xs3 xs4 (v := VO0_7)
  simp only [C_st, Memref.IsWhole.read_unread, (Memref.isWhole_whole _).read_unread] at this
  exact this

end Cert.KernelIdeal.Mn
-- ==== Proof.Mn.Sweep.lean ====
/-
  The main call: every point's states and outputs in closed form, by induction over the grid, and the two arrays it leaves.
-/
module

public import proofs.«01_k».proof.Proof.Mn.Reads
public import proofs.«01_k».proof.Proof.Mn.Point

@[expose] public section

set_option maxRecDepth 16384

noncomputable section

namespace Cert.KernelIdeal.Mn

open Cert.KernelIdeal.Gen Cert.Ret Cert.Values
open Idealize.ShloMosaic hiding ix0 ix1 ix2 ix3 ix4 ix5 eq_ix2 eq_ix3 eq_ix4
open Idealize.ShloMosaic.ValueIdx
open Idealize.ShloMosaic.TcCoe

variable {u : ℕ → ℕ → ℕ → ℝ} {lg : ℕ → ℕ → ℝ} {sf sr : ℕ → ℕ → ℕ → ℕ → EReal}

/-- The decays of one chunk in closed form. -/
structure Tables (lg : ℕ → ℕ → ℝ) (dm qf qr kd : Fin 4 → Vec Ideal S1x256x256 .f32) : Prop where
  dm : ∀ (h : Fin 4) (p j : Fin 256), dm h (ix3 0 p j)
    = ((if j.val ≤ p.val then Real.exp (lg 0 h.val * ((p.val : ℝ) - j.val)) else Real.exp (lg 1 h.val * ((j.val : ℝ) - p.val)) : ℝ) : EReal)
  qf : ∀ (h : Fin 4) (p d : Fin 256), qf h (ix3 0 p d) = ((Real.exp (lg 0 h.val * ((p.val : ℝ) + 1)) : ℝ) : EReal)
  qr : ∀ (h : Fin 4) (p d : Fin 256), qr h (ix3 0 p d) = ((Real.exp (lg 1 h.val * ((256 : ℝ) - p.val)) : ℝ) : EReal)
  kd : ∀ (h : Fin 4) (p d : Fin 256), kd h (ix3 0 p d) = ((Real.exp (lg 0 h.val * ((255 : ℝ) - p.val)) : ℝ) : EReal)

/-- The states of one point, from an entry state in closed form. -/
theorem stM_val {lw : Fin 4 → Elt Ideal .f32} {s0 : Fin 4 → Vec Ideal S1x256x512 .f32} {dm qf qr kd : Fin 4 → Vec Ideal S1x256x256 .f32}
    {kb : Fin 4 → Fin 4 → Vec Ideal S1x256x256 .bf16} {vb : Fin 4 → Fin 4 → Vec Ideal S1x256x512 .bf16} {b M : ℕ}
    (hl : ∀ h, lw h = ((lg 0 h.val : ℝ) : EReal)) (T : Tables lg dm qf qr kd)
    (hk : ∀ (j : Fin 4) (h : Fin 4) (p d : Fin 256), kb j h (ix3 0 p d) = ((kk u b h.val (M + j.val * 256 + p.val) d.val : ℝ) : EReal))
    (hv : ∀ (j : Fin 4) (h : Fin 4) (p : Fin 256) (e : Fin 512), vb j h (ix3 0 p e) = ((vv u b h.val (M + j.val * 256 + p.val) e.val : ℝ) : EReal))
    (hs : ∀ (h : Fin 4) (d : Fin 256) (e : Fin 512), s0 h (ix3 0 d e) = SF u lg sf b h.val d.val e.val M)
    (h : Fin 4) (d : Fin 256) (e : Fin 512) : ∀ (j : ℕ) (hj : j ≤ 4),
    stM lw s0 kd kb vb h j hj (ix3 0 d e) = SF u lg sf b h.val d.val e.val (M + j * 256)
  | 0, _ => by rw [Nat.zero_mul, Nat.add_zero]; exact hs h d e
  | j + 1, hj => by
    have ih := stM_val (lw := lw) (kb := kb) (vb := vb) hl T hk hv hs h d e j (by omega)
    refine (stepM_apply _ _ _ _ _ d e).trans ?_
    rw [ih, hl, exp_mul, show M + (j + 1) * 256 = M + j * 256 + 256 by omega]
    unfold SF
    rw [Decay.FS_step (lg 0 h.val) (sf b h.val d.val e.val) _ _ (M + j * 256) 256]
    refine congrArg₂ (· + ·) (by norm_num) (Finset.sum_congr rfl fun p _ => ?_)
    rw [T.kd, hk, hv]
    norm_num

/-- One subchunk's output. -/
theorem outM_val {b N : ℕ} (hN : N + 256 ≤ 16384) {dm qf qr kd : Fin 4 → Vec Ideal S1x256x256 .f32} (T : Tables lg dm qf qr kd) (h : Fin 4)
    {st : Vec Ideal S1x256x512 .f32} {q k : Vec Ideal S1x256x256 .bf16} {v : Vec Ideal S1x256x512 .bf16} {s : Vec Ideal S1x1x1x256x512 .bf16}
    (hst : ∀ (d : Fin 256) (e : Fin 512), st (ix3 0 d e) = SF u lg sf b h.val d.val e.val N)
    (hq : ∀ (p d : Fin 256), q (ix3 0 p d) = ((qq u b h.val (N + p.val) d.val : ℝ) : EReal))
    (hk : ∀ (p d : Fin 256), k (ix3 0 p d) = ((kk u b h.val (N + p.val) d.val : ℝ) : EReal))
    (hv : ∀ (p : Fin 256) (e : Fin 512), v (ix3 0 p e) = ((vv u b h.val (N + p.val) e.val : ℝ) : EReal))
    (hs : ∀ (d : Fin 256) (e : Fin 512), s (ix5 0 0 0 d e) = SR u lg sr b h.val d.val e.val (N + 256)) (p : Fin 256) (e : Fin 512) :
    outM (F := Ideal) st q k v (dm h) (qf h) (qr h) s (ix3 0 p e) = HN (fun i => OO u lg sf sr b h.val (N + p.val) i.val) e := by
  refine (outM_apply st q k v (dm h) (qf h) (qr h) s p e).trans (congrArg (fun x => HN x e) (funext fun i => ?_))
  have key := Decay.O_chunk (lg 0 h.val) (lg 1 h.val) 16384 N 256 (D := 256) (fun d => qq u b h.val (N + p.val) d.val) (fun m d => kk u b h.val m d.val)
    (fun m => vv u b h.val m i.val) (fun d => sf b h.val d.val i.val) (fun d => sr b h.val d.val i.val) hN p.val p.isLt
    (fun j => if j ≤ p.val then Real.exp (lg 0 h.val * ((p.val : ℝ) - j)) else Real.exp (lg 1 h.val * ((j : ℝ) - p.val)))
    (fun j _ => by
      unfold Decay.wt
      have e1 : (N + j ≤ N + p.val) = (j ≤ p.val) := by simp
      simp only [e1, Nat.cast_add]
      split <;> congr 2 <;> ring)
  unfold OO
  rw [← key]
  refine congrArg₂ (· + ·) (congrArg₂ (· + ·) (Finset.sum_congr rfl fun j _ => ?_) (Finset.sum_congr rfl fun d _ => ?_)) (Finset.sum_congr rfl fun d _ => ?_)
  · rw [T.dm, hv]
    simp only [hq, hk]
  · rw [hq, T.qf, hst]; rfl
  · rw [hq, T.qr, hs]; norm_num [SR]

variable (V : (c : Dev nD) → (b : Ref sig .tc) → Buf (Elt Ideal) ((c : Thread nD τ).loc b)) (c : Dev nD)

/-- What the point before leaves. -/
abbrev pv (t : Fin cfg1.N) : Pt Ideal := outsAt0 V c (t.val - 1) (Nat.lt_of_le_of_lt (Nat.sub_le _ _) t.isLt)

/-- What holds after point `n`: the carried buffers, and what it wrote out. -/
structure Good (u : ℕ → ℕ → ℕ → ℝ) (lg : ℕ → ℕ → ℝ) (sf sr : ℕ → ℕ → ℕ → ℕ → EReal) (n : ℕ)
    (o : Vec Ideal S1x1024x2048 .bf16 × Vec Ideal S1x4x256x512 .f32 × Vec Ideal S4x256x512 .f32 × Vec Ideal S4x256x256 .f32
      × Vec Ideal S4x256x256 .f32 × Vec Ideal S4x256x256 .f32 × Vec Ideal S4x256x256 .f32) : Prop where
  st : ∀ (h : Fin 4) (d : Fin 256) (e : Fin 512), S0 o.2.2.1 h (ix3 0 d e) = SF u lg sf (n / 16) h.val d.val e.val (n % 16 * 1024 + 1024)
  tb : Tables lg (Kd o.2.2.2.1) (Kd o.2.2.2.2.1) (Kd o.2.2.2.2.2.1) (Kd o.2.2.2.2.2.2)
  out : ∀ (j : Fin 4) (h : Fin 4) (p : Fin 256) (e : Fin 512),
    Vb o.1 j h (ix3 0 p e) = HN (fun i => OO u lg sf sr (n / 16) h.val (n % 16 * 1024 + j.val * 256 + p.val) i.val) e
  fin : n % 16 = 15 → ∀ (h : Fin 4) (d : Fin 256) (e : Fin 512), o.2.1 (ix4 0 h d e) = SF u lg sf (n / 16) h.val d.val e.val 16384

variable (hu : ∀ y : S2x16384x6144.Idx, V c main_arg0 y = ((u (y 0).val (y 1).val (y 2).val : ℝ) : EReal))
  (hl : ∀ y : S2x4.Idx, V c main_arg1 y = ((lg (y 0).val (y 1).val : ℝ) : EReal))
  (hs : ∀ y : S2x4x256x512.Idx, (V c main_arg2 y : EReal) = sf (y 0).val (y 1).val (y 2).val (y 3).val)
  (hr : ∀ y : S2x64x4x256x512.Idx, (V c main_v0_0 y : EReal) = SR u lg sr (y 0).val (y 2).val (y 3).val (y 4).val ((y 1).val * 256 + 256))

include hl in
theorem tables (t : Fin cfg1.N) : Tables lg (DM (F := Ideal) (iblk V c 0 t)) (QF (F := Ideal) (iblk V c 0 t)) (QR (F := Ideal) (iblk V c 0 t)) (KD (F := Ideal) (iblk V c 0 t)) where
  dm h p j := by unfold DM; rw [rd0 V c hl t 0 h, rd0 V c hl t 1 h]; exact DM_apply _ _ p j
  qf h p d := by unfold QF; rw [rd0 V c hl t 0 h]; exact QF_apply _ p d
  qr h p d := by unfold QR; rw [rd0 V c hl t 1 h]; exact QR_apply _ p d
  kd h p d := by unfold KD; rw [rd0 V c hl t 0 h]; exact KD_apply _ p d

include hu hl in
/-- One point's states over its blocks. -/
theorem point_val (t : Fin cfg1.N) {s0 : Fin 4 → Vec Ideal S1x256x512 .f32} {dm qf qr kd : Fin 4 → Vec Ideal S1x256x256 .f32} (T : Tables lg dm qf qr kd)
    (hs : ∀ (h : Fin 4) (d : Fin 256) (e : Fin 512), s0 h (ix3 0 d e) = SF u lg sf (t.val / 16) h.val d.val e.val (t.val % 16 * 1024))
    (h : Fin 4) (d : Fin 256) (e : Fin 512) (j : ℕ) (hj : j ≤ 4) :
    stM (Lw (F := Ideal) (iblk V c 0 t) 0) s0 kd (Qb (iblk V c 2 t)) (Vb (iblk V c 3 t)) h j hj (ix3 0 d e)
      = SF u lg sf (t.val / 16) h.val d.val e.val (t.val % 16 * 1024 + j * 256) :=
  stM_val (rd0 V c hl t 0) T (rd2 V c hu t) (rd3 V c hu t) hs h d e j hj

include hu hl hr in
/-- One point's outputs over its blocks. -/
theorem point_out (t : Fin cfg1.N) {s0 : Fin 4 → Vec Ideal S1x256x512 .f32} {dm qf qr kd : Fin 4 → Vec Ideal S1x256x256 .f32} (T : Tables lg dm qf qr kd)
    (hs : ∀ (h : Fin 4) (d : Fin 256) (e : Fin 512), s0 h (ix3 0 d e) = SF u lg sf (t.val / 16) h.val d.val e.val (t.val % 16 * 1024))
    (j : Fin 4) (h : Fin 4) (p : Fin 256) (e : Fin 512) :
    outM (F := Ideal) (stM (Lw (F := Ideal) (iblk V c 0 t) 0) s0 kd (Qb (iblk V c 2 t)) (Vb (iblk V c 3 t)) h j.1 j.2.le)
        (Qb (iblk V c 1 t) j h) (Qb (iblk V c 2 t) j h) (Vb (iblk V c 3 t) j h) (dm h) (qf h) (qr h) (Sr (iblk V c 4 t) j h) (ix3 0 p e)
      = HN (fun i => OO u lg sf sr (t.val / 16) h.val (t.val % 16 * 1024 + j.val * 256 + p.val) i.val) e :=
  outM_val (by omega) T h (fun d e => point_val V c hu hl t T hs h d e j.1 j.2.le) (fun p d => rd1 V c hu t j h p d) (fun p d => rd2 V c hu t j h p d)
    (fun p e => rd3 V c hu t j h p e) (fun d e => rd4 V c hr t j h d e) p e

include hu hl hr hs in
theorem good_A (t : Fin cfg1.N) (h0 : t.val % 16 = 0) (h1 : ¬t.val % 16 = 15) :
    Good u lg sf sr t.val (outsAt0 V c t.val t.isLt) := by
  have hs0 : ∀ (h : Fin 4) (d : Fin 256) (e : Fin 512), S0 (F := Ideal) (k1_pay2 (F := Ideal) (L4 (iblk V c 5 t))) h (ix3 0 d e) = SF u lg sf (t.val / 16) h.val d.val e.val (t.val % 16 * 1024) := fun h d e => by
    rw [rd5 V c hs t, SF, h0, Nat.zero_mul, Decay.FS_zero]
  have T := tables V c hl t
  have key := point_val V c hu hl t T hs0
  have keyo := point_out V c hu hl hr t T hs0
  rw [outsAt0_A V c t h0 h1, ptA]
  refine ⟨fun h d e => ?_, ?_, fun j h p e => ?_, fun h15 => absurd h15 h1⟩
  · have H1 := scr_A (F := Ideal) c t (iblk V c 0 t) (iblk V c 1 t) (iblk V c 2 t) (iblk V c 3 t) (iblk V c 4 t) (iblk V c 5 t) ((hcond0_0 t).mpr h0) (fun h => h1 ((hcond0_1 t).mp h)) h
    have H2 := key h d e 4 (by omega)
    dsimp only
    rw [H1]
    exact H2
  · constructor
    · intro h p j
      have H1 := tb0_A (F := Ideal) c t (iblk V c 0 t) (iblk V c 1 t) (iblk V c 2 t) (iblk V c 3 t) (iblk V c 4 t) (iblk V c 5 t) ((hcond0_0 t).mpr h0) (fun h => h1 ((hcond0_1 t).mp h)) h
      have H2 := T.dm h p j
      dsimp only
      rw [H1]
      exact H2
    · intro h p d
      have H1 := tb1_A (F := Ideal) c t (iblk V c 0 t) (iblk V c 1 t) (iblk V c 2 t) (iblk V c 3 t) (iblk V c 4 t) (iblk V c 5 t) ((hcond0_0 t).mpr h0) (fun h => h1 ((hcond0_1 t).mp h)) h
      have H2 := T.qf h p d
      dsimp only
      rw [H1]
      exact H2
    · intro h p d
      have H1 := tb2_A (F := Ideal) c t (iblk V c 0 t) (iblk V c 1 t) (iblk V c 2 t) (iblk V c 3 t) (iblk V c 4 t) (iblk V c 5 t) ((hcond0_0 t).mpr h0) (fun h => h1 ((hcond0_1 t).mp h)) h
      have H2 := T.qr h p d
      dsimp only
      rw [H1]
      exact H2
    · intro h p d
      have H1 := tb3_A (F := Ideal) c t (iblk V c 0 t) (iblk V c 1 t) (iblk V c 2 t) (iblk V c 3 t) (iblk V c 4 t) (iblk V c 5 t) ((hcond0_0 t).mpr h0) (fun h => h1 ((hcond0_1 t).mp h)) h
      have H2 := T.kd h p d
      dsimp only
      rw [H1]
      exact H2
  · have H1 := out_A (F := Ideal) c t (iblk V c 0 t) (iblk V c 1 t) (iblk V c 2 t) (iblk V c 3 t) (iblk V c 4 t) (iblk V c 5 t) ((hcond0_0 t).mpr h0) (fun h => h1 ((hcond0_1 t).mp h)) j h
    have H2 := keyo j h p e
    dsimp only
    rw [H1]
    exact H2

theorem prev {t : ℕ} (h0 : ¬t % 16 = 0) : (t - 1) / 16 = t / 16 ∧ (t - 1) % 16 * 1024 + 1024 = t % 16 * 1024 := by omega

include hu hl hr in
theorem good_B (t : Fin cfg1.N) (h0 : ¬t.val % 16 = 0) (h1 : ¬t.val % 16 = 15)
    (ih : Good u lg sf sr (t.val - 1) (pv V c t)) :
    Good u lg sf sr t.val (outsAt0 V c t.val t.isLt) := by
  have hs0 : ∀ (h : Fin 4) (d : Fin 256) (e : Fin 512), S0 (F := Ideal) (pv V c t).2.2.1 h (ix3 0 d e) = SF u lg sf (t.val / 16) h.val d.val e.val (t.val % 16 * 1024) := fun h d e => by
    rw [ih.st, (prev h0).1, (prev h0).2]
  have T := ih.tb
  have key := point_val V c hu hl t T hs0
  have keyo := point_out V c hu hl hr t T hs0
  rw [outsAt0_B V c t h0 h1, ptB]
  refine ⟨fun h d e => ?_, ih.tb, fun j h p e => ?_, fun h15 => absurd h15 h1⟩
  · have H1 := scr_B (F := Ideal) c t (iblk V c 0 t) (iblk V c 1 t) (iblk V c 2 t) (iblk V c 3 t) (iblk V c 4 t) (iblk V c 5 t) (pv V c t).2.2.1 (pv V c t).2.2.2.1 (pv V c t).2.2.2.2.1 (pv V c t).2.2.2.2.2.1 (pv V c t).2.2.2.2.2.2 (fun h => h0 ((hcond0_0 t).mp h)) (fun h => h1 ((hcond0_1 t).mp h)) h
    have H2 := key h d e 4 (by omega)
    dsimp only
    rw [H1]
    exact H2
  · have H1 := out_B (F := Ideal) c t (iblk V c 0 t) (iblk V c 1 t) (iblk V c 2 t) (iblk V c 3 t) (iblk V c 4 t) (iblk V c 5 t) (pv V c t).2.2.1 (pv V c t).2.2.2.1 (pv V c t).2.2.2.2.1 (pv V c t).2.2.2.2.2.1 (pv V c t).2.2.2.2.2.2 (fun h => h0 ((hcond0_0 t).mp h)) (fun h => h1 ((hcond0_1 t).mp h)) j h
    have H2 := keyo j h p e
    dsimp only
    rw [H1]
    exact H2

include hu hl hr in
theorem good_C (t : Fin cfg1.N) (h0 : ¬t.val % 16 = 0) (h1 : t.val % 16 = 15)
    (ih : Good u lg sf sr (t.val - 1) (pv V c t)) :
    Good u lg sf sr t.val (outsAt0 V c t.val t.isLt) := by
  have hs0 : ∀ (h : Fin 4) (d : Fin 256) (e : Fin 512), S0 (F := Ideal) (pv V c t).2.2.1 h (ix3 0 d e) = SF u lg sf (t.val / 16) h.val d.val e.val (t.val % 16 * 1024) := fun h d e => by
    rw [ih.st, (prev h0).1, (prev h0).2]
  have T := ih.tb
  have key := point_val V c hu hl t T hs0
  have keyo := point_out V c hu hl hr t T hs0
  rw [outsAt0_C V c t h0 h1, ptC]
  refine ⟨fun h d e => ?_, ih.tb, fun j h p e => ?_, fun _ h d e => ?_⟩
  · have H1 := scr_C (F := Ideal) c t (iblk V c 0 t) (iblk V c 1 t) (iblk V c 2 t) (iblk V c 3 t) (iblk V c 4 t) (iblk V c 5 t) (pv V c t).2.2.1 (pv V c t).2.2.2.1 (pv V c t).2.2.2.2.1 (pv V c t).2.2.2.2.2.1 (pv V c t).2.2.2.2.2.2 (fun h => h0 ((hcond0_0 t).mp h)) ((hcond0_1 t).mpr h1) h
    have H2 := key h d e 4 (by omega)
    dsimp only
    rw [H1]
    exact H2
  · have H1 := out_C (F := Ideal) c t (iblk V c 0 t) (iblk V c 1 t) (iblk V c 2 t) (iblk V c 3 t) (iblk V c 4 t) (iblk V c 5 t) (pv V c t).2.2.1 (pv V c t).2.2.2.1 (pv V c t).2.2.2.2.1 (pv V c t).2.2.2.2.2.1 (pv V c t).2.2.2.2.2.2 (fun h => h0 ((hcond0_0 t).mp h)) ((hcond0_1 t).mpr h1) j h
    have H2 := keyo j h p e
    dsimp only
    rw [H1]
    exact H2
  · obtain ⟨Y, hY, hS⟩ := fin_C (F := Ideal) c t (iblk V c 0 t) (iblk V c 1 t) (iblk V c 2 t) (iblk V c 3 t) (iblk V c 4 t) (iblk V c 5 t) (pv V c t).2.2.1 (pv V c t).2.2.2.1 (pv V c t).2.2.2.2.1 (pv V c t).2.2.2.2.2.1 (pv V c t).2.2.2.2.2.2 (fun h => h0 ((hcond0_0 t).mp h)) ((hcond0_1 t).mpr h1)
    have H2 := key h d e 4 (by omega)
    dsimp only
    rw [hY, pay1_apply, ← S0_apply Y h d e, hS, H2, show t.val % 16 * 1024 + 4 * 256 = 16384 by omega]

include hu hl hs hr in
theorem good : ∀ (n : ℕ) (hn : n < cfg1.N), Good u lg sf sr n (outsAt0 V c n hn)
  | 0, hn => good_A V c hu hl hs hr ⟨0, hn⟩ (Nat.zero_mod 16) (by show ¬0 % 16 = 15; decide)
  | n + 1, hn => by
    have ih := good n (Nat.lt_of_succ_lt hn)
    by_cases h0 : (n + 1) % 16 = 0
    · exact good_A V c hu hl hs hr ⟨n + 1, hn⟩ h0 (by show ¬(n + 1) % 16 = 15; omega)
    by_cases h1 : (n + 1) % 16 = 15
    · exact good_C V c hu hl hr ⟨n + 1, hn⟩ h0 h1 ih
    · exact good_B V c hu hl hr ⟨n + 1, hn⟩ h0 h1 ih

/-- An element of the outputs, found in its subchunk and head. -/
theorem Vb_at (o : Vec Ideal S1x1024x2048 .bf16) (y : S1x1024x2048.Idx) (h1 : (y 1).val < 1024) (h2 : (y 2).val < 2048) :
    o y = Vb o ⟨(y 1).val / 256, by omega⟩ ⟨(y 2).val / 512, by omega⟩ (ix3 0 ⟨(y 1).val % 256, by omega⟩ ⟨(y 2).val % 512, by omega⟩) := by
  unfold Vb View.ld
  congr 1
  funext a; apply Fin.ext
  match a with
  | ⟨0, _⟩ => have h : (y 0).val < 1 := (y 0).isLt; show (y 0).val = 0 + 1 * 0; omega
  | ⟨1, _⟩ => show (y 1).val = (y 1).val / 256 * 256 + 1 * ((y 1).val % 256); omega
  | ⟨2, _⟩ => show (y 2).val = (y 2).val / 512 * 512 + 1 * ((y 2).val % 512); omega

theorem HN_at {b b' h h' n n' : ℕ} {e e' : Fin 512} (h0 : b = b') (h1 : h = h') (h2 : n = n') (h3 : e.val = e'.val) :
    HN (fun i => OO u lg sf sr b h n i.val) e = HN (fun i => OO u lg sf sr b' h' n' i.val) e' := by
  subst h0 h1 h2; rw [Fin.ext h3]

include hu hl hs hr in
/-- The outputs, at an index. -/
theorem arr_o : (dat V c).arrAt 6 cfg1.N = fun y : S2x16384x2048.Idx =>
    HN (fun i => OO u lg sf sr (y 0).val ((y 2).val / 512) (y 1).val i.val) ⟨(y 2).val % 512, Nat.mod_lt _ (by decide)⟩ := by
  refine (dat V c).arrAt_eq_of_covers 6 _ (by decide +kernel) fun t hf y => ?_
  have g := (good V c hu hl hs hr t.val t.isLt).out
  rw [after0_6]
  have h1 : (y (1 : Fin 3)).val < 1024 := (y (1 : Fin 3)).isLt
  have h2 : (y (2 : Fin 3)).val < 2048 := (y (2 : Fin 3)).isLt
  refine (Vb_at _ y h1 h2).trans ((g _ _ _ _).trans ?_)
  refine HN_at ?_ ?_ ?_ ?_
  · refine Eq.trans ?_ (Pipeline.Window.rect_emb_val win1_6 t y (0 : Fin 3)).symm
    rw [(idx6 t).1]
    have h : (y (0 : Fin 3)).val < 1 := (y (0 : Fin 3)).isLt
    show t.val / 16 = t.val / 16 * 1 + (y (0 : Fin 3)).val
    omega
  · refine Eq.trans ?_ (congrArg (fun n => n / 512) (Pipeline.Window.rect_emb_val win1_6 t y (2 : Fin 3)).symm)
    rw [(idx6 t).2.2]
    show (y (2 : Fin 3)).val / 512 = (0 * 2048 + (y (2 : Fin 3)).val) / 512
    omega
  · refine Eq.trans ?_ (Pipeline.Window.rect_emb_val win1_6 t y (1 : Fin 3)).symm
    rw [(idx6 t).2.1]
    show t.val % 16 * 1024 + (y (1 : Fin 3)).val / 256 * 256 + (y (1 : Fin 3)).val % 256 = t.val % 16 * 1024 + (y (1 : Fin 3)).val
    omega
  · refine Eq.trans ?_ (congrArg (fun n => n % 512) (Pipeline.Window.rect_emb_val win1_6 t y (2 : Fin 3)).symm)
    rw [(idx6 t).2.2]
    show (y (2 : Fin 3)).val % 512 = (0 * 2048 + (y (2 : Fin 3)).val) % 512
    omega

theorem ix4_at (o : Vec Ideal S1x4x256x512 .f32) (y : S1x4x256x512.Idx) : o y = o (ix4 0 (y 1) (y 2) (y 3)) := by
  congr 1
  funext a; apply Fin.ext
  match a with
  | ⟨0, _⟩ => have h : (y 0).val < 1 := (y 0).isLt; show (y 0).val = 0; omega
  | ⟨1, _⟩ => rfl
  | ⟨2, _⟩ => rfl
  | ⟨3, _⟩ => rfl

theorem SF_at {b b' h h' d d' e e' n n' : ℕ} (h0 : b = b') (h1 : h = h') (h2 : d = d') (h3 : e = e') (h4 : n = n') :
    SF u lg sf b h d e n = SF u lg sf b' h' d' e' n' := by subst h0 h1 h2 h3 h4; rfl

/-- The last state is written back at the last point of a batch row. -/
theorem flush7 : ∀ t : Fin cfg1.N, (cfg1.win 7).flush t = true → t.val % 16 = 15 := by decide +kernel

include hu hl hs hr in
/-- The last states, at an index. -/
theorem arr_se : (dat V c).arrAt 7 cfg1.N = fun y : S2x4x256x512.Idx =>
    SF u lg sf (y 0).val (y 1).val (y 2).val (y 3).val 16384 := by
  refine (dat V c).arrAt_eq_of_covers 7 _ (by decide +kernel) fun t hf y => ?_
  have g := (good V c hu hl hs hr t.val t.isLt).fin (flush7 t hf)
  rw [after0_7]
  refine (ix4_at _ y).trans ((g _ _ _).trans ?_)
  refine SF_at ?_ ?_ ?_ ?_ rfl
  · refine Eq.trans ?_ (Pipeline.Window.rect_emb_val win1_7 t y (0 : Fin 4)).symm
    rw [(idx7 t).1]
    have h : (y (0 : Fin 4)).val < 1 := (y (0 : Fin 4)).isLt
    show t.val / 16 = t.val / 16 * 1 + (y (0 : Fin 4)).val
    omega
  · refine Eq.trans ?_ (Pipeline.Window.rect_emb_val win1_7 t y (1 : Fin 4)).symm
    rw [(idx7 t).2.1]
    show (y (1 : Fin 4)).val = 0 * 4 + (y (1 : Fin 4)).val
    omega
  · refine Eq.trans ?_ (Pipeline.Window.rect_emb_val win1_7 t y (2 : Fin 4)).symm
    rw [(idx7 t).2.2.1]
    show (y (2 : Fin 4)).val = 0 * 256 + (y (2 : Fin 4)).val
    omega
  · refine Eq.trans ?_ (Pipeline.Window.rect_emb_val win1_7 t y (3 : Fin 4)).symm
    rw [(idx7 t).2.2.2]
    show (y (3 : Fin 4)).val = 0 * 512 + (y (3 : Fin 4)).val
    omega

end Cert.KernelIdeal.Mn
-- ==== Proof.Ref.Trips.lean ====
/-
  The reference's run over the step of one trip: a valuation that holds a state keeps holding it, one trip on, and the results are
  fields of the state after 128 trips. (The two stacked outputs' trips are read here; the rest is as it is generated.)
-/
module

public import proofs.«01_k».proof.Proof.Gen.ReferenceIdeal.Run
public import proofs.«01_k».proof.Proof.Gen.ReferenceIdeal.Step

@[expose] public section

set_option maxRecDepth 8192

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_15 : V0 (Proc.devRef .tc main_v100_15) = s.main_v100_15
  f_16 : V0 (Proc.devRef .tc main_v100_16) = s.main_v100_16
  f_17 : V0 (Proc.devRef .tc main_v100_17) = s.main_v100_17
  f_18 : V0 (Proc.devRef .tc main_v100_18) = s.main_v100_18
  f_0 : V0 (Proc.devRef .tc main_v100_0) = s.main_v100_0
  f_1 : V0 (Proc.devRef .tc main_v100_1) = s.main_v100_1
  f_2 : V0 (Proc.devRef .tc main_v100_2) = s.main_v100_2
  f_3 : V0 (Proc.devRef .tc main_v100_3) = s.main_v100_3
  f_4 : V0 (Proc.devRef .tc main_v100_4) = s.main_v100_4
  f_5 : V0 (Proc.devRef .tc main_v100_5) = s.main_v100_5
  f_6 : V0 (Proc.devRef .tc main_v100_6) = s.main_v100_6
  f_7 : V0 (Proc.devRef .tc main_v100_7) = s.main_v100_7
  f_8 : V0 (Proc.devRef .tc main_v100_8) = s.main_v100_8
  f_9 : V0 (Proc.devRef .tc main_v100_9) = s.main_v100_9
  f_10 : V0 (Proc.devRef .tc main_v100_10) = s.main_v100_10
  f_11 : V0 (Proc.devRef .tc main_v100_11) = s.main_v100_11
  f_12 : V0 (Proc.devRef .tc main_v100_12) = s.main_v100_12
  f_13 : V0 (Proc.devRef .tc main_v100_13) = s.main_v100_13
  n_14 : V0 (Proc.devRef .tc main_v100_14) = constantI S_ 32 (BitVec.ofNat 32 j)

/-! The values of one trip over the valuation. -/

abbrev off : Fin 5 → Int :=
  fun k => (((![V0 (Proc.devRef .tc main_v100_14), constantI S_ 32 0#32, constantI S_ 32 0#32, constantI S_ 32 0#32, constantI S_ 32 0#32] : Fin 5 → (⟨S_, .i32⟩ : BufTy).Contents (Elt F))) k (Shape.Idx.first h_S_)).toInt
abbrev e_36 : (Proc.devRef .tc main_while0b_v133 : DevRef τ sig).ty.Contents (Elt F) :=
  Host.dotGeneral dot_S2x4x128x256_S2x4x128x256_S2x4x128x128_3_3_2_2_01_01 none (res_main_while0b_v127 V0) (res_main_while0b_v128 V0)
abbrev e_37 : (Proc.devRef .tc main_while0b_v134 : DevRef τ sig).ty.Contents (Elt F) :=
  broadcastInDim S1x4x128x128 ![1, 2, 3] bcast_S4x128x128_S1x4x128x128_1_2_3 (V0 (Proc.devRef .tc main_v100_6))
abbrev e_38 : (Proc.devRef .tc main_while0b_v135 : DevRef τ sig).ty.Contents (Elt F) :=
  broadcastInDim S2x4x128x128 ![0, 1, 2, 3] bcast_S1x4x128x128_S2x4x128x128_0_1_2_3 (e_37 V0)
abbrev e_39 : (Proc.devRef .tc main_while0b_v136 : DevRef τ sig).ty.Contents (Elt F) :=
  mulf (e_36 V0) (e_38 V0)
abbrev e_40 : (Proc.devRef .tc main_while0b_v137 : DevRef τ sig).ty.Contents (Elt F) :=
  Host.dotGeneral dot_S2x4x128x128_S2x4x128x512_S2x4x128x512_3_2_2_3_01_01 none (e_39 V0) (res_main_while0b_v129 V0)
abbrev e_41 : (Proc.devRef .tc main_while0b_v138 : DevRef τ sig).ty.Contents (Elt F) :=
  broadcastInDim S1x4x128x1 ![1, 2, 3] bcast_S4x128x1_S1x4x128x1_1_2_3 (V0 (Proc.devRef .tc main_v100_7))
abbrev e_42 : (Proc.devRef .tc main_while0b_v139 : DevRef τ sig).ty.Contents (Elt F) :=
  broadcastInDim S2x4x128x256 ![0, 1, 2, 3] bcast_S1x4x128x1_S2x4x128x256_0_1_2_3 (e_41 V0)
abbrev e_43 : (Proc.devRef .tc main_while0b_v140 : DevRef τ sig).ty.Contents (Elt F) :=
  mulf (res_main_while0b_v127 V0) (e_42 V0)
abbrev e_44 : (Proc.devRef .tc main_while0b_v141 : DevRef τ sig).ty.Contents (Elt F) :=
  Host.dotGeneral dot_S2x4x128x256_S2x4x256x512_S2x4x128x512_3_2_2_3_01_01 none (e_43 V0) (V0 (Proc.devRef .tc main_v100_15))
abbrev e_45 : (Proc.devRef .tc main_while0b_v142 : DevRef τ sig).ty.Contents (Elt F) :=
  addf (e_40 V0) (e_44 V0)
abbrev e_46 : (Proc.devRef .tc main_while0b_v143 : DevRef τ sig).ty.Contents (Elt F) :=
  broadcastInDim S1x4x1x1 ![1, 2, 3] bcast_S4x1x1_S1x4x1x1_1_2_3 (V0 (Proc.devRef .tc main_v100_8))
abbrev e_47 : (Proc.devRef .tc main_while0b_v144 : DevRef τ sig).ty.Contents (Elt F) :=
  broadcastInDim S2x4x256x512 ![0, 1, 2, 3] bcast_S1x4x1x1_S2x4x256x512_0_1_2_3 (e_46 V0)
abbrev e_48 : (Proc.devRef .tc main_while0b_v145 : DevRef τ sig).ty.Contents (Elt F) :=
  mulf (e_47 V0) (V0 (Proc.devRef .tc main_v100_15))
abbrev e_49 : (Proc.devRef .tc main_while0b_v146 : DevRef τ sig).ty.Contents (Elt F) :=
  broadcastInDim S1x4x128x1 ![1, 2, 3] bcast_S4x128x1_S1x4x128x1_1_2_3 (V0 (Proc.devRef .tc main_v100_9))
abbrev e_50 : (Proc.devRef .tc main_while0b_v147 : DevRef τ sig).ty.Contents (Elt F) :=
  broadcastInDim S2x4x128x256 ![0, 1, 2, 3] bcast_S1x4x128x1_S2x4x128x256_0_1_2_3 (e_49 V0)
abbrev e_51 : (Proc.devRef .tc main_while0b_v148 : DevRef τ sig).ty.Contents (Elt F) :=
  mulf (res_main_while0b_v128 V0) (e_50 V0)
abbrev e_52 : (Proc.devRef .tc main_while0b_v149 : DevRef τ sig).ty.Contents (Elt F) :=
  Host.dotGeneral dot_S2x4x128x256_S2x4x128x512_S2x4x256x512_2_2_3_3_01_01 none (e_51 V0) (res_main_while0b_v129 V0)
abbrev e_53 : (Proc.devRef .tc main_while0b_v150 : DevRef τ sig).ty.Contents (Elt F) :=
  addf (e_48 V0) (e_52 V0)
abbrev e_54 : (Proc.devRef .tc main_while0b_v151 : DevRef τ sig).ty.Contents (Elt F) :=
  Host.dotGeneral dot_S2x4x128x256_S2x4x128x256_S2x4x128x128_3_3_2_2_01_01 none (res_main_while0b_v130 V0) (res_main_while0b_v131 V0)
abbrev e_55 : (Proc.devRef .tc main_while0b_v152 : DevRef τ sig).ty.Contents (Elt F) :=
  broadcastInDim S1x4x128x128 ![1, 2, 3] bcast_S4x128x128_S1x4x128x128_1_2_3 (V0 (Proc.devRef .tc main_v100_10))
abbrev e_56 : (Proc.devRef .tc main_while0b_v153 : DevRef τ sig).ty.Contents (Elt F) :=
  broadcastInDim S2x4x128x128 ![0, 1, 2, 3] bcast_S1x4x128x128_S2x4x128x128_0_1_2_3 (e_55 V0)
abbrev e_57 : (Proc.devRef .tc main_while0b_v154 : DevRef τ sig).ty.Contents (Elt F) :=
  mulf (e_54 V0) (e_56 V0)
abbrev e_58 : (Proc.devRef .tc main_while0b_v155 : DevRef τ sig).ty.Contents (Elt F) :=
  Host.dotGeneral dot_S2x4x128x128_S2x4x128x512_S2x4x128x512_3_2_2_3_01_01 none (e_57 V0) (res_main_while0b_v132 V0)
abbrev e_59 : (Proc.devRef .tc main_while0b_v156 : DevRef τ sig).ty.Contents (Elt F) :=
  broadcastInDim S1x4x128x1 ![1, 2, 3] bcast_S4x128x1_S1x4x128x1_1_2_3 (V0 (Proc.devRef .tc main_v100_11))
abbrev e_60 : (Proc.devRef .tc main_while0b_v157 : DevRef τ sig).ty.Contents (Elt F) :=
  broadcastInDim S2x4x128x256 ![0, 1, 2, 3] bcast_S1x4x128x1_S2x4x128x256_0_1_2_3 (e_59 V0)
abbrev e_61 : (Proc.devRef .tc main_while0b_v158 : DevRef τ sig).ty.Contents (Elt F) :=
  mulf (res_main_while0b_v130 V0) (e_60 V0)
abbrev e_62 : (Proc.devRef .tc main_while0b_v159 : DevRef τ sig).ty.Contents (Elt F) :=
  Host.dotGeneral dot_S2x4x128x256_S2x4x256x512_S2x4x128x512_3_2_2_3_01_01 none (e_61 V0) (V0 (Proc.devRef .tc main_v100_16))
abbrev e_63 : (Proc.devRef .tc main_while0b_v160 : DevRef τ sig).ty.Contents (Elt F) :=
  addf (e_58 V0) (e_62 V0)
abbrev e_64 : (Proc.devRef .tc main_while0b_v161 : DevRef τ sig).ty.Contents (Elt F) :=
  broadcastInDim S1x4x1x1 ![1, 2, 3] bcast_S4x1x1_S1x4x1x1_1_2_3 (V0 (Proc.devRef .tc main_v100_12))
abbrev e_65 : (Proc.devRef .tc main_while0b_v162 : DevRef τ sig).ty.Contents (Elt F) :=
  broadcastInDim S2x4x256x512 ![0, 1, 2, 3] bcast_S1x4x1x1_S2x4x256x512_0_1_2_3 (e_64 V0)
abbrev e_66 : (Proc.devRef .tc main_while0b_v163 : DevRef τ sig).ty.Contents (Elt F) :=
  mulf (e_65 V0) (V0 (Proc.devRef .tc main_v100_16))
abbrev e_67 : (Proc.devRef .tc main_while0b_v164 : DevRef τ sig).ty.Contents (Elt F) :=
  broadcastInDim S1x4x128x1 ![1, 2, 3] bcast_S4x128x1_S1x4x128x1_1_2_3 (V0 (Proc.devRef .tc main_v100_13))
abbrev e_68 : (Proc.devRef .tc main_while0b_v165 : DevRef τ sig).ty.Contents (Elt F) :=
  broadcastInDim S2x4x128x256 ![0, 1, 2, 3] bcast_S1x4x128x1_S2x4x128x256_0_1_2_3 (e_67 V0)
abbrev e_69 : (Proc.devRef .tc main_while0b_v166 : DevRef τ sig).ty.Contents (Elt F) :=
  mulf (res_main_while0b_v131 V0) (e_68 V0)
abbrev e_70 : (Proc.devRef .tc main_while0b_v167 : DevRef τ sig).ty.Contents (Elt F) :=
  Host.dotGeneral dot_S2x4x128x256_S2x4x128x512_S2x4x256x512_2_2_3_3_01_01 none (e_69 V0) (res_main_while0b_v132 V0)
abbrev e_71 : (Proc.devRef .tc main_while0b_v168 : DevRef τ sig).ty.Contents (Elt F) :=
  addf (e_66 V0) (e_70 V0)
abbrev e_72 : (Proc.devRef .tc main_while0b_call13_v0 : DevRef τ sig).ty.Contents (Elt F) :=
  broadcastInDim S1x2x4x128x512 ![1, 2, 3, 4] bcast_S2x4x128x512_S1x2x4x128x512_1_2_3_4 (e_45 V0)
abbrev e_78 : (Proc.devRef .tc main_while0b_call14_v0 : DevRef τ sig).ty.Contents (Elt F) :=
  broadcastInDim S1x2x4x128x512 ![1, 2, 3, 4] bcast_S2x4x128x512_S1x2x4x128x512_1_2_3_4 (e_63 V0)

variable {V0 s j}

section

variable (h : Holds V0 s j)
include h

theorem al_0 : (constantI S_ 32 0#32 : (Proc.devRef .tc main_while0b_call7_c : DevRef τ sig).ty.Contents (Elt F)) = Step.b0 j s := by
  unfold Step.b0; rfl
theorem al_1 : (constantI S_ 32 0#32 : (Proc.devRef .tc main_while0b_call7_c_0 : DevRef τ sig).ty.Contents (Elt F)) = Step.b1 j s := by
  unfold Step.b1; rfl
theorem al_2 : (constantI S_ 32 0#32 : (Proc.devRef .tc main_while0b_call7_c_1 : DevRef τ sig).ty.Contents (Elt F)) = Step.b2 j s := by
  unfold Step.b2; rfl
theorem al_3 : (constantI S_ 32 0#32 : (Proc.devRef .tc main_while0b_call7_c_2 : DevRef τ sig).ty.Contents (Elt F)) = Step.b3 j s := by
  unfold Step.b3; rfl
theorem al_4 : (Host.dynamicSlice S1x2x4x128x256 (V0 (Proc.devRef .tc main_v100_0)) (off V0) sliceFits_S128x2x4x128x256_S1x2x4x128x256 : (Proc.devRef .tc main_while0b_call7_v0 : DevRef τ sig).ty.Contents (Elt F)) = Step.b4 j s := by
  unfold off Step.b4
  rw [← al_0 h, ← al_1 h, ← al_2 h, ← al_3 h, h.f_0, h.n_14]
  try rfl
theorem al_5 : (res_main_while0b_v127 V0 : (Proc.devRef .tc main_while0b_v127 : DevRef τ sig).ty.Contents (Elt F)) = Step.b5 j s := by
  unfold res_main_while0b_v127 Step.b5
  rw [← al_4 h]
  try rfl
theorem al_6 : (constantI S_ 32 0#32 : (Proc.devRef .tc main_while0b_call8_c : DevRef τ sig).ty.Contents (Elt F)) = Step.b6 j s := by
  unfold Step.b6; rfl
theorem al_7 : (constantI S_ 32 0#32 : (Proc.devRef .tc main_while0b_call8_c_0 : DevRef τ sig).ty.Contents (Elt F)) = Step.b7 j s := by
  unfold Step.b7; rfl
theorem al_8 : (constantI S_ 32 0#32 : (Proc.devRef .tc main_while0b_call8_c_1 : DevRef τ sig).ty.Contents (Elt F)) = Step.b8 j s := by
  unfold Step.b8; rfl
theorem al_9 : (constantI S_ 32 0#32 : (Proc.devRef .tc main_while0b_call8_c_2 : DevRef τ sig).ty.Contents (Elt F)) = Step.b9 j s := by
  unfold Step.b9; rfl
theorem al_10 : (Host.dynamicSlice S1x2x4x128x256 (V0 (Proc.devRef .tc main_v100_1)) (off V0) sliceFits_S128x2x4x128x256_S1x2x4x128x256 : (Proc.devRef .tc main_while0b_call8_v0 : DevRef τ sig).ty.Contents (Elt F)) = Step.b10 j s := by
  unfold off Step.b10
  rw [← al_6 h, ← al_7 h, ← al_8 h, ← al_9 h, h.f_1, h.n_14]
  try rfl
theorem al_11 : (res_main_while0b_v128 V0 : (Proc.devRef .tc main_while0b_v128 : DevRef τ sig).ty.Contents (Elt F)) = Step.b11 j s := by
  unfold res_main_while0b_v128 Step.b11
  rw [← al_10 h]
  try rfl
theorem al_12 : (constantI S_ 32 0#32 : (Proc.devRef .tc main_while0b_call9_c : DevRef τ sig).ty.Contents (Elt F)) = Step.b12 j s := by
  unfold Step.b12; rfl
theorem al_13 : (constantI S_ 32 0#32 : (Proc.devRef .tc main_while0b_call9_c_0 : DevRef τ sig).ty.Contents (Elt F)) = Step.b13 j s := by
  unfold Step.b13; rfl
theorem al_14 : (constantI S_ 32 0#32 : (Proc.devRef .tc main_while0b_call9_c_1 : DevRef τ sig).ty.Contents (Elt F)) = Step.b14 j s := by
  unfold Step.b14; rfl
theorem al_15 : (constantI S_ 32 0#32 : (Proc.devRef .tc main_while0b_call9_c_2 : DevRef τ sig).ty.Contents (Elt F)) = Step.b15 j s := by
  unfold Step.b15; rfl
theorem al_16 : (Host.dynamicSlice S1x2x4x128x512 (V0 (Proc.devRef .tc main_v100_2)) (off V0) sliceFits_S128x2x4x128x512_S1x2x4x128x512 : (Proc.devRef .tc main_while0b_call9_v0 : DevRef τ sig).ty.Contents (Elt F)) = Step.b16 j s := by
  unfold off Step.b16
  rw [← al_12 h, ← al_13 h, ← al_14 h, ← al_15 h, h.f_2, h.n_14]
  try rfl
theorem al_17 : (res_main_while0b_v129 V0 : (Proc.devRef .tc main_while0b_v129 : DevRef τ sig).ty.Contents (Elt F)) = Step.b17 j s := by
  unfold res_main_while0b_v129 Step.b17
  rw [← al_16 h]
  try rfl
theorem al_18 : (constantI S_ 32 0#32 : (Proc.devRef .tc main_while0b_call10_c : DevRef τ sig).ty.Contents (Elt F)) = Step.b18 j s := by
  unfold Step.b18; rfl
theorem al_19 : (constantI S_ 32 0#32 : (Proc.devRef .tc main_while0b_call10_c_0 : DevRef τ sig).ty.Contents (Elt F)) = Step.b19 j s := by
  unfold Step.b19; rfl
theorem al_20 : (constantI S_ 32 0#32 : (Proc.devRef .tc main_while0b_call10_c_1 : DevRef τ sig).ty.Contents (Elt F)) = Step.b20 j s := by
  unfold Step.b20; rfl
theorem al_21 : (constantI S_ 32 0#32 : (Proc.devRef .tc main_while0b_call10_c_2 : DevRef τ sig).ty.Contents (Elt F)) = Step.b21 j s := by
  unfold Step.b21; rfl
theorem al_22 : (Host.dynamicSlice S1x2x4x128x256 (V0 (Proc.devRef .tc main_v100_3)) (off V0) sliceFits_S128x2x4x128x256_S1x2x4x128x256 : (Proc.devRef .tc main_while0b_call10_v0 : DevRef τ sig).ty.Contents (Elt F)) = Step.b22 j s := by
  unfold off Step.b22
  rw [← al_18 h, ← al_19 h, ← al_20 h, ← al_21 h, h.f_3, h.n_14]
  try rfl
theorem al_23 : (res_main_while0b_v130 V0 : (Proc.devRef .tc main_while0b_v130 : DevRef τ sig).ty.Contents (Elt F)) = Step.b23 j s := by
  unfold res_main_while0b_v130 Step.b23
  rw [← al_22 h]
  try rfl
theorem al_24 : (constantI S_ 32 0#32 : (Proc.devRef .tc main_while0b_call11_c : DevRef τ sig).ty.Contents (Elt F)) = Step.b24 j s := by
  unfold Step.b24; rfl
theorem al_25 : (constantI S_ 32 0#32 : (Proc.devRef .tc main_while0b_call11_c_0 : DevRef τ sig).ty.Contents (Elt F)) = Step.b25 j s := by
  unfold Step.b25; rfl
theorem al_26 : (constantI S_ 32 0#32 : (Proc.devRef .tc main_while0b_call11_c_1 : DevRef τ sig).ty.Contents (Elt F)) = Step.b26 j s := by
  unfold Step.b26; rfl
theorem al_27 : (constantI S_ 32 0#32 : (Proc.devRef .tc main_while0b_call11_c_2 : DevRef τ sig).ty.Contents (Elt F)) = Step.b27 j s := by
  unfold Step.b27; rfl
theorem al_28 : (Host.dynamicSlice S1x2x4x128x256 (V0 (Proc.devRef .tc main_v100_4)) (off V0) sliceFits_S128x2x4x128x256_S1x2x4x128x256 : (Proc.devRef .tc main_while0b_call11_v0 : DevRef τ sig).ty.Contents (Elt F)) = Step.b28 j s := by
  unfold off Step.b28
  rw [← al_24 h, ← al_25 h, ← al_26 h, ← al_27 h, h.f_4, h.n_14]
  try rfl
theorem al_29 : (res_main_while0b_v131 V0 : (Proc.devRef .tc main_while0b_v131 : DevRef τ sig).ty.Contents (Elt F)) = Step.b29 j s := by
  unfold res_main_while0b_v131 Step.b29
  rw [← al_28 h]
  try rfl
theorem al_30 : (constantI S_ 32 0#32 : (Proc.devRef .tc main_while0b_call12_c : DevRef τ sig).ty.Contents (Elt F)) = Step.b30 j s := by
  unfold Step.b30; rfl
theorem al_31 : (constantI S_ 32 0#32 : (Proc.devRef .tc main_while0b_call12_c_0 : DevRef τ sig).ty.Contents (Elt F)) = Step.b31 j s := by
  unfold Step.b31; rfl
theorem al_32 : (constantI S_ 32 0#32 : (Proc.devRef .tc main_while0b_call12_c_1 : DevRef τ sig).ty.Contents (Elt F)) = Step.b32 j s := by
  unfold Step.b32; rfl
theorem al_33 : (constantI S_ 32 0#32 : (Proc.devRef .tc main_while0b_call12_c_2 : DevRef τ sig).ty.Contents (Elt F)) = Step.b33 j s := by
  unfold Step.b33; rfl
theorem al_34 : (Host.dynamicSlice S1x2x4x128x512 (V0 (Proc.devRef .tc main_v100_5)) (off V0) sliceFits_S128x2x4x128x512_S1x2x4x128x512 : (Proc.devRef .tc main_while0b_call12_v0 : DevRef τ sig).ty.Contents (Elt F)) = Step.b34 j s := by
  unfold off Step.b34
  rw [← al_30 h, ← al_31 h, ← al_32 h, ← al_33 h, h.f_5, h.n_14]
  try rfl
theorem al_35 : (res_main_while0b_v132 V0 : (Proc.devRef .tc main_while0b_v132 : DevRef τ sig).ty.Contents (Elt F)) = Step.b35 j s := by
  unfold res_main_while0b_v132 Step.b35
  rw [← al_34 h]
  try rfl
theorem al_36 : e_36 V0 = Step.b36 j s := by
  unfold e_36 Step.b36
  rw [← al_5 h, ← al_11 h]
  try rfl
theorem al_37 : e_37 V0 = Step.b37 j s := by
  unfold e_37 Step.b37
  rw [h.f_6]
  try rfl
theorem al_38 : e_38 V0 = Step.b38 j s := by
  unfold e_38 Step.b38
  rw [← al_37 h]
  try rfl
theorem al_39 : e_39 V0 = Step.b39 j s := by
  unfold e_39 Step.b39
  rw [← al_36 h, ← al_38 h]
  try rfl
theorem al_40 : e_40 V0 = Step.b40 j s := by
  unfold e_40 Step.b40
  rw [← al_39 h, ← al_17 h]
  try rfl
theorem al_41 : e_41 V0 = Step.b41 j s := by
  unfold e_41 Step.b41
  rw [h.f_7]
  try rfl
theorem al_42 : e_42 V0 = Step.b42 j s := by
  unfold e_42 Step.b42
  rw [← al_41 h]
  try rfl
theorem al_43 : e_43 V0 = Step.b43 j s := by
  unfold e_43 Step.b43
  rw [← al_5 h, ← al_42 h]
  try rfl
theorem al_44 : e_44 V0 = Step.b44 j s := by
  unfold e_44 Step.b44
  rw [← al_43 h, h.f_15]
  try rfl
theorem al_45 : e_45 V0 = Step.b45 j s := by
  unfold e_45 Step.b45
  rw [← al_40 h, ← al_44 h]
  try rfl
theorem al_46 : e_46 V0 = Step.b46 j s := by
  unfold e_46 Step.b46
  rw [h.f_8]
  try rfl
theorem al_47 : e_47 V0 = Step.b47 j s := by
  unfold e_47 Step.b47
  rw [← al_46 h]
  try rfl
theorem al_48 : e_48 V0 = Step.b48 j s := by
  unfold e_48 Step.b48
  rw [← al_47 h, h.f_15]
  try rfl
theorem al_49 : e_49 V0 = Step.b49 j s := by
  unfold e_49 Step.b49
  rw [h.f_9]
  try rfl
theorem al_50 : e_50 V0 = Step.b50 j s := by
  unfold e_50 Step.b50
  rw [← al_49 h]
  try rfl
theorem al_51 : e_51 V0 = Step.b51 j s := by
  unfold e_51 Step.b51
  rw [← al_11 h, ← al_50 h]
  try rfl
theorem al_52 : e_52 V0 = Step.b52 j s := by
  unfold e_52 Step.b52
  rw [← al_51 h, ← al_17 h]
  try rfl
theorem al_53 : e_53 V0 = Step.b53 j s := by
  unfold e_53 Step.b53
  rw [← al_48 h, ← al_52 h]
  try rfl
theorem al_54 : e_54 V0 = Step.b54 j s := by
  unfold e_54 Step.b54
  rw [← al_23 h, ← al_29 h]
  try rfl
theorem al_55 : e_55 V0 = Step.b55 j s := by
  unfold e_55 Step.b55
  rw [h.f_10]
  try rfl
theorem al_56 : e_56 V0 = Step.b56 j s := by
  unfold e_56 Step.b56
  rw [← al_55 h]
  try rfl
theorem al_57 : e_57 V0 = Step.b57 j s := by
  unfold e_57 Step.b57
  rw [← al_54 h, ← al_56 h]
  try rfl
theorem al_58 : e_58 V0 = Step.b58 j s := by
  unfold e_58 Step.b58
  rw [← al_57 h, ← al_35 h]
  try rfl
theorem al_59 : e_59 V0 = Step.b59 j s := by
  unfold e_59 Step.b59
  rw [h.f_11]
  try rfl
theorem al_60 : e_60 V0 = Step.b60 j s := by
  unfold e_60 Step.b60
  rw [← al_59 h]
  try rfl
theorem al_61 : e_61 V0 = Step.b61 j s := by
  unfold e_61 Step.b61
  rw [← al_23 h, ← al_60 h]
  try rfl
theorem al_62 : e_62 V0 = Step.b62 j s := by
  unfold e_62 Step.b62
  rw [← al_61 h, h.f_16]
  try rfl
theorem al_63 : e_63 V0 = Step.b63 j s := by
  unfold e_63 Step.b63
  rw [← al_58 h, ← al_62 h]
  try rfl
theorem al_64 : e_64 V0 = Step.b64 j s := by
  unfold e_64 Step.b64
  rw [h.f_12]
  try rfl
theorem al_65 : e_65 V0 = Step.b65 j s := by
  unfold e_65 Step.b65
  rw [← al_64 h]
  try rfl
theorem al_66 : e_66 V0 = Step.b66 j s := by
  unfold e_66 Step.b66
  rw [← al_65 h, h.f_16]
  try rfl
theorem al_67 : e_67 V0 = Step.b67 j s := by
  unfold e_67 Step.b67
  rw [h.f_13]
  try rfl
theorem al_68 : e_68 V0 = Step.b68 j s := by
  unfold e_68 Step.b68
  rw [← al_67 h]
  try rfl
theorem al_69 : e_69 V0 = Step.b69 j s := by
  unfold e_69 Step.b69
  rw [← al_29 h, ← al_68 h]
  try rfl
theorem al_70 : e_70 V0 = Step.b70 j s := by
  unfold e_70 Step.b70
  rw [← al_69 h, ← al_35 h]
  try rfl
theorem al_71 : e_71 V0 = Step.b71 j s := by
  unfold e_71 Step.b71
  rw [← al_66 h, ← al_70 h]
  try rfl
theorem al_72 : e_72 V0 = Step.b72 j s := by
  unfold e_72 Step.b72
  rw [← al_45 h]
  try rfl
theorem al_73 : (constantI S_ 32 0#32 : (Proc.devRef .tc main_while0b_call13_c : DevRef τ sig).ty.Contents (Elt F)) = Step.b73 j s := by
  unfold Step.b73; rfl
theorem al_74 : (constantI S_ 32 0#32 : (Proc.devRef .tc main_while0b_call13_c_0 : DevRef τ sig).ty.Contents (Elt F)) = Step.b74 j s := by
  unfold Step.b74; rfl
theorem al_75 : (constantI S_ 32 0#32 : (Proc.devRef .tc main_while0b_call13_c_1 : DevRef τ sig).ty.Contents (Elt F)) = Step.b75 j s := by
  unfold Step.b75; rfl
theorem al_76 : (constantI S_ 32 0#32 : (Proc.devRef .tc main_while0b_call13_c_2 : DevRef τ sig).ty.Contents (Elt F)) = Step.b76 j s := by
  unfold Step.b76; rfl
theorem al_77 : (Host.dynamicUpdateSlice (V0 (Proc.devRef .tc main_v100_17)) (e_72 V0) (off V0) updateFits_S128x2x4x128x512_S1x2x4x128x512 : (Proc.devRef .tc main_while0b_v169 : DevRef τ sig).ty.Contents (Elt F)) = Step.b77 j s := by
  unfold off Step.b77
  rw [← al_72 h, ← al_73 h, ← al_74 h, ← al_75 h, ← al_76 h, h.f_17, h.n_14]
  try rfl
theorem al_78 : e_78 V0 = Step.b78 j s := by
  unfold e_78 Step.b78
  rw [← al_63 h]
  try rfl
theorem al_79 : (constantI S_ 32 0#32 : (Proc.devRef .tc main_while0b_call14_c : DevRef τ sig).ty.Contents (Elt F)) = Step.b79 j s := by
  unfold Step.b79; rfl
theorem al_80 : (constantI S_ 32 0#32 : (Proc.devRef .tc main_while0b_call14_c_0 : DevRef τ sig).ty.Contents (Elt F)) = Step.b80 j s := by
  unfold Step.b80; rfl
theorem al_81 : (constantI S_ 32 0#32 : (Proc.devRef .tc main_while0b_call14_c_1 : DevRef τ sig).ty.Contents (Elt F)) = Step.b81 j s := by
  unfold Step.b81; rfl
theorem al_82 : (constantI S_ 32 0#32 : (Proc.devRef .tc main_while0b_call14_c_2 : DevRef τ sig).ty.Contents (Elt F)) = Step.b82 j s := by
  unfold Step.b82; rfl
theorem al_83 : (Host.dynamicUpdateSlice (V0 (Proc.devRef .tc main_v100_18)) (e_78 V0) (off V0) updateFits_S128x2x4x128x512_S1x2x4x128x512 : (Proc.devRef .tc main_while0b_v170 : DevRef τ sig).ty.Contents (Elt F)) = Step.b83 j s := by
  unfold off Step.b83
  rw [← al_78 h, ← al_79 h, ← al_80 h, ← al_81 h, ← al_82 h, h.f_18, h.n_14]
  try rfl

/-! One trip's step of the carried values is `step`, field by field; a counter steps to the next number. -/

theorem step_15 : step_main_v100_15 V0 = (step j s).main_v100_15 := by
  unfold step_main_v100_15 Step.step
  show id (e_53 V0) = _
  rw [al_53 h]
  try rfl
theorem step_16 : step_main_v100_16 V0 = (step j s).main_v100_16 := by
  unfold step_main_v100_16 Step.step
  show id (e_71 V0) = _
  rw [al_71 h]
  try rfl
theorem step_17 : step_main_v100_17 V0 = (step j s).main_v100_17 := by
  unfold step_main_v100_17 Step.step
  exact al_77 h
theorem step_18 : step_main_v100_18 V0 = (step j s).main_v100_18 := by
  unfold step_main_v100_18 Step.step
  exact al_83 h
theorem step_14 : step_main_v100_14 V0 = constantI S_ 32 (BitVec.ofNat 32 (j + 1)) := by
  unfold step_main_v100_14
  rw [h.n_14]
  funext i
  show BitVec.ofNat 32 j + 1#32 = BitVec.ofNat 32 (j + 1)
  simp only [BitVec.ofNat_add]

theorem out_main_v126_holds : out_main_v126 V0 = Step.R_main_v126 s := by
  unfold out_main_v126 Step.R_main_v126
  rw [h.f_17, h.f_18]
  try rfl

end

/-- One trip keeps the valuation holding: `step` of the state, the same set-up values, the next number. -/
theorem holds_step (h : Holds V0 s j) : Holds (STEP V0) (step j s) (j + 1) where
  f_15 := (STEP_main_v100_15 V0).trans (step_15 h)
  f_16 := (STEP_main_v100_16 V0).trans (step_16 h)
  f_17 := (STEP_main_v100_17 V0).trans (step_17 h)
  f_18 := (STEP_main_v100_18 V0).trans (step_18 h)
  n_14 := (STEP_main_v100_14 V0).trans (step_14 h)
  f_0 := (STEP_main_v100_0 V0).trans h.f_0
  f_1 := (STEP_main_v100_1 V0).trans h.f_1
  f_2 := (STEP_main_v100_2 V0).trans h.f_2
  f_3 := (STEP_main_v100_3 V0).trans h.f_3
  f_4 := (STEP_main_v100_4 V0).trans h.f_4
  f_5 := (STEP_main_v100_5 V0).trans h.f_5
  f_6 := (STEP_main_v100_6 V0).trans h.f_6
  f_7 := (STEP_main_v100_7 V0).trans h.f_7
  f_8 := (STEP_main_v100_8 V0).trans h.f_8
  f_9 := (STEP_main_v100_9 V0).trans h.f_9
  f_10 := (STEP_main_v100_10 V0).trans h.f_10
  f_11 := (STEP_main_v100_11 V0).trans h.f_11
  f_12 := (STEP_main_v100_12 V0).trans h.f_12
  f_13 := (STEP_main_v100_13 V0).trans h.f_13

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg3)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v126) = Step.R_main_v126 (it c 128)
      ∧ r.2.mem ((c.tc : Thread nD τ).loc main_v100_15) = (it c 128).main_v100_15
      ∧ r.2.mem ((c.tc : Thread nD τ).loc main_v100_16) = (it c 128).main_v100_16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v126_holds hk), (h c).2.1.trans hk.f_15, (h c).2.2.1.trans hk.f_16, (h c).2.2.2.1, (h c).2.2.2.2.1, (h c).2.2.2.2.2.1, (h c).2.2.2.2.2.2⟩) (Value.run m ρ)

end Cert.ReferenceIdeal.Trips

end
-- ==== Proof.Ref.Tables.lean ====
/-
  The reference's decays, at an index.
-/
module

public import proofs.«01_k».proof.Proof.Ref.Trips
public import proofs.«01_k».proof.Proof.Values
public import proofs.«01_k».proof.Proof.Ret
public import Idealize.ShloMosaic.Lib.IdealHost
public import Idealize.ShloMosaic.Lib.Pipeline.ValueKit

@[expose] public section

set_option maxRecDepth 16384

noncomputable section

namespace Cert.ReferenceIdeal.Ref

open Cert.ReferenceIdeal.Gen Cert.ReferenceIdeal.Step Cert.Ret Cert.Values
open Idealize.ShloMosaic hiding ix0 ix1 ix2 ix3 ix4 ix5 eq_ix2 eq_ix3 eq_ix4 ix6
open Idealize.ShloMosaic.ValueIdx

variable (U : (⟨S2x16384x6144, .bf16⟩ : BufTy).Contents (Elt Ideal)) (L : (⟨S2x4, .f32⟩ : BufTy).Contents (Elt Ideal))
  {lg : ℕ → ℕ → ℝ} (hl : ∀ y : S2x4.Idx, L y = ((lg (y 0).val (y 1).val : ℝ) : EReal))

theorem bc {s t : Shape} {α : Type} {dims : Fin s.rank → Fin t.rank} {h : s.BroadcastsInDim t dims} {x : s.Idx → α} {j : t.Idx} (k : s.Idx)
    (hk : ∀ a : Fin s.rank, (k a).val = if s.size a = 1 then 0 else (j (dims a)).val) : broadcastInDim t dims h x j = x k :=
  broadcastInDim_apply dims h x j k hk

/-- The positions of a chunk. -/
theorem pos_f (n : Fin 128) : K_main_v11 (F := Ideal) (ix1 n) = ((n.val : ℝ) : EReal) := counter n.val (by omega)

theorem pos_r (n : Fin 128) : K_main_v53 (F := Ideal) (ix1 n) = ((n.val : ℝ) : EReal) := counter n.val (by omega)

theorem col_f (i j : Fin 128) : K_main_v14 (F := Ideal) (ix2 i j) = ((j.val : ℝ) : EReal) := by
  unfold K_main_v14 K_main_v12
  refine (bc (ix2 0 j) (by intro a; fin_cases a <;> rfl)).trans ?_
  exact (bc (ix1 j) (by intro a; fin_cases a <;> rfl)).trans (pos_f j)

theorem row_f (i j : Fin 128) : K_main_v15 (F := Ideal) (ix2 i j) = ((i.val : ℝ) : EReal) := by
  unfold K_main_v15 K_main_v13
  refine (bc (ix2 i 0) (by intro a; fin_cases a <;> rfl)).trans ?_
  exact (bc (ix1 i) (by intro a; fin_cases a <;> rfl)).trans (pos_f i)

theorem diff_f (i j : Fin 128) : K_main_v16 (F := Ideal) (ix2 i j) = (((j.val : ℝ) - i.val : ℝ) : EReal) := by
  show K_main_v14 (F := Ideal) (ix2 i j) - K_main_v15 (F := Ideal) (ix2 i j) = _
  rw [col_f, row_f, ← EReal.coe_sub]

theorem col_r (i j : Fin 128) : K_main_v56 (F := Ideal) (ix2 i j) = ((j.val : ℝ) : EReal) := by
  unfold K_main_v56 K_main_v54
  refine (bc (ix2 0 j) (by intro a; fin_cases a <;> rfl)).trans ?_
  exact (bc (ix1 j) (by intro a; fin_cases a <;> rfl)).trans (pos_r j)

theorem row_r (i j : Fin 128) : K_main_v57 (F := Ideal) (ix2 i j) = ((i.val : ℝ) : EReal) := by
  unfold K_main_v57 K_main_v55
  refine (bc (ix2 i 0) (by intro a; fin_cases a <;> rfl)).trans ?_
  exact (bc (ix1 i) (by intro a; fin_cases a <;> rfl)).trans (pos_r i)

theorem diff_r (i j : Fin 128) : K_main_v58 (F := Ideal) (ix2 i j) = (((j.val : ℝ) - i.val : ℝ) : EReal) := by
  show K_main_v56 (F := Ideal) (ix2 i j) - K_main_v57 (F := Ideal) (ix2 i j) = _
  rw [col_r, row_r, ← EReal.coe_sub]

theorem mask_f (i j : Fin 128) : K_main_v18 (F := Ideal) (ix2 i j) = if j.val ≤ i.val then 1#1 else 0#1 := by
  have e : K_main_v17 (F := Ideal) (ix2 i j) = ((0 : ℝ) : EReal) := by
    unfold K_main_v17 K_main_cst
    exact (broadcastInDim_scalar_apply _ _ _).trans word_0
  show BitVec.ofBool (decide (K_main_v16 (F := Ideal) (ix2 i j) ≤ K_main_v17 (F := Ideal) (ix2 i j))) = _
  rw [e, diff_f]
  by_cases h : j.val ≤ i.val
  · rw [if_pos h, decide_eq_true (EReal.coe_le_coe_iff.mpr (sub_nonpos.mpr (by exact_mod_cast h)))]; rfl
  · rw [if_neg h, decide_eq_false (fun h' => h (by have := EReal.coe_le_coe_iff.mp h'; exact_mod_cast (by linarith : (j.val : ℝ) ≤ i.val)))]; rfl

theorem mask_r (i j : Fin 128) : K_main_v60 (F := Ideal) (ix2 i j) = if i.val < j.val then 1#1 else 0#1 := by
  have e : K_main_v59 (F := Ideal) (ix2 i j) = ((0 : ℝ) : EReal) := by
    unfold K_main_v59 K_main_cst_5
    exact (broadcastInDim_scalar_apply _ _ _).trans word_0
  show BitVec.ofBool (decide (K_main_v59 (F := Ideal) (ix2 i j) < K_main_v58 (F := Ideal) (ix2 i j))) = _
  rw [e, diff_r]
  by_cases h : i.val < j.val
  · rw [if_pos h, decide_eq_true (EReal.coe_lt_coe_iff.mpr (sub_pos.mpr (by exact_mod_cast h)))]; rfl
  · rw [if_neg h, decide_eq_false (fun h' => h (by have := EReal.coe_lt_coe_iff.mp h'; exact_mod_cast (by linarith : (i.val : ℝ) < j.val)))]; rfl

include hl in
theorem lg_f (h : Fin 4) : A_main_v9 U L (ix1 h) = ((lg 0 h.val : ℝ) : EReal) := by
  unfold A_main_v9 A_main_v8
  refine (shapeCast_apply _ _ (ix1 h) (ix2 0 h) (by simp [Shape.rowMajor_val_one, Shape.rowMajor_val_two])).trans ?_
  refine (hl _).trans (at2 rfl ?_)
  show 0 + h.val = h.val
  omega

include hl in
theorem lg_r (h : Fin 4) : A_main_v51 U L (ix1 h) = ((lg 1 h.val : ℝ) : EReal) := by
  unfold A_main_v51 A_main_v50
  refine (shapeCast_apply _ _ (ix1 h) (ix2 0 h) (by simp [Shape.rowMajor_val_one, Shape.rowMajor_val_two])).trans ?_
  refine (hl _).trans (at2 rfl ?_)
  show 0 + h.val = h.val
  omega

include hl in
/-- The weights inside a chunk. -/
theorem dm_f (h : Fin 4) (i j : Fin 128) : A_main_v31 U L (ix3 h i j)
    = ((if j.val ≤ i.val then Real.exp (lg 0 h.val * ((i.val : ℝ) - j.val)) else 0 : ℝ) : EReal) := by
  have hm := mask_f i j
  have hmm : K_main_call1_v1 (F := Ideal) (ix3 h i j) = K_main_v18 (F := Ideal) (ix2 i j) := by
    unfold K_main_call1_v1
    exact bc (ix2 i j) (by intro a; fin_cases a <;> rfl)
  have hz : K_main_call1_v2 (F := Ideal) (ix3 h i j) = ((0 : ℝ) : EReal) := by
    unfold K_main_call1_v2 K_main_call1_v0 K_main_cst_3
    exact (broadcastInDim_scalar_apply _ _ _).trans word_0
  have hn : K_main_v19 (F := Ideal) (ix2 i j) = (((i.val : ℝ) - j.val : ℝ) : EReal) := by
    show -(K_main_v16 (F := Ideal) (ix2 i j)) = _
    rw [diff_f, ← EReal.coe_neg, neg_sub]
  unfold A_main_v31
  rw [select_apply, hmm, hm]
  by_cases hc : j.val ≤ i.val
  · rw [if_pos hc] at hm
    rw [if_pos hc, if_pos hc, select_one]
    show Ideal.exp (A_main_v27 U L (ix3 h i j) * K_main_v28 (F := Ideal) (ix3 h i j)) = _
    have e1 : A_main_v27 U L (ix3 h i j) = ((lg 0 h.val : ℝ) : EReal) := by
      unfold A_main_v27 A_main_v24
      refine (bc (ix3 h 0 0) (by intro a; fin_cases a <;> rfl)).trans ?_
      exact (bc (ix1 h) (by intro a; fin_cases a <;> rfl)).trans (lg_f U L hl h)
    have e2 : K_main_v28 (F := Ideal) (ix3 h i j) = (((i.val : ℝ) - j.val : ℝ) : EReal) := by
      unfold K_main_v28 K_main_v26 K_main_v25
      refine (bc (ix3 0 i j) (by intro a; fin_cases a <;> rfl)).trans ?_
      refine (bc (ix2 i j) (by intro a; fin_cases a <;> rfl)).trans ?_
      rw [select_apply, hm, select_one, hn]
    rw [e1, e2, exp_mul]
  · rw [if_neg hc, if_neg hc, select_zero, hz]

include hl in
/-- The weights inside a chunk. -/
theorem dm_r (h : Fin 4) (i j : Fin 128) : A_main_v70 U L (ix3 h i j)
    = ((if i.val < j.val then Real.exp (lg 1 h.val * ((j.val : ℝ) - i.val)) else 0 : ℝ) : EReal) := by
  have hm := mask_r i j
  have hmm : K_main_call3_v1 (F := Ideal) (ix3 h i j) = K_main_v60 (F := Ideal) (ix2 i j) := by
    unfold K_main_call3_v1
    exact bc (ix2 i j) (by intro a; fin_cases a <;> rfl)
  have hz : K_main_call3_v2 (F := Ideal) (ix3 h i j) = ((0 : ℝ) : EReal) := by
    unfold K_main_call3_v2 K_main_call3_v0 K_main_cst_8
    exact (broadcastInDim_scalar_apply _ _ _).trans word_0
  have hn : K_main_v58 (F := Ideal) (ix2 i j) = (((j.val : ℝ) - i.val : ℝ) : EReal) := by
    exact diff_r i j
  unfold A_main_v70
  rw [select_apply, hmm, hm]
  by_cases hc : i.val < j.val
  · rw [if_pos hc] at hm
    rw [if_pos hc, if_pos hc, select_one]
    show Ideal.exp (A_main_v66 U L (ix3 h i j) * K_main_v67 (F := Ideal) (ix3 h i j)) = _
    have e1 : A_main_v66 U L (ix3 h i j) = ((lg 1 h.val : ℝ) : EReal) := by
      unfold A_main_v66 A_main_v63
      refine (bc (ix3 h 0 0) (by intro a; fin_cases a <;> rfl)).trans ?_
      exact (bc (ix1 h) (by intro a; fin_cases a <;> rfl)).trans (lg_r U L hl h)
    have e2 : K_main_v67 (F := Ideal) (ix3 h i j) = (((j.val : ℝ) - i.val : ℝ) : EReal) := by
      unfold K_main_v67 K_main_v65 K_main_v64
      refine (bc (ix3 0 i j) (by intro a; fin_cases a <;> rfl)).trans ?_
      refine (bc (ix2 i j) (by intro a; fin_cases a <;> rfl)).trans ?_
      rw [select_apply, hm, select_one, hn]
    rw [e1, e2, exp_mul]
  · rw [if_neg hc, if_neg hc, select_zero, hz]

include hl in
theorem qd_f (h : Fin 4) (i : Fin 128) : A_main_v38 U L (ix3 h i 0) = ((Real.exp (lg 0 h.val * ((i.val : ℝ) + 1)) : ℝ) : EReal) := by
  have e0 : K_main_v21 (F := Ideal) (ix1 i) = (((i.val : ℝ) + 1 : ℝ) : EReal) := by
    show K_main_v11 (F := Ideal) (ix1 i) + K_main_v20 (F := Ideal) (ix1 i) = _
    have e : K_main_v20 (F := Ideal) (ix1 i) = ((1 : ℝ) : EReal) := by
      unfold K_main_v20 K_main_cst_0
      exact (broadcastInDim_scalar_apply _ _ _).trans word_1
    rw [e, pos_f, ← EReal.coe_add]
  unfold A_main_v38
  refine (bc (ix2 h i) (by intro a; fin_cases a <;> rfl)).trans ?_
  show Ideal.exp (A_main_v34 U L (ix2 h i) * K_main_v35 (F := Ideal) (ix2 h i)) = _
  have e1 : A_main_v34 U L (ix2 h i) = ((lg 0 h.val : ℝ) : EReal) := by
    unfold A_main_v34 A_main_v32
    refine (bc (ix2 h 0) (by intro a; fin_cases a <;> rfl)).trans ?_
    exact (bc (ix1 h) (by intro a; fin_cases a <;> rfl)).trans (lg_f U L hl h)
  have e2 : K_main_v35 (F := Ideal) (ix2 h i) = (((i.val : ℝ) + 1 : ℝ) : EReal) := by
    unfold K_main_v35 K_main_v33
    refine (bc (ix2 0 i) (by intro a; fin_cases a <;> rfl)).trans ?_
    exact (bc (ix1 i) (by intro a; fin_cases a <;> rfl)).trans e0
  rw [e1, e2, exp_mul]

include hl in
theorem kd_f (h : Fin 4) (i : Fin 128) : A_main_v45 U L (ix3 h i 0) = ((Real.exp (lg 0 h.val * ((127 : ℝ) - i.val)) : ℝ) : EReal) := by
  have e0 : K_main_v23 (F := Ideal) (ix1 i) = (((127 : ℝ) - i.val : ℝ) : EReal) := by
    show K_main_v22 (F := Ideal) (ix1 i) - K_main_v11 (F := Ideal) (ix1 i) = _
    have e : K_main_v22 (F := Ideal) (ix1 i) = ((127 : ℝ) : EReal) := by
      unfold K_main_v22 K_main_cst_1
      exact (broadcastInDim_scalar_apply _ _ _).trans word_127
    rw [e, pos_f, ← EReal.coe_sub]
  unfold A_main_v45
  refine (bc (ix2 h i) (by intro a; fin_cases a <;> rfl)).trans ?_
  show Ideal.exp (A_main_v41 U L (ix2 h i) * K_main_v42 (F := Ideal) (ix2 h i)) = _
  have e1 : A_main_v41 U L (ix2 h i) = ((lg 0 h.val : ℝ) : EReal) := by
    unfold A_main_v41 A_main_v39
    refine (bc (ix2 h 0) (by intro a; fin_cases a <;> rfl)).trans ?_
    exact (bc (ix1 h) (by intro a; fin_cases a <;> rfl)).trans (lg_f U L hl h)
  have e2 : K_main_v42 (F := Ideal) (ix2 h i) = (((127 : ℝ) - i.val : ℝ) : EReal) := by
    unfold K_main_v42 K_main_v40
    refine (bc (ix2 0 i) (by intro a; fin_cases a <;> rfl)).trans ?_
    exact (bc (ix1 i) (by intro a; fin_cases a <;> rfl)).trans e0
  rw [e1, e2, exp_mul]

include hl in
theorem qd_r (h : Fin 4) (i : Fin 128) : A_main_v77 U L (ix3 h i 0) = ((Real.exp (lg 1 h.val * ((128 : ℝ) - i.val)) : ℝ) : EReal) := by
  have e0 : K_main_v62 (F := Ideal) (ix1 i) = (((128 : ℝ) - i.val : ℝ) : EReal) := by
    show K_main_v61 (F := Ideal) (ix1 i) - K_main_v53 (F := Ideal) (ix1 i) = _
    have e : K_main_v61 (F := Ideal) (ix1 i) = ((128 : ℝ) : EReal) := by
      unfold K_main_v61 K_main_cst_6
      exact (broadcastInDim_scalar_apply _ _ _).trans word_128
    rw [e, pos_r, ← EReal.coe_sub]
  unfold A_main_v77
  refine (bc (ix2 h i) (by intro a; fin_cases a <;> rfl)).trans ?_
  show Ideal.exp (A_main_v73 U L (ix2 h i) * K_main_v74 (F := Ideal) (ix2 h i)) = _
  have e1 : A_main_v73 U L (ix2 h i) = ((lg 1 h.val : ℝ) : EReal) := by
    unfold A_main_v73 A_main_v71
    refine (bc (ix2 h 0) (by intro a; fin_cases a <;> rfl)).trans ?_
    exact (bc (ix1 h) (by intro a; fin_cases a <;> rfl)).trans (lg_r U L hl h)
  have e2 : K_main_v74 (F := Ideal) (ix2 h i) = (((128 : ℝ) - i.val : ℝ) : EReal) := by
    unfold K_main_v74 K_main_v72
    refine (bc (ix2 0 i) (by intro a; fin_cases a <;> rfl)).trans ?_
    exact (bc (ix1 i) (by intro a; fin_cases a <;> rfl)).trans e0
  rw [e1, e2, exp_mul]

include hl in
theorem kd_r (h : Fin 4) (i : Fin 128) : A_main_v84 U L (ix3 h i 0) = ((Real.exp (lg 1 h.val * ((i.val : ℝ))) : ℝ) : EReal) := by
  have e0 : K_main_v53 (F := Ideal) (ix1 i) = (((i.val : ℝ) : ℝ) : EReal) := by
    exact pos_r i
  unfold A_main_v84
  refine (bc (ix2 h i) (by intro a; fin_cases a <;> rfl)).trans ?_
  show Ideal.exp (A_main_v80 U L (ix2 h i) * K_main_v81 (F := Ideal) (ix2 h i)) = _
  have e1 : A_main_v80 U L (ix2 h i) = ((lg 1 h.val : ℝ) : EReal) := by
    unfold A_main_v80 A_main_v78
    refine (bc (ix2 h 0) (by intro a; fin_cases a <;> rfl)).trans ?_
    exact (bc (ix1 h) (by intro a; fin_cases a <;> rfl)).trans (lg_r U L hl h)
  have e2 : K_main_v81 (F := Ideal) (ix2 h i) = (((i.val : ℝ) : ℝ) : EReal) := by
    unfold K_main_v81 K_main_v79
    refine (bc (ix2 0 i) (by intro a; fin_cases a <;> rfl)).trans ?_
    exact (bc (ix1 i) (by intro a; fin_cases a <;> rfl)).trans e0
  rw [e1, e2, exp_mul]

include hl in
theorem cd_f (h : Fin 4) : A_main_v49 U L (ix3 h 0 0) = ((Real.exp (lg 0 h.val * (128 : ℝ)) : ℝ) : EReal) := by
  unfold A_main_v49
  refine (bc (ix1 h) (by intro a; fin_cases a <;> rfl)).trans ?_
  show Ideal.exp (A_main_v9 U L (ix1 h) * K_main_v46 (F := Ideal) (ix1 h)) = _
  have e : K_main_v46 (F := Ideal) (ix1 h) = ((128 : ℝ) : EReal) := by
    unfold K_main_v46 K_main_cst_4
    exact (broadcastInDim_scalar_apply _ _ _).trans word_128
  rw [lg_f U L hl, e, exp_mul]

include hl in
theorem cd_r (h : Fin 4) : A_main_v88 U L (ix3 h 0 0) = ((Real.exp (lg 1 h.val * (128 : ℝ)) : ℝ) : EReal) := by
  unfold A_main_v88
  refine (bc (ix1 h) (by intro a; fin_cases a <;> rfl)).trans ?_
  show Ideal.exp (A_main_v51 U L (ix1 h) * K_main_v85 (F := Ideal) (ix1 h)) = _
  have e : K_main_v85 (F := Ideal) (ix1 h) = ((128 : ℝ) : EReal) := by
    unfold K_main_v85 K_main_cst_9
    exact (broadcastInDim_scalar_apply _ _ _).trans word_128
  rw [lg_r U L hl, e, exp_mul]

end Cert.ReferenceIdeal.Ref
-- ==== Proof.Ref.Arrays.lean ====
/-
  The reference's queries, keys and values by chunks, at an index.
-/
module

public import proofs.«01_k».proof.Proof.Ref.Tables

@[expose] public section

set_option maxRecDepth 16384

noncomputable section

namespace Cert.ReferenceIdeal.Ref

open Cert.ReferenceIdeal.Gen Cert.ReferenceIdeal.Step Cert.Ret Cert.Values
open Idealize.ShloMosaic hiding ix0 ix1 ix2 ix3 ix4 ix5 eq_ix2 eq_ix3 eq_ix4 ix6
open Idealize.ShloMosaic.ValueIdx

variable (U : (⟨S2x16384x6144, .bf16⟩ : BufTy).Contents (Elt Ideal)) (L : (⟨S2x4, .f32⟩ : BufTy).Contents (Elt Ideal))
  {u : ℕ → ℕ → ℕ → ℝ} (hu : ∀ y : S2x16384x6144.Idx, U y = ((u (y 0).val (y 1).val (y 2).val : ℝ) : EReal))

include hu in
theorem q_f (c : Fin 128) (b : Fin 2) (h : Fin 4) (i : Fin 128) (d : Fin 256) :
    A_main_v90 U L (ix5 c b h i d) = ((qq u b.val h.val (c.val * 128 + i.val) d.val : ℝ) : EReal) := by
  unfold A_main_v90 A_main_v89 A_main_v5 A_main_v1
  refine (transpose_apply _ _ _ (ix5 c b h i d) (ix5 b c i h d) (by intro a; fin_cases a <;> rfl)).trans ?_
  refine (shapeCast_apply _ _ (ix5 b c i h d) (ix4 b (⟨c.val * 128 + i.val, by omega⟩ : Fin 16384) h d) ?_).trans ?_
  · rw [Shape.rowMajor_val_four, Shape.rowMajor_val_five]
    show ((b.val * 16384 + (c.val * 128 + i.val)) * 4 + h.val) * 256 + d.val = (((b.val * 128 + c.val) * 128 + i.val) * 4 + h.val) * 256 + d.val
    ring
  refine (shapeCast_apply _ _ (ix4 b (⟨c.val * 128 + i.val, by omega⟩ : Fin 16384) h d) (ix3 b (⟨c.val * 128 + i.val, by omega⟩ : Fin 16384) (⟨h.val * 256 + d.val, by omega⟩ : Fin 1024)) ?_).trans ?_
  · rw [Shape.rowMajor_val_three, Shape.rowMajor_val_four]
    show (b.val * 16384 + (c.val * 128 + i.val)) * 1024 + (h.val * 256 + d.val) = ((b.val * 16384 + (c.val * 128 + i.val)) * 4 + h.val) * 256 + d.val
    ring
  refine (hu _).trans (at3 ?_ ?_ ?_)
  · show 0 + b.val = b.val
    omega
  · show 0 + (c.val * 128 + i.val) = c.val * 128 + i.val
    omega
  · show 0 + (h.val * 256 + d.val) = h.val * 256 + d.val
    omega

include hu in
theorem q_r (c : Fin 128) (b : Fin 2) (h : Fin 4) (i : Fin 128) (d : Fin 256) :
    A_main_v95 U L (ix5 c b h i d) = ((qq u b.val h.val ((127 - c.val) * 128 + i.val) d.val : ℝ) : EReal) := by
  refine Eq.trans ?_ (q_f U L hu (⟨127 - c.val, by omega⟩ : Fin 128) b h i d)
  unfold A_main_v95 Host.reverse
  refine congrArg (A_main_v90 U L) (funext fun a => Fin.ext ?_)
  match a with
  | ⟨0, _⟩ => show (Fin.rev c).val = 127 - c.val; rw [Fin.val_rev]; omega
  | ⟨1, _⟩ => rfl
  | ⟨2, _⟩ => rfl
  | ⟨3, _⟩ => rfl
  | ⟨4, _⟩ => rfl

include hu in
theorem k_f (c : Fin 128) (b : Fin 2) (h : Fin 4) (i : Fin 128) (d : Fin 256) :
    A_main_v92 U L (ix5 c b h i d) = ((kk u b.val h.val (c.val * 128 + i.val) d.val : ℝ) : EReal) := by
  unfold A_main_v92 A_main_v91 A_main_v6 A_main_v2
  refine (transpose_apply _ _ _ (ix5 c b h i d) (ix5 b c i h d) (by intro a; fin_cases a <;> rfl)).trans ?_
  refine (shapeCast_apply _ _ (ix5 b c i h d) (ix4 b (⟨c.val * 128 + i.val, by omega⟩ : Fin 16384) h d) ?_).trans ?_
  · rw [Shape.rowMajor_val_four, Shape.rowMajor_val_five]
    show ((b.val * 16384 + (c.val * 128 + i.val)) * 4 + h.val) * 256 + d.val = (((b.val * 128 + c.val) * 128 + i.val) * 4 + h.val) * 256 + d.val
    ring
  refine (shapeCast_apply _ _ (ix4 b (⟨c.val * 128 + i.val, by omega⟩ : Fin 16384) h d) (ix3 b (⟨c.val * 128 + i.val, by omega⟩ : Fin 16384) (⟨h.val * 256 + d.val, by omega⟩ : Fin 1024)) ?_).trans ?_
  · rw [Shape.rowMajor_val_three, Shape.rowMajor_val_four]
    show (b.val * 16384 + (c.val * 128 + i.val)) * 1024 + (h.val * 256 + d.val) = ((b.val * 16384 + (c.val * 128 + i.val)) * 4 + h.val) * 256 + d.val
    ring
  refine (hu _).trans (at3 ?_ ?_ ?_)
  · show 0 + b.val = b.val
    omega
  · show 0 + (c.val * 128 + i.val) = c.val * 128 + i.val
    omega
  · show 1024 + (h.val * 256 + d.val) = 1024 + (h.val * 256 + d.val)
    omega

include hu in
theorem k_r (c : Fin 128) (b : Fin 2) (h : Fin 4) (i : Fin 128) (d : Fin 256) :
    A_main_v96 U L (ix5 c b h i d) = ((kk u b.val h.val ((127 - c.val) * 128 + i.val) d.val : ℝ) : EReal) := by
  refine Eq.trans ?_ (k_f U L hu (⟨127 - c.val, by omega⟩ : Fin 128) b h i d)
  unfold A_main_v96 Host.reverse
  refine congrArg (A_main_v92 U L) (funext fun a => Fin.ext ?_)
  match a with
  | ⟨0, _⟩ => show (Fin.rev c).val = 127 - c.val; rw [Fin.val_rev]; omega
  | ⟨1, _⟩ => rfl
  | ⟨2, _⟩ => rfl
  | ⟨3, _⟩ => rfl
  | ⟨4, _⟩ => rfl

include hu in
theorem v_f (c : Fin 128) (b : Fin 2) (h : Fin 4) (i : Fin 128) (d : Fin 512) :
    A_main_v94 U L (ix5 c b h i d) = ((vv u b.val h.val (c.val * 128 + i.val) d.val : ℝ) : EReal) := by
  unfold A_main_v94 A_main_v93 A_main_v7 A_main_v3
  refine (transpose_apply _ _ _ (ix5 c b h i d) (ix5 b c i h d) (by intro a; fin_cases a <;> rfl)).trans ?_
  refine (shapeCast_apply _ _ (ix5 b c i h d) (ix4 b (⟨c.val * 128 + i.val, by omega⟩ : Fin 16384) h d) ?_).trans ?_
  · rw [Shape.rowMajor_val_four, Shape.rowMajor_val_five]
    show ((b.val * 16384 + (c.val * 128 + i.val)) * 4 + h.val) * 512 + d.val = (((b.val * 128 + c.val) * 128 + i.val) * 4 + h.val) * 512 + d.val
    ring
  refine (shapeCast_apply _ _ (ix4 b (⟨c.val * 128 + i.val, by omega⟩ : Fin 16384) h d) (ix3 b (⟨c.val * 128 + i.val, by omega⟩ : Fin 16384) (⟨h.val * 512 + d.val, by omega⟩ : Fin 2048)) ?_).trans ?_
  · rw [Shape.rowMajor_val_three, Shape.rowMajor_val_four]
    show (b.val * 16384 + (c.val * 128 + i.val)) * 2048 + (h.val * 512 + d.val) = ((b.val * 16384 + (c.val * 128 + i.val)) * 4 + h.val) * 512 + d.val
    ring
  refine (hu _).trans (at3 ?_ ?_ ?_)
  · show 0 + b.val = b.val
    omega
  · show 0 + (c.val * 128 + i.val) = c.val * 128 + i.val
    omega
  · show 2048 + (h.val * 512 + d.val) = 2048 + (h.val * 512 + d.val)
    omega

include hu in
theorem v_r (c : Fin 128) (b : Fin 2) (h : Fin 4) (i : Fin 128) (d : Fin 512) :
    A_main_v97 U L (ix5 c b h i d) = ((vv u b.val h.val ((127 - c.val) * 128 + i.val) d.val : ℝ) : EReal) := by
  refine Eq.trans ?_ (v_f U L hu (⟨127 - c.val, by omega⟩ : Fin 128) b h i d)
  unfold A_main_v97 Host.reverse
  refine congrArg (A_main_v94 U L) (funext fun a => Fin.ext ?_)
  match a with
  | ⟨0, _⟩ => show (Fin.rev c).val = 127 - c.val; rw [Fin.val_rev]; omega
  | ⟨1, _⟩ => rfl
  | ⟨2, _⟩ => rfl
  | ⟨3, _⟩ => rfl
  | ⟨4, _⟩ => rfl

end Cert.ReferenceIdeal.Ref
-- ==== Proof.Ref.Trip.lean ====
/-
  One trip of the reference, at an index.
-/
module

public import proofs.«01_k».proof.Proof.Ref.Arrays
public import Idealize.ShloMosaic.Lib.DynamicIndex

@[expose] public section

set_option maxRecDepth 16384

noncomputable section

namespace Cert.ReferenceIdeal.Ref

open Cert.ReferenceIdeal.Gen Cert.ReferenceIdeal.Step Cert.Ret Cert.Values
open Idealize.ShloMosaic hiding ix0 ix1 ix2 ix3 ix4 ix5 eq_ix2 eq_ix3 eq_ix4 ix6
open Idealize.ShloMosaic.ValueIdx

/-- Where a trip's chunk starts. -/
abbrev cs256 (start : Fin 5 → Int) (a : Fin 5) : ℕ := Host.clampedStart S128x2x4x128x256 S1x2x4x128x256 rfl start a

/-- Where a trip's chunk starts. -/
abbrev cs512 (start : Fin 5 → Int) (a : Fin 5) : ℕ := Host.clampedStart S128x2x4x128x512 S1x2x4x128x512 rfl start a

/-- The chunk a trip reads. -/
theorem chunk_256 (x : FVec Ideal S128x2x4x128x256 .f32) (start : Fin 5 → Int) {j : ℕ} (hj : j < 128) (h0 : start 0 = (j : Int)) (h1 : start 1 = ((0 : ℕ) : Int))
    (h2 : start 2 = ((0 : ℕ) : Int)) (h3 : start 3 = ((0 : ℕ) : Int)) (h4 : start 4 = ((0 : ℕ) : Int)) (b : Fin 2) (h : Fin 4) (i : Fin 128) (d : Fin 256) :
    shapeCast S2x4x128x256 (Host.dynamicSlice S1x2x4x128x256 x start sliceFits_S128x2x4x128x256_S1x2x4x128x256) shapeCasts_S1x2x4x128x256_S2x4x128x256 (ix4 b h i d)
      = x (ix5 ⟨j, hj⟩ b h i d) := by
  refine (shapeCast_apply _ _ (ix4 b h i d) (ix5 (0 : Fin 1) b h i d) ?_).trans ?_
  · rw [Shape.rowMajor_val_four, Shape.rowMajor_val_five]
    show (((0 * 2 + b.val) * 4 + h.val) * 128 + i.val) * 256 + d.val = ((b.val * 4 + h.val) * 128 + i.val) * 256 + d.val
    omega
  have c0 := Host.clampedStart_of_le (s := S128x2x4x128x256) (t := S1x2x4x128x256) rfl start 0 j h0 (by show j + 1 ≤ 128; omega)
  have c1 := Host.clampedStart_of_le (s := S128x2x4x128x256) (t := S1x2x4x128x256) rfl start 1 0 h1 (by show 0 + 2 ≤ 2; omega)
  have c2 := Host.clampedStart_of_le (s := S128x2x4x128x256) (t := S1x2x4x128x256) rfl start 2 0 h2 (by show 0 + 4 ≤ 4; omega)
  have c3 := Host.clampedStart_of_le (s := S128x2x4x128x256) (t := S1x2x4x128x256) rfl start 3 0 h3 (by show 0 + 128 ≤ 128; omega)
  have c4 := Host.clampedStart_of_le (s := S128x2x4x128x256) (t := S1x2x4x128x256) rfl start 4 0 h4 (by show 0 + 256 ≤ 256; omega)
  refine (Host.dynamicSlice_apply _ _ _ _).trans (congrArg x (funext fun a => Fin.ext ?_))
  match a with
  | ⟨0, _⟩ => show cs256 start 0 + 0 = j; exact (congrArg (· + 0) c0).trans (by omega)
  | ⟨1, _⟩ => show cs256 start 1 + b.val = b.val; exact (congrArg (· + b.val) c1).trans (by omega)
  | ⟨2, _⟩ => show cs256 start 2 + h.val = h.val; exact (congrArg (· + h.val) c2).trans (by omega)
  | ⟨3, _⟩ => show cs256 start 3 + i.val = i.val; exact (congrArg (· + i.val) c3).trans (by omega)
  | ⟨4, _⟩ => show cs256 start 4 + d.val = d.val; exact (congrArg (· + d.val) c4).trans (by omega)

/-- The chunk a trip reads. -/
theorem chunk_512 (x : FVec Ideal S128x2x4x128x512 .f32) (start : Fin 5 → Int) {j : ℕ} (hj : j < 128) (h0 : start 0 = (j : Int)) (h1 : start 1 = ((0 : ℕ) : Int))
    (h2 : start 2 = ((0 : ℕ) : Int)) (h3 : start 3 = ((0 : ℕ) : Int)) (h4 : start 4 = ((0 : ℕ) : Int)) (b : Fin 2) (h : Fin 4) (i : Fin 128) (d : Fin 512) :
    shapeCast S2x4x128x512 (Host.dynamicSlice S1x2x4x128x512 x start sliceFits_S128x2x4x128x512_S1x2x4x128x512) shapeCasts_S1x2x4x128x512_S2x4x128x512 (ix4 b h i d)
      = x (ix5 ⟨j, hj⟩ b h i d) := by
  refine (shapeCast_apply _ _ (ix4 b h i d) (ix5 (0 : Fin 1) b h i d) ?_).trans ?_
  · rw [Shape.rowMajor_val_four, Shape.rowMajor_val_five]
    show (((0 * 2 + b.val) * 4 + h.val) * 128 + i.val) * 512 + d.val = ((b.val * 4 + h.val) * 128 + i.val) * 512 + d.val
    omega
  have c0 := Host.clampedStart_of_le (s := S128x2x4x128x512) (t := S1x2x4x128x512) rfl start 0 j h0 (by show j + 1 ≤ 128; omega)
  have c1 := Host.clampedStart_of_le (s := S128x2x4x128x512) (t := S1x2x4x128x512) rfl start 1 0 h1 (by show 0 + 2 ≤ 2; omega)
  have c2 := Host.clampedStart_of_le (s := S128x2x4x128x512) (t := S1x2x4x128x512) rfl start 2 0 h2 (by show 0 + 4 ≤ 4; omega)
  have c3 := Host.clampedStart_of_le (s := S128x2x4x128x512) (t := S1x2x4x128x512) rfl start 3 0 h3 (by show 0 + 128 ≤ 128; omega)
  have c4 := Host.clampedStart_of_le (s := S128x2x4x128x512) (t := S1x2x4x128x512) rfl start 4 0 h4 (by show 0 + 512 ≤ 512; omega)
  refine (Host.dynamicSlice_apply _ _ _ _).trans (congrArg x (funext fun a => Fin.ext ?_))
  match a with
  | ⟨0, _⟩ => show cs512 start 0 + 0 = j; exact (congrArg (· + 0) c0).trans (by omega)
  | ⟨1, _⟩ => show cs512 start 1 + b.val = b.val; exact (congrArg (· + b.val) c1).trans (by omega)
  | ⟨2, _⟩ => show cs512 start 2 + h.val = h.val; exact (congrArg (· + h.val) c2).trans (by omega)
  | ⟨3, _⟩ => show cs512 start 3 + i.val = i.val; exact (congrArg (· + i.val) c3).trans (by omega)
  | ⟨4, _⟩ => show cs512 start 4 + d.val = d.val; exact (congrArg (· + d.val) c4).trans (by omega)

theorem sub_at {x y z : ℕ} (e : x = y) (h : z - y = 0) : z - x = 0 := by omega
theorem sub_zero_at {x z : ℕ} (e : x = 0) : z - x = z := by omega
theorem in_at {x y z w : ℕ} (e : x = y) (h : y ≤ z) (h' : z < y + w) : x ≤ z ∧ z < x + w := by omega

/-- The chunk a trip writes, and those it leaves. -/
theorem write_512 (x : FVec Ideal S128x2x4x128x512 .f32) (y : FVec Ideal S1x2x4x128x512 .f32) (start : Fin 5 → Int) {j : ℕ} (hj : j < 128)
    (h0 : start 0 = (j : Int)) (h1 : start 1 = ((0 : ℕ) : Int)) (h2 : start 2 = ((0 : ℕ) : Int)) (h3 : start 3 = ((0 : ℕ) : Int))
    (h4 : start 4 = ((0 : ℕ) : Int)) (c : Fin 128) (b : Fin 2) (h : Fin 4) (i : Fin 128) (d : Fin 512) :
    Host.dynamicUpdateSlice x y start updateFits_S128x2x4x128x512_S1x2x4x128x512 (ix5 c b h i d)
      = if c.val = j then y (ix5 0 b h i d) else x (ix5 c b h i d) := by
  have c0 := Host.clampedStart_of_le (s := S128x2x4x128x512) (t := S1x2x4x128x512) rfl start 0 j h0 (by show j + 1 ≤ 128; omega)
  have c1 := Host.clampedStart_of_le (s := S128x2x4x128x512) (t := S1x2x4x128x512) rfl start 1 0 h1 (by show 0 + 2 ≤ 2; omega)
  have c2 := Host.clampedStart_of_le (s := S128x2x4x128x512) (t := S1x2x4x128x512) rfl start 2 0 h2 (by show 0 + 4 ≤ 4; omega)
  have c3 := Host.clampedStart_of_le (s := S128x2x4x128x512) (t := S1x2x4x128x512) rfl start 3 0 h3 (by show 0 + 128 ≤ 128; omega)
  have c4 := Host.clampedStart_of_le (s := S128x2x4x128x512) (t := S1x2x4x128x512) rfl start 4 0 h4 (by show 0 + 512 ≤ 512; omega)
  rw [Host.dynamicUpdateSlice_apply]
  by_cases hc : c.val = j
  · rw [if_pos hc, dif_pos]
    · refine congrArg y (funext fun a => Fin.ext ?_)
      match a with
      | ⟨0, _⟩ => show c.val - cs512 start 0 = 0; exact sub_at c0 (by omega)
      | ⟨1, _⟩ => show b.val - cs512 start 1 = b.val; exact sub_zero_at c1
      | ⟨2, _⟩ => show h.val - cs512 start 2 = h.val; exact sub_zero_at c2
      | ⟨3, _⟩ => show i.val - cs512 start 3 = i.val; exact sub_zero_at c3
      | ⟨4, _⟩ => show d.val - cs512 start 4 = d.val; exact sub_zero_at c4
    · intro a
      match a with
      | ⟨0, _⟩ => show cs512 start 0 ≤ c.val ∧ c.val < cs512 start 0 + 1; exact in_at c0 (by omega) (by omega)
      | ⟨1, _⟩ => show cs512 start 1 ≤ b.val ∧ b.val < cs512 start 1 + 2; exact in_at c1 (by omega) (by omega)
      | ⟨2, _⟩ => show cs512 start 2 ≤ h.val ∧ h.val < cs512 start 2 + 4; exact in_at c2 (by omega) (by omega)
      | ⟨3, _⟩ => show cs512 start 3 ≤ i.val ∧ i.val < cs512 start 3 + 128; exact in_at c3 (by omega) (by omega)
      | ⟨4, _⟩ => show cs512 start 4 ≤ d.val ∧ d.val < cs512 start 4 + 512; exact in_at c4 (by omega) (by omega)
  · rw [if_neg hc, dif_neg]
    intro hin
    have := hin 0
    have h' : Host.clampedStart S128x2x4x128x512 S1x2x4x128x512 rfl start 0 ≤ c.val ∧ c.val < Host.clampedStart S128x2x4x128x512 S1x2x4x128x512 rfl start 0 + 1 := this
    rw [c0] at h'
    omega

theorem dot_qk (l : FVec Ideal S2x4x128x256 .f32) (r : FVec Ideal S2x4x128x256 .f32) (b : Fin 2) (h : Fin 4) (i j : Fin 128) :
    Host.dotGeneral dot_S2x4x128x256_S2x4x128x256_S2x4x128x128_3_3_2_2_01_01 none l r (ix4 b h i j) = ∑ k : Fin 256, l (ix4 b h i k) * r (ix4 b h j k) := by
  refine (Ideal.dotGeneral_apply _ _ _ _ _ _).trans ?_
  rw [← Equiv.sum_comp (contrEquiv1 dot_S2x4x128x256_S2x4x128x256_S2x4x128x128_3_3_2_2_01_01 256 rfl rfl).symm]
  refine Finset.sum_congr rfl fun k _ => ?_
  congr 2
  · funext a; fin_cases a <;> rfl
  · funext a; fin_cases a <;> rfl

theorem dot_pv (l : FVec Ideal S2x4x128x128 .f32) (r : FVec Ideal S2x4x128x512 .f32) (b : Fin 2) (h : Fin 4) (i : Fin 128) (e : Fin 512) :
    Host.dotGeneral dot_S2x4x128x128_S2x4x128x512_S2x4x128x512_3_2_2_3_01_01 none l r (ix4 b h i e) = ∑ k : Fin 128, l (ix4 b h i k) * r (ix4 b h k e) := by
  refine (Ideal.dotGeneral_apply _ _ _ _ _ _).trans ?_
  rw [← Equiv.sum_comp (contrEquiv1 dot_S2x4x128x128_S2x4x128x512_S2x4x128x512_3_2_2_3_01_01 128 rfl rfl).symm]
  refine Finset.sum_congr rfl fun k _ => ?_
  congr 2
  · funext a; fin_cases a <;> rfl
  · funext a; fin_cases a <;> rfl

theorem dot_qs (l : FVec Ideal S2x4x128x256 .f32) (r : FVec Ideal S2x4x256x512 .f32) (b : Fin 2) (h : Fin 4) (i : Fin 128) (e : Fin 512) :
    Host.dotGeneral dot_S2x4x128x256_S2x4x256x512_S2x4x128x512_3_2_2_3_01_01 none l r (ix4 b h i e) = ∑ k : Fin 256, l (ix4 b h i k) * r (ix4 b h k e) := by
  refine (Ideal.dotGeneral_apply _ _ _ _ _ _).trans ?_
  rw [← Equiv.sum_comp (contrEquiv1 dot_S2x4x128x256_S2x4x256x512_S2x4x128x512_3_2_2_3_01_01 256 rfl rfl).symm]
  refine Finset.sum_congr rfl fun k _ => ?_
  congr 2
  · funext a; fin_cases a <;> rfl
  · funext a; fin_cases a <;> rfl

theorem dot_kv (l : FVec Ideal S2x4x128x256 .f32) (r : FVec Ideal S2x4x128x512 .f32) (b : Fin 2) (h : Fin 4) (d : Fin 256) (e : Fin 512) :
    Host.dotGeneral dot_S2x4x128x256_S2x4x128x512_S2x4x256x512_2_2_3_3_01_01 none l r (ix4 b h d e) = ∑ k : Fin 128, l (ix4 b h k d) * r (ix4 b h k e) := by
  refine (Ideal.dotGeneral_apply _ _ _ _ _ _).trans ?_
  rw [← Equiv.sum_comp (contrEquiv1 dot_S2x4x128x256_S2x4x128x512_S2x4x256x512_2_2_3_3_01_01 128 rfl rfl).symm]
  refine Finset.sum_congr rfl fun k _ => ?_
  congr 2
  · funext a; fin_cases a <;> rfl
  · funext a; fin_cases a <;> rfl

variable (s : State Ideal) {j : ℕ} (hj : j < 128)

theorem at_j (hj : j < 128) : (BitVec.ofNat 32 j).toInt = (j : Int) := toInt_ofNat_of_lt (by omega)

include hj in
theorem b5_apply (b : Fin 2) (h : Fin 4) (i : Fin 128) (d : Fin 256) : b5 j s (ix4 b h i d) = s.main_v100_0 (ix5 ⟨j, hj⟩ b h i d) := by
  unfold b5 b4
  exact chunk_256 _ _ hj (at_j hj) rfl rfl rfl rfl b h i d

include hj in
theorem b11_apply (b : Fin 2) (h : Fin 4) (i : Fin 128) (d : Fin 256) : b11 j s (ix4 b h i d) = s.main_v100_1 (ix5 ⟨j, hj⟩ b h i d) := by
  unfold b11 b10
  exact chunk_256 _ _ hj (at_j hj) rfl rfl rfl rfl b h i d

include hj in
theorem b17_apply (b : Fin 2) (h : Fin 4) (i : Fin 128) (d : Fin 512) : b17 j s (ix4 b h i d) = s.main_v100_2 (ix5 ⟨j, hj⟩ b h i d) := by
  unfold b17 b16
  exact chunk_512 _ _ hj (at_j hj) rfl rfl rfl rfl b h i d

include hj in
theorem b23_apply (b : Fin 2) (h : Fin 4) (i : Fin 128) (d : Fin 256) : b23 j s (ix4 b h i d) = s.main_v100_3 (ix5 ⟨j, hj⟩ b h i d) := by
  unfold b23 b22
  exact chunk_256 _ _ hj (at_j hj) rfl rfl rfl rfl b h i d

include hj in
theorem b29_apply (b : Fin 2) (h : Fin 4) (i : Fin 128) (d : Fin 256) : b29 j s (ix4 b h i d) = s.main_v100_4 (ix5 ⟨j, hj⟩ b h i d) := by
  unfold b29 b28
  exact chunk_256 _ _ hj (at_j hj) rfl rfl rfl rfl b h i d

include hj in
theorem b35_apply (b : Fin 2) (h : Fin 4) (i : Fin 128) (d : Fin 512) : b35 j s (ix4 b h i d) = s.main_v100_5 (ix5 ⟨j, hj⟩ b h i d) := by
  unfold b35 b34
  exact chunk_512 _ _ hj (at_j hj) rfl rfl rfl rfl b h i d

/-- The chunk's output. -/
theorem o_f (b : Fin 2) (h : Fin 4) (i : Fin 128) (e : Fin 512) : b45 j s (ix4 b h i e)
    = (∑ k : Fin 128, ((∑ d : Fin 256, b5 j s (ix4 b h i d) * b11 j s (ix4 b h k d)) * s.main_v100_6 (ix3 h i k)) * b17 j s (ix4 b h k e))
      + ∑ d : Fin 256, (b5 j s (ix4 b h i d) * s.main_v100_7 (ix3 h i 0)) * s.main_v100_15 (ix4 b h d e) := by
  show b40 j s (ix4 b h i e) + b44 j s (ix4 b h i e) = _
  unfold b40 b44
  rw [dot_pv, dot_qs]
  refine congrArg₂ (· + ·) (Finset.sum_congr rfl fun k _ => congrArg (· * _) ?_) (Finset.sum_congr rfl fun d _ => congrArg (· * _) ?_)
  · show b36 j s (ix4 b h i k) * b38 j s (ix4 b h i k) = _
    unfold b36 b38 b37
    rw [dot_qk]
    refine congrArg (_ * ·) ?_
    exact (bc (ix4 0 h i k) (by intro a; fin_cases a <;> rfl)).trans (bc (ix3 h i k) (by intro a; fin_cases a <;> rfl))
  · show b5 j s (ix4 b h i d) * b42 j s (ix4 b h i d) = _
    unfold b42 b41
    refine congrArg (_ * ·) ?_
    exact (bc (ix4 0 h i 0) (by intro a; fin_cases a <;> rfl)).trans (bc (ix3 h i 0) (by intro a; fin_cases a <;> rfl))

/-- The next state. -/
theorem s_f (b : Fin 2) (h : Fin 4) (d : Fin 256) (e : Fin 512) : b53 j s (ix4 b h d e)
    = s.main_v100_8 (ix3 h 0 0) * s.main_v100_15 (ix4 b h d e)
      + ∑ k : Fin 128, (b11 j s (ix4 b h k d) * s.main_v100_9 (ix3 h k 0)) * b17 j s (ix4 b h k e) := by
  show b47 j s (ix4 b h d e) * s.main_v100_15 (ix4 b h d e) + b52 j s (ix4 b h d e) = _
  unfold b52 b47 b46
  rw [dot_kv]
  refine congrArg₂ (· + ·) (congrArg (· * _) ?_) (Finset.sum_congr rfl fun k _ => congrArg (· * _) ?_)
  · exact (bc (ix4 0 h 0 0) (by intro a; fin_cases a <;> rfl)).trans (bc (ix3 h 0 0) (by intro a; fin_cases a <;> rfl))
  · show b11 j s (ix4 b h k d) * b50 j s (ix4 b h k d) = _
    unfold b50 b49
    refine congrArg (_ * ·) ?_
    exact (bc (ix4 0 h k 0) (by intro a; fin_cases a <;> rfl)).trans (bc (ix3 h k 0) (by intro a; fin_cases a <;> rfl))

/-- The chunk's output. -/
theorem o_r (b : Fin 2) (h : Fin 4) (i : Fin 128) (e : Fin 512) : b63 j s (ix4 b h i e)
    = (∑ k : Fin 128, ((∑ d : Fin 256, b23 j s (ix4 b h i d) * b29 j s (ix4 b h k d)) * s.main_v100_10 (ix3 h i k)) * b35 j s (ix4 b h k e))
      + ∑ d : Fin 256, (b23 j s (ix4 b h i d) * s.main_v100_11 (ix3 h i 0)) * s.main_v100_16 (ix4 b h d e) := by
  show b58 j s (ix4 b h i e) + b62 j s (ix4 b h i e) = _
  unfold b58 b62
  rw [dot_pv, dot_qs]
  refine congrArg₂ (· + ·) (Finset.sum_congr rfl fun k _ => congrArg (· * _) ?_) (Finset.sum_congr rfl fun d _ => congrArg (· * _) ?_)
  · show b54 j s (ix4 b h i k) * b56 j s (ix4 b h i k) = _
    unfold b54 b56 b55
    rw [dot_qk]
    refine congrArg (_ * ·) ?_
    exact (bc (ix4 0 h i k) (by intro a; fin_cases a <;> rfl)).trans (bc (ix3 h i k) (by intro a; fin_cases a <;> rfl))
  · show b23 j s (ix4 b h i d) * b60 j s (ix4 b h i d) = _
    unfold b60 b59
    refine congrArg (_ * ·) ?_
    exact (bc (ix4 0 h i 0) (by intro a; fin_cases a <;> rfl)).trans (bc (ix3 h i 0) (by intro a; fin_cases a <;> rfl))

/-- The next state. -/
theorem s_r (b : Fin 2) (h : Fin 4) (d : Fin 256) (e : Fin 512) : b71 j s (ix4 b h d e)
    = s.main_v100_12 (ix3 h 0 0) * s.main_v100_16 (ix4 b h d e)
      + ∑ k : Fin 128, (b29 j s (ix4 b h k d) * s.main_v100_13 (ix3 h k 0)) * b35 j s (ix4 b h k e) := by
  show b65 j s (ix4 b h d e) * s.main_v100_16 (ix4 b h d e) + b70 j s (ix4 b h d e) = _
  unfold b70 b65 b64
  rw [dot_kv]
  refine congrArg₂ (· + ·) (congrArg (· * _) ?_) (Finset.sum_congr rfl fun k _ => congrArg (· * _) ?_)
  · exact (bc (ix4 0 h 0 0) (by intro a; fin_cases a <;> rfl)).trans (bc (ix3 h 0 0) (by intro a; fin_cases a <;> rfl))
  · show b29 j s (ix4 b h k d) * b68 j s (ix4 b h k d) = _
    unfold b68 b67
    refine congrArg (_ * ·) ?_
    exact (bc (ix4 0 h k 0) (by intro a; fin_cases a <;> rfl)).trans (bc (ix3 h k 0) (by intro a; fin_cases a <;> rfl))

include hj in
theorem w_f (c : Fin 128) (b : Fin 2) (h : Fin 4) (i : Fin 128) (e : Fin 512) :
    b77 j s (ix5 c b h i e) = if c.val = j then b45 j s (ix4 b h i e) else s.main_v100_17 (ix5 c b h i e) := by
  unfold b77 b72
  refine (write_512 _ _ _ hj (at_j hj) rfl rfl rfl rfl c b h i e).trans ?_
  refine congrArg (fun x => if c.val = j then x else _) ?_
  exact bc (ix4 b h i e) (by intro a; fin_cases a <;> rfl)

include hj in
theorem w_r (c : Fin 128) (b : Fin 2) (h : Fin 4) (i : Fin 128) (e : Fin 512) :
    b83 j s (ix5 c b h i e) = if c.val = j then b63 j s (ix4 b h i e) else s.main_v100_18 (ix5 c b h i e) := by
  unfold b83 b78
  refine (write_512 _ _ _ hj (at_j hj) rfl rfl rfl rfl c b h i e).trans ?_
  refine congrArg (fun x => if c.val = j then x else _) ?_
  exact bc (ix4 b h i e) (by intro a; fin_cases a <;> rfl)

end Cert.ReferenceIdeal.Ref
-- ==== Proof.Ref.Sweep.lean ====
/-
  The reference's loop: the states and the outputs after any number of trips, and its three results.
-/
module

public import proofs.«01_k».proof.Proof.Ref.Trip
public import Idealize.ShloMosaic.Lib.Pointwise.Reduce

@[expose] public section

set_option maxRecDepth 16384

noncomputable section

namespace Cert.ReferenceIdeal.Ref

open Cert.ReferenceIdeal.Gen Cert.ReferenceIdeal.Step Cert.Ret Cert.Values
open Idealize.ShloMosaic hiding ix0 ix1 ix2 ix3 ix4 ix5 eq_ix2 eq_ix3 eq_ix4 ix6
open Idealize.ShloMosaic.ValueIdx

variable (u : ℕ → ℕ → ℕ → ℝ) (lg : ℕ → ℕ → ℝ) (sf sr : ℕ → ℕ → ℕ → ℕ → EReal)

/-- A forward pass's output at position `i` of the chunk from `N`. -/
def PF (b h N i e : ℕ) : EReal :=
  (∑ k : Fin 128, ((∑ d : Fin 256, ((qq u b h (N + i) d.val : ℝ) : EReal) * ((kk u b h (N + k.val) d.val : ℝ) : EReal))
      * ((if k.val ≤ i then Real.exp (lg 0 h * ((i : ℝ) - k.val)) else 0 : ℝ) : EReal)) * ((vv u b h (N + k.val) e : ℝ) : EReal))
    + ∑ d : Fin 256, (((qq u b h (N + i) d.val : ℝ) : EReal) * ((Real.exp (lg 0 h * ((i : ℝ) + 1)) : ℝ) : EReal)) * SF u lg sf b h d.val e N

/-- A reverse pass's output there. -/
def PR (b h N i e : ℕ) : EReal :=
  (∑ k : Fin 128, ((∑ d : Fin 256, ((qq u b h (N + i) d.val : ℝ) : EReal) * ((kk u b h (N + k.val) d.val : ℝ) : EReal))
      * ((if i < k.val then Real.exp (lg 1 h * ((k.val : ℝ) - i)) else 0 : ℝ) : EReal)) * ((vv u b h (N + k.val) e : ℝ) : EReal))
    + ∑ d : Fin 256, (((qq u b h (N + i) d.val : ℝ) : EReal) * ((Real.exp (lg 1 h * ((128 : ℝ) - i)) : ℝ) : EReal)) * SR u lg sr b h d.val e (N + 128)

/-- Both passes together. -/
theorem both (b h N i e : ℕ) (hN : N + 128 ≤ 16384) (hi : i < 128) :
    PF u lg sf b h N i e + PR u lg sr b h N i e = OO u lg sf sr b h (N + i) e := by
  have key := Decay.O_both (lg 0 h) (lg 1 h) 16384 N 128 (D := 256) (fun d => qq u b h (N + i) d.val) (fun m d => kk u b h m d.val)
    (fun m => vv u b h m e) (fun d => sf b h d.val e) (fun d => sr b h d.val e) hN i hi
    (fun j => if j ≤ i then Real.exp (lg 0 h * ((i : ℝ) - j)) else 0) (fun j => if i < j then Real.exp (lg 1 h * ((j : ℝ) - i)) else 0)
    (fun j _ => by
      unfold Decay.wt
      have e1 : (N + j ≤ N + i) = (j ≤ i) := by simp
      simp only [e1, Nat.cast_add]
      by_cases hc : j ≤ i
      · rw [if_pos hc, if_pos hc, if_neg (by omega), add_zero]
        congr 2; ring
      · rw [if_neg hc, if_neg hc, if_pos (by omega), zero_add]
        congr 2; ring)
  unfold OO
  rw [← key]
  unfold PF PR SF SR
  norm_num

/-- What no trip changes. -/
structure Fixed (s : State Ideal) : Prop where
  q : ∀ (c : Fin 128) (b : Fin 2) (h : Fin 4) (i : Fin 128) (d : Fin 256), s.main_v100_0 (ix5 c b h i d) = ((qq u b.val h.val (c.val * 128 + i.val) d.val : ℝ) : EReal)
  k : ∀ (c : Fin 128) (b : Fin 2) (h : Fin 4) (i : Fin 128) (d : Fin 256), s.main_v100_1 (ix5 c b h i d) = ((kk u b.val h.val (c.val * 128 + i.val) d.val : ℝ) : EReal)
  v : ∀ (c : Fin 128) (b : Fin 2) (h : Fin 4) (i : Fin 128) (d : Fin 512), s.main_v100_2 (ix5 c b h i d) = ((vv u b.val h.val (c.val * 128 + i.val) d.val : ℝ) : EReal)
  q_r : ∀ (c : Fin 128) (b : Fin 2) (h : Fin 4) (i : Fin 128) (d : Fin 256), s.main_v100_3 (ix5 c b h i d) = ((qq u b.val h.val ((127 - c.val) * 128 + i.val) d.val : ℝ) : EReal)
  k_r : ∀ (c : Fin 128) (b : Fin 2) (h : Fin 4) (i : Fin 128) (d : Fin 256), s.main_v100_4 (ix5 c b h i d) = ((kk u b.val h.val ((127 - c.val) * 128 + i.val) d.val : ℝ) : EReal)
  v_r : ∀ (c : Fin 128) (b : Fin 2) (h : Fin 4) (i : Fin 128) (d : Fin 512), s.main_v100_5 (ix5 c b h i d) = ((vv u b.val h.val ((127 - c.val) * 128 + i.val) d.val : ℝ) : EReal)
  dm : ∀ (h : Fin 4) (i j : Fin 128), s.main_v100_6 (ix3 h i j) = ((if j.val ≤ i.val then Real.exp (lg 0 h.val * ((i.val : ℝ) - j.val)) else 0 : ℝ) : EReal)
  qd : ∀ (h : Fin 4) (i : Fin 128), s.main_v100_7 (ix3 h i 0) = ((Real.exp (lg 0 h.val * ((i.val : ℝ) + 1)) : ℝ) : EReal)
  cd : ∀ (h : Fin 4), s.main_v100_8 (ix3 h 0 0) = ((Real.exp (lg 0 h.val * (128 : ℝ)) : ℝ) : EReal)
  kd : ∀ (h : Fin 4) (i : Fin 128), s.main_v100_9 (ix3 h i 0) = ((Real.exp (lg 0 h.val * ((127 : ℝ) - i.val)) : ℝ) : EReal)
  dm_r : ∀ (h : Fin 4) (i j : Fin 128), s.main_v100_10 (ix3 h i j) = ((if i.val < j.val then Real.exp (lg 1 h.val * ((j.val : ℝ) - i.val)) else 0 : ℝ) : EReal)
  qd_r : ∀ (h : Fin 4) (i : Fin 128), s.main_v100_11 (ix3 h i 0) = ((Real.exp (lg 1 h.val * ((128 : ℝ) - i.val)) : ℝ) : EReal)
  cd_r : ∀ (h : Fin 4), s.main_v100_12 (ix3 h 0 0) = ((Real.exp (lg 1 h.val * (128 : ℝ)) : ℝ) : EReal)
  kd_r : ∀ (h : Fin 4) (i : Fin 128), s.main_v100_13 (ix3 h i 0) = ((Real.exp (lg 1 h.val * (i.val : ℝ)) : ℝ) : EReal)

variable {u lg sf sr}

/-- The loop starts with them. -/
theorem fixed_init (U : (⟨S2x16384x6144, .bf16⟩ : BufTy).Contents (Elt Ideal)) (L : (⟨S2x4, .f32⟩ : BufTy).Contents (Elt Ideal))
    (X Y : (⟨S2x4x256x512, .f32⟩ : BufTy).Contents (Elt Ideal))
    (hu : ∀ y : S2x16384x6144.Idx, U y = ((u (y 0).val (y 1).val (y 2).val : ℝ) : EReal))
    (hl : ∀ y : S2x4.Idx, L y = ((lg (y 0).val (y 1).val : ℝ) : EReal)) : Fixed u lg (init X Y U L) where
  q c b h i d := q_f U L hu c b h i d
  k c b h i d := k_f U L hu c b h i d
  v c b h i d := v_f U L hu c b h i d
  q_r c b h i d := q_r U L hu c b h i d
  k_r c b h i d := k_r U L hu c b h i d
  v_r c b h i d := v_r U L hu c b h i d
  dm h i j := dm_f U L hl h i j
  qd h i := qd_f U L hl h i
  cd h := cd_f U L hl h
  kd h i := kd_f U L hl h i
  dm_r h i j := dm_r U L hl h i j
  qd_r h i := qd_r U L hl h i
  cd_r h := cd_r U L hl h
  kd_r h i := kd_r U L hl h i

theorem fixed_step {s : State Ideal} (H : Fixed u lg s) (j : ℕ) : Fixed u lg (step j s) where
  q := H.q
  k := H.k
  v := H.v
  q_r := H.q_r
  k_r := H.k_r
  v_r := H.v_r
  dm := H.dm
  qd := H.qd
  cd := H.cd
  kd := H.kd
  dm_r := H.dm_r
  qd_r := H.qd_r
  cd_r := H.cd_r
  kd_r := H.kd_r

/-- A trip's output in closed form. -/
theorem out_f {s : State Ideal} (H : Fixed u lg s) {j : ℕ} (hj : j < 128)
    (hs : ∀ (b : Fin 2) (h : Fin 4) (d : Fin 256) (e : Fin 512), s.main_v100_15 (ix4 b h d e) = SF u lg sf b.val h.val d.val e.val (j * 128))
    (b : Fin 2) (h : Fin 4) (i : Fin 128) (e : Fin 512) : b45 j s (ix4 b h i e) = PF u lg sf b.val h.val (j * 128) i.val e.val := by
  rw [o_f]
  unfold PF
  refine congrArg₂ (· + ·) (Finset.sum_congr rfl fun k _ => ?_) (Finset.sum_congr rfl fun d _ => ?_)
  · rw [H.dm, b17_apply s hj, H.v]
    refine congrArg (· * _) (congrArg (· * _) (Finset.sum_congr rfl fun d _ => ?_))
    rw [b5_apply s hj, b11_apply s hj, H.q, H.k]
  · rw [b5_apply s hj, H.q, H.qd, hs]

/-- A trip's next state in closed form. -/
theorem next_f {s : State Ideal} (H : Fixed u lg s) {j : ℕ} (hj : j < 128)
    (hs : ∀ (b : Fin 2) (h : Fin 4) (d : Fin 256) (e : Fin 512), s.main_v100_15 (ix4 b h d e) = SF u lg sf b.val h.val d.val e.val (j * 128))
    (b : Fin 2) (h : Fin 4) (d : Fin 256) (e : Fin 512) : b53 j s (ix4 b h d e) = SF u lg sf b.val h.val d.val e.val ((j + 1) * 128) := by
  rw [s_f, H.cd, hs, show (j + 1) * 128 = j * 128 + 128 by omega]
  unfold SF
  rw [Decay.FS_step (lg 0 h.val) (sf b.val h.val d.val e.val) _ _ (j * 128) 128]
  refine congrArg₂ (· + ·) (by norm_num) (Finset.sum_congr rfl fun k _ => ?_)
  rw [b11_apply s hj, b17_apply s hj, H.k, H.v, H.kd]
  norm_num

/-- A trip's output in closed form. -/
theorem out_r {s : State Ideal} (H : Fixed u lg s) {j : ℕ} (hj : j < 128)
    (hs : ∀ (b : Fin 2) (h : Fin 4) (d : Fin 256) (e : Fin 512), s.main_v100_16 (ix4 b h d e) = SR u lg sr b.val h.val d.val e.val ((127 - j) * 128 + 128))
    (b : Fin 2) (h : Fin 4) (i : Fin 128) (e : Fin 512) : b63 j s (ix4 b h i e) = PR u lg sr b.val h.val ((127 - j) * 128) i.val e.val := by
  rw [o_r]
  unfold PR
  refine congrArg₂ (· + ·) (Finset.sum_congr rfl fun k _ => ?_) (Finset.sum_congr rfl fun d _ => ?_)
  · rw [H.dm_r, b35_apply s hj, H.v_r]
    refine congrArg (· * _) (congrArg (· * _) (Finset.sum_congr rfl fun d _ => ?_))
    rw [b23_apply s hj, b29_apply s hj, H.q_r, H.k_r]
  · rw [b23_apply s hj, H.q_r, H.qd_r, hs]

theorem next_r {s : State Ideal} (H : Fixed u lg s) {j : ℕ} (hj : j < 128)
    (hs : ∀ (b : Fin 2) (h : Fin 4) (d : Fin 256) (e : Fin 512), s.main_v100_16 (ix4 b h d e) = SR u lg sr b.val h.val d.val e.val ((127 - j) * 128 + 128))
    (b : Fin 2) (h : Fin 4) (d : Fin 256) (e : Fin 512) : b71 j s (ix4 b h d e) = SR u lg sr b.val h.val d.val e.val ((127 - j) * 128) := by
  rw [s_r, H.cd_r, hs]
  unfold SR
  rw [Decay.RS_step (lg 1 h.val) (sr b.val h.val d.val e.val) _ _ 16384 ((127 - j) * 128) 128 (by omega)]
  refine congrArg₂ (· + ·) (by norm_num) (Finset.sum_congr rfl fun k _ => ?_)
  rw [b29_apply s hj, b35_apply s hj, H.k_r, H.v_r, H.kd_r]

/-- What holds after `n` trips. -/
structure Inv (u : ℕ → ℕ → ℕ → ℝ) (lg : ℕ → ℕ → ℝ) (sf sr : ℕ → ℕ → ℕ → ℕ → EReal) (n : ℕ) (s : State Ideal) : Prop where
  fixed : Fixed u lg s
  st_f : ∀ (b : Fin 2) (h : Fin 4) (d : Fin 256) (e : Fin 512), s.main_v100_15 (ix4 b h d e) = SF u lg sf b.val h.val d.val e.val (n * 128)
  st_r : ∀ (b : Fin 2) (h : Fin 4) (d : Fin 256) (e : Fin 512), s.main_v100_16 (ix4 b h d e) = SR u lg sr b.val h.val d.val e.val (16384 - n * 128)
  o_f : ∀ c : Fin 128, c.val < n → ∀ (b : Fin 2) (h : Fin 4) (i : Fin 128) (e : Fin 512),
    s.main_v100_17 (ix5 c b h i e) = PF u lg sf b.val h.val (c.val * 128) i.val e.val
  o_r : ∀ c : Fin 128, c.val < n → ∀ (b : Fin 2) (h : Fin 4) (i : Fin 128) (e : Fin 512),
    s.main_v100_18 (ix5 c b h i e) = PR u lg sr b.val h.val ((127 - c.val) * 128) i.val e.val

theorem inv_step {s : State Ideal} {n : ℕ} (hn : n < 128) (H : Inv u lg sf sr n s) : Inv u lg sf sr (n + 1) (step n s) where
  fixed := fixed_step H.fixed n
  st_f b h d e := (congrFun (step_main_v100_15 n s) _).trans (next_f H.fixed hn H.st_f b h d e)
  st_r b h d e := by
    refine (congrFun (step_main_v100_16 n s) _).trans ?_
    rw [show 16384 - (n + 1) * 128 = (127 - n) * 128 by omega]
    refine next_r H.fixed hn (fun b h d e => ?_) b h d e
    rw [H.st_r, show 16384 - n * 128 = (127 - n) * 128 + 128 by omega]
  o_f c hc b h i e := by
    refine (congrFun (step_main_v100_17 n s) _).trans ((w_f s hn c b h i e).trans ?_)
    by_cases hcn : c.val = n
    · rw [if_pos hcn, out_f H.fixed hn H.st_f, hcn]
    · rw [if_neg hcn, H.o_f c (by omega)]
  o_r c hc b h i e := by
    refine (congrFun (step_main_v100_18 n s) _).trans ((w_r s hn c b h i e).trans ?_)
    by_cases hcn : c.val = n
    · rw [if_pos hcn, out_r H.fixed hn, hcn]
      intro b h d e
      rw [H.st_r, show 16384 - n * 128 = (127 - n) * 128 + 128 by omega]
    · rw [if_neg hcn, H.o_r c (by omega)]

theorem inv {it : ℕ → State Ideal} (h0 : Inv u lg sf sr 0 (it 0)) (hs : ∀ n, it (n + 1) = step n (it n)) : ∀ n, n ≤ 128 → Inv u lg sf sr n (it n)
  | 0, _ => h0
  | n + 1, hn => by rw [hs]; exact inv_step (by omega) (inv h0 hs n (by omega))

theorem inv_init (U : (⟨S2x16384x6144, .bf16⟩ : BufTy).Contents (Elt Ideal)) (L : (⟨S2x4, .f32⟩ : BufTy).Contents (Elt Ideal))
    (X Y : (⟨S2x4x256x512, .f32⟩ : BufTy).Contents (Elt Ideal))
    (hu : ∀ y : S2x16384x6144.Idx, U y = ((u (y 0).val (y 1).val (y 2).val : ℝ) : EReal))
    (hl : ∀ y : S2x4.Idx, L y = ((lg (y 0).val (y 1).val : ℝ) : EReal))
    (hx : ∀ y : S2x4x256x512.Idx, (X y : EReal) = sf (y 0).val (y 1).val (y 2).val (y 3).val)
    (hy : ∀ y : S2x4x256x512.Idx, (Y y : EReal) = sr (y 0).val (y 1).val (y 2).val (y 3).val) :
    Inv u lg sf sr 0 (init X Y U L) where
  fixed := fixed_init U L X Y hu hl
  st_f b h d e := by
    rw [Nat.zero_mul, SF, Decay.FS_zero]
    exact hx _
  st_r b h d e := by
    rw [Nat.zero_mul, SR, Nat.sub_zero, Decay.RS_top]
    exact hy _
  o_f c hc := absurd hc (Nat.not_lt_zero _)
  o_r c hc := absurd hc (Nat.not_lt_zero _)

/-! The result after the loop. -/

/-- The two passes' outputs summed, by position. -/
def oArr (s : State Ideal) : FVec Ideal S2x16384x4x512 .f32 :=
  addf (shapeCast _ (transpose S2x128x128x4x512 [1, 0, 3, 2, 4] (s.main_v100_17) transposes_S128x2x4x128x512_S2x128x128x4x512_1_0_3_2_4) shapeCasts_S2x128x128x4x512_S2x16384x4x512)
    (shapeCast _ (transpose S2x128x128x4x512 [1, 0, 3, 2, 4] (Host.reverse [0] (s.main_v100_18)) transposes_S128x2x4x128x512_S2x128x128x4x512_1_0_3_2_4) shapeCasts_S2x128x128x4x512_S2x16384x4x512)

/-- The means over a head's components. -/
def mArr (x : FVec Ideal S2x16384x4x512 .f32) : FVec Ideal S2x16384x4x1 .f32 :=
  Host.divf (broadcastInDim S2x16384x4x1 ![0, 1, 2] bcast_S2x16384x4_S2x16384x4x1_0_1_2 (Host.reduceAdd x (constant S_ .f32 0x00000000#32) reducesTo_S2x16384x4x512_S2x16384x4_d3 h_S_))
    (broadcastInDim S2x16384x4x1 ![] bcast_S_S2x16384x4x1 (constant S_ .f32 0x44000000#32))

/-- The components less their mean. -/
def cArr (x : FVec Ideal S2x16384x4x512 .f32) : FVec Ideal S2x16384x4x512 .f32 :=
  subf x (broadcastInDim S2x16384x4x512 ![0, 1, 2, 3] bcast_S2x16384x4x1_S2x16384x4x512_0_1_2_3 (mArr x))

/-- The head norm. -/
def hnArr (x : FVec Ideal S2x16384x4x512 .f32) : FVec Ideal S2x16384x4x512 .f32 :=
  mulf (cArr x) (broadcastInDim S2x16384x4x512 ![0, 1, 2, 3] bcast_S2x16384x4x1_S2x16384x4x512_0_1_2_3
    (Host.rsqrt (addf (mArr (mulf (cArr x) (cArr x))) (broadcastInDim S2x16384x4x1 ![] bcast_S_S2x16384x4x1 (constant S_ .f32 0x358637BD#32)))))

theorem result_eq (s : State Ideal) : R_main_v126 s
    = truncf .bf16 (shapeCast _ (hnArr (oArr s)) shapeCasts_S2x16384x4x512_S2x16384x2048) bitsLt_bf16_f32 := rfl

theorem mArr_apply (x : FVec Ideal S2x16384x4x512 .f32) (b : Fin 2) (n : Fin 16384) (h : Fin 4) :
    mArr x (ix4 b n h 0) = mean (fun i => x (ix4 b n h i)) := by
  unfold mArr mean
  rw [hostDivf_apply]
  refine congrArg₂ Ideal.div ?_ (broadcastInDim_scalar_apply _ _ _)
  refine (bc (ix3 b n h) (by intro a; fin_cases a <;> rfl)).trans ?_
  rw [hostReduceAdd_apply]
  refine (Ideal.hostReduceAdd_r4_a3 _ _ _ _).trans ?_
  show Ideal.ofBits .f32 0x00000000#32 + _ = _
  rw [Ideal.ofBits_zero_f32, zero_add]
  rfl

theorem cArr_apply (x : FVec Ideal S2x16384x4x512 .f32) (b : Fin 2) (n : Fin 16384) (h : Fin 4) (e : Fin 512) :
    cArr x (ix4 b n h e) = x (ix4 b n h e) - mean (fun i => x (ix4 b n h i)) := by
  unfold cArr
  refine congrArg (x (ix4 b n h e) - ·) ?_
  exact (bc (ix4 b n h 0) (by intro a; fin_cases a <;> rfl)).trans (mArr_apply x b n h)

theorem hnArr_apply (x : FVec Ideal S2x16384x4x512 .f32) (b : Fin 2) (n : Fin 16384) (h : Fin 4) (e : Fin 512) :
    hnArr x (ix4 b n h e) = HN (fun i => x (ix4 b n h i)) e := by
  unfold hnArr HN
  refine congrArg₂ (· * ·) (cArr_apply x b n h e) ?_
  refine (bc (ix4 b n h 0) (by intro a; fin_cases a <;> rfl)).trans ?_
  refine congrArg Ideal.rsqrt (congrArg₂ (· + ·) ?_ (broadcastInDim_scalar_apply _ _ _))
  refine (mArr_apply _ b n h).trans (congrArg mean (funext fun i => ?_))
  exact congrArg₂ (fun p q : EReal => p * q) (cArr_apply x b n h i) (cArr_apply x b n h i)

theorem oArr_apply {s : State Ideal} (H : Inv u lg sf sr 128 s) (b : Fin 2) (n : Fin 16384) (h : Fin 4) (e : Fin 512) :
    oArr s (ix4 b n h e) = OO u lg sf sr b.val h.val n.val e.val := by
  have hn : n.val / 128 * 128 + n.val % 128 = n.val := by omega
  have hw : ∀ x : FVec Ideal S128x2x4x128x512 .f32,
      shapeCast S2x16384x4x512 (transpose S2x128x128x4x512 [1, 0, 3, 2, 4] x transposes_S128x2x4x128x512_S2x128x128x4x512_1_0_3_2_4) shapeCasts_S2x128x128x4x512_S2x16384x4x512 (ix4 b n h e)
        = x (ix5 (⟨n.val / 128, by omega⟩ : Fin 128) b h (⟨n.val % 128, by omega⟩ : Fin 128) e) := fun x => by
    refine (shapeCast_apply _ _ (ix4 b n h e) (ix5 b (⟨n.val / 128, by omega⟩ : Fin 128) (⟨n.val % 128, by omega⟩ : Fin 128) h e) ?_).trans ?_
    · rw [Shape.rowMajor_val_four, Shape.rowMajor_val_five]
      show (((b.val * 128 + n.val / 128) * 128 + n.val % 128) * 4 + h.val) * 512 + e.val = ((b.val * 16384 + n.val) * 4 + h.val) * 512 + e.val
      omega
    exact transpose_apply _ _ _ _ _ (by intro a; fin_cases a <;> rfl)
  unfold oArr
  refine (congrArg₂ (fun p q : EReal => p + q) (hw _) (hw _)).trans ?_
  rw [H.o_f _ (by show n.val / 128 < 128; omega)]
  have hr : Host.reverse [0] s.main_v100_18 (ix5 (⟨n.val / 128, by omega⟩ : Fin 128) b h (⟨n.val % 128, by omega⟩ : Fin 128) e)
      = s.main_v100_18 (ix5 (⟨127 - n.val / 128, by omega⟩ : Fin 128) b h (⟨n.val % 128, by omega⟩ : Fin 128) e) := by
    unfold Host.reverse
    refine congrArg s.main_v100_18 (funext fun a => Fin.ext ?_)
    match a with
    | ⟨0, _⟩ => show (Fin.rev (⟨n.val / 128, by omega⟩ : Fin 128)).val = 127 - n.val / 128; rw [Fin.val_rev]; show 128 - (n.val / 128 + 1) = _; omega
    | ⟨1, _⟩ => rfl
    | ⟨2, _⟩ => rfl
    | ⟨3, _⟩ => rfl
    | ⟨4, _⟩ => rfl
  rw [hr, H.o_r _ (by show 127 - n.val / 128 < 128; omega)]
  show PF u lg sf b.val h.val (n.val / 128 * 128) (n.val % 128) e.val + PR u lg sr b.val h.val ((127 - (127 - n.val / 128)) * 128) (n.val % 128) e.val = _
  rw [show 127 - (127 - n.val / 128) = n.val / 128 by omega, both u lg sf sr b.val h.val (n.val / 128 * 128) (n.val % 128) e.val (by omega) (by omega), hn]

/-- The outputs in closed form. -/
theorem result_o {s : State Ideal} (H : Inv u lg sf sr 128 s) : R_main_v126 s = fun y : S2x16384x2048.Idx =>
    HN (fun i => OO u lg sf sr (y 0).val ((y 2).val / 512) (y 1).val i.val) ⟨(y 2).val % 512, Nat.mod_lt _ (by decide)⟩ := by
  rw [result_eq]
  funext y
  have h2 : (y 2).val < 2048 := (y 2).isLt
  show shapeCast S2x16384x2048 (hnArr (oArr s)) shapeCasts_S2x16384x4x512_S2x16384x2048 y = _
  refine (shapeCast_apply _ _ y (ix4 (y 0) (y 1) (⟨(y 2).val / 512, by omega⟩ : Fin 4) (⟨(y 2).val % 512, by omega⟩ : Fin 512)) ?_).trans ?_
  · rw [Shape.rowMajor_val_four, Shape.rowMajor_val_three]
    show (((y 0).val * 16384 + (y 1).val) * 4 + (y 2).val / 512) * 512 + (y 2).val % 512 = ((y 0).val * 16384 + (y 1).val) * 2048 + (y 2).val
    omega
  refine (hnArr_apply _ _ _ _ _).trans ?_
  refine congrArg (fun x => HN x _) (funext fun i => ?_)
  exact oArr_apply H _ _ _ _

theorem result_f {s : State Ideal} (H : Inv u lg sf sr 128 s) : s.main_v100_15 = fun y : S2x4x256x512.Idx =>
    SF u lg sf (y 0).val (y 1).val (y 2).val (y 3).val 16384 := by
  funext y
  rw [eq_ix4 y]
  exact H.st_f _ _ _ _

theorem result_r {s : State Ideal} (H : Inv u lg sf sr 128 s) : s.main_v100_16 = fun y : S2x4x256x512.Idx =>
    SR u lg sr (y 0).val (y 1).val (y 2).val (y 3).val 0 := by
  funext y
  rw [eq_ix4 y]
  exact H.st_r _ _ _ _

end Cert.ReferenceIdeal.Ref
-- ==== Proof.Final.lean ====
/-
  The value claim: the three results of the two calls and of the reference in the same closed form, over finite projections
  and decay logarithms and any entry states.
-/
module

public import proofs.«01_k».proof.Defs
public import proofs.«01_k».proof.Proof.St.Sweep
public import proofs.«01_k».proof.Proof.Mn.Sweep
public import proofs.«01_k».proof.Proof.Whole
public import proofs.«01_k».proof.Proof.Ref.Trips
public import proofs.«01_k».proof.Proof.Ref.Sweep
public import Idealize.ShloMosaic.Lib.ReduceAll

@[expose] public section

set_option maxRecDepth 16384

noncomputable section

namespace Cert.Pre_real_inputs

open Idealize.ShloMosaic

/-- The precondition's own side conditions. -/
theorem facts : Cert.Pre_real_inputs.Facts where
  bitsLt_bf16_f32 := by decide
  bcast_S_S2x16384x6144 := by decide
  reducesTo_S2x16384x6144_S_d0_1_2 := by decide
  h_S_ := by decide
  bcast_S_S2x4 := by decide
  reducesTo_S2x4_S_d0_1 := by decide

/-- A value whose absolute value is below infinity is a real. -/
theorem real_of_olt (x : EReal)
    (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    revert h
    unfold Ideal.cmp
    simp [hn]
  rw [max_lt_iff] at hlt
  refine (EReal.coe_toReal hlt.1.ne ?_).symm
  rintro rfl
  simp at hlt

instance : Subsingleton S_.Idx := ⟨fun a b => funext fun k => k.elim0⟩

/-- What the precondition says of the projections and of the decay logarithms. -/
theorem real (H : Cert.Pre_real_inputs.Facts) (U : FVec Ideal S2x16384x6144 .bf16) (L : FVec Ideal S2x4 .f32)
    (X Y : FVec Ideal S2x4x256x512 .f32) (h : fn (F := Ideal) U L X Y = fun _ => 1#1) :
    (∀ i, (U i : EReal) = ((EReal.toReal (U i) : ℝ) : EReal)) ∧ ∀ i, (L i : EReal) = ((EReal.toReal (L i) : ℝ) : EReal) := by
  have h1 := IntOp.andi_eq_one.1 (congrFun h (fun k => k.elim0))
  exact ⟨fun i => real_of_olt _ (Host.reduce_andi_all _ _ H.reducesTo_S2x16384x6144_S_d0_1_2 H.h_S_ _ h1.1 i),
    fun i => real_of_olt _ (Host.reduce_andi_all _ _ H.reducesTo_S2x4_S_d0_1 H.h_S_ _ h1.2 i)⟩

end Cert.Pre_real_inputs

namespace Cert.Proof

open Cert.Ret Cert.Values
open Idealize.ShloMosaic hiding ix0 ix1 ix2 ix3 ix4 ix5 eq_ix2 eq_ix3 eq_ix4 ix6
open Idealize.ShloMosaic.ValueIdx
open Idealize.ShloMosaic.TcCoe
open Idealize.SL.Sem
open Cert.KernelIdeal

section
variable (U : (⟨S2x16384x6144, .bf16⟩ : BufTy).Contents (Elt Ideal)) (L : (⟨S2x4, .f32⟩ : BufTy).Contents (Elt Ideal))
  (X : (⟨S2x4x256x512, .f32⟩ : BufTy).Contents (Elt Ideal))

/-- The projections' array over natural indices. -/
def uN (b n j : ℕ) : ℝ := EReal.toReal (U (ix3 (Fin.ofNat 2 b) (Fin.ofNat 16384 n) (Fin.ofNat 6144 j)))
/-- The decay logarithms over natural indices. -/
def lN (i h : ℕ) : ℝ := EReal.toReal (L (ix2 (Fin.ofNat 2 i) (Fin.ofNat 4 h)))
/-- An entry state over natural indices. -/
def sN (b h d e : ℕ) : EReal := X (ix4 (Fin.ofNat 2 b) (Fin.ofNat 4 h) (Fin.ofNat 256 d) (Fin.ofNat 512 e))

theorem ofNat_val {n : ℕ} [NeZero n] (i : Fin n) : Fin.ofNat n i.val = i := Fin.ext (Nat.mod_eq_of_lt i.isLt)

theorem uN_eq (h : ∀ i, (U i : EReal) = ((EReal.toReal (U i) : ℝ) : EReal)) (y : S2x16384x6144.Idx) :
    (U y : EReal) = ((uN U (y 0).val (y 1).val (y 2).val : ℝ) : EReal) := by
  refine (h y).trans (congrArg (fun i => ((EReal.toReal (U i) : ℝ) : EReal)) ?_)
  exact funext fun a => match a with
    | ⟨0, _⟩ => (ofNat_val (n := 2) (y 0)).symm
    | ⟨1, _⟩ => (ofNat_val (n := 16384) (y 1)).symm
    | ⟨2, _⟩ => (ofNat_val (n := 6144) (y 2)).symm

theorem lN_eq (h : ∀ i, (L i : EReal) = ((EReal.toReal (L i) : ℝ) : EReal)) (y : S2x4.Idx) :
    (L y : EReal) = ((lN L (y 0).val (y 1).val : ℝ) : EReal) := by
  refine (h y).trans (congrArg (fun i => ((EReal.toReal (L i) : ℝ) : EReal)) ?_)
  exact funext fun a => match a with
    | ⟨0, _⟩ => (ofNat_val (n := 2) (y 0)).symm
    | ⟨1, _⟩ => (ofNat_val (n := 4) (y 1)).symm

theorem sN_eq (y : S2x4x256x512.Idx) : (X y : EReal) = sN X (y 0).val (y 1).val (y 2).val (y 3).val := by
  refine congrArg X (funext fun a => ?_)
  exact match a with
    | ⟨0, _⟩ => (ofNat_val (n := 2) (y 0)).symm
    | ⟨1, _⟩ => (ofNat_val (n := 4) (y 1)).symm
    | ⟨2, _⟩ => (ofNat_val (n := 256) (y 2)).symm
    | ⟨3, _⟩ => (ofNat_val (n := 512) (y 3)).symm

end

section
variable (m : (ℓ : Loc nD τ sig) → Buf (Elt Ideal) ℓ) (c : Dev nD)

abbrev mU : (⟨S2x16384x6144, .bf16⟩ : BufTy).Contents (Elt Ideal) := m ((c.tc : Thread nD τ).loc main_arg0)
abbrev mL : (⟨S2x4, .f32⟩ : BufTy).Contents (Elt Ideal) := m ((c.tc : Thread nD τ).loc main_arg1)
abbrev mF : (⟨S2x4x256x512, .f32⟩ : BufTy).Contents (Elt Ideal) := m ((c.tc : Thread nD τ).loc main_arg2)
abbrev mR : (⟨S2x4x256x512, .f32⟩ : BufTy).Contents (Elt Ideal) := m ((c.tc : Thread nD τ).loc main_arg3)

/-- The retention's outputs. -/
def valO : (⟨S2x16384x2048, .bf16⟩ : BufTy).Contents (Elt Ideal) := fun y : S2x16384x2048.Idx =>
  HN (fun i => OO (uN (mU m c)) (lN (mL m c)) (sN (mF m c)) (sN (mR m c)) (y 0).val ((y 2).val / 512) (y 1).val i.val)
    ⟨(y 2).val % 512, Nat.mod_lt _ (by decide)⟩
/-- The final forward state. -/
def valF : (⟨S2x4x256x512, .f32⟩ : BufTy).Contents (Elt Ideal) := fun y : S2x4x256x512.Idx =>
  SF (uN (mU m c)) (lN (mL m c)) (sN (mF m c)) (y 0).val (y 1).val (y 2).val (y 3).val 16384
/-- The final reverse state. -/
def valR : (⟨S2x4x256x512, .f32⟩ : BufTy).Contents (Elt Ideal) := fun y : S2x4x256x512.Idx =>
  SR (uN (mU m c)) (lN (mL m c)) (sN (mR m c)) (y 0).val (y 1).val (y 2).val (y 3).val 0

variable (h : (∀ i, (mU m c i : EReal) = ((EReal.toReal (mU m c i) : ℝ) : EReal)) ∧ ∀ i, (mL m c i : EReal) = ((EReal.toReal (mL m c i) : ℝ) : EReal))
include h

open Whole in
theorem sr_eq : oSr m c = fun y : S2x64x4x256x512.Idx =>
    SR (uN (mU m c)) (lN (mL m c)) (sN (mR m c)) (y 0).val (y 2).val (y 3).val (y 4).val ((y 1).val * 256 + 256) :=
  St.arr_sr (ent m W0) c (uN_eq (mU m c) h.1) (lN_eq (mL m c) h.2) (sN_eq (mR m c))

open Whole in
theorem ser_eq : oSer m c = valR m c :=
  St.arr_se (ent m W0) c (uN_eq (mU m c) h.1) (lN_eq (mL m c) h.2) (sN_eq (mR m c))

open Whole in
theorem w1_sr (y : S2x64x4x256x512.Idx) : ((ent m W1 c main_v0_0) y : EReal)
    = SR (uN (mU m c)) (lN (mL m c)) (sN (mR m c)) (y 0).val (y 2).val (y 3).val (y 4).val ((y 1).val * 256 + 256) :=
  (congrFun (W1_main_v0_0 m c) y).trans (congrFun (sr_eq m c h) y)

open Whole in
theorem o_eq : oO m c = valO m c :=
  Mn.arr_o (ent m W1) c
    (fun y => (congrFun (W1_of m c main_arg0 (by decide)) y).trans (uN_eq (mU m c) h.1 y))
    (fun y => (congrFun (W1_of m c main_arg1 (by decide)) y).trans (lN_eq (mL m c) h.2 y))
    (fun y => (congrFun (W1_of m c main_arg2 (by decide)) y).trans (sN_eq (mF m c) y))
    (w1_sr m c h)

open Whole in
theorem sef_eq : oSef m c = valF m c :=
  Mn.arr_se (ent m W1) c
    (fun y => (congrFun (W1_of m c main_arg0 (by decide)) y).trans (uN_eq (mU m c) h.1 y))
    (fun y => (congrFun (W1_of m c main_arg1 (by decide)) y).trans (lN_eq (mL m c) h.2 y))
    (fun y => (congrFun (W1_of m c main_arg2 (by decide)) y).trans (sN_eq (mF m c) y))
    (w1_sr m c h)

end

/-- A state iterated from the loop's start. -/
def iter (s : Cert.ReferenceIdeal.Step.State Ideal) : ℕ → Cert.ReferenceIdeal.Step.State Ideal
  | 0 => s
  | n + 1 => Cert.ReferenceIdeal.Step.step n (iter s n)

/-- The value claim. -/
theorem algebraic : Cert.algebraic_KernelIdeal_ReferenceIdeal_pre_real_inputs (hKernelIdeal := Cert.KernelIdeal.Gen.facts)
    (hReferenceIdeal := Cert.ReferenceIdeal.Gen.facts) (hPre_real_inputs := Cert.Pre_real_inputs.facts) := by
  intro m g m' g' hpre heq
  have hreal : ∀ c : Dev nD, _ := fun c => Cert.Pre_real_inputs.real Cert.Pre_real_inputs.facts (mU m c) (mL m c) (mF m c) (mR m c) (hpre c)
  refine ⟨valO m, valF m, valR m, ?_, ?_⟩
  · refine (θ_run Cert.KernelIdeal.defs _ _).mono (fun r hr c => ?_) (Cert.KernelIdeal.Whole.run_main (F := Ideal) m g)
    obtain ⟨h0, h1, h2, h3⟩ := hr.1 c
    exact ⟨h0.trans (o_eq m c (hreal c)), h1.trans (sef_eq m c (hreal c)), h2.trans (ser_eq m c (hreal c)), h3⟩
  · refine (θ_run Cert.ReferenceIdeal.defs _ _).mono (fun r hr c => ?_)
      (Cert.ReferenceIdeal.Trips.run_iter (F := Ideal) m' g' (fun c => iter (Cert.ReferenceIdeal.Trips.initState m' c)) (fun _ => rfl) fun _ _ => rfl)
    obtain ⟨h0, h1, h2, h3⟩ := hr c
    have hi : Cert.ReferenceIdeal.Ref.Inv (uN (mU m c)) (lN (mL m c)) (sN (mF m c)) (sN (mR m c)) 128
        (iter (Cert.ReferenceIdeal.Trips.initState m' c) 128) := by
      refine Cert.ReferenceIdeal.Ref.inv (it := iter (Cert.ReferenceIdeal.Trips.initState m' c)) ?_ (fun _ => rfl) 128 le_rfl
      have e : Cert.ReferenceIdeal.Trips.initState m' c = Cert.ReferenceIdeal.Step.init (mF m c) (mR m c) (mU m c) (mL m c) := by
        unfold Cert.ReferenceIdeal.Trips.initState
        rw [(heq c).1, (heq c).2.1, (heq c).2.2.1, (heq c).2.2.2]
      show Cert.ReferenceIdeal.Ref.Inv _ _ _ _ 0 (Cert.ReferenceIdeal.Trips.initState m' c)
      rw [e]
      exact Cert.ReferenceIdeal.Ref.inv_init _ _ _ _ (uN_eq (mU m c) (hreal c).1) (lN_eq (mL m c) (hreal c).2) (sN_eq (mF m c)) (sN_eq (mR m c))
    exact ⟨h0.trans (Cert.ReferenceIdeal.Ref.result_o hi), h1.trans (Cert.ReferenceIdeal.Ref.result_f hi), h2.trans (Cert.ReferenceIdeal.Ref.result_r hi), h3⟩

end Cert.Proof
-- ==== Proof.Pj.Spec.lean ====
/-
  The projection between two layers: one row of it over the extended reals.
-/
module

public import proofs.«01_k».proof.Proof.Values
public import proofs.«01_k».proof.Proof.Tools

@[expose] public section

noncomputable section

namespace Cert.Pj

open Idealize.ShloMosaic

/-- The reciprocal root of a row's mean square and the literal. -/
def rms (y : Fin 1024 → EReal) : EReal :=
  Ideal.rsqrt (Ideal.div (∑ i, y i * y i) (Ideal.ofBits .f32 0x44800000#32) + Ideal.ofBits .f32 0x358637BD#32)

/-- The output projection of two rows. -/
def yrow (a b : Fin 1024 → EReal) (w : Fin 2048 → Fin 1024 → EReal) (d : Fin 1024) : EReal :=
  (∑ k : Fin 1024, a k * w ⟨k.val, by omega⟩ d) + ∑ k : Fin 1024, b k * w ⟨1024 + k.val, by omega⟩ d

/-- The residual row: the gated, normalised projection added. -/
def xrow (x y gate post : Fin 1024 → EReal) (d : Fin 1024) : EReal := x d + gate d * ((y d * rms y) * post d)

/-- The next layer's row: normalised, scaled and shifted. -/
def hrow (x pre scale shift : Fin 1024 → EReal) (d : Fin 1024) : EReal :=
  ((x d * rms x) * pre d) * (Ideal.ofBits .f32 0x3F800000#32 + scale d) + shift d

theorem xrow_congr {x y g q x' y' g' q' : Fin 1024 → EReal} (hx : ∀ i, x i = x' i) (hy : ∀ i, y i = y' i) (hg : ∀ i, g i = g' i) (hq : ∀ i, q i = q' i)
    (d : Fin 1024) : xrow x y g q d = xrow x' y' g' q' d := by
  obtain rfl := funext hx; obtain rfl := funext hy; obtain rfl := funext hg; obtain rfl := funext hq; rfl

theorem hrow_congr {x y g q x' y' g' q' : Fin 1024 → EReal} (hx : ∀ i, x i = x' i) (hy : ∀ i, y i = y' i) (hg : ∀ i, g i = g' i) (hq : ∀ i, q i = q' i)
    (d : Fin 1024) : hrow x y g q d = hrow x' y' g' q' d := by
  obtain rfl := funext hx; obtain rfl := funext hy; obtain rfl := funext hg; obtain rfl := funext hq; rfl

theorem yrow_congr {a b a' b' : Fin 1024 → EReal} {w w' : Fin 2048 → Fin 1024 → EReal} (ha : ∀ i, a i = a' i) (hb : ∀ i, b i = b' i)
    (hw : ∀ k i, w k i = w' k i) (d : Fin 1024) : yrow a b w d = yrow a' b' w' d := by
  obtain rfl := funext ha; obtain rfl := funext hb; obtain rfl : w = w' := funext fun k => funext (hw k); rfl

/-- The input projection of one row. -/
def urow (h : Fin 1024 → EReal) (w : Fin 1024 → Fin 6144 → EReal) (e : Fin 6144) : EReal := ∑ k : Fin 1024, h k * w k e

theorem urow_congr {h h' : Fin 1024 → EReal} {w w' : Fin 1024 → Fin 6144 → EReal} (hh : ∀ i, h i = h' i) (hw : ∀ k e, w k e = w' k e) (e : Fin 6144) :
    urow h w e = urow h' w' e := by
  obtain rfl := funext hh; obtain rfl : w = w' := funext fun k => funext (hw k); rfl

/-- The column a column is turned with: the other half of its span of 128. -/
def pair (e : Fin 6144) : Fin 6144 := ⟨e.val / 128 * 128 + (e.val % 128 + 64) % 128, by omega⟩

/-- The first 2048 columns turned by two tables, one for each kind of span. -/
def turn (r : Fin 6144 → EReal) (c s : Fin 2 → Fin 128 → EReal) (e : Fin 6144) : EReal :=
  if e.val < 2048 then r e * c ⟨e.val / 128 % 2, by omega⟩ ⟨e.val % 128, by omega⟩
    + r (pair e) * s ⟨e.val / 128 % 2, by omega⟩ ⟨e.val % 128, by omega⟩ else r e

theorem turn_lt {r : Fin 6144 → EReal} {c s : Fin 2 → Fin 128 → EReal} {e e' : Fin 6144} {a : Fin 2} {l : Fin 128} (he : e.val < 2048)
    (ha : e.val / 128 % 2 = a.val) (hl : e.val % 128 = l.val) (h' : e'.val = e.val / 128 * 128 + (e.val % 128 + 64) % 128) :
    turn r c s e = r e * c a l + r e' * s a l := by
  rw [(Fin.ext h' : e' = pair e), (Fin.ext ha.symm : a = ⟨e.val / 128 % 2, by omega⟩), (Fin.ext hl.symm : l = ⟨e.val % 128, by omega⟩)]
  exact if_pos he

theorem turn_congr {r r' : Fin 6144 → EReal} {c s c' s' : Fin 2 → Fin 128 → EReal} (hr : ∀ e, r e = r' e) (hc : ∀ a l, c a l = c' a l)
    (hs : ∀ a l, s a l = s' a l) (e : Fin 6144) : turn r c s e = turn r' c' s' e := by
  obtain rfl := funext hr; obtain rfl : c = c' := funext fun k => funext (hc k); obtain rfl : s = s' := funext fun k => funext (hs k); rfl

theorem turn_ge {r : Fin 6144 → EReal} {c s : Fin 2 → Fin 128 → EReal} {e : Fin 6144} (he : ¬e.val < 2048) : turn r c s e = r e := if_neg he

/-- The rate of a channel of the rotary embedding. -/
def freq (f : ℕ) : EReal := FloatOps.hostPowf (F := Ideal) (φ := .f32) (FloatOps.ofBits .f32 0x461C4000#32)
  (FloatOps.hostDivf (FloatOps.hostNegf (FloatOps.sitofp .f32 (BitVec.ofNat 32 f))) (FloatOps.ofBits .f32 0x42800000#32))

/-- The angle of a channel at a position. -/
def ang (n f : ℕ) : EReal := (FloatOps.sitofp (F := Ideal) .f32 (BitVec.ofNat 32 n) : EReal) * freq f

/-- The table a column is multiplied by: the cosine, for both halves. -/
def cosT (n l : ℕ) : EReal := FloatOps.hostUnary (F := Ideal) (φ := .f32) .cos (ang n (l % 64))

/-- The table the other half is multiplied by: the sine, negated for the first half. -/
def sinT (n l : ℕ) : EReal :=
  if l < 64 then -(FloatOps.hostUnary (F := Ideal) (φ := .f32) .sin (ang n (l % 64)) : EReal) else FloatOps.hostUnary (F := Ideal) (φ := .f32) .sin (ang n (l % 64))

/-- The literal a column of the weights is scaled by: one sixteenth for the second 1024, one elsewhere. -/
def colScale (e : ℕ) : EReal := if 1024 ≤ e ∧ e < 2048 then Ideal.ofBits .f32 0x3D800000#32 else Ideal.ofBits .f32 0x3F800000#32

end Cert.Pj

end
-- ==== Proof.Pj.Body.lean ====
/-
  The projection's grid point over the extended reals: its payloads read at an index.
-/
module

public import proofs.«01_k».proof.Proof.Gen.Kernel2Ideal.Value
public import proofs.«01_k».proof.Proof.Pj.Spec
public import Idealize.ShloMosaic.Lib.ValueLayoutCasts
public import Idealize.ShloMosaic.Lib.Pointwise.Reduce
public import Idealize.ShloMosaic.Lib.KernelVsHost

@[expose] public section

set_option maxRecDepth 16384

noncomputable section

namespace Cert.Kernel2Ideal.Pj

open Cert.Kernel2Ideal Cert.Kernel2Ideal.Gen Cert.Pj
open Idealize.ShloMosaic hiding ix0 ix1 ix2 ix3 ix4 ix5 eq_ix2 eq_ix3 eq_ix4
open Idealize.ShloMosaic.ValueIdx

theorem mmA_apply (l : FVec Ideal S512x1024 .bf16) (r : FVec Ideal S1024x1024 .bf16) (p : Fin 512) (d : Fin 1024) :
    FloatOps.matmul dot_S512x1024_S1024x1024_S512x1024_1_0_0_1_n_n none l r (constant S512x1024 .f32 0x00000000#32) (ix2 p d)
      = ∑ k : Fin 1024, l (ix2 p k) * r (ix2 k d) := by
  rw [Ideal.matmul_constant_zero_apply]
  rw [← Equiv.sum_comp (contrEquiv1 dot_S512x1024_S1024x1024_S512x1024_1_0_0_1_n_n 1024 rfl rfl).symm]
  refine Finset.sum_congr rfl fun k _ => ?_
  congr 2
  · funext a; fin_cases a <;> rfl
  · funext a; fin_cases a <;> rfl

theorem mmW_apply (l : FVec Ideal S512x1024 .bf16) (r : FVec Ideal S1024x256 .bf16) (p : Fin 512) (d : Fin 256) :
    FloatOps.matmul dot_S512x1024_S1024x256_S512x256_1_0_0_1_n_n none l r (constant S512x256 .f32 0x00000000#32) (ix2 p d)
      = ∑ k : Fin 1024, l (ix2 p k) * r (ix2 k d) := by
  rw [Ideal.matmul_constant_zero_apply]
  rw [← Equiv.sum_comp (contrEquiv1 dot_S512x1024_S1024x256_S512x256_1_0_0_1_n_n 1024 rfl rfl).symm]
  refine Finset.sum_congr rfl fun k _ => ?_
  congr 2
  · funext a; fin_cases a <;> rfl
  · funext a; fin_cases a <;> rfl

theorem same_apply {s : Shape} {α : Type} (x : s.Idx → α) (h : s.ShapeCasts s) (j : s.Idx) : shapeCast s x h j = x j :=
  shapeCast_apply x h j j rfl

/-- The rows over their root mean squares. -/
def scaled (X : FVec Ideal S512x1024 .f32) : FVec Ideal S512x1024 .f32 :=
  mulf X (broadcastTo S512x1024 (rsqrt (addf (divf (shapeCast S512x1 (multiReduction .add [1] S512 (mulf X X) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024)

theorem scaled_apply (X : FVec Ideal S512x1024 .f32) (p : Fin 512) (d : Fin 1024) : scaled X (ix2 p d) = X (ix2 p d) * rms (fun i => X (ix2 p i)) := by
  unfold scaled rms
  refine congrArg (fun x : EReal => X (ix2 p d) * x) ?_
  refine (broadcastTo_apply _ broadcasts_S512x1_S512x1024 (ix2 p d) (ix2 p 0) fun a => ?_).trans ?_
  · match a with
    | ⟨0, _⟩ => rfl
    | ⟨1, _⟩ => rfl
  refine congrArg (fun x : EReal => Ideal.rsqrt (Ideal.div x _ + _)) ?_
  refine (shapeCast_a_a1_apply _ _ p 0).trans ?_
  exact Ideal.reduceAdd_r2_a1 reduces_S512x1024_S512 (mulf X X) (ix1 p)

/-- A row broadcast over the block. -/
theorem row_apply (v : FVec Ideal S1x1024 .f32) (p : Fin 512) (d : Fin 1024) :
    broadcastTo S512x1024 (shapeCast S1x1024 v shapeCasts_S1x1024_S1x1024) broadcasts_S1x1024_S512x1024 (ix2 p d) = v (ix2 0 d) :=
  (broadcastTo_1b_ab_apply _ _ p d).trans (same_apply _ _ _)

theorem mrow_apply (v : FVec Ideal S1x1x1024 .f32) (p : Fin 512) (d : Fin 1024) :
    broadcastTo S512x1024 (shapeCast S1x1024 v shapeCasts_S1x1x1024_S1x1024) broadcasts_S1x1024_S512x1024 (ix2 p d) = v (ix3 0 0 d) :=
  (broadcastTo_1b_ab_apply _ _ p d).trans (shapeCast_1ab_ab_apply _ _ 0 d)

/-- The output projection of the block's two rows. -/
def mixed (a : Vec Ideal S1x512x1024 .bf16) (wa : Vec Ideal S1024x1024 .bf16) (b : Vec Ideal S1x512x1024 .bf16) (wb : Vec Ideal S1024x1024 .bf16) : FVec Ideal S512x1024 .f32 :=
  addf (F := Ideal)
    (FloatOps.matmul (F := Ideal) (φ₁ := .bf16) (φ₂ := .bf16) dot_S512x1024_S1024x1024_S512x1024_1_0_0_1_n_n none (shapeCast S512x1024 a shapeCasts_S1x512x1024_S512x1024)
      (shapeCast S1024x1024 wa shapeCasts_S1024x1024_S1024x1024) (constant S512x1024 .f32 0x00000000#32))
    (FloatOps.matmul (F := Ideal) (φ₁ := .bf16) (φ₂ := .bf16) dot_S512x1024_S1024x1024_S512x1024_1_0_0_1_n_n none (shapeCast S512x1024 b shapeCasts_S1x512x1024_S512x1024)
      (shapeCast S1024x1024 wb shapeCasts_S1024x1024_S1024x1024) (constant S512x1024 .f32 0x00000000#32))

theorem mixed_apply (a : Vec Ideal S1x512x1024 .bf16) (wa : Vec Ideal S1024x1024 .bf16) (b : Vec Ideal S1x512x1024 .bf16) (wb : Vec Ideal S1024x1024 .bf16)
    (p : Fin 512) (i : Fin 1024) :
    mixed a wa b wb (ix2 p i) = (∑ k : Fin 1024, a (ix3 0 p k) * wa (ix2 k i)) + ∑ k : Fin 1024, b (ix3 0 p k) * wb (ix2 k i) :=
  congrArg₂ (fun x y : EReal => x + y)
    ((mmA_apply _ _ p i).trans (Finset.sum_congr rfl fun k _ => congrArg₂ (fun x y : EReal => x * y) (shapeCast_1ab_ab_apply a _ p k) (same_apply wa _ _)))
    ((mmA_apply _ _ p i).trans (Finset.sum_congr rfl fun k _ => congrArg₂ (fun x y : EReal => x * y) (shapeCast_1ab_ab_apply b _ p k) (same_apply wb _ _)))

/-- The residual block, at an index. -/
theorem pay5_apply (x0 : Vec Ideal S1x512x1024 .f32) (a : Vec Ideal S1x512x1024 .bf16) (wa : Vec Ideal S1024x1024 .bf16) (b : Vec Ideal S1x512x1024 .bf16)
    (wb : Vec Ideal S1024x1024 .bf16) (g : Vec Ideal S1x1x1024 .f32) (q : Vec Ideal S1x1024 .f32) (p : Fin 512) (d : Fin 1024) :
    k0_pay5 (F := Ideal) x0 a wa b wb g q (ix2 p d) = xrow (fun i => x0 (ix3 0 p i))
      (fun i => (∑ k : Fin 1024, a (ix3 0 p k) * wa (ix2 k i)) + ∑ k : Fin 1024, b (ix3 0 p k) * wb (ix2 k i)) (fun i => g (ix3 0 0 i)) (fun i => q (ix2 0 i)) d := by
  refine Eq.trans ?_ (congrArg (fun y => xrow _ y _ _ d) (funext fun i => mixed_apply a wa b wb p i))
  unfold xrow
  rw [← scaled_apply (mixed a wa b wb) p d]
  refine congrArg₂ (fun x y : EReal => x + y) (shapeCast_1ab_ab_apply x0 _ p d) ?_
  refine congrArg₂ (fun x y : EReal => x * y) (mrow_apply g p d) ?_
  exact congrArg (fun y : EReal => scaled (mixed a wa b wb) (ix2 p d) * y) (row_apply q p d)

/-- The next layer's block, at an index. -/
theorem pay7_apply (X : FVec Ideal S512x1024 .f32) (q : Vec Ideal S1x1024 .f32) (sc sh : Vec Ideal S1x1x1024 .f32) (p : Fin 512) (d : Fin 1024) :
    k0_pay7 (F := Ideal) X q sc sh (ix2 p d) = hrow (fun i => X (ix2 p i)) (fun i => q (ix2 0 i)) (fun i => sc (ix3 0 0 i)) (fun i => sh (ix3 0 0 i)) d := by
  unfold hrow
  rw [← scaled_apply X p d]
  refine congrArg₂ (fun x y : EReal => x + y) ?_ (mrow_apply sh p d)
  refine congrArg₂ (fun x y : EReal => x * y) (congrArg (fun y : EReal => scaled X (ix2 p d) * y) (row_apply q p d)) ?_
  refine (broadcastTo_1b_ab_apply _ _ p d).trans ?_
  exact congrArg (fun y : EReal => Ideal.ofBits .f32 0x3F800000#32 + y) (shapeCast_1ab_ab_apply sc _ 0 d)

variable {F : FTy → Type} [FloatOps F]

/-- One span of 256 columns of the input projection. -/
def prod (h : FVec F S512x1024 .bf16) (w : Vec F S1024x256 .bf16) : FVec F S512x256 .f32 :=
  matmul dot_S512x1024_S1024x256_S512x256_1_0_0_1_n_n none h (shapeCast S1024x256 w shapeCasts_S1024x256_S1024x256) (constant S512x256 .f32 0x00000000#32)

/-- A span stored as it is. -/
def plain (r : FVec F S512x256 .f32) : FVec F S1x512x256 .bf16 := shapeCast S1x512x256 (truncf .bf16 r bitsLt_bf16_f32) shapeCasts_S512x256_S1x512x256

/-- Half a span turned by its table. -/
def half (x : FVec F S512x128 .f32) (c s : FVec F S512x128 .f32) : FVec F S512x128 .f32 :=
  addf (mulf x c) (mulf (dynamicRotate 1 64#32 none x rotates_S512x128_d1) s)

/-- A span with both halves turned. -/
def roped (c1 s1 c2 s2 : FVec F S512x128 .f32) (r : FVec F S512x256 .f32) : FVec F S1x512x256 .bf16 :=
  plain (concatenate S512x256 1 [⟨S512x128, half (extractStridedSlice S512x128 ![0, 0] r slices_S512x256_o0_0_S512x128) c1 s1⟩,
    ⟨S512x128, half (extractStridedSlice S512x128 ![0, 128] r slices_S512x256_o0_128_S512x128) c2 s2⟩] concatenates_S512x128_S512x128_S512x256_d1)

theorem prod_apply (h : FVec Ideal S512x1024 .bf16) (w : Vec Ideal S1024x256 .bf16) (p : Fin 512) (l : Fin 256) :
    prod h w (ix2 p l) = ∑ k : Fin 1024, h (ix2 p k) * w (ix2 k l) :=
  (mmW_apply _ _ p l).trans (Finset.sum_congr rfl fun k _ => congrArg (fun y : EReal => h (ix2 p k) * y) (same_apply w _ _))

theorem plain_apply (r : FVec Ideal S512x256 .f32) (p : Fin 512) (l : Fin 256) : plain r (ix3 0 p l) = r (ix2 p l) :=
  shapeCast_ab_1ab_apply _ _ 0 p l

theorem half_apply (x c s : FVec Ideal S512x128 .f32) (p : Fin 512) (l l' : Fin 128) (h : l'.val = (l.val + 64) % 128) :
    half x c s (ix2 p l) = x (ix2 p l) * c (ix2 p l) + x (ix2 p l') * s (ix2 p l) := by
  refine congrArg (fun y : EReal => x (ix2 p l) * c (ix2 p l) + y * s (ix2 p l)) ?_
  refine dynamicRotate_apply 1 64#32 x _ (ix2 p l) (ix2 p l') fun b => ?_
  match b with
  | ⟨0, _⟩ => rfl
  | ⟨1, _⟩ =>
    refine h.trans ?_
    show (l.val + 64) % 128 = (l.val + 128 - 64 % 128) % 128
    omega

theorem lo_apply (r : FVec Ideal S512x256 .f32) (p : Fin 512) (l : Fin 128) :
    extractStridedSlice S512x128 ![0, 0] r slices_S512x256_o0_0_S512x128 (ix2 p l) = r (ix2 p ⟨l.val, by omega⟩) :=
  extractStridedSlice_apply _ r _ _ _ fun a => by
    match a with
    | ⟨0, _⟩ => exact (Nat.zero_add p.val).symm
    | ⟨1, _⟩ => exact (Nat.zero_add l.val).symm

theorem hi_apply (r : FVec Ideal S512x256 .f32) (p : Fin 512) (l : Fin 128) :
    extractStridedSlice S512x128 ![0, 128] r slices_S512x256_o0_128_S512x128 (ix2 p l) = r (ix2 p ⟨128 + l.val, by omega⟩) :=
  extractStridedSlice_apply _ r _ _ _ fun a => by
    match a with
    | ⟨0, _⟩ => exact (Nat.zero_add p.val).symm
    | ⟨1, _⟩ => rfl

theorem roped_lo (c1 s1 c2 s2 : FVec Ideal S512x128 .f32) (r : FVec Ideal S512x256 .f32) (p : Fin 512) (e : Fin 256) (l l' : Fin 128) (he : e.val = l.val)
    (h : l'.val = (l.val + 64) % 128) :
    roped c1 s1 c2 s2 r (ix3 0 p e) = r (ix2 p ⟨l.val, by omega⟩) * c1 (ix2 p l) + r (ix2 p ⟨l'.val, by omega⟩) * s1 (ix2 p l) := by
  refine (plain_apply _ p e).trans ?_
  refine (concatenate_pair_apply_left 1 _ _ concatenates_S512x128_S512x128_S512x256_d1 (ix2 p e) rfl (ix2 p l) fun b => ?_).trans ?_
  · match b with
    | ⟨0, _⟩ => rfl
    | ⟨1, _⟩ => exact he.symm
  · rw [half_apply _ _ _ p l l' h, lo_apply, lo_apply]

theorem roped_hi (c1 s1 c2 s2 : FVec Ideal S512x128 .f32) (r : FVec Ideal S512x256 .f32) (p : Fin 512) (e : Fin 256) (l l' : Fin 128) (he : e.val = 128 + l.val)
    (h : l'.val = (l.val + 64) % 128) :
    roped c1 s1 c2 s2 r (ix3 0 p e) = r (ix2 p ⟨128 + l.val, by omega⟩) * c2 (ix2 p l) + r (ix2 p ⟨128 + l'.val, by omega⟩) * s2 (ix2 p l) := by
  refine (plain_apply _ p e).trans ?_
  refine (concatenate_pair_apply_right 1 _ _ concatenates_S512x128_S512x128_S512x256_d1 (ix2 p e) rfl rfl (ix2 p l) (fun b hb => ?_) ?_).trans ?_
  · match b with
    | ⟨0, _⟩ => rfl
    | ⟨1, _⟩ => exact absurd rfl hb
  · show l.val + 128 = e.val
    omega
  · rw [half_apply _ _ _ p l l' h, hi_apply, hi_apply]

/-- The block of the input projection, at an index. -/
def E (c1 s1 c2 s2 : FVec Ideal S512x128 .f32) (h : FVec Ideal S512x1024 .bf16) (w : Vec Ideal S1024x6144 .bf16) : Vec Ideal S1x512x6144 .bf16 :=
  fun y => turn (urow (fun k => h (ix2 (y 1) k)) fun k e => w (ix2 k e))
    (fun a l => if a.val = 0 then c1 (ix2 (y 1) l) else c2 (ix2 (y 1) l)) (fun a l => if a.val = 0 then s1 (ix2 (y 1) l) else s2 (ix2 (y 1) l)) (y 2)

theorem ix3_of (x : S1x512x256.Idx) : ∃ (p : Fin 512) (l : Fin 256), x = ix3 0 p l := by
  refine ⟨x 1, x 2, funext fun a => Fin.ext ?_⟩
  match a with
  | ⟨0, _⟩ => have h : (x 0).val < 1 := (x 0).isLt; show (x 0).val = 0; omega
  | ⟨1, _⟩ => rfl
  | ⟨2, _⟩ => rfl

/-- The product read at a span's column is the whole product there. -/
theorem prod_ld (h : FVec Ideal S512x1024 .bf16) (w : Vec Ideal S1024x6144 .bf16) (o : ℕ) (hin) (p : Fin 512) (l : Fin 256) (e : Fin 6144) (he : e.val = o + l.val) :
    prod h (View.ld w (Rect.unit (s := S1024x6144) ![0, o] S1024x256.size hin)) (ix2 p l) = urow (fun k => h (ix2 p k)) (fun k e => w (ix2 k e)) e := by
  refine (prod_apply h _ p l).trans (Finset.sum_congr rfl fun k _ => congrArg (fun y : EReal => h (ix2 p k) * y) ?_)
  refine congrArg w (funext fun a => Fin.ext ?_)
  match a with
  | ⟨0, _⟩ => show 0 + 1 * k.val = k.val; omega
  | ⟨1, _⟩ => show o + 1 * l.val = e.val; omega

theorem E_lo (c1 s1 c2 s2 : FVec Ideal S512x128 .f32) (h : FVec Ideal S512x1024 .bf16) (w : Vec Ideal S1024x6144 .bf16) (p : Fin 512) (e e' : Fin 6144) (l : Fin 128)
    (he : e.val < 2048) (ha : e.val / 128 % 2 = 0) (hl : e.val % 128 = l.val) (h' : e'.val = e.val / 128 * 128 + (e.val % 128 + 64) % 128) :
    E c1 s1 c2 s2 h w (ix3 0 p e) = urow (fun k => h (ix2 p k)) (fun k e => w (ix2 k e)) e * c1 (ix2 p l)
      + urow (fun k => h (ix2 p k)) (fun k e => w (ix2 k e)) e' * s1 (ix2 p l) :=
  turn_lt (r := urow (fun k => h (ix2 p k)) (fun k e => w (ix2 k e))) (e := e) (a := 0) (l := l) (e' := e') he ha hl h'

theorem E_hi (c1 s1 c2 s2 : FVec Ideal S512x128 .f32) (h : FVec Ideal S512x1024 .bf16) (w : Vec Ideal S1024x6144 .bf16) (p : Fin 512) (e e' : Fin 6144) (l : Fin 128)
    (he : e.val < 2048) (ha : e.val / 128 % 2 = 1) (hl : e.val % 128 = l.val) (h' : e'.val = e.val / 128 * 128 + (e.val % 128 + 64) % 128) :
    E c1 s1 c2 s2 h w (ix3 0 p e) = urow (fun k => h (ix2 p k)) (fun k e => w (ix2 k e)) e * c2 (ix2 p l)
      + urow (fun k => h (ix2 p k)) (fun k e => w (ix2 k e)) e' * s2 (ix2 p l) :=
  turn_lt (r := urow (fun k => h (ix2 p k)) (fun k e => w (ix2 k e))) (e := e) (a := 1) (l := l) (e' := e') he ha hl h'

theorem plain_piece (c1 s1 c2 s2 : FVec Ideal S512x128 .f32) (h : FVec Ideal S512x1024 .bf16) (w : Vec Ideal S1024x6144 .bf16) (o : ℕ) (ho : 2048 ≤ o) (hin) (hout)
    (x : S1x512x256.Idx) : plain (prod h (View.ld w (Rect.unit (s := S1024x6144) ![0, o] S1024x256.size hin))) x
      = E c1 s1 c2 s2 h w ((Rect.unit (s := S1x512x6144) ![0, 0, o] S1x512x256.size hout).idx x) := by
  obtain ⟨p, l, rfl⟩ := ix3_of x
  have h2 : l.val < 256 := l.isLt
  have hb : o + 256 ≤ 6144 := hout 2
  have e1 : (Rect.unit (s := S1x512x6144) ![0, 0, o] S1x512x256.size hout).idx (ix3 0 p l) = (ix3 0 p ⟨o + l.val, by omega⟩ : S1x512x6144.Idx) := by
    funext a; apply Fin.ext
    match a with
    | ⟨0, _⟩ => rfl
    | ⟨1, _⟩ => show 0 + 1 * p.val = p.val; omega
    | ⟨2, _⟩ => show o + 1 * l.val = o + l.val; omega
  rw [e1]
  refine (plain_apply _ p l).trans ?_
  refine (prod_ld h w o hin p l ⟨o + l.val, by omega⟩ rfl).trans ?_
  exact (turn_ge (fun hh => by simp at hh; omega)).symm

theorem roped_piece (c1 s1 c2 s2 : FVec Ideal S512x128 .f32) (h : FVec Ideal S512x1024 .bf16) (w : Vec Ideal S1024x6144 .bf16) (o : ℕ) (ho : o + 256 ≤ 2048)
    (hm : o % 256 = 0) (hin) (hout) (x : S1x512x256.Idx) :
    roped c1 s1 c2 s2 (prod h (View.ld w (Rect.unit (s := S1024x6144) ![0, o] S1024x256.size hin))) x
      = E c1 s1 c2 s2 h w ((Rect.unit (s := S1x512x6144) ![0, 0, o] S1x512x256.size hout).idx x) := by
  obtain ⟨p, l, rfl⟩ := ix3_of x
  have h2 : l.val < 256 := l.isLt
  have e1 : (Rect.unit (s := S1x512x6144) ![0, 0, o] S1x512x256.size hout).idx (ix3 0 p l) = (ix3 0 p ⟨o + l.val, by omega⟩ : S1x512x6144.Idx) := by
    funext a; apply Fin.ext
    match a with
    | ⟨0, _⟩ => rfl
    | ⟨1, _⟩ => show 0 + 1 * p.val = p.val; omega
    | ⟨2, _⟩ => show o + 1 * l.val = o + l.val; omega
  rw [e1]
  by_cases hl : l.val < 128
  · refine (roped_lo c1 s1 c2 s2 _ p l ⟨l.val, hl⟩ ⟨(l.val + 64) % 128, by omega⟩ rfl rfl).trans ?_
    rw [prod_ld h w o hin p _ ⟨o + l.val, by omega⟩ rfl, prod_ld h w o hin p _ ⟨o + (l.val + 64) % 128, by omega⟩ rfl]
    exact (E_lo c1 s1 c2 s2 h w p ⟨o + l.val, by omega⟩ ⟨o + (l.val + 64) % 128, by omega⟩ ⟨l.val, hl⟩ (by show o + l.val < 2048; omega)
      (by show (o + l.val) / 128 % 2 = 0; omega) (by show (o + l.val) % 128 = l.val; omega)
      (by show o + (l.val + 64) % 128 = (o + l.val) / 128 * 128 + ((o + l.val) % 128 + 64) % 128; omega)).symm
  · refine (roped_hi c1 s1 c2 s2 _ p l ⟨l.val - 128, by omega⟩ ⟨(l.val - 128 + 64) % 128, by omega⟩ (by show l.val = 128 + (l.val - 128); omega) rfl).trans ?_
    rw [prod_ld h w o hin p _ ⟨o + l.val, by omega⟩ (by show o + l.val = o + (128 + (l.val - 128)); omega),
      prod_ld h w o hin p _ ⟨o + (128 + (l.val - 128 + 64) % 128), by omega⟩ rfl]
    exact (E_hi c1 s1 c2 s2 h w p ⟨o + l.val, by omega⟩ ⟨o + (128 + (l.val - 128 + 64) % 128), by omega⟩ ⟨l.val - 128, by omega⟩ (by show o + l.val < 2048; omega)
      (by show (o + l.val) / 128 % 2 = 1; omega) (by show (o + l.val) % 128 = l.val - 128; omega)
      (by show o + (128 + (l.val - 128 + 64) % 128) = (o + l.val) / 128 * 128 + ((o + l.val) % 128 + 64) % 128; omega)).symm

end Cert.Kernel2Ideal.Pj

end
-- ==== Proof.Pj.Out.lean ====
/-
  The projection's grid point over the extended reals: its two blocks at an index.
-/
module

public import proofs.«01_k».proof.Proof.Pj.Body
public import Idealize.ShloMosaic.Lib.Pipeline.Value

@[expose] public section

set_option maxRecDepth 16384

noncomputable section

namespace Cert.Kernel2Ideal.Pj

open Cert.Kernel2Ideal Cert.Kernel2Ideal.Gen Cert.Pj
open Idealize.ShloMosaic hiding ix0 ix1 ix2 ix3 ix4 ix5 eq_ix2 eq_ix3 eq_ix4
open Idealize.ShloMosaic.ValueIdx

/-- One row of eight, over 64 rows. -/
def spread {F : FTy → Type} [FloatOps F] (v : Vec F S1x128 .f32) : FVec F S64x128 .f32 :=
  broadcastTo S64x128 (shapeCast S1x128 (shapeCast S1x128 v shapeCasts_S1x128_S1x128) shapeCasts_S1x128_S1x128) broadcasts_S1x128_S64x128

theorem spread_apply (v : Vec Ideal S1x128 .f32) (p : Fin 64) (l : Fin 128) : spread v (ix2 p l) = v (ix2 0 l) :=
  (broadcastTo_1b_ab_apply _ _ p l).trans ((same_apply _ _ _).trans (same_apply _ _ _))

/-- Eight blocks of 64 rows one below another. -/
def eight {F : FTy → Type} [FloatOps F] (f : Fin 8 → FVec F S64x128 .f32) : FVec F S512x128 .f32 :=
  concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S512x128_d0

theorem eight_apply (f : Fin 8 → FVec Ideal S64x128 .f32) (p : Fin 512) (l : Fin 128) :
    eight f (ix2 p l) = f ⟨p.val / 64, by omega⟩ (ix2 ⟨p.val % 64, by omega⟩ l) :=
  concatenate_ofFn_apply (t := S512x128) (s₁ := S64x128) 0 f concatenates_S64x128_S64x128_S64x128_S64x128_S64x128_S64x128_S64x128_S64x128_S512x128_d0
    rfl 64 rfl (ix2 p l) ⟨p.val / 64, by omega⟩ rfl (ix2 ⟨p.val % 64, by omega⟩ l) rfl fun b hb => by
    match b with
    | ⟨0, _⟩ => exact absurd rfl hb
    | ⟨1, _⟩ => rfl

/-- The row tables' block. -/
theorem rowTab_apply (T : Vec Ideal S8x128 .f32) (p : Fin 512) (l : Fin 128) :
    k0_pay11 (F := Ideal) (k0_pay8 (View.ld T r0_5)) (k0_pay9 (View.ld T r0_6)) (k0_pay10 (View.ld T r0_7)) (View.ld T r0_8) (View.ld T r0_9) (View.ld T r0_10)
      (View.ld T r0_11) (View.ld T r0_12) (ix2 p l) = T (ix2 ⟨p.val / 64, by omega⟩ l) := by
  let f : Fin 8 → Vec Ideal S1x128 .f32 := ![View.ld T r0_5, View.ld T r0_6, View.ld T r0_7, View.ld T r0_8, View.ld T r0_9, View.ld T r0_10, View.ld T r0_11, View.ld T r0_12]
  refine (eight_apply (fun g => spread (f g)) p l).trans ((spread_apply _ _ l).trans ?_)
  have hk : ∀ g : Fin 8, f g (ix2 0 l) = T (ix2 g l) := fun g => by
    have hx : ∀ (o : ℕ) (h) (g : Fin 8), o = g.val → View.ld T (Rect.unit (s := S8x128) ![o, 0] S1x128.size h) (ix2 0 l) = T (ix2 g l) := fun o h g e => by
      refine congrArg T (funext fun a => Fin.ext ?_)
      match a with
      | ⟨0, _⟩ => exact e
      | ⟨1, _⟩ => show 0 + 1 * l.val = l.val; omega
    match g with
    | ⟨0, _⟩ => exact hx 0 _ 0 rfl
    | ⟨1, _⟩ => exact hx 1 _ 1 rfl
    | ⟨2, _⟩ => exact hx 2 _ 2 rfl
    | ⟨3, _⟩ => exact hx 3 _ 3 rfl
    | ⟨4, _⟩ => exact hx 4 _ 4 rfl
    | ⟨5, _⟩ => exact hx 5 _ 5 rfl
    | ⟨6, _⟩ => exact hx 6 _ 6 rfl
    | ⟨7, _⟩ => exact hx 7 _ 7 rfl
  exact hk _

/-- A whole block read is the block. -/
theorem ldCol_apply (T : Vec Ideal S64x128 .f32) (p : Fin 64) (l : Fin 128) : View.ld T r0_13 (ix2 p l) = T (ix2 p l) := by
  refine congrArg T (funext fun a => Fin.ext ?_)
  match a with
  | ⟨0, _⟩ => show 0 + 1 * p.val = p.val; omega
  | ⟨1, _⟩ => show 0 + 1 * l.val = l.val; omega

/-- The column tables' block. -/
theorem colTab_apply (T : Vec Ideal S64x128 .f32) (p : Fin 512) (l : Fin 128) :
    k0_pay12 (F := Ideal) (View.ld T r0_13) (ix2 p l) = T (ix2 ⟨p.val % 64, by omega⟩ l) :=
  (eight_apply (fun _ => shapeCast S64x128 (View.ld T r0_13) shapeCasts_S64x128_S64x128) p l).trans ((same_apply _ _ _).trans (ldCol_apply T _ l))

theorem ldX_apply {e : EltTy} (v : Vec Ideal S1x512x1024 e) (p : Fin 512) (i : Fin 1024) : View.ld v r0_0 (ix3 0 p i) = v (ix3 0 p i) := by
  refine congrArg v (funext fun a => Fin.ext ?_)
  match a with
  | ⟨0, _⟩ => rfl
  | ⟨1, _⟩ => show 0 + 1 * p.val = p.val; omega
  | ⟨2, _⟩ => show 0 + 1 * i.val = i.val; omega

theorem ldM_apply (v : Vec Ideal S1x1x1024 .f32) (i : Fin 1024) : View.ld v r0_3 (ix3 0 0 i) = v (ix3 0 0 i) := by
  refine congrArg v (funext fun a => Fin.ext ?_)
  match a with
  | ⟨0, _⟩ => rfl
  | ⟨1, _⟩ => rfl
  | ⟨2, _⟩ => show 0 + 1 * i.val = i.val; omega

theorem ldR_apply (v : Vec Ideal S1x1024 .f32) (i : Fin 1024) : View.ld v r0_4 (ix2 0 i) = v (ix2 0 i) := by
  refine congrArg v (funext fun a => Fin.ext ?_)
  match a with
  | ⟨0, _⟩ => rfl
  | ⟨1, _⟩ => show 0 + 1 * i.val = i.val; omega

theorem ldA_apply (v : Vec Ideal S2048x1024 .bf16) (k i : Fin 1024) : View.ld v r0_1 (ix2 k i) = v (ix2 ⟨k.val, by omega⟩ i) := by
  refine congrArg v (funext fun a => Fin.ext ?_)
  match a with
  | ⟨0, _⟩ => show 0 + 1 * k.val = k.val; omega
  | ⟨1, _⟩ => show 0 + 1 * i.val = i.val; omega

theorem ldB_apply (v : Vec Ideal S2048x1024 .bf16) (k i : Fin 1024) : View.ld v r0_2 (ix2 k i) = v (ix2 ⟨1024 + k.val, by omega⟩ i) := by
  refine congrArg v (funext fun a => Fin.ext ?_)
  match a with
  | ⟨0, _⟩ => show 1024 + 1 * k.val = 1024 + k.val; omega
  | ⟨1, _⟩ => show 0 + 1 * i.val = i.val; omega

section
variable (x0 x1 : Vec Ideal S1x512x1024 .bf16) (x2 : Vec Ideal S1x512x1024 .f32) (x3 : Vec Ideal S2048x1024 .bf16) (x4 : Vec Ideal S1x1024 .f32)
  (x5 : Vec Ideal S1x1x1024 .f32) (x6 : Vec Ideal S1x1024 .f32) (x7 x8 : Vec Ideal S1x1x1024 .f32) (x9 : Vec Ideal S1024x6144 .bf16)
  (x10 x11 : Vec Ideal S8x128 .f32) (x12 x13 : Vec Ideal S64x128 .f32)

/-- The residual row of a block. -/
def brow (p : Fin 512) : Fin 1024 → EReal := xrow (fun i => x2 (ix3 0 p i))
  (yrow (fun k => x0 (ix3 0 p k)) (fun k => x1 (ix3 0 p k)) (fun k i => x3 (ix2 k i))) (fun i => x5 (ix3 0 0 i)) (fun i => x4 (ix2 0 i))

theorem pay51_apply (p : Fin 512) (d : Fin 1024) :
    k0_pay51 (F := Ideal) x0 x1 x2 x3 x4 x5 x6 x7 x8 x9 x10 x11 x12 x13 (ix2 p d) = brow x0 x1 x2 x3 x4 x5 p d := by
  refine (pay5_apply _ _ _ _ _ _ _ p d).trans ?_
  refine xrow_congr (fun i => ldX_apply x2 p i) (fun i => ?_) (fun i => ldM_apply x5 i) (fun i => ldR_apply x4 i) d
  exact congrArg₂ (fun x y : EReal => x + y)
    (Finset.sum_congr rfl fun k _ => congrArg₂ (fun x y : EReal => x * y) (ldX_apply x0 p k) (ldA_apply x3 k i))
    (Finset.sum_congr rfl fun k _ => congrArg₂ (fun x y : EReal => x * y) (ldX_apply x1 p k) (ldB_apply x3 k i))

theorem pay52_apply (p : Fin 512) (d : Fin 1024) :
    k0_pay52 (F := Ideal) x0 x1 x2 x3 x4 x5 x6 x7 x8 x9 x10 x11 x12 x13 (ix2 p d)
      = hrow (brow x0 x1 x2 x3 x4 x5 p) (fun i => x6 (ix2 0 i)) (fun i => x7 (ix3 0 0 i)) (fun i => x8 (ix3 0 0 i)) d := by
  refine (pay7_apply _ _ _ _ p d).trans ?_
  exact hrow_congr (fun i => pay51_apply x0 x1 x2 x3 x4 x5 x6 x7 x8 x9 x10 x11 x12 x13 p i) (fun i => ldR_apply x6 i) (fun i => ldM_apply x7 i) (fun i => ldM_apply x8 i) d

/-- The first output's block, at an index. -/
theorem out14_apply (p : Fin 512) (d : Fin 1024) :
    out0_14 (F := Ideal) x0 x1 x2 x3 x4 x5 x6 x7 x8 x9 x10 x11 x12 x13 (ix3 0 p d) = brow x0 x1 x2 x3 x4 x5 p d := by
  refine (View.canon_apply_of_pieces (fun y : S1x512x1024.Idx => brow x0 x1 x2 x3 x4 x5 (y 1) (y 2)) _ ?_ (ix3 0 p d) (cover0_14 _ _)).trans rfl
  intro pc hpc
  rcases List.mem_cons.mp hpc with rfl | hpc
  · intro x
    obtain ⟨q, l, rfl⟩ : ∃ (q : Fin 512) (l : Fin 1024), x = ix3 0 q l := ⟨x 1, x 2, funext fun a => Fin.ext (by
      match a with
      | ⟨0, _⟩ => have h : (x 0).val < 1 := (x 0).isLt; show (x 0).val = 0; omega
      | ⟨1, _⟩ => rfl
      | ⟨2, _⟩ => rfl)⟩
    refine (shapeCast_ab_1ab_apply _ _ 0 q l).trans ((pay51_apply x0 x1 x2 x3 x4 x5 x6 x7 x8 x9 x10 x11 x12 x13 q l).trans ?_)
    refine congrArg₂ (brow x0 x1 x2 x3 x4 x5) (Fin.ext ?_) (Fin.ext ?_)
    · show q.val = 0 + 1 * q.val; omega
    · show l.val = 0 + 1 * l.val; omega
  nomatch hpc

/-- The second output's block. -/
theorem out15_eq (y : S1x512x6144.Idx) : out0_15 (F := Ideal) x0 x1 x2 x3 x4 x5 x6 x7 x8 x9 x10 x11 x12 x13 y = E (k0_pay53 x0 x1 x2 x3 x4 x5 x6 x7 x8 x9 x10 x11 x12 x13) (k0_pay59 x0 x1 x2 x3 x4 x5 x6 x7 x8 x9 x10 x11 x12 x13) (k0_pay54 x0 x1 x2 x3 x4 x5 x6 x7 x8 x9 x10 x11 x12 x13) (k0_pay60 x0 x1 x2 x3 x4 x5 x6 x7 x8 x9 x10 x11 x12 x13) (k0_pay52 x0 x1 x2 x3 x4 x5 x6 x7 x8 x9 x10 x11 x12 x13) x9 y := by
  refine View.canon_apply_of_pieces (E (k0_pay53 x0 x1 x2 x3 x4 x5 x6 x7 x8 x9 x10 x11 x12 x13) (k0_pay59 x0 x1 x2 x3 x4 x5 x6 x7 x8 x9 x10 x11 x12 x13) (k0_pay54 x0 x1 x2 x3 x4 x5 x6 x7 x8 x9 x10 x11 x12 x13) (k0_pay60 x0 x1 x2 x3 x4 x5 x6 x7 x8 x9 x10 x11 x12 x13) (k0_pay52 x0 x1 x2 x3 x4 x5 x6 x7 x8 x9 x10 x11 x12 x13) x9) _ ?_ y (cover0_15 _ _ _ _ _ _ _ _ _ _ _ _ _ _ _ _ _ _ _ _ _ _ _ _ _)
  intro pc hpc
  rcases List.mem_cons.mp hpc with rfl | hpc
  · exact fun x => plain_piece _ _ _ _ _ _ 5888 (by decide) inb_S1024x6144_S1024x256_0_5888 inb_S1x512x6144_S1x512x256_0_0_5888 x
  rcases List.mem_cons.mp hpc with rfl | hpc
  · exact fun x => plain_piece _ _ _ _ _ _ 5632 (by decide) inb_S1024x6144_S1024x256_0_5632 inb_S1x512x6144_S1x512x256_0_0_5632 x
  rcases List.mem_cons.mp hpc with rfl | hpc
  · exact fun x => plain_piece _ _ _ _ _ _ 5376 (by decide) inb_S1024x6144_S1024x256_0_5376 inb_S1x512x6144_S1x512x256_0_0_5376 x
  rcases List.mem_cons.mp hpc with rfl | hpc
  · exact fun x => plain_piece _ _ _ _ _ _ 5120 (by decide) inb_S1024x6144_S1024x256_0_5120 inb_S1x512x6144_S1x512x256_0_0_5120 x
  rcases List.mem_cons.mp hpc with rfl | hpc
  · exact fun x => plain_piece _ _ _ _ _ _ 4864 (by decide) inb_S1024x6144_S1024x256_0_4864 inb_S1x512x6144_S1x512x256_0_0_4864 x
  rcases List.mem_cons.mp hpc with rfl | hpc
  · exact fun x => plain_piece _ _ _ _ _ _ 4608 (by decide) inb_S1024x6144_S1024x256_0_4608 inb_S1x512x6144_S1x512x256_0_0_4608 x
  rcases List.mem_cons.mp hpc with rfl | hpc
  · exact fun x => plain_piece _ _ _ _ _ _ 4352 (by decide) inb_S1024x6144_S1024x256_0_4352 inb_S1x512x6144_S1x512x256_0_0_4352 x
  rcases List.mem_cons.mp hpc with rfl | hpc
  · exact fun x => plain_piece _ _ _ _ _ _ 4096 (by decide) inb_S1024x6144_S1024x256_0_4096 inb_S1x512x6144_S1x512x256_0_0_4096 x
  rcases List.mem_cons.mp hpc with rfl | hpc
  · exact fun x => plain_piece _ _ _ _ _ _ 3840 (by decide) inb_S1024x6144_S1024x256_0_3840 inb_S1x512x6144_S1x512x256_0_0_3840 x
  rcases List.mem_cons.mp hpc with rfl | hpc
  · exact fun x => plain_piece _ _ _ _ _ _ 3584 (by decide) inb_S1024x6144_S1024x256_0_3584 inb_S1x512x6144_S1x512x256_0_0_3584 x
  rcases List.mem_cons.mp hpc with rfl | hpc
  · exact fun x => plain_piece _ _ _ _ _ _ 3328 (by decide) inb_S1024x6144_S1024x256_0_3328 inb_S1x512x6144_S1x512x256_0_0_3328 x
  rcases List.mem_cons.mp hpc with rfl | hpc
  · exact fun x => plain_piece _ _ _ _ _ _ 3072 (by decide) inb_S1024x6144_S1024x256_0_3072 inb_S1x512x6144_S1x512x256_0_0_3072 x
  rcases List.mem_cons.mp hpc with rfl | hpc
  · exact fun x => plain_piece _ _ _ _ _ _ 2816 (by decide) inb_S1024x6144_S1024x256_0_2816 inb_S1x512x6144_S1x512x256_0_0_2816 x
  rcases List.mem_cons.mp hpc with rfl | hpc
  · exact fun x => plain_piece _ _ _ _ _ _ 2560 (by decide) inb_S1024x6144_S1024x256_0_2560 inb_S1x512x6144_S1x512x256_0_0_2560 x
  rcases List.mem_cons.mp hpc with rfl | hpc
  · exact fun x => plain_piece _ _ _ _ _ _ 2304 (by decide) inb_S1024x6144_S1024x256_0_2304 inb_S1x512x6144_S1x512x256_0_0_2304 x
  rcases List.mem_cons.mp hpc with rfl | hpc
  · exact fun x => plain_piece _ _ _ _ _ _ 2048 (by decide) inb_S1024x6144_S1024x256_0_2048 inb_S1x512x6144_S1x512x256_0_0_2048 x
  rcases List.mem_cons.mp hpc with rfl | hpc
  · exact fun x => roped_piece _ _ _ _ _ _ 1792 (by decide) (by decide) inb_S1024x6144_S1024x256_0_1792 inb_S1x512x6144_S1x512x256_0_0_1792 x
  rcases List.mem_cons.mp hpc with rfl | hpc
  · exact fun x => roped_piece _ _ _ _ _ _ 1536 (by decide) (by decide) inb_S1024x6144_S1024x256_0_1536 inb_S1x512x6144_S1x512x256_0_0_1536 x
  rcases List.mem_cons.mp hpc with rfl | hpc
  · exact fun x => roped_piece _ _ _ _ _ _ 1280 (by decide) (by decide) inb_S1024x6144_S1024x256_0_1280 inb_S1x512x6144_S1x512x256_0_0_1280 x
  rcases List.mem_cons.mp hpc with rfl | hpc
  · exact fun x => roped_piece _ _ _ _ _ _ 1024 (by decide) (by decide) inb_S1024x6144_S1024x256_0_1024 inb_S1x512x6144_S1x512x256_0_0_1024 x
  rcases List.mem_cons.mp hpc with rfl | hpc
  · exact fun x => roped_piece _ _ _ _ _ _ 768 (by decide) (by decide) inb_S1024x6144_S1024x256_0_768 inb_S1x512x6144_S1x512x256_0_0_768 x
  rcases List.mem_cons.mp hpc with rfl | hpc
  · exact fun x => roped_piece _ _ _ _ _ _ 512 (by decide) (by decide) inb_S1024x6144_S1024x256_0_512 inb_S1x512x6144_S1x512x256_0_0_512 x
  rcases List.mem_cons.mp hpc with rfl | hpc
  · exact fun x => roped_piece _ _ _ _ _ _ 256 (by decide) (by decide) inb_S1024x6144_S1024x256_0_256 inb_S1x512x6144_S1x512x256_0_0_256 x
  rcases List.mem_cons.mp hpc with rfl | hpc
  · exact fun x => roped_piece _ _ _ _ _ _ 0 (by decide) (by decide) inb_S1024x6144_S1024x256_0_0 inb_S1x512x6144_S1x512x256_0_0_0 x
  nomatch hpc

/-- The second output's block, at an index. -/
theorem out15_apply (p : Fin 512) (e : Fin 6144) :
    out0_15 (F := Ideal) x0 x1 x2 x3 x4 x5 x6 x7 x8 x9 x10 x11 x12 x13 (ix3 0 p e)
      = turn (urow (hrow (brow x0 x1 x2 x3 x4 x5 p) (fun i => x6 (ix2 0 i)) (fun i => x7 (ix3 0 0 i)) (fun i => x8 (ix3 0 0 i))) (fun k e => x9 (ix2 k e)))
        (fun a l => if a.val = 0 then x10 (ix2 ⟨p.val / 64, by omega⟩ l) else x12 (ix2 ⟨p.val % 64, by omega⟩ l))
        (fun a l => if a.val = 0 then x11 (ix2 ⟨p.val / 64, by omega⟩ l) else x13 (ix2 ⟨p.val % 64, by omega⟩ l)) e := by
  refine (out15_eq x0 x1 x2 x3 x4 x5 x6 x7 x8 x9 x10 x11 x12 x13 (ix3 0 p e)).trans ?_
  have h1 : ∀ l : Fin 128, k0_pay53 (F := Ideal) x0 x1 x2 x3 x4 x5 x6 x7 x8 x9 x10 x11 x12 x13 (ix2 p l) = x10 (ix2 ⟨p.val / 64, by omega⟩ l) := rowTab_apply x10 p
  have h2 : ∀ l : Fin 128, k0_pay59 (F := Ideal) x0 x1 x2 x3 x4 x5 x6 x7 x8 x9 x10 x11 x12 x13 (ix2 p l) = x11 (ix2 ⟨p.val / 64, by omega⟩ l) := rowTab_apply x11 p
  have h3 : ∀ l : Fin 128, k0_pay54 (F := Ideal) x0 x1 x2 x3 x4 x5 x6 x7 x8 x9 x10 x11 x12 x13 (ix2 p l) = x12 (ix2 ⟨p.val % 64, by omega⟩ l) := colTab_apply x12 p
  have h4 : ∀ l : Fin 128, k0_pay60 (F := Ideal) x0 x1 x2 x3 x4 x5 x6 x7 x8 x9 x10 x11 x12 x13 (ix2 p l) = x13 (ix2 ⟨p.val % 64, by omega⟩ l) := colTab_apply x13 p
  refine (show E (k0_pay53 x0 x1 x2 x3 x4 x5 x6 x7 x8 x9 x10 x11 x12 x13) (k0_pay59 x0 x1 x2 x3 x4 x5 x6 x7 x8 x9 x10 x11 x12 x13) (k0_pay54 x0 x1 x2 x3 x4 x5 x6 x7 x8 x9 x10 x11 x12 x13) (k0_pay60 x0 x1 x2 x3 x4 x5 x6 x7 x8 x9 x10 x11 x12 x13) (k0_pay52 x0 x1 x2 x3 x4 x5 x6 x7 x8 x9 x10 x11 x12 x13) x9 (ix3 0 p e) = turn (urow (fun k => k0_pay52 (F := Ideal) x0 x1 x2 x3 x4 x5 x6 x7 x8 x9 x10 x11 x12 x13 (ix2 p k)) fun k e => x9 (ix2 k e))
    (fun a l => if a.val = 0 then k0_pay53 (F := Ideal) x0 x1 x2 x3 x4 x5 x6 x7 x8 x9 x10 x11 x12 x13 (ix2 p l) else k0_pay54 (F := Ideal) x0 x1 x2 x3 x4 x5 x6 x7 x8 x9 x10 x11 x12 x13 (ix2 p l))
    (fun a l => if a.val = 0 then k0_pay59 (F := Ideal) x0 x1 x2 x3 x4 x5 x6 x7 x8 x9 x10 x11 x12 x13 (ix2 p l) else k0_pay60 (F := Ideal) x0 x1 x2 x3 x4 x5 x6 x7 x8 x9 x10 x11 x12 x13 (ix2 p l)) e from rfl).trans ?_
  refine turn_congr (fun e => urow_congr (fun k => pay52_apply x0 x1 x2 x3 x4 x5 x6 x7 x8 x9 x10 x11 x12 x13 p k) (fun k e => rfl) e) (fun a l => ?_) (fun a l => ?_) e
  · rw [h1, h3]
  · rw [h2, h4]

end

end Cert.Kernel2Ideal.Pj

end
-- ==== Proof.Pj.Host.lean ====
/-
  The projection's host arrays over the extended reals: the rotary tables, the scaled weights and the reshaped vectors.
-/
module

public import proofs.«01_k».proof.Proof.Pj.Out
public import Idealize.ShloMosaic.Lib.StableHlo

@[expose] public section

set_option maxRecDepth 16384

noncomputable section

namespace Cert.Kernel2Ideal.Pj

open Cert.Kernel2Ideal Cert.Kernel2Ideal.Gen Cert.Pj
open Idealize.ShloMosaic hiding ix0 ix1 ix2 ix3 ix4 ix5 eq_ix2 eq_ix3 eq_ix4
open Idealize.ShloMosaic.ValueIdx
open Idealize.ShloMosaic.TcCoe

def freqs : FVec Ideal S64 .f32 := Host.powf (broadcastInDim S64 ![] bcast_S_S64 (constant S_ .f32 0x461C4000#32))
  (Host.divf (Host.negf (sitofp .f32 (iotaInDim S64 32 0))) (broadcastInDim S64 ![] bcast_S_S64 (constant S_ .f32 0x42800000#32)))

theorem freqs_apply (f : Fin 64) : freqs (ix1 f) = freq f.val := rfl

def posR : FVec Ideal S256 .f32 := sitofp .f32 (iotaInDim S256 32 0)

theorem posR_apply (r : Fin 256) : posR (ix1 r) = (FloatOps.sitofp (F := Ideal) .f32 (BitVec.ofNat 32 r.val) : EReal) := rfl

def angR : FVec Ideal S256x64 .f32 := mulf (broadcastInDim S256x64 ![0, 1] bcast_S256x1_S256x64_0_1 (broadcastInDim S256x1 ![0] bcast_S256_S256x1_0 posR))
  (broadcastInDim S256x64 ![0, 1] bcast_S1x64_S256x64_0_1 (broadcastInDim S1x64 ![1] bcast_S64_S1x64_1 freqs))

theorem colR_apply (x : FVec Ideal S256 .f32) (r : Fin 256) (f : Fin 64) :
    broadcastInDim S256x64 ![0, 1] bcast_S256x1_S256x64_0_1 (broadcastInDim S256x1 ![0] bcast_S256_S256x1_0 x) (ix2 r f) = x (ix1 r) := by
  generalize hy : broadcastInDim S256x1 ![0] bcast_S256_S256x1_0 x = y
  refine (broadcastInDim_apply _ bcast_S256x1_S256x64_0_1 y (ix2 r f) (ix2 r 0) (fun a => match a with
    | ⟨0, _⟩ => by show r.val = if (256 : Nat) = 1 then 0 else r.val; rw [if_neg (by decide)]
    | ⟨1, _⟩ => by show 0 = if (1 : Nat) = 1 then 0 else f.val; rw [if_pos rfl])).trans ?_
  rw [← hy]
  exact broadcastInDim_apply _ bcast_S256_S256x1_0 x (ix2 r 0) (ix1 r) (fun a => match a with
    | ⟨0, _⟩ => by show r.val = if (256 : Nat) = 1 then 0 else r.val; rw [if_neg (by decide)])

theorem rowR_apply (x : FVec Ideal S64 .f32) (r : Fin 256) (f : Fin 64) :
    broadcastInDim S256x64 ![0, 1] bcast_S1x64_S256x64_0_1 (broadcastInDim S1x64 ![1] bcast_S64_S1x64_1 x) (ix2 r f) = x (ix1 f) := by
  generalize hy : broadcastInDim S1x64 ![1] bcast_S64_S1x64_1 x = y
  refine (broadcastInDim_apply _ bcast_S1x64_S256x64_0_1 y (ix2 r f) (ix2 0 f) (fun a => match a with
    | ⟨0, _⟩ => by show 0 = if (1 : Nat) = 1 then 0 else r.val; rw [if_pos rfl]
    | ⟨1, _⟩ => by show f.val = if (64 : Nat) = 1 then 0 else f.val; rw [if_neg (by decide)])).trans ?_
  rw [← hy]
  exact broadcastInDim_apply _ bcast_S64_S1x64_1 x (ix2 0 f) (ix1 f) (fun a => match a with
    | ⟨0, _⟩ => by show f.val = if (64 : Nat) = 1 then 0 else f.val; rw [if_neg (by decide)])

theorem outerR_apply (x : FVec Ideal S256 .f32) (w : FVec Ideal S64 .f32) (r : Fin 256) (f : Fin 64) :
    (mulf (broadcastInDim S256x64 ![0, 1] bcast_S256x1_S256x64_0_1 (broadcastInDim S256x1 ![0] bcast_S256_S256x1_0 x))
      (broadcastInDim S256x64 ![0, 1] bcast_S1x64_S256x64_0_1 (broadcastInDim S1x64 ![1] bcast_S64_S1x64_1 w)) : FVec Ideal S256x64 .f32) (ix2 r f)
      = (fun a b : EReal => a * b) (x (ix1 r)) (w (ix1 f)) :=
  congrArg₂ (fun a b : EReal => a * b) (colR_apply x r f) (rowR_apply w r f)

theorem angR_apply (r : Fin 256) (f : Fin 64) : angR (ix2 r f) = ang r.val f.val :=
  (outerR_apply posR freqs r f).trans (congrArg₂ (fun a b : EReal => a * b) (posR_apply r) (freqs_apply f))

def posC : FVec Ideal S64 .f32 := sitofp .f32 (iotaInDim S64 32 0)

theorem posC_apply (r : Fin 64) : posC (ix1 r) = (FloatOps.sitofp (F := Ideal) .f32 (BitVec.ofNat 32 r.val) : EReal) := rfl

def angC : FVec Ideal S64x64 .f32 := mulf (broadcastInDim S64x64 ![0, 1] bcast_S64x1_S64x64_0_1 (broadcastInDim S64x1 ![0] bcast_S64_S64x1_0 posC))
  (broadcastInDim S64x64 ![0, 1] bcast_S1x64_S64x64_0_1 (broadcastInDim S1x64 ![1] bcast_S64_S1x64_1 freqs))

theorem colC_apply (x : FVec Ideal S64 .f32) (r : Fin 64) (f : Fin 64) :
    broadcastInDim S64x64 ![0, 1] bcast_S64x1_S64x64_0_1 (broadcastInDim S64x1 ![0] bcast_S64_S64x1_0 x) (ix2 r f) = x (ix1 r) := by
  generalize hy : broadcastInDim S64x1 ![0] bcast_S64_S64x1_0 x = y
  refine (broadcastInDim_apply _ bcast_S64x1_S64x64_0_1 y (ix2 r f) (ix2 r 0) (fun a => match a with
    | ⟨0, _⟩ => by show r.val = if (64 : Nat) = 1 then 0 else r.val; rw [if_neg (by decide)]
    | ⟨1, _⟩ => by show 0 = if (1 : Nat) = 1 then 0 else f.val; rw [if_pos rfl])).trans ?_
  rw [← hy]
  exact broadcastInDim_apply _ bcast_S64_S64x1_0 x (ix2 r 0) (ix1 r) (fun a => match a with
    | ⟨0, _⟩ => by show r.val = if (64 : Nat) = 1 then 0 else r.val; rw [if_neg (by decide)])

theorem rowC_apply (x : FVec Ideal S64 .f32) (r : Fin 64) (f : Fin 64) :
    broadcastInDim S64x64 ![0, 1] bcast_S1x64_S64x64_0_1 (broadcastInDim S1x64 ![1] bcast_S64_S1x64_1 x) (ix2 r f) = x (ix1 f) := by
  generalize hy : broadcastInDim S1x64 ![1] bcast_S64_S1x64_1 x = y
  refine (broadcastInDim_apply _ bcast_S1x64_S64x64_0_1 y (ix2 r f) (ix2 0 f) (fun a => match a with
    | ⟨0, _⟩ => by show 0 = if (1 : Nat) = 1 then 0 else r.val; rw [if_pos rfl]
    | ⟨1, _⟩ => by show f.val = if (64 : Nat) = 1 then 0 else f.val; rw [if_neg (by decide)])).trans ?_
  rw [← hy]
  exact broadcastInDim_apply _ bcast_S64_S1x64_1 x (ix2 0 f) (ix1 f) (fun a => match a with
    | ⟨0, _⟩ => by show f.val = if (64 : Nat) = 1 then 0 else f.val; rw [if_neg (by decide)])

theorem outerC_apply (x : FVec Ideal S64 .f32) (w : FVec Ideal S64 .f32) (r : Fin 64) (f : Fin 64) :
    (mulf (broadcastInDim S64x64 ![0, 1] bcast_S64x1_S64x64_0_1 (broadcastInDim S64x1 ![0] bcast_S64_S64x1_0 x))
      (broadcastInDim S64x64 ![0, 1] bcast_S1x64_S64x64_0_1 (broadcastInDim S1x64 ![1] bcast_S64_S1x64_1 w)) : FVec Ideal S64x64 .f32) (ix2 r f)
      = (fun a b : EReal => a * b) (x (ix1 r)) (w (ix1 f)) :=
  congrArg₂ (fun a b : EReal => a * b) (colC_apply x r f) (rowC_apply w r f)

theorem angC_apply (r : Fin 64) (f : Fin 64) : angC (ix2 r f) = ang r.val f.val :=
  (outerC_apply posC freqs r f).trans (congrArg₂ (fun a b : EReal => a * b) (posC_apply r) (freqs_apply f))

/-- Two tables of 64 columns side by side. -/
theorem catR_apply (x y : FVec Ideal S256x64 .f32) (r : Fin 256) (l : Fin 128) :
    concatenate S256x128 1 [⟨S256x64, x⟩, ⟨S256x64, y⟩] concatenates_S256x64_S256x64_S256x128_d1 (ix2 r l)
      = if l.val < 64 then x (ix2 r ⟨l.val % 64, by omega⟩) else y (ix2 r ⟨l.val % 64, by omega⟩) := by
  by_cases hl : l.val < 64
  · rw [if_pos hl]
    refine concatenate_pair_apply_left 1 _ _ concatenates_S256x64_S256x64_S256x128_d1 (ix2 r l) rfl (ix2 r ⟨l.val % 64, by omega⟩) fun b => ?_
    match b with
    | ⟨0, _⟩ => rfl
    | ⟨1, _⟩ => exact Nat.mod_eq_of_lt hl
  · rw [if_neg hl]
    refine concatenate_pair_apply_right 1 _ _ concatenates_S256x64_S256x64_S256x128_d1 (ix2 r l) rfl rfl (ix2 r ⟨l.val % 64, by omega⟩) (fun b hb => ?_) ?_
    · match b with
      | ⟨0, _⟩ => rfl
      | ⟨1, _⟩ => exact absurd rfl hb
    · show l.val % 64 + 64 = l.val
      omega

theorem catC_apply (x y : FVec Ideal S64x64 .f32) (r : Fin 64) (l : Fin 128) :
    concatenate S64x128 1 [⟨S64x64, x⟩, ⟨S64x64, y⟩] concatenates_S64x64_S64x64_S64x128_d1 (ix2 r l)
      = if l.val < 64 then x (ix2 r ⟨l.val % 64, by omega⟩) else y (ix2 r ⟨l.val % 64, by omega⟩) := by
  by_cases hl : l.val < 64
  · rw [if_pos hl]
    refine concatenate_pair_apply_left 1 _ _ concatenates_S64x64_S64x64_S64x128_d1 (ix2 r l) rfl (ix2 r ⟨l.val % 64, by omega⟩) fun b => ?_
    match b with
    | ⟨0, _⟩ => rfl
    | ⟨1, _⟩ => exact Nat.mod_eq_of_lt hl
  · rw [if_neg hl]
    refine concatenate_pair_apply_right 1 _ _ concatenates_S64x64_S64x64_S64x128_d1 (ix2 r l) rfl rfl (ix2 r ⟨l.val % 64, by omega⟩) (fun b hb => ?_) ?_
    · match b with
      | ⟨0, _⟩ => rfl
      | ⟨1, _⟩ => exact absurd rfl hb
    · show l.val % 64 + 64 = l.val
      omega

def one1 : FVec Ideal S1024 .f32 := broadcastInDim S1024 ![] bcast_S_S1024 (constant S_ .f32 0x3F800000#32)
def small : FVec Ideal S1024 .f32 := broadcastInDim S1024 ![] bcast_S_S1024 (constant S_ .f32 0x3D800000#32)
def one4 : FVec Ideal S4096 .f32 := broadcastInDim S4096 ![] bcast_S_S4096 (constant S_ .f32 0x3F800000#32)

/-- The weights' column literals. -/
def scales : FVec Ideal S6144 .f32 := concatenate S6144 0 [⟨S1024, one1⟩, ⟨S1024, small⟩, ⟨S4096, one4⟩] concatenates_S1024_S1024_S4096_S6144_d0

theorem scales_apply (e : Fin 6144) : scales (ix1 e) = colScale e.val := by
  unfold scales colScale
  by_cases h0 : e.val < 1024
  · rw [if_neg (by omega)]
    refine concatenate_apply_piece (t := S6144) 0 [⟨S1024, one1⟩, ⟨S1024, small⟩, ⟨S4096, one4⟩] concatenates_S1024_S1024_S4096_S6144_d0 (ix1 e) 0 (by decide) S1024 one1 rfl rfl 0 rfl (ix1 ⟨e.val, h0⟩) (fun b hb => ?_) (Nat.zero_add e.val)
    match b with
    | ⟨0, _⟩ => exact absurd rfl hb
  by_cases h1 : e.val < 2048
  · rw [if_pos (by omega)]
    refine concatenate_apply_piece (t := S6144) 0 [⟨S1024, one1⟩, ⟨S1024, small⟩, ⟨S4096, one4⟩] concatenates_S1024_S1024_S4096_S6144_d0 (ix1 e) 1 (by decide) S1024 small rfl rfl 1024 rfl (ix1 ⟨e.val - 1024, by omega⟩) (fun b hb => ?_)
      (show 1024 + (e.val - 1024) = e.val by omega)
    match b with
    | ⟨0, _⟩ => exact absurd rfl hb
  · rw [if_neg (by omega)]
    refine concatenate_apply_piece (t := S6144) 0 [⟨S1024, one1⟩, ⟨S1024, small⟩, ⟨S4096, one4⟩] concatenates_S1024_S1024_S4096_S6144_d0 (ix1 e) 2 (by decide) S4096 one4 rfl rfl 2048 rfl (ix1 ⟨e.val - 2048, by omega⟩) (fun b hb => ?_)
      (show 2048 + (e.val - 2048) = e.val by omega)
    match b with
    | ⟨0, _⟩ => exact absurd rfl hb

variable (m : (ℓ : Loc nD τ sig) → Buf (Elt Ideal) ℓ) (c : Dev nD)

theorem V35_eq : V m c main_v35 = (truncf .bf16 (mulf (m ((c : Thread nD τ).loc main_arg9) : FVec Ideal S1024x6144 .f32)
    (broadcastInDim S1024x6144 ![0, 1] bcast_S1x6144_S1024x6144_0_1 (broadcastInDim S1x6144 ![1] bcast_S6144_S1x6144_1 scales))) bitsLt_bf16_f32 : FVec Ideal S1024x6144 .bf16) := by
  unfold V
  after_results_simp <;> (try dsimp only [Matrix.cons_val]) <;> (try after_results_simp) <;> rfl

theorem V19_eq : V m c main_v19 = concatenate S256x128 1 [⟨S256x64, Host.cos angR⟩, ⟨S256x64, Host.cos angR⟩] concatenates_S256x64_S256x64_S256x128_d1 := by
  unfold V
  after_results_simp <;> rfl

theorem V22_eq : V m c main_v22 = concatenate S256x128 1 [⟨S256x64, Host.negf (Host.sin angR)⟩, ⟨S256x64, Host.sin angR⟩] concatenates_S256x64_S256x64_S256x128_d1 := by
  unfold V
  after_results_simp <;> rfl

theorem V24_eq : V m c main_v24 = concatenate S64x128 1 [⟨S64x64, Host.cos angC⟩, ⟨S64x64, Host.cos angC⟩] concatenates_S64x64_S64x64_S64x128_d1 := by
  unfold V
  after_results_simp <;> rfl

theorem V27_eq : V m c main_v27 = concatenate S64x128 1 [⟨S64x64, Host.negf (Host.sin angC)⟩, ⟨S64x64, Host.sin angC⟩] concatenates_S64x64_S64x64_S64x128_d1 := by
  unfold V
  after_results_simp <;> rfl

theorem V36_eq : V m c main_v36 = (truncf .bf16 (m ((c : Thread nD τ).loc main_arg3) : FVec Ideal S2048x1024 .f32) bitsLt_bf16_f32 : FVec Ideal S2048x1024 .bf16) := by
  unfold V
  after_results_simp <;> rfl

theorem V37_eq : V m c main_v37 = shapeCast S1x1024 (m ((c : Thread nD τ).loc main_arg4) : FVec Ideal S1024 .f32) shapeCasts_S1024_S1x1024 := by
  unfold V
  after_results_simp <;> rfl

theorem V38_eq : V m c main_v38 = shapeCast S2x1x1024 (m ((c : Thread nD τ).loc main_arg5) : FVec Ideal S2x1024 .f32) shapeCasts_S2x1024_S2x1x1024 := by
  unfold V
  after_results_simp <;> rfl

theorem V39_eq : V m c main_v39 = shapeCast S1x1024 (m ((c : Thread nD τ).loc main_arg6) : FVec Ideal S1024 .f32) shapeCasts_S1024_S1x1024 := by
  unfold V
  after_results_simp <;> rfl

theorem V40_eq : V m c main_v40 = shapeCast S2x1x1024 (m ((c : Thread nD τ).loc main_arg7) : FVec Ideal S2x1024 .f32) shapeCasts_S2x1024_S2x1x1024 := by
  unfold V
  after_results_simp <;> rfl

theorem V41_eq : V m c main_v41 = shapeCast S2x1x1024 (m ((c : Thread nD τ).loc main_arg8) : FVec Ideal S2x1024 .f32) shapeCasts_S2x1024_S2x1x1024 := by
  unfold V
  after_results_simp <;> rfl

theorem V35_apply (k : Fin 1024) (e : Fin 6144) : (V m c main_v35 : FVec Ideal S1024x6144 .bf16) (ix2 k e)
    = (fun x : EReal => x * colScale e.val) ((m ((c : Thread nD τ).loc main_arg9) : FVec Ideal S1024x6144 .f32) (ix2 k e)) := by
  rw [V35_eq]
  refine congrArg (fun y : EReal => (fun x : EReal => x * y) ((m ((c : Thread nD τ).loc main_arg9) : FVec Ideal S1024x6144 .f32) (ix2 k e))) ?_
  refine (broadcastInDim_apply ![0, 1] bcast_S1x6144_S1024x6144_0_1 _ (ix2 k e) (ix2 0 e) fun a => ?_).trans
    ((broadcastInDim_apply ![1] bcast_S6144_S1x6144_1 _ (ix2 0 e) (ix1 e) fun a => ?_).trans (scales_apply e))
  · match a with
    | ⟨0, _⟩ => rfl
    | ⟨1, _⟩ => rfl
  · match a with
    | ⟨0, _⟩ => rfl

theorem V19_apply (r : Fin 256) (l : Fin 128) : (V m c main_v19 : FVec Ideal S256x128 .f32) (ix2 r l) = cosT r.val l.val := by
  rw [V19_eq]
  refine (catR_apply _ _ r l).trans ((ite_self _).trans ?_)
  exact congrArg (FloatOps.hostUnary (F := Ideal) (φ := .f32) .cos) (angR_apply r _)

theorem V22_apply (r : Fin 256) (l : Fin 128) : (V m c main_v22 : FVec Ideal S256x128 .f32) (ix2 r l) = sinT r.val l.val := by
  rw [V22_eq]
  refine (catR_apply _ _ r l).trans ?_
  have h : Host.sin angR (ix2 r ⟨l.val % 64, by omega⟩) = FloatOps.hostUnary (F := Ideal) (φ := .f32) .sin (ang r.val (l.val % 64)) :=
    congrArg (FloatOps.hostUnary (F := Ideal) (φ := .f32) .sin) (angR_apply r _)
  unfold sinT
  by_cases hl : l.val < 64
  · rw [if_pos hl, if_pos hl]; exact congrArg (fun x : EReal => -x) h
  · rw [if_neg hl, if_neg hl]; exact h

theorem V24_apply (r : Fin 64) (l : Fin 128) : (V m c main_v24 : FVec Ideal S64x128 .f32) (ix2 r l) = cosT r.val l.val := by
  rw [V24_eq]
  refine (catC_apply _ _ r l).trans ((ite_self _).trans ?_)
  exact congrArg (FloatOps.hostUnary (F := Ideal) (φ := .f32) .cos) (angC_apply r _)

theorem V27_apply (r : Fin 64) (l : Fin 128) : (V m c main_v27 : FVec Ideal S64x128 .f32) (ix2 r l) = sinT r.val l.val := by
  rw [V27_eq]
  refine (catC_apply _ _ r l).trans ?_
  have h : Host.sin angC (ix2 r ⟨l.val % 64, by omega⟩) = FloatOps.hostUnary (F := Ideal) (φ := .f32) .sin (ang r.val (l.val % 64)) :=
    congrArg (FloatOps.hostUnary (F := Ideal) (φ := .f32) .sin) (angC_apply r _)
  unfold sinT
  by_cases hl : l.val < 64
  · rw [if_pos hl, if_pos hl]; exact congrArg (fun x : EReal => -x) h
  · rw [if_neg hl, if_neg hl]; exact h

/-- A row of the two batch rows' vectors, reshaped. -/
theorem cast2_apply (x : FVec Ideal S2x1024 .f32) (b : Fin 2) (i : Fin 1024) :
    shapeCast S2x1x1024 x shapeCasts_S2x1024_S2x1x1024 (ix3 b 0 i) = x (ix2 b i) :=
  shapeCast_apply x _ (ix3 b 0 i) (ix2 b i) (by
    rw [Shape.rowMajor_val_two, Shape.rowMajor_val_three]
    show b.val * 1024 + i.val = (b.val * 1 + 0) * 1024 + i.val
    omega)

end Cert.Kernel2Ideal.Pj

end
-- ==== Proof.Pj.Vals.lean ====
/-
  The two results of the projection call, as functions of its argument arrays.
-/
module

public import proofs.«01_k».proof.Proof.Pj.Spec

@[expose] public section

noncomputable section

namespace Cert.Pj

open Idealize.ShloMosaic

/-- The residual stream after the output projection. -/
def XX (a b x : Fin 2 → Fin 16384 → Fin 1024 → EReal) (w : Fin 2048 → Fin 1024 → EReal) (post : Fin 1024 → EReal) (gate : Fin 2 → Fin 1024 → EReal)
    (i : Fin 2) (n : Fin 16384) (d : Fin 1024) : EReal := xrow (x i n) (yrow (a i n) (b i n) w) (gate i) post d

/-- The next layer's projections, its first 2048 columns turned by the position. -/
def UU (x : Fin 2 → Fin 16384 → Fin 1024 → EReal) (pre : Fin 1024 → EReal) (scale shift : Fin 2 → Fin 1024 → EReal) (w : Fin 1024 → Fin 6144 → EReal)
    (i : Fin 2) (n : Fin 16384) (e : Fin 6144) : EReal :=
  turn (urow (hrow (x i n) pre (scale i) (shift i)) (fun k e => w k e * colScale e.val))
    (fun a l => cosT (if a.val = 0 then n.val / 64 else n.val % 64) l.val) (fun a l => sinT (if a.val = 0 then n.val / 64 else n.val % 64) l.val) e

theorem at_three {k : ℕ} {f : Fin 2 → Fin 16384 → Fin k → EReal} {i i' : Fin 2} {n n' : Fin 16384} {d d' : Fin k} (h0 : i.val = i'.val)
    (h1 : n.val = n'.val) (h2 : d.val = d'.val) : f i n d = f i' n' d' := by
  obtain rfl := Fin.ext h0; obtain rfl := Fin.ext h1; obtain rfl := Fin.ext h2; rfl

end Cert.Pj

end
-- ==== Proof.Pj.Sweep.lean ====
/-
  The projection call: its windows' blocks as parts of the arrays, and the two arrays it leaves.
-/
module

public import proofs.«01_k».proof.Proof.Pj.Host
public import proofs.«01_k».proof.Proof.Pj.Vals
public import Idealize.ShloMosaic.Lib.Pipeline.ValueKit

@[expose] public section

set_option maxRecDepth 16384

noncomputable section

namespace Cert.Kernel2Ideal.Pj

open Cert.Kernel2Ideal Cert.Kernel2Ideal.Gen Cert.Pj
open Idealize.ShloMosaic hiding ix0 ix1 ix2 ix3 ix4 ix5 eq_ix2 eq_ix3 eq_ix4
open Idealize.ShloMosaic.ValueIdx
open Idealize.ShloMosaic.TcCoe

variable (m : (ℓ : Loc nD τ sig) → Buf (Elt Ideal) ℓ) (c : Dev nD)

abbrev A0 : FVec Ideal S2x16384x1024 .bf16 := m ((c : Thread nD τ).loc main_arg0)
abbrev A1 : FVec Ideal S2x16384x1024 .bf16 := m ((c : Thread nD τ).loc main_arg1)
abbrev A2 : FVec Ideal S2x16384x1024 .f32 := m ((c : Thread nD τ).loc main_arg2)
abbrev A3 : FVec Ideal S2048x1024 .f32 := m ((c : Thread nD τ).loc main_arg3)
abbrev A4 : FVec Ideal S1024 .f32 := m ((c : Thread nD τ).loc main_arg4)
abbrev A5 : FVec Ideal S2x1024 .f32 := m ((c : Thread nD τ).loc main_arg5)
abbrev A6 : FVec Ideal S1024 .f32 := m ((c : Thread nD τ).loc main_arg6)
abbrev A7 : FVec Ideal S2x1024 .f32 := m ((c : Thread nD τ).loc main_arg7)
abbrev A8 : FVec Ideal S2x1024 .f32 := m ((c : Thread nD τ).loc main_arg8)
abbrev A9 : FVec Ideal S1024x6144 .f32 := m ((c : Thread nD τ).loc main_arg9)

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 3) = t.val / 32 ∧ win0_1.index t (1 : Fin 3) = t.val % 32 ∧ win0_1.index t (2 : Fin 3) = 0 :=
  (by decide +kernel : ∀ t : Fin grid0.N, _)
theorem idx2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 32 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 32 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val % 32 ∧ win0_10.index t (1 : Fin 2) = 0 :=
  (by decide +kernel : ∀ t : Fin grid0.N, _)
theorem idx11 : ∀ t : Fin cfg0.N, win0_11.index t (0 : Fin 2) = t.val % 32 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 3) = t.val / 32 ∧ win0_14.index t (1 : Fin 3) = t.val % 32 ∧ win0_14.index t (2 : Fin 3) = 0 :=
  (by decide +kernel : ∀ t : Fin grid0.N, _)
theorem idx15 : ∀ t : Fin cfg0.N, win0_15.index t (0 : Fin 3) = t.val / 32 ∧ win0_15.index t (1 : Fin 3) = t.val % 32 ∧ win0_15.index t (2 : Fin 3) = 0 :=
  (by decide +kernel : ∀ t : Fin grid0.N, _)

theorem lt64 (t : Fin cfg0.N) : t.val < 64 := lt_of_lt_of_eq t.isLt (by decide)

/-- The batch row of a point. -/
def bI (t : Fin cfg0.N) : Fin 2 := ⟨t.val / 32, by have := lt64 t; omega⟩
/-- The position of a block's row. -/
def nI (t : Fin cfg0.N) (p : Fin 512) : Fin 16384 := ⟨t.val % 32 * 512 + p.val, by omega⟩
/-- The row of the row tables a block's row reads. -/
def rI (t : Fin cfg0.N) (r : Fin 8) : Fin 256 := ⟨t.val % 32 * 8 + r.val, by omega⟩

theorem rd0 (t : Fin cfg0.N) (p : Fin 512) (d : Fin 1024) : (iblk m c 0 t : FVec Ideal S1x512x1024 .bf16) (ix3 0 p d) = A0 m c (ix3 (bI t) (nI t p) d) := by
  show V m c main_arg0 (((cfg0.win 0).blk t).view.emb _) = _
  refine (congrFun (V_main_arg0 m c) _).trans ?_
  refine congrArg _ (funext fun a => Fin.ext ?_)
  match a with
  | ⟨0, _⟩ => exact Tools.emb_at win0_0 (idx0 t).1 (show t.val / 32 * 1 + 0 = t.val / 32 by omega)
  | ⟨1, _⟩ => exact Tools.emb_at win0_0 (idx0 t).2.1 (show t.val % 32 * 512 + p.val = t.val % 32 * 512 + p.val by omega)
  | ⟨2, _⟩ => exact Tools.emb_at win0_0 (idx0 t).2.2 (show 0 * 1024 + d.val = d.val by omega)

theorem rd1 (t : Fin cfg0.N) (p : Fin 512) (d : Fin 1024) : (iblk m c 1 t : FVec Ideal S1x512x1024 .bf16) (ix3 0 p d) = A1 m c (ix3 (bI t) (nI t p) d) := by
  show V m c main_arg1 (((cfg0.win 1).blk t).view.emb _) = _
  refine (congrFun (V_main_arg1 m c) _).trans ?_
  refine congrArg _ (funext fun a => Fin.ext ?_)
  match a with
  | ⟨0, _⟩ => exact Tools.emb_at win0_1 (idx1 t).1 (show t.val / 32 * 1 + 0 = t.val / 32 by omega)
  | ⟨1, _⟩ => exact Tools.emb_at win0_1 (idx1 t).2.1 (show t.val % 32 * 512 + p.val = t.val % 32 * 512 + p.val by omega)
  | ⟨2, _⟩ => exact Tools.emb_at win0_1 (idx1 t).2.2 (show 0 * 1024 + d.val = d.val by omega)

theorem rd2 (t : Fin cfg0.N) (p : Fin 512) (d : Fin 1024) : (iblk m c 2 t : FVec Ideal S1x512x1024 .f32) (ix3 0 p d) = A2 m c (ix3 (bI t) (nI t p) d) := by
  show V m c main_arg2 (((cfg0.win 2).blk t).view.emb _) = _
  refine (congrFun (V_main_arg2 m c) _).trans ?_
  refine congrArg _ (funext fun a => Fin.ext ?_)
  match a with
  | ⟨0, _⟩ => exact Tools.emb_at win0_2 (idx2 t).1 (show t.val / 32 * 1 + 0 = t.val / 32 by omega)
  | ⟨1, _⟩ => exact Tools.emb_at win0_2 (idx2 t).2.1 (show t.val % 32 * 512 + p.val = t.val % 32 * 512 + p.val by omega)
  | ⟨2, _⟩ => exact Tools.emb_at win0_2 (idx2 t).2.2 (show 0 * 1024 + d.val = d.val by omega)

theorem rd3 (t : Fin cfg0.N) (k : Fin 2048) (d : Fin 1024) : (iblk m c 3 t : FVec Ideal S2048x1024 .bf16) (ix2 k d) = A3 m c (ix2 k d) := by
  show V m c main_v36 (((cfg0.win 3).blk t).view.emb _) = _
  have h : (((cfg0.win 3).blk t).view.emb (ix2 k d : S2048x1024.Idx) : S2048x1024.Idx) = ix2 k d := funext fun a => Fin.ext (by
    match a with
    | ⟨0, _⟩ => exact Tools.emb_at win0_3 (idx3 t).1 (show 0 * 2048 + k.val = k.val by omega)
    | ⟨1, _⟩ => exact Tools.emb_at win0_3 (idx3 t).2 (show 0 * 1024 + d.val = d.val by omega))
  exact (congrArg (V m c main_v36 : FVec Ideal S2048x1024 .bf16) h).trans (congrFun (V36_eq m c) (ix2 k d))

theorem rd4 (t : Fin cfg0.N) (d : Fin 1024) : (iblk m c 4 t : FVec Ideal S1x1024 .f32) (ix2 0 d) = A4 m c (ix1 d) := by
  show V m c main_v37 (((cfg0.win 4).blk t).view.emb _) = _
  have h : (((cfg0.win 4).blk t).view.emb (ix2 0 d : S1x1024.Idx) : S1x1024.Idx) = ix2 0 d := funext fun a => Fin.ext (by
    match a with
    | ⟨0, _⟩ => exact Tools.emb_at win0_4 (idx4 t).1 (show 0 * 1 + 0 = 0 by omega)
    | ⟨1, _⟩ => exact Tools.emb_at win0_4 (idx4 t).2 (show 0 * 1024 + d.val = d.val by omega))
  exact (congrArg (V m c main_v37 : FVec Ideal S1x1024 .f32) h).trans ((congrFun (V37_eq m c) (ix2 0 d)).trans (shapeCast_a_1a_apply _ _ 0 d))

theorem rd6 (t : Fin cfg0.N) (d : Fin 1024) : (iblk m c 6 t : FVec Ideal S1x1024 .f32) (ix2 0 d) = A6 m c (ix1 d) := by
  show V m c main_v39 (((cfg0.win 6).blk t).view.emb _) = _
  have h : (((cfg0.win 6).blk t).view.emb (ix2 0 d : S1x1024.Idx) : S1x1024.Idx) = ix2 0 d := funext fun a => Fin.ext (by
    match a with
    | ⟨0, _⟩ => exact Tools.emb_at win0_6 (idx6 t).1 (show 0 * 1 + 0 = 0 by omega)
    | ⟨1, _⟩ => exact Tools.emb_at win0_6 (idx6 t).2 (show 0 * 1024 + d.val = d.val by omega))
  exact (congrArg (V m c main_v39 : FVec Ideal S1x1024 .f32) h).trans ((congrFun (V39_eq m c) (ix2 0 d)).trans (shapeCast_a_1a_apply _ _ 0 d))

theorem rd5 (t : Fin cfg0.N) (d : Fin 1024) : (iblk m c 5 t : FVec Ideal S1x1x1024 .f32) (ix3 0 0 d) = A5 m c (ix2 (bI t) d) := by
  show V m c main_v38 (((cfg0.win 5).blk t).view.emb _) = _
  have h : (((cfg0.win 5).blk t).view.emb (ix3 0 0 d : S1x1x1024.Idx) : S2x1x1024.Idx) = ix3 (bI t) 0 d := funext fun a => Fin.ext (by
    match a with
    | ⟨0, _⟩ => exact Tools.emb_at win0_5 (idx5 t).1 (show t.val / 32 * 1 + 0 = t.val / 32 by omega)
    | ⟨1, _⟩ => exact Tools.emb_at win0_5 (idx5 t).2.1 (show 0 * 1 + 0 = 0 by omega)
    | ⟨2, _⟩ => exact Tools.emb_at win0_5 (idx5 t).2.2 (show 0 * 1024 + d.val = d.val by omega))
  exact (congrArg (V m c main_v38 : FVec Ideal S2x1x1024 .f32) h).trans ((congrFun (V38_eq m c) (ix3 (bI t) 0 d)).trans (cast2_apply _ (bI t) d))

theorem rd7 (t : Fin cfg0.N) (d : Fin 1024) : (iblk m c 7 t : FVec Ideal S1x1x1024 .f32) (ix3 0 0 d) = A7 m c (ix2 (bI t) d) := by
  show V m c main_v40 (((cfg0.win 7).blk t).view.emb _) = _
  have h : (((cfg0.win 7).blk t).view.emb (ix3 0 0 d : S1x1x1024.Idx) : S2x1x1024.Idx) = ix3 (bI t) 0 d := funext fun a => Fin.ext (by
    match a with
    | ⟨0, _⟩ => exact Tools.emb_at win0_7 (idx7 t).1 (show t.val / 32 * 1 + 0 = t.val / 32 by omega)
    | ⟨1, _⟩ => exact Tools.emb_at win0_7 (idx7 t).2.1 (show 0 * 1 + 0 = 0 by omega)
    | ⟨2, _⟩ => exact Tools.emb_at win0_7 (idx7 t).2.2 (show 0 * 1024 + d.val = d.val by omega))
  exact (congrArg (V m c main_v40 : FVec Ideal S2x1x1024 .f32) h).trans ((congrFun (V40_eq m c) (ix3 (bI t) 0 d)).trans (cast2_apply _ (bI t) d))

theorem rd8 (t : Fin cfg0.N) (d : Fin 1024) : (iblk m c 8 t : FVec Ideal S1x1x1024 .f32) (ix3 0 0 d) = A8 m c (ix2 (bI t) d) := by
  show V m c main_v41 (((cfg0.win 8).blk t).view.emb _) = _
  have h : (((cfg0.win 8).blk t).view.emb (ix3 0 0 d : S1x1x1024.Idx) : S2x1x1024.Idx) = ix3 (bI t) 0 d := funext fun a => Fin.ext (by
    match a with
    | ⟨0, _⟩ => exact Tools.emb_at win0_8 (idx8 t).1 (show t.val / 32 * 1 + 0 = t.val / 32 by omega)
    | ⟨1, _⟩ => exact Tools.emb_at win0_8 (idx8 t).2.1 (show 0 * 1 + 0 = 0 by omega)
    | ⟨2, _⟩ => exact Tools.emb_at win0_8 (idx8 t).2.2 (show 0 * 1024 + d.val = d.val by omega))
  exact (congrArg (V m c main_v41 : FVec Ideal S2x1x1024 .f32) h).trans ((congrFun (V41_eq m c) (ix3 (bI t) 0 d)).trans (cast2_apply _ (bI t) d))

theorem rd9 (t : Fin cfg0.N) (k : Fin 1024) (e : Fin 6144) : (iblk m c 9 t : FVec Ideal S1024x6144 .bf16) (ix2 k e) = (fun x : EReal => x * colScale e.val) (A9 m c (ix2 k e)) := by
  show V m c main_v35 (((cfg0.win 9).blk t).view.emb _) = _
  have h : (((cfg0.win 9).blk t).view.emb (ix2 k e : S1024x6144.Idx) : S1024x6144.Idx) = ix2 k e := funext fun a => Fin.ext (by
    match a with
    | ⟨0, _⟩ => exact Tools.emb_at win0_9 (idx9 t).1 (show 0 * 1024 + k.val = k.val by omega)
    | ⟨1, _⟩ => exact Tools.emb_at win0_9 (idx9 t).2 (show 0 * 6144 + e.val = e.val by omega))
  exact (congrArg (V m c main_v35 : FVec Ideal S1024x6144 .bf16) h).trans (V35_apply m c k e)

theorem rd10 (t : Fin cfg0.N) (r : Fin 8) (l : Fin 128) : (iblk m c 10 t : FVec Ideal S8x128 .f32) (ix2 r l) = cosT (t.val % 32 * 8 + r.val) l.val := by
  show V m c main_v19 (((cfg0.win 10).blk t).view.emb _) = _
  have h : (((cfg0.win 10).blk t).view.emb (ix2 r l : S8x128.Idx) : S256x128.Idx) = ix2 (rI t r) l := funext fun a => Fin.ext (by
    match a with
    | ⟨0, _⟩ => exact Tools.emb_at win0_10 (idx10 t).1 (show t.val % 32 * 8 + r.val = t.val % 32 * 8 + r.val by omega)
    | ⟨1, _⟩ => exact Tools.emb_at win0_10 (idx10 t).2 (show 0 * 128 + l.val = l.val by omega))
  exact (congrArg (V m c main_v19 : FVec Ideal S256x128 .f32) h).trans (V19_apply m c (rI t r) l)

theorem rd11 (t : Fin cfg0.N) (r : Fin 8) (l : Fin 128) : (iblk m c 11 t : FVec Ideal S8x128 .f32) (ix2 r l) = sinT (t.val % 32 * 8 + r.val) l.val := by
  show V m c main_v22 (((cfg0.win 11).blk t).view.emb _) = _
  have h : (((cfg0.win 11).blk t).view.emb (ix2 r l : S8x128.Idx) : S256x128.Idx) = ix2 (rI t r) l := funext fun a => Fin.ext (by
    match a with
    | ⟨0, _⟩ => exact Tools.emb_at win0_11 (idx11 t).1 (show t.val % 32 * 8 + r.val = t.val % 32 * 8 + r.val by omega)
    | ⟨1, _⟩ => exact Tools.emb_at win0_11 (idx11 t).2 (show 0 * 128 + l.val = l.val by omega))
  exact (congrArg (V m c main_v22 : FVec Ideal S256x128 .f32) h).trans (V22_apply m c (rI t r) l)

theorem rd12 (t : Fin cfg0.N) (r : Fin 64) (l : Fin 128) : (iblk m c 12 t : FVec Ideal S64x128 .f32) (ix2 r l) = cosT r.val l.val := by
  show V m c main_v24 (((cfg0.win 12).blk t).view.emb _) = _
  have h : (((cfg0.win 12).blk t).view.emb (ix2 r l : S64x128.Idx) : S64x128.Idx) = ix2 r l := funext fun a => Fin.ext (by
    match a with
    | ⟨0, _⟩ => exact Tools.emb_at win0_12 (idx12 t).1 (show 0 * 64 + r.val = r.val by omega)
    | ⟨1, _⟩ => exact Tools.emb_at win0_12 (idx12 t).2 (show 0 * 128 + l.val = l.val by omega))
  exact (congrArg (V m c main_v24 : FVec Ideal S64x128 .f32) h).trans (V24_apply m c r l)

theorem rd13 (t : Fin cfg0.N) (r : Fin 64) (l : Fin 128) : (iblk m c 13 t : FVec Ideal S64x128 .f32) (ix2 r l) = sinT r.val l.val := by
  show V m c main_v27 (((cfg0.win 13).blk t).view.emb _) = _
  have h : (((cfg0.win 13).blk t).view.emb (ix2 r l : S64x128.Idx) : S64x128.Idx) = ix2 r l := funext fun a => Fin.ext (by
    match a with
    | ⟨0, _⟩ => exact Tools.emb_at win0_13 (idx13 t).1 (show 0 * 64 + r.val = r.val by omega)
    | ⟨1, _⟩ => exact Tools.emb_at win0_13 (idx13 t).2 (show 0 * 128 + l.val = l.val by omega))
  exact (congrArg (V m c main_v27 : FVec Ideal S64x128 .f32) h).trans (V27_apply m c r l)

/-- The residual stream over the launch contents. -/
def xK : Fin 2 → Fin 16384 → Fin 1024 → EReal := XX (fun b n i => A0 m c (ix3 b n i)) (fun b n i => A1 m c (ix3 b n i)) (fun b n i => A2 m c (ix3 b n i))
  (fun k i => A3 m c (ix2 k i)) (fun i => A4 m c (ix1 i)) (fun b i => A5 m c (ix2 b i))

/-- The projections over the launch contents. -/
def uK : Fin 2 → Fin 16384 → Fin 6144 → EReal := UU (xK m c) (fun i => A6 m c (ix1 i)) (fun b i => A7 m c (ix2 b i)) (fun b i => A8 m c (ix2 b i))
  (fun k e => A9 m c (ix2 k e))

theorem brow_val (t : Fin cfg0.N) (p : Fin 512) (d : Fin 1024) : brow (iblk m c 0 t) (iblk m c 1 t) (iblk m c 2 t) (iblk m c 3 t) (iblk m c 4 t) (iblk m c 5 t) p d = xK m c (bI t) (nI t p) d :=
  xrow_congr (fun i => rd2 m c t p i) (fun i => yrow_congr (fun i => rd0 m c t p i) (fun i => rd1 m c t p i) (fun k i => rd3 m c t k i) i)
    (fun i => rd5 m c t i) (fun i => rd4 m c t i) d

theorem o14_val (t : Fin cfg0.N) (p : Fin 512) (d : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 p d) = xK m c (bI t) (nI t p) d :=
  (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p d).trans (brow_val m c t p d)

theorem o15_val (t : Fin cfg0.N) (p : Fin 512) (e : Fin 6144) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 p e) = uK m c (bI t) (nI t p) e := by
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p e).trans ?_
  unfold uK UU
  refine turn_congr (fun e => urow_congr (fun i => hrow_congr (fun i => brow_val m c t p i) (fun i => rd6 m c t i) (fun i => rd7 m c t i) (fun i => rd8 m c t i) i)
    (fun k e => rd9 m c t k e) e) (fun a l => ?_) (fun a l => ?_) e
  · have hn : (nI t p).val = t.val % 32 * 512 + p.val := rfl
    by_cases ha : a.val = 0
    · rw [if_pos ha, if_pos ha, hn]
      exact (rd10 m c t ⟨p.val / 64, by omega⟩ l).trans (congrArg (fun n => cosT n l.val) (show t.val % 32 * 8 + p.val / 64 = _ by omega))
    · rw [if_neg ha, if_neg ha, hn]
      exact (rd12 m c t ⟨p.val % 64, by omega⟩ l).trans (congrArg (fun n => cosT n l.val) (show p.val % 64 = _ by omega))
  · have hn : (nI t p).val = t.val % 32 * 512 + p.val := rfl
    by_cases ha : a.val = 0
    · rw [if_pos ha, if_pos ha, hn]
      exact (rd11 m c t ⟨p.val / 64, by omega⟩ l).trans (congrArg (fun n => sinT n l.val) (show t.val % 32 * 8 + p.val / 64 = _ by omega))
    · rw [if_neg ha, if_neg ha, hn]
      exact (rd13 m c t ⟨p.val % 64, by omega⟩ l).trans (congrArg (fun n => sinT n l.val) (show p.val % 64 = _ by omega))

theorem ix3_x (y : S1x512x1024.Idx) : y = ix3 0 (y 1) (y 2) := by
  funext a; apply Fin.ext
  match a with
  | ⟨0, _⟩ => have h : (y 0).val < 1 := (y 0).isLt; show (y 0).val = 0; omega
  | ⟨1, _⟩ => rfl
  | ⟨2, _⟩ => rfl

theorem ix3_u (y : S1x512x6144.Idx) : y = ix3 0 (y 1) (y 2) := by
  funext a; apply Fin.ext
  match a with
  | ⟨0, _⟩ => have h : (y 0).val < 1 := (y 0).isLt; show (y 0).val = 0; omega
  | ⟨1, _⟩ => rfl
  | ⟨2, _⟩ => rfl

end Cert.Kernel2Ideal.Pj

end
-- ==== Proof.Pj.Arrays.lean ====
/-
  The two arrays the projection call leaves.
-/
module

public import proofs.«01_k».proof.Proof.Pj.Sweep

@[expose] public section

set_option maxRecDepth 16384

noncomputable section

namespace Cert.Kernel2Ideal.Pj

open Cert.Kernel2Ideal Cert.Kernel2Ideal.Gen Cert.Pj
open Idealize.ShloMosaic hiding ix0 ix1 ix2 ix3 ix4 ix5 eq_ix2 eq_ix3 eq_ix4
open Idealize.ShloMosaic.ValueIdx
open Idealize.ShloMosaic.TcCoe

variable (m : (ℓ : Loc nD τ sig) → Buf (Elt Ideal) ℓ) (c : Dev nD)

theorem arr_x : (dats m 0 c).arrAt 14 cfg0.N = fun y : S2x16384x1024.Idx => xK m c (y 0) (y 1) (y 2) := by
  refine (dats m 0 c).arrAt_eq_of_covers 14 _ (by decide +kernel) fun t hf y => ?_
  rw [after0_14]
  have ho := o14_val m c t
  generalize out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = o at ho ⊢
  refine (congrArg o (ix3_x y)).trans ((ho _ _).trans ?_)
  refine at_three ?_ ?_ ?_
  · refine Eq.trans ?_ (Pipeline.Window.rect_emb_val win0_14 t y (0 : Fin 3)).symm
    rw [(idx14 t).1]
    have h : (y (0 : Fin 3)).val < 1 := (y (0 : Fin 3)).isLt
    show t.val / 32 = t.val / 32 * 1 + (y (0 : Fin 3)).val
    omega
  · refine Eq.trans ?_ (Pipeline.Window.rect_emb_val win0_14 t y (1 : Fin 3)).symm
    rw [(idx14 t).2.1]
    rfl
  · refine Eq.trans ?_ (Pipeline.Window.rect_emb_val win0_14 t y (2 : Fin 3)).symm
    rw [(idx14 t).2.2]
    show (y (2 : Fin 3)).val = 0 * 1024 + (y (2 : Fin 3)).val
    omega

theorem arr_u : (dats m 0 c).arrAt 15 cfg0.N = fun y : S2x16384x6144.Idx => uK m c (y 0) (y 1) (y 2) := by
  refine (dats m 0 c).arrAt_eq_of_covers 15 _ (by decide +kernel) fun t hf y => ?_
  rw [after0_15]
  have ho := o15_val m c t
  generalize out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = o at ho ⊢
  refine (congrArg o (ix3_u y)).trans ((ho _ _).trans ?_)
  refine at_three ?_ ?_ ?_
  · refine Eq.trans ?_ (Pipeline.Window.rect_emb_val win0_15 t y (0 : Fin 3)).symm
    rw [(idx15 t).1]
    have h : (y (0 : Fin 3)).val < 1 := (y (0 : Fin 3)).isLt
    show t.val / 32 = t.val / 32 * 1 + (y (0 : Fin 3)).val
    omega
  · refine Eq.trans ?_ (Pipeline.Window.rect_emb_val win0_15 t y (1 : Fin 3)).symm
    rw [(idx15 t).2.1]
    rfl
  · refine Eq.trans ?_ (Pipeline.Window.rect_emb_val win0_15 t y (2 : Fin 3)).symm
    rw [(idx15 t).2.2]
    show (y (2 : Fin 3)).val = 0 * 6144 + (y (2 : Fin 3)).val
    omega

end Cert.Kernel2Ideal.Pj

end
-- ==== Proof.Pj.RefA.lean ====
/-
  The projection's reference at an index: the residual stream, the next layer's projections and the rotary angles.
-/
module

public import proofs.«01_k».proof.Proof.Gen.Reference2Ideal.Read
public import proofs.«01_k».proof.Proof.Pj.Vals
public import proofs.«01_k».proof.Proof.Values

@[expose] public section

set_option maxRecDepth 16384

noncomputable section

namespace Cert.Reference2Ideal.Pj

open Cert.Reference2Ideal Cert.Reference2Ideal.Gen Cert.Reference2Ideal.Read Cert.Pj Cert.Values
open Idealize.ShloMosaic hiding ix0 ix1 ix2 ix3 ix4 ix5 ix6 eq_ix1 eq_ix2 eq_ix3 eq_ix4 eq_ix5 eq_ix6
open Idealize.ShloMosaic.ValueIdx

variable (x0 x1 : FVec Ideal S2x16384x1024 .bf16) (x2 : FVec Ideal S2x16384x1024 .f32) (x3 : FVec Ideal S2048x1024 .f32)
  (x4 : FVec Ideal S1024 .f32) (x5 : FVec Ideal S2x1024 .f32) (x6 : FVec Ideal S1024 .f32) (x7 x8 : FVec Ideal S2x1024 .f32)
  (x9 : FVec Ideal S1024x6144 .f32) (b : Fin 2) (n : Fin 16384)

theorem v2_lo (k : Fin 1024) : val_main_v2 (F := Ideal) x0 x1 (ix3 b n ⟨k.val, by omega⟩) = x0 (ix3 b n k) := by
  unfold val_main_v2
  refine (concatenate_pair_apply_left 2 (val_main_v0 (F := Ideal) x0) (val_main_v1 (F := Ideal) x1) concatenates_S2x16384x1024_S2x16384x1024_S2x16384x2048_d2
    (ix3 b n ⟨k.val, by omega⟩) rfl (ix3 b n k) fun a => ?_).trans rfl
  match a with
  | ⟨0, _⟩ => rfl
  | ⟨1, _⟩ => rfl
  | ⟨2, _⟩ => rfl

theorem v2_hi (k : Fin 1024) : val_main_v2 (F := Ideal) x0 x1 (ix3 b n ⟨1024 + k.val, by omega⟩) = x1 (ix3 b n k) := by
  unfold val_main_v2
  refine (concatenate_pair_apply_right 2 (val_main_v0 (F := Ideal) x0) (val_main_v1 (F := Ideal) x1) concatenates_S2x16384x1024_S2x16384x1024_S2x16384x2048_d2
    (ix3 b n ⟨1024 + k.val, by omega⟩) rfl rfl (ix3 b n k) (fun a ha => ?_) (Nat.add_comm _ _)).trans rfl
  match a with
  | ⟨0, _⟩ => rfl
  | ⟨1, _⟩ => rfl
  | ⟨2, _⟩ => exact absurd rfl ha

theorem v3_at (d : Fin 1024) : val_main_v3 (F := Ideal) x0 x1 x3 (ix3 b n d)
    = yrow (fun i => x0 (ix3 b n i)) (fun i => x1 (ix3 b n i)) (fun k i => x3 (ix2 k i)) d := by
  refine (val_main_v3_apply x0 x1 x3 _).trans ((Fin.sum_univ_add (a := 1024) (b := 1024) _).trans ?_)
  refine congrArg₂ (fun x y : EReal => x + y)
    (Finset.sum_congr rfl fun k _ => congrArg₂ (fun x y : EReal => x * y) ((congrArg (val_main_v2 (F := Ideal) x0 x1) (eq_ix3 _)).trans (v2_lo x0 x1 b n k)) (congrArg x3 (eq_ix2 _)))
    (Finset.sum_congr rfl fun k _ => congrArg₂ (fun x y : EReal => x * y) ((congrArg (val_main_v2 (F := Ideal) x0 x1) (eq_ix3 _)).trans (v2_hi x0 x1 b n k)) (congrArg x3 (eq_ix2 _)))

theorem v13_at (d : Fin 1024) : val_main_v13 (F := Ideal) x0 x1 x3 (ix3 b n d) = rms (fun i => val_main_v3 (F := Ideal) x0 x1 x3 (ix3 b n i)) := by
  rw [val_main_v13_apply, val_main_v12_apply, val_main_v11_apply, val_main_v9_apply, val_main_v7_apply, val_main_v6_apply, val_main_v8_apply, val_main_v10_apply]
  refine congrArg (fun s : EReal => Ideal.rsqrt (Ideal.div s (Ideal.ofBits .f32 0x44800000#32) + Ideal.ofBits .f32 0x358637BD#32)) ?_
  rw [val_main_cst_apply]
  refine (congrArg (fun z : EReal => z + _) (word_0.trans EReal.coe_zero)).trans ((zero_add _).trans (Finset.sum_congr rfl fun k _ => ?_))
  exact congrArg (fun y : EReal => y * y) (congrArg (val_main_v3 (F := Ideal) x0 x1 x3) (eq_ix3 _))

theorem v20_at (d : Fin 1024) : val_main_v20 (F := Ideal) x0 x1 x2 x3 x4 x5 (ix3 b n d)
    = XX (fun b n i => x0 (ix3 b n i)) (fun b n i => x1 (ix3 b n i)) (fun b n i => x2 (ix3 b n i)) (fun k i => x3 (ix2 k i)) (fun i => x4 (ix1 i))
      (fun b i => x5 (ix2 b i)) b n d := by
  have h3 := fun i => v3_at x0 x1 x3 b n i
  have hg : val_main_v18 (F := Ideal) x5 (ix3 b n d) = x5 (ix2 b d) := by
    rw [val_main_v18_apply, val_main_v4_apply]
    exact congrArg x5 (eq_ix2 _)
  have hp : val_main_v16 (F := Ideal) x4 (ix3 b n d) = x4 (ix1 d) := by
    rw [val_main_v16_apply, val_main_v15_apply]
    exact congrArg x4 (eq_ix1 _)
  have hr := (v13_at x0 x1 x3 b n d).trans (congrArg rms (funext h3))
  rw [val_main_v20_apply, val_main_v19_apply, val_main_v17_apply, val_main_v14_apply, hg, hp, hr, h3]
  rfl

theorem v57_at (d : Fin 1024) : val_main_v57 (F := Ideal) x0 x1 x2 x3 x4 x5 (ix3 b n d)
    = rms (fun i => val_main_v20 (F := Ideal) x0 x1 x2 x3 x4 x5 (ix3 b n i)) := by
  rw [val_main_v57_apply, val_main_v56_apply, val_main_v55_apply, val_main_v53_apply, val_main_v51_apply, val_main_v50_apply, val_main_v52_apply, val_main_v54_apply]
  refine congrArg (fun s : EReal => Ideal.rsqrt (Ideal.div s (Ideal.ofBits .f32 0x44800000#32) + Ideal.ofBits .f32 0x358637BD#32)) ?_
  rw [val_main_cst_4_apply]
  refine (congrArg (fun z : EReal => z + _) (word_0.trans EReal.coe_zero)).trans ((zero_add _).trans (Finset.sum_congr rfl fun k _ => ?_))
  exact congrArg (fun y : EReal => y * y) (congrArg (val_main_v20 (F := Ideal) x0 x1 x2 x3 x4 x5) (eq_ix3 _))

/-- The next layer's projections over the residual stream, before any turn. -/
def uR (x : Fin 2 → Fin 16384 → Fin 1024 → EReal) (e : Fin 6144) : EReal :=
  urow (hrow (x b n) (fun i => x6 (ix1 i)) (fun i => x7 (ix2 b i)) (fun i => x8 (ix2 b i))) (fun k e => x9 (ix2 k e)) e

theorem v69_at (d : Fin 1024) : val_main_v69 (F := Ideal) x0 x1 x2 x3 x4 x5 x6 x7 x8 (ix3 b n d)
    = hrow (fun i => val_main_v20 (F := Ideal) x0 x1 x2 x3 x4 x5 (ix3 b n i)) (fun i => x6 (ix1 i)) (fun i => x7 (ix2 b i)) (fun i => x8 (ix2 b i)) d := by
  have hg : val_main_v60 (F := Ideal) x6 (ix3 b n d) = x6 (ix1 d) := by
    rw [val_main_v60_apply, val_main_v59_apply]
    exact congrArg x6 (eq_ix1 _)
  have hp : val_main_v68 (F := Ideal) x8 (ix3 b n d) = x8 (ix2 b d) := by
    rw [val_main_v68_apply, val_main_v67_apply]
    exact congrArg x8 (eq_ix2 _)
  have hs : val_main_v65 (F := Ideal) x7 (ix3 b n d) = (fun y : EReal => Ideal.ofBits .f32 0x3F800000#32 + y) (x7 (ix2 b d)) := by
    rw [val_main_v65_apply, val_main_v64_apply, val_main_v63_apply, val_main_v62_apply]
    exact congrArg (fun y : EReal => Ideal.ofBits .f32 0x3F800000#32 + y) (congrArg x7 (eq_ix2 _))
  have hr := v57_at x0 x1 x2 x3 x4 x5 b n d
  rw [val_main_v69_apply, val_main_v66_apply, val_main_v61_apply, val_main_v58_apply, hg, hp, hr, hs]
  rfl

theorem v70_at (e : Fin 6144) : val_main_v70 (F := Ideal) x0 x1 x2 x3 x4 x5 x6 x7 x8 x9 (ix3 b n e)
    = uR x6 x7 x8 x9 b n (fun b n i => val_main_v20 (F := Ideal) x0 x1 x2 x3 x4 x5 (ix3 b n i)) e := by
  refine (val_main_v70_apply x0 x1 x2 x3 x4 x5 x6 x7 x8 x9 _).trans ?_
  unfold uR urow
  refine Finset.sum_congr rfl fun k _ => ?_
  exact congrArg₂ (fun x y : EReal => x * y)
    ((congrArg (val_main_v69 (F := Ideal) x0 x1 x2 x3 x4 x5 x6 x7 x8) (eq_ix3 _)).trans (v69_at x0 x1 x2 x3 x4 x5 x6 x7 x8 b n k)) (congrArg x9 (eq_ix2 _))

theorem v33_at (f : Fin 64) : val_main_v33 (F := Ideal) (ix1 f) = freq f.val := rfl
theorem v21_at (r : Fin 256) : val_main_v21 (F := Ideal) (ix1 r) = (FloatOps.sitofp (F := Ideal) .f32 (BitVec.ofNat 32 r.val) : EReal) := rfl
theorem v24_at (r : Fin 64) : val_main_v24 (F := Ideal) (ix1 r) = (FloatOps.sitofp (F := Ideal) .f32 (BitVec.ofNat 32 r.val) : EReal) := rfl

theorem v38_at (f : Fin 64) : val_main_v38 (F := Ideal) (ix2 n f) = ang (n.val / 64) f.val := by
  have h1 : val_main_v36 (F := Ideal) (ix2 n f) = (FloatOps.sitofp (F := Ideal) .f32 (BitVec.ofNat 32 (n.val / 64)) : EReal) := by
    rw [val_main_v36_apply, val_main_v34_apply, val_main_v23_apply, val_main_v22_apply]
    exact (congrArg (val_main_v21 (F := Ideal)) (eq_ix1 _)).trans (v21_at ⟨n.val / 64, by omega⟩)
  have h2 : val_main_v37 (F := Ideal) (ix2 n f) = freq f.val := by
    rw [val_main_v37_apply, val_main_v35_apply]
    exact (congrArg (val_main_v33 (F := Ideal)) (eq_ix1 _)).trans (v33_at f)
  exact congrArg₂ (fun x y : EReal => x * y) h1 h2

theorem v43_at (f : Fin 64) : val_main_v43 (F := Ideal) (ix2 n f) = ang (n.val % 64) f.val := by
  have h1 : val_main_v41 (F := Ideal) (ix2 n f) = (FloatOps.sitofp (F := Ideal) .f32 (BitVec.ofNat 32 (n.val % 64)) : EReal) := by
    rw [val_main_v41_apply, val_main_v39_apply, val_main_v27_apply, val_main_v26_apply, val_main_v25_apply]
    refine (congrArg (val_main_v24 (F := Ideal)) (funext fun a => Fin.ext ?_)).trans (v24_at ⟨n.val % 64, by omega⟩)
    match a with
    | ⟨0, _⟩ => show 0 * 64 + n.val % 64 = n.val % 64; omega
  have h2 : val_main_v42 (F := Ideal) (ix2 n f) = freq f.val := by
    rw [val_main_v42_apply, val_main_v40_apply]
    exact (congrArg (val_main_v33 (F := Ideal)) (eq_ix1 _)).trans (v33_at f)
  exact congrArg₂ (fun x y : EReal => x * y) h1 h2

theorem v46_at (a : Fin 2) (f : Fin 64) : val_main_v46 (F := Ideal) (ix3 n a f) = ang (if a.val = 0 then n.val / 64 else n.val % 64) f.val := by
  unfold val_main_v46
  by_cases ha : a.val = 0
  · rw [if_pos ha]
    refine (concatenate_pair_apply_left 1 (val_main_v44 (F := Ideal)) (val_main_v45 (F := Ideal)) concatenates_S16384x1x64_S16384x1x64_S16384x2x64_d1
      (ix3 n a f) rfl (ix3 n 0 f) fun x => ?_).trans ((val_main_v44_apply _).trans ((congrArg (val_main_v38 (F := Ideal)) (eq_ix2 _)).trans (v38_at n f)))
    match x with
    | ⟨0, _⟩ => rfl
    | ⟨1, _⟩ => exact ha.symm
    | ⟨2, _⟩ => rfl
  · rw [if_neg ha]
    refine (concatenate_pair_apply_right 1 (val_main_v44 (F := Ideal)) (val_main_v45 (F := Ideal)) concatenates_S16384x1x64_S16384x1x64_S16384x2x64_d1
      (ix3 n a f) rfl rfl (ix3 n 0 f) (fun x hx => ?_) (show 0 + 1 = a.val by omega)).trans
      ((val_main_v45_apply _).trans ((congrArg (val_main_v43 (F := Ideal)) (eq_ix2 _)).trans (v43_at n f)))
    match x with
    | ⟨0, _⟩ => rfl
    | ⟨1, _⟩ => exact absurd rfl hx
    | ⟨2, _⟩ => rfl

end Cert.Reference2Ideal.Pj

end
-- ==== Proof.Pj.RefB.lean ====
/-
  The projection's reference at an index: the turned columns and its second result.
-/
module

public import proofs.«01_k».proof.Proof.Pj.RefA
public import Idealize.ShloMosaic.Lib.ValueIdxRank6

@[expose] public section

set_option maxRecDepth 16384

noncomputable section

namespace Cert.Reference2Ideal.Pj

open Cert.Reference2Ideal Cert.Reference2Ideal.Gen Cert.Reference2Ideal.Read Cert.Pj Cert.Values
open Idealize.ShloMosaic hiding ix0 ix1 ix2 ix3 ix4 ix5 ix6 eq_ix1 eq_ix2 eq_ix3 eq_ix4 eq_ix5 eq_ix6
open Idealize.ShloMosaic.ValueIdx

section
variable (c s : FVec Ideal S16384x2x64 .f32) (y : FVec Ideal S2x16384x4x256 .f32)

/-- The columns by heads, spans, halves. -/
def six : FVec Ideal S2x16384x4x2x2x64 .f32 := shapeCast _ y shapeCasts_S2x16384x4x256_S2x16384x4x2x2x64
/-- The first halves. -/
def halfA : FVec Ideal S2x16384x4x2x64 .f32 := shapeCast _ (extractStridedSlice S2x16384x4x2x1x64 ![0, 0, 0, 0, 0, 0] (six y)
  slices_S2x16384x4x2x2x64_S2x16384x4x2x1x64_0_0_0_0_0_0) shapeCasts_S2x16384x4x2x1x64_S2x16384x4x2x64
/-- The second halves. -/
def halfB : FVec Ideal S2x16384x4x2x64 .f32 := shapeCast _ (extractStridedSlice S2x16384x4x2x1x64 ![0, 0, 0, 0, 1, 0] (six y)
  slices_S2x16384x4x2x2x64_S2x16384x4x2x1x64_0_0_0_0_1_0) shapeCasts_S2x16384x4x2x1x64_S2x16384x4x2x64
/-- A table over every batch row and head. -/
def spread : FVec Ideal S2x16384x4x2x64 .f32 := broadcastInDim S2x16384x4x2x64 ![0, 1, 2, 3, 4] bcast_S1x16384x1x2x64_S2x16384x4x2x64_0_1_2_3_4
  (broadcastInDim S1x16384x1x2x64 ![1, 3, 4] bcast_S16384x2x64_S1x16384x1x2x64_1_3_4 c)
/-- The turned first halves. -/
def outA : FVec Ideal S2x16384x4x2x64 .f32 := subf (mulf (halfA y) (spread c)) (mulf (halfB y) (spread s))
/-- The turned second halves. -/
def outB : FVec Ideal S2x16384x4x2x64 .f32 := addf (mulf (halfB y) (spread c)) (mulf (halfA y) (spread s))
/-- A half as one of the two. -/
def lift (z : FVec Ideal S2x16384x4x2x64 .f32) : FVec Ideal S2x16384x4x2x1x64 .f32 :=
  broadcastInDim S2x16384x4x2x1x64 ![0, 1, 2, 3, 5] bcast_S2x16384x4x2x64_S2x16384x4x2x1x64_0_1_2_3_5 z
/-- Both halves, over six axes. -/
def both : FVec Ideal S2x16384x4x2x2x64 .f32 := concatenate S2x16384x4x2x2x64 4 [⟨S2x16384x4x2x1x64, lift (outA c s y)⟩, ⟨S2x16384x4x2x1x64, lift (outB c s y)⟩]
  concatenates_S2x16384x4x2x1x64_S2x16384x4x2x1x64_S2x16384x4x2x2x64_d4
/-- The turned columns by heads. -/
def rope : FVec Ideal S2x16384x4x256 .f32 := shapeCast _ (both c s y) shapeCasts_S2x16384x4x2x2x64_S2x16384x4x256

theorem six_apply (b : Fin 2) (n : Fin 16384) (h : Fin 4) (a z : Fin 2) (f : Fin 64) :
    six y (ix6 b n h a z f) = y (ix4 b n h ⟨a.val * 128 + z.val * 64 + f.val, by omega⟩) :=
  shapeCast_apply y _ (ix6 b n h a z f) (ix4 b n h ⟨a.val * 128 + z.val * 64 + f.val, by omega⟩) (by
    rw [Shape.rowMajor_val_four, Shape.rowMajor_val_six]
    show ((b.val * 16384 + n.val) * 4 + h.val) * 256 + (a.val * 128 + z.val * 64 + f.val) = ((((b.val * 16384 + n.val) * 4 + h.val) * 2 + a.val) * 2 + z.val) * 64 + f.val
    omega)

theorem drop_apply (x : FVec Ideal S2x16384x4x2x1x64 .f32) (b : Fin 2) (n : Fin 16384) (h : Fin 4) (a : Fin 2) (f : Fin 64) :
    shapeCast S2x16384x4x2x64 x shapeCasts_S2x16384x4x2x1x64_S2x16384x4x2x64 (ix5 b n h a f) = x (ix6 b n h a 0 f) :=
  shapeCast_apply x _ (ix5 b n h a f) (ix6 b n h a 0 f) (by
    rw [Shape.rowMajor_val_five, Shape.rowMajor_val_six]
    show ((((b.val * 16384 + n.val) * 4 + h.val) * 2 + a.val) * 1 + 0) * 64 + f.val = (((b.val * 16384 + n.val) * 4 + h.val) * 2 + a.val) * 64 + f.val
    omega)

theorem halfA_apply (b : Fin 2) (n : Fin 16384) (h : Fin 4) (a : Fin 2) (f : Fin 64) :
    halfA y (ix5 b n h a f) = y (ix4 b n h ⟨a.val * 128 + f.val, by omega⟩) := by
  unfold halfA
  generalize hz : six y = z
  refine (drop_apply _ b n h a f).trans ?_
  refine (extractStridedSlice_apply ![0, 0, 0, 0, 0, 0] z slices_S2x16384x4x2x2x64_S2x16384x4x2x1x64_0_0_0_0_0_0
    (ix6 b n h a 0 f) (ix6 b n h a 0 f) (fun x => ?_)).trans ?_
  rotate_left
  · rw [← hz]
    exact (six_apply y b n h a 0 f).trans (congrArg (fun j => y (ix4 b n h j)) (Fin.ext (show a.val * 128 + 0 * 64 + f.val = a.val * 128 + f.val by omega)))
  match x with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => rfl
  | ⟨5, _⟩ => exact (Nat.zero_add _).symm

theorem halfB_apply (b : Fin 2) (n : Fin 16384) (h : Fin 4) (a : Fin 2) (f : Fin 64) :
    halfB y (ix5 b n h a f) = y (ix4 b n h ⟨a.val * 128 + 64 + f.val, by omega⟩) := by
  unfold halfB
  generalize hz : six y = z
  refine (drop_apply _ b n h a f).trans ?_
  refine (extractStridedSlice_apply ![0, 0, 0, 0, 1, 0] z slices_S2x16384x4x2x2x64_S2x16384x4x2x1x64_0_0_0_0_1_0
    (ix6 b n h a 0 f) (ix6 b n h a 1 f) (fun x => ?_)).trans ?_
  rotate_left
  · rw [← hz]
    exact (six_apply y b n h a 1 f).trans (congrArg (fun j => y (ix4 b n h j)) (Fin.ext (show a.val * 128 + 1 * 64 + f.val = a.val * 128 + 64 + f.val by omega)))
  match x with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => rfl
  | ⟨5, _⟩ => exact (Nat.zero_add _).symm

theorem spread_apply (b : Fin 2) (n : Fin 16384) (h : Fin 4) (a : Fin 2) (f : Fin 64) : spread c (ix5 b n h a f) = c (ix3 n a f) := by
  unfold spread
  generalize hz : broadcastInDim S1x16384x1x2x64 ![1, 3, 4] bcast_S16384x2x64_S1x16384x1x2x64_1_3_4 c = z
  refine (broadcastInDim_apply _ bcast_S1x16384x1x2x64_S2x16384x4x2x64_0_1_2_3_4 z (ix5 b n h a f) (ix5 0 n 0 a f) (fun x => match x with
    | ⟨0, _⟩ => by show 0 = if (1 : Nat) = 1 then 0 else b.val; rw [if_pos rfl]
    | ⟨1, _⟩ => by show n.val = if (16384 : Nat) = 1 then 0 else n.val; rw [if_neg (by decide)]
    | ⟨2, _⟩ => by show 0 = if (1 : Nat) = 1 then 0 else h.val; rw [if_pos rfl]
    | ⟨3, _⟩ => by show a.val = if (2 : Nat) = 1 then 0 else a.val; rw [if_neg (by decide)]
    | ⟨4, _⟩ => by show f.val = if (64 : Nat) = 1 then 0 else f.val; rw [if_neg (by decide)])).trans ?_
  rw [← hz]
  exact broadcastInDim_apply _ bcast_S16384x2x64_S1x16384x1x2x64_1_3_4 c (ix5 0 n 0 a f) (ix3 n a f) (fun x => match x with
    | ⟨0, _⟩ => by show n.val = if (16384 : Nat) = 1 then 0 else n.val; rw [if_neg (by decide)]
    | ⟨1, _⟩ => by show a.val = if (2 : Nat) = 1 then 0 else a.val; rw [if_neg (by decide)]
    | ⟨2, _⟩ => by show f.val = if (64 : Nat) = 1 then 0 else f.val; rw [if_neg (by decide)])

theorem lift_apply (z : FVec Ideal S2x16384x4x2x64 .f32) (b : Fin 2) (n : Fin 16384) (h : Fin 4) (a : Fin 2) (f : Fin 64) :
    lift z (ix6 b n h a 0 f) = z (ix5 b n h a f) :=
  broadcastInDim_apply _ bcast_S2x16384x4x2x64_S2x16384x4x2x1x64_0_1_2_3_5 z (ix6 b n h a 0 f) (ix5 b n h a f) (fun x => match x with
    | ⟨0, _⟩ => by show b.val = if (2 : Nat) = 1 then 0 else b.val; rw [if_neg (by decide)]
    | ⟨1, _⟩ => by show n.val = if (16384 : Nat) = 1 then 0 else n.val; rw [if_neg (by decide)]
    | ⟨2, _⟩ => by show h.val = if (4 : Nat) = 1 then 0 else h.val; rw [if_neg (by decide)]
    | ⟨3, _⟩ => by show a.val = if (2 : Nat) = 1 then 0 else a.val; rw [if_neg (by decide)]
    | ⟨4, _⟩ => by show f.val = if (64 : Nat) = 1 then 0 else f.val; rw [if_neg (by decide)])

theorem both_A (b : Fin 2) (n : Fin 16384) (h : Fin 4) (a : Fin 2) (f : Fin 64) : both c s y (ix6 b n h a 0 f) = outA c s y (ix5 b n h a f) := by
  refine (concatenate_pair_apply_left 4 (lift (outA c s y)) (lift (outB c s y)) concatenates_S2x16384x4x2x1x64_S2x16384x4x2x1x64_S2x16384x4x2x2x64_d4
    (ix6 b n h a 0 f) rfl (ix6 b n h a 0 f) fun x => ?_).trans (lift_apply _ b n h a f)
  match x with
  | ⟨0, _⟩ => rfl
  | ⟨1, _⟩ => rfl
  | ⟨2, _⟩ => rfl
  | ⟨3, _⟩ => rfl
  | ⟨4, _⟩ => rfl
  | ⟨5, _⟩ => rfl

theorem both_B (b : Fin 2) (n : Fin 16384) (h : Fin 4) (a : Fin 2) (f : Fin 64) : both c s y (ix6 b n h a 1 f) = outB c s y (ix5 b n h a f) := by
  refine (concatenate_pair_apply_right 4 (lift (outA c s y)) (lift (outB c s y)) concatenates_S2x16384x4x2x1x64_S2x16384x4x2x1x64_S2x16384x4x2x2x64_d4
    (ix6 b n h a 1 f) rfl rfl (ix6 b n h a 0 f) (fun x hx => ?_) rfl).trans (lift_apply _ b n h a f)
  match x with
  | ⟨0, _⟩ => rfl
  | ⟨1, _⟩ => rfl
  | ⟨2, _⟩ => rfl
  | ⟨3, _⟩ => rfl
  | ⟨4, _⟩ => exact absurd rfl hx
  | ⟨5, _⟩ => rfl

theorem rope_at (b : Fin 2) (n : Fin 16384) (h : Fin 4) (a z : Fin 2) (f : Fin 64) (j : Fin 256) (hj : j.val = a.val * 128 + z.val * 64 + f.val) :
    rope c s y (ix4 b n h j) = both c s y (ix6 b n h a z f) :=
  shapeCast_apply _ _ (ix4 b n h j) (ix6 b n h a z f) (by
    rw [Shape.rowMajor_val_four, Shape.rowMajor_val_six]
    show ((((b.val * 16384 + n.val) * 4 + h.val) * 2 + a.val) * 2 + z.val) * 64 + f.val = ((b.val * 16384 + n.val) * 4 + h.val) * 256 + j.val
    omega)

/-- The column a turned column takes its other part from. -/
def pr (e : Fin 1024) : Fin 1024 := ⟨e.val / 128 * 128 + (e.val % 128 + 64) % 128, by omega⟩

/-- The turned columns side by side again, from the columns of one row. -/
theorem roped (b : Fin 2) (n : Fin 16384) (g : Fin 1024 → EReal) (hy : ∀ (h : Fin 4) (j : Fin 256), y (ix4 b n h j) = g ⟨h.val * 256 + j.val, by omega⟩)
    (e : Fin 1024) : shapeCast S2x16384x1024 (rope c s y) shapeCasts_S2x16384x4x256_S2x16384x1024 (ix3 b n e)
      = if e.val % 128 < 64 then g e * (c (ix3 n ⟨e.val / 128 % 2, by omega⟩ ⟨e.val % 128 % 64, by omega⟩) : EReal)
          - g (pr e) * (s (ix3 n ⟨e.val / 128 % 2, by omega⟩ ⟨e.val % 128 % 64, by omega⟩) : EReal)
        else g e * (c (ix3 n ⟨e.val / 128 % 2, by omega⟩ ⟨e.val % 128 % 64, by omega⟩) : EReal)
          + g (pr e) * (s (ix3 n ⟨e.val / 128 % 2, by omega⟩ ⟨e.val % 128 % 64, by omega⟩) : EReal) := by
  refine (shapeCast_apply _ _ (ix3 b n e) (ix4 b n ⟨e.val / 256, by omega⟩ ⟨e.val % 256, by omega⟩) (by
    rw [Shape.rowMajor_val_three, Shape.rowMajor_val_four]
    show ((b.val * 16384 + n.val) * 4 + e.val / 256) * 256 + e.val % 256 = (b.val * 16384 + n.val) * 1024 + e.val
    omega)).trans ?_
  have hc := spread_apply c b n ⟨e.val / 256, by omega⟩ ⟨e.val / 128 % 2, by omega⟩ ⟨e.val % 128 % 64, by omega⟩
  have hs := spread_apply s b n ⟨e.val / 256, by omega⟩ ⟨e.val / 128 % 2, by omega⟩ ⟨e.val % 128 % 64, by omega⟩
  have hA := (halfA_apply y b n ⟨e.val / 256, by omega⟩ ⟨e.val / 128 % 2, by omega⟩ ⟨e.val % 128 % 64, by omega⟩).trans (hy _ _)
  have hB := (halfB_apply y b n ⟨e.val / 256, by omega⟩ ⟨e.val / 128 % 2, by omega⟩ ⟨e.val % 128 % 64, by omega⟩).trans (hy _ _)
  by_cases hl : e.val % 128 < 64
  · rw [if_pos hl]
    refine (rope_at c s y b n _ ⟨e.val / 128 % 2, by omega⟩ 0 ⟨e.val % 128 % 64, by omega⟩ _
      (show e.val % 256 = e.val / 128 % 2 * 128 + 0 * 64 + e.val % 128 % 64 by omega)).trans ((both_A c s y b n _ _ _).trans ?_)
    refine congrArg₂ (fun p q : EReal => p - q) (congrArg₂ (fun p q : EReal => p * q) (hA.trans (congrArg g (Fin.ext ?_))) hc)
      (congrArg₂ (fun p q : EReal => p * q) (hB.trans (congrArg g (Fin.ext ?_))) hs)
    · show e.val / 256 * 256 + (e.val / 128 % 2 * 128 + e.val % 128 % 64) = e.val
      omega
    · show e.val / 256 * 256 + (e.val / 128 % 2 * 128 + 64 + e.val % 128 % 64) = e.val / 128 * 128 + (e.val % 128 + 64) % 128
      omega
  · rw [if_neg hl]
    refine (rope_at c s y b n _ ⟨e.val / 128 % 2, by omega⟩ 1 ⟨e.val % 128 % 64, by omega⟩ _
      (show e.val % 256 = e.val / 128 % 2 * 128 + 1 * 64 + e.val % 128 % 64 by omega)).trans ((both_B c s y b n _ _ _).trans ?_)
    refine congrArg₂ (fun p q : EReal => p + q) (congrArg₂ (fun p q : EReal => p * q) (hB.trans (congrArg g (Fin.ext ?_))) hc)
      (congrArg₂ (fun p q : EReal => p * q) (hA.trans (congrArg g (Fin.ext ?_))) hs)
    · show e.val / 256 * 256 + (e.val / 128 % 2 * 128 + 64 + e.val % 128 % 64) = e.val
      omega
    · show e.val / 256 * 256 + (e.val / 128 % 2 * 128 + e.val % 128 % 64) = e.val / 128 * 128 + (e.val % 128 + 64) % 128
      omega

end

theorem word_16th : Ideal.ofBits .f32 0x3D800000#32 = ((1 / 16 : ℝ) : EReal) := by
  simp [Ideal.ofBits, Ideal.ieee, -EReal.coe_mul]; norm_num

theorem colScale_real (e : ℕ) : ∃ r : ℝ, 0 ≤ r ∧ colScale e = (r : EReal) := by
  unfold colScale
  split
  · exact ⟨1 / 16, by norm_num, word_16th⟩
  · exact ⟨1, by norm_num, word_1⟩

/-- A column scaled before the product is the product's column scaled. -/
theorem urow_scale (h : Fin 1024 → EReal) (w : Fin 1024 → Fin 6144 → EReal) (e : Fin 6144) :
    urow h (fun k e => w k e * colScale e.val) e = urow h w e * colScale e.val := by
  obtain ⟨r, hr, he⟩ := colScale_real e.val
  unfold urow
  rw [he]
  show ∑ k, h k * (w k e * colScale e.val) = _
  rw [he]
  refine (Finset.sum_congr rfl fun k _ => (mul_assoc (h k) (w k e) (r : EReal)).symm).trans ?_
  induction (Finset.univ : Finset (Fin 1024)) using Finset.cons_induction with
  | empty => simp
  | cons a t ha ih =>
    rw [Finset.sum_cons, Finset.sum_cons, ih, EReal.right_distrib_of_nonneg_of_ne_top (EReal.coe_nonneg.mpr hr) (EReal.coe_ne_top r)]

theorem one_scale (x : EReal) : x * Ideal.ofBits .f32 0x3F800000#32 = x := by
  rw [word_1, EReal.coe_one, mul_one]

/-- A turned column with the cosine and the sine of its angle. -/
theorem turn_ref (r : Fin 6144 → EReal) (n : Fin 16384) (e : Fin 6144) (he : e.val < 2048) :
    turn r (fun a l => cosT (if a.val = 0 then n.val / 64 else n.val % 64) l.val) (fun a l => sinT (if a.val = 0 then n.val / 64 else n.val % 64) l.val) e
      = if e.val % 128 < 64 then
          r e * (FloatOps.hostUnary (F := Ideal) (φ := .f32) .cos (ang (if e.val / 128 % 2 = 0 then n.val / 64 else n.val % 64) (e.val % 128 % 64)) : EReal)
          - r (pair e) * (FloatOps.hostUnary (F := Ideal) (φ := .f32) .sin (ang (if e.val / 128 % 2 = 0 then n.val / 64 else n.val % 64) (e.val % 128 % 64)) : EReal)
        else
          r e * (FloatOps.hostUnary (F := Ideal) (φ := .f32) .cos (ang (if e.val / 128 % 2 = 0 then n.val / 64 else n.val % 64) (e.val % 128 % 64)) : EReal)
          + r (pair e) * (FloatOps.hostUnary (F := Ideal) (φ := .f32) .sin (ang (if e.val / 128 % 2 = 0 then n.val / 64 else n.val % 64) (e.val % 128 % 64)) : EReal) := by
  unfold turn
  rw [if_pos he]
  unfold cosT sinT
  dsimp only
  by_cases hl : e.val % 128 < 64
  · rw [if_pos hl, if_pos hl, mul_neg, ← sub_eq_add_neg]
  · rw [if_neg hl, if_neg hl]

variable (x0 x1 : FVec Ideal S2x16384x1024 .bf16) (x2 : FVec Ideal S2x16384x1024 .f32) (x3 : FVec Ideal S2048x1024 .f32)
  (x4 : FVec Ideal S1024 .f32) (x5 : FVec Ideal S2x1024 .f32) (x6 : FVec Ideal S1024 .f32) (x7 x8 : FVec Ideal S2x1024 .f32)
  (x9 : FVec Ideal S1024x6144 .f32) (b : Fin 2) (n : Fin 16384)

theorem v99_eq : val_main_v99 (F := Ideal) x0 x1 x2 x3 x4 x5 x6 x7 x8 x9
    = rope (val_main_v47 (F := Ideal)) (val_main_v48 (F := Ideal)) (val_main_v75 (F := Ideal) x0 x1 x2 x3 x4 x5 x6 x7 x8 x9) := rfl

theorem v121_eq : val_main_v121 (F := Ideal) x0 x1 x2 x3 x4 x5 x6 x7 x8 x9
    = rope (val_main_v47 (F := Ideal)) (val_main_v48 (F := Ideal)) (val_main_v78 (F := Ideal) x0 x1 x2 x3 x4 x5 x6 x7 x8 x9) := rfl

/-- The reference's projections at a row, unscaled. -/
abbrev U0 (e : Fin 6144) : EReal := val_main_v70 (F := Ideal) x0 x1 x2 x3 x4 x5 x6 x7 x8 x9 (ix3 b n e)

theorem v75_at (h : Fin 4) (j : Fin 256) : val_main_v75 (F := Ideal) x0 x1 x2 x3 x4 x5 x6 x7 x8 x9 (ix4 b n h j)
    = U0 x0 x1 x2 x3 x4 x5 x6 x7 x8 x9 b n ⟨h.val * 256 + j.val, by omega⟩ := by
  unfold val_main_v75 val_main_v71
  refine (shapeCast_apply _ _ (ix4 b n h j) (ix3 b n (⟨h.val * 256 + j.val, by omega⟩ : Fin 1024)) (by
    rw [Shape.rowMajor_val_three, Shape.rowMajor_val_four]
    show (b.val * 16384 + n.val) * 1024 + (h.val * 256 + j.val) = ((b.val * 16384 + n.val) * 4 + h.val) * 256 + j.val
    omega)).trans ?_
  refine extractStridedSlice_apply _ _ _ _ (ix3 b n ⟨h.val * 256 + j.val, by omega⟩) fun x => ?_
  match x with
  | ⟨0, _⟩ => exact (Nat.zero_add _).symm
  | ⟨1, _⟩ => exact (Nat.zero_add _).symm
  | ⟨2, _⟩ => exact (Nat.zero_add _).symm

theorem v78_at (h : Fin 4) (j : Fin 256) : val_main_v78 (F := Ideal) x0 x1 x2 x3 x4 x5 x6 x7 x8 x9 (ix4 b n h j)
    = U0 x0 x1 x2 x3 x4 x5 x6 x7 x8 x9 b n ⟨1024 + (h.val * 256 + j.val), by omega⟩ * Ideal.ofBits .f32 0x3D800000#32 := by
  have h76 : val_main_v76 (F := Ideal) x0 x1 x2 x3 x4 x5 x6 x7 x8 x9 (ix4 b n h j)
      = U0 x0 x1 x2 x3 x4 x5 x6 x7 x8 x9 b n ⟨1024 + (h.val * 256 + j.val), by omega⟩ := by
    unfold val_main_v76 val_main_v72
    refine (shapeCast_apply _ _ (ix4 b n h j) (ix3 b n (⟨h.val * 256 + j.val, by omega⟩ : Fin 1024)) (by
      rw [Shape.rowMajor_val_three, Shape.rowMajor_val_four]
      show (b.val * 16384 + n.val) * 1024 + (h.val * 256 + j.val) = ((b.val * 16384 + n.val) * 4 + h.val) * 256 + j.val
      omega)).trans ?_
    refine extractStridedSlice_apply _ _ _ _ (ix3 b n ⟨1024 + (h.val * 256 + j.val), by omega⟩) fun x => ?_
    match x with
    | ⟨0, _⟩ => exact (Nat.zero_add _).symm
    | ⟨1, _⟩ => exact (Nat.zero_add _).symm
    | ⟨2, _⟩ => rfl
  rw [val_main_v78_apply, h76, val_main_v77_apply]
  rfl

theorem c_at (a : Fin 2) (f : Fin 64) : (val_main_v47 (F := Ideal) (ix3 n a f) : EReal)
    = FloatOps.hostUnary (F := Ideal) (φ := .f32) .cos (ang (if a.val = 0 then n.val / 64 else n.val % 64) f.val) :=
  congrArg (FloatOps.hostUnary (F := Ideal) (φ := .f32) .cos) (v46_at n a f)

theorem s_at (a : Fin 2) (f : Fin 64) : (val_main_v48 (F := Ideal) (ix3 n a f) : EReal)
    = FloatOps.hostUnary (F := Ideal) (φ := .f32) .sin (ang (if a.val = 0 then n.val / 64 else n.val % 64) f.val) :=
  congrArg (FloatOps.hostUnary (F := Ideal) (φ := .f32) .sin) (v46_at n a f)

/-- The scaled projections of a row, turned. -/
def uT (e : Fin 6144) : EReal := turn (fun e => U0 x0 x1 x2 x3 x4 x5 x6 x7 x8 x9 b n e * colScale e.val)
  (fun a l => cosT (if a.val = 0 then n.val / 64 else n.val % 64) l.val) (fun a l => sinT (if a.val = 0 then n.val / 64 else n.val % 64) l.val) e

theorem v100_at (e : Fin 1024) : val_main_v100 (F := Ideal) x0 x1 x2 x3 x4 x5 x6 x7 x8 x9 (ix3 b n e)
    = uT x0 x1 x2 x3 x4 x5 x6 x7 x8 x9 b n ⟨e.val, by omega⟩ := by
  unfold val_main_v100 uT
  rw [v99_eq]
  refine (roped _ _ _ b n (fun e => U0 x0 x1 x2 x3 x4 x5 x6 x7 x8 x9 b n ⟨e.val, by omega⟩) (fun h j => v75_at x0 x1 x2 x3 x4 x5 x6 x7 x8 x9 b n h j) e).trans ?_
  rw [turn_ref _ n ⟨e.val, by omega⟩ (show e.val < 2048 by omega), c_at, s_at]
  have h1 : colScale e.val = Ideal.ofBits .f32 0x3F800000#32 := if_neg (by omega)
  have h2 : colScale (pair ⟨e.val, by omega⟩).val = Ideal.ofBits .f32 0x3F800000#32 :=
    if_neg (show ¬(1024 ≤ e.val / 128 * 128 + (e.val % 128 + 64) % 128 ∧ _) by omega)
  rw [h1, h2, one_scale, one_scale]
  rfl

theorem v122_at (e : Fin 1024) : val_main_v122 (F := Ideal) x0 x1 x2 x3 x4 x5 x6 x7 x8 x9 (ix3 b n e)
    = uT x0 x1 x2 x3 x4 x5 x6 x7 x8 x9 b n ⟨1024 + e.val, by omega⟩ := by
  unfold val_main_v122 uT
  rw [v121_eq]
  refine (roped _ _ _ b n (fun e => U0 x0 x1 x2 x3 x4 x5 x6 x7 x8 x9 b n ⟨1024 + e.val, by omega⟩ * Ideal.ofBits .f32 0x3D800000#32)
    (fun h j => v78_at x0 x1 x2 x3 x4 x5 x6 x7 x8 x9 b n h j) e).trans ?_
  rw [turn_ref _ n ⟨1024 + e.val, by omega⟩ (show 1024 + e.val < 2048 by omega), c_at, s_at]
  have h1 : colScale (1024 + e.val) = Ideal.ofBits .f32 0x3D800000#32 := if_pos (by omega)
  have hp : (⟨1024 + (pr e).val, by omega⟩ : Fin 6144) = pair ⟨1024 + e.val, by omega⟩ := Fin.ext
    (show 1024 + (e.val / 128 * 128 + (e.val % 128 + 64) % 128) = (1024 + e.val) / 128 * 128 + ((1024 + e.val) % 128 + 64) % 128 by omega)
  have h2 : colScale (pair ⟨1024 + e.val, by omega⟩).val = Ideal.ofBits .f32 0x3D800000#32 := by
    rw [← hp]; exact if_pos (show 1024 ≤ 1024 + (pr e).val ∧ 1024 + (pr e).val < 2048 by have := (pr e).isLt; omega)
  have e1 : (1024 + e.val) % 128 = e.val % 128 := by omega
  have e2 : (1024 + e.val) / 128 % 2 = e.val / 128 % 2 := by omega
  dsimp only
  rw [h1, h2, e1, e2, hp]

theorem v124_at (e : Fin 6144) : val_main_v124 (F := Ideal) x0 x1 x2 x3 x4 x5 x6 x7 x8 x9 (ix3 b n e) = uT x0 x1 x2 x3 x4 x5 x6 x7 x8 x9 b n e := by
  refine (show val_main_v124 (F := Ideal) x0 x1 x2 x3 x4 x5 x6 x7 x8 x9 (ix3 b n e) = val_main_v123 (F := Ideal) x0 x1 x2 x3 x4 x5 x6 x7 x8 x9 (ix3 b n e) from rfl).trans ?_
  unfold val_main_v123
  by_cases h0 : e.val < 1024
  · refine (concatenate_apply_piece (t := S2x16384x6144) 2 [⟨S2x16384x1024, val_main_v100 (F := Ideal) x0 x1 x2 x3 x4 x5 x6 x7 x8 x9⟩, ⟨S2x16384x1024, val_main_v122 (F := Ideal) x0 x1 x2 x3 x4 x5 x6 x7 x8 x9⟩, ⟨S2x16384x2048, val_main_v73 (F := Ideal) x0 x1 x2 x3 x4 x5 x6 x7 x8 x9⟩, ⟨S2x16384x2048, val_main_v74 (F := Ideal) x0 x1 x2 x3 x4 x5 x6 x7 x8 x9⟩]
      concatenates_S2x16384x1024_S2x16384x1024_S2x16384x2048_S2x16384x2048_S2x16384x6144_d2 (ix3 b n e) 0 (by decide : 0 < 4) S2x16384x1024 _ rfl rfl 0 rfl (ix3 b n ⟨e.val, h0⟩) (fun x hx => ?_) (Nat.zero_add e.val)).trans
      (v100_at x0 x1 x2 x3 x4 x5 x6 x7 x8 x9 b n ⟨e.val, h0⟩)
    match x with
    | ⟨0, _⟩ => rfl
    | ⟨1, _⟩ => rfl
    | ⟨2, _⟩ => exact absurd rfl hx
  by_cases h1 : e.val < 2048
  · refine (concatenate_apply_piece (t := S2x16384x6144) 2 [⟨S2x16384x1024, val_main_v100 (F := Ideal) x0 x1 x2 x3 x4 x5 x6 x7 x8 x9⟩, ⟨S2x16384x1024, val_main_v122 (F := Ideal) x0 x1 x2 x3 x4 x5 x6 x7 x8 x9⟩, ⟨S2x16384x2048, val_main_v73 (F := Ideal) x0 x1 x2 x3 x4 x5 x6 x7 x8 x9⟩, ⟨S2x16384x2048, val_main_v74 (F := Ideal) x0 x1 x2 x3 x4 x5 x6 x7 x8 x9⟩]
      concatenates_S2x16384x1024_S2x16384x1024_S2x16384x2048_S2x16384x2048_S2x16384x6144_d2 (ix3 b n e) 1 (by decide : 1 < 4) S2x16384x1024 _ rfl rfl 1024 rfl (ix3 b n ⟨e.val - 1024, by omega⟩) (fun x hx => ?_) (show 1024 + (e.val - 1024) = e.val by omega)).trans
      ((v122_at x0 x1 x2 x3 x4 x5 x6 x7 x8 x9 b n ⟨e.val - 1024, by omega⟩).trans (congrArg (uT x0 x1 x2 x3 x4 x5 x6 x7 x8 x9 b n) (Fin.ext (show 1024 + (e.val - 1024) = e.val by omega))))
    match x with
    | ⟨0, _⟩ => rfl
    | ⟨1, _⟩ => rfl
    | ⟨2, _⟩ => exact absurd rfl hx
  have hT : uT x0 x1 x2 x3 x4 x5 x6 x7 x8 x9 b n e = U0 x0 x1 x2 x3 x4 x5 x6 x7 x8 x9 b n e := by
    unfold uT turn
    dsimp only
    rw [if_neg h1, show colScale e.val = Ideal.ofBits .f32 0x3F800000#32 from if_neg (by omega), one_scale]
  rw [hT]
  by_cases h2 : e.val < 4096
  · refine (concatenate_apply_piece (t := S2x16384x6144) 2 [⟨S2x16384x1024, val_main_v100 (F := Ideal) x0 x1 x2 x3 x4 x5 x6 x7 x8 x9⟩, ⟨S2x16384x1024, val_main_v122 (F := Ideal) x0 x1 x2 x3 x4 x5 x6 x7 x8 x9⟩, ⟨S2x16384x2048, val_main_v73 (F := Ideal) x0 x1 x2 x3 x4 x5 x6 x7 x8 x9⟩, ⟨S2x16384x2048, val_main_v74 (F := Ideal) x0 x1 x2 x3 x4 x5 x6 x7 x8 x9⟩]
      concatenates_S2x16384x1024_S2x16384x1024_S2x16384x2048_S2x16384x2048_S2x16384x6144_d2 (ix3 b n e) 2 (by decide : 2 < 4) S2x16384x2048 _ rfl rfl 2048 rfl (ix3 b n ⟨e.val - 2048, by omega⟩) (fun x hx => ?_) (show 2048 + (e.val - 2048) = e.val by omega)).trans
      (extractStridedSlice_apply _ _ _ _ (ix3 b n e) fun x => ?_)
    · match x with
      | ⟨0, _⟩ => rfl
      | ⟨1, _⟩ => rfl
      | ⟨2, _⟩ => exact absurd rfl hx
    · match x with
      | ⟨0, _⟩ => exact (Nat.zero_add _).symm
      | ⟨1, _⟩ => exact (Nat.zero_add _).symm
      | ⟨2, _⟩ => show e.val = 2048 + (e.val - 2048); omega
  · refine (concatenate_apply_piece (t := S2x16384x6144) 2 [⟨S2x16384x1024, val_main_v100 (F := Ideal) x0 x1 x2 x3 x4 x5 x6 x7 x8 x9⟩, ⟨S2x16384x1024, val_main_v122 (F := Ideal) x0 x1 x2 x3 x4 x5 x6 x7 x8 x9⟩, ⟨S2x16384x2048, val_main_v73 (F := Ideal) x0 x1 x2 x3 x4 x5 x6 x7 x8 x9⟩, ⟨S2x16384x2048, val_main_v74 (F := Ideal) x0 x1 x2 x3 x4 x5 x6 x7 x8 x9⟩]
      concatenates_S2x16384x1024_S2x16384x1024_S2x16384x2048_S2x16384x2048_S2x16384x6144_d2 (ix3 b n e) 3 (by decide : 3 < 4) S2x16384x2048 _ rfl rfl 4096 rfl (ix3 b n ⟨e.val - 4096, by omega⟩) (fun x hx => ?_) (show 4096 + (e.val - 4096) = e.val by omega)).trans
      (extractStridedSlice_apply _ _ _ _ (ix3 b n e) fun x => ?_)
    · match x with
      | ⟨0, _⟩ => rfl
      | ⟨1, _⟩ => rfl
      | ⟨2, _⟩ => exact absurd rfl hx
    · match x with
      | ⟨0, _⟩ => exact (Nat.zero_add _).symm
      | ⟨1, _⟩ => exact (Nat.zero_add _).symm
      | ⟨2, _⟩ => show e.val = 4096 + (e.val - 4096); omega

/-- The second result is the call's projections over the first. -/
theorem uT_eq (e : Fin 6144) : uT x0 x1 x2 x3 x4 x5 x6 x7 x8 x9 b n e
    = UU (fun b n i => val_main_v20 (F := Ideal) x0 x1 x2 x3 x4 x5 (ix3 b n i)) (fun i => x6 (ix1 i)) (fun b i => x7 (ix2 b i)) (fun b i => x8 (ix2 b i))
      (fun k e => x9 (ix2 k e)) b n e := by
  unfold uT UU
  exact turn_congr (fun e => ((congrArg (fun x : EReal => x * colScale e.val) (v70_at x0 x1 x2 x3 x4 x5 x6 x7 x8 x9 b n e)).trans
    (urow_scale _ _ e).symm)) (fun _ _ => rfl) (fun _ _ => rfl) e

end Cert.Reference2Ideal.Pj

end
-- ==== Proof.Pj.Base.lean ====
/-
  The generated modules of the projection's programs.
-/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
-- ==== Proof.Pj.Final.lean ====
/-
  The projection's frames and its value claim: the call and its reference leave equal results.
-/
module

public import proofs.«01_k».proof.Defs
public import proofs.«01_k».proof.Proof.Pj.Arrays
public import proofs.«01_k».proof.Proof.Pj.RefB
public import proofs.«01_k».proof.Proof.Gen.Kernel2
public import proofs.«01_k».proof.Proof.Pj.Base
public import proofs.«01_k».proof.Proof.Gen.Kernel2Ideal
public import proofs.«01_k».proof.Proof.Gen.Reference2Ideal
public import Idealize.ShloMosaic.Lib.Quiescent

@[expose] public section

set_option maxRecDepth 16384

noncomputable section

namespace Cert.Reference2Ideal.Pj

open Cert.Reference2Ideal Cert.Reference2Ideal.Gen Cert.Reference2Ideal.Read Cert.Pj
open Idealize.ShloMosaic hiding ix0 ix1 ix2 ix3 ix4 ix5 ix6 eq_ix1 eq_ix2 eq_ix3 eq_ix4 eq_ix5 eq_ix6
open Idealize.ShloMosaic.ValueIdx

variable (x0 x1 : FVec Ideal S2x16384x1024 .bf16) (x2 : FVec Ideal S2x16384x1024 .f32) (x3 : FVec Ideal S2048x1024 .f32)
  (x4 : FVec Ideal S1024 .f32) (x5 : FVec Ideal S2x1024 .f32) (x6 : FVec Ideal S1024 .f32) (x7 x8 : FVec Ideal S2x1024 .f32)
  (x9 : FVec Ideal S1024x6144 .f32)

/-- The residual stream the reference leaves. -/
def xV (b : Fin 2) (n : Fin 16384) (d : Fin 1024) : EReal :=
  XX (fun b n i => x0 (ix3 b n i)) (fun b n i => x1 (ix3 b n i)) (fun b n i => x2 (ix3 b n i)) (fun k i => x3 (ix2 k i)) (fun i => x4 (ix1 i))
    (fun b i => x5 (ix2 b i)) b n d

theorem v20_fun : val_main_v20 (F := Ideal) x0 x1 x2 x3 x4 x5 = fun y : S2x16384x1024.Idx => xV x0 x1 x2 x3 x4 x5 (y 0) (y 1) (y 2) :=
  funext fun y => (congrArg (val_main_v20 (F := Ideal) x0 x1 x2 x3 x4 x5) (eq_ix3 y)).trans (v20_at x0 x1 x2 x3 x4 x5 (y 0) (y 1) (y 2))

theorem v124_fun : val_main_v124 (F := Ideal) x0 x1 x2 x3 x4 x5 x6 x7 x8 x9 = fun y : S2x16384x6144.Idx =>
    UU (xV x0 x1 x2 x3 x4 x5) (fun i => x6 (ix1 i)) (fun b i => x7 (ix2 b i)) (fun b i => x8 (ix2 b i)) (fun k e => x9 (ix2 k e)) (y 0) (y 1) (y 2) := by
  funext y
  refine (congrArg (val_main_v124 (F := Ideal) x0 x1 x2 x3 x4 x5 x6 x7 x8 x9) (eq_ix3 y)).trans
    ((v124_at x0 x1 x2 x3 x4 x5 x6 x7 x8 x9 (y 0) (y 1) (y 2)).trans ((uT_eq x0 x1 x2 x3 x4 x5 x6 x7 x8 x9 (y 0) (y 1) (y 2)).trans ?_))
  exact congrArg (fun f => UU f (fun i => x6 (ix1 i)) (fun b i => x7 (ix2 b i)) (fun b i => x8 (ix2 b i)) (fun k e => x9 (ix2 k e)) (y 0) (y 1) (y 2))
    (funext fun b => funext fun n => funext fun d => v20_at x0 x1 x2 x3 x4 x5 b n d)

end Cert.Reference2Ideal.Pj

namespace Cert.Proof

open Idealize.ShloMosaic hiding ix0 ix1 ix2 ix3 ix4 ix5 ix6 eq_ix1 eq_ix2 eq_ix3 eq_ix4 eq_ix5 eq_ix6
open Idealize.SL.Sem Idealize.ShloMosaic.ValueIdx

theorem frame_kernel2 : Cert.quiescent_Kernel2 (hKernel2 := Cert.Kernel2.Gen.facts) := fun m ρ _ => Cert.Kernel2.Gen.frame (F := Bits) m ρ

theorem frame_kernel2Ideal : Cert.quiescent_Kernel2Ideal (hKernel2Ideal := Cert.Kernel2Ideal.Gen.facts) := fun m ρ _ => Cert.Kernel2Ideal.Gen.frame (F := Ideal) m ρ

theorem frame_reference2Ideal : Cert.quiescent_Reference2Ideal (hReference2Ideal := Cert.Reference2Ideal.Gen.facts) := fun m ρ _ =>
  (θ_run Cert.Reference2Ideal.defs _ _).mono
    (fun r h => ⟨fun c => (h c).2.2, sem_eq_zero_of_no_sems (by decide) r.2⟩) (Cert.Reference2Ideal.Value.run (F := Ideal) m ρ)

/-- The projection's value claim. -/
theorem algebraic2 : Cert.algebraic_Kernel2Ideal_Reference2Ideal (hKernel2Ideal := Cert.Kernel2Ideal.Gen.facts)
    (hReference2Ideal := Cert.Reference2Ideal.Gen.facts) := by
  intro m g m' g' _ heq
  refine ⟨fun c => fun y : Cert.Kernel2Ideal.S2x16384x1024.Idx => Cert.Kernel2Ideal.Pj.xK m c (y 0) (y 1) (y 2),
    fun c => fun y : Cert.Kernel2Ideal.S2x16384x6144.Idx => Cert.Kernel2Ideal.Pj.uK m c (y 0) (y 1) (y 2), ?_, ?_⟩
  · refine (θ_run Cert.Kernel2Ideal.defs _ _).mono (fun r hr c => ?_) (Cert.Kernel2Ideal.Value.run_blocks (F := Ideal) m g)
    obtain ⟨h0, h1, h2⟩ := hr c
    exact ⟨h0.trans (Cert.Kernel2Ideal.Pj.arr_x m c), h1.trans (Cert.Kernel2Ideal.Pj.arr_u m c), h2⟩
  · refine (θ_run Cert.Reference2Ideal.defs _ _).mono (fun r hr c => ?_) (Cert.Reference2Ideal.Value.run (F := Ideal) m' g')
    obtain ⟨h0, h1, h2⟩ := hr c
    obtain ⟨e0, e1, e2, e3, e4, e5, e6, e7, e8, e9⟩ := heq c
    refine ⟨h0.trans ((Cert.Reference2Ideal.Read.val_main_v20_eq _ _ _ _ _ _).trans ((Cert.Reference2Ideal.Pj.v20_fun _ _ _ _ _ _).trans ?_)),
      h1.trans ((Cert.Reference2Ideal.Read.val_main_v124_eq m' c).trans ((Cert.Reference2Ideal.Pj.v124_fun _ _ _ _ _ _ _ _ _ _).trans ?_)), h2⟩
    · rw [e0, e1, e2, e3, e4, e5]
      rfl
    · rw [e0, e1, e2, e3, e4, e5, e6, e7, e8, e9]
      rfl

end Cert.Proof

end
-- ==== Proof.Pj.Gens.lean ====
/-
  The generated modules of the other projections' programs.
-/
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
-- ==== Proof.Pj.Wide.lean ====
/-
  The projections around the odd layers over the extended reals: their rows, and the parts of a grid point they share.
-/
module

public import proofs.«01_k».proof.Proof.Gen.Kernel4Ideal.Value
public import proofs.«01_k».proof.Proof.Gen.Kernel5Ideal.Value
public import proofs.«01_k».proof.Proof.Pj.Out
public import proofs.«01_k».proof.Proof.Pj.Vals

@[expose] public section

set_option maxRecDepth 16384

noncomputable section

namespace Cert.Wide

open Cert.Pj Cert.Kernel2Ideal.Pj
open Idealize.ShloMosaic hiding ix0 ix1 ix2 ix3 ix4 ix5 eq_ix2 eq_ix3 eq_ix4
open Idealize.ShloMosaic.ValueIdx

/-- A gate over its own logistic. -/
def silu (s : EReal) : EReal := s * Ideal.logistic s

/-- The output projection of a gated row. -/
def orow (a g : Fin 2048 → EReal) (w : Fin 2048 → Fin 1024 → EReal) (d : Fin 1024) : EReal := ∑ k : Fin 2048, (a k * silu (g k)) * w k d

/-- The input projection of a row onto 4096 columns. -/
def wrow (h : Fin 1024 → EReal) (w : Fin 1024 → Fin 4096 → EReal) (e : Fin 4096) : EReal := ∑ k : Fin 1024, h k * w k e

theorem orow_congr {a g a' g' : Fin 2048 → EReal} {w w' : Fin 2048 → Fin 1024 → EReal} (ha : ∀ i, a i = a' i) (hg : ∀ i, g i = g' i)
    (hw : ∀ k i, w k i = w' k i) (d : Fin 1024) : orow a g w d = orow a' g' w' d := by
  obtain rfl := funext ha; obtain rfl := funext hg; obtain rfl : w = w' := funext fun k => funext (hw k); rfl

theorem wrow_congr {h h' : Fin 1024 → EReal} {w w' : Fin 1024 → Fin 4096 → EReal} (hh : ∀ i, h i = h' i) (hw : ∀ k e, w k e = w' k e) (e : Fin 4096) :
    wrow h w e = wrow h' w' e := by
  obtain rfl := funext hh; obtain rfl : w = w' := funext fun k => funext (hw k); rfl

/-- The residual stream after an odd layer's output projection. -/
def XO (a g : Fin 2 → Fin 16384 → Fin 2048 → EReal) (x : Fin 2 → Fin 16384 → Fin 1024 → EReal) (w : Fin 2048 → Fin 1024 → EReal) (post : Fin 1024 → EReal)
    (gate : Fin 2 → Fin 1024 → EReal) (i : Fin 2) (n : Fin 16384) (d : Fin 1024) : EReal := xrow (x i n) (orow (a i n) (g i n) w) (gate i) post d

/-- The next layer's projections. -/
def UW (x : Fin 2 → Fin 16384 → Fin 1024 → EReal) (pre : Fin 1024 → EReal) (scale shift : Fin 2 → Fin 1024 → EReal) (w : Fin 1024 → Fin 4096 → EReal)
    (i : Fin 2) (n : Fin 16384) (e : Fin 4096) : EReal := wrow (hrow (x i n) pre (scale i) (shift i)) w e

/-- The block of the next layer's projections. -/
def Q (h : FVec Ideal Kernel4Ideal.S512x1024 .bf16) (w : Vec Ideal Kernel4Ideal.S1024x4096 .bf16) : Vec Ideal Kernel4Ideal.S1x512x4096 .bf16 :=
  fun y => wrow (fun k => h (ix2 (y 1) k)) (fun k e => w (ix2 k e)) (y 2)

theorem piece (h : FVec Ideal Kernel4Ideal.S512x1024 .bf16) (w : Vec Ideal Kernel4Ideal.S1024x4096 .bf16) (o : ℕ) (hin) (hout)
    (x : Kernel4Ideal.S1x512x256.Idx) :
    plain (prod h (View.ld w (Rect.unit (s := Kernel4Ideal.S1024x4096) ![0, o] Kernel4Ideal.S1024x256.size hin))) x
      = Q h w ((Rect.unit (s := Kernel4Ideal.S1x512x4096) ![0, 0, o] Kernel4Ideal.S1x512x256.size hout).idx x) := by
  obtain ⟨p, l, rfl⟩ := ix3_of x
  have hl : l.val < 256 := l.isLt
  have hb : o + 256 ≤ 4096 := hout 2
  refine (plain_apply _ p l).trans ((prod_apply h _ p l).trans ?_)
  unfold Q wrow
  refine Finset.sum_congr rfl fun k _ => congrArg₂ (fun x y : EReal => x * y) (congrArg h (funext fun a => Fin.ext ?_))
    (congrArg w (funext fun a => Fin.ext ?_))
  · match a with
    | ⟨0, _⟩ => show p.val = 0 + 1 * p.val; omega
    | ⟨1, _⟩ => rfl
  · match a with
    | ⟨0, _⟩ => show 0 + 1 * k.val = k.val; omega
    | ⟨1, _⟩ => rfl

theorem ix3_w (y : Kernel4Ideal.S1x512x4096.Idx) : y = ix3 0 (y 1) (y 2) := by
  funext a; apply Fin.ext
  match a with
  | ⟨0, _⟩ => have h : (y 0).val < 1 := (y 0).isLt; show (y 0).val = 0; omega
  | ⟨1, _⟩ => rfl
  | ⟨2, _⟩ => rfl

theorem ix3_n (y : Kernel4Ideal.S1x512x1024.Idx) : y = ix3 0 (y 1) (y 2) := by
  funext a; apply Fin.ext
  match a with
  | ⟨0, _⟩ => have h : (y 0).val < 1 := (y 0).isLt; show (y 0).val = 0; omega
  | ⟨1, _⟩ => rfl
  | ⟨2, _⟩ => rfl

section
open Cert.Kernel5Ideal Cert.Kernel5Ideal.Gen

theorem mmO_apply (l : FVec Ideal S512x2048 .bf16) (r : FVec Ideal S2048x1024 .bf16) (p : Fin 512) (d : Fin 1024) :
    FloatOps.matmul dot_S512x2048_S2048x1024_S512x1024_1_0_0_1_n_n none l r (constant S512x1024 .f32 0x00000000#32) (ix2 p d)
      = ∑ k : Fin 2048, l (ix2 p k) * r (ix2 k d) := by
  rw [Ideal.matmul_constant_zero_apply]
  rw [← Equiv.sum_comp (contrEquiv1 dot_S512x2048_S2048x1024_S512x1024_1_0_0_1_n_n 2048 rfl rfl).symm]
  refine Finset.sum_congr rfl fun k _ => ?_
  congr 2
  · funext a; fin_cases a <;> rfl
  · funext a; fin_cases a <;> rfl

/-- The block's rows, gated. -/
def gated (a g : Vec Ideal S1x512x2048 .bf16) : FVec Ideal S512x2048 .bf16 :=
  truncf .bf16 (mulf (F := Ideal) (extf .f32 (shapeCast S512x2048 a shapeCasts_S1x512x2048_S512x2048 : FVec Ideal S512x2048 .bf16) bitsLt_bf16_f32)
    (mulf (F := Ideal) (extf .f32 (shapeCast S512x2048 g shapeCasts_S1x512x2048_S512x2048 : FVec Ideal S512x2048 .bf16) bitsLt_bf16_f32)
      (logistic (F := Ideal) (extf .f32 (shapeCast S512x2048 g shapeCasts_S1x512x2048_S512x2048 : FVec Ideal S512x2048 .bf16) bitsLt_bf16_f32)))) bitsLt_bf16_f32

theorem gated_apply (a g : Vec Ideal S1x512x2048 .bf16) (p : Fin 512) (k : Fin 2048) :
    gated a g (ix2 p k) = (fun x y : EReal => x * silu y) (a (ix3 0 p k)) (g (ix3 0 p k)) :=
  congrArg₂ (fun x y : EReal => x * silu y) (shapeCast_1ab_ab_apply a shapeCasts_S1x512x2048_S512x2048 p k) (shapeCast_1ab_ab_apply g shapeCasts_S1x512x2048_S512x2048 p k)

/-- The gated rows' output projection. -/
def outp (a g : Vec Ideal S1x512x2048 .bf16) (w : Vec Ideal S2048x1024 .bf16) : FVec Ideal S512x1024 .f32 :=
  FloatOps.matmul (F := Ideal) (φ₁ := .bf16) (φ₂ := .bf16) dot_S512x2048_S2048x1024_S512x1024_1_0_0_1_n_n none (gated a g)
    (shapeCast S2048x1024 w shapeCasts_S2048x1024_S2048x1024) (constant S512x1024 .f32 0x00000000#32)

theorem outp_apply (a g : Vec Ideal S1x512x2048 .bf16) (w : Vec Ideal S2048x1024 .bf16) (p : Fin 512) (i : Fin 1024) :
    outp a g w (ix2 p i) = orow (fun k => a (ix3 0 p k)) (fun k => g (ix3 0 p k)) (fun k i => w (ix2 k i)) i :=
  (mmO_apply _ _ p i).trans (Finset.sum_congr rfl fun k _ => congrArg₂ (fun x y : EReal => x * y) (gated_apply a g p k) (same_apply w _ _))

/-- The residual block, at an index. -/
theorem res_apply (x0 : Vec Ideal S1x512x1024 .f32) (a g : Vec Ideal S1x512x2048 .bf16) (w : Vec Ideal S2048x1024 .bf16) (gt : Vec Ideal S1x1x1024 .f32)
    (q : Vec Ideal S1x1024 .f32) (p : Fin 512) (d : Fin 1024) :
    k0_pay2 (F := Ideal) x0 a g w gt q (ix2 p d) = xrow (fun i => x0 (ix3 0 p i))
      (orow (fun k => a (ix3 0 p k)) (fun k => g (ix3 0 p k)) (fun k i => w (ix2 k i))) (fun i => gt (ix3 0 0 i)) (fun i => q (ix2 0 i)) d := by
  refine Eq.trans ?_ (congrArg (fun y => xrow _ y _ _ d) (funext fun i => outp_apply a g w p i))
  unfold xrow
  rw [← scaled_apply (outp a g w) p d]
  refine congrArg₂ (fun x y : EReal => x + y) (shapeCast_1ab_ab_apply x0 _ p d) ?_
  refine congrArg₂ (fun x y : EReal => x * y) (mrow_apply gt p d) ?_
  exact congrArg (fun y : EReal => scaled (outp a g w) (ix2 p d) * y) (row_apply q p d)

theorem ldG_apply (v : Vec Ideal S1x512x2048 .bf16) (p : Fin 512) (i : Fin 2048) : View.ld v r0_1 (ix3 0 p i) = v (ix3 0 p i) := by
  refine congrArg v (funext fun a => Fin.ext ?_)
  match a with
  | ⟨0, _⟩ => rfl
  | ⟨1, _⟩ => show 0 + 1 * p.val = p.val; omega
  | ⟨2, _⟩ => show 0 + 1 * i.val = i.val; omega

theorem ldW_apply (v : Vec Ideal S2048x1024 .bf16) (k : Fin 2048) (i : Fin 1024) : View.ld v r0_2 (ix2 k i) = v (ix2 k i) := by
  refine congrArg v (funext fun a => Fin.ext ?_)
  match a with
  | ⟨0, _⟩ => show 0 + 1 * k.val = k.val; omega
  | ⟨1, _⟩ => show 0 + 1 * i.val = i.val; omega

/-- The residual row of a block. -/
def orw (x0 x1 : Vec Ideal S1x512x2048 .bf16) (x2 : Vec Ideal S1x512x1024 .f32) (x3 : Vec Ideal S2048x1024 .bf16) (x4 : Vec Ideal S1x1024 .f32)
    (x5 : Vec Ideal S1x1x1024 .f32) (p : Fin 512) : Fin 1024 → EReal := xrow (fun i => x2 (ix3 0 p i))
  (orow (fun k => x0 (ix3 0 p k)) (fun k => x1 (ix3 0 p k)) (fun k i => x3 (ix2 k i))) (fun i => x5 (ix3 0 0 i)) (fun i => x4 (ix2 0 i))

theorem resld_apply (x0 x1 : Vec Ideal S1x512x2048 .bf16) (x2 : Vec Ideal S1x512x1024 .f32) (x3 : Vec Ideal S2048x1024 .bf16) (x4 : Vec Ideal S1x1024 .f32)
    (x5 : Vec Ideal S1x1x1024 .f32) (p : Fin 512) (d : Fin 1024) :
    k0_pay2 (F := Ideal) (View.ld x2 r0_0) (View.ld x0 r0_1) (View.ld x1 r0_1) (View.ld x3 r0_2) (View.ld x5 r0_3) (View.ld x4 r0_4) (ix2 p d)
      = orw x0 x1 x2 x3 x4 x5 p d :=
  (res_apply _ _ _ _ _ _ p d).trans (xrow_congr (fun i => ldX_apply x2 p i)
    (fun i => orow_congr (fun k => ldG_apply x0 p k) (fun k => ldG_apply x1 p k) (fun k i => ldW_apply x3 k i) i) (fun i => ldM_apply x5 i) (fun i => ldR_apply x4 i) d)

/-- A residual block stored, at an index. -/
theorem stored (f : Fin 512 → Fin 1024 → EReal) (X : FVec Ideal S512x1024 .f32) (hX : ∀ p d, X (ix2 p d) = f p d) (h) (x : S1x512x1024.Idx) :
    shapeCast S1x512x1024 X h x = (fun y : S1x512x1024.Idx => f (y 1) (y 2)) (r0_0.idx x) := by
  rw [ix3_n x]
  refine (shapeCast_ab_1ab_apply X h 0 _ _).trans ((hX _ _).trans (congrArg₂ f (Fin.ext ?_) (Fin.ext ?_)))
  · show (x 1).val = 0 + 1 * (x 1).val; omega
  · show (x 2).val = 0 + 1 * (x 2).val; omega

end

end Cert.Wide

end
-- ==== Proof.Pj.First.lean ====
/-
  The first layer's input projection: its windows' blocks as parts of the arrays, its blocks at an index and the arrays it leaves.
-/
module

public import proofs.«01_k».proof.Proof.Pj.Wide
public import proofs.«01_k».proof.Proof.Gen.Kernel4Ideal.Value
public import proofs.«01_k».proof.Proof.Pj.Host
public import Idealize.ShloMosaic.Lib.Pipeline.ValueKit

@[expose] public section

set_option maxRecDepth 16384

noncomputable section

namespace Cert.Kernel4Ideal.Pj

open Cert.Kernel4Ideal Cert.Kernel4Ideal.Gen Cert.Pj Cert.Wide
open Cert.Kernel2Ideal.Pj (ldX_apply ldM_apply ldR_apply pay7_apply cast2_apply plain prod)
open Idealize.ShloMosaic hiding ix0 ix1 ix2 ix3 ix4 ix5 eq_ix2 eq_ix3 eq_ix4
open Idealize.ShloMosaic.ValueIdx
open Idealize.ShloMosaic.TcCoe

section
variable (x0 : Vec Ideal S1x512x1024 .f32) (x1 : Vec Ideal S1x1024 .f32) (x2 x3 : Vec Ideal S1x1x1024 .f32) (x4 : Vec Ideal S1024x4096 .bf16)

theorem row_at (p : Fin 512) (d : Fin 1024) : k0_pay20 (F := Ideal) x0 x1 x2 x3 x4 (ix2 p d)
    = hrow (fun i => x0 (ix3 0 p i)) (fun i => x1 (ix2 0 i)) (fun i => x2 (ix3 0 0 i)) (fun i => x3 (ix3 0 0 i)) d :=
  (pay7_apply (shapeCast S512x1024 (View.ld x0 r0_0) shapeCasts_S1x512x1024_S512x1024) (View.ld x1 r0_1) (View.ld x2 r0_2) (View.ld x3 r0_2) p d).trans
    (hrow_congr (fun i => (shapeCast_1ab_ab_apply (View.ld x0 r0_0) shapeCasts_S1x512x1024_S512x1024 p i).trans (ldX_apply x0 p i)) (fun i => ldR_apply x1 i) (fun i => ldM_apply x2 i) (fun i => ldM_apply x3 i) d)

theorem out5_eq (y : S1x512x4096.Idx) : out0_5 (F := Ideal) x0 x1 x2 x3 x4 y = Q (k0_pay20 (F := Ideal) x0 x1 x2 x3 x4) x4 y := by
  refine View.canon_apply_of_pieces (Q (k0_pay20 (F := Ideal) x0 x1 x2 x3 x4) x4) _ ?_ y (cover0_5 _ _ _ _ _ _ _ _ _ _ _ _ _ _ _ _ y)
  intro pc hpc
  rcases List.mem_cons.mp hpc with rfl | hpc
  · exact fun x => piece _ x4 3840 (by decide) (by decide) x
  rcases List.mem_cons.mp hpc with rfl | hpc
  · exact fun x => piece _ x4 3584 (by decide) (by decide) x
  rcases List.mem_cons.mp hpc with rfl | hpc
  · exact fun x => piece _ x4 3328 (by decide) (by decide) x
  rcases List.mem_cons.mp hpc with rfl | hpc
  · exact fun x => piece _ x4 3072 (by decide) (by decide) x
  rcases List.mem_cons.mp hpc with rfl | hpc
  · exact fun x => piece _ x4 2816 (by decide) (by decide) x
  rcases List.mem_cons.mp hpc with rfl | hpc
  · exact fun x => piece _ x4 2560 (by decide) (by decide) x
  rcases List.mem_cons.mp hpc with rfl | hpc
  · exact fun x => piece _ x4 2304 (by decide) (by decide) x
  rcases List.mem_cons.mp hpc with rfl | hpc
  · exact fun x => piece _ x4 2048 (by decide) (by decide) x
  rcases List.mem_cons.mp hpc with rfl | hpc
  · exact fun x => piece _ x4 1792 (by decide) (by decide) x
  rcases List.mem_cons.mp hpc with rfl | hpc
  · exact fun x => piece _ x4 1536 (by decide) (by decide) x
  rcases List.mem_cons.mp hpc with rfl | hpc
  · exact fun x => piece _ x4 1280 (by decide) (by decide) x
  rcases List.mem_cons.mp hpc with rfl | hpc
  · exact fun x => piece _ x4 1024 (by decide) (by decide) x
  rcases List.mem_cons.mp hpc with rfl | hpc
  · exact fun x => piece _ x4 768 (by decide) (by decide) x
  rcases List.mem_cons.mp hpc with rfl | hpc
  · exact fun x => piece _ x4 512 (by decide) (by decide) x
  rcases List.mem_cons.mp hpc with rfl | hpc
  · exact fun x => piece _ x4 256 (by decide) (by decide) x
  rcases List.mem_cons.mp hpc with rfl | hpc
  · exact fun x => piece _ x4 0 (by decide) (by decide) x
  nomatch hpc

/-- The projections' block, at an index. -/
theorem out5_apply (p : Fin 512) (e : Fin 4096) : out0_5 (F := Ideal) x0 x1 x2 x3 x4 (ix3 0 p e)
    = wrow (hrow (fun i => x0 (ix3 0 p i)) (fun i => x1 (ix2 0 i)) (fun i => x2 (ix3 0 0 i)) (fun i => x3 (ix3 0 0 i))) (fun k e => x4 (ix2 k e)) e :=
  (out5_eq x0 x1 x2 x3 x4 _).trans (wrow_congr (fun i => row_at x0 x1 x2 x3 x4 p i) (fun _ _ => rfl) e)

end

variable (m : (ℓ : Loc nD τ sig) → Buf (Elt Ideal) ℓ) (c : Dev nD)

abbrev A0 : FVec Ideal S2x16384x1024 .f32 := m ((c : Thread nD τ).loc main_arg0)
abbrev A1 : FVec Ideal S1024 .f32 := m ((c : Thread nD τ).loc main_arg1)
abbrev A2 : FVec Ideal S2x1024 .f32 := m ((c : Thread nD τ).loc main_arg2)
abbrev A3 : FVec Ideal S2x1024 .f32 := m ((c : Thread nD τ).loc main_arg3)
abbrev A4 : FVec Ideal S1024x4096 .f32 := m ((c : Thread nD τ).loc main_arg4)

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 32 ∧ win0_5.index t (1 : Fin 3) = t.val % 32 ∧ win0_5.index t (2 : Fin 3) = 0 :=
  (by decide +kernel : ∀ t : Fin grid0.N, _)

theorem lt64 (t : Fin cfg0.N) : t.val < 64 := lt_of_lt_of_eq t.isLt (by decide)

/-- The batch row of a point. -/
def bI (t : Fin cfg0.N) : Fin 2 := ⟨t.val / 32, by have := lt64 t; omega⟩
/-- The position of a block's row. -/
def nI (t : Fin cfg0.N) (p : Fin 512) : Fin 16384 := ⟨t.val % 32 * 512 + p.val, by omega⟩

theorem rd0 (t : Fin cfg0.N) (p : Fin 512) (d : Fin 1024) : (iblk m c 0 t : FVec Ideal S1x512x1024 .f32) (ix3 0 p d) = A0 m c (ix3 (bI t) (nI t p) d) := by
  refine (congrFun (V_main_arg0 m c) _).trans (congrArg (A0 m c) (funext fun a => Fin.ext ((Pipeline.Window.rect_emb_val win0_0 t _ a).trans ?_)))
  match a with
  | ⟨0, _⟩ => exact Tools.ax (idx0 t).1 (show t.val / 32 * 1 + 0 = t.val / 32 by omega)
  | ⟨1, _⟩ => exact Tools.ax (idx0 t).2.1 (show t.val % 32 * 512 + p.val = t.val % 32 * 512 + p.val by omega)
  | ⟨2, _⟩ => exact Tools.ax (idx0 t).2.2 (show 0 * 1024 + d.val = d.val by omega)

theorem rd1 (t : Fin cfg0.N) (d : Fin 1024) : (iblk m c 1 t : FVec Ideal S1x1024 .f32) (ix2 0 d) = A1 m c (ix1 d) := by
  refine (congrFun (show V m c main_v0 = shapeCast S1x1024 (A1 m c) shapeCasts_S1024_S1x1024 by unfold V; after_results_simp <;> rfl) _).trans
    ((congrArg (shapeCast S1x1024 (A1 m c) shapeCasts_S1024_S1x1024) (funext fun a => Fin.ext ((Pipeline.Window.rect_emb_val win0_1 t _ a).trans ?_))).trans
      (shapeCast_a_1a_apply _ _ 0 d))
  match a with
  | ⟨0, _⟩ => exact Tools.ax (idx1 t).1 (show 0 * 1 + 0 = 0 by omega)
  | ⟨1, _⟩ => exact Tools.ax (idx1 t).2 (show 0 * 1024 + d.val = d.val by omega)

theorem rd2 (t : Fin cfg0.N) (d : Fin 1024) : (iblk m c 2 t : FVec Ideal S1x1x1024 .f32) (ix3 0 0 d) = A2 m c (ix2 (bI t) d) := by
  refine (congrFun (show V m c main_v1 = shapeCast S2x1x1024 (A2 m c) shapeCasts_S2x1024_S2x1x1024 by unfold V; after_results_simp <;> rfl) _).trans
    ((congrArg (shapeCast S2x1x1024 (A2 m c) shapeCasts_S2x1024_S2x1x1024) (funext fun a => Fin.ext ((Pipeline.Window.rect_emb_val win0_2 t _ a).trans ?_))).trans
      (cast2_apply (A2 m c) (bI t) d))
  match a with
  | ⟨0, _⟩ => exact Tools.ax (idx2 t).1 (show t.val / 32 * 1 + 0 = t.val / 32 by omega)
  | ⟨1, _⟩ => exact Tools.ax (idx2 t).2.1 (show 0 * 1 + 0 = 0 by omega)
  | ⟨2, _⟩ => exact Tools.ax (idx2 t).2.2 (show 0 * 1024 + d.val = d.val by omega)

theorem rd3 (t : Fin cfg0.N) (d : Fin 1024) : (iblk m c 3 t : FVec Ideal S1x1x1024 .f32) (ix3 0 0 d) = A3 m c (ix2 (bI t) d) := by
  refine (congrFun (show V m c main_v2 = shapeCast S2x1x1024 (A3 m c) shapeCasts_S2x1024_S2x1x1024 by unfold V; after_results_simp <;> rfl) _).trans
    ((congrArg (shapeCast S2x1x1024 (A3 m c) shapeCasts_S2x1024_S2x1x1024) (funext fun a => Fin.ext ((Pipeline.Window.rect_emb_val win0_3 t _ a).trans ?_))).trans
      (cast2_apply (A3 m c) (bI t) d))
  match a with
  | ⟨0, _⟩ => exact Tools.ax (idx3 t).1 (show t.val / 32 * 1 + 0 = t.val / 32 by omega)
  | ⟨1, _⟩ => exact Tools.ax (idx3 t).2.1 (show 0 * 1 + 0 = 0 by omega)
  | ⟨2, _⟩ => exact Tools.ax (idx3 t).2.2 (show 0 * 1024 + d.val = d.val by omega)

theorem rd4 (t : Fin cfg0.N) (k : Fin 1024) (d : Fin 4096) : (iblk m c 4 t : FVec Ideal S1024x4096 .bf16) (ix2 k d) = A4 m c (ix2 k d) := by
  refine (congrFun (show (V m c main_v3 : FVec Ideal S1024x4096 .bf16) = truncf .bf16 (A4 m c) bitsLt_bf16_f32 by unfold V; after_results_simp <;> rfl) _).trans
    (congrArg (A4 m c) (funext fun a => Fin.ext ((Pipeline.Window.rect_emb_val win0_4 t _ a).trans ?_)))
  match a with
  | ⟨0, _⟩ => exact Tools.ax (idx4 t).1 (show 0 * 1024 + k.val = k.val by omega)
  | ⟨1, _⟩ => exact Tools.ax (idx4 t).2 (show 0 * 4096 + d.val = d.val by omega)

/-- The projections over the launch contents. -/
def uK : Fin 2 → Fin 16384 → Fin 4096 → EReal := UW (fun b n i => A0 m c (ix3 b n i)) (fun i => A1 m c (ix1 i)) (fun b i => A2 m c (ix2 b i)) (fun b i => A3 m c (ix2 b i))
  (fun k e => A4 m c (ix2 k e))

theorem o5_val (t : Fin cfg0.N) (p : Fin 512) (e : Fin 4096) : out0_5 (F := Ideal) (iblk m c 0 t) (iblk m c 1 t) (iblk m c 2 t) (iblk m c 3 t) (iblk m c 4 t) (ix3 0 p e) = uK m c (bI t) (nI t p) e :=
  (out5_apply (iblk m c 0 t) (iblk m c 1 t) (iblk m c 2 t) (iblk m c 3 t) (iblk m c 4 t) p e).trans (wrow_congr (fun i => hrow_congr (fun i => rd0 m c t p i) (fun i => rd1 m c t i) (fun i => rd2 m c t i)
    (fun i => rd3 m c t i) i) (fun k e => rd4 m c t k e) e)

theorem arr_u : (dats m 0 c).arrAt 5 cfg0.N = fun y : S2x16384x4096.Idx => uK m c (y 0) (y 1) (y 2) := by
  refine (dats m 0 c).arrAt_eq_of_covers 5 _ (by decide +kernel) fun t hf y => ?_
  rw [after0_5]
  have ho := o5_val m c t
  generalize out0_5 (F := Ideal) (iblk m c 0 t) (iblk m c 1 t) (iblk m c 2 t) (iblk m c 3 t) (iblk m c 4 t) = o at ho ⊢
  refine (congrArg o (ix3_w y)).trans ((ho _ _).trans (at_three ?_ ?_ ?_))
  · refine Eq.trans ?_ (Pipeline.Window.rect_emb_val win0_5 t y (0 : Fin 3)).symm
    rw [(idx5 t).1]
    have h : (y (0 : Fin 3)).val < 1 := (y (0 : Fin 3)).isLt
    show t.val / 32 = t.val / 32 * 1 + (y (0 : Fin 3)).val
    omega
  · refine Eq.trans ?_ (Pipeline.Window.rect_emb_val win0_5 t y (1 : Fin 3)).symm
    rw [(idx5 t).2.1]
    rfl
  · refine Eq.trans ?_ (Pipeline.Window.rect_emb_val win0_5 t y (2 : Fin 3)).symm
    rw [(idx5 t).2.2]
    show (y (2 : Fin 3)).val = 0 * 4096 + (y (2 : Fin 3)).val
    omega

end Cert.Kernel4Ideal.Pj

end
-- ==== Proof.Pj.Last.lean ====
/-
  The last layer's output projection: its windows' blocks as parts of the arrays, its blocks at an index and the arrays it leaves.
-/
module

public import proofs.«01_k».proof.Proof.Pj.Wide
public import proofs.«01_k».proof.Proof.Gen.Kernel5Ideal.Value
public import proofs.«01_k».proof.Proof.Pj.Host
public import Idealize.ShloMosaic.Lib.Pipeline.ValueKit

@[expose] public section

set_option maxRecDepth 16384

noncomputable section

namespace Cert.Kernel5Ideal.Pj

open Cert.Kernel5Ideal Cert.Kernel5Ideal.Gen Cert.Pj Cert.Wide
open Cert.Kernel2Ideal.Pj (ldX_apply ldM_apply ldR_apply pay7_apply cast2_apply plain prod)
open Idealize.ShloMosaic hiding ix0 ix1 ix2 ix3 ix4 ix5 eq_ix2 eq_ix3 eq_ix4
open Idealize.ShloMosaic.ValueIdx
open Idealize.ShloMosaic.TcCoe

section
variable (x0 x1 : Vec Ideal S1x512x2048 .bf16) (x2 : Vec Ideal S1x512x1024 .f32) (x3 : Vec Ideal S2048x1024 .bf16) (x4 : Vec Ideal S1x1024 .f32)
  (x5 : Vec Ideal S1x1x1024 .f32)

/-- The residual stream's block, at an index. -/
theorem out6_apply (p : Fin 512) (d : Fin 1024) : out0_6 (F := Ideal) x0 x1 x2 x3 x4 x5 (ix3 0 p d) = orw x0 x1 x2 x3 x4 x5 p d := by
  refine (View.canon_apply_of_pieces (fun y : S1x512x1024.Idx => orw x0 x1 x2 x3 x4 x5 (y 1) (y 2)) _ ?_ (ix3 0 p d) (cover0_6 _ _)).trans rfl
  intro pc hpc
  rcases List.mem_cons.mp hpc with rfl | hpc
  · exact fun x => stored (orw x0 x1 x2 x3 x4 x5) _ (fun q l => resld_apply x0 x1 x2 x3 x4 x5 q l) _ x
  nomatch hpc

end

variable (m : (ℓ : Loc nD τ sig) → Buf (Elt Ideal) ℓ) (c : Dev nD)

abbrev A0 : FVec Ideal S2x16384x2048 .bf16 := m ((c : Thread nD τ).loc main_arg0)
abbrev A1 : FVec Ideal S2x16384x6144 .bf16 := m ((c : Thread nD τ).loc main_arg1)
abbrev A2 : FVec Ideal S2x16384x1024 .f32 := m ((c : Thread nD τ).loc main_arg2)
abbrev A3 : FVec Ideal S2048x1024 .f32 := m ((c : Thread nD τ).loc main_arg3)
abbrev A4 : FVec Ideal S1024 .f32 := m ((c : Thread nD τ).loc main_arg4)
abbrev A5 : FVec Ideal S2x1024 .f32 := m ((c : Thread nD τ).loc main_arg5)

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 3) = t.val / 32 ∧ win0_1.index t (1 : Fin 3) = t.val % 32 ∧ win0_1.index t (2 : Fin 3) = 2 :=
  (by decide +kernel : ∀ t : Fin grid0.N, _)
theorem idx2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 32 ∧ win0_6.index t (1 : Fin 3) = t.val % 32 ∧ win0_6.index t (2 : Fin 3) = 0 :=
  (by decide +kernel : ∀ t : Fin grid0.N, _)

theorem lt64 (t : Fin cfg0.N) : t.val < 64 := lt_of_lt_of_eq t.isLt (by decide)

/-- The batch row of a point. -/
def bI (t : Fin cfg0.N) : Fin 2 := ⟨t.val / 32, by have := lt64 t; omega⟩
/-- The position of a block's row. -/
def nI (t : Fin cfg0.N) (p : Fin 512) : Fin 16384 := ⟨t.val % 32 * 512 + p.val, by omega⟩

theorem rd0 (t : Fin cfg0.N) (p : Fin 512) (d : Fin 2048) : (iblk m c 0 t : FVec Ideal S1x512x2048 .bf16) (ix3 0 p d) = A0 m c (ix3 (bI t) (nI t p) d) := by
  refine (congrFun (V_main_arg0 m c) _).trans (congrArg (A0 m c) (funext fun a => Fin.ext ((Pipeline.Window.rect_emb_val win0_0 t _ a).trans ?_)))
  match a with
  | ⟨0, _⟩ => exact Tools.ax (idx0 t).1 (show t.val / 32 * 1 + 0 = t.val / 32 by omega)
  | ⟨1, _⟩ => exact Tools.ax (idx0 t).2.1 (show t.val % 32 * 512 + p.val = t.val % 32 * 512 + p.val by omega)
  | ⟨2, _⟩ => exact Tools.ax (idx0 t).2.2 (show 0 * 2048 + d.val = d.val by omega)

theorem rd1 (t : Fin cfg0.N) (p : Fin 512) (d : Fin 2048) : (iblk m c 1 t : FVec Ideal S1x512x2048 .bf16) (ix3 0 p d) = A1 m c (ix3 (bI t) (nI t p) ⟨4096 + d.val, by omega⟩) := by
  refine (congrFun (V_main_arg1 m c) _).trans (congrArg (A1 m c) (funext fun a => Fin.ext ((Pipeline.Window.rect_emb_val win0_1 t _ a).trans ?_)))
  match a with
  | ⟨0, _⟩ => exact Tools.ax (idx1 t).1 (show t.val / 32 * 1 + 0 = t.val / 32 by omega)
  | ⟨1, _⟩ => exact Tools.ax (idx1 t).2.1 (show t.val % 32 * 512 + p.val = t.val % 32 * 512 + p.val by omega)
  | ⟨2, _⟩ => exact Tools.ax (idx1 t).2.2 (show 2 * 2048 + d.val = 4096 + d.val by omega)

theorem rd2 (t : Fin cfg0.N) (p : Fin 512) (d : Fin 1024) : (iblk m c 2 t : FVec Ideal S1x512x1024 .f32) (ix3 0 p d) = A2 m c (ix3 (bI t) (nI t p) d) := by
  refine (congrFun (V_main_arg2 m c) _).trans (congrArg (A2 m c) (funext fun a => Fin.ext ((Pipeline.Window.rect_emb_val win0_2 t _ a).trans ?_)))
  match a with
  | ⟨0, _⟩ => exact Tools.ax (idx2 t).1 (show t.val / 32 * 1 + 0 = t.val / 32 by omega)
  | ⟨1, _⟩ => exact Tools.ax (idx2 t).2.1 (show t.val % 32 * 512 + p.val = t.val % 32 * 512 + p.val by omega)
  | ⟨2, _⟩ => exact Tools.ax (idx2 t).2.2 (show 0 * 1024 + d.val = d.val by omega)

theorem rd3 (t : Fin cfg0.N) (k : Fin 2048) (d : Fin 1024) : (iblk m c 3 t : FVec Ideal S2048x1024 .bf16) (ix2 k d) = A3 m c (ix2 k d) := by
  refine (congrFun (show (V m c main_v0 : FVec Ideal S2048x1024 .bf16) = truncf .bf16 (A3 m c) bitsLt_bf16_f32 by unfold V; after_results_simp <;> rfl) _).trans
    (congrArg (A3 m c) (funext fun a => Fin.ext ((Pipeline.Window.rect_emb_val win0_3 t _ a).trans ?_)))
  match a with
  | ⟨0, _⟩ => exact Tools.ax (idx3 t).1 (show 0 * 2048 + k.val = k.val by omega)
  | ⟨1, _⟩ => exact Tools.ax (idx3 t).2 (show 0 * 1024 + d.val = d.val by omega)

theorem rd4 (t : Fin cfg0.N) (d : Fin 1024) : (iblk m c 4 t : FVec Ideal S1x1024 .f32) (ix2 0 d) = A4 m c (ix1 d) := by
  refine (congrFun (show V m c main_v1 = shapeCast S1x1024 (A4 m c) shapeCasts_S1024_S1x1024 by unfold V; after_results_simp <;> rfl) _).trans
    ((congrArg (shapeCast S1x1024 (A4 m c) shapeCasts_S1024_S1x1024) (funext fun a => Fin.ext ((Pipeline.Window.rect_emb_val win0_4 t _ a).trans ?_))).trans
      (shapeCast_a_1a_apply _ _ 0 d))
  match a with
  | ⟨0, _⟩ => exact Tools.ax (idx4 t).1 (show 0 * 1 + 0 = 0 by omega)
  | ⟨1, _⟩ => exact Tools.ax (idx4 t).2 (show 0 * 1024 + d.val = d.val by omega)

theorem rd5 (t : Fin cfg0.N) (d : Fin 1024) : (iblk m c 5 t : FVec Ideal S1x1x1024 .f32) (ix3 0 0 d) = A5 m c (ix2 (bI t) d) := by
  refine (congrFun (show V m c main_v2 = shapeCast S2x1x1024 (A5 m c) shapeCasts_S2x1024_S2x1x1024 by unfold V; after_results_simp <;> rfl) _).trans
    ((congrArg (shapeCast S2x1x1024 (A5 m c) shapeCasts_S2x1024_S2x1x1024) (funext fun a => Fin.ext ((Pipeline.Window.rect_emb_val win0_5 t _ a).trans ?_))).trans
      (cast2_apply (A5 m c) (bI t) d))
  match a with
  | ⟨0, _⟩ => exact Tools.ax (idx5 t).1 (show t.val / 32 * 1 + 0 = t.val / 32 by omega)
  | ⟨1, _⟩ => exact Tools.ax (idx5 t).2.1 (show 0 * 1 + 0 = 0 by omega)
  | ⟨2, _⟩ => exact Tools.ax (idx5 t).2.2 (show 0 * 1024 + d.val = d.val by omega)

/-- The residual stream over the launch contents. -/
def xK : Fin 2 → Fin 16384 → Fin 1024 → EReal := XO (fun b n i => A0 m c (ix3 b n i)) (fun b n i => A1 m c (ix3 b n ⟨4096 + i.val, by omega⟩)) (fun b n i => A2 m c (ix3 b n i))
  (fun k i => A3 m c (ix2 k i)) (fun i => A4 m c (ix1 i)) (fun b i => A5 m c (ix2 b i))

theorem orw_val (t : Fin cfg0.N) (p : Fin 512) (d : Fin 1024) :
    orw (iblk m c 0 t) (iblk m c 1 t) (iblk m c 2 t) (iblk m c 3 t) (iblk m c 4 t) (iblk m c 5 t) p d = xK m c (bI t) (nI t p) d :=
  xrow_congr (fun i => rd2 m c t p i) (fun i => orow_congr (fun k => rd0 m c t p k) (fun k => rd1 m c t p k) (fun k i => rd3 m c t k i) i)
    (fun i => rd5 m c t i) (fun i => rd4 m c t i) d

theorem o6_val (t : Fin cfg0.N) (p : Fin 512) (d : Fin 1024) : out0_6 (F := Ideal) (iblk m c 0 t) (iblk m c 1 t) (iblk m c 2 t) (iblk m c 3 t) (iblk m c 4 t) (iblk m c 5 t) (ix3 0 p d) = xK m c (bI t) (nI t p) d :=
  (out6_apply (iblk m c 0 t) (iblk m c 1 t) (iblk m c 2 t) (iblk m c 3 t) (iblk m c 4 t) (iblk m c 5 t) p d).trans (orw_val m c t p d)

theorem arr_x : (dats m 0 c).arrAt 6 cfg0.N = fun y : S2x16384x1024.Idx => xK m c (y 0) (y 1) (y 2) := by
  refine (dats m 0 c).arrAt_eq_of_covers 6 _ (by decide +kernel) fun t hf y => ?_
  rw [after0_6]
  have ho := o6_val m c t
  generalize out0_6 (F := Ideal) (iblk m c 0 t) (iblk m c 1 t) (iblk m c 2 t) (iblk m c 3 t) (iblk m c 4 t) (iblk m c 5 t) = o at ho ⊢
  refine (congrArg o (ix3_n y)).trans ((ho _ _).trans (at_three ?_ ?_ ?_))
  · refine Eq.trans ?_ (Pipeline.Window.rect_emb_val win0_6 t y (0 : Fin 3)).symm
    rw [(idx6 t).1]
    have h : (y (0 : Fin 3)).val < 1 := (y (0 : Fin 3)).isLt
    show t.val / 32 = t.val / 32 * 1 + (y (0 : Fin 3)).val
    omega
  · refine Eq.trans ?_ (Pipeline.Window.rect_emb_val win0_6 t y (1 : Fin 3)).symm
    rw [(idx6 t).2.1]
    rfl
  · refine Eq.trans ?_ (Pipeline.Window.rect_emb_val win0_6 t y (2 : Fin 3)).symm
    rw [(idx6 t).2.2]
    show (y (2 : Fin 3)).val = 0 * 1024 + (y (2 : Fin 3)).val
    omega

end Cert.Kernel5Ideal.Pj

end
-- ==== Proof.Pj.Odd.lean ====
/-
  The projection between two odd layers: its windows' blocks as parts of the arrays, its blocks at an index and the arrays it leaves.
-/
module

public import proofs.«01_k».proof.Proof.Pj.Wide
public import proofs.«01_k».proof.Proof.Gen.Kernel3Ideal.Value
public import proofs.«01_k».proof.Proof.Pj.Host
public import Idealize.ShloMosaic.Lib.Pipeline.ValueKit

@[expose] public section

set_option maxRecDepth 16384

noncomputable section

namespace Cert.Kernel3Ideal.Pj

open Cert.Kernel3Ideal Cert.Kernel3Ideal.Gen Cert.Pj Cert.Wide
open Cert.Kernel2Ideal.Pj (ldX_apply ldM_apply ldR_apply pay7_apply cast2_apply plain prod)
open Idealize.ShloMosaic hiding ix0 ix1 ix2 ix3 ix4 ix5 eq_ix2 eq_ix3 eq_ix4
open Idealize.ShloMosaic.ValueIdx
open Idealize.ShloMosaic.TcCoe

section
variable (x0 x1 : Vec Ideal S1x512x2048 .bf16) (x2 : Vec Ideal S1x512x1024 .f32) (x3 : Vec Ideal S2048x1024 .bf16) (x4 : Vec Ideal S1x1024 .f32)
  (x5 : Vec Ideal S1x1x1024 .f32) (x6 : Vec Ideal S1x1024 .f32) (x7 x8 : Vec Ideal S1x1x1024 .f32) (x9 : Vec Ideal S1024x4096 .bf16)

/-- The residual stream's block, at an index. -/
theorem out10_apply (p : Fin 512) (d : Fin 1024) : out0_10 (F := Ideal) x0 x1 x2 x3 x4 x5 x6 x7 x8 x9 (ix3 0 p d) = orw x0 x1 x2 x3 x4 x5 p d := by
  refine (View.canon_apply_of_pieces (fun y : S1x512x1024.Idx => orw x0 x1 x2 x3 x4 x5 (y 1) (y 2)) _ ?_ (ix3 0 p d) (cover0_10 _ _)).trans rfl
  intro pc hpc
  rcases List.mem_cons.mp hpc with rfl | hpc
  · exact fun x => stored (orw x0 x1 x2 x3 x4 x5) _ (fun q l => resld_apply x0 x1 x2 x3 x4 x5 q l) _ x
  nomatch hpc

theorem row_at (p : Fin 512) (d : Fin 1024) : k0_pay24 (F := Ideal) x0 x1 x2 x3 x4 x5 x6 x7 x8 x9 (ix2 p d)
    = hrow (orw x0 x1 x2 x3 x4 x5 p) (fun i => x6 (ix2 0 i)) (fun i => x7 (ix3 0 0 i)) (fun i => x8 (ix3 0 0 i)) d :=
  (pay7_apply (k0_pay23 (F := Ideal) x0 x1 x2 x3 x4 x5 x6 x7 x8 x9) (View.ld x6 r0_4) (View.ld x7 r0_3) (View.ld x8 r0_3) p d).trans
    (hrow_congr (fun i => resld_apply x0 x1 x2 x3 x4 x5 p i) (fun i => ldR_apply x6 i) (fun i => ldM_apply x7 i) (fun i => ldM_apply x8 i) d)

theorem out11_eq (y : S1x512x4096.Idx) : out0_11 (F := Ideal) x0 x1 x2 x3 x4 x5 x6 x7 x8 x9 y = Q (k0_pay24 (F := Ideal) x0 x1 x2 x3 x4 x5 x6 x7 x8 x9) x9 y := by
  refine View.canon_apply_of_pieces (Q (k0_pay24 (F := Ideal) x0 x1 x2 x3 x4 x5 x6 x7 x8 x9) x9) _ ?_ y (cover0_11 _ _ _ _ _ _ _ _ _ _ _ _ _ _ _ _ y)
  intro pc hpc
  rcases List.mem_cons.mp hpc with rfl | hpc
  · exact fun x => piece _ x9 3840 (by decide) (by decide) x
  rcases List.mem_cons.mp hpc with rfl | hpc
  · exact fun x => piece _ x9 3584 (by decide) (by decide) x
  rcases List.mem_cons.mp hpc with rfl | hpc
  · exact fun x => piece _ x9 3328 (by decide) (by decide) x
  rcases List.mem_cons.mp hpc with rfl | hpc
  · exact fun x => piece _ x9 3072 (by decide) (by decide) x
  rcases List.mem_cons.mp hpc with rfl | hpc
  · exact fun x => piece _ x9 2816 (by decide) (by decide) x
  rcases List.mem_cons.mp hpc with rfl | hpc
  · exact fun x => piece _ x9 2560 (by decide) (by decide) x
  rcases List.mem_cons.mp hpc with rfl | hpc
  · exact fun x => piece _ x9 2304 (by decide) (by decide) x
  rcases List.mem_cons.mp hpc with rfl | hpc
  · exact fun x => piece _ x9 2048 (by decide) (by decide) x
  rcases List.mem_cons.mp hpc with rfl | hpc
  · exact fun x => piece _ x9 1792 (by decide) (by decide) x
  rcases List.mem_cons.mp hpc with rfl | hpc
  · exact fun x => piece _ x9 1536 (by decide) (by decide) x
  rcases List.mem_cons.mp hpc with rfl | hpc
  · exact fun x => piece _ x9 1280 (by decide) (by decide) x
  rcases List.mem_cons.mp hpc with rfl | hpc
  · exact fun x => piece _ x9 1024 (by decide) (by decide) x
  rcases List.mem_cons.mp hpc with rfl | hpc
  · exact fun x => piece _ x9 768 (by decide) (by decide) x
  rcases List.mem_cons.mp hpc with rfl | hpc
  · exact fun x => piece _ x9 512 (by decide) (by decide) x
  rcases List.mem_cons.mp hpc with rfl | hpc
  · exact fun x => piece _ x9 256 (by decide) (by decide) x
  rcases List.mem_cons.mp hpc with rfl | hpc
  · exact fun x => piece _ x9 0 (by decide) (by decide) x
  nomatch hpc

/-- The projections' block, at an index. -/
theorem out11_apply (p : Fin 512) (e : Fin 4096) : out0_11 (F := Ideal) x0 x1 x2 x3 x4 x5 x6 x7 x8 x9 (ix3 0 p e)
    = wrow (hrow (orw x0 x1 x2 x3 x4 x5 p) (fun i => x6 (ix2 0 i)) (fun i => x7 (ix3 0 0 i)) (fun i => x8 (ix3 0 0 i))) (fun k e => x9 (ix2 k e)) e :=
  (out11_eq x0 x1 x2 x3 x4 x5 x6 x7 x8 x9 _).trans (wrow_congr (fun i => row_at x0 x1 x2 x3 x4 x5 x6 x7 x8 x9 p i) (fun _ _ => rfl) e)

end

variable (m : (ℓ : Loc nD τ sig) → Buf (Elt Ideal) ℓ) (c : Dev nD)

abbrev A0 : FVec Ideal S2x16384x2048 .bf16 := m ((c : Thread nD τ).loc main_arg0)
abbrev A1 : FVec Ideal S2x16384x6144 .bf16 := m ((c : Thread nD τ).loc main_arg1)
abbrev A2 : FVec Ideal S2x16384x1024 .f32 := m ((c : Thread nD τ).loc main_arg2)
abbrev A3 : FVec Ideal S2048x1024 .f32 := m ((c : Thread nD τ).loc main_arg3)
abbrev A4 : FVec Ideal S1024 .f32 := m ((c : Thread nD τ).loc main_arg4)
abbrev A5 : FVec Ideal S2x1024 .f32 := m ((c : Thread nD τ).loc main_arg5)
abbrev A6 : FVec Ideal S1024 .f32 := m ((c : Thread nD τ).loc main_arg6)
abbrev A7 : FVec Ideal S2x1024 .f32 := m ((c : Thread nD τ).loc main_arg7)
abbrev A8 : FVec Ideal S2x1024 .f32 := m ((c : Thread nD τ).loc main_arg8)
abbrev A9 : FVec Ideal S1024x4096 .f32 := m ((c : Thread nD τ).loc main_arg9)

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 3) = t.val / 32 ∧ win0_1.index t (1 : Fin 3) = t.val % 32 ∧ win0_1.index t (2 : Fin 3) = 2 :=
  (by decide +kernel : ∀ t : Fin grid0.N, _)
theorem idx2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 32 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 32 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = t.val / 32 ∧ win0_10.index t (1 : Fin 3) = t.val % 32 ∧ win0_10.index t (2 : Fin 3) = 0 :=
  (by decide +kernel : ∀ t : Fin grid0.N, _)
theorem idx11 : ∀ t : Fin cfg0.N, win0_11.index t (0 : Fin 3) = t.val / 32 ∧ win0_11.index t (1 : Fin 3) = t.val % 32 ∧ win0_11.index t (2 : Fin 3) = 0 :=
  (by decide +kernel : ∀ t : Fin grid0.N, _)

theorem lt64 (t : Fin cfg0.N) : t.val < 64 := lt_of_lt_of_eq t.isLt (by decide)

/-- The batch row of a point. -/
def bI (t : Fin cfg0.N) : Fin 2 := ⟨t.val / 32, by have := lt64 t; omega⟩
/-- The position of a block's row. -/
def nI (t : Fin cfg0.N) (p : Fin 512) : Fin 16384 := ⟨t.val % 32 * 512 + p.val, by omega⟩

theorem rd0 (t : Fin cfg0.N) (p : Fin 512) (d : Fin 2048) : (iblk m c 0 t : FVec Ideal S1x512x2048 .bf16) (ix3 0 p d) = A0 m c (ix3 (bI t) (nI t p) d) := by
  refine (congrFun (V_main_arg0 m c) _).trans (congrArg (A0 m c) (funext fun a => Fin.ext ((Pipeline.Window.rect_emb_val win0_0 t _ a).trans ?_)))
  match a with
  | ⟨0, _⟩ => exact Tools.ax (idx0 t).1 (show t.val / 32 * 1 + 0 = t.val / 32 by omega)
  | ⟨1, _⟩ => exact Tools.ax (idx0 t).2.1 (show t.val % 32 * 512 + p.val = t.val % 32 * 512 + p.val by omega)
  | ⟨2, _⟩ => exact Tools.ax (idx0 t).2.2 (show 0 * 2048 + d.val = d.val by omega)

theorem rd1 (t : Fin cfg0.N) (p : Fin 512) (d : Fin 2048) : (iblk m c 1 t : FVec Ideal S1x512x2048 .bf16) (ix3 0 p d) = A1 m c (ix3 (bI t) (nI t p) ⟨4096 + d.val, by omega⟩) := by
  refine (congrFun (V_main_arg1 m c) _).trans (congrArg (A1 m c) (funext fun a => Fin.ext ((Pipeline.Window.rect_emb_val win0_1 t _ a).trans ?_)))
  match a with
  | ⟨0, _⟩ => exact Tools.ax (idx1 t).1 (show t.val / 32 * 1 + 0 = t.val / 32 by omega)
  | ⟨1, _⟩ => exact Tools.ax (idx1 t).2.1 (show t.val % 32 * 512 + p.val = t.val % 32 * 512 + p.val by omega)
  | ⟨2, _⟩ => exact Tools.ax (idx1 t).2.2 (show 2 * 2048 + d.val = 4096 + d.val by omega)

theorem rd2 (t : Fin cfg0.N) (p : Fin 512) (d : Fin 1024) : (iblk m c 2 t : FVec Ideal S1x512x1024 .f32) (ix3 0 p d) = A2 m c (ix3 (bI t) (nI t p) d) := by
  refine (congrFun (V_main_arg2 m c) _).trans (congrArg (A2 m c) (funext fun a => Fin.ext ((Pipeline.Window.rect_emb_val win0_2 t _ a).trans ?_)))
  match a with
  | ⟨0, _⟩ => exact Tools.ax (idx2 t).1 (show t.val / 32 * 1 + 0 = t.val / 32 by omega)
  | ⟨1, _⟩ => exact Tools.ax (idx2 t).2.1 (show t.val % 32 * 512 + p.val = t.val % 32 * 512 + p.val by omega)
  | ⟨2, _⟩ => exact Tools.ax (idx2 t).2.2 (show 0 * 1024 + d.val = d.val by omega)

theorem rd3 (t : Fin cfg0.N) (k : Fin 2048) (d : Fin 1024) : (iblk m c 3 t : FVec Ideal S2048x1024 .bf16) (ix2 k d) = A3 m c (ix2 k d) := by
  refine (congrFun (show (V m c main_v0 : FVec Ideal S2048x1024 .bf16) = truncf .bf16 (A3 m c) bitsLt_bf16_f32 by unfold V; after_results_simp <;> rfl) _).trans
    (congrArg (A3 m c) (funext fun a => Fin.ext ((Pipeline.Window.rect_emb_val win0_3 t _ a).trans ?_)))
  match a with
  | ⟨0, _⟩ => exact Tools.ax (idx3 t).1 (show 0 * 2048 + k.val = k.val by omega)
  | ⟨1, _⟩ => exact Tools.ax (idx3 t).2 (show 0 * 1024 + d.val = d.val by omega)

theorem rd4 (t : Fin cfg0.N) (d : Fin 1024) : (iblk m c 4 t : FVec Ideal S1x1024 .f32) (ix2 0 d) = A4 m c (ix1 d) := by
  refine (congrFun (show V m c main_v1 = shapeCast S1x1024 (A4 m c) shapeCasts_S1024_S1x1024 by unfold V; after_results_simp <;> rfl) _).trans
    ((congrArg (shapeCast S1x1024 (A4 m c) shapeCasts_S1024_S1x1024) (funext fun a => Fin.ext ((Pipeline.Window.rect_emb_val win0_4 t _ a).trans ?_))).trans
      (shapeCast_a_1a_apply _ _ 0 d))
  match a with
  | ⟨0, _⟩ => exact Tools.ax (idx4 t).1 (show 0 * 1 + 0 = 0 by omega)
  | ⟨1, _⟩ => exact Tools.ax (idx4 t).2 (show 0 * 1024 + d.val = d.val by omega)

theorem rd5 (t : Fin cfg0.N) (d : Fin 1024) : (iblk m c 5 t : FVec Ideal S1x1x1024 .f32) (ix3 0 0 d) = A5 m c (ix2 (bI t) d) := by
  refine (congrFun (show V m c main_v2 = shapeCast S2x1x1024 (A5 m c) shapeCasts_S2x1024_S2x1x1024 by unfold V; after_results_simp <;> rfl) _).trans
    ((congrArg (shapeCast S2x1x1024 (A5 m c) shapeCasts_S2x1024_S2x1x1024) (funext fun a => Fin.ext ((Pipeline.Window.rect_emb_val win0_5 t _ a).trans ?_))).trans
      (cast2_apply (A5 m c) (bI t) d))
  match a with
  | ⟨0, _⟩ => exact Tools.ax (idx5 t).1 (show t.val / 32 * 1 + 0 = t.val / 32 by omega)
  | ⟨1, _⟩ => exact Tools.ax (idx5 t).2.1 (show 0 * 1 + 0 = 0 by omega)
  | ⟨2, _⟩ => exact Tools.ax (idx5 t).2.2 (show 0 * 1024 + d.val = d.val by omega)

theorem rd6 (t : Fin cfg0.N) (d : Fin 1024) : (iblk m c 6 t : FVec Ideal S1x1024 .f32) (ix2 0 d) = A6 m c (ix1 d) := by
  refine (congrFun (show V m c main_v3 = shapeCast S1x1024 (A6 m c) shapeCasts_S1024_S1x1024 by unfold V; after_results_simp <;> rfl) _).trans
    ((congrArg (shapeCast S1x1024 (A6 m c) shapeCasts_S1024_S1x1024) (funext fun a => Fin.ext ((Pipeline.Window.rect_emb_val win0_6 t _ a).trans ?_))).trans
      (shapeCast_a_1a_apply _ _ 0 d))
  match a with
  | ⟨0, _⟩ => exact Tools.ax (idx6 t).1 (show 0 * 1 + 0 = 0 by omega)
  | ⟨1, _⟩ => exact Tools.ax (idx6 t).2 (show 0 * 1024 + d.val = d.val by omega)

theorem rd7 (t : Fin cfg0.N) (d : Fin 1024) : (iblk m c 7 t : FVec Ideal S1x1x1024 .f32) (ix3 0 0 d) = A7 m c (ix2 (bI t) d) := by
  refine (congrFun (show V m c main_v4 = shapeCast S2x1x1024 (A7 m c) shapeCasts_S2x1024_S2x1x1024 by unfold V; after_results_simp <;> rfl) _).trans
    ((congrArg (shapeCast S2x1x1024 (A7 m c) shapeCasts_S2x1024_S2x1x1024) (funext fun a => Fin.ext ((Pipeline.Window.rect_emb_val win0_7 t _ a).trans ?_))).trans
      (cast2_apply (A7 m c) (bI t) d))
  match a with
  | ⟨0, _⟩ => exact Tools.ax (idx7 t).1 (show t.val / 32 * 1 + 0 = t.val / 32 by omega)
  | ⟨1, _⟩ => exact Tools.ax (idx7 t).2.1 (show 0 * 1 + 0 = 0 by omega)
  | ⟨2, _⟩ => exact Tools.ax (idx7 t).2.2 (show 0 * 1024 + d.val = d.val by omega)

theorem rd8 (t : Fin cfg0.N) (d : Fin 1024) : (iblk m c 8 t : FVec Ideal S1x1x1024 .f32) (ix3 0 0 d) = A8 m c (ix2 (bI t) d) := by
  refine (congrFun (show V m c main_v5 = shapeCast S2x1x1024 (A8 m c) shapeCasts_S2x1024_S2x1x1024 by unfold V; after_results_simp <;> rfl) _).trans
    ((congrArg (shapeCast S2x1x1024 (A8 m c) shapeCasts_S2x1024_S2x1x1024) (funext fun a => Fin.ext ((Pipeline.Window.rect_emb_val win0_8 t _ a).trans ?_))).trans
      (cast2_apply (A8 m c) (bI t) d))
  match a with
  | ⟨0, _⟩ => exact Tools.ax (idx8 t).1 (show t.val / 32 * 1 + 0 = t.val / 32 by omega)
  | ⟨1, _⟩ => exact Tools.ax (idx8 t).2.1 (show 0 * 1 + 0 = 0 by omega)
  | ⟨2, _⟩ => exact Tools.ax (idx8 t).2.2 (show 0 * 1024 + d.val = d.val by omega)

theorem rd9 (t : Fin cfg0.N) (k : Fin 1024) (d : Fin 4096) : (iblk m c 9 t : FVec Ideal S1024x4096 .bf16) (ix2 k d) = A9 m c (ix2 k d) := by
  refine (congrFun (show (V m c main_v6 : FVec Ideal S1024x4096 .bf16) = truncf .bf16 (A9 m c) bitsLt_bf16_f32 by unfold V; after_results_simp <;> rfl) _).trans
    (congrArg (A9 m c) (funext fun a => Fin.ext ((Pipeline.Window.rect_emb_val win0_9 t _ a).trans ?_)))
  match a with
  | ⟨0, _⟩ => exact Tools.ax (idx9 t).1 (show 0 * 1024 + k.val = k.val by omega)
  | ⟨1, _⟩ => exact Tools.ax (idx9 t).2 (show 0 * 4096 + d.val = d.val by omega)

/-- The residual stream over the launch contents. -/
def xK : Fin 2 → Fin 16384 → Fin 1024 → EReal := XO (fun b n i => A0 m c (ix3 b n i)) (fun b n i => A1 m c (ix3 b n ⟨4096 + i.val, by omega⟩)) (fun b n i => A2 m c (ix3 b n i))
  (fun k i => A3 m c (ix2 k i)) (fun i => A4 m c (ix1 i)) (fun b i => A5 m c (ix2 b i))

theorem orw_val (t : Fin cfg0.N) (p : Fin 512) (d : Fin 1024) :
    orw (iblk m c 0 t) (iblk m c 1 t) (iblk m c 2 t) (iblk m c 3 t) (iblk m c 4 t) (iblk m c 5 t) p d = xK m c (bI t) (nI t p) d :=
  xrow_congr (fun i => rd2 m c t p i) (fun i => orow_congr (fun k => rd0 m c t p k) (fun k => rd1 m c t p k) (fun k i => rd3 m c t k i) i)
    (fun i => rd5 m c t i) (fun i => rd4 m c t i) d

theorem o10_val (t : Fin cfg0.N) (p : Fin 512) (d : Fin 1024) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 p d) = xK m c (bI t) (nI t p) d :=
  (out10_apply (iblk m c 0 t) (iblk m c 1 t) (iblk m c 2 t) (iblk m c 3 t) (iblk m c 4 t) (iblk m c 5 t) (iblk m c 6 t) (iblk m c 7 t) (iblk m c 8 t) (iblk m c 9 t) p d).trans (orw_val m c t p d)

theorem arr_x : (dats m 0 c).arrAt 10 cfg0.N = fun y : S2x16384x1024.Idx => xK m c (y 0) (y 1) (y 2) := by
  refine (dats m 0 c).arrAt_eq_of_covers 10 _ (by decide +kernel) fun t hf y => ?_
  rw [after0_10]
  have ho := o10_val m c t
  generalize out0_10 (F := Ideal) (iblk m c 0 t) (iblk m c 1 t) (iblk m c 2 t) (iblk m c 3 t) (iblk m c 4 t) (iblk m c 5 t) (iblk m c 6 t) (iblk m c 7 t) (iblk m c 8 t) (iblk m c 9 t) = o at ho ⊢
  refine (congrArg o (ix3_n y)).trans ((ho _ _).trans (at_three ?_ ?_ ?_))
  · refine Eq.trans ?_ (Pipeline.Window.rect_emb_val win0_10 t y (0 : Fin 3)).symm
    rw [(idx10 t).1]
    have h : (y (0 : Fin 3)).val < 1 := (y (0 : Fin 3)).isLt
    show t.val / 32 = t.val / 32 * 1 + (y (0 : Fin 3)).val
    omega
  · refine Eq.trans ?_ (Pipeline.Window.rect_emb_val win0_10 t y (1 : Fin 3)).symm
    rw [(idx10 t).2.1]
    rfl
  · refine Eq.trans ?_ (Pipeline.Window.rect_emb_val win0_10 t y (2 : Fin 3)).symm
    rw [(idx10 t).2.2]
    show (y (2 : Fin 3)).val = 0 * 1024 + (y (2 : Fin 3)).val
    omega

/-- The projections over the launch contents. -/
def uK : Fin 2 → Fin 16384 → Fin 4096 → EReal := UW (xK m c) (fun i => A6 m c (ix1 i)) (fun b i => A7 m c (ix2 b i)) (fun b i => A8 m c (ix2 b i))
  (fun k e => A9 m c (ix2 k e))

theorem o11_val (t : Fin cfg0.N) (p : Fin 512) (e : Fin 4096) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 p e) = uK m c (bI t) (nI t p) e :=
  (out11_apply (iblk m c 0 t) (iblk m c 1 t) (iblk m c 2 t) (iblk m c 3 t) (iblk m c 4 t) (iblk m c 5 t) (iblk m c 6 t) (iblk m c 7 t) (iblk m c 8 t) (iblk m c 9 t) p e).trans (wrow_congr (fun i => hrow_congr (fun i => orw_val m c t p i) (fun i => rd6 m c t i) (fun i => rd7 m c t i)
    (fun i => rd8 m c t i) i) (fun k e => rd9 m c t k e) e)

theorem arr_u : (dats m 0 c).arrAt 11 cfg0.N = fun y : S2x16384x4096.Idx => uK m c (y 0) (y 1) (y 2) := by
  refine (dats m 0 c).arrAt_eq_of_covers 11 _ (by decide +kernel) fun t hf y => ?_
  rw [after0_11]
  have ho := o11_val m c t
  generalize out0_11 (F := Ideal) (iblk m c 0 t) (iblk m c 1 t) (iblk m c 2 t) (iblk m c 3 t) (iblk m c 4 t) (iblk m c 5 t) (iblk m c 6 t) (iblk m c 7 t) (iblk m c 8 t) (iblk m c 9 t) = o at ho ⊢
  refine (congrArg o (ix3_w y)).trans ((ho _ _).trans (at_three ?_ ?_ ?_))
  · refine Eq.trans ?_ (Pipeline.Window.rect_emb_val win0_11 t y (0 : Fin 3)).symm
    rw [(idx11 t).1]
    have h : (y (0 : Fin 3)).val < 1 := (y (0 : Fin 3)).isLt
    show t.val / 32 = t.val / 32 * 1 + (y (0 : Fin 3)).val
    omega
  · refine Eq.trans ?_ (Pipeline.Window.rect_emb_val win0_11 t y (1 : Fin 3)).symm
    rw [(idx11 t).2.1]
    rfl
  · refine Eq.trans ?_ (Pipeline.Window.rect_emb_val win0_11 t y (2 : Fin 3)).symm
    rw [(idx11 t).2.2]
    show (y (2 : Fin 3)).val = 0 * 4096 + (y (2 : Fin 3)).val
    omega

end Cert.Kernel3Ideal.Pj

end
-- ==== Proof.Pj.RefW.lean ====
/-
  The odd layers' references at an index: the gated output projection, the residual stream and the next layer's projections.
-/
module

public import proofs.«01_k».proof.Proof.Gen.Reference3Ideal.Read
public import proofs.«01_k».proof.Proof.Gen.Reference4Ideal.Read
public import proofs.«01_k».proof.Proof.Gen.Reference5Ideal.Read
public import proofs.«01_k».proof.Proof.Pj.Wide
public import proofs.«01_k».proof.Proof.Values

@[expose] public section

set_option maxRecDepth 16384

noncomputable section

namespace Cert.Wide

open Cert.Values
open Idealize.ShloMosaic

/-- The gate as the reference spells it out. -/
theorem silu_spelt (s : EReal) : s * Ideal.div (Ideal.ofBits .f32 0x3F800000#32) (Ideal.ofBits .f32 0x3F800000#32 + Ideal.exp (-s)) = silu s := by
  unfold silu
  rw [Ideal.logistic, word_1, EReal.coe_one]

end Cert.Wide

namespace Cert.Reference4Ideal.Pj

open Cert.Reference4Ideal Cert.Reference4Ideal.Gen Cert.Reference4Ideal.Read Cert.Pj Cert.Wide Cert.Values
open Idealize.ShloMosaic hiding ix0 ix1 ix2 ix3 ix4 ix5 ix6 eq_ix1 eq_ix2 eq_ix3 eq_ix4 eq_ix5 eq_ix6
open Idealize.ShloMosaic.ValueIdx

variable (x0 : FVec Ideal S2x16384x1024 .f32) (x1 : FVec Ideal S1024 .f32) (x2 x3 : FVec Ideal S2x1024 .f32) (x4 : FVec Ideal S1024x4096 .f32)
  (b : Fin 2) (n : Fin 16384)

theorem nrm_at (d : Fin 1024) : val_main_v8 (F := Ideal) x0 (ix3 b n d) = rms (fun i => x0 (ix3 b n i)) := by
  rw [val_main_v8_apply, val_main_v7_apply, val_main_v6_apply, val_main_v4_apply, val_main_v2_apply, val_main_v1_apply, val_main_v3_apply, val_main_v5_apply]
  refine congrArg (fun s : EReal => Ideal.rsqrt (Ideal.div s (Ideal.ofBits .f32 0x44800000#32) + Ideal.ofBits .f32 0x358637BD#32)) ?_
  rw [val_main_cst_apply]
  refine (congrArg (fun z : EReal => z + _) (word_0.trans EReal.coe_zero)).trans ((zero_add _).trans (Finset.sum_congr rfl fun k _ => ?_))
  exact congrArg (fun y : EReal => y * y) (congrArg (x0) (eq_ix3 _))

theorem row_at (d : Fin 1024) : val_main_v20 (F := Ideal) x0 x1 x2 x3 (ix3 b n d)
    = hrow (fun i => x0 (ix3 b n i)) (fun i => x1 (ix1 i)) (fun i => x2 (ix2 b i)) (fun i => x3 (ix2 b i)) d := by
  have hg : val_main_v11 (F := Ideal) x1 (ix3 b n d) = x1 (ix1 d) := by
    rw [val_main_v11_apply, val_main_v10_apply]
    exact congrArg x1 (eq_ix1 _)
  have hp : val_main_v19 (F := Ideal) x3 (ix3 b n d) = x3 (ix2 b d) := by
    rw [val_main_v19_apply, val_main_v18_apply]
    exact congrArg x3 (eq_ix2 _)
  have hs : val_main_v16 (F := Ideal) x2 (ix3 b n d) = (fun y : EReal => Ideal.ofBits .f32 0x3F800000#32 + y) (x2 (ix2 b d)) := by
    rw [val_main_v16_apply, val_main_v15_apply, val_main_v14_apply, val_main_v13_apply]
    exact congrArg (fun y : EReal => Ideal.ofBits .f32 0x3F800000#32 + y) (congrArg x2 (eq_ix2 _))
  have hr := nrm_at x0 b n d
  rw [val_main_v20_apply, val_main_v17_apply, val_main_v12_apply, val_main_v9_apply, hg, hp, hr, hs]
  rfl

theorem dot_at (e : Fin 4096) : val_main_v22 (F := Ideal) x0 x1 x2 x3 x4 (ix3 b n e)
    = UW (fun b n i => x0 (ix3 b n i)) (fun i => x1 (ix1 i)) (fun b i => x2 (ix2 b i)) (fun b i => x3 (ix2 b i)) (fun k e => x4 (ix2 k e)) b n e := by
  refine (val_main_v21_apply x0 x1 x2 x3 x4 _).trans ?_
  unfold UW wrow
  refine Finset.sum_congr rfl fun k _ => ?_
  exact congrArg₂ (fun x y : EReal => x * y) ((congrArg (val_main_v20 (F := Ideal) x0 x1 x2 x3) (eq_ix3 _)).trans (row_at x0 x1 x2 x3 b n k))
    (congrArg x4 (eq_ix2 _))

theorem v22_fun : val_main_v22 (F := Ideal) x0 x1 x2 x3 x4 = fun y : S2x16384x4096.Idx =>
    UW (fun b n i => x0 (ix3 b n i)) (fun i => x1 (ix1 i)) (fun b i => x2 (ix2 b i)) (fun b i => x3 (ix2 b i)) (fun k e => x4 (ix2 k e)) (y 0) (y 1) (y 2) :=
  funext fun y => (congrArg (val_main_v22 (F := Ideal) x0 x1 x2 x3 x4) (eq_ix3 y)).trans (dot_at x0 x1 x2 x3 x4 (y 0) (y 1) (y 2))

end Cert.Reference4Ideal.Pj

namespace Cert.Reference5Ideal.Pj

open Cert.Reference5Ideal Cert.Reference5Ideal.Gen Cert.Reference5Ideal.Read Cert.Pj Cert.Wide Cert.Values
open Idealize.ShloMosaic hiding ix0 ix1 ix2 ix3 ix4 ix5 ix6 eq_ix1 eq_ix2 eq_ix3 eq_ix4 eq_ix5 eq_ix6
open Idealize.ShloMosaic.ValueIdx

variable (x0 : FVec Ideal S2x16384x2048 .bf16) (x1 : FVec Ideal S2x16384x6144 .bf16) (x2 : FVec Ideal S2x16384x1024 .f32) (x3 : FVec Ideal S2048x1024 .f32)
  (x4 : FVec Ideal S1024 .f32) (x5 : FVec Ideal S2x1024 .f32) (b : Fin 2) (n : Fin 16384)

theorem gate_at (k : Fin 2048) : val_main_v3 (F := Ideal) x1 (ix3 b n k) = silu (x1 (ix3 b n ⟨4096 + k.val, by omega⟩)) := by
  have h : val_main_v1 (F := Ideal) x1 (ix3 b n k) = x1 (ix3 b n ⟨4096 + k.val, by omega⟩) := by
    rw [val_main_v1_apply, val_main_v0_apply]
    exact congrArg x1 (eq_ix3 _)
  rw [val_main_v3_apply, val_main_call0_v5_apply, val_main_call0_v4_apply, val_main_call0_v3_apply, val_main_call0_v2_apply, val_main_call0_v1_apply,
    val_main_call0_v0_apply, h]
  exact silu_spelt _

theorem v5_at (d : Fin 1024) : val_main_v5 (F := Ideal) x0 x1 x3 (ix3 b n d)
    = orow (fun k => x0 (ix3 b n k)) (fun k => x1 (ix3 b n ⟨4096 + k.val, by omega⟩)) (fun k i => x3 (ix2 k i)) d := by
  refine (val_main_v5_apply x0 x1 x3 _).trans ?_
  unfold orow
  refine Finset.sum_congr rfl fun k _ => congrArg₂ (fun x y : EReal => x * y) ?_ (congrArg x3 (eq_ix2 _))
  refine (congrArg (val_main_v4 (F := Ideal) x0 x1) (eq_ix3 _)).trans ?_
  exact congrArg (fun y : EReal => x0 (ix3 b n k) * y) (gate_at x1 b n k)

theorem v15_at (d : Fin 1024) : val_main_v15 (F := Ideal) x0 x1 x3 (ix3 b n d) = rms (fun i => val_main_v5 (F := Ideal) x0 x1 x3 (ix3 b n i)) := by
  rw [val_main_v15_apply, val_main_v14_apply, val_main_v13_apply, val_main_v11_apply, val_main_v9_apply, val_main_v8_apply, val_main_v10_apply, val_main_v12_apply]
  refine congrArg (fun s : EReal => Ideal.rsqrt (Ideal.div s (Ideal.ofBits .f32 0x44800000#32) + Ideal.ofBits .f32 0x358637BD#32)) ?_
  rw [val_main_cst_apply]
  refine (congrArg (fun z : EReal => z + _) (word_0.trans EReal.coe_zero)).trans ((zero_add _).trans (Finset.sum_congr rfl fun k _ => ?_))
  exact congrArg (fun y : EReal => y * y) (congrArg (val_main_v5 (F := Ideal) x0 x1 x3) (eq_ix3 _))

/-- The residual stream the reference leaves. -/
def xV : Fin 2 → Fin 16384 → Fin 1024 → EReal :=
  XO (fun b n i => x0 (ix3 b n i)) (fun b n i => x1 (ix3 b n ⟨4096 + i.val, by omega⟩)) (fun b n i => x2 (ix3 b n i)) (fun k i => x3 (ix2 k i))
    (fun i => x4 (ix1 i)) (fun b i => x5 (ix2 b i))

theorem v22_at (d : Fin 1024) : val_main_v22 (F := Ideal) x0 x1 x2 x3 x4 x5 (ix3 b n d) = xV x0 x1 x2 x3 x4 x5 b n d := by
  have h3 := fun i => v5_at x0 x1 x3 b n i
  have hg : val_main_v20 (F := Ideal) x5 (ix3 b n d) = x5 (ix2 b d) := by
    rw [val_main_v20_apply, val_main_v6_apply]
    exact congrArg x5 (eq_ix2 _)
  have hp : val_main_v18 (F := Ideal) x4 (ix3 b n d) = x4 (ix1 d) := by
    rw [val_main_v18_apply, val_main_v17_apply]
    exact congrArg x4 (eq_ix1 _)
  have hr := (v15_at x0 x1 x3 b n d).trans (congrArg rms (funext h3))
  rw [val_main_v22_apply, val_main_v21_apply, val_main_v19_apply, val_main_v16_apply, hg, hp, hr, h3]
  rfl

theorem v22_fun : val_main_v22 (F := Ideal) x0 x1 x2 x3 x4 x5 = fun y : S2x16384x1024.Idx => xV x0 x1 x2 x3 x4 x5 (y 0) (y 1) (y 2) :=
  funext fun y => (congrArg (val_main_v22 (F := Ideal) x0 x1 x2 x3 x4 x5) (eq_ix3 y)).trans (v22_at x0 x1 x2 x3 x4 x5 (y 0) (y 1) (y 2))

end Cert.Reference5Ideal.Pj

namespace Cert.Reference3Ideal.Pj

open Cert.Reference3Ideal Cert.Reference3Ideal.Gen Cert.Reference3Ideal.Read Cert.Pj Cert.Wide Cert.Values
open Idealize.ShloMosaic hiding ix0 ix1 ix2 ix3 ix4 ix5 ix6 eq_ix1 eq_ix2 eq_ix3 eq_ix4 eq_ix5 eq_ix6
open Idealize.ShloMosaic.ValueIdx

variable (x0 : FVec Ideal S2x16384x2048 .bf16) (x1 : FVec Ideal S2x16384x6144 .bf16) (x2 : FVec Ideal S2x16384x1024 .f32) (x3 : FVec Ideal S2048x1024 .f32)
  (x4 : FVec Ideal S1024 .f32) (x5 : FVec Ideal S2x1024 .f32) (x6 : FVec Ideal S1024 .f32) (x7 x8 : FVec Ideal S2x1024 .f32)
  (x9 : FVec Ideal S1024x4096 .f32) (b : Fin 2) (n : Fin 16384)

theorem gate_at (k : Fin 2048) : val_main_v3 (F := Ideal) x1 (ix3 b n k) = silu (x1 (ix3 b n ⟨4096 + k.val, by omega⟩)) := by
  have h : val_main_v1 (F := Ideal) x1 (ix3 b n k) = x1 (ix3 b n ⟨4096 + k.val, by omega⟩) := by
    rw [val_main_v1_apply, val_main_v0_apply]
    exact congrArg x1 (eq_ix3 _)
  rw [val_main_v3_apply, val_main_call0_v5_apply, val_main_call0_v4_apply, val_main_call0_v3_apply, val_main_call0_v2_apply, val_main_call0_v1_apply,
    val_main_call0_v0_apply, h]
  exact silu_spelt _

theorem v5_at (d : Fin 1024) : val_main_v5 (F := Ideal) x0 x1 x3 (ix3 b n d)
    = orow (fun k => x0 (ix3 b n k)) (fun k => x1 (ix3 b n ⟨4096 + k.val, by omega⟩)) (fun k i => x3 (ix2 k i)) d := by
  refine (val_main_v5_apply x0 x1 x3 _).trans ?_
  unfold orow
  refine Finset.sum_congr rfl fun k _ => congrArg₂ (fun x y : EReal => x * y) ?_ (congrArg x3 (eq_ix2 _))
  refine (congrArg (val_main_v4 (F := Ideal) x0 x1) (eq_ix3 _)).trans ?_
  exact congrArg (fun y : EReal => x0 (ix3 b n k) * y) (gate_at x1 b n k)

theorem v15_at (d : Fin 1024) : val_main_v15 (F := Ideal) x0 x1 x3 (ix3 b n d) = rms (fun i => val_main_v5 (F := Ideal) x0 x1 x3 (ix3 b n i)) := by
  rw [val_main_v15_apply, val_main_v14_apply, val_main_v13_apply, val_main_v11_apply, val_main_v9_apply, val_main_v8_apply, val_main_v10_apply, val_main_v12_apply]
  refine congrArg (fun s : EReal => Ideal.rsqrt (Ideal.div s (Ideal.ofBits .f32 0x44800000#32) + Ideal.ofBits .f32 0x358637BD#32)) ?_
  rw [val_main_cst_apply]
  refine (congrArg (fun z : EReal => z + _) (word_0.trans EReal.coe_zero)).trans ((zero_add _).trans (Finset.sum_congr rfl fun k _ => ?_))
  exact congrArg (fun y : EReal => y * y) (congrArg (val_main_v5 (F := Ideal) x0 x1 x3) (eq_ix3 _))

/-- The residual stream the reference leaves. -/
def xV : Fin 2 → Fin 16384 → Fin 1024 → EReal :=
  XO (fun b n i => x0 (ix3 b n i)) (fun b n i => x1 (ix3 b n ⟨4096 + i.val, by omega⟩)) (fun b n i => x2 (ix3 b n i)) (fun k i => x3 (ix2 k i))
    (fun i => x4 (ix1 i)) (fun b i => x5 (ix2 b i))

theorem v22_at (d : Fin 1024) : val_main_v22 (F := Ideal) x0 x1 x2 x3 x4 x5 (ix3 b n d) = xV x0 x1 x2 x3 x4 x5 b n d := by
  have h3 := fun i => v5_at x0 x1 x3 b n i
  have hg : val_main_v20 (F := Ideal) x5 (ix3 b n d) = x5 (ix2 b d) := by
    rw [val_main_v20_apply, val_main_v6_apply]
    exact congrArg x5 (eq_ix2 _)
  have hp : val_main_v18 (F := Ideal) x4 (ix3 b n d) = x4 (ix1 d) := by
    rw [val_main_v18_apply, val_main_v17_apply]
    exact congrArg x4 (eq_ix1 _)
  have hr := (v15_at x0 x1 x3 b n d).trans (congrArg rms (funext h3))
  rw [val_main_v22_apply, val_main_v21_apply, val_main_v19_apply, val_main_v16_apply, hg, hp, hr, h3]
  rfl

theorem v22_fun : val_main_v22 (F := Ideal) x0 x1 x2 x3 x4 x5 = fun y : S2x16384x1024.Idx => xV x0 x1 x2 x3 x4 x5 (y 0) (y 1) (y 2) :=
  funext fun y => (congrArg (val_main_v22 (F := Ideal) x0 x1 x2 x3 x4 x5) (eq_ix3 y)).trans (v22_at x0 x1 x2 x3 x4 x5 (y 0) (y 1) (y 2))

theorem nrm_at (d : Fin 1024) : val_main_v31 (F := Ideal) x0 x1 x2 x3 x4 x5 (ix3 b n d) = rms (fun i => val_main_v22 (F := Ideal) x0 x1 x2 x3 x4 x5 (ix3 b n i)) := by
  rw [val_main_v31_apply, val_main_v30_apply, val_main_v29_apply, val_main_v27_apply, val_main_v25_apply, val_main_v24_apply, val_main_v26_apply, val_main_v28_apply]
  refine congrArg (fun s : EReal => Ideal.rsqrt (Ideal.div s (Ideal.ofBits .f32 0x44800000#32) + Ideal.ofBits .f32 0x358637BD#32)) ?_
  rw [val_main_cst_2_apply]
  refine (congrArg (fun z : EReal => z + _) (word_0.trans EReal.coe_zero)).trans ((zero_add _).trans (Finset.sum_congr rfl fun k _ => ?_))
  exact congrArg (fun y : EReal => y * y) (congrArg (val_main_v22 (F := Ideal) x0 x1 x2 x3 x4 x5) (eq_ix3 _))

theorem row_at (d : Fin 1024) : val_main_v43 (F := Ideal) x0 x1 x2 x3 x4 x5 x6 x7 x8 (ix3 b n d)
    = hrow (fun i => val_main_v22 (F := Ideal) x0 x1 x2 x3 x4 x5 (ix3 b n i)) (fun i => x6 (ix1 i)) (fun i => x7 (ix2 b i)) (fun i => x8 (ix2 b i)) d := by
  have hg : val_main_v34 (F := Ideal) x6 (ix3 b n d) = x6 (ix1 d) := by
    rw [val_main_v34_apply, val_main_v33_apply]
    exact congrArg x6 (eq_ix1 _)
  have hp : val_main_v42 (F := Ideal) x8 (ix3 b n d) = x8 (ix2 b d) := by
    rw [val_main_v42_apply, val_main_v41_apply]
    exact congrArg x8 (eq_ix2 _)
  have hs : val_main_v39 (F := Ideal) x7 (ix3 b n d) = (fun y : EReal => Ideal.ofBits .f32 0x3F800000#32 + y) (x7 (ix2 b d)) := by
    rw [val_main_v39_apply, val_main_v38_apply, val_main_v37_apply, val_main_v36_apply]
    exact congrArg (fun y : EReal => Ideal.ofBits .f32 0x3F800000#32 + y) (congrArg x7 (eq_ix2 _))
  have hr := nrm_at x0 x1 x2 x3 x4 x5 b n d
  rw [val_main_v43_apply, val_main_v40_apply, val_main_v35_apply, val_main_v32_apply, hg, hp, hr, hs]
  rfl

theorem dot_at (e : Fin 4096) : val_main_v45 (F := Ideal) x0 x1 x2 x3 x4 x5 x6 x7 x8 x9 (ix3 b n e)
    = UW (fun b n i => val_main_v22 (F := Ideal) x0 x1 x2 x3 x4 x5 (ix3 b n i)) (fun i => x6 (ix1 i)) (fun b i => x7 (ix2 b i)) (fun b i => x8 (ix2 b i)) (fun k e => x9 (ix2 k e)) b n e := by
  refine (val_main_v44_apply x0 x1 x2 x3 x4 x5 x6 x7 x8 x9 _).trans ?_
  unfold UW wrow
  refine Finset.sum_congr rfl fun k _ => ?_
  exact congrArg₂ (fun x y : EReal => x * y) ((congrArg (val_main_v43 (F := Ideal) x0 x1 x2 x3 x4 x5 x6 x7 x8) (eq_ix3 _)).trans (row_at x0 x1 x2 x3 x4 x5 x6 x7 x8 b n k))
    (congrArg x9 (eq_ix2 _))

theorem v45_fun : val_main_v45 (F := Ideal) x0 x1 x2 x3 x4 x5 x6 x7 x8 x9 = fun y : S2x16384x4096.Idx =>
    UW (xV x0 x1 x2 x3 x4 x5) (fun i => x6 (ix1 i)) (fun b i => x7 (ix2 b i)) (fun b i => x8 (ix2 b i)) (fun k e => x9 (ix2 k e)) (y 0) (y 1) (y 2) := by
  funext y
  refine (congrArg (val_main_v45 (F := Ideal) x0 x1 x2 x3 x4 x5 x6 x7 x8 x9) (eq_ix3 y)).trans ((dot_at x0 x1 x2 x3 x4 x5 x6 x7 x8 x9 (y 0) (y 1) (y 2)).trans ?_)
  exact congrArg (fun f => UW f (fun i => x6 (ix1 i)) (fun b i => x7 (ix2 b i)) (fun b i => x8 (ix2 b i)) (fun k e => x9 (ix2 k e)) (y 0) (y 1) (y 2))
    (funext fun b => funext fun n => funext fun d => v22_at x0 x1 x2 x3 x4 x5 b n d)

end Cert.Reference3Ideal.Pj

end
-- ==== Proof.Pj.Ends.lean ====
/-
  The odd layers' projections: their frames and their value claims.
-/
module

public import proofs.«01_k».proof.Defs
public import proofs.«01_k».proof.Proof.Pj.First
public import proofs.«01_k».proof.Proof.Pj.Last
public import proofs.«01_k».proof.Proof.Pj.Odd
public import proofs.«01_k».proof.Proof.Pj.RefW
public import proofs.«01_k».proof.Proof.Pj.Gens
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import Idealize.ShloMosaic.Lib.Quiescent

@[expose] public section

set_option maxRecDepth 16384

noncomputable section

namespace Cert.Proof

open Idealize.ShloMosaic hiding ix0 ix1 ix2 ix3 ix4 ix5 ix6 eq_ix1 eq_ix2 eq_ix3 eq_ix4 eq_ix5 eq_ix6
open Idealize.SL.Sem Idealize.ShloMosaic.ValueIdx

theorem frame_kernel3 : Cert.quiescent_Kernel3 (hKernel3 := Cert.Kernel3.Gen.facts) := fun m ρ _ => Cert.Kernel3.Gen.frame (F := Bits) m ρ

theorem frame_kernel3Ideal : Cert.quiescent_Kernel3Ideal (hKernel3Ideal := Cert.Kernel3Ideal.Gen.facts) := fun m ρ _ => Cert.Kernel3Ideal.Gen.frame (F := Ideal) m ρ

theorem frame_reference3Ideal : Cert.quiescent_Reference3Ideal (hReference3Ideal := Cert.Reference3Ideal.Gen.facts) := fun m ρ _ =>
  (θ_run Cert.Reference3Ideal.defs _ _).mono
    (fun r h => ⟨fun c => (h c).2.2, sem_eq_zero_of_no_sems (by decide) r.2⟩) (Cert.Reference3Ideal.Value.run (F := Ideal) m ρ)

theorem frame_kernel4 : Cert.quiescent_Kernel4 (hKernel4 := Cert.Kernel4.Gen.facts) := fun m ρ _ => Cert.Kernel4.Gen.frame (F := Bits) m ρ

theorem frame_kernel4Ideal : Cert.quiescent_Kernel4Ideal (hKernel4Ideal := Cert.Kernel4Ideal.Gen.facts) := fun m ρ _ => Cert.Kernel4Ideal.Gen.frame (F := Ideal) m ρ

theorem frame_reference4Ideal : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

theorem frame_kernel5 : Cert.quiescent_Kernel5 (hKernel5 := Cert.Kernel5.Gen.facts) := fun m ρ _ => Cert.Kernel5.Gen.frame (F := Bits) m ρ

theorem frame_kernel5Ideal : Cert.quiescent_Kernel5Ideal (hKernel5Ideal := Cert.Kernel5Ideal.Gen.facts) := fun m ρ _ => Cert.Kernel5Ideal.Gen.frame (F := Ideal) m ρ

theorem frame_reference5Ideal : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

/-- The value claim of the first layer's input projection. -/
theorem algebraic4 : Cert.algebraic_Kernel4Ideal_Reference4Ideal (hKernel4Ideal := Cert.Kernel4Ideal.Gen.facts)
    (hReference4Ideal := Cert.Reference4Ideal.Gen.facts) := by
  intro m g m' g' _ heq
  refine ⟨fun c => fun y : Cert.Kernel4Ideal.S2x16384x4096.Idx => Cert.Kernel4Ideal.Pj.uK m c (y 0) (y 1) (y 2), ?_, ?_⟩
  · refine (θ_run Cert.Kernel4Ideal.defs _ _).mono (fun r hr c => ?_) (Cert.Kernel4Ideal.Value.run_blocks (F := Ideal) m g)
    obtain ⟨h0, h1⟩ := hr c
    exact ⟨h0.trans (Cert.Kernel4Ideal.Pj.arr_u m c), h1⟩
  · refine (θ_run Cert.Reference4Ideal.defs _ _).mono (fun r hr c => ?_) (Cert.Reference4Ideal.Value.run (F := Ideal) m' g')
    obtain ⟨h0, h1⟩ := hr c
    obtain ⟨e0, e1, e2, e3, e4⟩ := heq c
    refine ⟨h0.trans ((Cert.Reference4Ideal.Read.val_main_v22_eq _ _ _ _ _).trans ((Cert.Reference4Ideal.Pj.v22_fun _ _ _ _ _).trans ?_)), h1⟩
    · rw [e0, e1, e2, e3, e4]
      rfl

/-- The value claim of the last odd layer's output projection. -/
theorem algebraic5 : Cert.algebraic_Kernel5Ideal_Reference5Ideal (hKernel5Ideal := Cert.Kernel5Ideal.Gen.facts)
    (hReference5Ideal := Cert.Reference5Ideal.Gen.facts) := by
  intro m g m' g' _ heq
  refine ⟨fun c => fun y : Cert.Kernel5Ideal.S2x16384x1024.Idx => Cert.Kernel5Ideal.Pj.xK m c (y 0) (y 1) (y 2), ?_, ?_⟩
  · refine (θ_run Cert.Kernel5Ideal.defs _ _).mono (fun r hr c => ?_) (Cert.Kernel5Ideal.Value.run_blocks (F := Ideal) m g)
    obtain ⟨h0, h1⟩ := hr c
    exact ⟨h0.trans (Cert.Kernel5Ideal.Pj.arr_x m c), h1⟩
  · refine (θ_run Cert.Reference5Ideal.defs _ _).mono (fun r hr c => ?_) (Cert.Reference5Ideal.Value.run (F := Ideal) m' g')
    obtain ⟨h0, h1⟩ := hr c
    obtain ⟨e0, e1, e2, e3, e4, e5⟩ := heq c
    refine ⟨h0.trans ((Cert.Reference5Ideal.Read.val_main_v22_eq _ _ _ _ _ _).trans ((Cert.Reference5Ideal.Pj.v22_fun _ _ _ _ _ _).trans ?_)), h1⟩
    · rw [e0, e1, e2, e3, e4, e5]
      rfl

/-- The value claim of the odd layer's projections. -/
theorem algebraic3 : Cert.algebraic_Kernel3Ideal_Reference3Ideal (hKernel3Ideal := Cert.Kernel3Ideal.Gen.facts)
    (hReference3Ideal := Cert.Reference3Ideal.Gen.facts) := by
  intro m g m' g' _ heq
  refine ⟨fun c => fun y : Cert.Kernel3Ideal.S2x16384x1024.Idx => Cert.Kernel3Ideal.Pj.xK m c (y 0) (y 1) (y 2),
    fun c => fun y : Cert.Kernel3Ideal.S2x16384x4096.Idx => Cert.Kernel3Ideal.Pj.uK m c (y 0) (y 1) (y 2), ?_, ?_⟩
  · refine (θ_run Cert.Kernel3Ideal.defs _ _).mono (fun r hr c => ?_) (Cert.Kernel3Ideal.Value.run_blocks (F := Ideal) m g)
    obtain ⟨h0, h1, h2⟩ := hr c
    exact ⟨h0.trans (Cert.Kernel3Ideal.Pj.arr_x m c), h1.trans (Cert.Kernel3Ideal.Pj.arr_u m c), h2⟩
  · refine (θ_run Cert.Reference3Ideal.defs _ _).mono (fun r hr c => ?_) (Cert.Reference3Ideal.Value.run (F := Ideal) m' g')
    obtain ⟨h0, h1, h2⟩ := hr c
    obtain ⟨e0, e1, e2, e3, e4, e5, e6, e7, e8, e9⟩ := heq c
    refine ⟨h0.trans ((Cert.Reference3Ideal.Read.val_main_v22_eq _ _ _ _ _ _).trans ((Cert.Reference3Ideal.Pj.v22_fun _ _ _ _ _ _).trans ?_)),
      h1.trans ((Cert.Reference3Ideal.Read.val_main_v45_eq m' c).trans ((Cert.Reference3Ideal.Pj.v45_fun _ _ _ _ _ _ _ _ _ _).trans ?_)), h2⟩
    · rw [e0, e1, e2, e3, e4, e5]
      rfl
    · rw [e0, e1, e2, e3, e4, e5, e6, e7, e8, e9]
      rfl

end Cert.Proof

end
-- ==== Proof.lean ====
/-
  The certificate: the frames and the value claim.
-/
module

public import proofs.«01_k».proof.Proof.RefVal
public import proofs.«01_k».proof.Defs
public import proofs.«01_k».proof.Proof.Frames
public import proofs.«01_k».proof.Proof.Final
public import proofs.«01_k».proof.Proof.Pj.Final
public import proofs.«01_k».proof.Proof.Pj.Gens
public import proofs.«01_k».proof.Proof.Pj.Ends

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_real_inputs.facts,
    frame_kernel, frame_kernelIdeal, fun m ρ _ => frame_kernelIdeal m ρ True.intro, frame_referenceIdeal,
    fun m ρ _ => frame_referenceIdeal m ρ True.intro,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    trivial, algebraic, trivial, algebraic2, trivial, algebraic3, trivial, algebraic4, trivial, algebraic5⟩

end Cert.Proof

end
